-- ==== Defs.lean ====
def Pre_FeedForward (m : (ℓ : Loc Cert.FeedForward.nD Cert.FeedForward.τ Cert.FeedForward.sig) → Buf (Elt Bits) ℓ) : Prop :=
  True

def Pre_FeedForwardIdeal (m : (ℓ : Loc Cert.FeedForwardIdeal.nD Cert.FeedForwardIdeal.τ Cert.FeedForwardIdeal.sig) → Buf (Elt Ideal) ℓ) : Prop :=
  True

def Pre_FeedForwardIdeal_finite_arguments [hPre_finite_arguments : Cert.Pre_finite_arguments.Facts] (m : (ℓ : Loc Cert.FeedForwardIdeal.nD Cert.FeedForwardIdeal.τ Cert.FeedForwardIdeal.sig) → Buf (Elt Ideal) ℓ) : Prop :=
  ∀ c : Dev Cert.FeedForwardIdeal.nD,
    (Cert.Pre_finite_arguments.fn (F := Ideal) (m ((c.tc : Thread Cert.FeedForwardIdeal.nD Cert.FeedForwardIdeal.τ).loc Cert.FeedForwardIdeal.main_arg0)) (m ((c.tc : Thread Cert.FeedForwardIdeal.nD Cert.FeedForwardIdeal.τ).loc Cert.FeedForwardIdeal.main_arg1)) (m ((c.tc : Thread Cert.FeedForwardIdeal.nD Cert.FeedForwardIdeal.τ).loc Cert.FeedForwardIdeal.main_arg2)) (m ((c.tc : Thread Cert.FeedForwardIdeal.nD Cert.FeedForwardIdeal.τ).loc Cert.FeedForwardIdeal.main_arg3)) (m ((c.tc : Thread Cert.FeedForwardIdeal.nD Cert.FeedForwardIdeal.τ).loc Cert.FeedForwardIdeal.main_arg4)) (m ((c.tc : Thread Cert.FeedForwardIdeal.nD Cert.FeedForwardIdeal.τ).loc Cert.FeedForwardIdeal.main_arg5)) (m ((c.tc : Thread Cert.FeedForwardIdeal.nD Cert.FeedForwardIdeal.τ).loc Cert.FeedForwardIdeal.main_arg6)) (m ((c.tc : Thread Cert.FeedForwardIdeal.nD Cert.FeedForwardIdeal.τ).loc Cert.FeedForwardIdeal.main_arg7))) = (fun _ => 1#1)

def Pre_FeedForwardReferenceIdeal (m : (ℓ : Loc Cert.FeedForwardReferenceIdeal.nD Cert.FeedForwardReferenceIdeal.τ Cert.FeedForwardReferenceIdeal.sig) → Buf (Elt Ideal) ℓ) : Prop :=
  True

def Pre_FeedForwardReferenceIdeal_finite_arguments [hPre_finite_arguments : Cert.Pre_finite_arguments.Facts] (m : (ℓ : Loc Cert.FeedForwardReferenceIdeal.nD Cert.FeedForwardReferenceIdeal.τ Cert.FeedForwardReferenceIdeal.sig) → Buf (Elt Ideal) ℓ) : Prop :=
  ∀ c : Dev Cert.FeedForwardReferenceIdeal.nD,
    (Cert.Pre_finite_arguments.fn (F := Ideal) (m ((c.tc : Thread Cert.FeedForwardReferenceIdeal.nD Cert.FeedForwardReferenceIdeal.τ).loc Cert.FeedForwardReferenceIdeal.main_arg0)) (m ((c.tc : Thread Cert.FeedForwardReferenceIdeal.nD Cert.FeedForwardReferenceIdeal.τ).loc Cert.FeedForwardReferenceIdeal.main_arg1)) (m ((c.tc : Thread Cert.FeedForwardReferenceIdeal.nD Cert.FeedForwardReferenceIdeal.τ).loc Cert.FeedForwardReferenceIdeal.main_arg2)) (m ((c.tc : Thread Cert.FeedForwardReferenceIdeal.nD Cert.FeedForwardReferenceIdeal.τ).loc Cert.FeedForwardReferenceIdeal.main_arg3)) (m ((c.tc : Thread Cert.FeedForwardReferenceIdeal.nD Cert.FeedForwardReferenceIdeal.τ).loc Cert.FeedForwardReferenceIdeal.main_arg4)) (m ((c.tc : Thread Cert.FeedForwardReferenceIdeal.nD Cert.FeedForwardReferenceIdeal.τ).loc Cert.FeedForwardReferenceIdeal.main_arg5)) (m ((c.tc : Thread Cert.FeedForwardReferenceIdeal.nD Cert.FeedForwardReferenceIdeal.τ).loc Cert.FeedForwardReferenceIdeal.main_arg6)) (m ((c.tc : Thread Cert.FeedForwardReferenceIdeal.nD Cert.FeedForwardReferenceIdeal.τ).loc Cert.FeedForwardReferenceIdeal.main_arg7))) = (fun _ => 1#1)

def Pre_DownWeight (m : (ℓ : Loc Cert.DownWeight.nD Cert.DownWeight.τ Cert.DownWeight.sig) → Buf (Elt Bits) ℓ) : Prop :=
  True

def Pre_DownWeightIdeal (m : (ℓ : Loc Cert.DownWeightIdeal.nD Cert.DownWeightIdeal.τ Cert.DownWeightIdeal.sig) → Buf (Elt Ideal) ℓ) : Prop :=
  True

def Pre_DownWeightReferenceIdeal (m : (ℓ : Loc Cert.DownWeightReferenceIdeal.nD Cert.DownWeightReferenceIdeal.τ Cert.DownWeightReferenceIdeal.sig) → Buf (Elt Ideal) ℓ) : Prop :=
  True

def Pre_UpWeight (m : (ℓ : Loc Cert.UpWeight.nD Cert.UpWeight.τ Cert.UpWeight.sig) → Buf (Elt Bits) ℓ) : Prop :=
  True

def Pre_UpWeightIdeal (m : (ℓ : Loc Cert.UpWeightIdeal.nD Cert.UpWeightIdeal.τ Cert.UpWeightIdeal.sig) → Buf (Elt Ideal) ℓ) : Prop :=
  True

def Pre_UpWeightReferenceIdeal (m : (ℓ : Loc Cert.UpWeightReferenceIdeal.nD Cert.UpWeightReferenceIdeal.τ Cert.UpWeightReferenceIdeal.sig) → Buf (Elt Ideal) ℓ) : Prop :=
  True

def Pre_ForwardPass (m : (ℓ : Loc Cert.ForwardPass.nD Cert.ForwardPass.τ Cert.ForwardPass.sig) → Buf (Elt Bits) ℓ) : Prop :=
  True

def Pre_ForwardPassIdeal (m : (ℓ : Loc Cert.ForwardPassIdeal.nD Cert.ForwardPassIdeal.τ Cert.ForwardPassIdeal.sig) → Buf (Elt Ideal) ℓ) : Prop :=
  True

def Pre_ForwardPassReferenceIdeal (m : (ℓ : Loc Cert.ForwardPassReferenceIdeal.nD Cert.ForwardPassReferenceIdeal.τ Cert.ForwardPassReferenceIdeal.sig) → Buf (Elt Ideal) ℓ) : Prop :=
  True

def Pre_Mixer (m : (ℓ : Loc Cert.Mixer.nD Cert.Mixer.τ Cert.Mixer.sig) → Buf (Elt Bits) ℓ) : Prop :=
  True

def Pre_MixerIdeal (m : (ℓ : Loc Cert.MixerIdeal.nD Cert.MixerIdeal.τ Cert.MixerIdeal.sig) → Buf (Elt Ideal) ℓ) : Prop :=
  True

def Pre_MixerIdeal_finite_projection [hPre_finite_projection : Cert.Pre_finite_projection.Facts] (m : (ℓ : Loc Cert.MixerIdeal.nD Cert.MixerIdeal.τ Cert.MixerIdeal.sig) → Buf (Elt Ideal) ℓ) : Prop :=
  ∀ c : Dev Cert.MixerIdeal.nD,
    (Cert.Pre_finite_projection.fn (F := Ideal) (m ((c.tc : Thread Cert.MixerIdeal.nD Cert.MixerIdeal.τ).loc Cert.MixerIdeal.main_arg0)) (m ((c.tc : Thread Cert.MixerIdeal.nD Cert.MixerIdeal.τ).loc Cert.MixerIdeal.main_arg1)) (m ((c.tc : Thread Cert.MixerIdeal.nD Cert.MixerIdeal.τ).loc Cert.MixerIdeal.main_arg2)) (m ((c.tc : Thread Cert.MixerIdeal.nD Cert.MixerIdeal.τ).loc Cert.MixerIdeal.main_arg3)) (m ((c.tc : Thread Cert.MixerIdeal.nD Cert.MixerIdeal.τ).loc Cert.MixerIdeal.main_arg4)) (m ((c.tc : Thread Cert.MixerIdeal.nD Cert.MixerIdeal.τ).loc Cert.MixerIdeal.main_arg5)) (m ((c.tc : Thread Cert.MixerIdeal.nD Cert.MixerIdeal.τ).loc Cert.MixerIdeal.main_arg6)) (m ((c.tc : Thread Cert.MixerIdeal.nD Cert.MixerIdeal.τ).loc Cert.MixerIdeal.main_arg7)) (m ((c.tc : Thread Cert.MixerIdeal.nD Cert.MixerIdeal.τ).loc Cert.MixerIdeal.main_arg8)) (m ((c.tc : Thread Cert.MixerIdeal.nD Cert.MixerIdeal.τ).loc Cert.MixerIdeal.main_arg9)) (m ((c.tc : Thread Cert.MixerIdeal.nD Cert.MixerIdeal.τ).loc Cert.MixerIdeal.main_arg10)) (m ((c.tc : Thread Cert.MixerIdeal.nD Cert.MixerIdeal.τ).loc Cert.MixerIdeal.main_arg11)) (m ((c.tc : Thread Cert.MixerIdeal.nD Cert.MixerIdeal.τ).loc Cert.MixerIdeal.main_arg12))) = (fun _ => 1#1)

def Pre_MixerReferenceIdeal (m : (ℓ : Loc Cert.MixerReferenceIdeal.nD Cert.MixerReferenceIdeal.τ Cert.MixerReferenceIdeal.sig) → Buf (Elt Ideal) ℓ) : Prop :=
  True

def Pre_MixerReferenceIdeal_finite_projection [hPre_finite_projection : Cert.Pre_finite_projection.Facts] (m : (ℓ : Loc Cert.MixerReferenceIdeal.nD Cert.MixerReferenceIdeal.τ Cert.MixerReferenceIdeal.sig) → Buf (Elt Ideal) ℓ) : Prop :=
  ∀ c : Dev Cert.MixerReferenceIdeal.nD,
    (Cert.Pre_finite_projection.fn (F := Ideal) (m ((c.tc : Thread Cert.MixerReferenceIdeal.nD Cert.MixerReferenceIdeal.τ).loc Cert.MixerReferenceIdeal.main_arg0)) (m ((c.tc : Thread Cert.MixerReferenceIdeal.nD Cert.MixerReferenceIdeal.τ).loc Cert.MixerReferenceIdeal.main_arg1)) (m ((c.tc : Thread Cert.MixerReferenceIdeal.nD Cert.MixerReferenceIdeal.τ).loc Cert.MixerReferenceIdeal.main_arg2)) (m ((c.tc : Thread Cert.MixerReferenceIdeal.nD Cert.MixerReferenceIdeal.τ).loc Cert.MixerReferenceIdeal.main_arg3)) (m ((c.tc : Thread Cert.MixerReferenceIdeal.nD Cert.MixerReferenceIdeal.τ).loc Cert.MixerReferenceIdeal.main_arg4)) (m ((c.tc : Thread Cert.MixerReferenceIdeal.nD Cert.MixerReferenceIdeal.τ).loc Cert.MixerReferenceIdeal.main_arg5)) (m ((c.tc : Thread Cert.MixerReferenceIdeal.nD Cert.MixerReferenceIdeal.τ).loc Cert.MixerReferenceIdeal.main_arg6)) (m ((c.tc : Thread Cert.MixerReferenceIdeal.nD Cert.MixerReferenceIdeal.τ).loc Cert.MixerReferenceIdeal.main_arg7)) (m ((c.tc : Thread Cert.MixerReferenceIdeal.nD Cert.MixerReferenceIdeal.τ).loc Cert.MixerReferenceIdeal.main_arg8)) (m ((c.tc : Thread Cert.MixerReferenceIdeal.nD Cert.MixerReferenceIdeal.τ).loc Cert.MixerReferenceIdeal.main_arg9)) (m ((c.tc : Thread Cert.MixerReferenceIdeal.nD Cert.MixerReferenceIdeal.τ).loc Cert.MixerReferenceIdeal.main_arg10)) (m ((c.tc : Thread Cert.MixerReferenceIdeal.nD Cert.MixerReferenceIdeal.τ).loc Cert.MixerReferenceIdeal.main_arg11)) (m ((c.tc : Thread Cert.MixerReferenceIdeal.nD Cert.MixerReferenceIdeal.τ).loc Cert.MixerReferenceIdeal.main_arg12))) = (fun _ => 1#1)

def Pre_InWeight (m : (ℓ : Loc Cert.InWeight.nD Cert.InWeight.τ Cert.InWeight.sig) → Buf (Elt Bits) ℓ) : Prop :=
  True

def Pre_InWeightIdeal (m : (ℓ : Loc Cert.InWeightIdeal.nD Cert.InWeightIdeal.τ Cert.InWeightIdeal.sig) → Buf (Elt Ideal) ℓ) : Prop :=
  True

def Pre_InWeightReferenceIdeal (m : (ℓ : Loc Cert.InWeightReferenceIdeal.nD Cert.InWeightReferenceIdeal.τ Cert.InWeightReferenceIdeal.sig) → Buf (Elt Ideal) ℓ) : Prop :=
  True

def Pre_OutWeight (m : (ℓ : Loc Cert.OutWeight.nD Cert.OutWeight.τ Cert.OutWeight.sig) → Buf (Elt Bits) ℓ) : Prop :=
  True

def Pre_OutWeightIdeal (m : (ℓ : Loc Cert.OutWeightIdeal.nD Cert.OutWeightIdeal.τ Cert.OutWeightIdeal.sig) → Buf (Elt Ideal) ℓ) : Prop :=
  True

def Pre_OutWeightReferenceIdeal (m : (ℓ : Loc Cert.OutWeightReferenceIdeal.nD Cert.OutWeightReferenceIdeal.τ Cert.OutWeightReferenceIdeal.sig) → Buf (Elt Ideal) ℓ) : Prop :=
  True

def quiescent_FeedForward [hFeedForward : Cert.FeedForward.Facts] : Prop :=
  ∀ (m : (ℓ : Loc Cert.FeedForward.nD Cert.FeedForward.τ Cert.FeedForward.sig) → Buf (Elt Bits) ℓ) (g : Dev Cert.FeedForward.nD → PrngReg), Pre_FeedForward m →
    θ_run (Cert.FeedForward.defs (F := Bits)) (onTc (τ := Cert.FeedForward.τ) (Cert.FeedForward.main (F := Bits))) ⟨m, fun _ => 0, g⟩ (fun r => (∀ c : Dev Cert.FeedForward.nD,
      r.2.mem ((c.tc : Thread Cert.FeedForward.nD Cert.FeedForward.τ).loc Cert.FeedForward.main_arg0) = m ((c.tc : Thread Cert.FeedForward.nD Cert.FeedForward.τ).loc Cert.FeedForward.main_arg0)
      ∧ r.2.mem ((c.tc : Thread Cert.FeedForward.nD Cert.FeedForward.τ).loc Cert.FeedForward.main_arg1) = m ((c.tc : Thread Cert.FeedForward.nD Cert.FeedForward.τ).loc Cert.FeedForward.main_arg1)
      ∧ r.2.mem ((c.tc : Thread Cert.FeedForward.nD Cert.FeedForward.τ).loc Cert.FeedForward.main_arg2) = m ((c.tc : Thread Cert.FeedForward.nD Cert.FeedForward.τ).loc Cert.FeedForward.main_arg2)
      ∧ r.2.mem ((c.tc : Thread Cert.FeedForward.nD Cert.FeedForward.τ).loc Cert.FeedForward.main_arg3) = m ((c.tc : Thread Cert.FeedForward.nD Cert.FeedForward.τ).loc Cert.FeedForward.main_arg3)
      ∧ r.2.mem ((c.tc : Thread Cert.FeedForward.nD Cert.FeedForward.τ).loc Cert.FeedForward.main_arg4) = m ((c.tc : Thread Cert.FeedForward.nD Cert.FeedForward.τ).loc Cert.FeedForward.main_arg4)
      ∧ r.2.mem ((c.tc : Thread Cert.FeedForward.nD Cert.FeedForward.τ).loc Cert.FeedForward.main_arg5) = m ((c.tc : Thread Cert.FeedForward.nD Cert.FeedForward.τ).loc Cert.FeedForward.main_arg5)
      ∧ r.2.mem ((c.tc : Thread Cert.FeedForward.nD Cert.FeedForward.τ).loc Cert.FeedForward.main_arg6) = m ((c.tc : Thread Cert.FeedForward.nD Cert.FeedForward.τ).loc Cert.FeedForward.main_arg6)
      ∧ r.2.mem ((c.tc : Thread Cert.FeedForward.nD Cert.FeedForward.τ).loc Cert.FeedForward.main_arg7) = m ((c.tc : Thread Cert.FeedForward.nD Cert.FeedForward.τ).loc Cert.FeedForward.main_arg7))
      ∧ r.2.sem = fun _ => 0)

def quiescent_FeedForwardIdeal [hFeedForwardIdeal : Cert.FeedForwardIdeal.Facts] : Prop :=
  ∀ (m : (ℓ : Loc Cert.FeedForwardIdeal.nD Cert.FeedForwardIdeal.τ Cert.FeedForwardIdeal.sig) → Buf (Elt Ideal) ℓ) (g : Dev Cert.FeedForwardIdeal.nD → PrngReg), Pre_FeedForwardIdeal m →
    θ_run (Cert.FeedForwardIdeal.defs (F := Ideal)) (onTc (τ := Cert.FeedForwardIdeal.τ) (Cert.FeedForwardIdeal.main (F := Ideal))) ⟨m, fun _ => 0, g⟩ (fun r => (∀ c : Dev Cert.FeedForwardIdeal.nD,
      r.2.mem ((c.tc : Thread Cert.FeedForwardIdeal.nD Cert.FeedForwardIdeal.τ).loc Cert.FeedForwardIdeal.main_arg0) = m ((c.tc : Thread Cert.FeedForwardIdeal.nD Cert.FeedForwardIdeal.τ).loc Cert.FeedForwardIdeal.main_arg0)
      ∧ r.2.mem ((c.tc : Thread Cert.FeedForwardIdeal.nD Cert.FeedForwardIdeal.τ).loc Cert.FeedForwardIdeal.main_arg1) = m ((c.tc : Thread Cert.FeedForwardIdeal.nD Cert.FeedForwardIdeal.τ).loc Cert.FeedForwardIdeal.main_arg1)
      ∧ r.2.mem ((c.tc : Thread Cert.FeedForwardIdeal.nD Cert.FeedForwardIdeal.τ).loc Cert.FeedForwardIdeal.main_arg2) = m ((c.tc : Thread Cert.FeedForwardIdeal.nD Cert.FeedForwardIdeal.τ).loc Cert.FeedForwardIdeal.main_arg2)
      ∧ r.2.mem ((c.tc : Thread Cert.FeedForwardIdeal.nD Cert.FeedForwardIdeal.τ).loc Cert.FeedForwardIdeal.main_arg3) = m ((c.tc : Thread Cert.FeedForwardIdeal.nD Cert.FeedForwardIdeal.τ).loc Cert.FeedForwardIdeal.main_arg3)
      ∧ r.2.mem ((c.tc : Thread Cert.FeedForwardIdeal.nD Cert.FeedForwardIdeal.τ).loc Cert.FeedForwardIdeal.main_arg4) = m ((c.tc : Thread Cert.FeedForwardIdeal.nD Cert.FeedForwardIdeal.τ).loc Cert.FeedForwardIdeal.main_arg4)
      ∧ r.2.mem ((c.tc : Thread Cert.FeedForwardIdeal.nD Cert.FeedForwardIdeal.τ).loc Cert.FeedForwardIdeal.main_arg5) = m ((c.tc : Thread Cert.FeedForwardIdeal.nD Cert.FeedForwardIdeal.τ).loc Cert.FeedForwardIdeal.main_arg5)
      ∧ r.2.mem ((c.tc : Thread Cert.FeedForwardIdeal.nD Cert.FeedForwardIdeal.τ).loc Cert.FeedForwardIdeal.main_arg6) = m ((c.tc : Thread Cert.FeedForwardIdeal.nD Cert.FeedForwardIdeal.τ).loc Cert.FeedForwardIdeal.main_arg6)
      ∧ r.2.mem ((c.tc : Thread Cert.FeedForwardIdeal.nD Cert.FeedForwardIdeal.τ).loc Cert.FeedForwardIdeal.main_arg7) = m ((c.tc : Thread Cert.FeedForwardIdeal.nD Cert.FeedForwardIdeal.τ).loc Cert.FeedForwardIdeal.main_arg7))
      ∧ r.2.sem = fun _ => 0)

def quiescent_FeedForwardIdeal_pre_finite_arguments [hFeedForwardIdeal : Cert.FeedForwardIdeal.Facts] [hPre_finite_arguments : Cert.Pre_finite_arguments.Facts] : Prop :=
  ∀ (m : (ℓ : Loc Cert.FeedForwardIdeal.nD Cert.FeedForwardIdeal.τ Cert.FeedForwardIdeal.sig) → Buf (Elt Ideal) ℓ) (g : Dev Cert.FeedForwardIdeal.nD → PrngReg), Pre_FeedForwardIdeal_finite_arguments m →
    θ_run (Cert.FeedForwardIdeal.defs (F := Ideal)) (onTc (τ := Cert.FeedForwardIdeal.τ) (Cert.FeedForwardIdeal.main (F := Ideal))) ⟨m, fun _ => 0, g⟩ (fun r => (∀ c : Dev Cert.FeedForwardIdeal.nD,
      r.2.mem ((c.tc : Thread Cert.FeedForwardIdeal.nD Cert.FeedForwardIdeal.τ).loc Cert.FeedForwardIdeal.main_arg0) = m ((c.tc : Thread Cert.FeedForwardIdeal.nD Cert.FeedForwardIdeal.τ).loc Cert.FeedForwardIdeal.main_arg0)
      ∧ r.2.mem ((c.tc : Thread Cert.FeedForwardIdeal.nD Cert.FeedForwardIdeal.τ).loc Cert.FeedForwardIdeal.main_arg1) = m ((c.tc : Thread Cert.FeedForwardIdeal.nD Cert.FeedForwardIdeal.τ).loc Cert.FeedForwardIdeal.main_arg1)
      ∧ r.2.mem ((c.tc : Thread Cert.FeedForwardIdeal.nD Cert.FeedForwardIdeal.τ).loc Cert.FeedForwardIdeal.main_arg2) = m ((c.tc : Thread Cert.FeedForwardIdeal.nD Cert.FeedForwardIdeal.τ).loc Cert.FeedForwardIdeal.main_arg2)
      ∧ r.2.mem ((c.tc : Thread Cert.FeedForwardIdeal.nD Cert.FeedForwardIdeal.τ).loc Cert.FeedForwardIdeal.main_arg3) = m ((c.tc : Thread Cert.FeedForwardIdeal.nD Cert.FeedForwardIdeal.τ).loc Cert.FeedForwardIdeal.main_arg3)
      ∧ r.2.mem ((c.tc : Thread Cert.FeedForwardIdeal.nD Cert.FeedForwardIdeal.τ).loc Cert.FeedForwardIdeal.main_arg4) = m ((c.tc : Thread Cert.FeedForwardIdeal.nD Cert.FeedForwardIdeal.τ).loc Cert.FeedForwardIdeal.main_arg4)
      ∧ r.2.mem ((c.tc : Thread Cert.FeedForwardIdeal.nD Cert.FeedForwardIdeal.τ).loc Cert.FeedForwardIdeal.main_arg5) = m ((c.tc : Thread Cert.FeedForwardIdeal.nD Cert.FeedForwardIdeal.τ).loc Cert.FeedForwardIdeal.main_arg5)
      ∧ r.2.mem ((c.tc : Thread Cert.FeedForwardIdeal.nD Cert.FeedForwardIdeal.τ).loc Cert.FeedForwardIdeal.main_arg6) = m ((c.tc : Thread Cert.FeedForwardIdeal.nD Cert.FeedForwardIdeal.τ).loc Cert.FeedForwardIdeal.main_arg6)
      ∧ r.2.mem ((c.tc : Thread Cert.FeedForwardIdeal.nD Cert.FeedForwardIdeal.τ).loc Cert.FeedForwardIdeal.main_arg7) = m ((c.tc : Thread Cert.FeedForwardIdeal.nD Cert.FeedForwardIdeal.τ).loc Cert.FeedForwardIdeal.main_arg7))
      ∧ r.2.sem = fun _ => 0)

def quiescent_FeedForwardReferenceIdeal [hFeedForwardReferenceIdeal : Cert.FeedForwardReferenceIdeal.Facts] : Prop :=
  ∀ (m : (ℓ : Loc Cert.FeedForwardReferenceIdeal.nD Cert.FeedForwardReferenceIdeal.τ Cert.FeedForwardReferenceIdeal.sig) → Buf (Elt Ideal) ℓ) (g : Dev Cert.FeedForwardReferenceIdeal.nD → PrngReg), Pre_FeedForwardReferenceIdeal m →
    θ_run (Cert.FeedForwardReferenceIdeal.defs (F := Ideal)) (onTc (τ := Cert.FeedForwardReferenceIdeal.τ) (Cert.FeedForwardReferenceIdeal.main (F := Ideal))) ⟨m, fun _ => 0, g⟩ (fun r => (∀ c : Dev Cert.FeedForwardReferenceIdeal.nD,
      r.2.mem ((c.tc : Thread Cert.FeedForwardReferenceIdeal.nD Cert.FeedForwardReferenceIdeal.τ).loc Cert.FeedForwardReferenceIdeal.main_arg0) = m ((c.tc : Thread Cert.FeedForwardReferenceIdeal.nD Cert.FeedForwardReferenceIdeal.τ).loc Cert.FeedForwardReferenceIdeal.main_arg0)
      ∧ r.2.mem ((c.tc : Thread Cert.FeedForwardReferenceIdeal.nD Cert.FeedForwardReferenceIdeal.τ).loc Cert.FeedForwardReferenceIdeal.main_arg1) = m ((c.tc : Thread Cert.FeedForwardReferenceIdeal.nD Cert.FeedForwardReferenceIdeal.τ).loc Cert.FeedForwardReferenceIdeal.main_arg1)
      ∧ r.2.mem ((c.tc : Thread Cert.FeedForwardReferenceIdeal.nD Cert.FeedForwardReferenceIdeal.τ).loc Cert.FeedForwardReferenceIdeal.main_arg2) = m ((c.tc : Thread Cert.FeedForwardReferenceIdeal.nD Cert.FeedForwardReferenceIdeal.τ).loc Cert.FeedForwardReferenceIdeal.main_arg2)
      ∧ r.2.mem ((c.tc : Thread Cert.FeedForwardReferenceIdeal.nD Cert.FeedForwardReferenceIdeal.τ).loc Cert.FeedForwardReferenceIdeal.main_arg3) = m ((c.tc : Thread Cert.FeedForwardReferenceIdeal.nD Cert.FeedForwardReferenceIdeal.τ).loc Cert.FeedForwardReferenceIdeal.main_arg3)
      ∧ r.2.mem ((c.tc : Thread Cert.FeedForwardReferenceIdeal.nD Cert.FeedForwardReferenceIdeal.τ).loc Cert.FeedForwardReferenceIdeal.main_arg4) = m ((c.tc : Thread Cert.FeedForwardReferenceIdeal.nD Cert.FeedForwardReferenceIdeal.τ).loc Cert.FeedForwardReferenceIdeal.main_arg4)
      ∧ r.2.mem ((c.tc : Thread Cert.FeedForwardReferenceIdeal.nD Cert.FeedForwardReferenceIdeal.τ).loc Cert.FeedForwardReferenceIdeal.main_arg5) = m ((c.tc : Thread Cert.FeedForwardReferenceIdeal.nD Cert.FeedForwardReferenceIdeal.τ).loc Cert.FeedForwardReferenceIdeal.main_arg5)
      ∧ r.2.mem ((c.tc : Thread Cert.FeedForwardReferenceIdeal.nD Cert.FeedForwardReferenceIdeal.τ).loc Cert.FeedForwardReferenceIdeal.main_arg6) = m ((c.tc : Thread Cert.FeedForwardReferenceIdeal.nD Cert.FeedForwardReferenceIdeal.τ).loc Cert.FeedForwardReferenceIdeal.main_arg6)
      ∧ r.2.mem ((c.tc : Thread Cert.FeedForwardReferenceIdeal.nD Cert.FeedForwardReferenceIdeal.τ).loc Cert.FeedForwardReferenceIdeal.main_arg7) = m ((c.tc : Thread Cert.FeedForwardReferenceIdeal.nD Cert.FeedForwardReferenceIdeal.τ).loc Cert.FeedForwardReferenceIdeal.main_arg7))
      ∧ r.2.sem = fun _ => 0)

def quiescent_FeedForwardReferenceIdeal_pre_finite_arguments [hFeedForwardReferenceIdeal : Cert.FeedForwardReferenceIdeal.Facts] [hPre_finite_arguments : Cert.Pre_finite_arguments.Facts] : Prop :=
  ∀ (m : (ℓ : Loc Cert.FeedForwardReferenceIdeal.nD Cert.FeedForwardReferenceIdeal.τ Cert.FeedForwardReferenceIdeal.sig) → Buf (Elt Ideal) ℓ) (g : Dev Cert.FeedForwardReferenceIdeal.nD → PrngReg), Pre_FeedForwardReferenceIdeal_finite_arguments m →
    θ_run (Cert.FeedForwardReferenceIdeal.defs (F := Ideal)) (onTc (τ := Cert.FeedForwardReferenceIdeal.τ) (Cert.FeedForwardReferenceIdeal.main (F := Ideal))) ⟨m, fun _ => 0, g⟩ (fun r => (∀ c : Dev Cert.FeedForwardReferenceIdeal.nD,
      r.2.mem ((c.tc : Thread Cert.FeedForwardReferenceIdeal.nD Cert.FeedForwardReferenceIdeal.τ).loc Cert.FeedForwardReferenceIdeal.main_arg0) = m ((c.tc : Thread Cert.FeedForwardReferenceIdeal.nD Cert.FeedForwardReferenceIdeal.τ).loc Cert.FeedForwardReferenceIdeal.main_arg0)
      ∧ r.2.mem ((c.tc : Thread Cert.FeedForwardReferenceIdeal.nD Cert.FeedForwardReferenceIdeal.τ).loc Cert.FeedForwardReferenceIdeal.main_arg1) = m ((c.tc : Thread Cert.FeedForwardReferenceIdeal.nD Cert.FeedForwardReferenceIdeal.τ).loc Cert.FeedForwardReferenceIdeal.main_arg1)
      ∧ r.2.mem ((c.tc : Thread Cert.FeedForwardReferenceIdeal.nD Cert.FeedForwardReferenceIdeal.τ).loc Cert.FeedForwardReferenceIdeal.main_arg2) = m ((c.tc : Thread Cert.FeedForwardReferenceIdeal.nD Cert.FeedForwardReferenceIdeal.τ).loc Cert.FeedForwardReferenceIdeal.main_arg2)
      ∧ r.2.mem ((c.tc : Thread Cert.FeedForwardReferenceIdeal.nD Cert.FeedForwardReferenceIdeal.τ).loc Cert.FeedForwardReferenceIdeal.main_arg3) = m ((c.tc : Thread Cert.FeedForwardReferenceIdeal.nD Cert.FeedForwardReferenceIdeal.τ).loc Cert.FeedForwardReferenceIdeal.main_arg3)
      ∧ r.2.mem ((c.tc : Thread Cert.FeedForwardReferenceIdeal.nD Cert.FeedForwardReferenceIdeal.τ).loc Cert.FeedForwardReferenceIdeal.main_arg4) = m ((c.tc : Thread Cert.FeedForwardReferenceIdeal.nD Cert.FeedForwardReferenceIdeal.τ).loc Cert.FeedForwardReferenceIdeal.main_arg4)
      ∧ r.2.mem ((c.tc : Thread Cert.FeedForwardReferenceIdeal.nD Cert.FeedForwardReferenceIdeal.τ).loc Cert.FeedForwardReferenceIdeal.main_arg5) = m ((c.tc : Thread Cert.FeedForwardReferenceIdeal.nD Cert.FeedForwardReferenceIdeal.τ).loc Cert.FeedForwardReferenceIdeal.main_arg5)
      ∧ r.2.mem ((c.tc : Thread Cert.FeedForwardReferenceIdeal.nD Cert.FeedForwardReferenceIdeal.τ).loc Cert.FeedForwardReferenceIdeal.main_arg6) = m ((c.tc : Thread Cert.FeedForwardReferenceIdeal.nD Cert.FeedForwardReferenceIdeal.τ).loc Cert.FeedForwardReferenceIdeal.main_arg6)
      ∧ r.2.mem ((c.tc : Thread Cert.FeedForwardReferenceIdeal.nD Cert.FeedForwardReferenceIdeal.τ).loc Cert.FeedForwardReferenceIdeal.main_arg7) = m ((c.tc : Thread Cert.FeedForwardReferenceIdeal.nD Cert.FeedForwardReferenceIdeal.τ).loc Cert.FeedForwardReferenceIdeal.main_arg7))
      ∧ r.2.sem = fun _ => 0)

def quiescent_DownWeight [hDownWeight : Cert.DownWeight.Facts] : Prop :=
  ∀ (m : (ℓ : Loc Cert.DownWeight.nD Cert.DownWeight.τ Cert.DownWeight.sig) → Buf (Elt Bits) ℓ) (g : Dev Cert.DownWeight.nD → PrngReg), Pre_DownWeight m →
    θ_run (Cert.DownWeight.defs (F := Bits)) (onTc (τ := Cert.DownWeight.τ) (Cert.DownWeight.main (F := Bits))) ⟨m, fun _ => 0, g⟩ (fun r => (∀ c : Dev Cert.DownWeight.nD,
      r.2.mem ((c.tc : Thread Cert.DownWeight.nD Cert.DownWeight.τ).loc Cert.DownWeight.main_arg0) = m ((c.tc : Thread Cert.DownWeight.nD Cert.DownWeight.τ).loc Cert.DownWeight.main_arg0)
      ∧ r.2.mem ((c.tc : Thread Cert.DownWeight.nD Cert.DownWeight.τ).loc Cert.DownWeight.main_arg1) = m ((c.tc : Thread Cert.DownWeight.nD Cert.DownWeight.τ).loc Cert.DownWeight.main_arg1)
      ∧ r.2.mem ((c.tc : Thread Cert.DownWeight.nD Cert.DownWeight.τ).loc Cert.DownWeight.main_arg2) = m ((c.tc : Thread Cert.DownWeight.nD Cert.DownWeight.τ).loc Cert.DownWeight.main_arg2))
      ∧ r.2.sem = fun _ => 0)

def quiescent_DownWeightIdeal [hDownWeightIdeal : Cert.DownWeightIdeal.Facts] : Prop :=
  ∀ (m : (ℓ : Loc Cert.DownWeightIdeal.nD Cert.DownWeightIdeal.τ Cert.DownWeightIdeal.sig) → Buf (Elt Ideal) ℓ) (g : Dev Cert.DownWeightIdeal.nD → PrngReg), Pre_DownWeightIdeal m →
    θ_run (Cert.DownWeightIdeal.defs (F := Ideal)) (onTc (τ := Cert.DownWeightIdeal.τ) (Cert.DownWeightIdeal.main (F := Ideal))) ⟨m, fun _ => 0, g⟩ (fun r => (∀ c : Dev Cert.DownWeightIdeal.nD,
      r.2.mem ((c.tc : Thread Cert.DownWeightIdeal.nD Cert.DownWeightIdeal.τ).loc Cert.DownWeightIdeal.main_arg0) = m ((c.tc : Thread Cert.DownWeightIdeal.nD Cert.DownWeightIdeal.τ).loc Cert.DownWeightIdeal.main_arg0)
      ∧ r.2.mem ((c.tc : Thread Cert.DownWeightIdeal.nD Cert.DownWeightIdeal.τ).loc Cert.DownWeightIdeal.main_arg1) = m ((c.tc : Thread Cert.DownWeightIdeal.nD Cert.DownWeightIdeal.τ).loc Cert.DownWeightIdeal.main_arg1)
      ∧ r.2.mem ((c.tc : Thread Cert.DownWeightIdeal.nD Cert.DownWeightIdeal.τ).loc Cert.DownWeightIdeal.main_arg2) = m ((c.tc : Thread Cert.DownWeightIdeal.nD Cert.DownWeightIdeal.τ).loc Cert.DownWeightIdeal.main_arg2))
      ∧ r.2.sem = fun _ => 0)

def quiescent_DownWeightReferenceIdeal [hDownWeightReferenceIdeal : Cert.DownWeightReferenceIdeal.Facts] : Prop :=
  ∀ (m : (ℓ : Loc Cert.DownWeightReferenceIdeal.nD Cert.DownWeightReferenceIdeal.τ Cert.DownWeightReferenceIdeal.sig) → Buf (Elt Ideal) ℓ) (g : Dev Cert.DownWeightReferenceIdeal.nD → PrngReg), Pre_DownWeightReferenceIdeal m →
    θ_run (Cert.DownWeightReferenceIdeal.defs (F := Ideal)) (onTc (τ := Cert.DownWeightReferenceIdeal.τ) (Cert.DownWeightReferenceIdeal.main (F := Ideal))) ⟨m, fun _ => 0, g⟩ (fun r => (∀ c : Dev Cert.DownWeightReferenceIdeal.nD,
      r.2.mem ((c.tc : Thread Cert.DownWeightReferenceIdeal.nD Cert.DownWeightReferenceIdeal.τ).loc Cert.DownWeightReferenceIdeal.main_arg0) = m ((c.tc : Thread Cert.DownWeightReferenceIdeal.nD Cert.DownWeightReferenceIdeal.τ).loc Cert.DownWeightReferenceIdeal.main_arg0)
      ∧ r.2.mem ((c.tc : Thread Cert.DownWeightReferenceIdeal.nD Cert.DownWeightReferenceIdeal.τ).loc Cert.DownWeightReferenceIdeal.main_arg1) = m ((c.tc : Thread Cert.DownWeightReferenceIdeal.nD Cert.DownWeightReferenceIdeal.τ).loc Cert.DownWeightReferenceIdeal.main_arg1)
      ∧ r.2.mem ((c.tc : Thread Cert.DownWeightReferenceIdeal.nD Cert.DownWeightReferenceIdeal.τ).loc Cert.DownWeightReferenceIdeal.main_arg2) = m ((c.tc : Thread Cert.DownWeightReferenceIdeal.nD Cert.DownWeightReferenceIdeal.τ).loc Cert.DownWeightReferenceIdeal.main_arg2))
      ∧ r.2.sem = fun _ => 0)

def quiescent_UpWeight [hUpWeight : Cert.UpWeight.Facts] : Prop :=
  ∀ (m : (ℓ : Loc Cert.UpWeight.nD Cert.UpWeight.τ Cert.UpWeight.sig) → Buf (Elt Bits) ℓ) (g : Dev Cert.UpWeight.nD → PrngReg), Pre_UpWeight m →
    θ_run (Cert.UpWeight.defs (F := Bits)) (onTc (τ := Cert.UpWeight.τ) (Cert.UpWeight.main (F := Bits))) ⟨m, fun _ => 0, g⟩ (fun r => (∀ c : Dev Cert.UpWeight.nD,
      r.2.mem ((c.tc : Thread Cert.UpWeight.nD Cert.UpWeight.τ).loc Cert.UpWeight.main_arg0) = m ((c.tc : Thread Cert.UpWeight.nD Cert.UpWeight.τ).loc Cert.UpWeight.main_arg0)
      ∧ r.2.mem ((c.tc : Thread Cert.UpWeight.nD Cert.UpWeight.τ).loc Cert.UpWeight.main_arg1) = m ((c.tc : Thread Cert.UpWeight.nD Cert.UpWeight.τ).loc Cert.UpWeight.main_arg1)
      ∧ r.2.mem ((c.tc : Thread Cert.UpWeight.nD Cert.UpWeight.τ).loc Cert.UpWeight.main_arg2) = m ((c.tc : Thread Cert.UpWeight.nD Cert.UpWeight.τ).loc Cert.UpWeight.main_arg2)
      ∧ r.2.mem ((c.tc : Thread Cert.UpWeight.nD Cert.UpWeight.τ).loc Cert.UpWeight.main_arg3) = m ((c.tc : Thread Cert.UpWeight.nD Cert.UpWeight.τ).loc Cert.UpWeight.main_arg3)
      ∧ r.2.mem ((c.tc : Thread Cert.UpWeight.nD Cert.UpWeight.τ).loc Cert.UpWeight.main_arg4) = m ((c.tc : Thread Cert.UpWeight.nD Cert.UpWeight.τ).loc Cert.UpWeight.main_arg4)
      ∧ r.2.mem ((c.tc : Thread Cert.UpWeight.nD Cert.UpWeight.τ).loc Cert.UpWeight.main_arg5) = m ((c.tc : Thread Cert.UpWeight.nD Cert.UpWeight.τ).loc Cert.UpWeight.main_arg5))
      ∧ r.2.sem = fun _ => 0)

def quiescent_UpWeightIdeal [hUpWeightIdeal : Cert.UpWeightIdeal.Facts] : Prop :=
  ∀ (m : (ℓ : Loc Cert.UpWeightIdeal.nD Cert.UpWeightIdeal.τ Cert.UpWeightIdeal.sig) → Buf (Elt Ideal) ℓ) (g : Dev Cert.UpWeightIdeal.nD → PrngReg), Pre_UpWeightIdeal m →
    θ_run (Cert.UpWeightIdeal.defs (F := Ideal)) (onTc (τ := Cert.UpWeightIdeal.τ) (Cert.UpWeightIdeal.main (F := Ideal))) ⟨m, fun _ => 0, g⟩ (fun r => (∀ c : Dev Cert.UpWeightIdeal.nD,
      r.2.mem ((c.tc : Thread Cert.UpWeightIdeal.nD Cert.UpWeightIdeal.τ).loc Cert.UpWeightIdeal.main_arg0) = m ((c.tc : Thread Cert.UpWeightIdeal.nD Cert.UpWeightIdeal.τ).loc Cert.UpWeightIdeal.main_arg0)
      ∧ r.2.mem ((c.tc : Thread Cert.UpWeightIdeal.nD Cert.UpWeightIdeal.τ).loc Cert.UpWeightIdeal.main_arg1) = m ((c.tc : Thread Cert.UpWeightIdeal.nD Cert.UpWeightIdeal.τ).loc Cert.UpWeightIdeal.main_arg1)
      ∧ r.2.mem ((c.tc : Thread Cert.UpWeightIdeal.nD Cert.UpWeightIdeal.τ).loc Cert.UpWeightIdeal.main_arg2) = m ((c.tc : Thread Cert.UpWeightIdeal.nD Cert.UpWeightIdeal.τ).loc Cert.UpWeightIdeal.main_arg2)
      ∧ r.2.mem ((c.tc : Thread Cert.UpWeightIdeal.nD Cert.UpWeightIdeal.τ).loc Cert.UpWeightIdeal.main_arg3) = m ((c.tc : Thread Cert.UpWeightIdeal.nD Cert.UpWeightIdeal.τ).loc Cert.UpWeightIdeal.main_arg3)
      ∧ r.2.mem ((c.tc : Thread Cert.UpWeightIdeal.nD Cert.UpWeightIdeal.τ).loc Cert.UpWeightIdeal.main_arg4) = m ((c.tc : Thread Cert.UpWeightIdeal.nD Cert.UpWeightIdeal.τ).loc Cert.UpWeightIdeal.main_arg4)
      ∧ r.2.mem ((c.tc : Thread Cert.UpWeightIdeal.nD Cert.UpWeightIdeal.τ).loc Cert.UpWeightIdeal.main_arg5) = m ((c.tc : Thread Cert.UpWeightIdeal.nD Cert.UpWeightIdeal.τ).loc Cert.UpWeightIdeal.main_arg5))
      ∧ r.2.sem = fun _ => 0)

def quiescent_UpWeightReferenceIdeal [hUpWeightReferenceIdeal : Cert.UpWeightReferenceIdeal.Facts] : Prop :=
  ∀ (m : (ℓ : Loc Cert.UpWeightReferenceIdeal.nD Cert.UpWeightReferenceIdeal.τ Cert.UpWeightReferenceIdeal.sig) → Buf (Elt Ideal) ℓ) (g : Dev Cert.UpWeightReferenceIdeal.nD → PrngReg), Pre_UpWeightReferenceIdeal m →
    θ_run (Cert.UpWeightReferenceIdeal.defs (F := Ideal)) (onTc (τ := Cert.UpWeightReferenceIdeal.τ) (Cert.UpWeightReferenceIdeal.main (F := Ideal))) ⟨m, fun _ => 0, g⟩ (fun r => (∀ c : Dev Cert.UpWeightReferenceIdeal.nD,
      r.2.mem ((c.tc : Thread Cert.UpWeightReferenceIdeal.nD Cert.UpWeightReferenceIdeal.τ).loc Cert.UpWeightReferenceIdeal.main_arg0) = m ((c.tc : Thread Cert.UpWeightReferenceIdeal.nD Cert.UpWeightReferenceIdeal.τ).loc Cert.UpWeightReferenceIdeal.main_arg0)
      ∧ r.2.mem ((c.tc : Thread Cert.UpWeightReferenceIdeal.nD Cert.UpWeightReferenceIdeal.τ).loc Cert.UpWeightReferenceIdeal.main_arg1) = m ((c.tc : Thread Cert.UpWeightReferenceIdeal.nD Cert.UpWeightReferenceIdeal.τ).loc Cert.UpWeightReferenceIdeal.main_arg1)
      ∧ r.2.mem ((c.tc : Thread Cert.UpWeightReferenceIdeal.nD Cert.UpWeightReferenceIdeal.τ).loc Cert.UpWeightReferenceIdeal.main_arg2) = m ((c.tc : Thread Cert.UpWeightReferenceIdeal.nD Cert.UpWeightReferenceIdeal.τ).loc Cert.UpWeightReferenceIdeal.main_arg2)
      ∧ r.2.mem ((c.tc : Thread Cert.UpWeightReferenceIdeal.nD Cert.UpWeightReferenceIdeal.τ).loc Cert.UpWeightReferenceIdeal.main_arg3) = m ((c.tc : Thread Cert.UpWeightReferenceIdeal.nD Cert.UpWeightReferenceIdeal.τ).loc Cert.UpWeightReferenceIdeal.main_arg3)
      ∧ r.2.mem ((c.tc : Thread Cert.UpWeightReferenceIdeal.nD Cert.UpWeightReferenceIdeal.τ).loc Cert.UpWeightReferenceIdeal.main_arg4) = m ((c.tc : Thread Cert.UpWeightReferenceIdeal.nD Cert.UpWeightReferenceIdeal.τ).loc Cert.UpWeightReferenceIdeal.main_arg4)
      ∧ r.2.mem ((c.tc : Thread Cert.UpWeightReferenceIdeal.nD Cert.UpWeightReferenceIdeal.τ).loc Cert.UpWeightReferenceIdeal.main_arg5) = m ((c.tc : Thread Cert.UpWeightReferenceIdeal.nD Cert.UpWeightReferenceIdeal.τ).loc Cert.UpWeightReferenceIdeal.main_arg5))
      ∧ r.2.sem = fun _ => 0)

def quiescent_ForwardPass [hForwardPass : Cert.ForwardPass.Facts] : Prop :=
  ∀ (m : (ℓ : Loc Cert.ForwardPass.nD Cert.ForwardPass.τ Cert.ForwardPass.sig) → Buf (Elt Bits) ℓ) (g : Dev Cert.ForwardPass.nD → PrngReg), Pre_ForwardPass m →
    θ_run (Cert.ForwardPass.defs (F := Bits)) (onTc (τ := Cert.ForwardPass.τ) (Cert.ForwardPass.main (F := Bits))) ⟨m, fun _ => 0, g⟩ (fun r => (∀ c : Dev Cert.ForwardPass.nD,
      r.2.mem ((c.tc : Thread Cert.ForwardPass.nD Cert.ForwardPass.τ).loc Cert.ForwardPass.main_arg0) = m ((c.tc : Thread Cert.ForwardPass.nD Cert.ForwardPass.τ).loc Cert.ForwardPass.main_arg0)
      ∧ r.2.mem ((c.tc : Thread Cert.ForwardPass.nD Cert.ForwardPass.τ).loc Cert.ForwardPass.main_arg1) = m ((c.tc : Thread Cert.ForwardPass.nD Cert.ForwardPass.τ).loc Cert.ForwardPass.main_arg1)
      ∧ r.2.mem ((c.tc : Thread Cert.ForwardPass.nD Cert.ForwardPass.τ).loc Cert.ForwardPass.main_arg2) = m ((c.tc : Thread Cert.ForwardPass.nD Cert.ForwardPass.τ).loc Cert.ForwardPass.main_arg2)
      ∧ r.2.mem ((c.tc : Thread Cert.ForwardPass.nD Cert.ForwardPass.τ).loc Cert.ForwardPass.main_arg3) = m ((c.tc : Thread Cert.ForwardPass.nD Cert.ForwardPass.τ).loc Cert.ForwardPass.main_arg3)
      ∧ r.2.mem ((c.tc : Thread Cert.ForwardPass.nD Cert.ForwardPass.τ).loc Cert.ForwardPass.main_arg4) = m ((c.tc : Thread Cert.ForwardPass.nD Cert.ForwardPass.τ).loc Cert.ForwardPass.main_arg4)
      ∧ r.2.mem ((c.tc : Thread Cert.ForwardPass.nD Cert.ForwardPass.τ).loc Cert.ForwardPass.main_arg5) = m ((c.tc : Thread Cert.ForwardPass.nD Cert.ForwardPass.τ).loc Cert.ForwardPass.main_arg5)
      ∧ r.2.mem ((c.tc : Thread Cert.ForwardPass.nD Cert.ForwardPass.τ).loc Cert.ForwardPass.main_arg6) = m ((c.tc : Thread Cert.ForwardPass.nD Cert.ForwardPass.τ).loc Cert.ForwardPass.main_arg6))
      ∧ r.2.sem = fun _ => 0)

def quiescent_ForwardPassIdeal [hForwardPassIdeal : Cert.ForwardPassIdeal.Facts] : Prop :=
  ∀ (m : (ℓ : Loc Cert.ForwardPassIdeal.nD Cert.ForwardPassIdeal.τ Cert.ForwardPassIdeal.sig) → Buf (Elt Ideal) ℓ) (g : Dev Cert.ForwardPassIdeal.nD → PrngReg), Pre_ForwardPassIdeal m →
    θ_run (Cert.ForwardPassIdeal.defs (F := Ideal)) (onTc (τ := Cert.ForwardPassIdeal.τ) (Cert.ForwardPassIdeal.main (F := Ideal))) ⟨m, fun _ => 0, g⟩ (fun r => (∀ c : Dev Cert.ForwardPassIdeal.nD,
      r.2.mem ((c.tc : Thread Cert.ForwardPassIdeal.nD Cert.ForwardPassIdeal.τ).loc Cert.ForwardPassIdeal.main_arg0) = m ((c.tc : Thread Cert.ForwardPassIdeal.nD Cert.ForwardPassIdeal.τ).loc Cert.ForwardPassIdeal.main_arg0)
      ∧ r.2.mem ((c.tc : Thread Cert.ForwardPassIdeal.nD Cert.ForwardPassIdeal.τ).loc Cert.ForwardPassIdeal.main_arg1) = m ((c.tc : Thread Cert.ForwardPassIdeal.nD Cert.ForwardPassIdeal.τ).loc Cert.ForwardPassIdeal.main_arg1)
      ∧ r.2.mem ((c.tc : Thread Cert.ForwardPassIdeal.nD Cert.ForwardPassIdeal.τ).loc Cert.ForwardPassIdeal.main_arg2) = m ((c.tc : Thread Cert.ForwardPassIdeal.nD Cert.ForwardPassIdeal.τ).loc Cert.ForwardPassIdeal.main_arg2)
      ∧ r.2.mem ((c.tc : Thread Cert.ForwardPassIdeal.nD Cert.ForwardPassIdeal.τ).loc Cert.ForwardPassIdeal.main_arg3) = m ((c.tc : Thread Cert.ForwardPassIdeal.nD Cert.ForwardPassIdeal.τ).loc Cert.ForwardPassIdeal.main_arg3)
      ∧ r.2.mem ((c.tc : Thread Cert.ForwardPassIdeal.nD Cert.ForwardPassIdeal.τ).loc Cert.ForwardPassIdeal.main_arg4) = m ((c.tc : Thread Cert.ForwardPassIdeal.nD Cert.ForwardPassIdeal.τ).loc Cert.ForwardPassIdeal.main_arg4)
      ∧ r.2.mem ((c.tc : Thread Cert.ForwardPassIdeal.nD Cert.ForwardPassIdeal.τ).loc Cert.ForwardPassIdeal.main_arg5) = m ((c.tc : Thread Cert.ForwardPassIdeal.nD Cert.ForwardPassIdeal.τ).loc Cert.ForwardPassIdeal.main_arg5)
      ∧ r.2.mem ((c.tc : Thread Cert.ForwardPassIdeal.nD Cert.ForwardPassIdeal.τ).loc Cert.ForwardPassIdeal.main_arg6) = m ((c.tc : Thread Cert.ForwardPassIdeal.nD Cert.ForwardPassIdeal.τ).loc Cert.ForwardPassIdeal.main_arg6))
      ∧ r.2.sem = fun _ => 0)

def quiescent_ForwardPassReferenceIdeal [hForwardPassReferenceIdeal : Cert.ForwardPassReferenceIdeal.Facts] : Prop :=
  ∀ (m : (ℓ : Loc Cert.ForwardPassReferenceIdeal.nD Cert.ForwardPassReferenceIdeal.τ Cert.ForwardPassReferenceIdeal.sig) → Buf (Elt Ideal) ℓ) (g : Dev Cert.ForwardPassReferenceIdeal.nD → PrngReg), Pre_ForwardPassReferenceIdeal m →
    θ_run (Cert.ForwardPassReferenceIdeal.defs (F := Ideal)) (onTc (τ := Cert.ForwardPassReferenceIdeal.τ) (Cert.ForwardPassReferenceIdeal.main (F := Ideal))) ⟨m, fun _ => 0, g⟩ (fun r => (∀ c : Dev Cert.ForwardPassReferenceIdeal.nD,
      r.2.mem ((c.tc : Thread Cert.ForwardPassReferenceIdeal.nD Cert.ForwardPassReferenceIdeal.τ).loc Cert.ForwardPassReferenceIdeal.main_arg0) = m ((c.tc : Thread Cert.ForwardPassReferenceIdeal.nD Cert.ForwardPassReferenceIdeal.τ).loc Cert.ForwardPassReferenceIdeal.main_arg0)
      ∧ r.2.mem ((c.tc : Thread Cert.ForwardPassReferenceIdeal.nD Cert.ForwardPassReferenceIdeal.τ).loc Cert.ForwardPassReferenceIdeal.main_arg1) = m ((c.tc : Thread Cert.ForwardPassReferenceIdeal.nD Cert.ForwardPassReferenceIdeal.τ).loc Cert.ForwardPassReferenceIdeal.main_arg1)
      ∧ r.2.mem ((c.tc : Thread Cert.ForwardPassReferenceIdeal.nD Cert.ForwardPassReferenceIdeal.τ).loc Cert.ForwardPassReferenceIdeal.main_arg2) = m ((c.tc : Thread Cert.ForwardPassReferenceIdeal.nD Cert.ForwardPassReferenceIdeal.τ).loc Cert.ForwardPassReferenceIdeal.main_arg2)
      ∧ r.2.mem ((c.tc : Thread Cert.ForwardPassReferenceIdeal.nD Cert.ForwardPassReferenceIdeal.τ).loc Cert.ForwardPassReferenceIdeal.main_arg3) = m ((c.tc : Thread Cert.ForwardPassReferenceIdeal.nD Cert.ForwardPassReferenceIdeal.τ).loc Cert.ForwardPassReferenceIdeal.main_arg3)
      ∧ r.2.mem ((c.tc : Thread Cert.ForwardPassReferenceIdeal.nD Cert.ForwardPassReferenceIdeal.τ).loc Cert.ForwardPassReferenceIdeal.main_arg4) = m ((c.tc : Thread Cert.ForwardPassReferenceIdeal.nD Cert.ForwardPassReferenceIdeal.τ).loc Cert.ForwardPassReferenceIdeal.main_arg4)
      ∧ r.2.mem ((c.tc : Thread Cert.ForwardPassReferenceIdeal.nD Cert.ForwardPassReferenceIdeal.τ).loc Cert.ForwardPassReferenceIdeal.main_arg5) = m ((c.tc : Thread Cert.ForwardPassReferenceIdeal.nD Cert.ForwardPassReferenceIdeal.τ).loc Cert.ForwardPassReferenceIdeal.main_arg5)
      ∧ r.2.mem ((c.tc : Thread Cert.ForwardPassReferenceIdeal.nD Cert.ForwardPassReferenceIdeal.τ).loc Cert.ForwardPassReferenceIdeal.main_arg6) = m ((c.tc : Thread Cert.ForwardPassReferenceIdeal.nD Cert.ForwardPassReferenceIdeal.τ).loc Cert.ForwardPassReferenceIdeal.main_arg6))
      ∧ r.2.sem = fun _ => 0)

def quiescent_Mixer [hMixer : Cert.Mixer.Facts] : Prop :=
  ∀ (m : (ℓ : Loc Cert.Mixer.nD Cert.Mixer.τ Cert.Mixer.sig) → Buf (Elt Bits) ℓ) (g : Dev Cert.Mixer.nD → PrngReg), Pre_Mixer m →
    θ_run (Cert.Mixer.defs (F := Bits)) (onTc (τ := Cert.Mixer.τ) (Cert.Mixer.main (F := Bits))) ⟨m, fun _ => 0, g⟩ (fun r => (∀ c : Dev Cert.Mixer.nD,
      r.2.mem ((c.tc : Thread Cert.Mixer.nD Cert.Mixer.τ).loc Cert.Mixer.main_arg0) = m ((c.tc : Thread Cert.Mixer.nD Cert.Mixer.τ).loc Cert.Mixer.main_arg0)
      ∧ r.2.mem ((c.tc : Thread Cert.Mixer.nD Cert.Mixer.τ).loc Cert.Mixer.main_arg1) = m ((c.tc : Thread Cert.Mixer.nD Cert.Mixer.τ).loc Cert.Mixer.main_arg1)
      ∧ r.2.mem ((c.tc : Thread Cert.Mixer.nD Cert.Mixer.τ).loc Cert.Mixer.main_arg2) = m ((c.tc : Thread Cert.Mixer.nD Cert.Mixer.τ).loc Cert.Mixer.main_arg2)
      ∧ r.2.mem ((c.tc : Thread Cert.Mixer.nD Cert.Mixer.τ).loc Cert.Mixer.main_arg3) = m ((c.tc : Thread Cert.Mixer.nD Cert.Mixer.τ).loc Cert.Mixer.main_arg3)
      ∧ r.2.mem ((c.tc : Thread Cert.Mixer.nD Cert.Mixer.τ).loc Cert.Mixer.main_arg4) = m ((c.tc : Thread Cert.Mixer.nD Cert.Mixer.τ).loc Cert.Mixer.main_arg4)
      ∧ r.2.mem ((c.tc : Thread Cert.Mixer.nD Cert.Mixer.τ).loc Cert.Mixer.main_arg5) = m ((c.tc : Thread Cert.Mixer.nD Cert.Mixer.τ).loc Cert.Mixer.main_arg5)
      ∧ r.2.mem ((c.tc : Thread Cert.Mixer.nD Cert.Mixer.τ).loc Cert.Mixer.main_arg6) = m ((c.tc : Thread Cert.Mixer.nD Cert.Mixer.τ).loc Cert.Mixer.main_arg6)
      ∧ r.2.mem ((c.tc : Thread Cert.Mixer.nD Cert.Mixer.τ).loc Cert.Mixer.main_arg7) = m ((c.tc : Thread Cert.Mixer.nD Cert.Mixer.τ).loc Cert.Mixer.main_arg7)
      ∧ r.2.mem ((c.tc : Thread Cert.Mixer.nD Cert.Mixer.τ).loc Cert.Mixer.main_arg8) = m ((c.tc : Thread Cert.Mixer.nD Cert.Mixer.τ).loc Cert.Mixer.main_arg8)
      ∧ r.2.mem ((c.tc : Thread Cert.Mixer.nD Cert.Mixer.τ).loc Cert.Mixer.main_arg9) = m ((c.tc : Thread Cert.Mixer.nD Cert.Mixer.τ).loc Cert.Mixer.main_arg9)
      ∧ r.2.mem ((c.tc : Thread Cert.Mixer.nD Cert.Mixer.τ).loc Cert.Mixer.main_arg10) = m ((c.tc : Thread Cert.Mixer.nD Cert.Mixer.τ).loc Cert.Mixer.main_arg10)
      ∧ r.2.mem ((c.tc : Thread Cert.Mixer.nD Cert.Mixer.τ).loc Cert.Mixer.main_arg11) = m ((c.tc : Thread Cert.Mixer.nD Cert.Mixer.τ).loc Cert.Mixer.main_arg11)
      ∧ r.2.mem ((c.tc : Thread Cert.Mixer.nD Cert.Mixer.τ).loc Cert.Mixer.main_arg12) = m ((c.tc : Thread Cert.Mixer.nD Cert.Mixer.τ).loc Cert.Mixer.main_arg12))
      ∧ r.2.sem = fun _ => 0)

def quiescent_MixerIdeal [hMixerIdeal : Cert.MixerIdeal.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
      ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
      ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
      ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9)
      ∧ r.2.mem ((c.tc : Thread Cert.MixerIdeal.nD Cert.MixerIdeal.τ).loc Cert.MixerIdeal.main_arg10) = m ((c.tc : Thread Cert.MixerIdeal.nD Cert.MixerIdeal.τ).loc Cert.MixerIdeal.main_arg10)
      ∧ r.2.mem ((c.tc : Thread Cert.MixerIdeal.nD Cert.MixerIdeal.τ).loc Cert.MixerIdeal.main_arg11) = m ((c.tc : Thread Cert.MixerIdeal.nD Cert.MixerIdeal.τ).loc Cert.MixerIdeal.main_arg11)
      ∧ r.2.mem ((c.tc : Thread Cert.MixerIdeal.nD Cert.MixerIdeal.τ).loc Cert.MixerIdeal.main_arg12) = m ((c.tc : Thread Cert.MixerIdeal.nD Cert.MixerIdeal.τ).loc Cert.MixerIdeal.main_arg12))
      ∧ r.2.sem = fun _ => 0)

def quiescent_MixerIdeal_pre_finite_projection [hMixerIdeal : Cert.MixerIdeal.Facts] [hPre_finite_projection : Cert.Pre_finite_projection.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal_finite_projection m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
      ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
      ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
      ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9)
      ∧ r.2.mem ((c.tc : Thread Cert.MixerIdeal.nD Cert.MixerIdeal.τ).loc Cert.MixerIdeal.main_arg10) = m ((c.tc : Thread Cert.MixerIdeal.nD Cert.MixerIdeal.τ).loc Cert.MixerIdeal.main_arg10)
      ∧ r.2.mem ((c.tc : Thread Cert.MixerIdeal.nD Cert.MixerIdeal.τ).loc Cert.MixerIdeal.main_arg11) = m ((c.tc : Thread Cert.MixerIdeal.nD Cert.MixerIdeal.τ).loc Cert.MixerIdeal.main_arg11)
      ∧ r.2.mem ((c.tc : Thread Cert.MixerIdeal.nD Cert.MixerIdeal.τ).loc Cert.MixerIdeal.main_arg12) = m ((c.tc : Thread Cert.MixerIdeal.nD Cert.MixerIdeal.τ).loc Cert.MixerIdeal.main_arg12))
      ∧ r.2.sem = fun _ => 0)

def quiescent_MixerReferenceIdeal [hMixerReferenceIdeal : Cert.MixerReferenceIdeal.Facts] : Prop :=
  ∀ (m : (ℓ : Loc Cert.MixerReferenceIdeal.nD Cert.MixerReferenceIdeal.τ Cert.MixerReferenceIdeal.sig) → Buf (Elt Ideal) ℓ) (g : Dev Cert.MixerReferenceIdeal.nD → PrngReg), Pre_MixerReferenceIdeal m →
    θ_run (Cert.MixerReferenceIdeal.defs (F := Ideal)) (onTc (τ := Cert.MixerReferenceIdeal.τ) (Cert.MixerReferenceIdeal.main (F := Ideal))) ⟨m, fun _ => 0, g⟩ (fun r => (∀ c : Dev Cert.MixerReferenceIdeal.nD,
      r.2.mem ((c.tc : Thread Cert.MixerReferenceIdeal.nD Cert.MixerReferenceIdeal.τ).loc Cert.MixerReferenceIdeal.main_arg0) = m ((c.tc : Thread Cert.MixerReferenceIdeal.nD Cert.MixerReferenceIdeal.τ).loc Cert.MixerReferenceIdeal.main_arg0)
      ∧ r.2.mem ((c.tc : Thread Cert.MixerReferenceIdeal.nD Cert.MixerReferenceIdeal.τ).loc Cert.MixerReferenceIdeal.main_arg1) = m ((c.tc : Thread Cert.MixerReferenceIdeal.nD Cert.MixerReferenceIdeal.τ).loc Cert.MixerReferenceIdeal.main_arg1)
      ∧ r.2.mem ((c.tc : Thread Cert.MixerReferenceIdeal.nD Cert.MixerReferenceIdeal.τ).loc Cert.MixerReferenceIdeal.main_arg2) = m ((c.tc : Thread Cert.MixerReferenceIdeal.nD Cert.MixerReferenceIdeal.τ).loc Cert.MixerReferenceIdeal.main_arg2)
      ∧ r.2.mem ((c.tc : Thread Cert.MixerReferenceIdeal.nD Cert.MixerReferenceIdeal.τ).loc Cert.MixerReferenceIdeal.main_arg3) = m ((c.tc : Thread Cert.MixerReferenceIdeal.nD Cert.MixerReferenceIdeal.τ).loc Cert.MixerReferenceIdeal.main_arg3)
      ∧ r.2.mem ((c.tc : Thread Cert.MixerReferenceIdeal.nD Cert.MixerReferenceIdeal.τ).loc Cert.MixerReferenceIdeal.main_arg4) = m ((c.tc : Thread Cert.MixerReferenceIdeal.nD Cert.MixerReferenceIdeal.τ).loc Cert.MixerReferenceIdeal.main_arg4)
      ∧ r.2.mem ((c.tc : Thread Cert.MixerReferenceIdeal.nD Cert.MixerReferenceIdeal.τ).loc Cert.MixerReferenceIdeal.main_arg5) = m ((c.tc : Thread Cert.MixerReferenceIdeal.nD Cert.MixerReferenceIdeal.τ).loc Cert.MixerReferenceIdeal.main_arg5)
      ∧ r.2.mem ((c.tc : Thread Cert.MixerReferenceIdeal.nD Cert.MixerReferenceIdeal.τ).loc Cert.MixerReferenceIdeal.main_arg6) = m ((c.tc : Thread Cert.MixerReferenceIdeal.nD Cert.MixerReferenceIdeal.τ).loc Cert.MixerReferenceIdeal.main_arg6)
      ∧ r.2.mem ((c.tc : Thread Cert.MixerReferenceIdeal.nD Cert.MixerReferenceIdeal.τ).loc Cert.MixerReferenceIdeal.main_arg7) = m ((c.tc : Thread Cert.MixerReferenceIdeal.nD Cert.MixerReferenceIdeal.τ).loc Cert.MixerReferenceIdeal.main_arg7)
      ∧ r.2.mem ((c.tc : Thread Cert.MixerReferenceIdeal.nD Cert.MixerReferenceIdeal.τ).loc Cert.MixerReferenceIdeal.main_arg8) = m ((c.tc : Thread Cert.MixerReferenceIdeal.nD Cert.MixerReferenceIdeal.τ).loc Cert.MixerReferenceIdeal.main_arg8)
      ∧ r.2.mem ((c.tc : Thread Cert.MixerReferenceIdeal.nD Cert.MixerReferenceIdeal.τ).loc Cert.MixerReferenceIdeal.main_arg9) = m ((c.tc : Thread Cert.MixerReferenceIdeal.nD Cert.MixerReferenceIdeal.τ).loc Cert.MixerReferenceIdeal.main_arg9)
      ∧ r.2.mem ((c.tc : Thread Cert.MixerReferenceIdeal.nD Cert.MixerReferenceIdeal.τ).loc Cert.MixerReferenceIdeal.main_arg10) = m ((c.tc : Thread Cert.MixerReferenceIdeal.nD Cert.MixerReferenceIdeal.τ).loc Cert.MixerReferenceIdeal.main_arg10)
      ∧ r.2.mem ((c.tc : Thread Cert.MixerReferenceIdeal.nD Cert.MixerReferenceIdeal.τ).loc Cert.MixerReferenceIdeal.main_arg11) = m ((c.tc : Thread Cert.MixerReferenceIdeal.nD Cert.MixerReferenceIdeal.τ).loc Cert.MixerReferenceIdeal.main_arg11)
      ∧ r.2.mem ((c.tc : Thread Cert.MixerReferenceIdeal.nD Cert.MixerReferenceIdeal.τ).loc Cert.MixerReferenceIdeal.main_arg12) = m ((c.tc : Thread Cert.MixerReferenceIdeal.nD Cert.MixerReferenceIdeal.τ).loc Cert.MixerReferenceIdeal.main_arg12))
      ∧ r.2.sem = fun _ => 0)

def quiescent_MixerReferenceIdeal_pre_finite_projection [hMixerReferenceIdeal : Cert.MixerReferenceIdeal.Facts] [hPre_finite_projection : Cert.Pre_finite_projection.Facts] : Prop :=
  ∀ (m : (ℓ : Loc Cert.MixerReferenceIdeal.nD Cert.MixerReferenceIdeal.τ Cert.MixerReferenceIdeal.sig) → Buf (Elt Ideal) ℓ) (g : Dev Cert.MixerReferenceIdeal.nD → PrngReg), Pre_MixerReferenceIdeal_finite_projection m →
    θ_run (Cert.MixerReferenceIdeal.defs (F := Ideal)) (onTc (τ := Cert.MixerReferenceIdeal.τ) (Cert.MixerReferenceIdeal.main (F := Ideal))) ⟨m, fun _ => 0, g⟩ (fun r => (∀ c : Dev Cert.MixerReferenceIdeal.nD,
      r.2.mem ((c.tc : Thread Cert.MixerReferenceIdeal.nD Cert.MixerReferenceIdeal.τ).loc Cert.MixerReferenceIdeal.main_arg0) = m ((c.tc : Thread Cert.MixerReferenceIdeal.nD Cert.MixerReferenceIdeal.τ).loc Cert.MixerReferenceIdeal.main_arg0)
      ∧ r.2.mem ((c.tc : Thread Cert.MixerReferenceIdeal.nD Cert.MixerReferenceIdeal.τ).loc Cert.MixerReferenceIdeal.main_arg1) = m ((c.tc : Thread Cert.MixerReferenceIdeal.nD Cert.MixerReferenceIdeal.τ).loc Cert.MixerReferenceIdeal.main_arg1)
      ∧ r.2.mem ((c.tc : Thread Cert.MixerReferenceIdeal.nD Cert.MixerReferenceIdeal.τ).loc Cert.MixerReferenceIdeal.main_arg2) = m ((c.tc : Thread Cert.MixerReferenceIdeal.nD Cert.MixerReferenceIdeal.τ).loc Cert.MixerReferenceIdeal.main_arg2)
      ∧ r.2.mem ((c.tc : Thread Cert.MixerReferenceIdeal.nD Cert.MixerReferenceIdeal.τ).loc Cert.MixerReferenceIdeal.main_arg3) = m ((c.tc : Thread Cert.MixerReferenceIdeal.nD Cert.MixerReferenceIdeal.τ).loc Cert.MixerReferenceIdeal.main_arg3)
      ∧ r.2.mem ((c.tc : Thread Cert.MixerReferenceIdeal.nD Cert.MixerReferenceIdeal.τ).loc Cert.MixerReferenceIdeal.main_arg4) = m ((c.tc : Thread Cert.MixerReferenceIdeal.nD Cert.MixerReferenceIdeal.τ).loc Cert.MixerReferenceIdeal.main_arg4)
      ∧ r.2.mem ((c.tc : Thread Cert.MixerReferenceIdeal.nD Cert.MixerReferenceIdeal.τ).loc Cert.MixerReferenceIdeal.main_arg5) = m ((c.tc : Thread Cert.MixerReferenceIdeal.nD Cert.MixerReferenceIdeal.τ).loc Cert.MixerReferenceIdeal.main_arg5)
      ∧ r.2.mem ((c.tc : Thread Cert.MixerReferenceIdeal.nD Cert.MixerReferenceIdeal.τ).loc Cert.MixerReferenceIdeal.main_arg6) = m ((c.tc : Thread Cert.MixerReferenceIdeal.nD Cert.MixerReferenceIdeal.τ).loc Cert.MixerReferenceIdeal.main_arg6)
      ∧ r.2.mem ((c.tc : Thread Cert.MixerReferenceIdeal.nD Cert.MixerReferenceIdeal.τ).loc Cert.MixerReferenceIdeal.main_arg7) = m ((c.tc : Thread Cert.MixerReferenceIdeal.nD Cert.MixerReferenceIdeal.τ).loc Cert.MixerReferenceIdeal.main_arg7)
      ∧ r.2.mem ((c.tc : Thread Cert.MixerReferenceIdeal.nD Cert.MixerReferenceIdeal.τ).loc Cert.MixerReferenceIdeal.main_arg8) = m ((c.tc : Thread Cert.MixerReferenceIdeal.nD Cert.MixerReferenceIdeal.τ).loc Cert.MixerReferenceIdeal.main_arg8)
      ∧ r.2.mem ((c.tc : Thread Cert.MixerReferenceIdeal.nD Cert.MixerReferenceIdeal.τ).loc Cert.MixerReferenceIdeal.main_arg9) = m ((c.tc : Thread Cert.MixerReferenceIdeal.nD Cert.MixerReferenceIdeal.τ).loc Cert.MixerReferenceIdeal.main_arg9)
      ∧ r.2.mem ((c.tc : Thread Cert.MixerReferenceIdeal.nD Cert.MixerReferenceIdeal.τ).loc Cert.MixerReferenceIdeal.main_arg10) = m ((c.tc : Thread Cert.MixerReferenceIdeal.nD Cert.MixerReferenceIdeal.τ).loc Cert.MixerReferenceIdeal.main_arg10)
      ∧ r.2.mem ((c.tc : Thread Cert.MixerReferenceIdeal.nD Cert.MixerReferenceIdeal.τ).loc Cert.MixerReferenceIdeal.main_arg11) = m ((c.tc : Thread Cert.MixerReferenceIdeal.nD Cert.MixerReferenceIdeal.τ).loc Cert.MixerReferenceIdeal.main_arg11)
      ∧ r.2.mem ((c.tc : Thread Cert.MixerReferenceIdeal.nD Cert.MixerReferenceIdeal.τ).loc Cert.MixerReferenceIdeal.main_arg12) = m ((c.tc : Thread Cert.MixerReferenceIdeal.nD Cert.MixerReferenceIdeal.τ).loc Cert.MixerReferenceIdeal.main_arg12))
      ∧ r.2.sem = fun _ => 0)

def quiescent_InWeight [hInWeight : Cert.InWeight.Facts] : Prop :=
  ∀ (m : (ℓ : Loc Cert.InWeight.nD Cert.InWeight.τ Cert.InWeight.sig) → Buf (Elt Bits) ℓ) (g : Dev Cert.InWeight.nD → PrngReg), Pre_InWeight m →
    θ_run (Cert.InWeight.defs (F := Bits)) (onTc (τ := Cert.InWeight.τ) (Cert.InWeight.main (F := Bits))) ⟨m, fun _ => 0, g⟩ (fun r => (∀ c : Dev Cert.InWeight.nD,
      r.2.mem ((c.tc : Thread Cert.InWeight.nD Cert.InWeight.τ).loc Cert.InWeight.main_arg0) = m ((c.tc : Thread Cert.InWeight.nD Cert.InWeight.τ).loc Cert.InWeight.main_arg0)
      ∧ r.2.mem ((c.tc : Thread Cert.InWeight.nD Cert.InWeight.τ).loc Cert.InWeight.main_arg1) = m ((c.tc : Thread Cert.InWeight.nD Cert.InWeight.τ).loc Cert.InWeight.main_arg1)
      ∧ r.2.mem ((c.tc : Thread Cert.InWeight.nD Cert.InWeight.τ).loc Cert.InWeight.main_arg2) = m ((c.tc : Thread Cert.InWeight.nD Cert.InWeight.τ).loc Cert.InWeight.main_arg2)
      ∧ r.2.mem ((c.tc : Thread Cert.InWeight.nD Cert.InWeight.τ).loc Cert.InWeight.main_arg3) = m ((c.tc : Thread Cert.InWeight.nD Cert.InWeight.τ).loc Cert.InWeight.main_arg3)
      ∧ r.2.mem ((c.tc : Thread Cert.InWeight.nD Cert.InWeight.τ).loc Cert.InWeight.main_arg4) = m ((c.tc : Thread Cert.InWeight.nD Cert.InWeight.τ).loc Cert.InWeight.main_arg4)
      ∧ r.2.mem ((c.tc : Thread Cert.InWeight.nD Cert.InWeight.τ).loc Cert.InWeight.main_arg5) = m ((c.tc : Thread Cert.InWeight.nD Cert.InWeight.τ).loc Cert.InWeight.main_arg5))
      ∧ r.2.sem = fun _ => 0)

def quiescent_InWeightIdeal [hInWeightIdeal : Cert.InWeightIdeal.Facts] : Prop :=
  ∀ (m : (ℓ : Loc Cert.InWeightIdeal.nD Cert.InWeightIdeal.τ Cert.InWeightIdeal.sig) → Buf (Elt Ideal) ℓ) (g : Dev Cert.InWeightIdeal.nD → PrngReg), Pre_InWeightIdeal m →
    θ_run (Cert.InWeightIdeal.defs (F := Ideal)) (onTc (τ := Cert.InWeightIdeal.τ) (Cert.InWeightIdeal.main (F := Ideal))) ⟨m, fun _ => 0, g⟩ (fun r => (∀ c : Dev Cert.InWeightIdeal.nD,
      r.2.mem ((c.tc : Thread Cert.InWeightIdeal.nD Cert.InWeightIdeal.τ).loc Cert.InWeightIdeal.main_arg0) = m ((c.tc : Thread Cert.InWeightIdeal.nD Cert.InWeightIdeal.τ).loc Cert.InWeightIdeal.main_arg0)
      ∧ r.2.mem ((c.tc : Thread Cert.InWeightIdeal.nD Cert.InWeightIdeal.τ).loc Cert.InWeightIdeal.main_arg1) = m ((c.tc : Thread Cert.InWeightIdeal.nD Cert.InWeightIdeal.τ).loc Cert.InWeightIdeal.main_arg1)
      ∧ r.2.mem ((c.tc : Thread Cert.InWeightIdeal.nD Cert.InWeightIdeal.τ).loc Cert.InWeightIdeal.main_arg2) = m ((c.tc : Thread Cert.InWeightIdeal.nD Cert.InWeightIdeal.τ).loc Cert.InWeightIdeal.main_arg2)
      ∧ r.2.mem ((c.tc : Thread Cert.InWeightIdeal.nD Cert.InWeightIdeal.τ).loc Cert.InWeightIdeal.main_arg3) = m ((c.tc : Thread Cert.InWeightIdeal.nD Cert.InWeightIdeal.τ).loc Cert.InWeightIdeal.main_arg3)
      ∧ r.2.mem ((c.tc : Thread Cert.InWeightIdeal.nD Cert.InWeightIdeal.τ).loc Cert.InWeightIdeal.main_arg4) = m ((c.tc : Thread Cert.InWeightIdeal.nD Cert.InWeightIdeal.τ).loc Cert.InWeightIdeal.main_arg4)
      ∧ r.2.mem ((c.tc : Thread Cert.InWeightIdeal.nD Cert.InWeightIdeal.τ).loc Cert.InWeightIdeal.main_arg5) = m ((c.tc : Thread Cert.InWeightIdeal.nD Cert.InWeightIdeal.τ).loc Cert.InWeightIdeal.main_arg5))
      ∧ r.2.sem = fun _ => 0)

def quiescent_InWeightReferenceIdeal [hInWeightReferenceIdeal : Cert.InWeightReferenceIdeal.Facts] : Prop :=
  ∀ (m : (ℓ : Loc Cert.InWeightReferenceIdeal.nD Cert.InWeightReferenceIdeal.τ Cert.InWeightReferenceIdeal.sig) → Buf (Elt Ideal) ℓ) (g : Dev Cert.InWeightReferenceIdeal.nD → PrngReg), Pre_InWeightReferenceIdeal m →
    θ_run (Cert.InWeightReferenceIdeal.defs (F := Ideal)) (onTc (τ := Cert.InWeightReferenceIdeal.τ) (Cert.InWeightReferenceIdeal.main (F := Ideal))) ⟨m, fun _ => 0, g⟩ (fun r => (∀ c : Dev Cert.InWeightReferenceIdeal.nD,
      r.2.mem ((c.tc : Thread Cert.InWeightReferenceIdeal.nD Cert.InWeightReferenceIdeal.τ).loc Cert.InWeightReferenceIdeal.main_arg0) = m ((c.tc : Thread Cert.InWeightReferenceIdeal.nD Cert.InWeightReferenceIdeal.τ).loc Cert.InWeightReferenceIdeal.main_arg0)
      ∧ r.2.mem ((c.tc : Thread Cert.InWeightReferenceIdeal.nD Cert.InWeightReferenceIdeal.τ).loc Cert.InWeightReferenceIdeal.main_arg1) = m ((c.tc : Thread Cert.InWeightReferenceIdeal.nD Cert.InWeightReferenceIdeal.τ).loc Cert.InWeightReferenceIdeal.main_arg1)
      ∧ r.2.mem ((c.tc : Thread Cert.InWeightReferenceIdeal.nD Cert.InWeightReferenceIdeal.τ).loc Cert.InWeightReferenceIdeal.main_arg2) = m ((c.tc : Thread Cert.InWeightReferenceIdeal.nD Cert.InWeightReferenceIdeal.τ).loc Cert.InWeightReferenceIdeal.main_arg2)
      ∧ r.2.mem ((c.tc : Thread Cert.InWeightReferenceIdeal.nD Cert.InWeightReferenceIdeal.τ).loc Cert.InWeightReferenceIdeal.main_arg3) = m ((c.tc : Thread Cert.InWeightReferenceIdeal.nD Cert.InWeightReferenceIdeal.τ).loc Cert.InWeightReferenceIdeal.main_arg3)
      ∧ r.2.mem ((c.tc : Thread Cert.InWeightReferenceIdeal.nD Cert.InWeightReferenceIdeal.τ).loc Cert.InWeightReferenceIdeal.main_arg4) = m ((c.tc : Thread Cert.InWeightReferenceIdeal.nD Cert.InWeightReferenceIdeal.τ).loc Cert.InWeightReferenceIdeal.main_arg4)
      ∧ r.2.mem ((c.tc : Thread Cert.InWeightReferenceIdeal.nD Cert.InWeightReferenceIdeal.τ).loc Cert.InWeightReferenceIdeal.main_arg5) = m ((c.tc : Thread Cert.InWeightReferenceIdeal.nD Cert.InWeightReferenceIdeal.τ).loc Cert.InWeightReferenceIdeal.main_arg5))
      ∧ r.2.sem = fun _ => 0)

def quiescent_OutWeight [hOutWeight : Cert.OutWeight.Facts] : Prop :=
  ∀ (m : (ℓ : Loc Cert.OutWeight.nD Cert.OutWeight.τ Cert.OutWeight.sig) → Buf (Elt Bits) ℓ) (g : Dev Cert.OutWeight.nD → PrngReg), Pre_OutWeight m →
    θ_run (Cert.OutWeight.defs (F := Bits)) (onTc (τ := Cert.OutWeight.τ) (Cert.OutWeight.main (F := Bits))) ⟨m, fun _ => 0, g⟩ (fun r => (∀ c : Dev Cert.OutWeight.nD,
      r.2.mem ((c.tc : Thread Cert.OutWeight.nD Cert.OutWeight.τ).loc Cert.OutWeight.main_arg0) = m ((c.tc : Thread Cert.OutWeight.nD Cert.OutWeight.τ).loc Cert.OutWeight.main_arg0)
      ∧ r.2.mem ((c.tc : Thread Cert.OutWeight.nD Cert.OutWeight.τ).loc Cert.OutWeight.main_arg1) = m ((c.tc : Thread Cert.OutWeight.nD Cert.OutWeight.τ).loc Cert.OutWeight.main_arg1)
      ∧ r.2.mem ((c.tc : Thread Cert.OutWeight.nD Cert.OutWeight.τ).loc Cert.OutWeight.main_arg2) = m ((c.tc : Thread Cert.OutWeight.nD Cert.OutWeight.τ).loc Cert.OutWeight.main_arg2)
      ∧ r.2.mem ((c.tc : Thread Cert.OutWeight.nD Cert.OutWeight.τ).loc Cert.OutWeight.main_arg3) = m ((c.tc : Thread Cert.OutWeight.nD Cert.OutWeight.τ).loc Cert.OutWeight.main_arg3)
      ∧ r.2.mem ((c.tc : Thread Cert.OutWeight.nD Cert.OutWeight.τ).loc Cert.OutWeight.main_arg4) = m ((c.tc : Thread Cert.OutWeight.nD Cert.OutWeight.τ).loc Cert.OutWeight.main_arg4))
      ∧ r.2.sem = fun _ => 0)

def quiescent_OutWeightIdeal [hOutWeightIdeal : Cert.OutWeightIdeal.Facts] : Prop :=
  ∀ (m : (ℓ : Loc Cert.OutWeightIdeal.nD Cert.OutWeightIdeal.τ Cert.OutWeightIdeal.sig) → Buf (Elt Ideal) ℓ) (g : Dev Cert.OutWeightIdeal.nD → PrngReg), Pre_OutWeightIdeal m →
    θ_run (Cert.OutWeightIdeal.defs (F := Ideal)) (onTc (τ := Cert.OutWeightIdeal.τ) (Cert.OutWeightIdeal.main (F := Ideal))) ⟨m, fun _ => 0, g⟩ (fun r => (∀ c : Dev Cert.OutWeightIdeal.nD,
      r.2.mem ((c.tc : Thread Cert.OutWeightIdeal.nD Cert.OutWeightIdeal.τ).loc Cert.OutWeightIdeal.main_arg0) = m ((c.tc : Thread Cert.OutWeightIdeal.nD Cert.OutWeightIdeal.τ).loc Cert.OutWeightIdeal.main_arg0)
      ∧ r.2.mem ((c.tc : Thread Cert.OutWeightIdeal.nD Cert.OutWeightIdeal.τ).loc Cert.OutWeightIdeal.main_arg1) = m ((c.tc : Thread Cert.OutWeightIdeal.nD Cert.OutWeightIdeal.τ).loc Cert.OutWeightIdeal.main_arg1)
      ∧ r.2.mem ((c.tc : Thread Cert.OutWeightIdeal.nD Cert.OutWeightIdeal.τ).loc Cert.OutWeightIdeal.main_arg2) = m ((c.tc : Thread Cert.OutWeightIdeal.nD Cert.OutWeightIdeal.τ).loc Cert.OutWeightIdeal.main_arg2)
      ∧ r.2.mem ((c.tc : Thread Cert.OutWeightIdeal.nD Cert.OutWeightIdeal.τ).loc Cert.OutWeightIdeal.main_arg3) = m ((c.tc : Thread Cert.OutWeightIdeal.nD Cert.OutWeightIdeal.τ).loc Cert.OutWeightIdeal.main_arg3)
      ∧ r.2.mem ((c.tc : Thread Cert.OutWeightIdeal.nD Cert.OutWeightIdeal.τ).loc Cert.OutWeightIdeal.main_arg4) = m ((c.tc : Thread Cert.OutWeightIdeal.nD Cert.OutWeightIdeal.τ).loc Cert.OutWeightIdeal.main_arg4))
      ∧ r.2.sem = fun _ => 0)

def quiescent_OutWeightReferenceIdeal [hOutWeightReferenceIdeal : Cert.OutWeightReferenceIdeal.Facts] : Prop :=
  ∀ (m : (ℓ : Loc Cert.OutWeightReferenceIdeal.nD Cert.OutWeightReferenceIdeal.τ Cert.OutWeightReferenceIdeal.sig) → Buf (Elt Ideal) ℓ) (g : Dev Cert.OutWeightReferenceIdeal.nD → PrngReg), Pre_OutWeightReferenceIdeal m →
    θ_run (Cert.OutWeightReferenceIdeal.defs (F := Ideal)) (onTc (τ := Cert.OutWeightReferenceIdeal.τ) (Cert.OutWeightReferenceIdeal.main (F := Ideal))) ⟨m, fun _ => 0, g⟩ (fun r => (∀ c : Dev Cert.OutWeightReferenceIdeal.nD,
      r.2.mem ((c.tc : Thread Cert.OutWeightReferenceIdeal.nD Cert.OutWeightReferenceIdeal.τ).loc Cert.OutWeightReferenceIdeal.main_arg0) = m ((c.tc : Thread Cert.OutWeightReferenceIdeal.nD Cert.OutWeightReferenceIdeal.τ).loc Cert.OutWeightReferenceIdeal.main_arg0)
      ∧ r.2.mem ((c.tc : Thread Cert.OutWeightReferenceIdeal.nD Cert.OutWeightReferenceIdeal.τ).loc Cert.OutWeightReferenceIdeal.main_arg1) = m ((c.tc : Thread Cert.OutWeightReferenceIdeal.nD Cert.OutWeightReferenceIdeal.τ).loc Cert.OutWeightReferenceIdeal.main_arg1)
      ∧ r.2.mem ((c.tc : Thread Cert.OutWeightReferenceIdeal.nD Cert.OutWeightReferenceIdeal.τ).loc Cert.OutWeightReferenceIdeal.main_arg2) = m ((c.tc : Thread Cert.OutWeightReferenceIdeal.nD Cert.OutWeightReferenceIdeal.τ).loc Cert.OutWeightReferenceIdeal.main_arg2)
      ∧ r.2.mem ((c.tc : Thread Cert.OutWeightReferenceIdeal.nD Cert.OutWeightReferenceIdeal.τ).loc Cert.OutWeightReferenceIdeal.main_arg3) = m ((c.tc : Thread Cert.OutWeightReferenceIdeal.nD Cert.OutWeightReferenceIdeal.τ).loc Cert.OutWeightReferenceIdeal.main_arg3)
      ∧ r.2.mem ((c.tc : Thread Cert.OutWeightReferenceIdeal.nD Cert.OutWeightReferenceIdeal.τ).loc Cert.OutWeightReferenceIdeal.main_arg4) = m ((c.tc : Thread Cert.OutWeightReferenceIdeal.nD Cert.OutWeightReferenceIdeal.τ).loc Cert.OutWeightReferenceIdeal.main_arg4))
      ∧ r.2.sem = fun _ => 0)

def preserves_FeedForward_FeedForwardIdeal : Prop :=
  True

def algebraic_FeedForwardIdeal_FeedForwardReferenceIdeal_pre_finite_arguments [hFeedForwardIdeal : Cert.FeedForwardIdeal.Facts] [hFeedForwardReferenceIdeal : Cert.FeedForwardReferenceIdeal.Facts] [hPre_finite_arguments : Cert.Pre_finite_arguments.Facts] : Prop :=
  ∀ (m : (ℓ : Loc Cert.FeedForwardIdeal.nD Cert.FeedForwardIdeal.τ Cert.FeedForwardIdeal.sig) → Buf (Elt Ideal) ℓ) (g : Dev Cert.FeedForwardIdeal.nD → PrngReg)
    (m' : (ℓ : Loc Cert.FeedForwardReferenceIdeal.nD Cert.FeedForwardReferenceIdeal.τ Cert.FeedForwardReferenceIdeal.sig) → Buf (Elt Ideal) ℓ) (g' : Dev Cert.FeedForwardReferenceIdeal.nD → PrngReg), Pre_FeedForwardIdeal_finite_arguments m →
    (∀ c : Dev Cert.FeedForwardIdeal.nD,
      m' ((c.tc : Thread Cert.FeedForwardReferenceIdeal.nD Cert.FeedForwardReferenceIdeal.τ).loc Cert.FeedForwardReferenceIdeal.main_arg0) = m ((c.tc : Thread Cert.FeedForwardIdeal.nD Cert.FeedForwardIdeal.τ).loc Cert.FeedForwardIdeal.main_arg0)
      ∧ m' ((c.tc : Thread Cert.FeedForwardReferenceIdeal.nD Cert.FeedForwardReferenceIdeal.τ).loc Cert.FeedForwardReferenceIdeal.main_arg1) = m ((c.tc : Thread Cert.FeedForwardIdeal.nD Cert.FeedForwardIdeal.τ).loc Cert.FeedForwardIdeal.main_arg1)
      ∧ m' ((c.tc : Thread Cert.FeedForwardReferenceIdeal.nD Cert.FeedForwardReferenceIdeal.τ).loc Cert.FeedForwardReferenceIdeal.main_arg2) = m ((c.tc : Thread Cert.FeedForwardIdeal.nD Cert.FeedForwardIdeal.τ).loc Cert.FeedForwardIdeal.main_arg2)
      ∧ m' ((c.tc : Thread Cert.FeedForwardReferenceIdeal.nD Cert.FeedForwardReferenceIdeal.τ).loc Cert.FeedForwardReferenceIdeal.main_arg3) = m ((c.tc : Thread Cert.FeedForwardIdeal.nD Cert.FeedForwardIdeal.τ).loc Cert.FeedForwardIdeal.main_arg3)
      ∧ m' ((c.tc : Thread Cert.FeedForwardReferenceIdeal.nD Cert.FeedForwardReferenceIdeal.τ).loc Cert.FeedForwardReferenceIdeal.main_arg4) = m ((c.tc : Thread Cert.FeedForwardIdeal.nD Cert.FeedForwardIdeal.τ).loc Cert.FeedForwardIdeal.main_arg4)
      ∧ m' ((c.tc : Thread Cert.FeedForwardReferenceIdeal.nD Cert.FeedForwardReferenceIdeal.τ).loc Cert.FeedForwardReferenceIdeal.main_arg5) = m ((c.tc : Thread Cert.FeedForwardIdeal.nD Cert.FeedForwardIdeal.τ).loc Cert.FeedForwardIdeal.main_arg5)
      ∧ m' ((c.tc : Thread Cert.FeedForwardReferenceIdeal.nD Cert.FeedForwardReferenceIdeal.τ).loc Cert.FeedForwardReferenceIdeal.main_arg6) = m ((c.tc : Thread Cert.FeedForwardIdeal.nD Cert.FeedForwardIdeal.τ).loc Cert.FeedForwardIdeal.main_arg6)
      ∧ m' ((c.tc : Thread Cert.FeedForwardReferenceIdeal.nD Cert.FeedForwardReferenceIdeal.τ).loc Cert.FeedForwardReferenceIdeal.main_arg7) = m ((c.tc : Thread Cert.FeedForwardIdeal.nD Cert.FeedForwardIdeal.τ).loc Cert.FeedForwardIdeal.main_arg7)) →
    ∃ (v0 : (c : Dev Cert.FeedForwardIdeal.nD) → Buf (Elt Ideal) ((c.tc : Thread Cert.FeedForwardIdeal.nD Cert.FeedForwardIdeal.τ).loc Cert.FeedForwardIdeal.main_v49_0)) (v1 : (c : Dev Cert.FeedForwardIdeal.nD) → Buf (Elt Ideal) ((c.tc : Thread Cert.FeedForwardIdeal.nD Cert.FeedForwardIdeal.τ).loc Cert.FeedForwardIdeal.main_v49_1)) (v2 : (c : Dev Cert.FeedForwardIdeal.nD) → Buf (Elt Ideal) ((c.tc : Thread Cert.FeedForwardIdeal.nD Cert.FeedForwardIdeal.τ).loc Cert.FeedForwardIdeal.main_v49_2)) (v3 : (c : Dev Cert.FeedForwardIdeal.nD) → Buf (Elt Ideal) ((c.tc : Thread Cert.FeedForwardIdeal.nD Cert.FeedForwardIdeal.τ).loc Cert.FeedForwardIdeal.main_v49_3)) (v4 : (c : Dev Cert.FeedForwardIdeal.nD) → Buf (Elt Ideal) ((c.tc : Thread Cert.FeedForwardIdeal.nD Cert.FeedForwardIdeal.τ).loc Cert.FeedForwardIdeal.main_v49_4)) (v5 : (c : Dev Cert.FeedForwardIdeal.nD) → Buf (Elt Ideal) ((c.tc : Thread Cert.FeedForwardIdeal.nD Cert.FeedForwardIdeal.τ).loc Cert.FeedForwardIdeal.main_v49_5)) (v6 : (c : Dev Cert.FeedForwardIdeal.nD) → Buf (Elt Ideal) ((c.tc : Thread Cert.FeedForwardIdeal.nD Cert.FeedForwardIdeal.τ).loc Cert.FeedForwardIdeal.main_v49_6)),
      θ_run (Cert.FeedForwardIdeal.defs (F := Ideal)) (onTc (τ := Cert.FeedForwardIdeal.τ) (Cert.FeedForwardIdeal.main (F := Ideal))) ⟨m, fun _ => 0, g⟩ (fun r => ∀ c : Dev Cert.FeedForwardIdeal.nD,
          r.2.mem ((c.tc : Thread Cert.FeedForwardIdeal.nD Cert.FeedForwardIdeal.τ).loc Cert.FeedForwardIdeal.main_v49_0) = v0 c
          ∧ r.2.mem ((c.tc : Thread Cert.FeedForwardIdeal.nD Cert.FeedForwardIdeal.τ).loc Cert.FeedForwardIdeal.main_v49_1) = v1 c
          ∧ r.2.mem ((c.tc : Thread Cert.FeedForwardIdeal.nD Cert.FeedForwardIdeal.τ).loc Cert.FeedForwardIdeal.main_v49_2) = v2 c
          ∧ r.2.mem ((c.tc : Thread Cert.FeedForwardIdeal.nD Cert.FeedForwardIdeal.τ).loc Cert.FeedForwardIdeal.main_v49_3) = v3 c
          ∧ r.2.mem ((c.tc : Thread Cert.FeedForwardIdeal.nD Cert.FeedForwardIdeal.τ).loc Cert.FeedForwardIdeal.main_v49_4) = v4 c
          ∧ r.2.mem ((c.tc : Thread Cert.FeedForwardIdeal.nD Cert.FeedForwardIdeal.τ).loc Cert.FeedForwardIdeal.main_v49_5) = v5 c
          ∧ r.2.mem ((c.tc : Thread Cert.FeedForwardIdeal.nD Cert.FeedForwardIdeal.τ).loc Cert.FeedForwardIdeal.main_v49_6) = v6 c
          ∧ r.2.mem ((c.tc : Thread Cert.FeedForwardIdeal.nD Cert.FeedForwardIdeal.τ).loc Cert.FeedForwardIdeal.main_arg0) = m ((c.tc : Thread Cert.FeedForwardIdeal.nD Cert.FeedForwardIdeal.τ).loc Cert.FeedForwardIdeal.main_arg0)
          ∧ r.2.mem ((c.tc : Thread Cert.FeedForwardIdeal.nD Cert.FeedForwardIdeal.τ).loc Cert.FeedForwardIdeal.main_arg1) = m ((c.tc : Thread Cert.FeedForwardIdeal.nD Cert.FeedForwardIdeal.τ).loc Cert.FeedForwardIdeal.main_arg1)
          ∧ r.2.mem ((c.tc : Thread Cert.FeedForwardIdeal.nD Cert.FeedForwardIdeal.τ).loc Cert.FeedForwardIdeal.main_arg2) = m ((c.tc : Thread Cert.FeedForwardIdeal.nD Cert.FeedForwardIdeal.τ).loc Cert.FeedForwardIdeal.main_arg2)
          ∧ r.2.mem ((c.tc : Thread Cert.FeedForwardIdeal.nD Cert.FeedForwardIdeal.τ).loc Cert.FeedForwardIdeal.main_arg3) = m ((c.tc : Thread Cert.FeedForwardIdeal.nD Cert.FeedForwardIdeal.τ).loc Cert.FeedForwardIdeal.main_arg3)
          ∧ r.2.mem ((c.tc : Thread Cert.FeedForwardIdeal.nD Cert.FeedForwardIdeal.τ).loc Cert.FeedForwardIdeal.main_arg4) = m ((c.tc : Thread Cert.FeedForwardIdeal.nD Cert.FeedForwardIdeal.τ).loc Cert.FeedForwardIdeal.main_arg4)
          ∧ r.2.mem ((c.tc : Thread Cert.FeedForwardIdeal.nD Cert.FeedForwardIdeal.τ).loc Cert.FeedForwardIdeal.main_arg5) = m ((c.tc : Thread Cert.FeedForwardIdeal.nD Cert.FeedForwardIdeal.τ).loc Cert.FeedForwardIdeal.main_arg5)
          ∧ r.2.mem ((c.tc : Thread Cert.FeedForwardIdeal.nD Cert.FeedForwardIdeal.τ).loc Cert.FeedForwardIdeal.main_arg6) = m ((c.tc : Thread Cert.FeedForwardIdeal.nD Cert.FeedForwardIdeal.τ).loc Cert.FeedForwardIdeal.main_arg6)
          ∧ r.2.mem ((c.tc : Thread Cert.FeedForwardIdeal.nD Cert.FeedForwardIdeal.τ).loc Cert.FeedForwardIdeal.main_arg7) = m ((c.tc : Thread Cert.FeedForwardIdeal.nD Cert.FeedForwardIdeal.τ).loc Cert.FeedForwardIdeal.main_arg7))
      ∧ θ_run (Cert.FeedForwardReferenceIdeal.defs (F := Ideal)) (onTc (τ := Cert.FeedForwardReferenceIdeal.τ) (Cert.FeedForwardReferenceIdeal.main (F := Ideal))) ⟨m', fun _ => 0, g'⟩ (fun r => ∀ c : Dev Cert.FeedForwardReferenceIdeal.nD,
          r.2.mem ((c.tc : Thread Cert.FeedForwardReferenceIdeal.nD Cert.FeedForwardReferenceIdeal.τ).loc Cert.FeedForwardReferenceIdeal.main_v81) = v0 c
          ∧ r.2.mem ((c.tc : Thread Cert.FeedForwardReferenceIdeal.nD Cert.FeedForwardReferenceIdeal.τ).loc Cert.FeedForwardReferenceIdeal.main_v82) = v1 c
          ∧ r.2.mem ((c.tc : Thread Cert.FeedForwardReferenceIdeal.nD Cert.FeedForwardReferenceIdeal.τ).loc Cert.FeedForwardReferenceIdeal.main_v84) = v2 c
          ∧ r.2.mem ((c.tc : Thread Cert.FeedForwardReferenceIdeal.nD Cert.FeedForwardReferenceIdeal.τ).loc Cert.FeedForwardReferenceIdeal.main_v86) = v3 c
          ∧ r.2.mem ((c.tc : Thread Cert.FeedForwardReferenceIdeal.nD Cert.FeedForwardReferenceIdeal.τ).loc Cert.FeedForwardReferenceIdeal.main_v87) = v4 c
          ∧ r.2.mem ((c.tc : Thread Cert.FeedForwardReferenceIdeal.nD Cert.FeedForwardReferenceIdeal.τ).loc Cert.FeedForwardReferenceIdeal.main_v88) = v5 c
          ∧ r.2.mem ((c.tc : Thread Cert.FeedForwardReferenceIdeal.nD Cert.FeedForwardReferenceIdeal.τ).loc Cert.FeedForwardReferenceIdeal.main_v89) = v6 c
          ∧ r.2.mem ((c.tc : Thread Cert.FeedForwardReferenceIdeal.nD Cert.FeedForwardReferenceIdeal.τ).loc Cert.FeedForwardReferenceIdeal.main_arg0) = m' ((c.tc : Thread Cert.FeedForwardReferenceIdeal.nD Cert.FeedForwardReferenceIdeal.τ).loc Cert.FeedForwardReferenceIdeal.main_arg0)
          ∧ r.2.mem ((c.tc : Thread Cert.FeedForwardReferenceIdeal.nD Cert.FeedForwardReferenceIdeal.τ).loc Cert.FeedForwardReferenceIdeal.main_arg1) = m' ((c.tc : Thread Cert.FeedForwardReferenceIdeal.nD Cert.FeedForwardReferenceIdeal.τ).loc Cert.FeedForwardReferenceIdeal.main_arg1)
          ∧ r.2.mem ((c.tc : Thread Cert.FeedForwardReferenceIdeal.nD Cert.FeedForwardReferenceIdeal.τ).loc Cert.FeedForwardReferenceIdeal.main_arg2) = m' ((c.tc : Thread Cert.FeedForwardReferenceIdeal.nD Cert.FeedForwardReferenceIdeal.τ).loc Cert.FeedForwardReferenceIdeal.main_arg2)
          ∧ r.2.mem ((c.tc : Thread Cert.FeedForwardReferenceIdeal.nD Cert.FeedForwardReferenceIdeal.τ).loc Cert.FeedForwardReferenceIdeal.main_arg3) = m' ((c.tc : Thread Cert.FeedForwardReferenceIdeal.nD Cert.FeedForwardReferenceIdeal.τ).loc Cert.FeedForwardReferenceIdeal.main_arg3)
          ∧ r.2.mem ((c.tc : Thread Cert.FeedForwardReferenceIdeal.nD Cert.FeedForwardReferenceIdeal.τ).loc Cert.FeedForwardReferenceIdeal.main_arg4) = m' ((c.tc : Thread Cert.FeedForwardReferenceIdeal.nD Cert.FeedForwardReferenceIdeal.τ).loc Cert.FeedForwardReferenceIdeal.main_arg4)
          ∧ r.2.mem ((c.tc : Thread Cert.FeedForwardReferenceIdeal.nD Cert.FeedForwardReferenceIdeal.τ).loc Cert.FeedForwardReferenceIdeal.main_arg5) = m' ((c.tc : Thread Cert.FeedForwardReferenceIdeal.nD Cert.FeedForwardReferenceIdeal.τ).loc Cert.FeedForwardReferenceIdeal.main_arg5)
          ∧ r.2.mem ((c.tc : Thread Cert.FeedForwardReferenceIdeal.nD Cert.FeedForwardReferenceIdeal.τ).loc Cert.FeedForwardReferenceIdeal.main_arg6) = m' ((c.tc : Thread Cert.FeedForwardReferenceIdeal.nD Cert.FeedForwardReferenceIdeal.τ).loc Cert.FeedForwardReferenceIdeal.main_arg6)
          ∧ r.2.mem ((c.tc : Thread Cert.FeedForwardReferenceIdeal.nD Cert.FeedForwardReferenceIdeal.τ).loc Cert.FeedForwardReferenceIdeal.main_arg7) = m' ((c.tc : Thread Cert.FeedForwardReferenceIdeal.nD Cert.FeedForwardReferenceIdeal.τ).loc Cert.FeedForwardReferenceIdeal.main_arg7))

def preserves_DownWeight_DownWeightIdeal : Prop :=
  True

def algebraic_DownWeightIdeal_DownWeightReferenceIdeal [hDownWeightIdeal : Cert.DownWeightIdeal.Facts] [hDownWeightReferenceIdeal : Cert.DownWeightReferenceIdeal.Facts] : Prop :=
  ∀ (m : (ℓ : Loc Cert.DownWeightIdeal.nD Cert.DownWeightIdeal.τ Cert.DownWeightIdeal.sig) → Buf (Elt Ideal) ℓ) (g : Dev Cert.DownWeightIdeal.nD → PrngReg)
    (m' : (ℓ : Loc Cert.DownWeightReferenceIdeal.nD Cert.DownWeightReferenceIdeal.τ Cert.DownWeightReferenceIdeal.sig) → Buf (Elt Ideal) ℓ) (g' : Dev Cert.DownWeightReferenceIdeal.nD → PrngReg), Pre_DownWeightIdeal m →
    (∀ c : Dev Cert.DownWeightIdeal.nD,
      m' ((c.tc : Thread Cert.DownWeightReferenceIdeal.nD Cert.DownWeightReferenceIdeal.τ).loc Cert.DownWeightReferenceIdeal.main_arg0) = m ((c.tc : Thread Cert.DownWeightIdeal.nD Cert.DownWeightIdeal.τ).loc Cert.DownWeightIdeal.main_arg0)
      ∧ m' ((c.tc : Thread Cert.DownWeightReferenceIdeal.nD Cert.DownWeightReferenceIdeal.τ).loc Cert.DownWeightReferenceIdeal.main_arg1) = m ((c.tc : Thread Cert.DownWeightIdeal.nD Cert.DownWeightIdeal.τ).loc Cert.DownWeightIdeal.main_arg1)
      ∧ m' ((c.tc : Thread Cert.DownWeightReferenceIdeal.nD Cert.DownWeightReferenceIdeal.τ).loc Cert.DownWeightReferenceIdeal.main_arg2) = m ((c.tc : Thread Cert.DownWeightIdeal.nD Cert.DownWeightIdeal.τ).loc Cert.DownWeightIdeal.main_arg2)) →
    ∃ (v0 : (c : Dev Cert.DownWeightIdeal.nD) → Buf (Elt Ideal) ((c.tc : Thread Cert.DownWeightIdeal.nD Cert.DownWeightIdeal.τ).loc Cert.DownWeightIdeal.main_v8)),
      θ_run (Cert.DownWeightIdeal.defs (F := Ideal)) (onTc (τ := Cert.DownWeightIdeal.τ) (Cert.DownWeightIdeal.main (F := Ideal))) ⟨m, fun _ => 0, g⟩ (fun r => ∀ c : Dev Cert.DownWeightIdeal.nD,
          r.2.mem ((c.tc : Thread Cert.DownWeightIdeal.nD Cert.DownWeightIdeal.τ).loc Cert.DownWeightIdeal.main_v8) = v0 c
          ∧ r.2.mem ((c.tc : Thread Cert.DownWeightIdeal.nD Cert.DownWeightIdeal.τ).loc Cert.DownWeightIdeal.main_arg0) = m ((c.tc : Thread Cert.DownWeightIdeal.nD Cert.DownWeightIdeal.τ).loc Cert.DownWeightIdeal.main_arg0)
          ∧ r.2.mem ((c.tc : Thread Cert.DownWeightIdeal.nD Cert.DownWeightIdeal.τ).loc Cert.DownWeightIdeal.main_arg1) = m ((c.tc : Thread Cert.DownWeightIdeal.nD Cert.DownWeightIdeal.τ).loc Cert.DownWeightIdeal.main_arg1)
          ∧ r.2.mem ((c.tc : Thread Cert.DownWeightIdeal.nD Cert.DownWeightIdeal.τ).loc Cert.DownWeightIdeal.main_arg2) = m ((c.tc : Thread Cert.DownWeightIdeal.nD Cert.DownWeightIdeal.τ).loc Cert.DownWeightIdeal.main_arg2))
      ∧ θ_run (Cert.DownWeightReferenceIdeal.defs (F := Ideal)) (onTc (τ := Cert.DownWeightReferenceIdeal.τ) (Cert.DownWeightReferenceIdeal.main (F := Ideal))) ⟨m', fun _ => 0, g'⟩ (fun r => ∀ c : Dev Cert.DownWeightReferenceIdeal.nD,
          r.2.mem ((c.tc : Thread Cert.DownWeightReferenceIdeal.nD Cert.DownWeightReferenceIdeal.τ).loc Cert.DownWeightReferenceIdeal.main_v7) = v0 c
          ∧ r.2.mem ((c.tc : Thread Cert.DownWeightReferenceIdeal.nD Cert.DownWeightReferenceIdeal.τ).loc Cert.DownWeightReferenceIdeal.main_arg0) = m' ((c.tc : Thread Cert.DownWeightReferenceIdeal.nD Cert.DownWeightReferenceIdeal.τ).loc Cert.DownWeightReferenceIdeal.main_arg0)
          ∧ r.2.mem ((c.tc : Thread Cert.DownWeightReferenceIdeal.nD Cert.DownWeightReferenceIdeal.τ).loc Cert.DownWeightReferenceIdeal.main_arg1) = m' ((c.tc : Thread Cert.DownWeightReferenceIdeal.nD Cert.DownWeightReferenceIdeal.τ).loc Cert.DownWeightReferenceIdeal.main_arg1)
          ∧ r.2.mem ((c.tc : Thread Cert.DownWeightReferenceIdeal.nD Cert.DownWeightReferenceIdeal.τ).loc Cert.DownWeightReferenceIdeal.main_arg2) = m' ((c.tc : Thread Cert.DownWeightReferenceIdeal.nD Cert.DownWeightReferenceIdeal.τ).loc Cert.DownWeightReferenceIdeal.main_arg2))

def preserves_UpWeight_UpWeightIdeal : Prop :=
  True

def algebraic_UpWeightIdeal_UpWeightReferenceIdeal [hUpWeightIdeal : Cert.UpWeightIdeal.Facts] [hUpWeightReferenceIdeal : Cert.UpWeightReferenceIdeal.Facts] : Prop :=
  ∀ (m : (ℓ : Loc Cert.UpWeightIdeal.nD Cert.UpWeightIdeal.τ Cert.UpWeightIdeal.sig) → Buf (Elt Ideal) ℓ) (g : Dev Cert.UpWeightIdeal.nD → PrngReg)
    (m' : (ℓ : Loc Cert.UpWeightReferenceIdeal.nD Cert.UpWeightReferenceIdeal.τ Cert.UpWeightReferenceIdeal.sig) → Buf (Elt Ideal) ℓ) (g' : Dev Cert.UpWeightReferenceIdeal.nD → PrngReg), Pre_UpWeightIdeal m →
    (∀ c : Dev Cert.UpWeightIdeal.nD,
      m' ((c.tc : Thread Cert.UpWeightReferenceIdeal.nD Cert.UpWeightReferenceIdeal.τ).loc Cert.UpWeightReferenceIdeal.main_arg0) = m ((c.tc : Thread Cert.UpWeightIdeal.nD Cert.UpWeightIdeal.τ).loc Cert.UpWeightIdeal.main_arg0)
      ∧ m' ((c.tc : Thread Cert.UpWeightReferenceIdeal.nD Cert.UpWeightReferenceIdeal.τ).loc Cert.UpWeightReferenceIdeal.main_arg1) = m ((c.tc : Thread Cert.UpWeightIdeal.nD Cert.UpWeightIdeal.τ).loc Cert.UpWeightIdeal.main_arg1)
      ∧ m' ((c.tc : Thread Cert.UpWeightReferenceIdeal.nD Cert.UpWeightReferenceIdeal.τ).loc Cert.UpWeightReferenceIdeal.main_arg2) = m ((c.tc : Thread Cert.UpWeightIdeal.nD Cert.UpWeightIdeal.τ).loc Cert.UpWeightIdeal.main_arg2)
      ∧ m' ((c.tc : Thread Cert.UpWeightReferenceIdeal.nD Cert.UpWeightReferenceIdeal.τ).loc Cert.UpWeightReferenceIdeal.main_arg3) = m ((c.tc : Thread Cert.UpWeightIdeal.nD Cert.UpWeightIdeal.τ).loc Cert.UpWeightIdeal.main_arg3)
      ∧ m' ((c.tc : Thread Cert.UpWeightReferenceIdeal.nD Cert.UpWeightReferenceIdeal.τ).loc Cert.UpWeightReferenceIdeal.main_arg4) = m ((c.tc : Thread Cert.UpWeightIdeal.nD Cert.UpWeightIdeal.τ).loc Cert.UpWeightIdeal.main_arg4)
      ∧ m' ((c.tc : Thread Cert.UpWeightReferenceIdeal.nD Cert.UpWeightReferenceIdeal.τ).loc Cert.UpWeightReferenceIdeal.main_arg5) = m ((c.tc : Thread Cert.UpWeightIdeal.nD Cert.UpWeightIdeal.τ).loc Cert.UpWeightIdeal.main_arg5)) →
    ∃ (v0 : (c : Dev Cert.UpWeightIdeal.nD) → Buf (Elt Ideal) ((c.tc : Thread Cert.UpWeightIdeal.nD Cert.UpWeightIdeal.τ).loc Cert.UpWeightIdeal.main_v25)),
      θ_run (Cert.UpWeightIdeal.defs (F := Ideal)) (onTc (τ := Cert.UpWeightIdeal.τ) (Cert.UpWeightIdeal.main (F := Ideal))) ⟨m, fun _ => 0, g⟩ (fun r => ∀ c : Dev Cert.UpWeightIdeal.nD,
          r.2.mem ((c.tc : Thread Cert.UpWeightIdeal.nD Cert.UpWeightIdeal.τ).loc Cert.UpWeightIdeal.main_v25) = v0 c
          ∧ r.2.mem ((c.tc : Thread Cert.UpWeightIdeal.nD Cert.UpWeightIdeal.τ).loc Cert.UpWeightIdeal.main_arg0) = m ((c.tc : Thread Cert.UpWeightIdeal.nD Cert.UpWeightIdeal.τ).loc Cert.UpWeightIdeal.main_arg0)
          ∧ r.2.mem ((c.tc : Thread Cert.UpWeightIdeal.nD Cert.UpWeightIdeal.τ).loc Cert.UpWeightIdeal.main_arg1) = m ((c.tc : Thread Cert.UpWeightIdeal.nD Cert.UpWeightIdeal.τ).loc Cert.UpWeightIdeal.main_arg1)
          ∧ r.2.mem ((c.tc : Thread Cert.UpWeightIdeal.nD Cert.UpWeightIdeal.τ).loc Cert.UpWeightIdeal.main_arg2) = m ((c.tc : Thread Cert.UpWeightIdeal.nD Cert.UpWeightIdeal.τ).loc Cert.UpWeightIdeal.main_arg2)
          ∧ r.2.mem ((c.tc : Thread Cert.UpWeightIdeal.nD Cert.UpWeightIdeal.τ).loc Cert.UpWeightIdeal.main_arg3) = m ((c.tc : Thread Cert.UpWeightIdeal.nD Cert.UpWeightIdeal.τ).loc Cert.UpWeightIdeal.main_arg3)
          ∧ r.2.mem ((c.tc : Thread Cert.UpWeightIdeal.nD Cert.UpWeightIdeal.τ).loc Cert.UpWeightIdeal.main_arg4) = m ((c.tc : Thread Cert.UpWeightIdeal.nD Cert.UpWeightIdeal.τ).loc Cert.UpWeightIdeal.main_arg4)
          ∧ r.2.mem ((c.tc : Thread Cert.UpWeightIdeal.nD Cert.UpWeightIdeal.τ).loc Cert.UpWeightIdeal.main_arg5) = m ((c.tc : Thread Cert.UpWeightIdeal.nD Cert.UpWeightIdeal.τ).loc Cert.UpWeightIdeal.main_arg5))
      ∧ θ_run (Cert.UpWeightReferenceIdeal.defs (F := Ideal)) (onTc (τ := Cert.UpWeightReferenceIdeal.τ) (Cert.UpWeightReferenceIdeal.main (F := Ideal))) ⟨m', fun _ => 0, g'⟩ (fun r => ∀ c : Dev Cert.UpWeightReferenceIdeal.nD,
          r.2.mem ((c.tc : Thread Cert.UpWeightReferenceIdeal.nD Cert.UpWeightReferenceIdeal.τ).loc Cert.UpWeightReferenceIdeal.main_v25) = v0 c
          ∧ r.2.mem ((c.tc : Thread Cert.UpWeightReferenceIdeal.nD Cert.UpWeightReferenceIdeal.τ).loc Cert.UpWeightReferenceIdeal.main_arg0) = m' ((c.tc : Thread Cert.UpWeightReferenceIdeal.nD Cert.UpWeightReferenceIdeal.τ).loc Cert.UpWeightReferenceIdeal.main_arg0)
          ∧ r.2.mem ((c.tc : Thread Cert.UpWeightReferenceIdeal.nD Cert.UpWeightReferenceIdeal.τ).loc Cert.UpWeightReferenceIdeal.main_arg1) = m' ((c.tc : Thread Cert.UpWeightReferenceIdeal.nD Cert.UpWeightReferenceIdeal.τ).loc Cert.UpWeightReferenceIdeal.main_arg1)
          ∧ r.2.mem ((c.tc : Thread Cert.UpWeightReferenceIdeal.nD Cert.UpWeightReferenceIdeal.τ).loc Cert.UpWeightReferenceIdeal.main_arg2) = m' ((c.tc : Thread Cert.UpWeightReferenceIdeal.nD Cert.UpWeightReferenceIdeal.τ).loc Cert.UpWeightReferenceIdeal.main_arg2)
          ∧ r.2.mem ((c.tc : Thread Cert.UpWeightReferenceIdeal.nD Cert.UpWeightReferenceIdeal.τ).loc Cert.UpWeightReferenceIdeal.main_arg3) = m' ((c.tc : Thread Cert.UpWeightReferenceIdeal.nD Cert.UpWeightReferenceIdeal.τ).loc Cert.UpWeightReferenceIdeal.main_arg3)
          ∧ r.2.mem ((c.tc : Thread Cert.UpWeightReferenceIdeal.nD Cert.UpWeightReferenceIdeal.τ).loc Cert.UpWeightReferenceIdeal.main_arg4) = m' ((c.tc : Thread Cert.UpWeightReferenceIdeal.nD Cert.UpWeightReferenceIdeal.τ).loc Cert.UpWeightReferenceIdeal.main_arg4)
          ∧ r.2.mem ((c.tc : Thread Cert.UpWeightReferenceIdeal.nD Cert.UpWeightReferenceIdeal.τ).loc Cert.UpWeightReferenceIdeal.main_arg5) = m' ((c.tc : Thread Cert.UpWeightReferenceIdeal.nD Cert.UpWeightReferenceIdeal.τ).loc Cert.UpWeightReferenceIdeal.main_arg5))

def preserves_ForwardPass_ForwardPassIdeal : Prop :=
  True

def algebraic_ForwardPassIdeal_ForwardPassReferenceIdeal [hForwardPassIdeal : Cert.ForwardPassIdeal.Facts] [hForwardPassReferenceIdeal : Cert.ForwardPassReferenceIdeal.Facts] : Prop :=
  ∀ (m : (ℓ : Loc Cert.ForwardPassIdeal.nD Cert.ForwardPassIdeal.τ Cert.ForwardPassIdeal.sig) → Buf (Elt Ideal) ℓ) (g : Dev Cert.ForwardPassIdeal.nD → PrngReg)
    (m' : (ℓ : Loc Cert.ForwardPassReferenceIdeal.nD Cert.ForwardPassReferenceIdeal.τ Cert.ForwardPassReferenceIdeal.sig) → Buf (Elt Ideal) ℓ) (g' : Dev Cert.ForwardPassReferenceIdeal.nD → PrngReg), Pre_ForwardPassIdeal m →
    (∀ c : Dev Cert.ForwardPassIdeal.nD,
      m' ((c.tc : Thread Cert.ForwardPassReferenceIdeal.nD Cert.ForwardPassReferenceIdeal.τ).loc Cert.ForwardPassReferenceIdeal.main_arg0) = m ((c.tc : Thread Cert.ForwardPassIdeal.nD Cert.ForwardPassIdeal.τ).loc Cert.ForwardPassIdeal.main_arg0)
      ∧ m' ((c.tc : Thread Cert.ForwardPassReferenceIdeal.nD Cert.ForwardPassReferenceIdeal.τ).loc Cert.ForwardPassReferenceIdeal.main_arg1) = m ((c.tc : Thread Cert.ForwardPassIdeal.nD Cert.ForwardPassIdeal.τ).loc Cert.ForwardPassIdeal.main_arg1)
      ∧ m' ((c.tc : Thread Cert.ForwardPassReferenceIdeal.nD Cert.ForwardPassReferenceIdeal.τ).loc Cert.ForwardPassReferenceIdeal.main_arg2) = m ((c.tc : Thread Cert.ForwardPassIdeal.nD Cert.ForwardPassIdeal.τ).loc Cert.ForwardPassIdeal.main_arg2)
      ∧ m' ((c.tc : Thread Cert.ForwardPassReferenceIdeal.nD Cert.ForwardPassReferenceIdeal.τ).loc Cert.ForwardPassReferenceIdeal.main_arg3) = m ((c.tc : Thread Cert.ForwardPassIdeal.nD Cert.ForwardPassIdeal.τ).loc Cert.ForwardPassIdeal.main_arg3)
      ∧ m' ((c.tc : Thread Cert.ForwardPassReferenceIdeal.nD Cert.ForwardPassReferenceIdeal.τ).loc Cert.ForwardPassReferenceIdeal.main_arg4) = m ((c.tc : Thread Cert.ForwardPassIdeal.nD Cert.ForwardPassIdeal.τ).loc Cert.ForwardPassIdeal.main_arg4)
      ∧ m' ((c.tc : Thread Cert.ForwardPassReferenceIdeal.nD Cert.ForwardPassReferenceIdeal.τ).loc Cert.ForwardPassReferenceIdeal.main_arg5) = m ((c.tc : Thread Cert.ForwardPassIdeal.nD Cert.ForwardPassIdeal.τ).loc Cert.ForwardPassIdeal.main_arg5)
      ∧ m' ((c.tc : Thread Cert.ForwardPassReferenceIdeal.nD Cert.ForwardPassReferenceIdeal.τ).loc Cert.ForwardPassReferenceIdeal.main_arg6) = m ((c.tc : Thread Cert.ForwardPassIdeal.nD Cert.ForwardPassIdeal.τ).loc Cert.ForwardPassIdeal.main_arg6)) →
    ∃ (v0 : (c : Dev Cert.ForwardPassIdeal.nD) → Buf (Elt Ideal) ((c.tc : Thread Cert.ForwardPassIdeal.nD Cert.ForwardPassIdeal.τ).loc Cert.ForwardPassIdeal.main_v10_0)) (v1 : (c : Dev Cert.ForwardPassIdeal.nD) → Buf (Elt Ideal) ((c.tc : Thread Cert.ForwardPassIdeal.nD Cert.ForwardPassIdeal.τ).loc Cert.ForwardPassIdeal.main_v10_1)) (v2 : (c : Dev Cert.ForwardPassIdeal.nD) → Buf (Elt Ideal) ((c.tc : Thread Cert.ForwardPassIdeal.nD Cert.ForwardPassIdeal.τ).loc Cert.ForwardPassIdeal.main_v10_2)) (v3 : (c : Dev Cert.ForwardPassIdeal.nD) → Buf (Elt Ideal) ((c.tc : Thread Cert.ForwardPassIdeal.nD Cert.ForwardPassIdeal.τ).loc Cert.ForwardPassIdeal.main_v10_3)) (v4 : (c : Dev Cert.ForwardPassIdeal.nD) → Buf (Elt Ideal) ((c.tc : Thread Cert.ForwardPassIdeal.nD Cert.ForwardPassIdeal.τ).loc Cert.ForwardPassIdeal.main_v10_4)) (v5 : (c : Dev Cert.ForwardPassIdeal.nD) → Buf (Elt Ideal) ((c.tc : Thread Cert.ForwardPassIdeal.nD Cert.ForwardPassIdeal.τ).loc Cert.ForwardPassIdeal.main_v10_5)),
      θ_run (Cert.ForwardPassIdeal.defs (F := Ideal)) (onTc (τ := Cert.ForwardPassIdeal.τ) (Cert.ForwardPassIdeal.main (F := Ideal))) ⟨m, fun _ => 0, g⟩ (fun r => ∀ c : Dev Cert.ForwardPassIdeal.nD,
          r.2.mem ((c.tc : Thread Cert.ForwardPassIdeal.nD Cert.ForwardPassIdeal.τ).loc Cert.ForwardPassIdeal.main_v10_0) = v0 c
          ∧ r.2.mem ((c.tc : Thread Cert.ForwardPassIdeal.nD Cert.ForwardPassIdeal.τ).loc Cert.ForwardPassIdeal.main_v10_1) = v1 c
          ∧ r.2.mem ((c.tc : Thread Cert.ForwardPassIdeal.nD Cert.ForwardPassIdeal.τ).loc Cert.ForwardPassIdeal.main_v10_2) = v2 c
          ∧ r.2.mem ((c.tc : Thread Cert.ForwardPassIdeal.nD Cert.ForwardPassIdeal.τ).loc Cert.ForwardPassIdeal.main_v10_3) = v3 c
          ∧ r.2.mem ((c.tc : Thread Cert.ForwardPassIdeal.nD Cert.ForwardPassIdeal.τ).loc Cert.ForwardPassIdeal.main_v10_4) = v4 c
          ∧ r.2.mem ((c.tc : Thread Cert.ForwardPassIdeal.nD Cert.ForwardPassIdeal.τ).loc Cert.ForwardPassIdeal.main_v10_5) = v5 c
          ∧ r.2.mem ((c.tc : Thread Cert.ForwardPassIdeal.nD Cert.ForwardPassIdeal.τ).loc Cert.ForwardPassIdeal.main_arg0) = m ((c.tc : Thread Cert.ForwardPassIdeal.nD Cert.ForwardPassIdeal.τ).loc Cert.ForwardPassIdeal.main_arg0)
          ∧ r.2.mem ((c.tc : Thread Cert.ForwardPassIdeal.nD Cert.ForwardPassIdeal.τ).loc Cert.ForwardPassIdeal.main_arg1) = m ((c.tc : Thread Cert.ForwardPassIdeal.nD Cert.ForwardPassIdeal.τ).loc Cert.ForwardPassIdeal.main_arg1)
          ∧ r.2.mem ((c.tc : Thread Cert.ForwardPassIdeal.nD Cert.ForwardPassIdeal.τ).loc Cert.ForwardPassIdeal.main_arg2) = m ((c.tc : Thread Cert.ForwardPassIdeal.nD Cert.ForwardPassIdeal.τ).loc Cert.ForwardPassIdeal.main_arg2)
          ∧ r.2.mem ((c.tc : Thread Cert.ForwardPassIdeal.nD Cert.ForwardPassIdeal.τ).loc Cert.ForwardPassIdeal.main_arg3) = m ((c.tc : Thread Cert.ForwardPassIdeal.nD Cert.ForwardPassIdeal.τ).loc Cert.ForwardPassIdeal.main_arg3)
          ∧ r.2.mem ((c.tc : Thread Cert.ForwardPassIdeal.nD Cert.ForwardPassIdeal.τ).loc Cert.ForwardPassIdeal.main_arg4) = m ((c.tc : Thread Cert.ForwardPassIdeal.nD Cert.ForwardPassIdeal.τ).loc Cert.ForwardPassIdeal.main_arg4)
          ∧ r.2.mem ((c.tc : Thread Cert.ForwardPassIdeal.nD Cert.ForwardPassIdeal.τ).loc Cert.ForwardPassIdeal.main_arg5) = m ((c.tc : Thread Cert.ForwardPassIdeal.nD Cert.ForwardPassIdeal.τ).loc Cert.ForwardPassIdeal.main_arg5)
          ∧ r.2.mem ((c.tc : Thread Cert.ForwardPassIdeal.nD Cert.ForwardPassIdeal.τ).loc Cert.ForwardPassIdeal.main_arg6) = m ((c.tc : Thread Cert.ForwardPassIdeal.nD Cert.ForwardPassIdeal.τ).loc Cert.ForwardPassIdeal.main_arg6))
      ∧ θ_run (Cert.ForwardPassReferenceIdeal.defs (F := Ideal)) (onTc (τ := Cert.ForwardPassReferenceIdeal.τ) (Cert.ForwardPassReferenceIdeal.main (F := Ideal))) ⟨m', fun _ => 0, g'⟩ (fun r => ∀ c : Dev Cert.ForwardPassReferenceIdeal.nD,
          r.2.mem ((c.tc : Thread Cert.ForwardPassReferenceIdeal.nD Cert.ForwardPassReferenceIdeal.τ).loc Cert.ForwardPassReferenceIdeal.main_v40) = v0 c
          ∧ r.2.mem ((c.tc : Thread Cert.ForwardPassReferenceIdeal.nD Cert.ForwardPassReferenceIdeal.τ).loc Cert.ForwardPassReferenceIdeal.main_v43) = v1 c
          ∧ r.2.mem ((c.tc : Thread Cert.ForwardPassReferenceIdeal.nD Cert.ForwardPassReferenceIdeal.τ).loc Cert.ForwardPassReferenceIdeal.main_v45) = v2 c
          ∧ r.2.mem ((c.tc : Thread Cert.ForwardPassReferenceIdeal.nD Cert.ForwardPassReferenceIdeal.τ).loc Cert.ForwardPassReferenceIdeal.main_v47) = v3 c
          ∧ r.2.mem ((c.tc : Thread Cert.ForwardPassReferenceIdeal.nD Cert.ForwardPassReferenceIdeal.τ).loc Cert.ForwardPassReferenceIdeal.main_v48) = v4 c
          ∧ r.2.mem ((c.tc : Thread Cert.ForwardPassReferenceIdeal.nD Cert.ForwardPassReferenceIdeal.τ).loc Cert.ForwardPassReferenceIdeal.main_v50) = v5 c
          ∧ r.2.mem ((c.tc : Thread Cert.ForwardPassReferenceIdeal.nD Cert.ForwardPassReferenceIdeal.τ).loc Cert.ForwardPassReferenceIdeal.main_arg0) = m' ((c.tc : Thread Cert.ForwardPassReferenceIdeal.nD Cert.ForwardPassReferenceIdeal.τ).loc Cert.ForwardPassReferenceIdeal.main_arg0)
          ∧ r.2.mem ((c.tc : Thread Cert.ForwardPassReferenceIdeal.nD Cert.ForwardPassReferenceIdeal.τ).loc Cert.ForwardPassReferenceIdeal.main_arg1) = m' ((c.tc : Thread Cert.ForwardPassReferenceIdeal.nD Cert.ForwardPassReferenceIdeal.τ).loc Cert.ForwardPassReferenceIdeal.main_arg1)
          ∧ r.2.mem ((c.tc : Thread Cert.ForwardPassReferenceIdeal.nD Cert.ForwardPassReferenceIdeal.τ).loc Cert.ForwardPassReferenceIdeal.main_arg2) = m' ((c.tc : Thread Cert.ForwardPassReferenceIdeal.nD Cert.ForwardPassReferenceIdeal.τ).loc Cert.ForwardPassReferenceIdeal.main_arg2)
          ∧ r.2.mem ((c.tc : Thread Cert.ForwardPassReferenceIdeal.nD Cert.ForwardPassReferenceIdeal.τ).loc Cert.ForwardPassReferenceIdeal.main_arg3) = m' ((c.tc : Thread Cert.ForwardPassReferenceIdeal.nD Cert.ForwardPassReferenceIdeal.τ).loc Cert.ForwardPassReferenceIdeal.main_arg3)
          ∧ r.2.mem ((c.tc : Thread Cert.ForwardPassReferenceIdeal.nD Cert.ForwardPassReferenceIdeal.τ).loc Cert.ForwardPassReferenceIdeal.main_arg4) = m' ((c.tc : Thread Cert.ForwardPassReferenceIdeal.nD Cert.ForwardPassReferenceIdeal.τ).loc Cert.ForwardPassReferenceIdeal.main_arg4)
          ∧ r.2.mem ((c.tc : Thread Cert.ForwardPassReferenceIdeal.nD Cert.ForwardPassReferenceIdeal.τ).loc Cert.ForwardPassReferenceIdeal.main_arg5) = m' ((c.tc : Thread Cert.ForwardPassReferenceIdeal.nD Cert.ForwardPassReferenceIdeal.τ).loc Cert.ForwardPassReferenceIdeal.main_arg5)
          ∧ r.2.mem ((c.tc : Thread Cert.ForwardPassReferenceIdeal.nD Cert.ForwardPassReferenceIdeal.τ).loc Cert.ForwardPassReferenceIdeal.main_arg6) = m' ((c.tc : Thread Cert.ForwardPassReferenceIdeal.nD Cert.ForwardPassReferenceIdeal.τ).loc Cert.ForwardPassReferenceIdeal.main_arg6))

def preserves_Mixer_MixerIdeal : Prop :=
  True

def algebraic_MixerIdeal_MixerReferenceIdeal_pre_finite_projection [hMixerIdeal : Cert.MixerIdeal.Facts] [hMixerReferenceIdeal : Cert.MixerReferenceIdeal.Facts] [hPre_finite_projection : Cert.Pre_finite_projection.Facts] : Prop :=
  ∀ (m : (ℓ : Loc Cert.MixerIdeal.nD Cert.MixerIdeal.τ Cert.MixerIdeal.sig) → Buf (Elt Ideal) ℓ) (g : Dev Cert.MixerIdeal.nD → PrngReg)
    (m' : (ℓ : Loc Cert.MixerReferenceIdeal.nD Cert.MixerReferenceIdeal.τ Cert.MixerReferenceIdeal.sig) → Buf (Elt Ideal) ℓ) (g' : Dev Cert.MixerReferenceIdeal.nD → PrngReg), Pre_MixerIdeal_finite_projection m →
    (∀ c : Dev Cert.MixerIdeal.nD,
      m' ((c.tc : Thread Cert.MixerReferenceIdeal.nD Cert.MixerReferenceIdeal.τ).loc Cert.MixerReferenceIdeal.main_arg0) = m ((c.tc : Thread Cert.MixerIdeal.nD Cert.MixerIdeal.τ).loc Cert.MixerIdeal.main_arg0)
      ∧ m' ((c.tc : Thread Cert.MixerReferenceIdeal.nD Cert.MixerReferenceIdeal.τ).loc Cert.MixerReferenceIdeal.main_arg1) = m ((c.tc : Thread Cert.MixerIdeal.nD Cert.MixerIdeal.τ).loc Cert.MixerIdeal.main_arg1)
      ∧ m' ((c.tc : Thread Cert.MixerReferenceIdeal.nD Cert.MixerReferenceIdeal.τ).loc Cert.MixerReferenceIdeal.main_arg2) = m ((c.tc : Thread Cert.MixerIdeal.nD Cert.MixerIdeal.τ).loc Cert.MixerIdeal.main_arg2)
      ∧ m' ((c.tc : Thread Cert.MixerReferenceIdeal.nD Cert.MixerReferenceIdeal.τ).loc Cert.MixerReferenceIdeal.main_arg3) = m ((c.tc : Thread Cert.MixerIdeal.nD Cert.MixerIdeal.τ).loc Cert.MixerIdeal.main_arg3)
      ∧ m' ((c.tc : Thread Cert.MixerReferenceIdeal.nD Cert.MixerReferenceIdeal.τ).loc Cert.MixerReferenceIdeal.main_arg4) = m ((c.tc : Thread Cert.MixerIdeal.nD Cert.MixerIdeal.τ).loc Cert.MixerIdeal.main_arg4)
      ∧ m' ((c.tc : Thread Cert.MixerReferenceIdeal.nD Cert.MixerReferenceIdeal.τ).loc Cert.MixerReferenceIdeal.main_arg5) = m ((c.tc : Thread Cert.MixerIdeal.nD Cert.MixerIdeal.τ).loc Cert.MixerIdeal.main_arg5)
      ∧ m' ((c.tc : Thread Cert.MixerReferenceIdeal.nD Cert.MixerReferenceIdeal.τ).loc Cert.MixerReferenceIdeal.main_arg6) = m ((c.tc : Thread Cert.MixerIdeal.nD Cert.MixerIdeal.τ).loc Cert.MixerIdeal.main_arg6)
      ∧ m' ((c.tc : Thread Cert.MixerReferenceIdeal.nD Cert.MixerReferenceIdeal.τ).loc Cert.MixerReferenceIdeal.main_arg7) = m ((c.tc : Thread Cert.MixerIdeal.nD Cert.MixerIdeal.τ).loc Cert.MixerIdeal.main_arg7)
      ∧ m' ((c.tc : Thread Cert.MixerReferenceIdeal.nD Cert.MixerReferenceIdeal.τ).loc Cert.MixerReferenceIdeal.main_arg8) = m ((c.tc : Thread Cert.MixerIdeal.nD Cert.MixerIdeal.τ).loc Cert.MixerIdeal.main_arg8)
      ∧ m' ((c.tc : Thread Cert.MixerReferenceIdeal.nD Cert.MixerReferenceIdeal.τ).loc Cert.MixerReferenceIdeal.main_arg9) = m ((c.tc : Thread Cert.MixerIdeal.nD Cert.MixerIdeal.τ).loc Cert.MixerIdeal.main_arg9)
      ∧ m' ((c.tc : Thread Cert.MixerReferenceIdeal.nD Cert.MixerReferenceIdeal.τ).loc Cert.MixerReferenceIdeal.main_arg10) = m ((c.tc : Thread Cert.MixerIdeal.nD Cert.MixerIdeal.τ).loc Cert.MixerIdeal.main_arg10)
      ∧ m' ((c.tc : Thread Cert.MixerReferenceIdeal.nD Cert.MixerReferenceIdeal.τ).loc Cert.MixerReferenceIdeal.main_arg11) = m ((c.tc : Thread Cert.MixerIdeal.nD Cert.MixerIdeal.τ).loc Cert.MixerIdeal.main_arg11)
      ∧ m' ((c.tc : Thread Cert.MixerReferenceIdeal.nD Cert.MixerReferenceIdeal.τ).loc Cert.MixerReferenceIdeal.main_arg12) = m ((c.tc : Thread Cert.MixerIdeal.nD Cert.MixerIdeal.τ).loc Cert.MixerIdeal.main_arg12)) →
    ∃ (v0 : (c : Dev Cert.MixerIdeal.nD) → Buf (Elt Ideal) ((c.tc : Thread Cert.MixerIdeal.nD Cert.MixerIdeal.τ).loc Cert.MixerIdeal.main_v41_0)) (v1 : (c : Dev Cert.MixerIdeal.nD) → Buf (Elt Ideal) ((c.tc : Thread Cert.MixerIdeal.nD Cert.MixerIdeal.τ).loc Cert.MixerIdeal.main_v41_1)) (v2 : (c : Dev Cert.MixerIdeal.nD) → Buf (Elt Ideal) ((c.tc : Thread Cert.MixerIdeal.nD Cert.MixerIdeal.τ).loc Cert.MixerIdeal.main_v41_2)) (v3 : (c : Dev Cert.MixerIdeal.nD) → Buf (Elt Ideal) ((c.tc : Thread Cert.MixerIdeal.nD Cert.MixerIdeal.τ).loc Cert.MixerIdeal.main_v41_3)) (v4 : (c : Dev Cert.MixerIdeal.nD) → Buf (Elt Ideal) ((c.tc : Thread Cert.MixerIdeal.nD Cert.MixerIdeal.τ).loc Cert.MixerIdeal.main_v41_4)),
      θ_run (Cert.MixerIdeal.defs (F := Ideal)) (onTc (τ := Cert.MixerIdeal.τ) (Cert.MixerIdeal.main (F := Ideal))) ⟨m, fun _ => 0, g⟩ (fun r => ∀ c : Dev Cert.MixerIdeal.nD,
          r.2.mem ((c.tc : Thread Cert.MixerIdeal.nD Cert.MixerIdeal.τ).loc Cert.MixerIdeal.main_v41_0) = v0 c
          ∧ r.2.mem ((c.tc : Thread Cert.MixerIdeal.nD Cert.MixerIdeal.τ).loc Cert.MixerIdeal.main_v41_1) = v1 c
          ∧ r.2.mem ((c.tc : Thread Cert.MixerIdeal.nD Cert.MixerIdeal.τ).loc Cert.MixerIdeal.main_v41_2) = v2 c
          ∧ r.2.mem ((c.tc : Thread Cert.MixerIdeal.nD Cert.MixerIdeal.τ).loc Cert.MixerIdeal.main_v41_3) = v3 c
          ∧ r.2.mem ((c.tc : Thread Cert.MixerIdeal.nD Cert.MixerIdeal.τ).loc Cert.MixerIdeal.main_v41_4) = v4 c
          ∧ r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
          ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
          ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
          ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
          ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
          ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
          ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
          ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
          ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
          ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9)
          ∧ r.2.mem ((c.tc : Thread Cert.MixerIdeal.nD Cert.MixerIdeal.τ).loc Cert.MixerIdeal.main_arg10) = m ((c.tc : Thread Cert.MixerIdeal.nD Cert.MixerIdeal.τ).loc Cert.MixerIdeal.main_arg10)
          ∧ r.2.mem ((c.tc : Thread Cert.MixerIdeal.nD Cert.MixerIdeal.τ).loc Cert.MixerIdeal.main_arg11) = m ((c.tc : Thread Cert.MixerIdeal.nD Cert.MixerIdeal.τ).loc Cert.MixerIdeal.main_arg11)
          ∧ r.2.mem ((c.tc : Thread Cert.MixerIdeal.nD Cert.MixerIdeal.τ).loc Cert.MixerIdeal.main_arg12) = m ((c.tc : Thread Cert.MixerIdeal.nD Cert.MixerIdeal.τ).loc Cert.MixerIdeal.main_arg12))
      ∧ θ_run (Cert.MixerReferenceIdeal.defs (F := Ideal)) (onTc (τ := Cert.MixerReferenceIdeal.τ) (Cert.MixerReferenceIdeal.main (F := Ideal))) ⟨m', fun _ => 0, g'⟩ (fun r => ∀ c : Dev Cert.MixerReferenceIdeal.nD,
          r.2.mem ((c.tc : Thread Cert.MixerReferenceIdeal.nD Cert.MixerReferenceIdeal.τ).loc Cert.MixerReferenceIdeal.main_v138) = v0 c
          ∧ r.2.mem ((c.tc : Thread Cert.MixerReferenceIdeal.nD Cert.MixerReferenceIdeal.τ).loc Cert.MixerReferenceIdeal.main_v140) = v1 c
          ∧ r.2.mem ((c.tc : Thread Cert.MixerReferenceIdeal.nD Cert.MixerReferenceIdeal.τ).loc Cert.MixerReferenceIdeal.main_v142) = v2 c
          ∧ r.2.mem ((c.tc : Thread Cert.MixerReferenceIdeal.nD Cert.MixerReferenceIdeal.τ).loc Cert.MixerReferenceIdeal.main_v143) = v3 c
          ∧ r.2.mem ((c.tc : Thread Cert.MixerReferenceIdeal.nD Cert.MixerReferenceIdeal.τ).loc Cert.MixerReferenceIdeal.main_v145) = v4 c
          ∧ r.2.mem ((c.tc : Thread Cert.MixerReferenceIdeal.nD Cert.MixerReferenceIdeal.τ).loc Cert.MixerReferenceIdeal.main_arg0) = m' ((c.tc : Thread Cert.MixerReferenceIdeal.nD Cert.MixerReferenceIdeal.τ).loc Cert.MixerReferenceIdeal.main_arg0)
          ∧ r.2.mem ((c.tc : Thread Cert.MixerReferenceIdeal.nD Cert.MixerReferenceIdeal.τ).loc Cert.MixerReferenceIdeal.main_arg1) = m' ((c.tc : Thread Cert.MixerReferenceIdeal.nD Cert.MixerReferenceIdeal.τ).loc Cert.MixerReferenceIdeal.main_arg1)
          ∧ r.2.mem ((c.tc : Thread Cert.MixerReferenceIdeal.nD Cert.MixerReferenceIdeal.τ).loc Cert.MixerReferenceIdeal.main_arg2) = m' ((c.tc : Thread Cert.MixerReferenceIdeal.nD Cert.MixerReferenceIdeal.τ).loc Cert.MixerReferenceIdeal.main_arg2)
          ∧ r.2.mem ((c.tc : Thread Cert.MixerReferenceIdeal.nD Cert.MixerReferenceIdeal.τ).loc Cert.MixerReferenceIdeal.main_arg3) = m' ((c.tc : Thread Cert.MixerReferenceIdeal.nD Cert.MixerReferenceIdeal.τ).loc Cert.MixerReferenceIdeal.main_arg3)
          ∧ r.2.mem ((c.tc : Thread Cert.MixerReferenceIdeal.nD Cert.MixerReferenceIdeal.τ).loc Cert.MixerReferenceIdeal.main_arg4) = m' ((c.tc : Thread Cert.MixerReferenceIdeal.nD Cert.MixerReferenceIdeal.τ).loc Cert.MixerReferenceIdeal.main_arg4)
          ∧ r.2.mem ((c.tc : Thread Cert.MixerReferenceIdeal.nD Cert.MixerReferenceIdeal.τ).loc Cert.MixerReferenceIdeal.main_arg5) = m' ((c.tc : Thread Cert.MixerReferenceIdeal.nD Cert.MixerReferenceIdeal.τ).loc Cert.MixerReferenceIdeal.main_arg5)
          ∧ r.2.mem ((c.tc : Thread Cert.MixerReferenceIdeal.nD Cert.MixerReferenceIdeal.τ).loc Cert.MixerReferenceIdeal.main_arg6) = m' ((c.tc : Thread Cert.MixerReferenceIdeal.nD Cert.MixerReferenceIdeal.τ).loc Cert.MixerReferenceIdeal.main_arg6)
          ∧ r.2.mem ((c.tc : Thread Cert.MixerReferenceIdeal.nD Cert.MixerReferenceIdeal.τ).loc Cert.MixerReferenceIdeal.main_arg7) = m' ((c.tc : Thread Cert.MixerReferenceIdeal.nD Cert.MixerReferenceIdeal.τ).loc Cert.MixerReferenceIdeal.main_arg7)
          ∧ r.2.mem ((c.tc : Thread Cert.MixerReferenceIdeal.nD Cert.MixerReferenceIdeal.τ).loc Cert.MixerReferenceIdeal.main_arg8) = m' ((c.tc : Thread Cert.MixerReferenceIdeal.nD Cert.MixerReferenceIdeal.τ).loc Cert.MixerReferenceIdeal.main_arg8)
          ∧ r.2.mem ((c.tc : Thread Cert.MixerReferenceIdeal.nD Cert.MixerReferenceIdeal.τ).loc Cert.MixerReferenceIdeal.main_arg9) = m' ((c.tc : Thread Cert.MixerReferenceIdeal.nD Cert.MixerReferenceIdeal.τ).loc Cert.MixerReferenceIdeal.main_arg9)
          ∧ r.2.mem ((c.tc : Thread Cert.MixerReferenceIdeal.nD Cert.MixerReferenceIdeal.τ).loc Cert.MixerReferenceIdeal.main_arg10) = m' ((c.tc : Thread Cert.MixerReferenceIdeal.nD Cert.MixerReferenceIdeal.τ).loc Cert.MixerReferenceIdeal.main_arg10)
          ∧ r.2.mem ((c.tc : Thread Cert.MixerReferenceIdeal.nD Cert.MixerReferenceIdeal.τ).loc Cert.MixerReferenceIdeal.main_arg11) = m' ((c.tc : Thread Cert.MixerReferenceIdeal.nD Cert.MixerReferenceIdeal.τ).loc Cert.MixerReferenceIdeal.main_arg11)
          ∧ r.2.mem ((c.tc : Thread Cert.MixerReferenceIdeal.nD Cert.MixerReferenceIdeal.τ).loc Cert.MixerReferenceIdeal.main_arg12) = m' ((c.tc : Thread Cert.MixerReferenceIdeal.nD Cert.MixerReferenceIdeal.τ).loc Cert.MixerReferenceIdeal.main_arg12))

def preserves_InWeight_InWeightIdeal : Prop :=
  True

def algebraic_InWeightIdeal_InWeightReferenceIdeal [hInWeightIdeal : Cert.InWeightIdeal.Facts] [hInWeightReferenceIdeal : Cert.InWeightReferenceIdeal.Facts] : Prop :=
  ∀ (m : (ℓ : Loc Cert.InWeightIdeal.nD Cert.InWeightIdeal.τ Cert.InWeightIdeal.sig) → Buf (Elt Ideal) ℓ) (g : Dev Cert.InWeightIdeal.nD → PrngReg)
    (m' : (ℓ : Loc Cert.InWeightReferenceIdeal.nD Cert.InWeightReferenceIdeal.τ Cert.InWeightReferenceIdeal.sig) → Buf (Elt Ideal) ℓ) (g' : Dev Cert.InWeightReferenceIdeal.nD → PrngReg), Pre_InWeightIdeal m →
    (∀ c : Dev Cert.InWeightIdeal.nD,
      m' ((c.tc : Thread Cert.InWeightReferenceIdeal.nD Cert.InWeightReferenceIdeal.τ).loc Cert.InWeightReferenceIdeal.main_arg0) = m ((c.tc : Thread Cert.InWeightIdeal.nD Cert.InWeightIdeal.τ).loc Cert.InWeightIdeal.main_arg0)
      ∧ m' ((c.tc : Thread Cert.InWeightReferenceIdeal.nD Cert.InWeightReferenceIdeal.τ).loc Cert.InWeightReferenceIdeal.main_arg1) = m ((c.tc : Thread Cert.InWeightIdeal.nD Cert.InWeightIdeal.τ).loc Cert.InWeightIdeal.main_arg1)
      ∧ m' ((c.tc : Thread Cert.InWeightReferenceIdeal.nD Cert.InWeightReferenceIdeal.τ).loc Cert.InWeightReferenceIdeal.main_arg2) = m ((c.tc : Thread Cert.InWeightIdeal.nD Cert.InWeightIdeal.τ).loc Cert.InWeightIdeal.main_arg2)
      ∧ m' ((c.tc : Thread Cert.InWeightReferenceIdeal.nD Cert.InWeightReferenceIdeal.τ).loc Cert.InWeightReferenceIdeal.main_arg3) = m ((c.tc : Thread Cert.InWeightIdeal.nD Cert.InWeightIdeal.τ).loc Cert.InWeightIdeal.main_arg3)
      ∧ m' ((c.tc : Thread Cert.InWeightReferenceIdeal.nD Cert.InWeightReferenceIdeal.τ).loc Cert.InWeightReferenceIdeal.main_arg4) = m ((c.tc : Thread Cert.InWeightIdeal.nD Cert.InWeightIdeal.τ).loc Cert.InWeightIdeal.main_arg4)
      ∧ m' ((c.tc : Thread Cert.InWeightReferenceIdeal.nD Cert.InWeightReferenceIdeal.τ).loc Cert.InWeightReferenceIdeal.main_arg5) = m ((c.tc : Thread Cert.InWeightIdeal.nD Cert.InWeightIdeal.τ).loc Cert.InWeightIdeal.main_arg5)) →
    ∃ (v0 : (c : Dev Cert.InWeightIdeal.nD) → Buf (Elt Ideal) ((c.tc : Thread Cert.InWeightIdeal.nD Cert.InWeightIdeal.τ).loc Cert.InWeightIdeal.main_v25)),
      θ_run (Cert.InWeightIdeal.defs (F := Ideal)) (onTc (τ := Cert.InWeightIdeal.τ) (Cert.InWeightIdeal.main (F := Ideal))) ⟨m, fun _ => 0, g⟩ (fun r => ∀ c : Dev Cert.InWeightIdeal.nD,
          r.2.mem ((c.tc : Thread Cert.InWeightIdeal.nD Cert.InWeightIdeal.τ).loc Cert.InWeightIdeal.main_v25) = v0 c
          ∧ r.2.mem ((c.tc : Thread Cert.InWeightIdeal.nD Cert.InWeightIdeal.τ).loc Cert.InWeightIdeal.main_arg0) = m ((c.tc : Thread Cert.InWeightIdeal.nD Cert.InWeightIdeal.τ).loc Cert.InWeightIdeal.main_arg0)
          ∧ r.2.mem ((c.tc : Thread Cert.InWeightIdeal.nD Cert.InWeightIdeal.τ).loc Cert.InWeightIdeal.main_arg1) = m ((c.tc : Thread Cert.InWeightIdeal.nD Cert.InWeightIdeal.τ).loc Cert.InWeightIdeal.main_arg1)
          ∧ r.2.mem ((c.tc : Thread Cert.InWeightIdeal.nD Cert.InWeightIdeal.τ).loc Cert.InWeightIdeal.main_arg2) = m ((c.tc : Thread Cert.InWeightIdeal.nD Cert.InWeightIdeal.τ).loc Cert.InWeightIdeal.main_arg2)
          ∧ r.2.mem ((c.tc : Thread Cert.InWeightIdeal.nD Cert.InWeightIdeal.τ).loc Cert.InWeightIdeal.main_arg3) = m ((c.tc : Thread Cert.InWeightIdeal.nD Cert.InWeightIdeal.τ).loc Cert.InWeightIdeal.main_arg3)
          ∧ r.2.mem ((c.tc : Thread Cert.InWeightIdeal.nD Cert.InWeightIdeal.τ).loc Cert.InWeightIdeal.main_arg4) = m ((c.tc : Thread Cert.InWeightIdeal.nD Cert.InWeightIdeal.τ).loc Cert.InWeightIdeal.main_arg4)
          ∧ r.2.mem ((c.tc : Thread Cert.InWeightIdeal.nD Cert.InWeightIdeal.τ).loc Cert.InWeightIdeal.main_arg5) = m ((c.tc : Thread Cert.InWeightIdeal.nD Cert.InWeightIdeal.τ).loc Cert.InWeightIdeal.main_arg5))
      ∧ θ_run (Cert.InWeightReferenceIdeal.defs (F := Ideal)) (onTc (τ := Cert.InWeightReferenceIdeal.τ) (Cert.InWeightReferenceIdeal.main (F := Ideal))) ⟨m', fun _ => 0, g'⟩ (fun r => ∀ c : Dev Cert.InWeightReferenceIdeal.nD,
          r.2.mem ((c.tc : Thread Cert.InWeightReferenceIdeal.nD Cert.InWeightReferenceIdeal.τ).loc Cert.InWeightReferenceIdeal.main_v25) = v0 c
          ∧ r.2.mem ((c.tc : Thread Cert.InWeightReferenceIdeal.nD Cert.InWeightReferenceIdeal.τ).loc Cert.InWeightReferenceIdeal.main_arg0) = m' ((c.tc : Thread Cert.InWeightReferenceIdeal.nD Cert.InWeightReferenceIdeal.τ).loc Cert.InWeightReferenceIdeal.main_arg0)
          ∧ r.2.mem ((c.tc : Thread Cert.InWeightReferenceIdeal.nD Cert.InWeightReferenceIdeal.τ).loc Cert.InWeightReferenceIdeal.main_arg1) = m' ((c.tc : Thread Cert.InWeightReferenceIdeal.nD Cert.InWeightReferenceIdeal.τ).loc Cert.InWeightReferenceIdeal.main_arg1)
          ∧ r.2.mem ((c.tc : Thread Cert.InWeightReferenceIdeal.nD Cert.InWeightReferenceIdeal.τ).loc Cert.InWeightReferenceIdeal.main_arg2) = m' ((c.tc : Thread Cert.InWeightReferenceIdeal.nD Cert.InWeightReferenceIdeal.τ).loc Cert.InWeightReferenceIdeal.main_arg2)
          ∧ r.2.mem ((c.tc : Thread Cert.InWeightReferenceIdeal.nD Cert.InWeightReferenceIdeal.τ).loc Cert.InWeightReferenceIdeal.main_arg3) = m' ((c.tc : Thread Cert.InWeightReferenceIdeal.nD Cert.InWeightReferenceIdeal.τ).loc Cert.InWeightReferenceIdeal.main_arg3)
          ∧ r.2.mem ((c.tc : Thread Cert.InWeightReferenceIdeal.nD Cert.InWeightReferenceIdeal.τ).loc Cert.InWeightReferenceIdeal.main_arg4) = m' ((c.tc : Thread Cert.InWeightReferenceIdeal.nD Cert.InWeightReferenceIdeal.τ).loc Cert.InWeightReferenceIdeal.main_arg4)
          ∧ r.2.mem ((c.tc : Thread Cert.InWeightReferenceIdeal.nD Cert.InWeightReferenceIdeal.τ).loc Cert.InWeightReferenceIdeal.main_arg5) = m' ((c.tc : Thread Cert.InWeightReferenceIdeal.nD Cert.InWeightReferenceIdeal.τ).loc Cert.InWeightReferenceIdeal.main_arg5))

def preserves_OutWeight_OutWeightIdeal : Prop :=
  True

def algebraic_OutWeightIdeal_OutWeightReferenceIdeal [hOutWeightIdeal : Cert.OutWeightIdeal.Facts] [hOutWeightReferenceIdeal : Cert.OutWeightReferenceIdeal.Facts] : Prop :=
  ∀ (m : (ℓ : Loc Cert.OutWeightIdeal.nD Cert.OutWeightIdeal.τ Cert.OutWeightIdeal.sig) → Buf (Elt Ideal) ℓ) (g : Dev Cert.OutWeightIdeal.nD → PrngReg)
    (m' : (ℓ : Loc Cert.OutWeightReferenceIdeal.nD Cert.OutWeightReferenceIdeal.τ Cert.OutWeightReferenceIdeal.sig) → Buf (Elt Ideal) ℓ) (g' : Dev Cert.OutWeightReferenceIdeal.nD → PrngReg), Pre_OutWeightIdeal m →
    (∀ c : Dev Cert.OutWeightIdeal.nD,
      m' ((c.tc : Thread Cert.OutWeightReferenceIdeal.nD Cert.OutWeightReferenceIdeal.τ).loc Cert.OutWeightReferenceIdeal.main_arg0) = m ((c.tc : Thread Cert.OutWeightIdeal.nD Cert.OutWeightIdeal.τ).loc Cert.OutWeightIdeal.main_arg0)
      ∧ m' ((c.tc : Thread Cert.OutWeightReferenceIdeal.nD Cert.OutWeightReferenceIdeal.τ).loc Cert.OutWeightReferenceIdeal.main_arg1) = m ((c.tc : Thread Cert.OutWeightIdeal.nD Cert.OutWeightIdeal.τ).loc Cert.OutWeightIdeal.main_arg1)
      ∧ m' ((c.tc : Thread Cert.OutWeightReferenceIdeal.nD Cert.OutWeightReferenceIdeal.τ).loc Cert.OutWeightReferenceIdeal.main_arg2) = m ((c.tc : Thread Cert.OutWeightIdeal.nD Cert.OutWeightIdeal.τ).loc Cert.OutWeightIdeal.main_arg2)
      ∧ m' ((c.tc : Thread Cert.OutWeightReferenceIdeal.nD Cert.OutWeightReferenceIdeal.τ).loc Cert.OutWeightReferenceIdeal.main_arg3) = m ((c.tc : Thread Cert.OutWeightIdeal.nD Cert.OutWeightIdeal.τ).loc Cert.OutWeightIdeal.main_arg3)
      ∧ m' ((c.tc : Thread Cert.OutWeightReferenceIdeal.nD Cert.OutWeightReferenceIdeal.τ).loc Cert.OutWeightReferenceIdeal.main_arg4) = m ((c.tc : Thread Cert.OutWeightIdeal.nD Cert.OutWeightIdeal.τ).loc Cert.OutWeightIdeal.main_arg4)) →
    ∃ (v0 : (c : Dev Cert.OutWeightIdeal.nD) → Buf (Elt Ideal) ((c.tc : Thread Cert.OutWeightIdeal.nD Cert.OutWeightIdeal.τ).loc Cert.OutWeightIdeal.main_v33)),
      θ_run (Cert.OutWeightIdeal.defs (F := Ideal)) (onTc (τ := Cert.OutWeightIdeal.τ) (Cert.OutWeightIdeal.main (F := Ideal))) ⟨m, fun _ => 0, g⟩ (fun r => ∀ c : Dev Cert.OutWeightIdeal.nD,
          r.2.mem ((c.tc : Thread Cert.OutWeightIdeal.nD Cert.OutWeightIdeal.τ).loc Cert.OutWeightIdeal.main_v33) = v0 c
          ∧ r.2.mem ((c.tc : Thread Cert.OutWeightIdeal.nD Cert.OutWeightIdeal.τ).loc Cert.OutWeightIdeal.main_arg0) = m ((c.tc : Thread Cert.OutWeightIdeal.nD Cert.OutWeightIdeal.τ).loc Cert.OutWeightIdeal.main_arg0)
          ∧ r.2.mem ((c.tc : Thread Cert.OutWeightIdeal.nD Cert.OutWeightIdeal.τ).loc Cert.OutWeightIdeal.main_arg1) = m ((c.tc : Thread Cert.OutWeightIdeal.nD Cert.OutWeightIdeal.τ).loc Cert.OutWeightIdeal.main_arg1)
          ∧ r.2.mem ((c.tc : Thread Cert.OutWeightIdeal.nD Cert.OutWeightIdeal.τ).loc Cert.OutWeightIdeal.main_arg2) = m ((c.tc : Thread Cert.OutWeightIdeal.nD Cert.OutWeightIdeal.τ).loc Cert.OutWeightIdeal.main_arg2)
          ∧ r.2.mem ((c.tc : Thread Cert.OutWeightIdeal.nD Cert.OutWeightIdeal.τ).loc Cert.OutWeightIdeal.main_arg3) = m ((c.tc : Thread Cert.OutWeightIdeal.nD Cert.OutWeightIdeal.τ).loc Cert.OutWeightIdeal.main_arg3)
          ∧ r.2.mem ((c.tc : Thread Cert.OutWeightIdeal.nD Cert.OutWeightIdeal.τ).loc Cert.OutWeightIdeal.main_arg4) = m ((c.tc : Thread Cert.OutWeightIdeal.nD Cert.OutWeightIdeal.τ).loc Cert.OutWeightIdeal.main_arg4))
      ∧ θ_run (Cert.OutWeightReferenceIdeal.defs (F := Ideal)) (onTc (τ := Cert.OutWeightReferenceIdeal.τ) (Cert.OutWeightReferenceIdeal.main (F := Ideal))) ⟨m', fun _ => 0, g'⟩ (fun r => ∀ c : Dev Cert.OutWeightReferenceIdeal.nD,
          r.2.mem ((c.tc : Thread Cert.OutWeightReferenceIdeal.nD Cert.OutWeightReferenceIdeal.τ).loc Cert.OutWeightReferenceIdeal.main_v32) = v0 c
          ∧ r.2.mem ((c.tc : Thread Cert.OutWeightReferenceIdeal.nD Cert.OutWeightReferenceIdeal.τ).loc Cert.OutWeightReferenceIdeal.main_arg0) = m' ((c.tc : Thread Cert.OutWeightReferenceIdeal.nD Cert.OutWeightReferenceIdeal.τ).loc Cert.OutWeightReferenceIdeal.main_arg0)
          ∧ r.2.mem ((c.tc : Thread Cert.OutWeightReferenceIdeal.nD Cert.OutWeightReferenceIdeal.τ).loc Cert.OutWeightReferenceIdeal.main_arg1) = m' ((c.tc : Thread Cert.OutWeightReferenceIdeal.nD Cert.OutWeightReferenceIdeal.τ).loc Cert.OutWeightReferenceIdeal.main_arg1)
          ∧ r.2.mem ((c.tc : Thread Cert.OutWeightReferenceIdeal.nD Cert.OutWeightReferenceIdeal.τ).loc Cert.OutWeightReferenceIdeal.main_arg2) = m' ((c.tc : Thread Cert.OutWeightReferenceIdeal.nD Cert.OutWeightReferenceIdeal.τ).loc Cert.OutWeightReferenceIdeal.main_arg2)
          ∧ r.2.mem ((c.tc : Thread Cert.OutWeightReferenceIdeal.nD Cert.OutWeightReferenceIdeal.τ).loc Cert.OutWeightReferenceIdeal.main_arg3) = m' ((c.tc : Thread Cert.OutWeightReferenceIdeal.nD Cert.OutWeightReferenceIdeal.τ).loc Cert.OutWeightReferenceIdeal.main_arg3)
          ∧ r.2.mem ((c.tc : Thread Cert.OutWeightReferenceIdeal.nD Cert.OutWeightReferenceIdeal.τ).loc Cert.OutWeightReferenceIdeal.main_arg4) = m' ((c.tc : Thread Cert.OutWeightReferenceIdeal.nD Cert.OutWeightReferenceIdeal.τ).loc Cert.OutWeightReferenceIdeal.main_arg4))

def Claim : Prop :=
  ∃ (hFeedForward : Cert.FeedForward.Facts) (hFeedForwardIdeal : Cert.FeedForwardIdeal.Facts) (hFeedForwardReferenceIdeal : Cert.FeedForwardReferenceIdeal.Facts) (hDownWeight : Cert.DownWeight.Facts) (hDownWeightIdeal : Cert.DownWeightIdeal.Facts) (hDownWeightReferenceIdeal : Cert.DownWeightReferenceIdeal.Facts) (hUpWeight : Cert.UpWeight.Facts) (hUpWeightIdeal : Cert.UpWeightIdeal.Facts) (hUpWeightReferenceIdeal : Cert.UpWeightReferenceIdeal.Facts) (hForwardPass : Cert.ForwardPass.Facts) (hForwardPassIdeal : Cert.ForwardPassIdeal.Facts) (hForwardPassReferenceIdeal : Cert.ForwardPassReferenceIdeal.Facts) (hMixer : Cert.Mixer.Facts) (hMixerIdeal : Cert.MixerIdeal.Facts) (hMixerReferenceIdeal : Cert.MixerReferenceIdeal.Facts) (hInWeight : Cert.InWeight.Facts) (hInWeightIdeal : Cert.InWeightIdeal.Facts) (hInWeightReferenceIdeal : Cert.InWeightReferenceIdeal.Facts) (hOutWeight : Cert.OutWeight.Facts) (hOutWeightIdeal : Cert.OutWeightIdeal.Facts) (hOutWeightReferenceIdeal : Cert.OutWeightReferenceIdeal.Facts) (hPre_finite_arguments : Cert.Pre_finite_arguments.Facts) (hPre_finite_projection : Cert.Pre_finite_projection.Facts),
    quiescent_FeedForward (hFeedForward := hFeedForward)
    ∧ quiescent_FeedForwardIdeal (hFeedForwardIdeal := hFeedForwardIdeal)
    ∧ quiescent_FeedForwardIdeal_pre_finite_arguments (hFeedForwardIdeal := hFeedForwardIdeal) (hPre_finite_arguments := hPre_finite_arguments)
    ∧ quiescent_FeedForwardReferenceIdeal (hFeedForwardReferenceIdeal := hFeedForwardReferenceIdeal)
    ∧ quiescent_FeedForwardReferenceIdeal_pre_finite_arguments (hFeedForwardReferenceIdeal := hFeedForwardReferenceIdeal) (hPre_finite_arguments := hPre_finite_arguments)
    ∧ quiescent_DownWeight (hDownWeight := hDownWeight)
    ∧ quiescent_DownWeightIdeal (hDownWeightIdeal := hDownWeightIdeal)
    ∧ quiescent_DownWeightReferenceIdeal (hDownWeightReferenceIdeal := hDownWeightReferenceIdeal)
    ∧ quiescent_UpWeight (hUpWeight := hUpWeight)
    ∧ quiescent_UpWeightIdeal (hUpWeightIdeal := hUpWeightIdeal)
    ∧ quiescent_UpWeightReferenceIdeal (hUpWeightReferenceIdeal := hUpWeightReferenceIdeal)
    ∧ quiescent_ForwardPass (hForwardPass := hForwardPass)
    ∧ quiescent_ForwardPassIdeal (hForwardPassIdeal := hForwardPassIdeal)
    ∧ quiescent_ForwardPassReferenceIdeal (hForwardPassReferenceIdeal := hForwardPassReferenceIdeal)
    ∧ quiescent_Mixer (hMixer := hMixer)
    ∧ quiescent_MixerIdeal (hMixerIdeal := hMixerIdeal)
    ∧ quiescent_MixerIdeal_pre_finite_projection (hMixerIdeal := hMixerIdeal) (hPre_finite_projection := hPre_finite_projection)
    ∧ quiescent_MixerReferenceIdeal (hMixerReferenceIdeal := hMixerReferenceIdeal)
    ∧ quiescent_MixerReferenceIdeal_pre_finite_projection (hMixerReferenceIdeal := hMixerReferenceIdeal) (hPre_finite_projection := hPre_finite_projection)
    ∧ quiescent_InWeight (hInWeight := hInWeight)
    ∧ quiescent_InWeightIdeal (hInWeightIdeal := hInWeightIdeal)
    ∧ quiescent_InWeightReferenceIdeal (hInWeightReferenceIdeal := hInWeightReferenceIdeal)
    ∧ quiescent_OutWeight (hOutWeight := hOutWeight)
    ∧ quiescent_OutWeightIdeal (hOutWeightIdeal := hOutWeightIdeal)
    ∧ quiescent_OutWeightReferenceIdeal (hOutWeightReferenceIdeal := hOutWeightReferenceIdeal)
    ∧ preserves_FeedForward_FeedForwardIdeal
    ∧ algebraic_FeedForwardIdeal_FeedForwardReferenceIdeal_pre_finite_arguments (hFeedForwardIdeal := hFeedForwardIdeal) (hFeedForwardReferenceIdeal := hFeedForwardReferenceIdeal) (hPre_finite_arguments := hPre_finite_arguments)
    ∧ preserves_DownWeight_DownWeightIdeal
    ∧ algebraic_DownWeightIdeal_DownWeightReferenceIdeal (hDownWeightIdeal := hDownWeightIdeal) (hDownWeightReferenceIdeal := hDownWeightReferenceIdeal)
    ∧ preserves_UpWeight_UpWeightIdeal
    ∧ algebraic_UpWeightIdeal_UpWeightReferenceIdeal (hUpWeightIdeal := hUpWeightIdeal) (hUpWeightReferenceIdeal := hUpWeightReferenceIdeal)
    ∧ preserves_ForwardPass_ForwardPassIdeal
    ∧ algebraic_ForwardPassIdeal_ForwardPassReferenceIdeal (hForwardPassIdeal := hForwardPassIdeal) (hForwardPassReferenceIdeal := hForwardPassReferenceIdeal)
    ∧ preserves_Mixer_MixerIdeal
    ∧ algebraic_MixerIdeal_MixerReferenceIdeal_pre_finite_projection (hMixerIdeal := hMixerIdeal) (hMixerReferenceIdeal := hMixerReferenceIdeal) (hPre_finite_projection := hPre_finite_projection)
    ∧ preserves_InWeight_InWeightIdeal
    ∧ algebraic_InWeightIdeal_InWeightReferenceIdeal (hInWeightIdeal := hInWeightIdeal) (hInWeightReferenceIdeal := hInWeightReferenceIdeal)
    ∧ preserves_OutWeight_OutWeightIdeal
    ∧ algebraic_OutWeightIdeal_OutWeightReferenceIdeal (hOutWeightIdeal := hOutWeightIdeal) (hOutWeightReferenceIdeal := hOutWeightReferenceIdeal)
-- ==== Pre_finite_arguments.lean ====
abbrev S4x2048x1024 : Shape := ⟨3, ![4, 2048, 1024]⟩
abbrev S4x1024 : Shape := ⟨2, ![4, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩

class Facts : Prop where
  reducesTo_S4x2048x1024_S_d0_1_2 : S4x2048x1024.ReducesTo [0, 1, 2] S_
  h_S_ : 0 < S_.numel
  reducesTo_S4x1024_S_d0_1 : S4x1024.ReducesTo [0, 1] S_
  reducesTo_S1024_S_d0 : S1024.ReducesTo [0] S_
  reducesTo_S1024x5632_S_d0_1 : S1024x5632.ReducesTo [0, 1] S_
  reducesTo_S2816x1024_S_d0_1 : S2816x1024.ReducesTo [0, 1] S_

variable [Facts]

def fn_part1 {F : FTy → Type} [FloatOps F] (main_arg5 : FVec F S1024x5632 .f32) (main_arg6 : FVec F S2816x1024 .f32) (main_arg7 : FVec F S4x2048x1024 .f32) (main_v14 : IVec S_ 1) (main_v15 : FVec F S1024 .f32) : IVec S_ 1 :=
  let main_cst_7 : FVec F S_ .f32 := constant S_ .f32 0xFF800000#32
  let main_v16 : FVec F S_ .f32 := (fun x v => Host.reduce FloatOps.maximumf x v reducesTo_S1024_S_d0 h_S_) main_v15 main_cst_7
  let main_cst_8 : FVec F S_ .f32 := constant S_ .f32 0x7F800000#32
  let main_v17 : IVec S_ 1 := cmpf .olt main_v16 main_cst_8
  let main_v18 : IVec S_ 1 := andi main_v14 main_v17
  let main_v19 : FVec F S1024x5632 .f32 := Host.absf main_arg5
  let main_cst_9 : FVec F S_ .f32 := constant S_ .f32 0xFF800000#32
  let main_v20 : FVec F S_ .f32 := (fun x v => Host.reduce FloatOps.maximumf x v reducesTo_S1024x5632_S_d0_1 h_S_) main_v19 main_cst_9
  let main_cst_10 : FVec F S_ .f32 := constant S_ .f32 0x7F800000#32
  let main_v21 : IVec S_ 1 := cmpf .olt main_v20 main_cst_10
  let main_v22 : IVec S_ 1 := andi main_v18 main_v21
  let main_v23 : FVec F S2816x1024 .f32 := Host.absf main_arg6
  let main_cst_11 : FVec F S_ .f32 := constant S_ .f32 0xFF800000#32
  let main_v24 : FVec F S_ .f32 := (fun x v => Host.reduce FloatOps.maximumf x v reducesTo_S2816x1024_S_d0_1 h_S_) main_v23 main_cst_11
  let main_cst_12 : FVec F S_ .f32 := constant S_ .f32 0x7F800000#32
  let main_v25 : IVec S_ 1 := cmpf .olt main_v24 main_cst_12
  let main_v26 : IVec S_ 1 := andi main_v22 main_v25
  let main_v27 : FVec F S4x2048x1024 .f32 := Host.absf main_arg7
  let main_cst_13 : FVec F S_ .f32 := constant S_ .f32 0xFF800000#32
  let main_v28 : FVec F S_ .f32 := (fun x v => Host.reduce FloatOps.maximumf x v reducesTo_S4x2048x1024_S_d0_1_2 h_S_) main_v27 main_cst_13
  let main_cst_14 : FVec F S_ .f32 := constant S_ .f32 0x7F800000#32
  let main_v29 : IVec S_ 1 := cmpf .olt main_v28 main_cst_14
  let main_v30 : IVec S_ 1 := andi main_v26 main_v29
  main_v30

def fn {F : FTy → Type} [FloatOps F] (main_arg0 : FVec F S4x2048x1024 .f32) (main_arg1 : FVec F S4x1024 .f32) (main_arg2 : FVec F S4x1024 .f32) (main_arg3 : FVec F S4x1024 .f32) (main_arg4 : FVec F S1024 .f32) (main_arg5 : FVec F S1024x5632 .f32) (main_arg6 : FVec F S2816x1024 .f32) (main_arg7 : FVec F S4x2048x1024 .f32) : IVec S_ 1 :=
  let main_v0 : FVec F S4x2048x1024 .f32 := Host.absf main_arg0
  let main_cst : FVec F S_ .f32 := constant S_ .f32 0xFF800000#32
  let main_v1 : FVec F S_ .f32 := (fun x v => Host.reduce FloatOps.maximumf x v reducesTo_S4x2048x1024_S_d0_1_2 h_S_) main_v0 main_cst
  let main_cst_0 : FVec F S_ .f32 := constant S_ .f32 0x7F800000#32
  let main_v2 : IVec S_ 1 := cmpf .olt main_v1 main_cst_0
  let main_v3 : FVec F S4x1024 .f32 := Host.absf main_arg1
  let main_cst_1 : FVec F S_ .f32 := constant S_ .f32 0xFF800000#32
  let main_v4 : FVec F S_ .f32 := (fun x v => Host.reduce FloatOps.maximumf x v reducesTo_S4x1024_S_d0_1 h_S_) main_v3 main_cst_1
  let main_cst_2 : FVec F S_ .f32 := constant S_ .f32 0x7F800000#32
  let main_v5 : IVec S_ 1 := cmpf .olt main_v4 main_cst_2
  let main_v6 : IVec S_ 1 := andi main_v2 main_v5
  let main_v7 : FVec F S4x1024 .f32 := Host.absf main_arg2
  let main_cst_3 : FVec F S_ .f32 := constant S_ .f32 0xFF800000#32
  let main_v8 : FVec F S_ .f32 := (fun x v => Host.reduce FloatOps.maximumf x v reducesTo_S4x1024_S_d0_1 h_S_) main_v7 main_cst_3
  let main_cst_4 : FVec F S_ .f32 := constant S_ .f32 0x7F800000#32
  let main_v9 : IVec S_ 1 := cmpf .olt main_v8 main_cst_4
  let main_v10 : IVec S_ 1 := andi main_v6 main_v9
  let main_v11 : FVec F S4x1024 .f32 := Host.absf main_arg3
  let main_cst_5 : FVec F S_ .f32 := constant S_ .f32 0xFF800000#32
  let main_v12 : FVec F S_ .f32 := (fun x v => Host.reduce FloatOps.maximumf x v reducesTo_S4x1024_S_d0_1 h_S_) main_v11 main_cst_5
  let main_cst_6 : FVec F S_ .f32 := constant S_ .f32 0x7F800000#32
  let main_v13 : IVec S_ 1 := cmpf .olt main_v12 main_cst_6
  let main_v14 : IVec S_ 1 := andi main_v10 main_v13
  let main_v15 : FVec F S1024 .f32 := Host.absf main_arg4
  fn_part1 (F := F) main_arg5 main_arg6 main_arg7 main_v14 main_v15
-- ==== Pre_finite_projection.lean ====
abbrev S4x2048x1024 : Shape := ⟨3, ![4, 2048, 1024]⟩
abbrev S4x1024 : Shape := ⟨2, ![4, 1024]⟩
abbrev S1024 : Shape := ⟨1, ![1024]⟩
abbrev S1024x2560 : Shape := ⟨2, ![1024, 2560]⟩
abbrev S64 : Shape := ⟨1, ![64]⟩
abbrev S8x128x128 : Shape := ⟨3, ![8, 128, 128]⟩
abbrev S8x128 : Shape := ⟨2, ![8, 128]⟩
abbrev S3x512 : Shape := ⟨2, ![3, 512]⟩
abbrev S1024x1024 : Shape := ⟨2, ![1024, 1024]⟩
abbrev S_ : Shape := ⟨0, ![]⟩

class Facts : Prop where
  reducesTo_S4x1024_S_d0_1 : S4x1024.ReducesTo [0, 1] S_
  h_S_ : 0 < S_.numel
  reducesTo_S1024_S_d0 : S1024.ReducesTo [0] S_
  reducesTo_S1024x2560_S_d0_1 : S1024x2560.ReducesTo [0, 1] S_

variable [Facts]

def fn {F : FTy → Type} [FloatOps F] (main_arg0 : FVec F S4x2048x1024 .f32) (main_arg1 : FVec F S4x1024 .f32) (main_arg2 : FVec F S4x1024 .f32) (main_arg3 : FVec F S4x1024 .f32) (main_arg4 : FVec F S1024 .f32) (main_arg5 : FVec F S1024x2560 .f32) (main_arg6 : FVec F S64 .f32) (main_arg7 : FVec F S64 .f32) (main_arg8 : FVec F S8x128x128 .f32) (main_arg9 : FVec F S8x128 .f32) (main_arg10 : FVec F S3x512 .f32) (main_arg11 : FVec F S1024 .f32) (main_arg12 : FVec F S1024x1024 .f32) : IVec S_ 1 :=
  let main_v0 : FVec F S4x1024 .f32 := Host.absf main_arg1
  let main_cst : FVec F S_ .f32 := constant S_ .f32 0xFF800000#32
  let main_v1 : FVec F S_ .f32 := (fun x v => Host.reduce FloatOps.maximumf x v reducesTo_S4x1024_S_d0_1 h_S_) main_v0 main_cst
  let main_cst_0 : FVec F S_ .f32 := constant S_ .f32 0x7F800000#32
  let main_v2 : IVec S_ 1 := cmpf .olt main_v1 main_cst_0
  let main_v3 : FVec F S4x1024 .f32 := Host.absf main_arg2
  let main_cst_1 : FVec F S_ .f32 := constant S_ .f32 0xFF800000#32
  let main_v4 : FVec F S_ .f32 := (fun x v => Host.reduce FloatOps.maximumf x v reducesTo_S4x1024_S_d0_1 h_S_) main_v3 main_cst_1
  let main_cst_2 : FVec F S_ .f32 := constant S_ .f32 0x7F800000#32
  let main_v5 : IVec S_ 1 := cmpf .olt main_v4 main_cst_2
  let main_v6 : IVec S_ 1 := andi main_v2 main_v5
  let main_v7 : FVec F S1024 .f32 := Host.absf main_arg4
  let main_cst_3 : FVec F S_ .f32 := constant S_ .f32 0xFF800000#32
  let main_v8 : FVec F S_ .f32 := (fun x v => Host.reduce FloatOps.maximumf x v reducesTo_S1024_S_d0 h_S_) main_v7 main_cst_3
  let main_cst_4 : FVec F S_ .f32 := constant S_ .f32 0x7F800000#32
  let main_v9 : IVec S_ 1 := cmpf .olt main_v8 main_cst_4
  let main_v10 : IVec S_ 1 := andi main_v6 main_v9
  let main_v11 : FVec F S1024x2560 .f32 := Host.absf main_arg5
  let main_cst_5 : FVec F S_ .f32 := constant S_ .f32 0xFF800000#32
  let main_v12 : FVec F S_ .f32 := (fun x v => Host.reduce FloatOps.maximumf x v reducesTo_S1024x2560_S_d0_1 h_S_) main_v11 main_cst_5
  let main_cst_6 : FVec F S_ .f32 := constant S_ .f32 0x7F800000#32
  let main_v13 : IVec S_ 1 := cmpf .olt main_v12 main_cst_6
  let main_v14 : IVec S_ 1 := andi main_v10 main_v13
  main_v14
-- ==== FeedForward.lean ====
abbrev S4x2048x1024 : Shape := ⟨3, ![4, 2048, 1024]⟩
abbrev S4x1024 : Shape := ⟨2, ![4, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x1x1024 : Shape := ⟨3, ![4, 1, 1024]⟩
abbrev S4x2048x5632 : Shape := ⟨3, ![4, 2048, 5632]⟩
abbrev S4x2048x2816 : Shape := ⟨3, ![4, 2048, 2816]⟩
abbrev S8192x1024 : Shape := ⟨2, ![8192, 1024]⟩
abbrev S8192x2816 : Shape := ⟨2, ![8192, 2816]⟩
abbrev S5632x1024 : Shape := ⟨2, ![5632, 1024]⟩
abbrev S1x1024 : Shape := ⟨2, ![1, 1024]⟩
abbrev S8192x5632 : Shape := ⟨2, ![8192, 5632]⟩
abbrev S512x1024 : Shape := ⟨2, ![512, 1024]⟩
abbrev S512x2816 : Shape := ⟨2, ![512, 2816]⟩
abbrev S512x5632 : Shape := ⟨2, ![512, 5632]⟩
abbrev S256x1024 : Shape := ⟨2, ![256, 1024]⟩
abbrev S512x256 : Shape := ⟨2, ![512, 256]⟩
abbrev S512 : Shape := ⟨1, ![512]⟩
abbrev S512x1 : Shape := ⟨2, ![512, 1]⟩

abbrev nBuf : Space → Nat
  | .hbm => 93
  | .vmem => 30
  | .smem => 0
  | _ => 0

abbrev bufTy : (tb : Table) → Fin (tcTables nBuf tb) → BufTy
  | .hbm, ⟨0, _⟩ => ⟨S4x2048x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S1024, .f32⟩
  | .hbm, ⟨5, _⟩ => ⟨S1024x5632, .f32⟩
  | .hbm, ⟨6, _⟩ => ⟨S2816x1024, .f32⟩
  | .hbm, ⟨7, _⟩ => ⟨S4x2048x1024, .f32⟩
  | .hbm, ⟨8, _⟩ => ⟨S4x2048x1024, .f32⟩
  | .hbm, ⟨9, _⟩ => ⟨S_, .f32⟩
  | .hbm, ⟨10, _⟩ => ⟨S4x2048, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S_, .f32⟩
  | .hbm, ⟨16, _⟩ => ⟨S4x2048x1, .f32⟩
  | .hbm, ⟨17, _⟩ => ⟨S4x2048x1, .f32⟩
  | .hbm, ⟨18, _⟩ => ⟨S4x2048x1, .f32⟩
  | .hbm, ⟨19, _⟩ => ⟨S4x2048x1024, .f32⟩
  | .hbm, ⟨20, _⟩ => ⟨S4x2048x1024, .f32⟩
  | .hbm, ⟨21, _⟩ => ⟨S1x1x1024, .f32⟩
  | .hbm, ⟨22, _⟩ => ⟨S4x2048x1024, .f32⟩
  | .hbm, ⟨23, _⟩ => ⟨S4x2048x1024, .f32⟩
  | .hbm, ⟨24, _⟩ => ⟨S4x1x1024, .f32⟩
  | .hbm, ⟨25, _⟩ => ⟨S_, .f32⟩
  | .hbm, ⟨26, _⟩ => ⟨S4x1x1024, .f32⟩
  | .hbm, ⟨27, _⟩ => ⟨S4x1x1024, .f32⟩
  | .hbm, ⟨28, _⟩ => ⟨S4x2048x1024, .f32⟩
  | .hbm, ⟨29, _⟩ => ⟨S4x2048x1024, .f32⟩
  | .hbm, ⟨30, _⟩ => ⟨S4x1x1024, .f32⟩
  | .hbm, ⟨31, _⟩ => ⟨S4x2048x1024, .f32⟩
  | .hbm, ⟨32, _⟩ => ⟨S4x2048x1024, .f32⟩
  | .hbm, ⟨33, _⟩ => ⟨S4x2048x5632, .f32⟩
  | .hbm, ⟨34, _⟩ => ⟨S4x2048x2816, .f32⟩
  | .hbm, ⟨35, _⟩ => ⟨S4x2048x2816, .f32⟩
  | .hbm, ⟨36, _⟩ => ⟨S4x2048x2816, .f32⟩
  | .hbm, ⟨37, _⟩ => ⟨S4x2048x2816, .f32⟩
  | .hbm, ⟨38, _⟩ => ⟨S_, .f32⟩
  | .hbm, ⟨39, _⟩ => ⟨S4x2048x2816, .f32⟩
  | .hbm, ⟨40, _⟩ => ⟨S4x2048x2816, .f32⟩
  | .hbm, ⟨41, _⟩ => ⟨S_, .f32⟩
  | .hbm, ⟨42, _⟩ => ⟨S4x2048x2816, .f32⟩
  | .hbm, ⟨43, _⟩ => ⟨S4x2048x2816, .f32⟩
  | .hbm, ⟨44, _⟩ => ⟨S_, .f32⟩
  | .hbm, ⟨45, _⟩ => ⟨S4x2048x2816, .f32⟩
  | .hbm, ⟨46, _⟩ => ⟨S4x2048x2816, .f32⟩
  | .hbm, ⟨47, _⟩ => ⟨S4x2048x2816, .f32⟩
  | .hbm, ⟨48, _⟩ => ⟨S4x2048x2816, .f32⟩
  | .hbm, ⟨49, _⟩ => ⟨S_, .f32⟩
  | .hbm, ⟨50, _⟩ => ⟨S4x2048x2816, .f32⟩
  | .hbm, ⟨51, _⟩ => ⟨S4x2048x2816, .f32⟩
  | .hbm, ⟨52, _⟩ => ⟨S4x2048x2816, .f32⟩
  | .hbm, ⟨53, _⟩ => ⟨S4x2048x2816, .f32⟩
  | .hbm, ⟨54, _⟩ => ⟨S4x2048x2816, .f32⟩
  | .hbm, ⟨55, _⟩ => ⟨S4x2048x2816, .f32⟩
  | .hbm, ⟨56, _⟩ => ⟨S4x2048x2816, .f32⟩
  | .hbm, ⟨57, _⟩ => ⟨S4x2048x2816, .f32⟩
  | .hbm, ⟨58, _⟩ => ⟨S4x2048x2816, .f32⟩
  | .hbm, ⟨59, _⟩ => ⟨S4x2048x2816, .f32⟩
  | .hbm, ⟨60, _⟩ => ⟨S_, .f32⟩
  | .hbm, ⟨61, _⟩ => ⟨S4x2048x2816, .f32⟩
  | .hbm, ⟨62, _⟩ => ⟨S4x2048x2816, .f32⟩
  | .hbm, ⟨63, _⟩ => ⟨S_, .f32⟩
  | .hbm, ⟨64, _⟩ => ⟨S4x2048x2816, .f32⟩
  | .hbm, ⟨65, _⟩ => ⟨S4x2048x2816, .f32⟩
  | .hbm, ⟨66, _⟩ => ⟨S4x2048x2816, .f32⟩
  | .hbm, ⟨67, _⟩ => ⟨S4x2048x2816, .f32⟩
  | .hbm, ⟨68, _⟩ => ⟨S4x2048x1024, .f32⟩
  | .hbm, ⟨69, _⟩ => ⟨S8192x1024, .f32⟩
  | .hbm, ⟨70, _⟩ => ⟨S4x1x1024, .f32⟩
  | .hbm, ⟨71, _⟩ => ⟨S8192x1024, .f32⟩
  | .hbm, ⟨72, _⟩ => ⟨S8192x1024, .bf16⟩
  | .hbm, ⟨73, _⟩ => ⟨S8192x2816, .f32⟩
  | .hbm, ⟨74, _⟩ => ⟨S8192x2816, .bf16⟩
  | .hbm, ⟨75, _⟩ => ⟨S8192x2816, .f32⟩
  | .hbm, ⟨76, _⟩ => ⟨S8192x2816, .bf16⟩
  | .hbm, ⟨77, _⟩ => ⟨S2816x1024, .bf16⟩
  | .hbm, ⟨78, _⟩ => ⟨S5632x1024, .f32⟩
  | .hbm, ⟨79, _⟩ => ⟨S5632x1024, .bf16⟩
  | .hbm, ⟨80, _⟩ => ⟨S8192x1024, .f32⟩
  | .hbm, ⟨81, _⟩ => ⟨S1x1024, .f32⟩
  | .hbm, ⟨82, _⟩ => ⟨S_, .f32⟩
  | .hbm, ⟨83, _⟩ => ⟨S4x1024, .f32⟩
  | .hbm, ⟨84, _⟩ => ⟨S4x1024, .f32⟩
  | .hbm, ⟨85, _⟩ => ⟨S4x1x1024, .f32⟩
  | .hbm, ⟨86, _⟩ => ⟨S8192x1024, .bf16⟩
  | .hbm, ⟨87, _⟩ => ⟨S4x1x1024, .f32⟩
  | .hbm, ⟨88, _⟩ => ⟨S8192x5632, .bf16⟩
  | .hbm, ⟨89, _⟩ => ⟨S8192x1024, .f32⟩
  | .hbm, ⟨90, _⟩ => ⟨S4x1x1024, .f32⟩
  | .hbm, ⟨91, _⟩ => ⟨S4x1x1024, .f32⟩
  | .hbm, ⟨92, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S512x1024, .bf16⟩
  | .local _ .vmem, ⟨5, _⟩ => ⟨S512x1024, .bf16⟩
  | .local _ .vmem, ⟨6, _⟩ => ⟨S512x2816, .bf16⟩
  | .local _ .vmem, ⟨7, _⟩ => ⟨S512x2816, .bf16⟩
  | .local _ .vmem, ⟨8, _⟩ => ⟨S512x2816, .bf16⟩
  | .local _ .vmem, ⟨9, _⟩ => ⟨S512x2816, .bf16⟩
  | .local _ .vmem, ⟨10, _⟩ => ⟨S2816x1024, .bf16⟩
  | .local _ .vmem, ⟨11, _⟩ => ⟨S5632x1024, .bf16⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | .local _ .vmem, ⟨15, _⟩ => ⟨S1x1x1024, .f32⟩
  | .local _ .vmem, ⟨16, _⟩ => ⟨S1x1x1024, .f32⟩
  | .local _ .vmem, ⟨17, _⟩ => ⟨S512x1024, .bf16⟩
  | .local _ .vmem, ⟨18, _⟩ => ⟨S512x1024, .bf16⟩
  | .local _ .vmem, ⟨19, _⟩ => ⟨S1x1x1024, .f32⟩
  | .local _ .vmem, ⟨20, _⟩ => ⟨S1x1x1024, .f32⟩
  | .local _ .vmem, ⟨21, _⟩ => ⟨S512x5632, .bf16⟩
  | .local _ .vmem, ⟨22, _⟩ => ⟨S512x5632, .bf16⟩
  | .local _ .vmem, ⟨23, _⟩ => ⟨S512x1024, .f32⟩
  | .local _ .vmem, ⟨24, _⟩ => ⟨S512x1024, .f32⟩
  | .local _ .vmem, ⟨25, _⟩ => ⟨S1x1x1024, .f32⟩
  | .local _ .vmem, ⟨26, _⟩ => ⟨S1x1x1024, .f32⟩
  | .local _ .vmem, ⟨27, _⟩ => ⟨S1x1x1024, .f32⟩
  | .local _ .vmem, ⟨28, _⟩ => ⟨S1x1x1024, .f32⟩
  | .local _ .vmem, ⟨29, _⟩ => ⟨S1x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_v24_2 : Ref sig .tc := ⟨.hbm, 43, rfl⟩
abbrev main_call0_cst_1 : Ref sig .tc := ⟨.hbm, 44, rfl⟩
abbrev main_call0_v6 : Ref sig .tc := ⟨.hbm, 45, rfl⟩
abbrev main_call0_v7 : Ref sig .tc := ⟨.hbm, 46, rfl⟩
abbrev main_v24_1 : Ref sig .tc := ⟨.hbm, 47, rfl⟩
abbrev main_v24_0 : Ref sig .tc := ⟨.hbm, 48, rfl⟩
abbrev main_cst_3 : Ref sig .tc := ⟨.hbm, 49, rfl⟩
abbrev main_v25 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_call2_v0 : Ref sig .tc := ⟨.hbm, 58, rfl⟩
abbrev main_call2_v1 : Ref sig .tc := ⟨.hbm, 59, rfl⟩
abbrev main_call2_cst : Ref sig .tc := ⟨.hbm, 60, rfl⟩
abbrev main_call2_v2 : Ref sig .tc := ⟨.hbm, 61, rfl⟩
abbrev main_call2_v3 : Ref sig .tc := ⟨.hbm, 62, rfl⟩
abbrev main_call2_cst_0 : Ref sig .tc := ⟨.hbm, 63, rfl⟩
abbrev main_call2_v4 : Ref sig .tc := ⟨.hbm, 64, rfl⟩
abbrev main_call2_v5 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_cst_4 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49_0 : Ref sig .tc := ⟨.hbm, 86, rfl⟩
abbrev main_v49_1 : Ref sig .tc := ⟨.hbm, 87, rfl⟩
abbrev main_v49_2 : Ref sig .tc := ⟨.hbm, 88, rfl⟩
abbrev main_v49_3 : Ref sig .tc := ⟨.hbm, 89, rfl⟩
abbrev main_v49_4 : Ref sig .tc := ⟨.hbm, 90, rfl⟩
abbrev main_v49_5 : Ref sig .tc := ⟨.hbm, 91, rfl⟩
abbrev main_v49_6 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c4_i32 : BitVec 32 := 4#32
  let c0_i32 : BitVec 32 := 0#32
  let v252 : BitVec 1 := Scalar.cmpi .eq c4_i32 c0_i32
  let c1_i32 : BitVec 32 := 1#32
  let v253 : BitVec 32 := Scalar.select v252 c1_i32 c4_i32
  let v254 : BitVec 32 := Scalar.remsi arg0 v253
  let c0_i32_155 : BitVec 32 := 0#32
  let v256 : BitVec 1 := Scalar.cmpi .slt v254 c0_i32_155
  let c0_i32_156 : BitVec 32 := 0#32
  let v257 : BitVec 1 := Scalar.cmpi .slt v253 c0_i32_156
  let v258 : BitVec 1 := Scalar.xori v256 v257
  let c0_i32_154 : BitVec 32 := 0#32
  let v255 : BitVec 1 := Scalar.cmpi .ne v254 c0_i32_154
  let v259 : BitVec 1 := Scalar.andi v258 v255
  let v260 : BitVec 32 := Scalar.addi v254 v253
  let v261 : BitVec 32 := Scalar.select v259 v260 v254
  let c0_i32_157 : BitVec 32 := 0#32
  let v262 : BitVec 1 := Scalar.cmpi .eq v261 c0_i32_157
  let v263 : BitVec 32 := Scalar.extui v262
  let c0_i32_158 : BitVec 32 := 0#32
  let v264 : BitVec 1 := Scalar.cmpi .ne v263 c0_i32_158
  v264

def k0_cond2 (i : grid0.Coords) : BitVec 1 :=
  let arg0 : BitVec 32 := BitVec.ofNat 32 (i 0).val
  let c4_i32_159 : BitVec 32 := 4#32
  let c0_i32_160 : BitVec 32 := 0#32
  let v265 : BitVec 1 := Scalar.cmpi .eq c4_i32_159 c0_i32_160
  let c1_i32_161 : BitVec 32 := 1#32
  let v266 : BitVec 32 := Scalar.select v265 c1_i32_161 c4_i32_159
  let v267 : BitVec 32 := Scalar.remsi arg0 v266
  let c0_i32_163 : BitVec 32 := 0#32
  let v269 : BitVec 1 := Scalar.cmpi .slt v267 c0_i32_163
  let c0_i32_164 : BitVec 32 := 0#32
  let v270 : BitVec 1 := Scalar.cmpi .slt v266 c0_i32_164
  let v271 : BitVec 1 := Scalar.xori v269 v270
  let c0_i32_162 : BitVec 32 := 0#32
  let v268 : BitVec 1 := Scalar.cmpi .ne v267 c0_i32_162
  let v272 : BitVec 1 := Scalar.andi v271 v268
  let v273 : BitVec 32 := Scalar.addi v267 v266
  let v274 : BitVec 32 := Scalar.select v272 v273 v267
  let c0_i32_165 : BitVec 32 := 0#32
  let v275 : BitVec 1 := Scalar.cmpi .ne v274 c0_i32_165
  let v276 : BitVec 32 := Scalar.extui v275
  let c0_i32_166 : BitVec 32 := 0#32
  let v277 : BitVec 1 := Scalar.cmpi .ne v276 c0_i32_166
  v277

def k0_cond3 (i : grid0.Coords) : BitVec 1 :=
  let arg0 : BitVec 32 := BitVec.ofNat 32 (i 0).val
  let c0_i32_167 : BitVec 32 := 0#32
  let v278 : BitVec 1 := Scalar.cmpi .eq arg0 c0_i32_167
  let v279 : BitVec 32 := Scalar.extui v278
  let c0_i32_168 : BitVec 32 := 0#32
  let v280 : BitVec 1 := Scalar.cmpi .ne v279 c0_i32_168
  v280

def k0_cond4 (i : grid0.Coords) : BitVec 1 :=
  let arg0 : BitVec 32 := BitVec.ofNat 32 (i 0).val
  let c0_i32_169 : BitVec 32 := 0#32
  let v281 : BitVec 1 := Scalar.cmpi .ne arg0 c0_i32_169
  let v282 : BitVec 32 := Scalar.extui v281
  let c0_i32_170 : BitVec 32 := 0#32
  let v283 : BitVec 1 := Scalar.cmpi .ne v282 c0_i32_170
  v283

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_15 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S5632x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x5632 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x1x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x1x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== FeedForwardReferenceIdeal.lean ====
abbrev S4x2048x1024 : Shape := ⟨3, ![4, 2048, 1024]⟩
abbrev S4x1024 : Shape := ⟨2, ![4, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x1x1024 : Shape := ⟨3, ![4, 1, 1024]⟩
abbrev S4x2048x5632 : Shape := ⟨3, ![4, 2048, 5632]⟩
abbrev S4x2048x2816 : Shape := ⟨3, ![4, 2048, 2816]⟩
abbrev S8192x1024 : Shape := ⟨2, ![8192, 1024]⟩
abbrev S8192x5632 : Shape := ⟨2, ![8192, 5632]⟩
abbrev S1x1024 : Shape := ⟨2, ![1, 1024]⟩

abbrev nBuf : Space → Nat
  | .hbm => 131
  | .vmem => 0
  | .smem => 0
  | _ => 0

abbrev hbmTy0_0 (i : Nat) : BufTy := match i % 128 with
  | 0 => ⟨S4x2048x1024, .f32⟩
  | 1 => ⟨S4x1024, .f32⟩
  | 2 => ⟨S4x1024, .f32⟩
  | 3 => ⟨S4x1024, .f32⟩
  | 4 => ⟨S1024, .f32⟩
  | 5 => ⟨S1024x5632, .f32⟩
  | 6 => ⟨S2816x1024, .f32⟩
  | 7 => ⟨S4x2048x1024, .f32⟩
  | 8 => ⟨S4x2048x1024, .f32⟩
  | 9 => ⟨S_, .f32⟩
  | 10 => ⟨S4x2048, .f32⟩
  | 11 => ⟨S4x2048x1, .f32⟩
  | 12 => ⟨S_, .f32⟩
  | 13 => ⟨S4x2048x1, .f32⟩
  | 14 => ⟨S4x2048x1, .f32⟩
  | 15 => ⟨S_, .f32⟩
  | 16 => ⟨S4x2048x1, .f32⟩
  | 17 => ⟨S4x2048x1, .f32⟩
  | 18 => ⟨S4x2048x1, .f32⟩
  | 19 => ⟨S4x2048x1, .f32⟩
  | 20 => ⟨S_, .f32⟩
  | 21 => ⟨S4x2048x1, .f32⟩
  | 22 => ⟨S4x2048x1, .f32⟩
  | 23 => ⟨S4x2048x1024, .f32⟩
  | 24 => ⟨S4x2048x1024, .f32⟩
  | 25 => ⟨S1x1x1024, .f32⟩
  | 26 => ⟨S4x2048x1024, .f32⟩
  | 27 => ⟨S4x2048x1024, .f32⟩
  | 28 => ⟨S4x1x1024, .f32⟩
  | 29 => ⟨S_, .f32⟩
  | 30 => ⟨S4x1x1024, .f32⟩
  | 31 => ⟨S4x1x1024, .f32⟩
  | 32 => ⟨S4x2048x1024, .f32⟩
  | 33 => ⟨S4x2048x1024, .f32⟩
  | 34 => ⟨S4x1x1024, .f32⟩
  | 35 => ⟨S4x2048x1024, .f32⟩
  | 36 => ⟨S4x2048x1024, .f32⟩
  | 37 => ⟨S4x2048x5632, .f32⟩
  | 38 => ⟨S4x2048x2816, .f32⟩
  | 39 => ⟨S4x2048x2816, .f32⟩
  | 40 => ⟨S4x2048x2816, .f32⟩
  | 41 => ⟨S4x2048x2816, .f32⟩
  | 42 => ⟨S_, .f32⟩
  | 43 => ⟨S4x2048x2816, .f32⟩
  | 44 => ⟨S4x2048x2816, .f32⟩
  | 45 => ⟨S_, .f32⟩
  | 46 => ⟨S4x2048x2816, .f32⟩
  | 47 => ⟨S4x2048x2816, .f32⟩
  | 48 => ⟨S_, .f32⟩
  | 49 => ⟨S4x2048x2816, .f32⟩
  | 50 => ⟨S4x2048x2816, .f32⟩
  | 51 => ⟨S4x2048x2816, .f32⟩
  | 52 => ⟨S4x2048x2816, .f32⟩
  | 53 => ⟨S4x2048x2816, .f32⟩
  | 54 => ⟨S4x2048x1024, .f32⟩
  | 55 => ⟨S4x1x1024, .f32⟩
  | 56 => ⟨S_, .f32⟩
  | 57 => ⟨S4x1x1024, .f32⟩
  | 58 => ⟨S4x1x1024, .f32⟩
  | 59 => ⟨S4x2048x1024, .f32⟩
  | 60 => ⟨S4x2048x1024, .f32⟩
  | 61 => ⟨S4x2048x1024, .f32⟩
  | 62 => ⟨S4x2048x1024, .f32⟩
  | 63 => ⟨S4x2048x1024, .f32⟩
  | 64 => ⟨S4x2048x1024, .f32⟩
  | 65 => ⟨S4x2048x1024, .f32⟩
  | 66 => ⟨S_, .f32⟩
  | 67 => ⟨S4x1024, .f32⟩
  | 68 => ⟨S4x1x1024, .f32⟩
  | 69 => ⟨S_, .f32⟩
  | 70 => ⟨S4x1x1024, .f32⟩
  | 71 => ⟨S4x1x1024, .f32⟩
  | 72 => ⟨S_, .f32⟩
  | 73 => ⟨S4x1024, .f32⟩
  | 74 => ⟨S4x2048x2816, .f32⟩
  | 75 => ⟨S4x2048x2816, .f32⟩
  | 76 => ⟨S4x2048x2816, .f32⟩
  | 77 => ⟨S4x2048x2816, .f32⟩
  | 78 => ⟨S4x2048x2816, .f32⟩
  | 79 => ⟨S4x2048x2816, .f32⟩
  | 80 => ⟨S4x2048x2816, .f32⟩
  | 81 => ⟨S4x2048x5632, .f32⟩
  | 82 => ⟨S4x2048x1024, .f32⟩
  | 83 => ⟨S_, .f32⟩
  | 84 => ⟨S4x1024, .f32⟩
  | 85 => ⟨S4x1x1024, .f32⟩
  | 86 => ⟨S_, .f32⟩
  | 87 => ⟨S4x1024, .f32⟩
  | 88 => ⟨S4x2048x1024, .f32⟩
  | 89 => ⟨S_, .f32⟩
  | 90 => ⟨S4x1024, .f32⟩
  | 91 => ⟨S4x1x1024, .f32⟩
  | 92 => ⟨S4x2048x1024, .f32⟩
  | 93 => ⟨S4x2048x1024, .f32⟩
  | 94 => ⟨S_, .f32⟩
  | 95 => ⟨S4x1024, .f32⟩
  | 96 => ⟨S4x2048x1024, .f32⟩
  | 97 => ⟨S_, .f32⟩
  | 98 => ⟨S1024, .f32⟩
  | 99 => ⟨S1x1x1024, .f32⟩
  | 100 => ⟨S4x2048x1024, .f32⟩
  | 101 => ⟨S4x2048x1024, .f32⟩
  | 102 => ⟨S_, .f32⟩
  | 103 => ⟨S1024, .f32⟩
  | 104 => ⟨S4x2048x1024, .f32⟩
  | 105 => ⟨S_, .f32⟩
  | 106 => ⟨S4x2048, .f32⟩
  | 107 => ⟨S4x2048x1, .f32⟩
  | 108 => ⟨S4x2048x1024, .f32⟩
  | 109 => ⟨S4x2048x1024, .f32⟩
  | 110 => ⟨S4x2048x1, .f32⟩
  | 111 => ⟨S_, .f32⟩
  | 112 => ⟨S4x2048x1, .f32⟩
  | 113 => ⟨S4x2048x1, .f32⟩
  | 114 => ⟨S_, .f32⟩
  | 115 => ⟨S4x2048, .f32⟩
  | 116 => ⟨S4x2048x1024, .f32⟩
  | 117 => ⟨S4x2048x1024, .f32⟩
  | 118 => ⟨S4x2048x1024, .f32⟩
  | 119 => ⟨S4x2048x1024, .f32⟩
  | 120 => ⟨S4x2048x1024, .f32⟩
  | 121 => ⟨S8192x1024, .f32⟩
  | 122 => ⟨S8192x1024, .bf16⟩
  | 123 => ⟨S4x1x1024, .f32⟩
  | 124 => ⟨S8192x5632, .f32⟩
  | 125 => ⟨S8192x5632, .bf16⟩
  | 126 => ⟨S4x2048x1024, .f32⟩
  | 127 => ⟨S8192x1024, .f32⟩
  | _ => ⟨S4x2048x1024, .f32⟩

abbrev hbmTy0_1 (i : Nat) : BufTy := match i % 128 with
  | 0 => ⟨S4x1x1024, .f32⟩
  | 1 => ⟨S4x1x1024, .f32⟩
  | 2 => ⟨S1x1024, .f32⟩
  | _ => ⟨S4x2048x1024, .f32⟩

abbrev hbmTy (i : Nat) : BufTy := match i / 128 with
  | 0 => hbmTy0_0 i
  | 1 => hbmTy0_1 i
  | _ => ⟨S4x2048x1024, .f32⟩

abbrev bufTy : (tb : Table) → Fin (tcTables nBuf tb) → BufTy
  | .hbm, ⟨i, _⟩ => hbmTy i
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_v27_2 : Ref sig .tc := ⟨.hbm, 47, rfl⟩
abbrev main_call0_cst_1 : Ref sig .tc := ⟨.hbm, 48, rfl⟩
abbrev main_call0_v6 : Ref sig .tc := ⟨.hbm, 49, rfl⟩
abbrev main_call0_v7 : Ref sig .tc := ⟨.hbm, 50, rfl⟩
abbrev main_v27_1 : Ref sig .tc := ⟨.hbm, 51, rfl⟩
abbrev main_v27_0 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_4 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_5 : Ref sig .tc := ⟨.hbm, 66, rfl⟩
abbrev main_v40 : Ref sig .tc := ⟨.hbm, 67, rfl⟩
abbrev main_v41 : Ref sig .tc := ⟨.hbm, 68, rfl⟩
abbrev main_cst_6 : Ref sig .tc := ⟨.hbm, 69, rfl⟩
abbrev main_v42 : Ref sig .tc := ⟨.hbm, 70, rfl⟩
abbrev main_v43 : Ref sig .tc := ⟨.hbm, 71, rfl⟩
abbrev main_cst_7 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_call1_v0 : Ref sig .tc := ⟨.hbm, 77, rfl⟩
abbrev main_call1_v1 : Ref sig .tc := ⟨.hbm, 78, rfl⟩
abbrev main_call1_v2 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_cst_8 : Ref sig .tc := ⟨.hbm, 83, rfl⟩
abbrev main_v51 : Ref sig .tc := ⟨.hbm, 84, rfl⟩
abbrev main_v52 : Ref sig .tc := ⟨.hbm, 85, rfl⟩
abbrev main_cst_9 : Ref sig .tc := ⟨.hbm, 86, rfl⟩
abbrev main_v53 : Ref sig .tc := ⟨.hbm, 87, rfl⟩
abbrev main_v54 : Ref sig .tc := ⟨.hbm, 88, rfl⟩
abbrev main_cst_10 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_cst_11 : Ref sig .tc := ⟨.hbm, 94, rfl⟩
abbrev main_v59 : Ref sig .tc := ⟨.hbm, 95, rfl⟩
abbrev main_v60 : Ref sig .tc := ⟨.hbm, 96, rfl⟩
abbrev main_cst_12 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_cst_13 : Ref sig .tc := ⟨.hbm, 102, rfl⟩
abbrev main_v65 : Ref sig .tc := ⟨.hbm, 103, rfl⟩
abbrev main_v66 : Ref sig .tc := ⟨.hbm, 104, rfl⟩
abbrev main_cst_14 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_cst_15 : Ref sig .tc := ⟨.hbm, 111, rfl⟩
abbrev main_v72 : Ref sig .tc := ⟨.hbm, 112, rfl⟩
abbrev main_v73 : Ref sig .tc := ⟨.hbm, 113, rfl⟩
abbrev main_cst_16 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩

abbrev nD : Nat := 1
abbrev τ : Topo := Topo.v7x

variable {F : FTy → Type} [FloatOps F]
-- ==== DownWeight.lean ====
abbrev S4x2048x5632 : Shape := ⟨3, ![4, 2048, 5632]⟩
abbrev S2816x1024 : Shape := ⟨2, ![2816, 1024]⟩
abbrev S4x2048x1024 : Shape := ⟨3, ![4, 2048, 1024]⟩
abbrev S4x2048x2816 : Shape := ⟨3, ![4, 2048, 2816]⟩
abbrev S_ : Shape := ⟨0, ![]⟩
abbrev S8192x2816 : Shape := ⟨2, ![8192, 2816]⟩
abbrev S8192x1024 : Shape := ⟨2, ![8192, 1024]⟩
abbrev S8192x256 : Shape := ⟨2, ![8192, 256]⟩
abbrev S256x1024 : Shape := ⟨2, ![256, 1024]⟩

abbrev nBuf : Space → Nat
  | .hbm => 20
  | .vmem => 5
  | .smem => 0
  | _ => 0

abbrev bufTy : (tb : Table) → Fin (tcTables nBuf tb) → BufTy
  | .hbm, ⟨0, _⟩ => ⟨S4x2048x5632, .f32⟩
  | .hbm, ⟨1, _⟩ => ⟨S2816x1024, .f32⟩
  | .hbm, ⟨2, _⟩ => ⟨S4x2048x1024, .f32⟩
  | .hbm, ⟨3, _⟩ => ⟨S4x2048x2816, .f32⟩
  | .hbm, ⟨4, _⟩ => ⟨S4x2048x2816, .f32⟩
  | .hbm, ⟨5, _⟩ => ⟨S4x2048x2816, .f32⟩
  | .hbm, ⟨6, _⟩ => ⟨S4x2048x2816, .f32⟩
  | .hbm, ⟨7, _⟩ => ⟨S_, .f32⟩
  | .hbm, ⟨8, _⟩ => ⟨S4x2048x2816, .f32⟩
  | .hbm, ⟨9, _⟩ => ⟨S4x2048x2816, .f32⟩
  | .hbm, ⟨10, _⟩ => ⟨S_, .f32⟩
  | .hbm, ⟨11, _⟩ => ⟨S4x2048x2816, .f32⟩
  | .hbm, ⟨12, _⟩ => ⟨S4x2048x2816, .f32⟩
  | .hbm, ⟨13, _⟩ => ⟨S4x2048x2816, .f32⟩
  | .hbm, ⟨14, _⟩ => ⟨S4x2048x2816, .f32⟩
  | .hbm, ⟨15, _⟩ => ⟨S8192x2816, .f32⟩
  | .hbm, ⟨16, _⟩ => ⟨S8192x2816, .bf16⟩
  | .hbm, ⟨17, _⟩ => ⟨S8192x1024, .f32⟩
  | .hbm, ⟨18, _⟩ => ⟨S8192x1024, .bf16⟩
  | .hbm, ⟨19, _⟩ => ⟨S2816x1024, .bf16⟩
  | .local _ .vmem, ⟨0, _⟩ => ⟨S8192x256, .bf16⟩
  | .local _ .vmem, ⟨1, _⟩ => ⟨S8192x256, .bf16⟩
  | .local _ .vmem, ⟨2, _⟩ => ⟨S8192x1024, .bf16⟩
  | .local _ .vmem, ⟨3, _⟩ => ⟨S256x1024, .bf16⟩
  | .local _ .vmem, ⟨4, _⟩ => ⟨S256x1024, .bf16⟩
  | _, _ => ⟨S4x2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== DownWeightReferenceIdeal.lean ====
abbrev S4x2048x5632 : Shape := ⟨3, ![4, 2048, 5632]⟩
abbrev S2816x1024 : Shape := ⟨2, ![2816, 1024]⟩
abbrev S4x2048x1024 : Shape := ⟨3, ![4, 2048, 1024]⟩
abbrev S4x2048x2816 : Shape := ⟨3, ![4, 2048, 2816]⟩
abbrev S_ : Shape := ⟨0, ![]⟩
abbrev S1024x2816 : Shape := ⟨2, ![1024, 2816]⟩

abbrev nBuf : Space → Nat
  | .hbm => 19
  | .vmem => 0
  | .smem => 0
  | _ => 0

abbrev bufTy : (tb : Table) → Fin (tcTables nBuf tb) → BufTy
  | .hbm, ⟨0, _⟩ => ⟨S4x2048x5632, .f32⟩
  | .hbm, ⟨1, _⟩ => ⟨S2816x1024, .f32⟩
  | .hbm, ⟨2, _⟩ => ⟨S4x2048x1024, .f32⟩
  | .hbm, ⟨3, _⟩ => ⟨S4x2048x2816, .f32⟩
  | .hbm, ⟨4, _⟩ => ⟨S4x2048x2816, .f32⟩
  | .hbm, ⟨5, _⟩ => ⟨S4x2048x2816, .f32⟩
  | .hbm, ⟨6, _⟩ => ⟨S4x2048x2816, .f32⟩
  | .hbm, ⟨7, _⟩ => ⟨S_, .f32⟩
  | .hbm, ⟨8, _⟩ => ⟨S4x2048x2816, .f32⟩
  | .hbm, ⟨9, _⟩ => ⟨S4x2048x2816, .f32⟩
  | .hbm, ⟨10, _⟩ => ⟨S_, .f32⟩
  | .hbm, ⟨11, _⟩ => ⟨S4x2048x2816, .f32⟩
  | .hbm, ⟨12, _⟩ => ⟨S4x2048x2816, .f32⟩
  | .hbm, ⟨13, _⟩ => ⟨S4x2048x2816, .f32⟩
  | .hbm, ⟨14, _⟩ => ⟨S4x2048x2816, .f32⟩
  | .hbm, ⟨15, _⟩ => ⟨S4x2048x1024, .f32⟩
  | .hbm, ⟨16, _⟩ => ⟨S1024x2816, .f32⟩
  | .hbm, ⟨17, _⟩ => ⟨S2816x1024, .f32⟩
  | .hbm, ⟨18, _⟩ => ⟨S2816x1024, .bf16⟩
  | _, _ => ⟨S4x2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩

abbrev nD : Nat := 1
abbrev τ : Topo := Topo.v7x

variable {F : FTy → Type} [FloatOps F]
-- ==== UpWeight.lean ====
abbrev S4x2048x1024 : Shape := ⟨3, ![4, 2048, 1024]⟩
abbrev S4x1024 : Shape := ⟨2, ![4, 1024]⟩
abbrev S1024 : Shape := ⟨1, ![1024]⟩
abbrev S1024x5632 : Shape := ⟨2, ![1024, 5632]⟩
abbrev S4x2048x5632 : Shape := ⟨3, ![4, 2048, 5632]⟩
abbrev S8192x5632 : Shape := ⟨2, ![8192, 5632]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x1x1024 : Shape := ⟨3, ![4, 1, 1024]⟩
abbrev S8192x1024 : Shape := ⟨2, ![8192, 1024]⟩
abbrev S5632x1024 : Shape := ⟨2, ![5632, 1024]⟩
abbrev S8192x256 : Shape := ⟨2, ![8192, 256]⟩
abbrev S256x1024 : Shape := ⟨2, ![256, 1024]⟩

abbrev nBuf : Space → Nat
  | .hbm => 36
  | .vmem => 5
  | .smem => 0
  | _ => 0

abbrev bufTy : (tb : Table) → Fin (tcTables nBuf tb) → BufTy
  | .hbm, ⟨0, _⟩ => ⟨S4x2048x1024, .f32⟩
  | .hbm, ⟨1, _⟩ => ⟨S4x1024, .f32⟩
  | .hbm, ⟨2, _⟩ => ⟨S4x1024, .f32⟩
  | .hbm, ⟨3, _⟩ => ⟨S1024, .f32⟩
  | .hbm, ⟨4, _⟩ => ⟨S1024x5632, .f32⟩
  | .hbm, ⟨5, _⟩ => ⟨S4x2048x5632, .f32⟩
  | .hbm, ⟨6, _⟩ => ⟨S8192x5632, .f32⟩
  | .hbm, ⟨7, _⟩ => ⟨S8192x5632, .bf16⟩
  | .hbm, ⟨8, _⟩ => ⟨S4x2048x1024, .f32⟩
  | .hbm, ⟨9, _⟩ => ⟨S_, .f32⟩
  | .hbm, ⟨10, _⟩ => ⟨S4x2048, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S_, .f32⟩
  | .hbm, ⟨16, _⟩ => ⟨S4x2048x1, .f32⟩
  | .hbm, ⟨17, _⟩ => ⟨S4x2048x1, .f32⟩
  | .hbm, ⟨18, _⟩ => ⟨S4x2048x1, .f32⟩
  | .hbm, ⟨19, _⟩ => ⟨S4x2048x1024, .f32⟩
  | .hbm, ⟨20, _⟩ => ⟨S4x2048x1024, .f32⟩
  | .hbm, ⟨21, _⟩ => ⟨S1x1x1024, .f32⟩
  | .hbm, ⟨22, _⟩ => ⟨S4x2048x1024, .f32⟩
  | .hbm, ⟨23, _⟩ => ⟨S4x2048x1024, .f32⟩
  | .hbm, ⟨24, _⟩ => ⟨S4x1x1024, .f32⟩
  | .hbm, ⟨25, _⟩ => ⟨S_, .f32⟩
  | .hbm, ⟨26, _⟩ => ⟨S4x1x1024, .f32⟩
  | .hbm, ⟨27, _⟩ => ⟨S4x1x1024, .f32⟩
  | .hbm, ⟨28, _⟩ => ⟨S4x2048x1024, .f32⟩
  | .hbm, ⟨29, _⟩ => ⟨S4x2048x1024, .f32⟩
  | .hbm, ⟨30, _⟩ => ⟨S4x1x1024, .f32⟩
  | .hbm, ⟨31, _⟩ => ⟨S4x2048x1024, .f32⟩
  | .hbm, ⟨32, _⟩ => ⟨S4x2048x1024, .f32⟩
  | .hbm, ⟨33, _⟩ => ⟨S8192x1024, .f32⟩
  | .hbm, ⟨34, _⟩ => ⟨S8192x1024, .bf16⟩
  | .hbm, ⟨35, _⟩ => ⟨S5632x1024, .bf16⟩
  | .local _ .vmem, ⟨0, _⟩ => ⟨S8192x256, .bf16⟩
  | .local _ .vmem, ⟨1, _⟩ => ⟨S8192x256, .bf16⟩
  | .local _ .vmem, ⟨2, _⟩ => ⟨S8192x1024, .bf16⟩
  | .local _ .vmem, ⟨3, _⟩ => ⟨S256x1024, .bf16⟩
  | .local _ .vmem, ⟨4, _⟩ => ⟨S256x1024, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== UpWeightReferenceIdeal.lean ====
abbrev S4x2048x1024 : Shape := ⟨3, ![4, 2048, 1024]⟩
abbrev S4x1024 : Shape := ⟨2, ![4, 1024]⟩
abbrev S1024 : Shape := ⟨1, ![1024]⟩
abbrev S1024x5632 : Shape := ⟨2, ![1024, 5632]⟩
abbrev S4x2048x5632 : Shape := ⟨3, ![4, 2048, 5632]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x1x1024 : Shape := ⟨3, ![4, 1, 1024]⟩
abbrev S5632x1024 : Shape := ⟨2, ![5632, 1024]⟩

abbrev nBuf : Space → Nat
  | .hbm => 36
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x1024, .f32⟩
  | .hbm, ⟨2, _⟩ => ⟨S4x1024, .f32⟩
  | .hbm, ⟨3, _⟩ => ⟨S1024, .f32⟩
  | .hbm, ⟨4, _⟩ => ⟨S1024x5632, .f32⟩
  | .hbm, ⟨5, _⟩ => ⟨S4x2048x5632, .f32⟩
  | .hbm, ⟨6, _⟩ => ⟨S4x2048x1024, .f32⟩
  | .hbm, ⟨7, _⟩ => ⟨S_, .f32⟩
  | .hbm, ⟨8, _⟩ => ⟨S4x2048, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S_, .f32⟩
  | .hbm, ⟨14, _⟩ => ⟨S4x2048x1, .f32⟩
  | .hbm, ⟨15, _⟩ => ⟨S4x2048x1, .f32⟩
  | .hbm, ⟨16, _⟩ => ⟨S4x2048x1, .f32⟩
  | .hbm, ⟨17, _⟩ => ⟨S4x2048x1024, .f32⟩
  | .hbm, ⟨18, _⟩ => ⟨S4x2048x1024, .f32⟩
  | .hbm, ⟨19, _⟩ => ⟨S1x1x1024, .f32⟩
  | .hbm, ⟨20, _⟩ => ⟨S4x2048x1024, .f32⟩
  | .hbm, ⟨21, _⟩ => ⟨S4x2048x1024, .f32⟩
  | .hbm, ⟨22, _⟩ => ⟨S4x1x1024, .f32⟩
  | .hbm, ⟨23, _⟩ => ⟨S_, .f32⟩
  | .hbm, ⟨24, _⟩ => ⟨S4x1x1024, .f32⟩
  | .hbm, ⟨25, _⟩ => ⟨S4x1x1024, .f32⟩
  | .hbm, ⟨26, _⟩ => ⟨S4x2048x1024, .f32⟩
  | .hbm, ⟨27, _⟩ => ⟨S4x2048x1024, .f32⟩
  | .hbm, ⟨28, _⟩ => ⟨S4x1x1024, .f32⟩
  | .hbm, ⟨29, _⟩ => ⟨S4x2048x1024, .f32⟩
  | .hbm, ⟨30, _⟩ => ⟨S4x2048x1024, .f32⟩
  | .hbm, ⟨31, _⟩ => ⟨S4x2048x5632, .f32⟩
  | .hbm, ⟨32, _⟩ => ⟨S5632x1024, .f32⟩
  | .hbm, ⟨33, _⟩ => ⟨S1024x5632, .f32⟩
  | .hbm, ⟨34, _⟩ => ⟨S5632x1024, .f32⟩
  | .hbm, ⟨35, _⟩ => ⟨S5632x1024, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== ForwardPass.lean ====
abbrev S4x2048x1024 : Shape := ⟨3, ![4, 2048, 1024]⟩
abbrev S4x1024 : Shape := ⟨2, ![4, 1024]⟩
abbrev S1024 : Shape := ⟨1, ![1024]⟩
abbrev S1024x5632 : Shape := ⟨2, ![1024, 5632]⟩
abbrev S2816x1024 : Shape := ⟨2, ![2816, 1024]⟩
abbrev S8192x1024 : Shape := ⟨2, ![8192, 1024]⟩
abbrev S1x1024 : Shape := ⟨2, ![1, 1024]⟩
abbrev S_ : Shape := ⟨0, ![]⟩
abbrev S4x1x1024 : Shape := ⟨3, ![4, 1, 1024]⟩
abbrev S5632x1024 : Shape := ⟨2, ![5632, 1024]⟩
abbrev S8192x2816 : Shape := ⟨2, ![8192, 2816]⟩
abbrev S512x1024 : Shape := ⟨2, ![512, 1024]⟩
abbrev S1x1x1024 : Shape := ⟨3, ![1, 1, 1024]⟩
abbrev S512x2816 : Shape := ⟨2, ![512, 2816]⟩
abbrev S512 : Shape := ⟨1, ![512]⟩
abbrev S512x1 : Shape := ⟨2, ![512, 1]⟩
abbrev S256x1024 : Shape := ⟨2, ![256, 1024]⟩
abbrev S512x256 : Shape := ⟨2, ![512, 256]⟩

abbrev nBuf : Space → Nat
  | .hbm => 24
  | .vmem => 23
  | .smem => 0
  | _ => 0

abbrev bufTy : (tb : Table) → Fin (tcTables nBuf tb) → BufTy
  | .hbm, ⟨0, _⟩ => ⟨S4x2048x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S1024, .f32⟩
  | .hbm, ⟨5, _⟩ => ⟨S1024x5632, .f32⟩
  | .hbm, ⟨6, _⟩ => ⟨S2816x1024, .f32⟩
  | .hbm, ⟨7, _⟩ => ⟨S8192x1024, .f32⟩
  | .hbm, ⟨8, _⟩ => ⟨S1x1024, .f32⟩
  | .hbm, ⟨9, _⟩ => ⟨S_, .f32⟩
  | .hbm, ⟨10, _⟩ => ⟨S4x1024, .f32⟩
  | .hbm, ⟨11, _⟩ => ⟨S4x1024, .f32⟩
  | .hbm, ⟨12, _⟩ => ⟨S4x1x1024, .f32⟩
  | .hbm, ⟨13, _⟩ => ⟨S4x1x1024, .f32⟩
  | .hbm, ⟨14, _⟩ => ⟨S5632x1024, .f32⟩
  | .hbm, ⟨15, _⟩ => ⟨S5632x1024, .bf16⟩
  | .hbm, ⟨16, _⟩ => ⟨S2816x1024, .bf16⟩
  | .hbm, ⟨17, _⟩ => ⟨S4x1x1024, .f32⟩
  | .hbm, ⟨18, _⟩ => ⟨S8192x1024, .bf16⟩
  | .hbm, ⟨19, _⟩ => ⟨S8192x2816, .bf16⟩
  | .hbm, ⟨20, _⟩ => ⟨S8192x2816, .bf16⟩
  | .hbm, ⟨21, _⟩ => ⟨S8192x2816, .bf16⟩
  | .hbm, ⟨22, _⟩ => ⟨S8192x1024, .f32⟩
  | .hbm, ⟨23, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S5632x1024, .bf16⟩
  | .local _ .vmem, ⟨8, _⟩ => ⟨S2816x1024, .bf16⟩
  | .local _ .vmem, ⟨9, _⟩ => ⟨S1x1x1024, .f32⟩
  | .local _ .vmem, ⟨10, _⟩ => ⟨S1x1x1024, .f32⟩
  | .local _ .vmem, ⟨11, _⟩ => ⟨S512x1024, .bf16⟩
  | .local _ .vmem, ⟨12, _⟩ => ⟨S512x1024, .bf16⟩
  | .local _ .vmem, ⟨13, _⟩ => ⟨S512x2816, .bf16⟩
  | .local _ .vmem, ⟨14, _⟩ => ⟨S512x2816, .bf16⟩
  | .local _ .vmem, ⟨15, _⟩ => ⟨S512x2816, .bf16⟩
  | .local _ .vmem, ⟨16, _⟩ => ⟨S512x2816, .bf16⟩
  | .local _ .vmem, ⟨17, _⟩ => ⟨S512x2816, .bf16⟩
  | .local _ .vmem, ⟨18, _⟩ => ⟨S512x2816, .bf16⟩
  | .local _ .vmem, ⟨19, _⟩ => ⟨S512x1024, .f32⟩
  | .local _ .vmem, ⟨20, _⟩ => ⟨S512x1024, .f32⟩
  | .local _ .vmem, ⟨21, _⟩ => ⟨S512x1024, .bf16⟩
  | .local _ .vmem, ⟨22, _⟩ => ⟨S512x1024, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v10_2 : Ref sig .tc := ⟨.hbm, 20, rfl⟩
abbrev main_v10_3 : Ref sig .tc := ⟨.hbm, 21, rfl⟩
abbrev main_v10_4 : Ref sig .tc := ⟨.hbm, 22, rfl⟩
abbrev main_v10_5 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S5632x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ForwardPassReferenceIdeal.lean ====
abbrev S4x2048x1024 : Shape := ⟨3, ![4, 2048, 1024]⟩
abbrev S4x1024 : Shape := ⟨2, ![4, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x1x1024 : Shape := ⟨3, ![4, 1, 1024]⟩
abbrev S4x2048x5632 : Shape := ⟨3, ![4, 2048, 5632]⟩
abbrev S4x2048x2816 : Shape := ⟨3, ![4, 2048, 2816]⟩
abbrev S8192x1024 : Shape := ⟨2, ![8192, 1024]⟩
abbrev S8192x2816 : Shape := ⟨2, ![8192, 2816]⟩

abbrev nBuf : Space → Nat
  | .hbm => 87
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S1024, .f32⟩
  | .hbm, ⟨5, _⟩ => ⟨S1024x5632, .f32⟩
  | .hbm, ⟨6, _⟩ => ⟨S2816x1024, .f32⟩
  | .hbm, ⟨7, _⟩ => ⟨S4x2048x1024, .f32⟩
  | .hbm, ⟨8, _⟩ => ⟨S_, .f32⟩
  | .hbm, ⟨9, _⟩ => ⟨S4x2048, .f32⟩
  | .hbm, ⟨10, _⟩ => ⟨S4x2048x1, .f32⟩
  | .hbm, ⟨11, _⟩ => ⟨S_, .f32⟩
  | .hbm, ⟨12, _⟩ => ⟨S4x2048x1, .f32⟩
  | .hbm, ⟨13, _⟩ => ⟨S4x2048x1, .f32⟩
  | .hbm, ⟨14, _⟩ => ⟨S_, .f32⟩
  | .hbm, ⟨15, _⟩ => ⟨S4x2048x1, .f32⟩
  | .hbm, ⟨16, _⟩ => ⟨S4x2048x1, .f32⟩
  | .hbm, ⟨17, _⟩ => ⟨S4x2048x1, .f32⟩
  | .hbm, ⟨18, _⟩ => ⟨S4x2048x1024, .f32⟩
  | .hbm, ⟨19, _⟩ => ⟨S4x2048x1024, .f32⟩
  | .hbm, ⟨20, _⟩ => ⟨S1x1x1024, .f32⟩
  | .hbm, ⟨21, _⟩ => ⟨S4x2048x1024, .f32⟩
  | .hbm, ⟨22, _⟩ => ⟨S4x2048x1024, .f32⟩
  | .hbm, ⟨23, _⟩ => ⟨S4x1x1024, .f32⟩
  | .hbm, ⟨24, _⟩ => ⟨S_, .f32⟩
  | .hbm, ⟨25, _⟩ => ⟨S4x1x1024, .f32⟩
  | .hbm, ⟨26, _⟩ => ⟨S4x1x1024, .f32⟩
  | .hbm, ⟨27, _⟩ => ⟨S4x2048x1024, .f32⟩
  | .hbm, ⟨28, _⟩ => ⟨S4x2048x1024, .f32⟩
  | .hbm, ⟨29, _⟩ => ⟨S4x1x1024, .f32⟩
  | .hbm, ⟨30, _⟩ => ⟨S4x2048x1024, .f32⟩
  | .hbm, ⟨31, _⟩ => ⟨S4x2048x1024, .f32⟩
  | .hbm, ⟨32, _⟩ => ⟨S4x2048x5632, .f32⟩
  | .hbm, ⟨33, _⟩ => ⟨S4x2048x2816, .f32⟩
  | .hbm, ⟨34, _⟩ => ⟨S4x2048x2816, .f32⟩
  | .hbm, ⟨35, _⟩ => ⟨S4x2048x2816, .f32⟩
  | .hbm, ⟨36, _⟩ => ⟨S4x2048x2816, .f32⟩
  | .hbm, ⟨37, _⟩ => ⟨S_, .f32⟩
  | .hbm, ⟨38, _⟩ => ⟨S4x2048x2816, .f32⟩
  | .hbm, ⟨39, _⟩ => ⟨S4x2048x2816, .f32⟩
  | .hbm, ⟨40, _⟩ => ⟨S_, .f32⟩
  | .hbm, ⟨41, _⟩ => ⟨S4x2048x2816, .f32⟩
  | .hbm, ⟨42, _⟩ => ⟨S4x2048x2816, .f32⟩
  | .hbm, ⟨43, _⟩ => ⟨S_, .f32⟩
  | .hbm, ⟨44, _⟩ => ⟨S4x2048x2816, .f32⟩
  | .hbm, ⟨45, _⟩ => ⟨S4x2048x2816, .f32⟩
  | .hbm, ⟨46, _⟩ => ⟨S4x2048x2816, .f32⟩
  | .hbm, ⟨47, _⟩ => ⟨S4x2048x2816, .f32⟩
  | .hbm, ⟨48, _⟩ => ⟨S_, .f32⟩
  | .hbm, ⟨49, _⟩ => ⟨S4x2048x2816, .f32⟩
  | .hbm, ⟨50, _⟩ => ⟨S4x2048x2816, .f32⟩
  | .hbm, ⟨51, _⟩ => ⟨S4x2048x2816, .f32⟩
  | .hbm, ⟨52, _⟩ => ⟨S4x2048x2816, .f32⟩
  | .hbm, ⟨53, _⟩ => ⟨S4x2048x2816, .f32⟩
  | .hbm, ⟨54, _⟩ => ⟨S4x2048x2816, .f32⟩
  | .hbm, ⟨55, _⟩ => ⟨S4x2048x2816, .f32⟩
  | .hbm, ⟨56, _⟩ => ⟨S4x2048x2816, .f32⟩
  | .hbm, ⟨57, _⟩ => ⟨S4x2048x2816, .f32⟩
  | .hbm, ⟨58, _⟩ => ⟨S4x2048x2816, .f32⟩
  | .hbm, ⟨59, _⟩ => ⟨S_, .f32⟩
  | .hbm, ⟨60, _⟩ => ⟨S4x2048x2816, .f32⟩
  | .hbm, ⟨61, _⟩ => ⟨S4x2048x2816, .f32⟩
  | .hbm, ⟨62, _⟩ => ⟨S_, .f32⟩
  | .hbm, ⟨63, _⟩ => ⟨S4x2048x2816, .f32⟩
  | .hbm, ⟨64, _⟩ => ⟨S4x2048x2816, .f32⟩
  | .hbm, ⟨65, _⟩ => ⟨S4x2048x2816, .f32⟩
  | .hbm, ⟨66, _⟩ => ⟨S4x2048x2816, .f32⟩
  | .hbm, ⟨67, _⟩ => ⟨S4x2048x1024, .f32⟩
  | .hbm, ⟨68, _⟩ => ⟨S4x1x1024, .f32⟩
  | .hbm, ⟨69, _⟩ => ⟨S_, .f32⟩
  | .hbm, ⟨70, _⟩ => ⟨S4x1x1024, .f32⟩
  | .hbm, ⟨71, _⟩ => ⟨S4x1x1024, .f32⟩
  | .hbm, ⟨72, _⟩ => ⟨S4x2048x1024, .f32⟩
  | .hbm, ⟨73, _⟩ => ⟨S4x2048x1024, .f32⟩
  | .hbm, ⟨74, _⟩ => ⟨S4x2048x1024, .f32⟩
  | .hbm, ⟨75, _⟩ => ⟨S8192x1024, .f32⟩
  | .hbm, ⟨76, _⟩ => ⟨S8192x1024, .bf16⟩
  | .hbm, ⟨77, _⟩ => ⟨S4x2048x2816, .f32⟩
  | .hbm, ⟨78, _⟩ => ⟨S8192x2816, .f32⟩
  | .hbm, ⟨79, _⟩ => ⟨S8192x2816, .bf16⟩
  | .hbm, ⟨80, _⟩ => ⟨S8192x2816, .f32⟩
  | .hbm, ⟨81, _⟩ => ⟨S8192x2816, .bf16⟩
  | .hbm, ⟨82, _⟩ => ⟨S8192x2816, .f32⟩
  | .hbm, ⟨83, _⟩ => ⟨S8192x2816, .bf16⟩
  | .hbm, ⟨84, _⟩ => ⟨S8192x1024, .f32⟩
  | .hbm, ⟨85, _⟩ => ⟨S8192x1024, .f32⟩
  | .hbm, ⟨86, _⟩ => ⟨S8192x1024, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_v24_2 : Ref sig .tc := ⟨.hbm, 42, rfl⟩
abbrev main_call0_cst_1 : Ref sig .tc := ⟨.hbm, 43, rfl⟩
abbrev main_call0_v6 : Ref sig .tc := ⟨.hbm, 44, rfl⟩
abbrev main_call0_v7 : Ref sig .tc := ⟨.hbm, 45, rfl⟩
abbrev main_v24_1 : Ref sig .tc := ⟨.hbm, 46, rfl⟩
abbrev main_v24_0 : Ref sig .tc := ⟨.hbm, 47, rfl⟩
abbrev main_cst_3 : Ref sig .tc := ⟨.hbm, 48, rfl⟩
abbrev main_v25 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_call2_v0 : Ref sig .tc := ⟨.hbm, 57, rfl⟩
abbrev main_call2_v1 : Ref sig .tc := ⟨.hbm, 58, rfl⟩
abbrev main_call2_cst : Ref sig .tc := ⟨.hbm, 59, rfl⟩
abbrev main_call2_v2 : Ref sig .tc := ⟨.hbm, 60, rfl⟩
abbrev main_call2_v3 : Ref sig .tc := ⟨.hbm, 61, rfl⟩
abbrev main_call2_cst_0 : Ref sig .tc := ⟨.hbm, 62, rfl⟩
abbrev main_call2_v4 : Ref sig .tc := ⟨.hbm, 63, rfl⟩
abbrev main_call2_v5 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_cst_4 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩

abbrev nD : Nat := 1
abbrev τ : Topo := Topo.v7x

variable {F : FTy → Type} [FloatOps F]
-- ==== Mixer.lean ====
abbrev S4x2048x1024 : Shape := ⟨3, ![4, 2048, 1024]⟩
abbrev S4x1024 : Shape := ⟨2, ![4, 1024]⟩
abbrev S1024 : Shape := ⟨1, ![1024]⟩
abbrev S1024x2560 : Shape := ⟨2, ![1024, 2560]⟩
abbrev S64 : Shape := ⟨1, ![64]⟩
abbrev S8x128x128 : Shape := ⟨3, ![8, 128, 128]⟩
abbrev S8x128 : Shape := ⟨2, ![8, 128]⟩
abbrev S3x512 : Shape := ⟨2, ![3, 512]⟩
abbrev S1024x1024 : Shape := ⟨2, ![1024, 1024]⟩
abbrev S_ : Shape := ⟨0, ![]⟩
abbrev S128x128 : Shape := ⟨2, ![128, 128]⟩
abbrev S4x4 : Shape := ⟨2, ![4, 4]⟩
abbrev S64x64 : Shape := ⟨2, ![64, 64]⟩
abbrev S4x1x4x1 : Shape := ⟨4, ![4, 1, 4, 1]⟩
abbrev S1x64x1x64 : Shape := ⟨4, ![1, 64, 1, 64]⟩
abbrev S4x64x4x64 : Shape := ⟨4, ![4, 64, 4, 64]⟩
abbrev S256x256 : Shape := ⟨2, ![256, 256]⟩
abbrev S1x128x128 : Shape := ⟨3, ![1, 128, 128]⟩
abbrev S4x128x128 : Shape := ⟨3, ![4, 128, 128]⟩
abbrev S4x128x256 : Shape := ⟨3, ![4, 128, 256]⟩
abbrev S128x8 : Shape := ⟨2, ![128, 8]⟩
abbrev S128x8x64 : Shape := ⟨3, ![128, 8, 64]⟩
abbrev S128x512 : Shape := ⟨2, ![128, 512]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S8x512 : Shape := ⟨2, ![8, 512]⟩
abbrev S1x1024 : Shape := ⟨2, ![1, 1024]⟩
abbrev S8192x1024 : Shape := ⟨2, ![8192, 1024]⟩
abbrev S4x1x1024 : Shape := ⟨3, ![4, 1, 1024]⟩
abbrev S2560x1024 : Shape := ⟨2, ![2560, 1024]⟩
abbrev S8192x2560 : Shape := ⟨2, ![8192, 2560]⟩
abbrev S512x1024 : Shape := ⟨2, ![512, 1024]⟩
abbrev S16x1024 : Shape := ⟨2, ![16, 1024]⟩
abbrev S1x1x1024 : Shape := ⟨3, ![1, 1, 1024]⟩
abbrev S512x2560 : Shape := ⟨2, ![512, 2560]⟩
abbrev S512x512 : Shape := ⟨2, ![512, 512]⟩
abbrev S512x1 : Shape := ⟨2, ![512, 1]⟩
abbrev S256x1024 : Shape := ⟨2, ![256, 1024]⟩
abbrev S512x256 : Shape := ⟨2, ![512, 256]⟩
abbrev S16 : Shape := ⟨1, ![16]⟩
abbrev S16x1 : Shape := ⟨2, ![16, 1]⟩
abbrev S256x128 : Shape := ⟨2, ![256, 128]⟩
abbrev S1x128x256 : Shape := ⟨3, ![1, 128, 256]⟩
abbrev S128x256 : Shape := ⟨2, ![128, 256]⟩
abbrev S16x512 : Shape := ⟨2, ![16, 512]⟩
abbrev S528x512 : Shape := ⟨2, ![528, 512]⟩

abbrev nBuf : Space → Nat
  | .hbm => 78
  | .vmem => 31
  | .smem => 0
  | _ => 0

abbrev bufTy : (tb : Table) → Fin (tcTables nBuf tb) → BufTy
  | .hbm, ⟨0, _⟩ => ⟨S4x2048x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S1024, .f32⟩
  | .hbm, ⟨5, _⟩ => ⟨S1024x2560, .f32⟩
  | .hbm, ⟨6, _⟩ => ⟨S64, .f32⟩
  | .hbm, ⟨7, _⟩ => ⟨S64, .f32⟩
  | .hbm, ⟨8, _⟩ => ⟨S8x128x128, .f32⟩
  | .hbm, ⟨9, _⟩ => ⟨S8x128, .f32⟩
  | .hbm, ⟨10, _⟩ => ⟨S3x512, .f32⟩
  | .hbm, ⟨11, _⟩ => ⟨S1024, .f32⟩
  | .hbm, ⟨12, _⟩ => ⟨S1024x1024, .f32⟩
  | .hbm, ⟨13, _⟩ => ⟨S_, .f32⟩
  | .hbm, ⟨14, _⟩ => ⟨S128x128, .f32⟩
  | .hbm, ⟨15, _⟩ => ⟨S128x128, .i32⟩
  | .hbm, ⟨16, _⟩ => ⟨S_, .i32⟩
  | .hbm, ⟨17, _⟩ => ⟨S128x128, .i32⟩
  | .hbm, ⟨18, _⟩ => ⟨S128x128, .i32⟩
  | .hbm, ⟨19, _⟩ => ⟨S128x128, .i32⟩
  | .hbm, ⟨20, _⟩ => ⟨S128x128, .i1⟩
  | .hbm, ⟨21, _⟩ => ⟨S_, .f32⟩
  | .hbm, ⟨22, _⟩ => ⟨S128x128, .f32⟩
  | .hbm, ⟨23, _⟩ => ⟨S128x128, .f32⟩
  | .hbm, ⟨24, _⟩ => ⟨S4x4, .i32⟩
  | .hbm, ⟨25, _⟩ => ⟨S4x4, .i32⟩
  | .hbm, ⟨26, _⟩ => ⟨S_, .i32⟩
  | .hbm, ⟨27, _⟩ => ⟨S4x4, .i32⟩
  | .hbm, ⟨28, _⟩ => ⟨S4x4, .i32⟩
  | .hbm, ⟨29, _⟩ => ⟨S4x4, .i1⟩
  | .hbm, ⟨30, _⟩ => ⟨S4x4, .f32⟩
  | .hbm, ⟨31, _⟩ => ⟨S_, .f32⟩
  | .hbm, ⟨32, _⟩ => ⟨S64x64, .f32⟩
  | .hbm, ⟨33, _⟩ => ⟨S4x1x4x1, .f32⟩
  | .hbm, ⟨34, _⟩ => ⟨S1x64x1x64, .f32⟩
  | .hbm, ⟨35, _⟩ => ⟨S4x64x4x64, .f32⟩
  | .hbm, ⟨36, _⟩ => ⟨S4x64x4x64, .f32⟩
  | .hbm, ⟨37, _⟩ => ⟨S4x64x4x64, .f32⟩
  | .hbm, ⟨38, _⟩ => ⟨S256x256, .f32⟩
  | .hbm, ⟨39, _⟩ => ⟨S256x256, .bf16⟩
  | .hbm, ⟨40, _⟩ => ⟨S1x128x128, .f32⟩
  | .hbm, ⟨41, _⟩ => ⟨S8x128x128, .f32⟩
  | .hbm, ⟨42, _⟩ => ⟨S8x128x128, .f32⟩
  | .hbm, ⟨43, _⟩ => ⟨S8x128x128, .bf16⟩
  | .hbm, ⟨44, _⟩ => ⟨S4x128x128, .bf16⟩
  | .hbm, ⟨45, _⟩ => ⟨S4x128x128, .bf16⟩
  | .hbm, ⟨46, _⟩ => ⟨S4x128x256, .bf16⟩
  | .hbm, ⟨47, _⟩ => ⟨S128x8, .f32⟩
  | .hbm, ⟨48, _⟩ => ⟨S128x8x64, .f32⟩
  | .hbm, ⟨49, _⟩ => ⟨S128x512, .f32⟩
  | .hbm, ⟨50, _⟩ => ⟨S1x64, .f32⟩
  | .hbm, ⟨51, _⟩ => ⟨S8x64, .f32⟩
  | .hbm, ⟨52, _⟩ => ⟨S512, .f32⟩
  | .hbm, ⟨53, _⟩ => ⟨S1x512, .f32⟩
  | .hbm, ⟨54, _⟩ => ⟨S1x64, .f32⟩
  | .hbm, ⟨55, _⟩ => ⟨S8x64, .f32⟩
  | .hbm, ⟨56, _⟩ => ⟨S512, .f32⟩
  | .hbm, ⟨57, _⟩ => ⟨S1x512, .f32⟩
  | .hbm, ⟨58, _⟩ => ⟨S_, .i32⟩
  | .hbm, ⟨59, _⟩ => ⟨S_, .f32⟩
  | .hbm, ⟨60, _⟩ => ⟨S8x512, .f32⟩
  | .hbm, ⟨61, _⟩ => ⟨S1x1024, .f32⟩
  | .hbm, ⟨62, _⟩ => ⟨S8192x1024, .f32⟩
  | .hbm, ⟨63, _⟩ => ⟨S1x1024, .f32⟩
  | .hbm, ⟨64, _⟩ => ⟨S_, .f32⟩
  | .hbm, ⟨65, _⟩ => ⟨S4x1024, .f32⟩
  | .hbm, ⟨66, _⟩ => ⟨S4x1024, .f32⟩
  | .hbm, ⟨67, _⟩ => ⟨S4x1x1024, .f32⟩
  | .hbm, ⟨68, _⟩ => ⟨S4x1x1024, .f32⟩
  | .hbm, ⟨69, _⟩ => ⟨S2560x1024, .f32⟩
  | .hbm, ⟨70, _⟩ => ⟨S2560x1024, .bf16⟩
  | .hbm, ⟨71, _⟩ => ⟨S4x1x1024, .f32⟩
  | .hbm, ⟨72, _⟩ => ⟨S1024x1024, .bf16⟩
  | .hbm, ⟨73, _⟩ => ⟨S8192x1024, .bf16⟩
  | .hbm, ⟨74, _⟩ => ⟨S8192x2560, .bf16⟩
  | .hbm, ⟨75, _⟩ => ⟨S8192x1024, .bf16⟩
  | .hbm, ⟨76, _⟩ => ⟨S8192x1024, .f32⟩
  | .hbm, ⟨77, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S16x1024, .f32⟩
  | .local _ .vmem, ⟨3, _⟩ => ⟨S16x1024, .f32⟩
  | .local _ .vmem, ⟨4, _⟩ => ⟨S1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S2560x1024, .bf16⟩
  | .local _ .vmem, ⟨10, _⟩ => ⟨S1x1x1024, .f32⟩
  | .local _ .vmem, ⟨11, _⟩ => ⟨S1x1x1024, .f32⟩
  | .local _ .vmem, ⟨12, _⟩ => ⟨S1024x1024, .bf16⟩
  | .local _ .vmem, ⟨13, _⟩ => ⟨S4x128x256, .bf16⟩
  | .local _ .vmem, ⟨14, _⟩ => ⟨S128x512, .f32⟩
  | .local _ .vmem, ⟨15, _⟩ => ⟨S1x512, .f32⟩
  | .local _ .vmem, ⟨16, _⟩ => ⟨S1x512, .f32⟩
  | .local _ .vmem, ⟨17, _⟩ => ⟨S8x512, .f32⟩
  | .local _ .vmem, ⟨18, _⟩ => ⟨S1x1024, .f32⟩
  | .local _ .vmem, ⟨19, _⟩ => ⟨S256x256, .bf16⟩
  | .local _ .vmem, ⟨20, _⟩ => ⟨S512x1024, .bf16⟩
  | .local _ .vmem, ⟨21, _⟩ => ⟨S512x1024, .bf16⟩
  | .local _ .vmem, ⟨22, _⟩ => ⟨S512x2560, .bf16⟩
  | .local _ .vmem, ⟨23, _⟩ => ⟨S512x2560, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .f32⟩
  | .local _ .vmem, ⟨27, _⟩ => ⟨S512x1024, .f32⟩
  | .local _ .vmem, ⟨28, _⟩ => ⟨S512x1024, .bf16⟩
  | .local _ .vmem, ⟨29, _⟩ => ⟨S512x1024, .bf16⟩
  | .local _ .vmem, ⟨30, _⟩ => ⟨S512x512, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_call0_v0 : Ref sig .tc := ⟨.hbm, 15, rfl⟩
abbrev main_call0_c : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_cst : Ref sig .tc := ⟨.hbm, 21, rfl⟩
abbrev main_call0_v5 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_c : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_cst_0 : Ref sig .tc := ⟨.hbm, 31, rfl⟩
abbrev main_v8 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_c_1 : Ref sig .tc := ⟨.hbm, 58, rfl⟩
abbrev main_call2_v0 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_cst_2 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41_0 : Ref sig .tc := ⟨.hbm, 73, rfl⟩
abbrev main_v41_1 : Ref sig .tc := ⟨.hbm, 74, rfl⟩
abbrev main_v41_2 : Ref sig .tc := ⟨.hbm, 75, rfl⟩
abbrev main_v41_3 : Ref sig .tc := ⟨.hbm, 76, rfl⟩
abbrev main_v41_4 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg19_1 : Ref sig .tc := ⟨.vmem, 29, rfl⟩
abbrev cc0_scratch0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27
abbrev cc0_sem19_0 : DmaSem sig := 28
abbrev cc0_sem19_1 : DmaSem sig := 29

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2560x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x128x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x256 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x2560 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== MixerReferenceIdeal.lean ====
abbrev S4x2048x1024 : Shape := ⟨3, ![4, 2048, 1024]⟩
abbrev S4x1024 : Shape := ⟨2, ![4, 1024]⟩
abbrev S1024 : Shape := ⟨1, ![1024]⟩
abbrev S1024x2560 : Shape := ⟨2, ![1024, 2560]⟩
abbrev S64 : Shape := ⟨1, ![64]⟩
abbrev S8x128x128 : Shape := ⟨3, ![8, 128, 128]⟩
abbrev S8x128 : Shape := ⟨2, ![8, 128]⟩
abbrev S3x512 : Shape := ⟨2, ![3, 512]⟩
abbrev S1024x1024 : Shape := ⟨2, ![1024, 1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x1x1024 : Shape := ⟨3, ![4, 1, 1024]⟩
abbrev S4x2048x2560 : Shape := ⟨3, ![4, 2048, 2560]⟩
abbrev S4x2048x512 : Shape := ⟨3, ![4, 2048, 512]⟩
abbrev S4x2048x8x64 : Shape := ⟨4, ![4, 2048, 8, 64]⟩
abbrev S4x2048x8 : Shape := ⟨3, ![4, 2048, 8]⟩
abbrev S4x2048x8x1 : Shape := ⟨4, ![4, 2048, 8, 1]⟩
abbrev S1x1x1x64 : Shape := ⟨4, ![1, 1, 1, 64]⟩
abbrev S4x16x128x8x64 : Shape := ⟨5, ![4, 16, 128, 8, 64]⟩
abbrev S128x128 : Shape := ⟨2, ![128, 128]⟩
abbrev S1x128x128 : Shape := ⟨3, ![1, 128, 128]⟩
abbrev S8x4x16x64x128 : Shape := ⟨5, ![8, 4, 16, 64, 128]⟩
abbrev S128x8 : Shape := ⟨2, ![128, 8]⟩
abbrev S1x1x128x8x1 : Shape := ⟨5, ![1, 1, 128, 8, 1]⟩
abbrev S4x2050x512 : Shape := ⟨3, ![4, 2050, 512]⟩
abbrev S1x512 : Shape := ⟨2, ![1, 512]⟩
abbrev S512 : Shape := ⟨1, ![512]⟩
abbrev S1x1x512 : Shape := ⟨3, ![1, 1, 512]⟩
abbrev S8192x1024 : Shape := ⟨2, ![8192, 1024]⟩
abbrev S8192x2560 : Shape := ⟨2, ![8192, 2560]⟩

abbrev nBuf : Space → Nat
  | .hbm => 191
  | .vmem => 0
  | .smem => 0
  | _ => 0

abbrev hbmTy0_0 (i : Nat) : BufTy := match i % 128 with
  | 0 => ⟨S4x2048x1024, .f32⟩
  | 1 => ⟨S4x1024, .f32⟩
  | 2 => ⟨S4x1024, .f32⟩
  | 3 => ⟨S4x1024, .f32⟩
  | 4 => ⟨S1024, .f32⟩
  | 5 => ⟨S1024x2560, .f32⟩
  | 6 => ⟨S64, .f32⟩
  | 7 => ⟨S64, .f32⟩
  | 8 => ⟨S8x128x128, .f32⟩
  | 9 => ⟨S8x128, .f32⟩
  | 10 => ⟨S3x512, .f32⟩
  | 11 => ⟨S1024, .f32⟩
  | 12 => ⟨S1024x1024, .f32⟩
  | 13 => ⟨S4x2048x1024, .f32⟩
  | 14 => ⟨S_, .f32⟩
  | 15 => ⟨S4x2048, .f32⟩
  | 16 => ⟨S4x2048x1, .f32⟩
  | 17 => ⟨S_, .f32⟩
  | 18 => ⟨S4x2048x1, .f32⟩
  | 19 => ⟨S4x2048x1, .f32⟩
  | 20 => ⟨S_, .f32⟩
  | 21 => ⟨S4x2048x1, .f32⟩
  | 22 => ⟨S4x2048x1, .f32⟩
  | 23 => ⟨S4x2048x1, .f32⟩
  | 24 => ⟨S4x2048x1024, .f32⟩
  | 25 => ⟨S4x2048x1024, .f32⟩
  | 26 => ⟨S1x1x1024, .f32⟩
  | 27 => ⟨S4x2048x1024, .f32⟩
  | 28 => ⟨S4x2048x1024, .f32⟩
  | 29 => ⟨S4x1x1024, .f32⟩
  | 30 => ⟨S_, .f32⟩
  | 31 => ⟨S4x1x1024, .f32⟩
  | 32 => ⟨S4x1x1024, .f32⟩
  | 33 => ⟨S4x2048x1024, .f32⟩
  | 34 => ⟨S4x2048x1024, .f32⟩
  | 35 => ⟨S4x1x1024, .f32⟩
  | 36 => ⟨S4x2048x1024, .f32⟩
  | 37 => ⟨S4x2048x1024, .f32⟩
  | 38 => ⟨S4x2048x2560, .f32⟩
  | 39 => ⟨S4x2048x512, .f32⟩
  | 40 => ⟨S4x2048x512, .f32⟩
  | 41 => ⟨S4x2048x512, .f32⟩
  | 42 => ⟨S4x2048x512, .f32⟩
  | 43 => ⟨S4x2048x512, .f32⟩
  | 44 => ⟨S_, .f32⟩
  | 45 => ⟨S4x2048x512, .f32⟩
  | 46 => ⟨S4x2048x512, .f32⟩
  | 47 => ⟨S4x2048x512, .f32⟩
  | 48 => ⟨S_, .f32⟩
  | 49 => ⟨S4x2048x512, .f32⟩
  | 50 => ⟨S4x2048x512, .f32⟩
  | 51 => ⟨S4x2048x512, .f32⟩
  | 52 => ⟨S4x2048x512, .f32⟩
  | 53 => ⟨S_, .f32⟩
  | 54 => ⟨S4x2048x512, .f32⟩
  | 55 => ⟨S4x2048x512, .f32⟩
  | 56 => ⟨S4x2048x512, .f32⟩
  | 57 => ⟨S_, .f32⟩
  | 58 => ⟨S4x2048x512, .f32⟩
  | 59 => ⟨S4x2048x512, .f32⟩
  | 60 => ⟨S4x2048x512, .f32⟩
  | 61 => ⟨S4x2048x512, .f32⟩
  | 62 => ⟨S4x2048x8x64, .f32⟩
  | 63 => ⟨S_, .f32⟩
  | 64 => ⟨S4x2048x8, .f32⟩
  | 65 => ⟨S4x2048x8x1, .f32⟩
  | 66 => ⟨S_, .f32⟩
  | 67 => ⟨S4x2048x8x1, .f32⟩
  | 68 => ⟨S4x2048x8x1, .f32⟩
  | 69 => ⟨S4x2048x8x64, .f32⟩
  | 70 => ⟨S4x2048x8x64, .f32⟩
  | 71 => ⟨S4x2048x8x64, .f32⟩
  | 72 => ⟨S_, .f32⟩
  | 73 => ⟨S4x2048x8, .f32⟩
  | 74 => ⟨S4x2048x8x1, .f32⟩
  | 75 => ⟨S_, .f32⟩
  | 76 => ⟨S4x2048x8x1, .f32⟩
  | 77 => ⟨S4x2048x8x1, .f32⟩
  | 78 => ⟨S4x2048x8x64, .f32⟩
  | 79 => ⟨S4x2048x8x64, .f32⟩
  | 80 => ⟨S_, .f32⟩
  | 81 => ⟨S4x2048x8x1, .f32⟩
  | 82 => ⟨S4x2048x8x1, .f32⟩
  | 83 => ⟨S4x2048x8x1, .f32⟩
  | 84 => ⟨S4x2048x8x64, .f32⟩
  | 85 => ⟨S4x2048x8x64, .f32⟩
  | 86 => ⟨S1x1x1x64, .f32⟩
  | 87 => ⟨S4x2048x8x64, .f32⟩
  | 88 => ⟨S4x2048x8x64, .f32⟩
  | 89 => ⟨S1x1x1x64, .f32⟩
  | 90 => ⟨S4x2048x8x64, .f32⟩
  | 91 => ⟨S4x2048x8x64, .f32⟩
  | 92 => ⟨S4x16x128x8x64, .f32⟩
  | 93 => ⟨S_, .i1⟩
  | 94 => ⟨S128x128, .i1⟩
  | 95 => ⟨S128x128, .i32⟩
  | 96 => ⟨S_, .i32⟩
  | 97 => ⟨S128x128, .i32⟩
  | 98 => ⟨S128x128, .i32⟩
  | 99 => ⟨S128x128, .i32⟩
  | 100 => ⟨S128x128, .i1⟩
  | 101 => ⟨S_, .i1⟩
  | 102 => ⟨S128x128, .i1⟩
  | 103 => ⟨S128x128, .i1⟩
  | 104 => ⟨S1x128x128, .i1⟩
  | 105 => ⟨S_, .f32⟩
  | 106 => ⟨S8x128x128, .f32⟩
  | 107 => ⟨S8x128x128, .i1⟩
  | 108 => ⟨S8x128x128, .f32⟩
  | 109 => ⟨S8x4x16x64x128, .f32⟩
  | 110 => ⟨S4x16x128x8x64, .f32⟩
  | 111 => ⟨S128x8, .f32⟩
  | 112 => ⟨S1x1x128x8x1, .f32⟩
  | 113 => ⟨S4x16x128x8x64, .f32⟩
  | 114 => ⟨S4x16x128x8x64, .f32⟩
  | 115 => ⟨S4x2048x512, .f32⟩
  | 116 => ⟨S4x2048x512, .f32⟩
  | 117 => ⟨S4x2048x512, .f32⟩
  | 118 => ⟨S_, .i32⟩
  | 119 => ⟨S_, .f32⟩
  | 120 => ⟨S4x2050x512, .f32⟩
  | 121 => ⟨S4x2048x512, .f32⟩
  | 122 => ⟨S1x512, .f32⟩
  | 123 => ⟨S512, .f32⟩
  | 124 => ⟨S1x1x512, .f32⟩
  | 125 => ⟨S4x2048x512, .f32⟩
  | 126 => ⟨S4x2048x512, .f32⟩
  | 127 => ⟨S4x2048x512, .f32⟩
  | _ => ⟨S4x2048x1024, .f32⟩

abbrev hbmTy0_1 (i : Nat) : BufTy := match i % 128 with
  | 0 => ⟨S1x512, .f32⟩
  | 1 => ⟨S512, .f32⟩
  | 2 => ⟨S1x1x512, .f32⟩
  | 3 => ⟨S4x2048x512, .f32⟩
  | 4 => ⟨S4x2048x512, .f32⟩
  | 5 => ⟨S4x2048x512, .f32⟩
  | 6 => ⟨S4x2048x512, .f32⟩
  | 7 => ⟨S1x512, .f32⟩
  | 8 => ⟨S512, .f32⟩
  | 9 => ⟨S1x1x512, .f32⟩
  | 10 => ⟨S4x2048x512, .f32⟩
  | 11 => ⟨S4x2048x512, .f32⟩
  | 12 => ⟨S4x2048x512, .f32⟩
  | 13 => ⟨S4x2048x512, .f32⟩
  | 14 => ⟨S512, .f32⟩
  | 15 => ⟨S4x2048x512, .f32⟩
  | 16 => ⟨S_, .f32⟩
  | 17 => ⟨S4x2048, .f32⟩
  | 18 => ⟨S4x2048x1, .f32⟩
  | 19 => ⟨S_, .f32⟩
  | 20 => ⟨S4x2048x1, .f32⟩
  | 21 => ⟨S4x2048x1, .f32⟩
  | 22 => ⟨S_, .f32⟩
  | 23 => ⟨S4x2048x1, .f32⟩
  | 24 => ⟨S4x2048x1, .f32⟩
  | 25 => ⟨S4x2048x1, .f32⟩
  | 26 => ⟨S4x2048x512, .f32⟩
  | 27 => ⟨S4x2048x512, .f32⟩
  | 28 => ⟨S1x1x512, .f32⟩
  | 29 => ⟨S4x2048x512, .f32⟩
  | 30 => ⟨S4x2048x512, .f32⟩
  | 31 => ⟨S512, .f32⟩
  | 32 => ⟨S4x2048x512, .f32⟩
  | 33 => ⟨S_, .f32⟩
  | 34 => ⟨S4x2048, .f32⟩
  | 35 => ⟨S4x2048x1, .f32⟩
  | 36 => ⟨S_, .f32⟩
  | 37 => ⟨S4x2048x1, .f32⟩
  | 38 => ⟨S4x2048x1, .f32⟩
  | 39 => ⟨S_, .f32⟩
  | 40 => ⟨S4x2048x1, .f32⟩
  | 41 => ⟨S4x2048x1, .f32⟩
  | 42 => ⟨S4x2048x1, .f32⟩
  | 43 => ⟨S4x2048x512, .f32⟩
  | 44 => ⟨S4x2048x512, .f32⟩
  | 45 => ⟨S1x1x512, .f32⟩
  | 46 => ⟨S4x2048x512, .f32⟩
  | 47 => ⟨S4x2048x512, .f32⟩
  | 48 => ⟨S4x2048x1024, .f32⟩
  | 49 => ⟨S4x2048x1024, .f32⟩
  | 50 => ⟨S4x1x1024, .f32⟩
  | 51 => ⟨S4x2048x1024, .f32⟩
  | 52 => ⟨S4x2048x1024, .f32⟩
  | 53 => ⟨S4x2048x1024, .f32⟩
  | 54 => ⟨S8192x1024, .f32⟩
  | 55 => ⟨S8192x1024, .bf16⟩
  | 56 => ⟨S8192x2560, .f32⟩
  | 57 => ⟨S8192x2560, .bf16⟩
  | 58 => ⟨S8192x1024, .f32⟩
  | 59 => ⟨S8192x1024, .bf16⟩
  | 60 => ⟨S8192x1024, .f32⟩
  | 61 => ⟨S8192x1024, .f32⟩
  | 62 => ⟨S8192x1024, .bf16⟩
  | _ => ⟨S4x2048x1024, .f32⟩

abbrev hbmTy (i : Nat) : BufTy := match i / 128 with
  | 0 => hbmTy0_0 i
  | 1 => hbmTy0_1 i
  | _ => ⟨S4x2048x1024, .f32⟩

abbrev bufTy : (tb : Table) → Fin (tcTables nBuf tb) → BufTy
  | .hbm, ⟨i, _⟩ => hbmTy i
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_cst_1 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_3 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_4 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_5 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_6 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_7 : Ref sig .tc := ⟨.hbm, 63, rfl⟩
abbrev main_v42 : Ref sig .tc := ⟨.hbm, 64, rfl⟩
abbrev main_v43 : Ref sig .tc := ⟨.hbm, 65, rfl⟩
abbrev main_cst_8 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_9 : Ref sig .tc := ⟨.hbm, 72, rfl⟩
abbrev main_v49 : Ref sig .tc := ⟨.hbm, 73, rfl⟩
abbrev main_v50 : Ref sig .tc := ⟨.hbm, 74, rfl⟩
abbrev main_cst_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_11 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_c : Ref sig .tc := ⟨.hbm, 93, rfl⟩
abbrev main_v67 : Ref sig .tc := ⟨.hbm, 94, rfl⟩
abbrev main_call0_v0 : Ref sig .tc := ⟨.hbm, 95, rfl⟩
abbrev main_call0_c : Ref sig .tc := ⟨.hbm, 96, rfl⟩
abbrev main_call0_v1 : Ref sig .tc := ⟨.hbm, 97, rfl⟩
abbrev main_call0_v2 : Ref sig .tc := ⟨.hbm, 98, rfl⟩
abbrev main_call0_v3 : Ref sig .tc := ⟨.hbm, 99, rfl⟩
abbrev main_call0_v4 : Ref sig .tc := ⟨.hbm, 100, rfl⟩
abbrev main_call0_c_0 : Ref sig .tc := ⟨.hbm, 101, rfl⟩
abbrev main_call0_v5 : Ref sig .tc := ⟨.hbm, 102, rfl⟩
abbrev main_v68 : Ref sig .tc := ⟨.hbm, 103, rfl⟩
abbrev main_v69 : Ref sig .tc := ⟨.hbm, 104, rfl⟩
abbrev main_cst_12 : Ref sig .tc := ⟨.hbm, 105, rfl⟩
abbrev main_v70 : Ref sig .tc := ⟨.hbm, 106, rfl⟩
abbrev main_call1_v0 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_c_13 : Ref sig .tc := ⟨.hbm, 118, rfl⟩
abbrev main_call2_v0 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_cst_14 : Ref sig .tc := ⟨.hbm, 144, rfl⟩
abbrev main_v105 : Ref sig .tc := ⟨.hbm, 145, rfl⟩
abbrev main_v106 : Ref sig .tc := ⟨.hbm, 146, rfl⟩
abbrev main_cst_15 : Ref sig .tc := ⟨.hbm, 147, rfl⟩
abbrev main_v107 : Ref sig .tc := ⟨.hbm, 148, rfl⟩
abbrev main_v108 : Ref sig .tc := ⟨.hbm, 149, rfl⟩
abbrev main_cst_16 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_cst_17 : Ref sig .tc := ⟨.hbm, 161, rfl⟩
abbrev main_v119 : Ref sig .tc := ⟨.hbm, 162, rfl⟩
abbrev main_v120 : Ref sig .tc := ⟨.hbm, 163, rfl⟩
abbrev main_cst_18 : Ref sig .tc := ⟨.hbm, 164, rfl⟩
abbrev main_v121 : Ref sig .tc := ⟨.hbm, 165, rfl⟩
abbrev main_v122 : Ref sig .tc := ⟨.hbm, 166, rfl⟩
abbrev main_cst_19 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩

abbrev nD : Nat := 1
abbrev τ : Topo := Topo.v7x

variable {F : FTy → Type} [FloatOps F]
-- ==== InWeight.lean ====
abbrev S4x2048x1024 : Shape := ⟨3, ![4, 2048, 1024]⟩
abbrev S4x1024 : Shape := ⟨2, ![4, 1024]⟩
abbrev S1024 : Shape := ⟨1, ![1024]⟩
abbrev S1024x2560 : Shape := ⟨2, ![1024, 2560]⟩
abbrev S4x2048x2560 : Shape := ⟨3, ![4, 2048, 2560]⟩
abbrev S8192x2560 : Shape := ⟨2, ![8192, 2560]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x1x1024 : Shape := ⟨3, ![4, 1, 1024]⟩
abbrev S8192x1024 : Shape := ⟨2, ![8192, 1024]⟩
abbrev S2560x1024 : Shape := ⟨2, ![2560, 1024]⟩
abbrev S8192x256 : Shape := ⟨2, ![8192, 256]⟩
abbrev S256x1024 : Shape := ⟨2, ![256, 1024]⟩

abbrev nBuf : Space → Nat
  | .hbm => 36
  | .vmem => 5
  | .smem => 0
  | _ => 0

abbrev bufTy : (tb : Table) → Fin (tcTables nBuf tb) → BufTy
  | .hbm, ⟨0, _⟩ => ⟨S4x2048x1024, .f32⟩
  | .hbm, ⟨1, _⟩ => ⟨S4x1024, .f32⟩
  | .hbm, ⟨2, _⟩ => ⟨S4x1024, .f32⟩
  | .hbm, ⟨3, _⟩ => ⟨S1024, .f32⟩
  | .hbm, ⟨4, _⟩ => ⟨S1024x2560, .f32⟩
  | .hbm, ⟨5, _⟩ => ⟨S4x2048x2560, .f32⟩
  | .hbm, ⟨6, _⟩ => ⟨S8192x2560, .f32⟩
  | .hbm, ⟨7, _⟩ => ⟨S8192x2560, .bf16⟩
  | .hbm, ⟨8, _⟩ => ⟨S4x2048x1024, .f32⟩
  | .hbm, ⟨9, _⟩ => ⟨S_, .f32⟩
  | .hbm, ⟨10, _⟩ => ⟨S4x2048, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S_, .f32⟩
  | .hbm, ⟨16, _⟩ => ⟨S4x2048x1, .f32⟩
  | .hbm, ⟨17, _⟩ => ⟨S4x2048x1, .f32⟩
  | .hbm, ⟨18, _⟩ => ⟨S4x2048x1, .f32⟩
  | .hbm, ⟨19, _⟩ => ⟨S4x2048x1024, .f32⟩
  | .hbm, ⟨20, _⟩ => ⟨S4x2048x1024, .f32⟩
  | .hbm, ⟨21, _⟩ => ⟨S1x1x1024, .f32⟩
  | .hbm, ⟨22, _⟩ => ⟨S4x2048x1024, .f32⟩
  | .hbm, ⟨23, _⟩ => ⟨S4x2048x1024, .f32⟩
  | .hbm, ⟨24, _⟩ => ⟨S4x1x1024, .f32⟩
  | .hbm, ⟨25, _⟩ => ⟨S_, .f32⟩
  | .hbm, ⟨26, _⟩ => ⟨S4x1x1024, .f32⟩
  | .hbm, ⟨27, _⟩ => ⟨S4x1x1024, .f32⟩
  | .hbm, ⟨28, _⟩ => ⟨S4x2048x1024, .f32⟩
  | .hbm, ⟨29, _⟩ => ⟨S4x2048x1024, .f32⟩
  | .hbm, ⟨30, _⟩ => ⟨S4x1x1024, .f32⟩
  | .hbm, ⟨31, _⟩ => ⟨S4x2048x1024, .f32⟩
  | .hbm, ⟨32, _⟩ => ⟨S4x2048x1024, .f32⟩
  | .hbm, ⟨33, _⟩ => ⟨S8192x1024, .f32⟩
  | .hbm, ⟨34, _⟩ => ⟨S8192x1024, .bf16⟩
  | .hbm, ⟨35, _⟩ => ⟨S2560x1024, .bf16⟩
  | .local _ .vmem, ⟨0, _⟩ => ⟨S8192x256, .bf16⟩
  | .local _ .vmem, ⟨1, _⟩ => ⟨S8192x256, .bf16⟩
  | .local _ .vmem, ⟨2, _⟩ => ⟨S8192x1024, .bf16⟩
  | .local _ .vmem, ⟨3, _⟩ => ⟨S256x1024, .bf16⟩
  | .local _ .vmem, ⟨4, _⟩ => ⟨S256x1024, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== InWeightReferenceIdeal.lean ====
abbrev S4x2048x1024 : Shape := ⟨3, ![4, 2048, 1024]⟩
abbrev S4x1024 : Shape := ⟨2, ![4, 1024]⟩
abbrev S1024 : Shape := ⟨1, ![1024]⟩
abbrev S1024x2560 : Shape := ⟨2, ![1024, 2560]⟩
abbrev S4x2048x2560 : Shape := ⟨3, ![4, 2048, 2560]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x1x1024 : Shape := ⟨3, ![4, 1, 1024]⟩
abbrev S2560x1024 : Shape := ⟨2, ![2560, 1024]⟩

abbrev nBuf : Space → Nat
  | .hbm => 36
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x1024, .f32⟩
  | .hbm, ⟨2, _⟩ => ⟨S4x1024, .f32⟩
  | .hbm, ⟨3, _⟩ => ⟨S1024, .f32⟩
  | .hbm, ⟨4, _⟩ => ⟨S1024x2560, .f32⟩
  | .hbm, ⟨5, _⟩ => ⟨S4x2048x2560, .f32⟩
  | .hbm, ⟨6, _⟩ => ⟨S4x2048x1024, .f32⟩
  | .hbm, ⟨7, _⟩ => ⟨S_, .f32⟩
  | .hbm, ⟨8, _⟩ => ⟨S4x2048, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S_, .f32⟩
  | .hbm, ⟨14, _⟩ => ⟨S4x2048x1, .f32⟩
  | .hbm, ⟨15, _⟩ => ⟨S4x2048x1, .f32⟩
  | .hbm, ⟨16, _⟩ => ⟨S4x2048x1, .f32⟩
  | .hbm, ⟨17, _⟩ => ⟨S4x2048x1024, .f32⟩
  | .hbm, ⟨18, _⟩ => ⟨S4x2048x1024, .f32⟩
  | .hbm, ⟨19, _⟩ => ⟨S1x1x1024, .f32⟩
  | .hbm, ⟨20, _⟩ => ⟨S4x2048x1024, .f32⟩
  | .hbm, ⟨21, _⟩ => ⟨S4x2048x1024, .f32⟩
  | .hbm, ⟨22, _⟩ => ⟨S4x1x1024, .f32⟩
  | .hbm, ⟨23, _⟩ => ⟨S_, .f32⟩
  | .hbm, ⟨24, _⟩ => ⟨S4x1x1024, .f32⟩
  | .hbm, ⟨25, _⟩ => ⟨S4x1x1024, .f32⟩
  | .hbm, ⟨26, _⟩ => ⟨S4x2048x1024, .f32⟩
  | .hbm, ⟨27, _⟩ => ⟨S4x2048x1024, .f32⟩
  | .hbm, ⟨28, _⟩ => ⟨S4x1x1024, .f32⟩
  | .hbm, ⟨29, _⟩ => ⟨S4x2048x1024, .f32⟩
  | .hbm, ⟨30, _⟩ => ⟨S4x2048x1024, .f32⟩
  | .hbm, ⟨31, _⟩ => ⟨S4x2048x2560, .f32⟩
  | .hbm, ⟨32, _⟩ => ⟨S2560x1024, .f32⟩
  | .hbm, ⟨33, _⟩ => ⟨S1024x2560, .f32⟩
  | .hbm, ⟨34, _⟩ => ⟨S2560x1024, .f32⟩
  | .hbm, ⟨35, _⟩ => ⟨S2560x1024, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== OutWeight.lean ====
abbrev S4x2048x512 : Shape := ⟨3, ![4, 2048, 512]⟩
abbrev S1024 : Shape := ⟨1, ![1024]⟩
abbrev S1024x1024 : Shape := ⟨2, ![1024, 1024]⟩
abbrev S4x2048x1024 : Shape := ⟨3, ![4, 2048, 1024]⟩
abbrev S512 : Shape := ⟨1, ![512]⟩
abbrev S_ : Shape := ⟨0, ![]⟩
abbrev S4x2048 : Shape := ⟨2, ![4, 2048]⟩
abbrev S4x2048x1 : Shape := ⟨3, ![4, 2048, 1]⟩
abbrev S1x1x512 : Shape := ⟨3, ![1, 1, 512]⟩
abbrev S8192x1024 : Shape := ⟨2, ![8192, 1024]⟩
abbrev S8192x256 : Shape := ⟨2, ![8192, 256]⟩
abbrev S256x1024 : Shape := ⟨2, ![256, 1024]⟩

abbrev nBuf : Space → Nat
  | .hbm => 45
  | .vmem => 5
  | .smem => 0
  | _ => 0

abbrev bufTy : (tb : Table) → Fin (tcTables nBuf tb) → BufTy
  | .hbm, ⟨0, _⟩ => ⟨S4x2048x512, .f32⟩
  | .hbm, ⟨1, _⟩ => ⟨S4x2048x512, .f32⟩
  | .hbm, ⟨2, _⟩ => ⟨S1024, .f32⟩
  | .hbm, ⟨3, _⟩ => ⟨S1024x1024, .f32⟩
  | .hbm, ⟨4, _⟩ => ⟨S4x2048x1024, .f32⟩
  | .hbm, ⟨5, _⟩ => ⟨S512, .f32⟩
  | .hbm, ⟨6, _⟩ => ⟨S4x2048x512, .f32⟩
  | .hbm, ⟨7, _⟩ => ⟨S_, .f32⟩
  | .hbm, ⟨8, _⟩ => ⟨S4x2048, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S_, .f32⟩
  | .hbm, ⟨14, _⟩ => ⟨S4x2048x1, .f32⟩
  | .hbm, ⟨15, _⟩ => ⟨S4x2048x1, .f32⟩
  | .hbm, ⟨16, _⟩ => ⟨S4x2048x1, .f32⟩
  | .hbm, ⟨17, _⟩ => ⟨S4x2048x512, .f32⟩
  | .hbm, ⟨18, _⟩ => ⟨S4x2048x512, .f32⟩
  | .hbm, ⟨19, _⟩ => ⟨S1x1x512, .f32⟩
  | .hbm, ⟨20, _⟩ => ⟨S4x2048x512, .f32⟩
  | .hbm, ⟨21, _⟩ => ⟨S4x2048x512, .f32⟩
  | .hbm, ⟨22, _⟩ => ⟨S512, .f32⟩
  | .hbm, ⟨23, _⟩ => ⟨S4x2048x512, .f32⟩
  | .hbm, ⟨24, _⟩ => ⟨S_, .f32⟩
  | .hbm, ⟨25, _⟩ => ⟨S4x2048, .f32⟩
  | .hbm, ⟨26, _⟩ => ⟨S4x2048x1, .f32⟩
  | .hbm, ⟨27, _⟩ => ⟨S_, .f32⟩
  | .hbm, ⟨28, _⟩ => ⟨S4x2048x1, .f32⟩
  | .hbm, ⟨29, _⟩ => ⟨S4x2048x1, .f32⟩
  | .hbm, ⟨30, _⟩ => ⟨S_, .f32⟩
  | .hbm, ⟨31, _⟩ => ⟨S4x2048x1, .f32⟩
  | .hbm, ⟨32, _⟩ => ⟨S4x2048x1, .f32⟩
  | .hbm, ⟨33, _⟩ => ⟨S4x2048x1, .f32⟩
  | .hbm, ⟨34, _⟩ => ⟨S4x2048x512, .f32⟩
  | .hbm, ⟨35, _⟩ => ⟨S4x2048x512, .f32⟩
  | .hbm, ⟨36, _⟩ => ⟨S1x1x512, .f32⟩
  | .hbm, ⟨37, _⟩ => ⟨S4x2048x512, .f32⟩
  | .hbm, ⟨38, _⟩ => ⟨S4x2048x512, .f32⟩
  | .hbm, ⟨39, _⟩ => ⟨S4x2048x1024, .f32⟩
  | .hbm, ⟨40, _⟩ => ⟨S8192x1024, .f32⟩
  | .hbm, ⟨41, _⟩ => ⟨S8192x1024, .bf16⟩
  | .hbm, ⟨42, _⟩ => ⟨S8192x1024, .f32⟩
  | .hbm, ⟨43, _⟩ => ⟨S8192x1024, .bf16⟩
  | .hbm, ⟨44, _⟩ => ⟨S1024x1024, .bf16⟩
  | .local _ .vmem, ⟨0, _⟩ => ⟨S8192x256, .bf16⟩
  | .local _ .vmem, ⟨1, _⟩ => ⟨S8192x256, .bf16⟩
  | .local _ .vmem, ⟨2, _⟩ => ⟨S8192x1024, .bf16⟩
  | .local _ .vmem, ⟨3, _⟩ => ⟨S256x1024, .bf16⟩
  | .local _ .vmem, ⟨4, _⟩ => ⟨S256x1024, .bf16⟩
  | _, _ => ⟨S4x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== OutWeightReferenceIdeal.lean ====
abbrev S4x2048x512 : Shape := ⟨3, ![4, 2048, 512]⟩
abbrev S1024 : Shape := ⟨1, ![1024]⟩
abbrev S1024x1024 : Shape := ⟨2, ![1024, 1024]⟩
abbrev S4x2048x1024 : Shape := ⟨3, ![4, 2048, 1024]⟩
abbrev S512 : Shape := ⟨1, ![512]⟩
abbrev S_ : Shape := ⟨0, ![]⟩
abbrev S4x2048 : Shape := ⟨2, ![4, 2048]⟩
abbrev S4x2048x1 : Shape := ⟨3, ![4, 2048, 1]⟩
abbrev S1x1x512 : Shape := ⟨3, ![1, 1, 512]⟩

abbrev nBuf : Space → Nat
  | .hbm => 44
  | .vmem => 0
  | .smem => 0
  | _ => 0

abbrev bufTy : (tb : Table) → Fin (tcTables nBuf tb) → BufTy
  | .hbm, ⟨0, _⟩ => ⟨S4x2048x512, .f32⟩
  | .hbm, ⟨1, _⟩ => ⟨S4x2048x512, .f32⟩
  | .hbm, ⟨2, _⟩ => ⟨S1024, .f32⟩
  | .hbm, ⟨3, _⟩ => ⟨S1024x1024, .f32⟩
  | .hbm, ⟨4, _⟩ => ⟨S4x2048x1024, .f32⟩
  | .hbm, ⟨5, _⟩ => ⟨S512, .f32⟩
  | .hbm, ⟨6, _⟩ => ⟨S4x2048x512, .f32⟩
  | .hbm, ⟨7, _⟩ => ⟨S_, .f32⟩
  | .hbm, ⟨8, _⟩ => ⟨S4x2048, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S_, .f32⟩
  | .hbm, ⟨14, _⟩ => ⟨S4x2048x1, .f32⟩
  | .hbm, ⟨15, _⟩ => ⟨S4x2048x1, .f32⟩
  | .hbm, ⟨16, _⟩ => ⟨S4x2048x1, .f32⟩
  | .hbm, ⟨17, _⟩ => ⟨S4x2048x512, .f32⟩
  | .hbm, ⟨18, _⟩ => ⟨S4x2048x512, .f32⟩
  | .hbm, ⟨19, _⟩ => ⟨S1x1x512, .f32⟩
  | .hbm, ⟨20, _⟩ => ⟨S4x2048x512, .f32⟩
  | .hbm, ⟨21, _⟩ => ⟨S4x2048x512, .f32⟩
  | .hbm, ⟨22, _⟩ => ⟨S512, .f32⟩
  | .hbm, ⟨23, _⟩ => ⟨S4x2048x512, .f32⟩
  | .hbm, ⟨24, _⟩ => ⟨S_, .f32⟩
  | .hbm, ⟨25, _⟩ => ⟨S4x2048, .f32⟩
  | .hbm, ⟨26, _⟩ => ⟨S4x2048x1, .f32⟩
  | .hbm, ⟨27, _⟩ => ⟨S_, .f32⟩
  | .hbm, ⟨28, _⟩ => ⟨S4x2048x1, .f32⟩
  | .hbm, ⟨29, _⟩ => ⟨S4x2048x1, .f32⟩
  | .hbm, ⟨30, _⟩ => ⟨S_, .f32⟩
  | .hbm, ⟨31, _⟩ => ⟨S4x2048x1, .f32⟩
  | .hbm, ⟨32, _⟩ => ⟨S4x2048x1, .f32⟩
  | .hbm, ⟨33, _⟩ => ⟨S4x2048x1, .f32⟩
  | .hbm, ⟨34, _⟩ => ⟨S4x2048x512, .f32⟩
  | .hbm, ⟨35, _⟩ => ⟨S4x2048x512, .f32⟩
  | .hbm, ⟨36, _⟩ => ⟨S1x1x512, .f32⟩
  | .hbm, ⟨37, _⟩ => ⟨S4x2048x512, .f32⟩
  | .hbm, ⟨38, _⟩ => ⟨S4x2048x512, .f32⟩
  | .hbm, ⟨39, _⟩ => ⟨S4x2048x1024, .f32⟩
  | .hbm, ⟨40, _⟩ => ⟨S4x2048x1024, .f32⟩
  | .hbm, ⟨41, _⟩ => ⟨S1024x1024, .f32⟩
  | .hbm, ⟨42, _⟩ => ⟨S1024x1024, .f32⟩
  | .hbm, ⟨43, _⟩ => ⟨S1024x1024, .bf16⟩
  | _, _ => ⟨S4x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== Proof.Consts.lean ====
/- The float constants of both programs as the extended reals they denote, and the arithmetic of
   extended reals that are real: a sum, a quotient, a reciprocal root of reals is a real. -/
module

public import Idealize.ShloMosaic.PureOps.Ideal
public import Idealize.ShloMosaic.PureOps.Ideal.Laws

@[expose] public section

noncomputable section

namespace Cert.Consts

open Idealize.ShloMosaic

/-- The constant added under every root, `9.99999997E-7`. -/
def eps : ℝ := 8796093 / 2 ^ 43

theorem eps_pos : 0 < eps := by unfold eps; positivity

theorem ofBits_eps : Ideal.ofBits .f32 0x358637BD#32 = ((eps : ℝ) : EReal) := by
  unfold eps
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_one : Ideal.ofBits .f32 0x3F800000#32 = ((1 : ℝ) : EReal) := by
  simp [Ideal.ofBits, Ideal.ieee, -EReal.coe_mul]; norm_num

theorem ofBits_64 : Ideal.ofBits .f32 0x42800000#32 = ((64 : ℝ) : EReal) := by
  simp [Ideal.ofBits, Ideal.ieee, -EReal.coe_mul]; norm_num

theorem ofBits_512 : Ideal.ofBits .f32 0x44000000#32 = ((512 : ℝ) : EReal) := by
  simp [Ideal.ofBits, Ideal.ieee, -EReal.coe_mul]; norm_num

theorem ofBits_1024 : Ideal.ofBits .f32 0x44800000#32 = ((1024 : ℝ) : EReal) := by
  simp [Ideal.ofBits, Ideal.ieee, -EReal.coe_mul]; norm_num

theorem ofBits_64th : Ideal.ofBits .f32 0x3C800000#32 = ((1 / 64 : ℝ) : EReal) := by
  simp [Ideal.ofBits, Ideal.ieee, -EReal.coe_mul]; norm_num

theorem ofBits_top : Ideal.ofBits .f32 0x7F800000#32 = ⊤ := by
  simp [Ideal.ofBits, Ideal.ieee]

theorem ofBits_bot : Ideal.ofBits .f32 0xFF800000#32 = ⊥ := by
  simp [Ideal.ofBits, Ideal.ieee]

/-- The sum of reals, taken in the extended reals, is the real sum. -/
theorem coe_sum {ι : Type*} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- The reciprocal root of a positive real is a real. -/
theorem rsqrt_pos {r : ℝ} (h : 0 < r) : Ideal.rsqrt ((r : ℝ) : EReal) = (((Real.sqrt r)⁻¹ : ℝ) : EReal) := by
  rw [Ideal.rsqrt_coe, if_neg (not_lt.mpr h.le), if_neg h.ne']

/-- The quotient of reals by a real other than zero is a real. -/
theorem div_real {r : ℝ} (h : r ≠ 0) (x : ℝ) : Ideal.div ((x : ℝ) : EReal) ((r : ℝ) : EReal) = ((x / r : ℝ) : EReal) := by
  rw [Ideal.div_coe h, ← EReal.coe_mul, mul_one_div]

/-- The error function of a real, as a real. -/
def rerf (r : ℝ) : ℝ := 2 / Real.sqrt Real.pi * ∫ t in (0 : ℝ)..r, Real.exp (-(t ^ 2))

theorem erf_real (r : ℝ) : Ideal.erf ((r : ℝ) : EReal) = ((rerf r : ℝ) : EReal) := rfl

theorem exp_real (r : ℝ) : Ideal.exp ((r : ℝ) : EReal) = ((Real.exp r : ℝ) : EReal) := rfl

/-- `√2`, which the reference takes of the constant. -/
theorem sqrt_two : Ideal.sqrt ((2 : ℝ) : EReal) = ((Real.sqrt 2 : ℝ) : EReal) := by
  rw [Ideal.sqrt_coe, if_neg (by norm_num)]

/-- The angle of `(-1, 0)` is `π`. -/
theorem atan2_pi : Ideal.atan2 (0 : EReal) ((-1 : ℝ) : EReal) = ((Real.pi : ℝ) : EReal) := by
  have h : Ideal.atan2 ((0 : ℝ) : EReal) ((-1 : ℝ) : EReal)
      = ((if (0 : ℝ) < -1 then Real.arctan (0 / -1)
          else if (-1 : ℝ) < 0 then (if (0 : ℝ) ≤ 0 then Real.arctan (0 / -1) + Real.pi else Real.arctan (0 / -1) - Real.pi)
          else if (0 : ℝ) < 0 then Real.pi / 2 else if (0 : ℝ) < 0 then -(Real.pi / 2) else 0 : ℝ) : EReal) := rfl
  refine Eq.trans h ?_
  rw [if_neg (by norm_num), if_pos (by norm_num), if_pos le_rfl]
  simp

theorem sqrt_pi : Ideal.sqrt ((Real.pi : ℝ) : EReal) = ((Real.sqrt Real.pi : ℝ) : EReal) := by
  rw [Ideal.sqrt_coe, if_neg (not_lt.mpr Real.pi_pos.le)]

end Cert.Consts

end
-- ==== Proof.FfnSpec.lean ====
/- The gradient of the gated feed-forward block as a function of real numbers: tokens are counted through
   the whole batch, `T = 2048 * sequence + position`, hidden columns through the gate half and then the value half. -/
module

public import proofs.«01_k».proof.Proof.Consts
public import Idealize.ShloMosaic.Lib.Pointwise

@[expose] public section

noncomputable section

namespace Cert.Ffn

open Cert.Consts Idealize.ShloMosaic

/-- The real numbers the two programs are given. -/
structure Args where
  /-- the block's input, token and column -/
  x : ℕ → ℕ → ℝ
  /-- the modulation's offset, sequence and column -/
  sh : ℕ → ℕ → ℝ
  /-- the modulation's scale, sequence and column -/
  sc : ℕ → ℕ → ℝ
  /-- the residual's gate, sequence and column -/
  gate : ℕ → ℕ → ℝ
  /-- the norm's gain -/
  gn : ℕ → ℝ
  /-- the weights into the hidden layer -/
  wgu : ℕ → ℕ → ℝ
  /-- the weights out of the hidden layer -/
  wd : ℕ → ℕ → ℝ
  /-- the cotangent of the block's output, token and column -/
  ct : ℕ → ℕ → ℝ

namespace Args

variable (A : Args)

def ms (T : ℕ) : ℝ := (∑ k : Fin 1024, A.x T k * A.x T k) / 1024 + eps
def r (T : ℕ) : ℝ := (Real.sqrt (A.ms T))⁻¹
def xn (T c : ℕ) : ℝ := A.x T c * A.r T
def xg (T c : ℕ) : ℝ := A.xn T c * A.gn c
def sc1 (b c : ℕ) : ℝ := 1 + A.sc b c
def h (T c : ℕ) : ℝ := A.xg T c * A.sc1 (T / 2048) c + A.sh (T / 2048) c
def gu (T f : ℕ) : ℝ := ∑ k : Fin 1024, A.h T k * A.wgu k f
def g (T f : ℕ) : ℝ := A.gu T f
def u (T f : ℕ) : ℝ := A.gu T (2816 + f)
def sig (T f : ℕ) : ℝ := 1 / (1 + Real.exp (-A.g T f))
def dsig (T f : ℕ) : ℝ := A.sig T f * (1 - A.sig T f)
def silu (T f : ℕ) : ℝ := A.g T f * A.sig T f
def dact (T f : ℕ) : ℝ := A.u T f * (A.sig T f + A.g T f * A.dsig T f)
def f (T c : ℕ) : ℝ := ∑ k : Fin 2816, A.silu T k * A.u T k * A.wd k c
def hg (b c : ℕ) : ℝ := 1 / 2 * A.gate b c
def df (T c : ℕ) : ℝ := A.hg (T / 2048) c * A.ct T c
def dgate (b c : ℕ) : ℝ := 1 / 2 * ∑ s : Fin 2048, A.ct (b * 2048 + s) c * A.f (b * 2048 + s) c
def da (T f : ℕ) : ℝ := ∑ k : Fin 1024, A.df T k * A.wd f k
def dg (T f : ℕ) : ℝ := A.da T f * A.dact T f
def du (T f : ℕ) : ℝ := A.silu T f * A.da T f
def dgu (T f : ℕ) : ℝ := if f < 2816 then A.dg T f else A.du T (f - 2816)
def dh (T c : ℕ) : ℝ := ∑ k : Fin 5632, A.dgu T k * A.wgu c k
def dsh (b c : ℕ) : ℝ := ∑ s : Fin 2048, A.dh (b * 2048 + s) c
def dsc (b c : ℕ) : ℝ := ∑ s : Fin 2048, A.xg (b * 2048 + s) c * A.dh (b * 2048 + s) c
def dhn (T c : ℕ) : ℝ := A.dh T c * A.sc1 (T / 2048) c
def dgn (c : ℕ) : ℝ := ∑ b : Fin 4, ∑ s : Fin 2048, A.xn (b * 2048 + s) c * A.dhn (b * 2048 + s) c
def dxn (T c : ℕ) : ℝ := A.dhn T c * A.gn c
def mean (T : ℕ) : ℝ := (∑ k : Fin 1024, A.dxn T k * A.xn T k) / 1024
def dx (T c : ℕ) : ℝ := A.ct T c + A.r T * (A.dxn T c - A.xn T c * A.mean T)
/-- The factor of the norm's gradient as differentiating the root gives it. -/
def dr (T : ℕ) : ℝ := -(1 / 2) * (A.r T / A.ms T)
def dms (T : ℕ) : ℝ := (∑ k : Fin 1024, A.x T k * A.dxn T k) * A.dr T / 1024

/-- One tile's share of the sums over tokens. -/
def pgate (t c : ℕ) : ℝ := 1 / 2 * ∑ r : Fin 512, A.ct (512 * t + r) c * A.f (512 * t + r) c
def psh (t c : ℕ) : ℝ := ∑ r : Fin 512, A.dh (512 * t + r) c
def psc (t c : ℕ) : ℝ := ∑ r : Fin 512, A.dh (512 * t + r) c * A.xg (512 * t + r) c
def pgn (t c : ℕ) : ℝ := ∑ r : Fin 512, A.dhn (512 * t + r) c * A.xn (512 * t + r) c

theorem ms_pos (T : ℕ) : 0 < A.ms T := by
  unfold ms
  have h : 0 ≤ ∑ k : Fin 1024, A.x T k * A.x T k := Finset.sum_nonneg fun k _ => mul_self_nonneg _
  have := eps_pos
  positivity

theorem r_sq (T : ℕ) : A.r T * A.r T = (A.ms T)⁻¹ := by
  unfold r
  rw [← mul_inv, Real.mul_self_sqrt (A.ms_pos T).le]

/-- The norm's gradient as differentiating the root and the product gives it. -/
theorem dx_eq (T c : ℕ) :
    A.ct T c + (A.dxn T c * A.r T + A.x T c * A.dms T + A.dms T * A.x T c) = A.dx T c := by
  have h : (∑ k : Fin 1024, A.dxn T k * A.xn T k) = (∑ k : Fin 1024, A.x T k * A.dxn T k) * A.r T := by
    rw [Finset.sum_mul]; exact Finset.sum_congr rfl fun k _ => by unfold xn; ring
  unfold dms dr dx mean xn at *
  rw [h, div_eq_mul_inv (A.r T) (A.ms T), ← r_sq]
  ring

/-- The gate's gradient as differentiating the two products and the logistic function gives it. -/
theorem dg_eq (T f : ℕ) :
    A.da T f * A.u T f * A.sig T f + A.g T f * (A.da T f * A.u T f) * A.dsig T f = A.dg T f := by
  unfold dg dact; ring

theorem sum_tiles (b : ℕ) (f : ℕ → ℝ) :
    ∑ j ∈ Finset.range 4, ∑ r : Fin 512, f (512 * (4 * b + j) + r) = ∑ s : Fin 2048, f (b * 2048 + s) := by
  rw [Finset.sum_range, Fin.sum_univ_tiles 4 512 rfl (fun s : Fin 2048 => f (b * 2048 + s))]
  refine Finset.sum_congr rfl fun j _ => Finset.sum_congr rfl fun r _ => congrArg f ?_
  show 512 * (4 * b + (j : ℕ)) + (r : ℕ) = b * 2048 + ((j : ℕ) * 512 + (r : ℕ))
  omega

theorem dgate_tiles (b c : ℕ) : ∑ j ∈ Finset.range 4, A.pgate (4 * b + j) c = A.dgate b c := by
  unfold pgate dgate
  rw [← Finset.mul_sum, sum_tiles b fun T => A.ct T c * A.f T c]

theorem dsh_tiles (b c : ℕ) : ∑ j ∈ Finset.range 4, A.psh (4 * b + j) c = A.dsh b c :=
  sum_tiles b fun T => A.dh T c

theorem dsc_tiles (b c : ℕ) : ∑ j ∈ Finset.range 4, A.psc (4 * b + j) c = A.dsc b c := by
  unfold psc dsc
  rw [sum_tiles b fun T => A.dh T c * A.xg T c]
  exact Finset.sum_congr rfl fun _ _ => mul_comm _ _

theorem dgn_tiles (c : ℕ) : ∑ t ∈ Finset.range 16, A.pgn t c = A.dgn c := by
  have h : ∀ b : Fin 4, ∑ s : Fin 2048, A.xn (b * 2048 + s) c * A.dhn (b * 2048 + s) c
      = ∑ j ∈ Finset.range 4, A.pgn (4 * b + j) c := fun b => by
    unfold pgn
    rw [sum_tiles b fun T => A.dhn T c * A.xn T c]
    exact Finset.sum_congr rfl fun _ _ => mul_comm _ _
  unfold dgn
  simp only [h]
  simp only [Finset.sum_range]
  rw [Fin.sum_univ_tiles 4 4 rfl (fun t : Fin 16 => A.pgn t c)]
  refine Finset.sum_congr rfl fun b _ => Finset.sum_congr rfl fun j _ => congrArg (fun n => A.pgn n c) ?_
  show (b : ℕ) * 4 + (j : ℕ) = 4 * (b : ℕ) + (j : ℕ)
  omega

end Args

/-- The sequence of a token, and the token's place in it. -/
theorem row_div (b : Fin 4) (s : Fin 2048) : ((b : ℕ) * 2048 + (s : ℕ)) / 2048 = b := by omega

theorem row_mul (t : Fin 8192) : (t : ℕ) / 2048 * 2048 + (t : ℕ) % 2048 = t := by omega

end Cert.Ffn

end
-- ==== Proof.FfnTile.lean ====
/- One tile of the kernel: each stored value, at a row and a column, as the spec's real number, when the tile's
   operands are. -/
module

public import proofs.«01_k».proof.Proof.FfnSpec
public import proofs.«01_k».proof.Proof.Gen.FeedForwardIdeal.Skeleton
public import Idealize.ShloMosaic.Lib.Pipeline.ValueKit
public import Idealize.ShloMosaic.Lib.Pointwise

@[expose] public section

set_option maxRecDepth 16384

noncomputable section

namespace Cert.Ffn.Ker

open Idealize.ShloMosaic Idealize.ShloMosaic.TcCoe Idealize.SL.Sem
open Cert.FeedForwardIdeal Cert.FeedForwardIdeal.Gen
open Cert.Ffn Cert.Consts

/-- Rewriting a real quotient by the row's mean square keeps it as the spec names it. -/
theorem ms_fold (A : Args) (T : ℕ) : (∑ k : Fin 1024, A.x T k * A.x T k) / 1024 + eps = A.ms T := rfl

/-- A tile's row among all tokens, and its sequence. -/
theorem tile_div (t : ℕ) (r : Fin 512) : (512 * t + (r : ℕ)) / 2048 = t / 4 := by omega

section

variable (A : Args) (t : ℕ)
  {dy : FVec Ideal S512x1024 .f32} {gate : FVec Ideal S1x1x1024 .f32} {f : FVec Ideal S512x1024 .bf16}
  {df : FVec Ideal S512x1024 .bf16} {dgu : FVec Ideal S512x5632 .bf16} {wt : FVec Ideal S5632x1024 .bf16}
  {x : FVec Ideal S512x1024 .f32} {gn : FVec Ideal S1x1024 .f32} {sc1 : FVec Ideal S1x1x1024 .f32}
  {dh xn : FVec Ideal S512x1024 .f32} {rr : FVec Ideal S512x1 .f32}
  (hdy : ∀ (r : Fin 512) (k : Fin 1024), dy (ix2 r k) = ((A.ct (512 * t + r) k : ℝ) : EReal))
  (hgate : ∀ (e e1 : Fin 1) (k : Fin 1024), gate (ix3 e e1 k) = ((A.gate (t / 4) k : ℝ) : EReal))
  (hf : ∀ (r : Fin 512) (k : Fin 1024), f (ix2 r k) = ((A.f (512 * t + r) k : ℝ) : EReal))
  (hdf : ∀ (r : Fin 512) (k : Fin 1024), df (ix2 r k) = ((A.df (512 * t + r) k : ℝ) : EReal))
  (hdgu : ∀ (r : Fin 512) (k : Fin 5632), dgu (ix2 r k) = ((A.dgu (512 * t + r) k : ℝ) : EReal))
  (hwt : ∀ (j : Fin 5632) (k : Fin 1024), wt (ix2 j k) = ((A.wgu k j : ℝ) : EReal))
  (hx : ∀ (r : Fin 512) (k : Fin 1024), x (ix2 r k) = ((A.x (512 * t + r) k : ℝ) : EReal))
  (hgn : ∀ (e : Fin 1) (k : Fin 1024), gn (ix2 e k) = ((A.gn k : ℝ) : EReal))
  (hdh : ∀ (r : Fin 512) (k : Fin 1024), dh (ix2 r k) = ((A.dh (512 * t + r) k : ℝ) : EReal))
  (hxn : ∀ (r : Fin 512) (k : Fin 1024), xn (ix2 r k) = ((A.xn (512 * t + r) k : ℝ) : EReal))
  (hr : ∀ (i : Fin 512) (e : Fin 1), rr (ix2 i e) = ((A.r (512 * t + i) : ℝ) : EReal))
  (hsc1 : ∀ (e e1 : Fin 1) (k : Fin 1024), sc1 (ix3 e e1 k) = ((A.sc1 (t / 4) k : ℝ) : EReal))

include hdy hgate in
theorem t_df : ∀ (r : Fin 512) (k : Fin 1024), (k0_pay6 (F := Ideal) dy gate) (ix2 r k) = ((A.df (512 * t + r) k : ℝ) : EReal) := by
  intros
  pointwise [k0_pay6, k0_pay5]
  simp only [hdy, hgate, ofBits_half, ← EReal.coe_mul, ← EReal.coe_add, ← EReal.coe_sub, ← EReal.coe_neg, ← EReal.coe_one, coe_sum]
  simp only [Args.df, Args.hg, tile_div]

include hdy hf in
theorem t_pgate : ∀ (e : Fin 1) (k : Fin 1024), (k0_pay7 (F := Ideal) dy f) (ix2 e k) = ((A.pgate t k : ℝ) : EReal) := by
  intros
  pointwise [k0_pay7, k0_pay5]
  simp only [hdy, hf, ofBits_half, ← EReal.coe_mul, ← EReal.coe_add, ← EReal.coe_sub, ← EReal.coe_neg, ← EReal.coe_one, coe_sum]
  rfl

include hdgu hwt in
theorem t_dh : ∀ (r : Fin 512) (k : Fin 1024), (k0_pay44 (F := Ideal) dgu wt) (ix2 r k) = ((A.dh (512 * t + r) k : ℝ) : EReal) := by
  intros
  pointwise [k0_pay44]
  simp only [hdgu, hwt, ofBits_half, ← EReal.coe_mul, ← EReal.coe_add, ← EReal.coe_sub, ← EReal.coe_neg, ← EReal.coe_one, coe_sum]
  rfl

include hx in
theorem t_r : ∀ (i : Fin 512) (e : Fin 1), (k0_pay46 (F := Ideal) x) (ix2 i e) = ((A.r (512 * t + i) : ℝ) : EReal) := by
  intros
  pointwise [k0_pay46, k0_pay45]
  simp only [hx, ofBits_half, ofBits_1024, div_real (by norm_num : (1024 : ℝ) ≠ 0), ofBits_eps, ms_fold, rsqrt_pos (A.ms_pos _), ← EReal.coe_mul, ← EReal.coe_add, ← EReal.coe_sub, ← EReal.coe_neg, ← EReal.coe_one, coe_sum]
  rfl

include hx in
theorem t_xn : ∀ (r : Fin 512) (k : Fin 1024), (k0_pay47 (F := Ideal) x) (ix2 r k) = ((A.xn (512 * t + r) k : ℝ) : EReal) := by
  intros
  pointwise [k0_pay47, k0_pay46, k0_pay45]
  simp only [hx, ofBits_half, ofBits_1024, div_real (by norm_num : (1024 : ℝ) ≠ 0), ofBits_eps, ms_fold, rsqrt_pos (A.ms_pos _), ← EReal.coe_mul, ← EReal.coe_add, ← EReal.coe_sub, ← EReal.coe_neg, ← EReal.coe_one, coe_sum]
  rfl

include hgn in
theorem t_gn : ∀ (e : Fin 1) (k : Fin 1024), (k0_pay48 (F := Ideal) gn) (ix2 e k) = ((A.gn k : ℝ) : EReal) := by
  intros
  pointwise [k0_pay48]
  simp only [hgn, ofBits_half, ← EReal.coe_mul, ← EReal.coe_add, ← EReal.coe_sub, ← EReal.coe_neg, ← EReal.coe_one, coe_sum]

include hdgu hwt in
theorem t_psh : ∀ (e : Fin 1) (k : Fin 1024), (k0_pay49 (F := Ideal) dgu wt) (ix2 e k) = ((A.psh t k : ℝ) : EReal) := by
  intros
  pointwise [k0_pay49, k0_pay44]
  simp only [hdgu, hwt, ofBits_half, ← EReal.coe_mul, ← EReal.coe_add, ← EReal.coe_sub, ← EReal.coe_neg, ← EReal.coe_one, coe_sum]
  rfl

include hx hgn in
theorem t_xg : ∀ (r : Fin 512) (k : Fin 1024), (k0_pay50 (F := Ideal) x gn) (ix2 r k) = ((A.xg (512 * t + r) k : ℝ) : EReal) := by
  intros
  pointwise [k0_pay50, k0_pay48, k0_pay47, k0_pay46, k0_pay45]
  simp only [hx, hgn, ofBits_half, ofBits_1024, div_real (by norm_num : (1024 : ℝ) ≠ 0), ofBits_eps, ms_fold, rsqrt_pos (A.ms_pos _), ← EReal.coe_mul, ← EReal.coe_add, ← EReal.coe_sub, ← EReal.coe_neg, ← EReal.coe_one, coe_sum]
  rfl

include hdh in
theorem t_psc {xg : FVec Ideal S512x1024 .f32} (hxg : ∀ (r : Fin 512) (k : Fin 1024), xg (ix2 r k) = ((A.xg (512 * t + r) k : ℝ) : EReal)) :
    ∀ (e : Fin 1) (k : Fin 1024), (k0_pay51 (F := Ideal) dh xg) (ix2 e k) = ((A.psc t k : ℝ) : EReal) := by
  intros
  pointwise [k0_pay51]
  simp only [hdh, hxg, ← EReal.coe_mul, coe_sum]
  rfl

include hdh hxn hsc1 in
theorem t_pgn : ∀ (e : Fin 1) (k : Fin 1024), (k0_pay53 (F := Ideal) dh xn sc1) (ix2 e k) = ((A.pgn t k : ℝ) : EReal) := by
  intros
  pointwise [k0_pay53, k0_pay52]
  simp only [hdh, hxn, hsc1, ofBits_half, ← EReal.coe_mul, ← EReal.coe_add, ← EReal.coe_sub, ← EReal.coe_neg, ← EReal.coe_one, coe_sum]
  simp only [Args.pgn, Args.dhn, tile_div]

include hdy hdh hr hxn hgn hsc1 in
theorem t_dx : ∀ (r : Fin 512) (k : Fin 1024), (k0_pay54 (F := Ideal) dy dh rr xn gn sc1) (ix2 r k) = ((A.dx (512 * t + r) k : ℝ) : EReal) := by
  intros
  pointwise [k0_pay54, k0_pay52]
  simp only [hdy, hdh, hr, hxn, hgn, hsc1, ofBits_half, ofBits_1024, div_real (by norm_num : (1024 : ℝ) ≠ 0), ← EReal.coe_mul, ← EReal.coe_add, ← EReal.coe_sub, ← EReal.coe_neg, ← EReal.coe_one, coe_sum]
  simp only [Args.dx, Args.dxn, Args.mean, Args.dhn, tile_div]

end

end Cert.Ffn.Ker

end
-- ==== Proof.FfnStage.lean ====
/- The reference stage by stage: each stage is a function of vectors, and at real arguments a real function of the spec. -/
module

public import proofs.«01_k».proof.Proof.FfnSpec
public import proofs.«01_k».proof.Proof.Gen.FeedForwardReferenceIdeal
public import Idealize.ShloMosaic.Lib.Pipeline.ValueKit
public import Idealize.ShloMosaic.Lib.Pointwise

@[expose] public section

set_option maxRecDepth 16384

noncomputable section

namespace Cert.Ffn.Ref

open Idealize.ShloMosaic Idealize.ShloMosaic.TcCoe Idealize.SL.Sem
open Cert.FeedForwardReferenceIdeal Cert.FeedForwardReferenceIdeal.Gen
open Cert.Consts Cert.Ffn

def sMs (x : FVec Ideal S4x2048x1024 .f32) : FVec Ideal S4x2048x1 .f32 :=
  addf (Host.divf (broadcastInDim S4x2048x1 ![0, 1] bcast_S4x2048_S4x2048x1_0_1 (Host.reduceAdd (mulf x x) (constant S_ .f32 0x00000000#32) reducesTo_S4x2048x1024_S4x2048_d2 h_S_)) (broadcastInDim S4x2048x1 ![] bcast_S_S4x2048x1 (constant S_ .f32 0x44800000#32))) (broadcastInDim S4x2048x1 ![] bcast_S_S4x2048x1 (constant S_ .f32 0x358637BD#32))

def sR (ms : FVec Ideal S4x2048x1 .f32) : FVec Ideal S4x2048x1 .f32 :=
  Host.rsqrt ms

def sDr (r : FVec Ideal S4x2048x1 .f32) (ms : FVec Ideal S4x2048x1 .f32) : FVec Ideal S4x2048x1 .f32 :=
  mulf (broadcastInDim S4x2048x1 ![] bcast_S_S4x2048x1 (constant S_ .f32 0xBF000000#32)) (Host.divf r ms)

def sXn (x : FVec Ideal S4x2048x1024 .f32) (r : FVec Ideal S4x2048x1 .f32) : FVec Ideal S4x2048x1024 .f32 :=
  mulf x (broadcastInDim S4x2048x1024 ![0, 1, 2] bcast_S4x2048x1_S4x2048x1024_0_1_2 r)

def sGn (gn : FVec Ideal S1024 .f32) : FVec Ideal S1x1x1024 .f32 :=
  broadcastInDim S1x1x1024 ![2] bcast_S1024_S1x1x1024_2 gn

def sXg (xn : FVec Ideal S4x2048x1024 .f32) (gn : FVec Ideal S1x1x1024 .f32) : FVec Ideal S4x2048x1024 .f32 :=
  mulf xn (broadcastInDim S4x2048x1024 ![0, 1, 2] bcast_S1x1x1024_S4x2048x1024_0_1_2 gn)

def sSc1 (sc : FVec Ideal S4x1024 .f32) : FVec Ideal S4x1x1024 .f32 :=
  addf (broadcastInDim S4x1x1024 ![] bcast_S_S4x1x1024 (constant S_ .f32 0x3F800000#32)) (broadcastInDim S4x1x1024 ![0, 2] bcast_S4x1024_S4x1x1024_0_2 sc)

def sH (xg : FVec Ideal S4x2048x1024 .f32) (sc1 : FVec Ideal S4x1x1024 .f32) (sh : FVec Ideal S4x1024 .f32) : FVec Ideal S4x2048x1024 .f32 :=
  addf (mulf xg (broadcastInDim S4x2048x1024 ![0, 1, 2] bcast_S4x1x1024_S4x2048x1024_0_1_2 sc1)) (broadcastInDim S4x2048x1024 ![0, 1, 2] bcast_S4x1x1024_S4x2048x1024_0_1_2 (broadcastInDim S4x1x1024 ![0, 2] bcast_S4x1024_S4x1x1024_0_2 sh))

def sGu (h : FVec Ideal S4x2048x1024 .f32) (wgu : FVec Ideal S1024x5632 .f32) : FVec Ideal S4x2048x5632 .f32 :=
  Host.dotGeneral dot_S4x2048x1024_S1024x5632_S4x2048x5632_2_0_01_1_n_n none h wgu

def sG (gu : FVec Ideal S4x2048x5632 .f32) : FVec Ideal S4x2048x2816 .f32 :=
  extractStridedSlice S4x2048x2816 ![0, 0, 0] gu slices_S4x2048x5632_S4x2048x2816_0_0_0

def sU (gu : FVec Ideal S4x2048x5632 .f32) : FVec Ideal S4x2048x2816 .f32 :=
  extractStridedSlice S4x2048x2816 ![0, 0, 2816] gu slices_S4x2048x5632_S4x2048x2816_0_0_2816

def sSig (g : FVec Ideal S4x2048x2816 .f32) : FVec Ideal S4x2048x2816 .f32 :=
  Host.divf (broadcastInDim S4x2048x2816 ![] bcast_S_S4x2048x2816 (constant S_ .f32 0x3F800000#32 )) (addf (broadcastInDim S4x2048x2816 ![] bcast_S_S4x2048x2816 (constant S_ .f32 0x3F800000#32 )) (Host.exp (Host.negf g)))

def sDsig (sig : FVec Ideal S4x2048x2816 .f32) : FVec Ideal S4x2048x2816 .f32 :=
  mulf sig (subf (broadcastInDim S4x2048x2816 ![] bcast_S_S4x2048x2816 (constant S_ .f32 0x3F800000#32 )) sig)

def sSilu (g : FVec Ideal S4x2048x2816 .f32) (sig : FVec Ideal S4x2048x2816 .f32) : FVec Ideal S4x2048x2816 .f32 :=
  mulf g sig

def sF (silu : FVec Ideal S4x2048x2816 .f32) (u : FVec Ideal S4x2048x2816 .f32) (wd : FVec Ideal S2816x1024 .f32) : FVec Ideal S4x2048x1024 .f32 :=
  Host.dotGeneral dot_S4x2048x2816_S2816x1024_S4x2048x1024_2_0_01_1_n_n none (mulf silu u) wd

def sHg (gate : FVec Ideal S4x1024 .f32) : FVec Ideal S4x1x1024 .f32 :=
  mulf (broadcastInDim S4x1x1024 ![] bcast_S_S4x1x1024 (constant S_ .f32 0x3F000000#32)) (broadcastInDim S4x1x1024 ![0, 2] bcast_S4x1024_S4x1x1024_0_2 gate)

def sDf (hg : FVec Ideal S4x1x1024 .f32) (ct : FVec Ideal S4x2048x1024 .f32) : FVec Ideal S4x2048x1024 .f32 :=
  mulf (broadcastInDim S4x2048x1024 ![0, 1, 2] bcast_S4x1x1024_S4x2048x1024_0_1_2 hg) (shapeCast _ ct shapeCasts_S4x2048x1024_S4x2048x1024)

def sDgate (ct : FVec Ideal S4x2048x1024 .f32) (f : FVec Ideal S4x2048x1024 .f32) : FVec Ideal S4x1024 .f32 :=
  Host.reduceAdd (mulf (broadcastInDim S4x1x1024 ![] bcast_S_S4x1x1024 (constant S_ .f32 0x3F000000#32)) (shapeCast _ (Host.reduceAdd (mulf (shapeCast _ ct shapeCasts_S4x2048x1024_S4x2048x1024) f) (constant S_ .f32 0x00000000#32) reducesTo_S4x2048x1024_S4x1024_d1 h_S_) shapeCasts_S4x1024_S4x1x1024)) (constant S_ .f32 0x00000000#32) reducesTo_S4x1x1024_S4x1024_d1 h_S_

def sDa (df : FVec Ideal S4x2048x1024 .f32) (wd : FVec Ideal S2816x1024 .f32) : FVec Ideal S4x2048x2816 .f32 :=
  Host.dotGeneral dot_S4x2048x1024_S2816x1024_S4x2048x2816_2_1_01_0_n_n none df wd

def sDu (silu : FVec Ideal S4x2048x2816 .f32) (da : FVec Ideal S4x2048x2816 .f32) : FVec Ideal S4x2048x2816 .f32 :=
  mulf silu da

def sDg (da : FVec Ideal S4x2048x2816 .f32) (u : FVec Ideal S4x2048x2816 .f32) (sig : FVec Ideal S4x2048x2816 .f32) (g : FVec Ideal S4x2048x2816 .f32) (dsig : FVec Ideal S4x2048x2816 .f32) : FVec Ideal S4x2048x2816 .f32 :=
  addf (mulf (mulf da u) sig) (mulf (mulf g (mulf da u)) dsig)

def sDgu (dg : FVec Ideal S4x2048x2816 .f32) (du : FVec Ideal S4x2048x2816 .f32) : FVec Ideal S4x2048x5632 .f32 :=
  concatenate S4x2048x5632 2 [⟨S4x2048x2816, dg⟩, ⟨S4x2048x2816, du⟩] concatenates_S4x2048x2816_S4x2048x2816_S4x2048x5632_d2

def sDh (dgu : FVec Ideal S4x2048x5632 .f32) (wgu : FVec Ideal S1024x5632 .f32) : FVec Ideal S4x2048x1024 .f32 :=
  Host.dotGeneral dot_S4x2048x5632_S1024x5632_S4x2048x1024_2_1_01_0_n_n none dgu wgu

def sDsh (dh : FVec Ideal S4x2048x1024 .f32) : FVec Ideal S4x1024 .f32 :=
  Host.reduceAdd (shapeCast _ (Host.reduceAdd dh (constant S_ .f32 0x00000000#32) reducesTo_S4x2048x1024_S4x1024_d1 h_S_) shapeCasts_S4x1024_S4x1x1024) (constant S_ .f32 0x00000000#32) reducesTo_S4x1x1024_S4x1024_d1 h_S_

def sDsc (xg : FVec Ideal S4x2048x1024 .f32) (dh : FVec Ideal S4x2048x1024 .f32) : FVec Ideal S4x1024 .f32 :=
  Host.reduceAdd (shapeCast _ (Host.reduceAdd (mulf xg dh) (constant S_ .f32 0x00000000#32) reducesTo_S4x2048x1024_S4x1024_d1 h_S_) shapeCasts_S4x1024_S4x1x1024) (constant S_ .f32 0x00000000#32) reducesTo_S4x1x1024_S4x1024_d1 h_S_

def sDhn (dh : FVec Ideal S4x2048x1024 .f32) (sc1 : FVec Ideal S4x1x1024 .f32) : FVec Ideal S4x2048x1024 .f32 :=
  mulf dh (broadcastInDim S4x2048x1024 ![0, 1, 2] bcast_S4x1x1024_S4x2048x1024_0_1_2 sc1)

def sDgn (xn : FVec Ideal S4x2048x1024 .f32) (dhn : FVec Ideal S4x2048x1024 .f32) : FVec Ideal S1024 .f32 :=
  Host.reduceAdd (shapeCast _ (Host.reduceAdd (mulf xn dhn) (constant S_ .f32 0x00000000#32) reducesTo_S4x2048x1024_S1024_d0_1 h_S_) shapeCasts_S1024_S1x1x1024) (constant S_ .f32 0x00000000#32) reducesTo_S1x1x1024_S1024_d0_1 h_S_

def sDxn (dhn : FVec Ideal S4x2048x1024 .f32) (gn : FVec Ideal S1x1x1024 .f32) : FVec Ideal S4x2048x1024 .f32 :=
  mulf dhn (broadcastInDim S4x2048x1024 ![0, 1, 2] bcast_S1x1x1024_S4x2048x1024_0_1_2 gn)

def sDms (x : FVec Ideal S4x2048x1024 .f32) (dxn : FVec Ideal S4x2048x1024 .f32) (dr : FVec Ideal S4x2048x1 .f32) : FVec Ideal S4x2048x1024 .f32 :=
  broadcastInDim S4x2048x1024 ![0, 1] bcast_S4x2048_S4x2048x1024_0_1 (Host.reduceAdd (Host.divf (mulf (shapeCast _ (Host.reduceAdd (mulf x dxn) (constant S_ .f32 0x00000000#32) reducesTo_S4x2048x1024_S4x2048_d2 h_S_) shapeCasts_S4x2048_S4x2048x1) dr) (broadcastInDim S4x2048x1 ![] bcast_S_S4x2048x1 (constant S_ .f32 0x44800000#32))) (constant S_ .f32 0x00000000#32) reducesTo_S4x2048x1_S4x2048_d2 h_S_)

def sDx (ct : FVec Ideal S4x2048x1024 .f32) (dxn : FVec Ideal S4x2048x1024 .f32) (r : FVec Ideal S4x2048x1 .f32) (x : FVec Ideal S4x2048x1024 .f32) (dms : FVec Ideal S4x2048x1024 .f32) : FVec Ideal S4x2048x1024 .f32 :=
  addf ct (addf (addf (mulf dxn (broadcastInDim S4x2048x1024 ![0, 1, 2] bcast_S4x2048x1_S4x2048x1024_0_1_2 r)) (mulf x dms)) (mulf dms x))

def sO0 (df : FVec Ideal S4x2048x1024 .f32) : FVec Ideal S8192x1024 .bf16 :=
  truncf .bf16 (shapeCast _ df shapeCasts_S4x2048x1024_S8192x1024) bitsLt_bf16_f32

def sO1 (dgate : FVec Ideal S4x1024 .f32) : FVec Ideal S4x1x1024 .f32 :=
  shapeCast _ dgate shapeCasts_S4x1024_S4x1x1024

def sO2 (dgu : FVec Ideal S4x2048x5632 .f32) : FVec Ideal S8192x5632 .bf16 :=
  truncf .bf16 (shapeCast _ dgu shapeCasts_S4x2048x5632_S8192x5632) bitsLt_bf16_f32

def sO3 (dx : FVec Ideal S4x2048x1024 .f32) : FVec Ideal S8192x1024 .f32 :=
  shapeCast _ dx shapeCasts_S4x2048x1024_S8192x1024

def sO4 (dsh : FVec Ideal S4x1024 .f32) : FVec Ideal S4x1x1024 .f32 :=
  shapeCast _ dsh shapeCasts_S4x1024_S4x1x1024

def sO5 (dsc : FVec Ideal S4x1024 .f32) : FVec Ideal S4x1x1024 .f32 :=
  shapeCast _ dsc shapeCasts_S4x1024_S4x1x1024

def sO6 (dgn : FVec Ideal S1024 .f32) : FVec Ideal S1x1024 .f32 :=
  shapeCast _ dgn shapeCasts_S1024_S1x1024

theorem drop_two (i : S4x2048x1024.Idx) : (reducesTo_S4x2048x1024_S1024_d0_1.drop i 0).val = (i 2).val := rfl

theorem drop_one (i : S1x1x1024.Idx) : (reducesTo_S1x1x1024_S1024_d0_1.drop i 0).val = (i 2).val := rfl

/-- A sum over the first two axes, read at the third. -/
theorem reduce_two (v : FVec Ideal S4x2048x1024 .f32) (e e1 : Fin 1) (k : Fin 1024) :
    (shapeCast S1x1x1024 (Host.reduceAdd v (constant S_ .f32 0x00000000#32) reducesTo_S4x2048x1024_S1024_d0_1 h_S_)
      shapeCasts_S1024_S1x1x1024 : FVec Ideal S1x1x1024 .f32) (ix3 e e1 k) = ∑ b : Fin 4, ∑ s : Fin 2048, v (ix3 b s k) := by
  pointwise
  unfold Ideal.hostReduceAdd
  rw [← Finset.sum_product', zero_add]
  refine Finset.sum_nbij' (fun i => ((i 0 : Fin 4), (i 1 : Fin 2048))) (fun p => ix3 p.1 p.2 k) ?_ ?_ ?_ ?_ ?_
  · intro i _; simp
  · intro p _
    rw [Finset.mem_filter]
    refine ⟨Finset.mem_univ _, ?_⟩
    funext a
    apply Fin.ext
    have ha : a = 0 := Subsingleton.elim (α := Fin 1) a 0
    subst ha
    exact drop_two _
  · intro i hi
    rw [Finset.mem_filter] at hi
    have h2 : (i 2).val = k.val := (drop_two i).symm.trans (congrArg (fun j : S1024.Idx => (j 0).val) hi.2)
    idx_vars i
    have h3 : i2 = k := Fin.ext h2
    subst h3
    rfl
  · intro p _; rfl
  · intro i hi
    rw [Finset.mem_filter] at hi
    have h2 : (i 2).val = k.val := (drop_two i).symm.trans (congrArg (fun j : S1024.Idx => (j 0).val) hi.2)
    idx_vars i
    have h3 : i2 = k := Fin.ext h2
    subst h3
    rfl

/-- A sum over two axes of extent one. -/
theorem reduce_one (v : FVec Ideal S1x1x1024 .f32) (k : Fin 1024) :
    (Host.reduceAdd v (constant S_ .f32 0x00000000#32) reducesTo_S1x1x1024_S1024_d0_1 h_S_ : FVec Ideal S1024 .f32) (ix1 k)
      = v (ix3 0 0 k) := by
  pointwise
  unfold Ideal.hostReduceAdd
  rw [zero_add]
  refine (Finset.sum_eq_single (ix3 0 0 k) ?_ ?_)
  · intro i hi hn
    rw [Finset.mem_filter] at hi
    have h2 : (i 2).val = k.val := (drop_one i).symm.trans (congrArg (fun j : S1024.Idx => (j 0).val) hi.2)
    idx_vars i
    have h3 : i2 = k := Fin.ext h2
    have h0 : i0 = 0 := Subsingleton.elim _ _
    have h1 : i1 = 0 := Subsingleton.elim _ _
    subst h3; subst h0; subst h1
    exact absurd rfl hn
  · intro hn
    refine absurd ?_ hn
    rw [Finset.mem_filter]
    refine ⟨Finset.mem_univ _, ?_⟩
    funext a
    apply Fin.ext
    have ha : a = 0 := Subsingleton.elim (α := Fin 1) a 0
    subst ha
    exact drop_one _

variable (A : Args)

theorem sMs_eq {x : FVec Ideal S4x2048x1024 .f32}
    (hx : ∀ (b : Fin 4) (s : Fin 2048) (k : Fin 1024), x (ix3 b s k) = ((A.x (b * 2048 + s) k : ℝ) : EReal)) :
    ∀ (b : Fin 4) (s : Fin 2048) (e : Fin 1), (sMs x : FVec Ideal S4x2048x1 .f32) (ix3 b s e) = ((A.ms (b * 2048 + s) : ℝ) : EReal) := by
  intros
  pointwise [sMs]
  simp only [hx, ofBits_1024, div_real (by norm_num : (1024 : ℝ) ≠ 0), ofBits_eps, ← EReal.coe_mul, ← EReal.coe_add, ← EReal.coe_sub, ← EReal.coe_neg, ← EReal.coe_one, coe_sum, exp_real]
  refine congrArg (fun r : ℝ => (r : EReal)) ?_
  simp only [Args.ms, row_div]

theorem sR_eq {ms : FVec Ideal S4x2048x1 .f32}
    (hms : ∀ (b : Fin 4) (s : Fin 2048) (e : Fin 1), ms (ix3 b s e) = ((A.ms (b * 2048 + s) : ℝ) : EReal)) :
    ∀ (b : Fin 4) (s : Fin 2048) (e : Fin 1), (sR ms : FVec Ideal S4x2048x1 .f32) (ix3 b s e) = ((A.r (b * 2048 + s) : ℝ) : EReal) := by
  intros
  pointwise [sR]
  simp only [hms, rsqrt_pos (A.ms_pos _), ← EReal.coe_mul, ← EReal.coe_add, ← EReal.coe_sub, ← EReal.coe_neg, ← EReal.coe_one, coe_sum, exp_real]
  refine congrArg (fun r : ℝ => (r : EReal)) ?_
  simp only [Args.r, row_div]

theorem sDr_eq {r : FVec Ideal S4x2048x1 .f32} {ms : FVec Ideal S4x2048x1 .f32}
    (hr : ∀ (b : Fin 4) (s : Fin 2048) (e : Fin 1), r (ix3 b s e) = ((A.r (b * 2048 + s) : ℝ) : EReal))
    (hms : ∀ (b : Fin 4) (s : Fin 2048) (e : Fin 1), ms (ix3 b s e) = ((A.ms (b * 2048 + s) : ℝ) : EReal)) :
    ∀ (b : Fin 4) (s : Fin 2048) (e : Fin 1), (sDr r ms : FVec Ideal S4x2048x1 .f32) (ix3 b s e) = ((A.dr (b * 2048 + s) : ℝ) : EReal) := by
  intros
  pointwise [sDr]
  simp only [hr, hms, div_real (A.ms_pos _).ne', ofBits_neg_half, ← EReal.coe_mul, ← EReal.coe_add, ← EReal.coe_sub, ← EReal.coe_neg, ← EReal.coe_one, coe_sum, exp_real]
  refine congrArg (fun r : ℝ => (r : EReal)) ?_
  simp only [Args.dr, row_div]

theorem sXn_eq {x : FVec Ideal S4x2048x1024 .f32} {r : FVec Ideal S4x2048x1 .f32}
    (hx : ∀ (b : Fin 4) (s : Fin 2048) (k : Fin 1024), x (ix3 b s k) = ((A.x (b * 2048 + s) k : ℝ) : EReal))
    (hr : ∀ (b : Fin 4) (s : Fin 2048) (e : Fin 1), r (ix3 b s e) = ((A.r (b * 2048 + s) : ℝ) : EReal)) :
    ∀ (b : Fin 4) (s : Fin 2048) (k : Fin 1024), (sXn x r : FVec Ideal S4x2048x1024 .f32) (ix3 b s k) = ((A.xn (b * 2048 + s) k : ℝ) : EReal) := by
  intros
  pointwise [sXn]
  simp only [hx, hr, ← EReal.coe_mul, ← EReal.coe_add, ← EReal.coe_sub, ← EReal.coe_neg, ← EReal.coe_one, coe_sum, exp_real]
  refine congrArg (fun r : ℝ => (r : EReal)) ?_
  simp only [Args.xn, row_div]

theorem sGn_eq {gn : FVec Ideal S1024 .f32}
    (hgn : ∀ k : Fin 1024, gn (ix1 k) = ((A.gn k : ℝ) : EReal)) :
    ∀ (e e1 : Fin 1) (k : Fin 1024), (sGn gn : FVec Ideal S1x1x1024 .f32) (ix3 e e1 k) = ((A.gn k : ℝ) : EReal) := by
  intros
  pointwise [sGn]
  simp only [hgn]

theorem sXg_eq {xn : FVec Ideal S4x2048x1024 .f32} {gn : FVec Ideal S1x1x1024 .f32}
    (hxn : ∀ (b : Fin 4) (s : Fin 2048) (k : Fin 1024), xn (ix3 b s k) = ((A.xn (b * 2048 + s) k : ℝ) : EReal))
    (hgn : ∀ (e e1 : Fin 1) (k : Fin 1024), gn (ix3 e e1 k) = ((A.gn k : ℝ) : EReal)) :
    ∀ (b : Fin 4) (s : Fin 2048) (k : Fin 1024), (sXg xn gn : FVec Ideal S4x2048x1024 .f32) (ix3 b s k) = ((A.xg (b * 2048 + s) k : ℝ) : EReal) := by
  intros
  pointwise [sXg]
  simp only [hxn, hgn, ← EReal.coe_mul, ← EReal.coe_add, ← EReal.coe_sub, ← EReal.coe_neg, ← EReal.coe_one, coe_sum, exp_real]
  refine congrArg (fun r : ℝ => (r : EReal)) ?_
  simp only [Args.xg, row_div]

theorem sSc1_eq {sc : FVec Ideal S4x1024 .f32}
    (hsc : ∀ (b : Fin 4) (k : Fin 1024), sc (ix2 b k) = ((A.sc b k : ℝ) : EReal)) :
    ∀ (b : Fin 4) (e : Fin 1) (k : Fin 1024), (sSc1 sc : FVec Ideal S4x1x1024 .f32) (ix3 b e k) = ((A.sc1 b k : ℝ) : EReal) := by
  intros
  pointwise [sSc1]
  simp only [hsc, ← EReal.coe_mul, ← EReal.coe_add, ← EReal.coe_sub, ← EReal.coe_neg, ← EReal.coe_one, coe_sum, exp_real]
  refine congrArg (fun r : ℝ => (r : EReal)) ?_
  simp only [Args.sc1, row_div]

theorem sH_eq {xg : FVec Ideal S4x2048x1024 .f32} {sc1 : FVec Ideal S4x1x1024 .f32} {sh : FVec Ideal S4x1024 .f32}
    (hxg : ∀ (b : Fin 4) (s : Fin 2048) (k : Fin 1024), xg (ix3 b s k) = ((A.xg (b * 2048 + s) k : ℝ) : EReal))
    (hsc1 : ∀ (b : Fin 4) (e : Fin 1) (k : Fin 1024), sc1 (ix3 b e k) = ((A.sc1 b k : ℝ) : EReal))
    (hsh : ∀ (b : Fin 4) (k : Fin 1024), sh (ix2 b k) = ((A.sh b k : ℝ) : EReal)) :
    ∀ (b : Fin 4) (s : Fin 2048) (k : Fin 1024), (sH xg sc1 sh : FVec Ideal S4x2048x1024 .f32) (ix3 b s k) = ((A.h (b * 2048 + s) k : ℝ) : EReal) := by
  intros
  pointwise [sH]
  simp only [hxg, hsc1, hsh, ← EReal.coe_mul, ← EReal.coe_add, ← EReal.coe_sub, ← EReal.coe_neg, ← EReal.coe_one, coe_sum, exp_real]
  refine congrArg (fun r : ℝ => (r : EReal)) ?_
  simp only [Args.h, row_div]

theorem sGu_eq {h : FVec Ideal S4x2048x1024 .f32} {wgu : FVec Ideal S1024x5632 .f32}
    (hh : ∀ (b : Fin 4) (s : Fin 2048) (k : Fin 1024), h (ix3 b s k) = ((A.h (b * 2048 + s) k : ℝ) : EReal))
    (hwgu : ∀ (j : Fin 1024) (k : Fin 5632), wgu (ix2 j k) = ((A.wgu j k : ℝ) : EReal)) :
    ∀ (b : Fin 4) (s : Fin 2048) (k : Fin 5632), (sGu h wgu : FVec Ideal S4x2048x5632 .f32) (ix3 b s k) = ((A.gu (b * 2048 + s) k : ℝ) : EReal) := by
  intros
  pointwise [sGu]
  simp only [hh, hwgu, ← EReal.coe_mul, ← EReal.coe_add, ← EReal.coe_sub, ← EReal.coe_neg, ← EReal.coe_one, coe_sum, exp_real]
  refine congrArg (fun r : ℝ => (r : EReal)) ?_
  simp only [Args.gu, row_div]

theorem sG_eq {gu : FVec Ideal S4x2048x5632 .f32}
    (hgu : ∀ (b : Fin 4) (s : Fin 2048) (k : Fin 5632), gu (ix3 b s k) = ((A.gu (b * 2048 + s) k : ℝ) : EReal)) :
    ∀ (b : Fin 4) (s : Fin 2048) (k : Fin 2816), (sG gu : FVec Ideal S4x2048x2816 .f32) (ix3 b s k) = ((A.g (b * 2048 + s) k : ℝ) : EReal) := by
  intros
  pointwise [sG]
  simp only [hgu, ← EReal.coe_mul, ← EReal.coe_add, ← EReal.coe_sub, ← EReal.coe_neg, ← EReal.coe_one, coe_sum, exp_real]
  refine congrArg (fun r : ℝ => (r : EReal)) ?_
  simp only [Args.g, row_div]

theorem sU_eq {gu : FVec Ideal S4x2048x5632 .f32}
    (hgu : ∀ (b : Fin 4) (s : Fin 2048) (k : Fin 5632), gu (ix3 b s k) = ((A.gu (b * 2048 + s) k : ℝ) : EReal)) :
    ∀ (b : Fin 4) (s : Fin 2048) (k : Fin 2816), (sU gu : FVec Ideal S4x2048x2816 .f32) (ix3 b s k) = ((A.u (b * 2048 + s) k : ℝ) : EReal) := by
  intros
  pointwise [sU]
  simp only [hgu, ← EReal.coe_mul, ← EReal.coe_add, ← EReal.coe_sub, ← EReal.coe_neg, ← EReal.coe_one, coe_sum, exp_real]
  refine congrArg (fun r : ℝ => (r : EReal)) ?_
  simp only [Args.u, row_div]

theorem sSig_eq {g : FVec Ideal S4x2048x2816 .f32}
    (hg : ∀ (b : Fin 4) (s : Fin 2048) (k : Fin 2816), g (ix3 b s k) = ((A.g (b * 2048 + s) k : ℝ) : EReal)) :
    ∀ (b : Fin 4) (s : Fin 2048) (k : Fin 2816), (sSig g : FVec Ideal S4x2048x2816 .f32) (ix3 b s k) = ((A.sig (b * 2048 + s) k : ℝ) : EReal) := by
  intros
  pointwise [sSig]
  simp only [hg, div_real (add_pos one_pos (Real.exp_pos _)).ne', ← EReal.coe_mul, ← EReal.coe_add, ← EReal.coe_sub, ← EReal.coe_neg, ← EReal.coe_one, coe_sum, exp_real]
  refine congrArg (fun r : ℝ => (r : EReal)) ?_
  simp only [Args.sig, row_div]

theorem sDsig_eq {sig : FVec Ideal S4x2048x2816 .f32}
    (hsig : ∀ (b : Fin 4) (s : Fin 2048) (k : Fin 2816), sig (ix3 b s k) = ((A.sig (b * 2048 + s) k : ℝ) : EReal)) :
    ∀ (b : Fin 4) (s : Fin 2048) (k : Fin 2816), (sDsig sig : FVec Ideal S4x2048x2816 .f32) (ix3 b s k) = ((A.dsig (b * 2048 + s) k : ℝ) : EReal) := by
  intros
  pointwise [sDsig]
  simp only [hsig, ← EReal.coe_mul, ← EReal.coe_add, ← EReal.coe_sub, ← EReal.coe_neg, ← EReal.coe_one, coe_sum, exp_real]
  refine congrArg (fun r : ℝ => (r : EReal)) ?_
  simp only [Args.dsig, row_div]

theorem sSilu_eq {g : FVec Ideal S4x2048x2816 .f32} {sig : FVec Ideal S4x2048x2816 .f32}
    (hg : ∀ (b : Fin 4) (s : Fin 2048) (k : Fin 2816), g (ix3 b s k) = ((A.g (b * 2048 + s) k : ℝ) : EReal))
    (hsig : ∀ (b : Fin 4) (s : Fin 2048) (k : Fin 2816), sig (ix3 b s k) = ((A.sig (b * 2048 + s) k : ℝ) : EReal)) :
    ∀ (b : Fin 4) (s : Fin 2048) (k : Fin 2816), (sSilu g sig : FVec Ideal S4x2048x2816 .f32) (ix3 b s k) = ((A.silu (b * 2048 + s) k : ℝ) : EReal) := by
  intros
  pointwise [sSilu]
  simp only [hg, hsig, ← EReal.coe_mul, ← EReal.coe_add, ← EReal.coe_sub, ← EReal.coe_neg, ← EReal.coe_one, coe_sum, exp_real]
  refine congrArg (fun r : ℝ => (r : EReal)) ?_
  simp only [Args.silu, row_div]

theorem sF_eq {silu : FVec Ideal S4x2048x2816 .f32} {u : FVec Ideal S4x2048x2816 .f32} {wd : FVec Ideal S2816x1024 .f32}
    (hsilu : ∀ (b : Fin 4) (s : Fin 2048) (k : Fin 2816), silu (ix3 b s k) = ((A.silu (b * 2048 + s) k : ℝ) : EReal))
    (hu : ∀ (b : Fin 4) (s : Fin 2048) (k : Fin 2816), u (ix3 b s k) = ((A.u (b * 2048 + s) k : ℝ) : EReal))
    (hwd : ∀ (j : Fin 2816) (k : Fin 1024), wd (ix2 j k) = ((A.wd j k : ℝ) : EReal)) :
    ∀ (b : Fin 4) (s : Fin 2048) (k : Fin 1024), (sF silu u wd : FVec Ideal S4x2048x1024 .f32) (ix3 b s k) = ((A.f (b * 2048 + s) k : ℝ) : EReal) := by
  intros
  pointwise [sF]
  simp only [hsilu, hu, hwd, ← EReal.coe_mul, ← EReal.coe_add, ← EReal.coe_sub, ← EReal.coe_neg, ← EReal.coe_one, coe_sum, exp_real]
  refine congrArg (fun r : ℝ => (r : EReal)) ?_
  simp only [Args.f, row_div]

theorem sHg_eq {gate : FVec Ideal S4x1024 .f32}
    (hgate : ∀ (b : Fin 4) (k : Fin 1024), gate (ix2 b k) = ((A.gate b k : ℝ) : EReal)) :
    ∀ (b : Fin 4) (e : Fin 1) (k : Fin 1024), (sHg gate : FVec Ideal S4x1x1024 .f32) (ix3 b e k) = ((A.hg b k : ℝ) : EReal) := by
  intros
  pointwise [sHg]
  simp only [hgate, ofBits_half, ← EReal.coe_mul, ← EReal.coe_add, ← EReal.coe_sub, ← EReal.coe_neg, ← EReal.coe_one, coe_sum, exp_real]
  refine congrArg (fun r : ℝ => (r : EReal)) ?_
  simp only [Args.hg, row_div]

theorem sDf_eq {hg : FVec Ideal S4x1x1024 .f32} {ct : FVec Ideal S4x2048x1024 .f32}
    (hhg : ∀ (b : Fin 4) (e : Fin 1) (k : Fin 1024), hg (ix3 b e k) = ((A.hg b k : ℝ) : EReal))
    (hct : ∀ (b : Fin 4) (s : Fin 2048) (k : Fin 1024), ct (ix3 b s k) = ((A.ct (b * 2048 + s) k : ℝ) : EReal)) :
    ∀ (b : Fin 4) (s : Fin 2048) (k : Fin 1024), (sDf hg ct : FVec Ideal S4x2048x1024 .f32) (ix3 b s k) = ((A.df (b * 2048 + s) k : ℝ) : EReal) := by
  intros
  pointwise [sDf]
  simp only [hhg, hct, ← EReal.coe_mul, ← EReal.coe_add, ← EReal.coe_sub, ← EReal.coe_neg, ← EReal.coe_one, coe_sum, exp_real]
  refine congrArg (fun r : ℝ => (r : EReal)) ?_
  simp only [Args.df, row_div]

theorem sDgate_eq {ct : FVec Ideal S4x2048x1024 .f32} {f : FVec Ideal S4x2048x1024 .f32}
    (hct : ∀ (b : Fin 4) (s : Fin 2048) (k : Fin 1024), ct (ix3 b s k) = ((A.ct (b * 2048 + s) k : ℝ) : EReal))
    (hf : ∀ (b : Fin 4) (s : Fin 2048) (k : Fin 1024), f (ix3 b s k) = ((A.f (b * 2048 + s) k : ℝ) : EReal)) :
    ∀ (b : Fin 4) (k : Fin 1024), (sDgate ct f : FVec Ideal S4x1024 .f32) (ix2 b k) = ((A.dgate b k : ℝ) : EReal) := by
  intros
  pointwise [sDgate]
  simp only [hct, hf, ofBits_half, ← EReal.coe_mul, ← EReal.coe_add, ← EReal.coe_sub, ← EReal.coe_neg, ← EReal.coe_one, coe_sum, exp_real, Finset.univ_unique, Finset.sum_singleton, Finset.sum_const, Finset.card_singleton, one_smul]
  refine congrArg (fun r : ℝ => (r : EReal)) ?_
  simp only [Args.dgate, row_div]

theorem sDa_eq {df : FVec Ideal S4x2048x1024 .f32} {wd : FVec Ideal S2816x1024 .f32}
    (hdf : ∀ (b : Fin 4) (s : Fin 2048) (k : Fin 1024), df (ix3 b s k) = ((A.df (b * 2048 + s) k : ℝ) : EReal))
    (hwd : ∀ (j : Fin 2816) (k : Fin 1024), wd (ix2 j k) = ((A.wd j k : ℝ) : EReal)) :
    ∀ (b : Fin 4) (s : Fin 2048) (k : Fin 2816), (sDa df wd : FVec Ideal S4x2048x2816 .f32) (ix3 b s k) = ((A.da (b * 2048 + s) k : ℝ) : EReal) := by
  intros
  pointwise [sDa]
  simp only [hdf, hwd, ← EReal.coe_mul, ← EReal.coe_add, ← EReal.coe_sub, ← EReal.coe_neg, ← EReal.coe_one, coe_sum, exp_real]
  refine congrArg (fun r : ℝ => (r : EReal)) ?_
  simp only [Args.da, row_div]

theorem sDu_eq {silu : FVec Ideal S4x2048x2816 .f32} {da : FVec Ideal S4x2048x2816 .f32}
    (hsilu : ∀ (b : Fin 4) (s : Fin 2048) (k : Fin 2816), silu (ix3 b s k) = ((A.silu (b * 2048 + s) k : ℝ) : EReal))
    (hda : ∀ (b : Fin 4) (s : Fin 2048) (k : Fin 2816), da (ix3 b s k) = ((A.da (b * 2048 + s) k : ℝ) : EReal)) :
    ∀ (b : Fin 4) (s : Fin 2048) (k : Fin 2816), (sDu silu da : FVec Ideal S4x2048x2816 .f32) (ix3 b s k) = ((A.du (b * 2048 + s) k : ℝ) : EReal) := by
  intros
  pointwise [sDu]
  simp only [hsilu, hda, ← EReal.coe_mul, ← EReal.coe_add, ← EReal.coe_sub, ← EReal.coe_neg, ← EReal.coe_one, coe_sum, exp_real]
  refine congrArg (fun r : ℝ => (r : EReal)) ?_
  simp only [Args.du, row_div]

theorem sDg_eq {da : FVec Ideal S4x2048x2816 .f32} {u : FVec Ideal S4x2048x2816 .f32} {sig : FVec Ideal S4x2048x2816 .f32} {g : FVec Ideal S4x2048x2816 .f32} {dsig : FVec Ideal S4x2048x2816 .f32}
    (hda : ∀ (b : Fin 4) (s : Fin 2048) (k : Fin 2816), da (ix3 b s k) = ((A.da (b * 2048 + s) k : ℝ) : EReal))
    (hu : ∀ (b : Fin 4) (s : Fin 2048) (k : Fin 2816), u (ix3 b s k) = ((A.u (b * 2048 + s) k : ℝ) : EReal))
    (hsig : ∀ (b : Fin 4) (s : Fin 2048) (k : Fin 2816), sig (ix3 b s k) = ((A.sig (b * 2048 + s) k : ℝ) : EReal))
    (hg : ∀ (b : Fin 4) (s : Fin 2048) (k : Fin 2816), g (ix3 b s k) = ((A.g (b * 2048 + s) k : ℝ) : EReal))
    (hdsig : ∀ (b : Fin 4) (s : Fin 2048) (k : Fin 2816), dsig (ix3 b s k) = ((A.dsig (b * 2048 + s) k : ℝ) : EReal)) :
    ∀ (b : Fin 4) (s : Fin 2048) (k : Fin 2816), (sDg da u sig g dsig : FVec Ideal S4x2048x2816 .f32) (ix3 b s k) = ((A.dg (b * 2048 + s) k : ℝ) : EReal) := by
  intros
  pointwise [sDg]
  simp only [hda, hu, hsig, hg, hdsig, ← EReal.coe_mul, ← EReal.coe_add, ← EReal.coe_sub, ← EReal.coe_neg, ← EReal.coe_one, coe_sum, exp_real]
  refine congrArg (fun r : ℝ => (r : EReal)) ?_
  exact A.dg_eq _ _

theorem sDgu_eq {dg : FVec Ideal S4x2048x2816 .f32} {du : FVec Ideal S4x2048x2816 .f32}
    (hdg : ∀ (b : Fin 4) (s : Fin 2048) (k : Fin 2816), dg (ix3 b s k) = ((A.dg (b * 2048 + s) k : ℝ) : EReal))
    (hdu : ∀ (b : Fin 4) (s : Fin 2048) (k : Fin 2816), du (ix3 b s k) = ((A.du (b * 2048 + s) k : ℝ) : EReal)) :
    ∀ (b : Fin 4) (s : Fin 2048) (k : Fin 5632), (sDgu dg du : FVec Ideal S4x2048x5632 .f32) (ix3 b s k) = ((A.dgu (b * 2048 + s) k : ℝ) : EReal) := by
  intro b s k
  pointwise [sDgu]
  by_cases h : (k : ℕ) < 2816
  · rw [dif_pos h, hdg]; simp only [Args.dgu, if_pos h]
  · rw [dif_neg h, hdu]; simp only [Args.dgu, if_neg h]

theorem sDh_eq {dgu : FVec Ideal S4x2048x5632 .f32} {wgu : FVec Ideal S1024x5632 .f32}
    (hdgu : ∀ (b : Fin 4) (s : Fin 2048) (k : Fin 5632), dgu (ix3 b s k) = ((A.dgu (b * 2048 + s) k : ℝ) : EReal))
    (hwgu : ∀ (j : Fin 1024) (k : Fin 5632), wgu (ix2 j k) = ((A.wgu j k : ℝ) : EReal)) :
    ∀ (b : Fin 4) (s : Fin 2048) (k : Fin 1024), (sDh dgu wgu : FVec Ideal S4x2048x1024 .f32) (ix3 b s k) = ((A.dh (b * 2048 + s) k : ℝ) : EReal) := by
  intros
  pointwise [sDh]
  simp only [hdgu, hwgu, ← EReal.coe_mul, ← EReal.coe_add, ← EReal.coe_sub, ← EReal.coe_neg, ← EReal.coe_one, coe_sum, exp_real]
  refine congrArg (fun r : ℝ => (r : EReal)) ?_
  simp only [Args.dh, row_div]

theorem sDsh_eq {dh : FVec Ideal S4x2048x1024 .f32}
    (hdh : ∀ (b : Fin 4) (s : Fin 2048) (k : Fin 1024), dh (ix3 b s k) = ((A.dh (b * 2048 + s) k : ℝ) : EReal)) :
    ∀ (b : Fin 4) (k : Fin 1024), (sDsh dh : FVec Ideal S4x1024 .f32) (ix2 b k) = ((A.dsh b k : ℝ) : EReal) := by
  intros
  pointwise [sDsh]
  simp only [hdh, ← EReal.coe_mul, ← EReal.coe_add, ← EReal.coe_sub, ← EReal.coe_neg, ← EReal.coe_one, coe_sum, exp_real, Finset.univ_unique, Finset.sum_singleton, Finset.sum_const, Finset.card_singleton, one_smul]
  refine congrArg (fun r : ℝ => (r : EReal)) ?_
  simp only [Args.dsh, row_div]

theorem sDsc_eq {xg : FVec Ideal S4x2048x1024 .f32} {dh : FVec Ideal S4x2048x1024 .f32}
    (hxg : ∀ (b : Fin 4) (s : Fin 2048) (k : Fin 1024), xg (ix3 b s k) = ((A.xg (b * 2048 + s) k : ℝ) : EReal))
    (hdh : ∀ (b : Fin 4) (s : Fin 2048) (k : Fin 1024), dh (ix3 b s k) = ((A.dh (b * 2048 + s) k : ℝ) : EReal)) :
    ∀ (b : Fin 4) (k : Fin 1024), (sDsc xg dh : FVec Ideal S4x1024 .f32) (ix2 b k) = ((A.dsc b k : ℝ) : EReal) := by
  intros
  pointwise [sDsc]
  simp only [hxg, hdh, ← EReal.coe_mul, ← EReal.coe_add, ← EReal.coe_sub, ← EReal.coe_neg, ← EReal.coe_one, coe_sum, exp_real, Finset.univ_unique, Finset.sum_singleton, Finset.sum_const, Finset.card_singleton, one_smul]
  refine congrArg (fun r : ℝ => (r : EReal)) ?_
  simp only [Args.dsc, row_div]

theorem sDhn_eq {dh : FVec Ideal S4x2048x1024 .f32} {sc1 : FVec Ideal S4x1x1024 .f32}
    (hdh : ∀ (b : Fin 4) (s : Fin 2048) (k : Fin 1024), dh (ix3 b s k) = ((A.dh (b * 2048 + s) k : ℝ) : EReal))
    (hsc1 : ∀ (b : Fin 4) (e : Fin 1) (k : Fin 1024), sc1 (ix3 b e k) = ((A.sc1 b k : ℝ) : EReal)) :
    ∀ (b : Fin 4) (s : Fin 2048) (k : Fin 1024), (sDhn dh sc1 : FVec Ideal S4x2048x1024 .f32) (ix3 b s k) = ((A.dhn (b * 2048 + s) k : ℝ) : EReal) := by
  intros
  pointwise [sDhn]
  simp only [hdh, hsc1, ← EReal.coe_mul, ← EReal.coe_add, ← EReal.coe_sub, ← EReal.coe_neg, ← EReal.coe_one, coe_sum, exp_real]
  refine congrArg (fun r : ℝ => (r : EReal)) ?_
  simp only [Args.dhn, row_div]

theorem sDgn_eq {xn : FVec Ideal S4x2048x1024 .f32} {dhn : FVec Ideal S4x2048x1024 .f32}
    (hxn : ∀ (b : Fin 4) (s : Fin 2048) (k : Fin 1024), xn (ix3 b s k) = ((A.xn (b * 2048 + s) k : ℝ) : EReal))
    (hdhn : ∀ (b : Fin 4) (s : Fin 2048) (k : Fin 1024), dhn (ix3 b s k) = ((A.dhn (b * 2048 + s) k : ℝ) : EReal)) :
    ∀ k : Fin 1024, (sDgn xn dhn : FVec Ideal S1024 .f32) (ix1 k) = ((A.dgn k : ℝ) : EReal) := by
  intro k
  unfold sDgn
  rw [reduce_one, reduce_two]
  pointwise
  simp only [ hxn, hdhn, ← EReal.coe_mul, ← EReal.coe_add, ← EReal.coe_sub, ← EReal.coe_neg, ← EReal.coe_one, coe_sum, exp_real, Args.dgn]

theorem sDxn_eq {dhn : FVec Ideal S4x2048x1024 .f32} {gn : FVec Ideal S1x1x1024 .f32}
    (hdhn : ∀ (b : Fin 4) (s : Fin 2048) (k : Fin 1024), dhn (ix3 b s k) = ((A.dhn (b * 2048 + s) k : ℝ) : EReal))
    (hgn : ∀ (e e1 : Fin 1) (k : Fin 1024), gn (ix3 e e1 k) = ((A.gn k : ℝ) : EReal)) :
    ∀ (b : Fin 4) (s : Fin 2048) (k : Fin 1024), (sDxn dhn gn : FVec Ideal S4x2048x1024 .f32) (ix3 b s k) = ((A.dxn (b * 2048 + s) k : ℝ) : EReal) := by
  intros
  pointwise [sDxn]
  simp only [hdhn, hgn, ← EReal.coe_mul, ← EReal.coe_add, ← EReal.coe_sub, ← EReal.coe_neg, ← EReal.coe_one, coe_sum, exp_real]
  refine congrArg (fun r : ℝ => (r : EReal)) ?_
  simp only [Args.dxn, row_div]

theorem sDms_eq {x : FVec Ideal S4x2048x1024 .f32} {dxn : FVec Ideal S4x2048x1024 .f32} {dr : FVec Ideal S4x2048x1 .f32}
    (hx : ∀ (b : Fin 4) (s : Fin 2048) (k : Fin 1024), x (ix3 b s k) = ((A.x (b * 2048 + s) k : ℝ) : EReal))
    (hdxn : ∀ (b : Fin 4) (s : Fin 2048) (k : Fin 1024), dxn (ix3 b s k) = ((A.dxn (b * 2048 + s) k : ℝ) : EReal))
    (hdr : ∀ (b : Fin 4) (s : Fin 2048) (e : Fin 1), dr (ix3 b s e) = ((A.dr (b * 2048 + s) : ℝ) : EReal)) :
    ∀ (b : Fin 4) (s : Fin 2048) (k : Fin 1024), (sDms x dxn dr : FVec Ideal S4x2048x1024 .f32) (ix3 b s k) = ((A.dms (b * 2048 + s) : ℝ) : EReal) := by
  intros
  pointwise [sDms]
  simp only [hx, hdxn, hdr, ofBits_1024, div_real (by norm_num : (1024 : ℝ) ≠ 0), ← EReal.coe_mul, ← EReal.coe_add, ← EReal.coe_sub, ← EReal.coe_neg, ← EReal.coe_one, coe_sum, exp_real, Finset.univ_unique, Finset.sum_singleton, Finset.sum_const, Finset.card_singleton, one_smul]
  refine congrArg (fun r : ℝ => (r : EReal)) ?_
  simp only [Args.dms, row_div]

theorem sDx_eq {ct : FVec Ideal S4x2048x1024 .f32} {dxn : FVec Ideal S4x2048x1024 .f32} {r : FVec Ideal S4x2048x1 .f32} {x : FVec Ideal S4x2048x1024 .f32} {dms : FVec Ideal S4x2048x1024 .f32}
    (hct : ∀ (b : Fin 4) (s : Fin 2048) (k : Fin 1024), ct (ix3 b s k) = ((A.ct (b * 2048 + s) k : ℝ) : EReal))
    (hdxn : ∀ (b : Fin 4) (s : Fin 2048) (k : Fin 1024), dxn (ix3 b s k) = ((A.dxn (b * 2048 + s) k : ℝ) : EReal))
    (hr : ∀ (b : Fin 4) (s : Fin 2048) (e : Fin 1), r (ix3 b s e) = ((A.r (b * 2048 + s) : ℝ) : EReal))
    (hx : ∀ (b : Fin 4) (s : Fin 2048) (k : Fin 1024), x (ix3 b s k) = ((A.x (b * 2048 + s) k : ℝ) : EReal))
    (hdms : ∀ (b : Fin 4) (s : Fin 2048) (k : Fin 1024), dms (ix3 b s k) = ((A.dms (b * 2048 + s) : ℝ) : EReal)) :
    ∀ (b : Fin 4) (s : Fin 2048) (k : Fin 1024), (sDx ct dxn r x dms : FVec Ideal S4x2048x1024 .f32) (ix3 b s k) = ((A.dx (b * 2048 + s) k : ℝ) : EReal) := by
  intros
  pointwise [sDx]
  simp only [hct, hdxn, hr, hx, hdms, ← EReal.coe_mul, ← EReal.coe_add, ← EReal.coe_sub, ← EReal.coe_neg, ← EReal.coe_one, coe_sum, exp_real]
  refine congrArg (fun r : ℝ => (r : EReal)) ?_
  exact A.dx_eq _ _

theorem sO0_eq {df : FVec Ideal S4x2048x1024 .f32}
    (hdf : ∀ (b : Fin 4) (s : Fin 2048) (k : Fin 1024), df (ix3 b s k) = ((A.df (b * 2048 + s) k : ℝ) : EReal)) :
    ∀ (t : Fin 8192) (k : Fin 1024), (sO0 df : FVec Ideal S8192x1024 .bf16) (ix2 t k) = ((A.df t k : ℝ) : EReal) := by
  intro t k
  pointwise [sO0]
  simp only [hdf]
  rw [row_mul]

theorem sO1_eq {dgate : FVec Ideal S4x1024 .f32}
    (hdgate : ∀ (b : Fin 4) (k : Fin 1024), dgate (ix2 b k) = ((A.dgate b k : ℝ) : EReal)) :
    ∀ (b : Fin 4) (e : Fin 1) (k : Fin 1024), (sO1 dgate : FVec Ideal S4x1x1024 .f32) (ix3 b e k) = ((A.dgate b k : ℝ) : EReal) := by
  intros
  pointwise [sO1]
  simp only [hdgate]

theorem sO2_eq {dgu : FVec Ideal S4x2048x5632 .f32}
    (hdgu : ∀ (b : Fin 4) (s : Fin 2048) (k : Fin 5632), dgu (ix3 b s k) = ((A.dgu (b * 2048 + s) k : ℝ) : EReal)) :
    ∀ (t : Fin 8192) (k : Fin 5632), (sO2 dgu : FVec Ideal S8192x5632 .bf16) (ix2 t k) = ((A.dgu t k : ℝ) : EReal) := by
  intro t k
  pointwise [sO2]
  simp only [hdgu]
  rw [row_mul]

theorem sO3_eq {dx : FVec Ideal S4x2048x1024 .f32}
    (hdx : ∀ (b : Fin 4) (s : Fin 2048) (k : Fin 1024), dx (ix3 b s k) = ((A.dx (b * 2048 + s) k : ℝ) : EReal)) :
    ∀ (t : Fin 8192) (k : Fin 1024), (sO3 dx : FVec Ideal S8192x1024 .f32) (ix2 t k) = ((A.dx t k : ℝ) : EReal) := by
  intro t k
  pointwise [sO3]
  simp only [hdx]
  rw [row_mul]

theorem sO4_eq {dsh : FVec Ideal S4x1024 .f32}
    (hdsh : ∀ (b : Fin 4) (k : Fin 1024), dsh (ix2 b k) = ((A.dsh b k : ℝ) : EReal)) :
    ∀ (b : Fin 4) (e : Fin 1) (k : Fin 1024), (sO4 dsh : FVec Ideal S4x1x1024 .f32) (ix3 b e k) = ((A.dsh b k : ℝ) : EReal) := by
  intros
  pointwise [sO4]
  simp only [hdsh]

theorem sO5_eq {dsc : FVec Ideal S4x1024 .f32}
    (hdsc : ∀ (b : Fin 4) (k : Fin 1024), dsc (ix2 b k) = ((A.dsc b k : ℝ) : EReal)) :
    ∀ (b : Fin 4) (e : Fin 1) (k : Fin 1024), (sO5 dsc : FVec Ideal S4x1x1024 .f32) (ix3 b e k) = ((A.dsc b k : ℝ) : EReal) := by
  intros
  pointwise [sO5]
  simp only [hdsc]

theorem sO6_eq {dgn : FVec Ideal S1024 .f32}
    (hdgn : ∀ k : Fin 1024, dgn (ix1 k) = ((A.dgn k : ℝ) : EReal)) :
    ∀ (e : Fin 1) (k : Fin 1024), (sO6 dgn : FVec Ideal S1x1024 .f32) (ix2 e k) = ((A.dgn k : ℝ) : EReal) := by
  intros
  pointwise [sO6]
  simp only [hdgn]

end Cert.Ffn.Ref

end
-- ==== Proof.FfnRef.lean ====
/- The reference's results, composed of its stages: each, at an index, is the spec's real number. -/
module

public import proofs.«01_k».proof.Proof.FfnStage
public import proofs.«01_k».proof.Proof.Gen.FeedForwardReferenceIdeal.Run

@[expose] public section

set_option maxRecDepth 16384

noncomputable section

namespace Cert.Ffn.Ref

open Idealize.ShloMosaic Idealize.ShloMosaic.TcCoe Idealize.SL.Sem
open Cert.FeedForwardReferenceIdeal Cert.FeedForwardReferenceIdeal.Gen Cert.FeedForwardReferenceIdeal.Value
open Cert.Ffn

/-- The eight arguments. -/
structure Ins where
  x : FVec Ideal S4x2048x1024 .f32
  sh : FVec Ideal S4x1024 .f32
  sc : FVec Ideal S4x1024 .f32
  gate : FVec Ideal S4x1024 .f32
  gn : FVec Ideal S1024 .f32
  wgu : FVec Ideal S1024x5632 .f32
  wd : FVec Ideal S2816x1024 .f32
  ct : FVec Ideal S4x2048x1024 .f32

/-- The arguments are the given real numbers. -/
structure Given (V : Ins) (A : Args) : Prop where
  x : ∀ (b : Fin 4) (s : Fin 2048) (k : Fin 1024), V.x (ix3 b s k) = ((A.x (b * 2048 + s) k : ℝ) : EReal)
  sh : ∀ (b : Fin 4) (k : Fin 1024), V.sh (ix2 b k) = ((A.sh b k : ℝ) : EReal)
  sc : ∀ (b : Fin 4) (k : Fin 1024), V.sc (ix2 b k) = ((A.sc b k : ℝ) : EReal)
  gate : ∀ (b : Fin 4) (k : Fin 1024), V.gate (ix2 b k) = ((A.gate b k : ℝ) : EReal)
  gn : ∀ k : Fin 1024, V.gn (ix1 k) = ((A.gn k : ℝ) : EReal)
  wgu : ∀ (j : Fin 1024) (k : Fin 5632), V.wgu (ix2 j k) = ((A.wgu j k : ℝ) : EReal)
  wd : ∀ (j : Fin 2816) (k : Fin 1024), V.wd (ix2 j k) = ((A.wd j k : ℝ) : EReal)
  ct : ∀ (b : Fin 4) (s : Fin 2048) (k : Fin 1024), V.ct (ix3 b s k) = ((A.ct (b * 2048 + s) k : ℝ) : EReal)

variable (V : Ins)

def cMs : FVec Ideal S4x2048x1 .f32 := sMs V.x
def cR : FVec Ideal S4x2048x1 .f32 := sR (cMs V)
def cDr : FVec Ideal S4x2048x1 .f32 := sDr (cR V) (cMs V)
def cXn : FVec Ideal S4x2048x1024 .f32 := sXn V.x (cR V)
def cGn : FVec Ideal S1x1x1024 .f32 := sGn V.gn
def cXg : FVec Ideal S4x2048x1024 .f32 := sXg (cXn V) (cGn V)
def cSc1 : FVec Ideal S4x1x1024 .f32 := sSc1 V.sc
def cH : FVec Ideal S4x2048x1024 .f32 := sH (cXg V) (cSc1 V) V.sh
def cGu : FVec Ideal S4x2048x5632 .f32 := sGu (cH V) V.wgu
def cG : FVec Ideal S4x2048x2816 .f32 := sG (cGu V)
def cU : FVec Ideal S4x2048x2816 .f32 := sU (cGu V)
def cSig : FVec Ideal S4x2048x2816 .f32 := sSig (cG V)
def cDsig : FVec Ideal S4x2048x2816 .f32 := sDsig (cSig V)
def cSilu : FVec Ideal S4x2048x2816 .f32 := sSilu (cG V) (cSig V)
def cF : FVec Ideal S4x2048x1024 .f32 := sF (cSilu V) (cU V) V.wd
def cHg : FVec Ideal S4x1x1024 .f32 := sHg V.gate
def cDf : FVec Ideal S4x2048x1024 .f32 := sDf (cHg V) V.ct
def cDgate : FVec Ideal S4x1024 .f32 := sDgate V.ct (cF V)
def cDa : FVec Ideal S4x2048x2816 .f32 := sDa (cDf V) V.wd
def cDu : FVec Ideal S4x2048x2816 .f32 := sDu (cSilu V) (cDa V)
def cDg : FVec Ideal S4x2048x2816 .f32 := sDg (cDa V) (cU V) (cSig V) (cG V) (cDsig V)
def cDgu : FVec Ideal S4x2048x5632 .f32 := sDgu (cDg V) (cDu V)
def cDh : FVec Ideal S4x2048x1024 .f32 := sDh (cDgu V) V.wgu
def cDsh : FVec Ideal S4x1024 .f32 := sDsh (cDh V)
def cDsc : FVec Ideal S4x1024 .f32 := sDsc (cXg V) (cDh V)
def cDhn : FVec Ideal S4x2048x1024 .f32 := sDhn (cDh V) (cSc1 V)
def cDgn : FVec Ideal S1024 .f32 := sDgn (cXn V) (cDhn V)
def cDxn : FVec Ideal S4x2048x1024 .f32 := sDxn (cDhn V) (cGn V)
def cDms : FVec Ideal S4x2048x1024 .f32 := sDms V.x (cDxn V) (cDr V)
def cDx : FVec Ideal S4x2048x1024 .f32 := sDx V.ct (cDxn V) (cR V) V.x (cDms V)
def cO0 : FVec Ideal S8192x1024 .bf16 := sO0 (cDf V)
def cO1 : FVec Ideal S4x1x1024 .f32 := sO1 (cDgate V)
def cO2 : FVec Ideal S8192x5632 .bf16 := sO2 (cDgu V)
def cO3 : FVec Ideal S8192x1024 .f32 := sO3 (cDx V)
def cO4 : FVec Ideal S4x1x1024 .f32 := sO4 (cDsh V)
def cO5 : FVec Ideal S4x1x1024 .f32 := sO5 (cDsc V)
def cO6 : FVec Ideal S1x1024 .f32 := sO6 (cDgn V)

variable {V} {A : Args} (g : Given V A)
include g

theorem cMs_eq : ∀ (b : Fin 4) (s : Fin 2048) (e : Fin 1), (cMs V : FVec Ideal S4x2048x1 .f32) (ix3 b s e) = ((A.ms (b * 2048 + s) : ℝ) : EReal) :=
  sMs_eq A g.x

theorem cR_eq : ∀ (b : Fin 4) (s : Fin 2048) (e : Fin 1), (cR V : FVec Ideal S4x2048x1 .f32) (ix3 b s e) = ((A.r (b * 2048 + s) : ℝ) : EReal) :=
  sR_eq A (cMs_eq g)

theorem cDr_eq : ∀ (b : Fin 4) (s : Fin 2048) (e : Fin 1), (cDr V : FVec Ideal S4x2048x1 .f32) (ix3 b s e) = ((A.dr (b * 2048 + s) : ℝ) : EReal) :=
  sDr_eq A (cR_eq g) (cMs_eq g)

theorem cXn_eq : ∀ (b : Fin 4) (s : Fin 2048) (k : Fin 1024), (cXn V : FVec Ideal S4x2048x1024 .f32) (ix3 b s k) = ((A.xn (b * 2048 + s) k : ℝ) : EReal) :=
  sXn_eq A g.x (cR_eq g)

theorem cGn_eq : ∀ (e e1 : Fin 1) (k : Fin 1024), (cGn V : FVec Ideal S1x1x1024 .f32) (ix3 e e1 k) = ((A.gn k : ℝ) : EReal) :=
  sGn_eq A g.gn

theorem cXg_eq : ∀ (b : Fin 4) (s : Fin 2048) (k : Fin 1024), (cXg V : FVec Ideal S4x2048x1024 .f32) (ix3 b s k) = ((A.xg (b * 2048 + s) k : ℝ) : EReal) :=
  sXg_eq A (cXn_eq g) (cGn_eq g)

theorem cSc1_eq : ∀ (b : Fin 4) (e : Fin 1) (k : Fin 1024), (cSc1 V : FVec Ideal S4x1x1024 .f32) (ix3 b e k) = ((A.sc1 b k : ℝ) : EReal) :=
  sSc1_eq A g.sc

theorem cH_eq : ∀ (b : Fin 4) (s : Fin 2048) (k : Fin 1024), (cH V : FVec Ideal S4x2048x1024 .f32) (ix3 b s k) = ((A.h (b * 2048 + s) k : ℝ) : EReal) :=
  sH_eq A (cXg_eq g) (cSc1_eq g) g.sh

theorem cGu_eq : ∀ (b : Fin 4) (s : Fin 2048) (k : Fin 5632), (cGu V : FVec Ideal S4x2048x5632 .f32) (ix3 b s k) = ((A.gu (b * 2048 + s) k : ℝ) : EReal) :=
  sGu_eq A (cH_eq g) g.wgu

theorem cG_eq : ∀ (b : Fin 4) (s : Fin 2048) (k : Fin 2816), (cG V : FVec Ideal S4x2048x2816 .f32) (ix3 b s k) = ((A.g (b * 2048 + s) k : ℝ) : EReal) :=
  sG_eq A (cGu_eq g)

theorem cU_eq : ∀ (b : Fin 4) (s : Fin 2048) (k : Fin 2816), (cU V : FVec Ideal S4x2048x2816 .f32) (ix3 b s k) = ((A.u (b * 2048 + s) k : ℝ) : EReal) :=
  sU_eq A (cGu_eq g)

theorem cSig_eq : ∀ (b : Fin 4) (s : Fin 2048) (k : Fin 2816), (cSig V : FVec Ideal S4x2048x2816 .f32) (ix3 b s k) = ((A.sig (b * 2048 + s) k : ℝ) : EReal) :=
  sSig_eq A (cG_eq g)

theorem cDsig_eq : ∀ (b : Fin 4) (s : Fin 2048) (k : Fin 2816), (cDsig V : FVec Ideal S4x2048x2816 .f32) (ix3 b s k) = ((A.dsig (b * 2048 + s) k : ℝ) : EReal) :=
  sDsig_eq A (cSig_eq g)

theorem cSilu_eq : ∀ (b : Fin 4) (s : Fin 2048) (k : Fin 2816), (cSilu V : FVec Ideal S4x2048x2816 .f32) (ix3 b s k) = ((A.silu (b * 2048 + s) k : ℝ) : EReal) :=
  sSilu_eq A (cG_eq g) (cSig_eq g)

theorem cF_eq : ∀ (b : Fin 4) (s : Fin 2048) (k : Fin 1024), (cF V : FVec Ideal S4x2048x1024 .f32) (ix3 b s k) = ((A.f (b * 2048 + s) k : ℝ) : EReal) :=
  sF_eq A (cSilu_eq g) (cU_eq g) g.wd

theorem cHg_eq : ∀ (b : Fin 4) (e : Fin 1) (k : Fin 1024), (cHg V : FVec Ideal S4x1x1024 .f32) (ix3 b e k) = ((A.hg b k : ℝ) : EReal) :=
  sHg_eq A g.gate

theorem cDf_eq : ∀ (b : Fin 4) (s : Fin 2048) (k : Fin 1024), (cDf V : FVec Ideal S4x2048x1024 .f32) (ix3 b s k) = ((A.df (b * 2048 + s) k : ℝ) : EReal) :=
  sDf_eq A (cHg_eq g) g.ct

theorem cDgate_eq : ∀ (b : Fin 4) (k : Fin 1024), (cDgate V : FVec Ideal S4x1024 .f32) (ix2 b k) = ((A.dgate b k : ℝ) : EReal) :=
  sDgate_eq A g.ct (cF_eq g)

theorem cDa_eq : ∀ (b : Fin 4) (s : Fin 2048) (k : Fin 2816), (cDa V : FVec Ideal S4x2048x2816 .f32) (ix3 b s k) = ((A.da (b * 2048 + s) k : ℝ) : EReal) :=
  sDa_eq A (cDf_eq g) g.wd

theorem cDu_eq : ∀ (b : Fin 4) (s : Fin 2048) (k : Fin 2816), (cDu V : FVec Ideal S4x2048x2816 .f32) (ix3 b s k) = ((A.du (b * 2048 + s) k : ℝ) : EReal) :=
  sDu_eq A (cSilu_eq g) (cDa_eq g)

theorem cDg_eq : ∀ (b : Fin 4) (s : Fin 2048) (k : Fin 2816), (cDg V : FVec Ideal S4x2048x2816 .f32) (ix3 b s k) = ((A.dg (b * 2048 + s) k : ℝ) : EReal) :=
  sDg_eq A (cDa_eq g) (cU_eq g) (cSig_eq g) (cG_eq g) (cDsig_eq g)

theorem cDgu_eq : ∀ (b : Fin 4) (s : Fin 2048) (k : Fin 5632), (cDgu V : FVec Ideal S4x2048x5632 .f32) (ix3 b s k) = ((A.dgu (b * 2048 + s) k : ℝ) : EReal) :=
  sDgu_eq A (cDg_eq g) (cDu_eq g)

theorem cDh_eq : ∀ (b : Fin 4) (s : Fin 2048) (k : Fin 1024), (cDh V : FVec Ideal S4x2048x1024 .f32) (ix3 b s k) = ((A.dh (b * 2048 + s) k : ℝ) : EReal) :=
  sDh_eq A (cDgu_eq g) g.wgu

theorem cDsh_eq : ∀ (b : Fin 4) (k : Fin 1024), (cDsh V : FVec Ideal S4x1024 .f32) (ix2 b k) = ((A.dsh b k : ℝ) : EReal) :=
  sDsh_eq A (cDh_eq g)

theorem cDsc_eq : ∀ (b : Fin 4) (k : Fin 1024), (cDsc V : FVec Ideal S4x1024 .f32) (ix2 b k) = ((A.dsc b k : ℝ) : EReal) :=
  sDsc_eq A (cXg_eq g) (cDh_eq g)

theorem cDhn_eq : ∀ (b : Fin 4) (s : Fin 2048) (k : Fin 1024), (cDhn V : FVec Ideal S4x2048x1024 .f32) (ix3 b s k) = ((A.dhn (b * 2048 + s) k : ℝ) : EReal) :=
  sDhn_eq A (cDh_eq g) (cSc1_eq g)

theorem cDgn_eq : ∀ k : Fin 1024, (cDgn V : FVec Ideal S1024 .f32) (ix1 k) = ((A.dgn k : ℝ) : EReal) :=
  sDgn_eq A (cXn_eq g) (cDhn_eq g)

theorem cDxn_eq : ∀ (b : Fin 4) (s : Fin 2048) (k : Fin 1024), (cDxn V : FVec Ideal S4x2048x1024 .f32) (ix3 b s k) = ((A.dxn (b * 2048 + s) k : ℝ) : EReal) :=
  sDxn_eq A (cDhn_eq g) (cGn_eq g)

theorem cDms_eq : ∀ (b : Fin 4) (s : Fin 2048) (k : Fin 1024), (cDms V : FVec Ideal S4x2048x1024 .f32) (ix3 b s k) = ((A.dms (b * 2048 + s) : ℝ) : EReal) :=
  sDms_eq A g.x (cDxn_eq g) (cDr_eq g)

theorem cDx_eq : ∀ (b : Fin 4) (s : Fin 2048) (k : Fin 1024), (cDx V : FVec Ideal S4x2048x1024 .f32) (ix3 b s k) = ((A.dx (b * 2048 + s) k : ℝ) : EReal) :=
  sDx_eq A g.ct (cDxn_eq g) (cR_eq g) g.x (cDms_eq g)

theorem cO0_eq : ∀ (t : Fin 8192) (k : Fin 1024), (cO0 V : FVec Ideal S8192x1024 .bf16) (ix2 t k) = ((A.df t k : ℝ) : EReal) :=
  sO0_eq A (cDf_eq g)

theorem cO1_eq : ∀ (b : Fin 4) (e : Fin 1) (k : Fin 1024), (cO1 V : FVec Ideal S4x1x1024 .f32) (ix3 b e k) = ((A.dgate b k : ℝ) : EReal) :=
  sO1_eq A (cDgate_eq g)

theorem cO2_eq : ∀ (t : Fin 8192) (k : Fin 5632), (cO2 V : FVec Ideal S8192x5632 .bf16) (ix2 t k) = ((A.dgu t k : ℝ) : EReal) :=
  sO2_eq A (cDgu_eq g)

theorem cO3_eq : ∀ (t : Fin 8192) (k : Fin 1024), (cO3 V : FVec Ideal S8192x1024 .f32) (ix2 t k) = ((A.dx t k : ℝ) : EReal) :=
  sO3_eq A (cDx_eq g)

theorem cO4_eq : ∀ (b : Fin 4) (e : Fin 1) (k : Fin 1024), (cO4 V : FVec Ideal S4x1x1024 .f32) (ix3 b e k) = ((A.dsh b k : ℝ) : EReal) :=
  sO4_eq A (cDsh_eq g)

theorem cO5_eq : ∀ (b : Fin 4) (e : Fin 1) (k : Fin 1024), (cO5 V : FVec Ideal S4x1x1024 .f32) (ix3 b e k) = ((A.dsc b k : ℝ) : EReal) :=
  sO5_eq A (cDsc_eq g)

theorem cO6_eq : ∀ (e : Fin 1) (k : Fin 1024), (cO6 V : FVec Ideal S1x1024 .f32) (ix2 e k) = ((A.dgn k : ℝ) : EReal) :=
  sO6_eq A (cDgn_eq g)

omit g
variable (m : (ℓ : Loc nD τ sig) → Buf (Elt Ideal) ℓ) (c : Dev nD)

/-- The arguments a run is given. -/
def ins : Ins where
  x := m ((c.tc : Thread nD τ).loc main_arg0)
  sh := m ((c.tc : Thread nD τ).loc main_arg1)
  sc := m ((c.tc : Thread nD τ).loc main_arg2)
  gate := m ((c.tc : Thread nD τ).loc main_arg3)
  gn := m ((c.tc : Thread nD τ).loc main_arg4)
  wgu := m ((c.tc : Thread nD τ).loc main_arg5)
  wd := m ((c.tc : Thread nD τ).loc main_arg6)
  ct := m ((c.tc : Thread nD τ).loc main_arg7)

theorem res1 : res_main_v82 m c = cO1 (ins m c) := by unfold res_main_v82; rfl

theorem res2 : res_main_v84 m c = cO2 (ins m c) := by unfold res_main_v84; rfl

theorem res3 : res_main_v86 m c = cO3 (ins m c) := by unfold res_main_v86; rfl

theorem res4 : res_main_v87 m c = cO4 (ins m c) := by unfold res_main_v87; rfl

theorem res5 : res_main_v88 m c = cO5 (ins m c) := by unfold res_main_v88; rfl

theorem res6 : res_main_v89 m c = cO6 (ins m c) := by unfold res_main_v89; rfl

end Cert.Ffn.Ref

end
-- ==== Proof.FfnHost.lean ====
/- What the kernel is given: the operands the host prepares, at an index, as the spec's real numbers. -/
module

public import proofs.«01_k».proof.Proof.FfnRef
public import proofs.«01_k».proof.Proof.Gen.FeedForwardIdeal.Frame.Runs

@[expose] public section

set_option maxRecDepth 16384

noncomputable section

namespace Cert.Ffn.Ker

open Idealize.ShloMosaic Idealize.ShloMosaic.TcCoe Idealize.SL.Sem
open Cert.FeedForwardIdeal Cert.FeedForwardIdeal.Gen
open Cert.Ffn Cert.Consts

variable (m : (ℓ : Loc nD τ sig) → Buf (Elt Ideal) ℓ) (c : Dev nD)

/-- The arguments the kernel is given. -/
def kins : Ref.Ins where
  x := m ((c.tc : Thread nD τ).loc main_arg0)
  sh := m ((c.tc : Thread nD τ).loc main_arg1)
  sc := m ((c.tc : Thread nD τ).loc main_arg2)
  gate := m ((c.tc : Thread nD τ).loc main_arg3)
  gn := m ((c.tc : Thread nD τ).loc main_arg4)
  wgu := m ((c.tc : Thread nD τ).loc main_arg5)
  wd := m ((c.tc : Thread nD τ).loc main_arg6)
  ct := m ((c.tc : Thread nD τ).loc main_arg7)

theorem V33 : V m c main_v33 = shapeCast S8192x1024 (kins m c).ct shapeCasts_S4x2048x1024_S8192x1024 := by
  entry_read; rfl

theorem V34 : V m c main_v34 = shapeCast S4x1x1024 (kins m c).gate shapeCasts_S4x1024_S4x1x1024 := by
  entry_read; rfl

theorem V36 : V m c main_v36 = truncf .bf16 (shapeCast S8192x1024 (Ref.cF (kins m c)) shapeCasts_S4x2048x1024_S8192x1024) bitsLt_bf16_f32 := by
  entry_read; rfl

theorem V38 : V m c main_v38 = truncf .bf16 (shapeCast S8192x2816 (Ref.cSilu (kins m c)) shapeCasts_S4x2048x2816_S8192x2816) bitsLt_bf16_f32 := by
  entry_read; rfl

/-- The derivative of the gated unit with respect to its gate, as the kernel's host side computes it. -/
def hDact (u sig g dsig : FVec Ideal S4x2048x2816 .f32) : FVec Ideal S8192x2816 .bf16 :=
  truncf .bf16 (shapeCast S8192x2816 (mulf u (addf
    (mulf (broadcastInDim S4x2048x2816 ![] bcast_S_S4x2048x2816 (constant S_ .f32 0x3F800000#32)) sig)
    (mulf (mulf g (broadcastInDim S4x2048x2816 ![] bcast_S_S4x2048x2816 (constant S_ .f32 0x3F800000#32))) dsig)))
    shapeCasts_S4x2048x2816_S8192x2816) bitsLt_bf16_f32

theorem V40 : V m c main_v40 = hDact (Ref.cU (kins m c)) (Ref.cSig (kins m c)) (Ref.cG (kins m c)) (Ref.cDsig (kins m c)) := by
  entry_read; rfl

theorem V41 : V m c main_v41 = truncf .bf16 (kins m c).wd bitsLt_bf16_f32 := by
  entry_read; rfl

theorem V43 : V m c main_v43 = truncf .bf16 (transpose S5632x1024 [1, 0] (kins m c).wgu transposes_S1024x5632_S5632x1024_1_0) bitsLt_bf16_f32 := by
  entry_read; rfl

theorem V44 : V m c main_v44 = shapeCast S8192x1024 (kins m c).x shapeCasts_S4x2048x1024_S8192x1024 := by
  entry_read; rfl

theorem V45 : V m c main_v45 = shapeCast S1x1024 (kins m c).gn shapeCasts_S1024_S1x1024 := by
  entry_read; rfl

theorem V48 : V m c main_v48 = shapeCast S4x1x1024 (addf (broadcastInDim S4x1024 ![] bcast_S_S4x1024 (constant S_ .f32 0x3F800000#32)) (kins m c).sc) shapeCasts_S4x1024_S4x1x1024 := by
  entry_read; rfl

variable {m c} {A : Args} (g : Ref.Given (kins m c) A)
include g

theorem v33 (t : Fin 8192) (k : Fin 1024) : (V m c main_v33 : FVec Ideal S8192x1024 .f32) (ix2 t k) = ((A.ct t k : ℝ) : EReal) := by
  rw [V33]; pointwise; rw [g.ct, row_mul]

theorem v34 (b : Fin 4) (e : Fin 1) (k : Fin 1024) : (V m c main_v34 : FVec Ideal S4x1x1024 .f32) (ix3 b e k) = ((A.gate b k : ℝ) : EReal) := by
  rw [V34]; pointwise; rw [g.gate]

theorem v36 (t : Fin 8192) (k : Fin 1024) : (V m c main_v36 : FVec Ideal S8192x1024 .bf16) (ix2 t k) = ((A.f t k : ℝ) : EReal) := by
  rw [V36]; pointwise; rw [Ref.cF_eq g, row_mul]

theorem v38 (t : Fin 8192) (k : Fin 2816) : (V m c main_v38 : FVec Ideal S8192x2816 .bf16) (ix2 t k) = ((A.silu t k : ℝ) : EReal) := by
  rw [V38]; pointwise; rw [Ref.cSilu_eq g, row_mul]

theorem v40 (t : Fin 8192) (k : Fin 2816) : (V m c main_v40 : FVec Ideal S8192x2816 .bf16) (ix2 t k) = ((A.dact t k : ℝ) : EReal) := by
  rw [V40]; pointwise [hDact]
  rw [Ref.cU_eq g, Ref.cSig_eq g, Ref.cG_eq g, Ref.cDsig_eq g, row_mul]
  simp only [one_mul, mul_one, ← EReal.coe_mul, ← EReal.coe_add]
  rfl

theorem v41 (j : Fin 2816) (k : Fin 1024) : (V m c main_v41 : FVec Ideal S2816x1024 .bf16) (ix2 j k) = ((A.wd j k : ℝ) : EReal) := by
  rw [V41]; pointwise; rw [g.wd]

theorem v43 (j : Fin 5632) (k : Fin 1024) : (V m c main_v43 : FVec Ideal S5632x1024 .bf16) (ix2 j k) = ((A.wgu k j : ℝ) : EReal) := by
  rw [V43]; pointwise; rw [g.wgu]

theorem v44 (t : Fin 8192) (k : Fin 1024) : (V m c main_v44 : FVec Ideal S8192x1024 .f32) (ix2 t k) = ((A.x t k : ℝ) : EReal) := by
  rw [V44]; pointwise; rw [g.x, row_mul]

theorem v45 (e : Fin 1) (k : Fin 1024) : (V m c main_v45 : FVec Ideal S1x1024 .f32) (ix2 e k) = ((A.gn k : ℝ) : EReal) := by
  rw [V45]; pointwise; rw [g.gn]

theorem v48 (b : Fin 4) (e : Fin 1) (k : Fin 1024) : (V m c main_v48 : FVec Ideal S4x1x1024 .f32) (ix3 b e k) = ((A.sc1 b k : ℝ) : EReal) := by
  rw [V48]; pointwise; rw [g.sc]
  simp only [← EReal.coe_one, ← EReal.coe_add]
  rfl

end Cert.Ffn.Ker

end
-- ==== Proof.FfnBlock.lean ====
/- Each input block of the kernel, at an index, as the real number the arguments give it. -/
module

public import proofs.«01_k».proof.Proof.FfnHost
public import proofs.«01_k».proof.Proof.Gen.FeedForwardIdeal.Frame

@[expose] public section

set_option maxRecDepth 16384

noncomputable section

namespace Cert.Ffn.Ker

open Idealize.ShloMosaic Idealize.ShloMosaic.TcCoe Idealize.SL.Sem
open Cert.FeedForwardIdeal Cert.FeedForwardIdeal.Gen
open Cert.Ffn

variable (m : (ℓ : Loc nD τ sig) → Buf (Elt Ideal) ℓ) (c : Dev nD)

theorem idx : ∀ t : Fin cfg0.N, win0_0.index t = ![t.val, 0] ∧ win0_1.index t = ![t.val / 4, 0, 0] ∧ win0_2.index t = ![t.val, 0]
    ∧ win0_3.index t = ![t.val, 0] ∧ win0_4.index t = ![t.val, 0] ∧ win0_5.index t = ![0, 0] ∧ win0_6.index t = ![0, 0]
    ∧ win0_7.index t = ![t.val, 0] ∧ win0_8.index t = ![0, 0] ∧ win0_9.index t = ![t.val / 4, 0, 0] :=
  (by decide +kernel : ∀ t : Fin grid0.N, _)

variable {m c} {A : Args} (g : Ref.Given (kins m c) A) (t : Fin cfg0.N)
include g

theorem i0 : ∀ (r : Fin 512) (k : Fin 1024), (iblk m c 0 t : FVec Ideal S512x1024 .f32) (ix2 r k) = ((A.ct (512 * t + r) k : ℝ) : EReal) := by
  intro r k
  have ht : t.val < 16 := lt_of_lt_of_eq t.isLt N_0
  rw [← v33 g ⟨512 * t + r, by omega⟩ k]
  blk_point [iblk, idx t]

theorem i1 : ∀ (e e1 : Fin 1) (k : Fin 1024), (iblk m c 1 t : FVec Ideal S1x1x1024 .f32) (ix3 e e1 k) = ((A.gate (t / 4) k : ℝ) : EReal) := by
  intro e e1 k
  have ht : t.val < 16 := lt_of_lt_of_eq t.isLt N_0
  rw [← v34 g ⟨t / 4, by omega⟩ 0 k]
  blk_point [iblk, idx t]

theorem i2 : ∀ (r : Fin 512) (k : Fin 1024), (iblk m c 2 t : FVec Ideal S512x1024 .bf16) (ix2 r k) = ((A.f (512 * t + r) k : ℝ) : EReal) := by
  intro r k
  have ht : t.val < 16 := lt_of_lt_of_eq t.isLt N_0
  rw [← v36 g ⟨512 * t + r, by omega⟩ k]
  blk_point [iblk, idx t]

theorem i3 : ∀ (r : Fin 512) (k : Fin 2816), (iblk m c 3 t : FVec Ideal S512x2816 .bf16) (ix2 r k) = ((A.silu (512 * t + r) k : ℝ) : EReal) := by
  intro r k
  have ht : t.val < 16 := lt_of_lt_of_eq t.isLt N_0
  rw [← v38 g ⟨512 * t + r, by omega⟩ k]
  blk_point [iblk, idx t]

theorem i4 : ∀ (r : Fin 512) (k : Fin 2816), (iblk m c 4 t : FVec Ideal S512x2816 .bf16) (ix2 r k) = ((A.dact (512 * t + r) k : ℝ) : EReal) := by
  intro r k
  have ht : t.val < 16 := lt_of_lt_of_eq t.isLt N_0
  rw [← v40 g ⟨512 * t + r, by omega⟩ k]
  blk_point [iblk, idx t]

theorem i5 : ∀ (j : Fin 2816) (k : Fin 1024), (iblk m c 5 t : FVec Ideal S2816x1024 .bf16) (ix2 j k) = ((A.wd j k : ℝ) : EReal) := by
  intro j k
  have ht : t.val < 16 := lt_of_lt_of_eq t.isLt N_0
  rw [← v41 g j k]
  blk_point [iblk, idx t]

theorem i6 : ∀ (j : Fin 5632) (k : Fin 1024), (iblk m c 6 t : FVec Ideal S5632x1024 .bf16) (ix2 j k) = ((A.wgu k j : ℝ) : EReal) := by
  intro j k
  have ht : t.val < 16 := lt_of_lt_of_eq t.isLt N_0
  rw [← v43 g j k]
  blk_point [iblk, idx t]

theorem i7 : ∀ (r : Fin 512) (k : Fin 1024), (iblk m c 7 t : FVec Ideal S512x1024 .f32) (ix2 r k) = ((A.x (512 * t + r) k : ℝ) : EReal) := by
  intro r k
  have ht : t.val < 16 := lt_of_lt_of_eq t.isLt N_0
  rw [← v44 g ⟨512 * t + r, by omega⟩ k]
  blk_point [iblk, idx t]

theorem i8 : ∀ (e : Fin 1) (k : Fin 1024), (iblk m c 8 t : FVec Ideal S1x1024 .f32) (ix2 e k) = ((A.gn k : ℝ) : EReal) := by
  intro e k
  have ht : t.val < 16 := lt_of_lt_of_eq t.isLt N_0
  rw [← v45 g e k]
  blk_point [iblk, idx t]

theorem i9 : ∀ (e e1 : Fin 1) (k : Fin 1024), (iblk m c 9 t : FVec Ideal S1x1x1024 .f32) (ix3 e e1 k) = ((A.sc1 (t / 4) k : ℝ) : EReal) := by
  intro e e1 k
  have ht : t.val < 16 := lt_of_lt_of_eq t.isLt N_0
  rw [← v48 g ⟨t / 4, by omega⟩ 0 k]
  blk_point [iblk, idx t]

end Cert.Ffn.Ker

end
-- ==== Proof.FfnOut.lean ====
/- The tile of `d(gate, up)` a point leaves, written in 22 pieces and read back whole, and from it the
   tiles of the other results. -/
module

public import proofs.«01_k».proof.Proof.FfnTile
public import proofs.«01_k».proof.Proof.FfnBlock

@[expose] public section

set_option maxRecDepth 16384

noncomputable section

namespace Cert.Ffn.Ker

open Idealize.ShloMosaic Idealize.ShloMosaic.TcCoe Idealize.SL.Sem
open Cert.FeedForwardIdeal Cert.FeedForwardIdeal.Gen
open Cert.Ffn Cert.Consts

variable (m : (ℓ : Loc nD τ sig) → Buf (Elt Ideal) ℓ) (c : Dev nD) (t : Fin cfg0.N)

/-- The pieces, last written first. -/
def pieces : List (View.Piece (Elt Ideal) S512x5632 .bf16) :=
  [⟨Rect.unit ![0, 5376] ![512, 256] inb_S512x5632_S512x256_0_5376,
      k0_pay43 (k0_pay39 (k0_pay6 (iblk m c 0 t) (iblk m c 1 t))) (k0_pay40 (View.ld (iblk m c 5 t) (Rect.unit ![2560, 0] ![256, 1024] inb_S2816x1024_S256x1024_2560_0))) (View.ld (iblk m c 3 t) (Rect.unit ![0, 2560] ![512, 256] inb_S512x2816_S512x256_0_2560))⟩,
    ⟨Rect.unit ![0, 2560] ![512, 256] inb_S512x5632_S512x256_0_2560,
      k0_pay42 (k0_pay39 (k0_pay6 (iblk m c 0 t) (iblk m c 1 t))) (k0_pay40 (View.ld (iblk m c 5 t) (Rect.unit ![2560, 0] ![256, 1024] inb_S2816x1024_S256x1024_2560_0))) (View.ld (iblk m c 4 t) (Rect.unit ![0, 2560] ![512, 256] inb_S512x2816_S512x256_0_2560))⟩,
    ⟨Rect.unit ![0, 5120] ![512, 256] inb_S512x5632_S512x256_0_5120,
      k0_pay38 (k0_pay6 (iblk m c 0 t) (iblk m c 1 t)) (View.ld (iblk m c 5 t) (Rect.unit ![2304, 0] ![256, 1024] inb_S2816x1024_S256x1024_2304_0)) (View.ld (iblk m c 3 t) (Rect.unit ![0, 2304] ![512, 256] inb_S512x2816_S512x256_0_2304))⟩,
    ⟨Rect.unit ![0, 2304] ![512, 256] inb_S512x5632_S512x256_0_2304,
      k0_pay37 (k0_pay6 (iblk m c 0 t) (iblk m c 1 t)) (View.ld (iblk m c 5 t) (Rect.unit ![2304, 0] ![256, 1024] inb_S2816x1024_S256x1024_2304_0)) (View.ld (iblk m c 4 t) (Rect.unit ![0, 2304] ![512, 256] inb_S512x2816_S512x256_0_2304))⟩,
    ⟨Rect.unit ![0, 4864] ![512, 256] inb_S512x5632_S512x256_0_4864,
      k0_pay35 (k0_pay33 (k0_pay6 (iblk m c 0 t) (iblk m c 1 t)) (View.ld (iblk m c 5 t) (Rect.unit ![2048, 0] ![256, 1024] inb_S2816x1024_S256x1024_2048_0))) (View.ld (iblk m c 3 t) (Rect.unit ![0, 2048] ![512, 256] inb_S512x2816_S512x256_0_2048))⟩,
    ⟨Rect.unit ![0, 2048] ![512, 256] inb_S512x5632_S512x256_0_2048,
      k0_pay34 (k0_pay33 (k0_pay6 (iblk m c 0 t) (iblk m c 1 t)) (View.ld (iblk m c 5 t) (Rect.unit ![2048, 0] ![256, 1024] inb_S2816x1024_S256x1024_2048_0))) (View.ld (iblk m c 4 t) (Rect.unit ![0, 2048] ![512, 256] inb_S512x2816_S512x256_0_2048))⟩,
    ⟨Rect.unit ![0, 4608] ![512, 256] inb_S512x5632_S512x256_0_4608,
      k0_pay32 (k0_pay6 (iblk m c 0 t) (iblk m c 1 t)) (View.ld (iblk m c 5 t) (Rect.unit ![1792, 0] ![256, 1024] inb_S2816x1024_S256x1024_1792_0)) (View.ld (iblk m c 3 t) (Rect.unit ![0, 1792] ![512, 256] inb_S512x2816_S512x256_0_1792))⟩,
    ⟨Rect.unit ![0, 1792] ![512, 256] inb_S512x5632_S512x256_0_1792,
      k0_pay31 (k0_pay6 (iblk m c 0 t) (iblk m c 1 t)) (View.ld (iblk m c 5 t) (Rect.unit ![1792, 0] ![256, 1024] inb_S2816x1024_S256x1024_1792_0)) (View.ld (iblk m c 4 t) (Rect.unit ![0, 1792] ![512, 256] inb_S512x2816_S512x256_0_1792))⟩,
    ⟨Rect.unit ![0, 4352] ![512, 256] inb_S512x5632_S512x256_0_4352,
      k0_pay29 (k0_pay26 (k0_pay6 (iblk m c 0 t) (iblk m c 1 t)) (View.ld (iblk m c 5 t) (Rect.unit ![1536, 0] ![256, 1024] inb_S2816x1024_S256x1024_1536_0))) (View.ld (iblk m c 3 t) (Rect.unit ![0, 1536] ![512, 256] inb_S512x2816_S512x256_0_1536))⟩,
    ⟨Rect.unit ![0, 1536] ![512, 256] inb_S512x5632_S512x256_0_1536,
      k0_pay28 (k0_pay27 (k0_pay6 (iblk m c 0 t) (iblk m c 1 t)) (View.ld (iblk m c 5 t) (Rect.unit ![1536, 0] ![256, 1024] inb_S2816x1024_S256x1024_1536_0)) (View.ld (iblk m c 4 t) (Rect.unit ![0, 1536] ![512, 256] inb_S512x2816_S512x256_0_1536)))⟩,
    ⟨Rect.unit ![0, 4096] ![512, 256] inb_S512x5632_S512x256_0_4096,
      k0_pay25 (k0_pay6 (iblk m c 0 t) (iblk m c 1 t)) (View.ld (iblk m c 5 t) (Rect.unit ![1280, 0] ![256, 1024] inb_S2816x1024_S256x1024_1280_0)) (View.ld (iblk m c 3 t) (Rect.unit ![0, 1280] ![512, 256] inb_S512x2816_S512x256_0_1280))⟩,
    ⟨Rect.unit ![0, 1280] ![512, 256] inb_S512x5632_S512x256_0_1280,
      k0_pay24 (k0_pay6 (iblk m c 0 t) (iblk m c 1 t)) (View.ld (iblk m c 5 t) (Rect.unit ![1280, 0] ![256, 1024] inb_S2816x1024_S256x1024_1280_0)) (View.ld (iblk m c 4 t) (Rect.unit ![0, 1280] ![512, 256] inb_S512x2816_S512x256_0_1280))⟩,
    ⟨Rect.unit ![0, 3840] ![512, 256] inb_S512x5632_S512x256_0_3840,
      k0_pay22 (k0_pay20 (k0_pay6 (iblk m c 0 t) (iblk m c 1 t)) (View.ld (iblk m c 5 t) (Rect.unit ![1024, 0] ![256, 1024] inb_S2816x1024_S256x1024_1024_0))) (View.ld (iblk m c 3 t) (Rect.unit ![0, 1024] ![512, 256] inb_S512x2816_S512x256_0_1024))⟩,
    ⟨Rect.unit ![0, 1024] ![512, 256] inb_S512x5632_S512x256_0_1024,
      k0_pay21 (k0_pay6 (iblk m c 0 t) (iblk m c 1 t)) (View.ld (iblk m c 5 t) (Rect.unit ![1024, 0] ![256, 1024] inb_S2816x1024_S256x1024_1024_0)) (View.ld (iblk m c 4 t) (Rect.unit ![0, 1024] ![512, 256] inb_S512x2816_S512x256_0_1024))⟩,
    ⟨Rect.unit ![0, 3584] ![512, 256] inb_S512x5632_S512x256_0_3584,
      k0_pay19 (k0_pay6 (iblk m c 0 t) (iblk m c 1 t)) (View.ld (iblk m c 5 t) (Rect.unit ![768, 0] ![256, 1024] inb_S2816x1024_S256x1024_768_0)) (View.ld (iblk m c 3 t) (Rect.unit ![0, 768] ![512, 256] inb_S512x2816_S512x256_0_768))⟩,
    ⟨Rect.unit ![0, 768] ![512, 256] inb_S512x5632_S512x256_0_768,
      k0_pay18 (k0_pay6 (iblk m c 0 t) (iblk m c 1 t)) (View.ld (iblk m c 5 t) (Rect.unit ![768, 0] ![256, 1024] inb_S2816x1024_S256x1024_768_0)) (View.ld (iblk m c 4 t) (Rect.unit ![0, 768] ![512, 256] inb_S512x2816_S512x256_0_768))⟩,
    ⟨Rect.unit ![0, 3328] ![512, 256] inb_S512x5632_S512x256_0_3328,
      k0_pay16 (k0_pay14 (k0_pay6 (iblk m c 0 t) (iblk m c 1 t)) (View.ld (iblk m c 5 t) (Rect.unit ![512, 0] ![256, 1024] inb_S2816x1024_S256x1024_512_0))) (View.ld (iblk m c 3 t) (Rect.unit ![0, 512] ![512, 256] inb_S512x2816_S512x256_0_512))⟩,
    ⟨Rect.unit ![0, 512] ![512, 256] inb_S512x5632_S512x256_0_512,
      k0_pay15 (k0_pay6 (iblk m c 0 t) (iblk m c 1 t)) (View.ld (iblk m c 5 t) (Rect.unit ![512, 0] ![256, 1024] inb_S2816x1024_S256x1024_512_0)) (View.ld (iblk m c 4 t) (Rect.unit ![0, 512] ![512, 256] inb_S512x2816_S512x256_0_512))⟩,
    ⟨Rect.unit ![0, 3072] ![512, 256] inb_S512x5632_S512x256_0_3072,
      k0_pay13 (k0_pay6 (iblk m c 0 t) (iblk m c 1 t)) (View.ld (iblk m c 5 t) (Rect.unit ![256, 0] ![256, 1024] inb_S2816x1024_S256x1024_256_0)) (View.ld (iblk m c 3 t) (Rect.unit ![0, 256] ![512, 256] inb_S512x2816_S512x256_0_256))⟩,
    ⟨Rect.unit ![0, 256] ![512, 256] inb_S512x5632_S512x256_0_256,
      k0_pay12 (k0_pay6 (iblk m c 0 t) (iblk m c 1 t)) (View.ld (iblk m c 5 t) (Rect.unit ![256, 0] ![256, 1024] inb_S2816x1024_S256x1024_256_0)) (View.ld (iblk m c 4 t) (Rect.unit ![0, 256] ![512, 256] inb_S512x2816_S512x256_0_256))⟩,
    ⟨Rect.unit ![0, 2816] ![512, 256] inb_S512x5632_S512x256_0_2816,
      k0_pay10 (k0_pay6 (iblk m c 0 t) (iblk m c 1 t)) (View.ld (iblk m c 5 t) (Rect.unit ![0, 0] ![256, 1024] inb_S2816x1024_S256x1024_0_0)) (View.ld (iblk m c 3 t) (Rect.unit ![0, 0] ![512, 256] inb_S512x2816_S512x256_0_0))⟩,
    ⟨Rect.unit ![0, 0] ![512, 256] inb_S512x5632_S512x256_0_0,
      k0_pay9 (k0_pay6 (iblk m c 0 t) (iblk m c 1 t)) (View.ld (iblk m c 5 t) (Rect.unit ![0, 0] ![256, 1024] inb_S2816x1024_S256x1024_0_0)) (View.ld (iblk m c 4 t) (Rect.unit ![0, 0] ![512, 256] inb_S512x2816_S512x256_0_0))⟩]

/-- The tile. -/
def dguTile : FVec Ideal S512x5632 .bf16 := View.canon (pieces m c t)

variable {m c} {A : Args} (g : Ref.Given (kins m c) A)
include g

theorem df_tile : ∀ (r : Fin 512) (k : Fin 1024), (k0_pay6 (F := Ideal) (iblk m c 0 t) (iblk m c 1 t)) (ix2 r k)
    = ((A.df (512 * t + r) k : ℝ) : EReal) := t_df A t (i0 g t) (i1 g t)

theorem c_dg (off : ℕ) (hoff : off + 256 ≤ 2816) (w : FVec Ideal S256x1024 .bf16) (d : FVec Ideal S512x256 .bf16)
    (hw : ∀ (j : Fin 256) (k : Fin 1024), w (ix2 j k) = ((A.wd (off + j) k : ℝ) : EReal))
    (hd : ∀ (r : Fin 512) (j : Fin 256), d (ix2 r j) = ((A.dact (512 * t + r) (off + j) : ℝ) : EReal)) (x : S512x256.Idx) :
    k0_pay9 (F := Ideal) (k0_pay6 (iblk m c 0 t) (iblk m c 1 t)) w d x = ((A.dgu (512 * t + (x 0).val) (off + (x 1).val) : ℝ) : EReal) := by
  have hx : (x 1).val < 256 := (x 1).isLt
  obtain ⟨x0, x1, rfl⟩ : ∃ (x0 : Fin 512) (x1 : Fin 256), x = ix2 x0 x1 := ⟨x 0, x 1, by funext a; fin_cases a <;> rfl⟩
  have h : off + x1.val < 2816 := by omega
  show _ = ((A.dgu (512 * t + x0.val) (off + x1.val) : ℝ) : EReal)
  rw [show A.dgu (512 * t + x0.val) (off + x1.val) = A.dg (512 * t + x0.val) (off + x1.val) from if_pos h]
  have hdf := df_tile t g
  generalize (k0_pay6 (F := Ideal) (iblk m c 0 t) (iblk m c 1 t)) = df at hdf
  pointwise [k0_pay9, k0_pay8]
  simp only [hdf, hw, hd, ← EReal.coe_mul, coe_sum]
  rfl

theorem c_du (off o : ℕ) (ho : o = 2816 + off) (w : FVec Ideal S256x1024 .bf16) (d : FVec Ideal S512x256 .bf16)
    (hw : ∀ (j : Fin 256) (k : Fin 1024), w (ix2 j k) = ((A.wd (off + j) k : ℝ) : EReal))
    (hd : ∀ (r : Fin 512) (j : Fin 256), d (ix2 r j) = ((A.silu (512 * t + r) (off + j) : ℝ) : EReal)) (x : S512x256.Idx) :
    k0_pay10 (F := Ideal) (k0_pay6 (iblk m c 0 t) (iblk m c 1 t)) w d x = ((A.dgu (512 * t + (x 0).val) (o + (x 1).val) : ℝ) : EReal) := by
  obtain ⟨x0, x1, rfl⟩ : ∃ (x0 : Fin 512) (x1 : Fin 256), x = ix2 x0 x1 := ⟨x 0, x 1, by funext a; fin_cases a <;> rfl⟩
  show _ = ((A.dgu (512 * t + x0.val) (o + x1.val) : ℝ) : EReal)
  rw [show A.dgu (512 * t + x0.val) (o + x1.val) = A.du (512 * t + x0.val) (off + x1.val) from
    (if_neg (by omega)).trans (by rw [show o + x1.val - 2816 = off + x1.val by omega])]
  have hdf := df_tile t g
  generalize (k0_pay6 (F := Ideal) (iblk m c 0 t) (iblk m c 1 t)) = df at hdf
  pointwise [k0_pay10, k0_pay8]
  simp only [hdf, hw, hd, ← EReal.coe_mul, coe_sum]
  refine congrArg (fun r : ℝ => (r : EReal)) ?_
  simp only [Args.du, Args.da]
  exact mul_comm _ _

theorem w_0 : ∀ (j : Fin 256) (k : Fin 1024), (View.ld (iblk m c 5 t) (Rect.unit ![0, 0] ![256, 1024] inb_S2816x1024_S256x1024_0_0)) (ix2 j k) = ((A.wd (0 + j) k : ℝ) : EReal) := by
  intro j k
  rw [← i5 g t ⟨0 + j, by omega⟩ k]
  pointwise
  blk_ext

theorem a_0 : ∀ (r : Fin 512) (j : Fin 256), (View.ld (iblk m c 4 t) (Rect.unit ![0, 0] ![512, 256] inb_S512x2816_S512x256_0_0)) (ix2 r j) = ((A.dact (512 * t + r) (0 + j) : ℝ) : EReal) := by
  intro r j
  rw [← i4 g t r ⟨0 + j, by omega⟩]
  pointwise
  blk_ext

theorem s_0 : ∀ (r : Fin 512) (j : Fin 256), (View.ld (iblk m c 3 t) (Rect.unit ![0, 0] ![512, 256] inb_S512x2816_S512x256_0_0)) (ix2 r j) = ((A.silu (512 * t + r) (0 + j) : ℝ) : EReal) := by
  intro r j
  rw [← i3 g t r ⟨0 + j, by omega⟩]
  pointwise
  blk_ext

theorem w_1 : ∀ (j : Fin 256) (k : Fin 1024), (View.ld (iblk m c 5 t) (Rect.unit ![256, 0] ![256, 1024] inb_S2816x1024_S256x1024_256_0)) (ix2 j k) = ((A.wd (256 + j) k : ℝ) : EReal) := by
  intro j k
  rw [← i5 g t ⟨256 + j, by omega⟩ k]
  pointwise
  blk_ext

theorem a_1 : ∀ (r : Fin 512) (j : Fin 256), (View.ld (iblk m c 4 t) (Rect.unit ![0, 256] ![512, 256] inb_S512x2816_S512x256_0_256)) (ix2 r j) = ((A.dact (512 * t + r) (256 + j) : ℝ) : EReal) := by
  intro r j
  rw [← i4 g t r ⟨256 + j, by omega⟩]
  pointwise
  blk_ext

theorem s_1 : ∀ (r : Fin 512) (j : Fin 256), (View.ld (iblk m c 3 t) (Rect.unit ![0, 256] ![512, 256] inb_S512x2816_S512x256_0_256)) (ix2 r j) = ((A.silu (512 * t + r) (256 + j) : ℝ) : EReal) := by
  intro r j
  rw [← i3 g t r ⟨256 + j, by omega⟩]
  pointwise
  blk_ext

theorem w_2 : ∀ (j : Fin 256) (k : Fin 1024), (View.ld (iblk m c 5 t) (Rect.unit ![512, 0] ![256, 1024] inb_S2816x1024_S256x1024_512_0)) (ix2 j k) = ((A.wd (512 + j) k : ℝ) : EReal) := by
  intro j k
  rw [← i5 g t ⟨512 + j, by omega⟩ k]
  pointwise
  blk_ext

theorem a_2 : ∀ (r : Fin 512) (j : Fin 256), (View.ld (iblk m c 4 t) (Rect.unit ![0, 512] ![512, 256] inb_S512x2816_S512x256_0_512)) (ix2 r j) = ((A.dact (512 * t + r) (512 + j) : ℝ) : EReal) := by
  intro r j
  rw [← i4 g t r ⟨512 + j, by omega⟩]
  pointwise
  blk_ext

theorem s_2 : ∀ (r : Fin 512) (j : Fin 256), (View.ld (iblk m c 3 t) (Rect.unit ![0, 512] ![512, 256] inb_S512x2816_S512x256_0_512)) (ix2 r j) = ((A.silu (512 * t + r) (512 + j) : ℝ) : EReal) := by
  intro r j
  rw [← i3 g t r ⟨512 + j, by omega⟩]
  pointwise
  blk_ext

theorem w_3 : ∀ (j : Fin 256) (k : Fin 1024), (View.ld (iblk m c 5 t) (Rect.unit ![768, 0] ![256, 1024] inb_S2816x1024_S256x1024_768_0)) (ix2 j k) = ((A.wd (768 + j) k : ℝ) : EReal) := by
  intro j k
  rw [← i5 g t ⟨768 + j, by omega⟩ k]
  pointwise
  blk_ext

theorem a_3 : ∀ (r : Fin 512) (j : Fin 256), (View.ld (iblk m c 4 t) (Rect.unit ![0, 768] ![512, 256] inb_S512x2816_S512x256_0_768)) (ix2 r j) = ((A.dact (512 * t + r) (768 + j) : ℝ) : EReal) := by
  intro r j
  rw [← i4 g t r ⟨768 + j, by omega⟩]
  pointwise
  blk_ext

theorem s_3 : ∀ (r : Fin 512) (j : Fin 256), (View.ld (iblk m c 3 t) (Rect.unit ![0, 768] ![512, 256] inb_S512x2816_S512x256_0_768)) (ix2 r j) = ((A.silu (512 * t + r) (768 + j) : ℝ) : EReal) := by
  intro r j
  rw [← i3 g t r ⟨768 + j, by omega⟩]
  pointwise
  blk_ext

theorem w_4 : ∀ (j : Fin 256) (k : Fin 1024), (View.ld (iblk m c 5 t) (Rect.unit ![1024, 0] ![256, 1024] inb_S2816x1024_S256x1024_1024_0)) (ix2 j k) = ((A.wd (1024 + j) k : ℝ) : EReal) := by
  intro j k
  rw [← i5 g t ⟨1024 + j, by omega⟩ k]
  pointwise
  blk_ext

theorem a_4 : ∀ (r : Fin 512) (j : Fin 256), (View.ld (iblk m c 4 t) (Rect.unit ![0, 1024] ![512, 256] inb_S512x2816_S512x256_0_1024)) (ix2 r j) = ((A.dact (512 * t + r) (1024 + j) : ℝ) : EReal) := by
  intro r j
  rw [← i4 g t r ⟨1024 + j, by omega⟩]
  pointwise
  blk_ext

theorem s_4 : ∀ (r : Fin 512) (j : Fin 256), (View.ld (iblk m c 3 t) (Rect.unit ![0, 1024] ![512, 256] inb_S512x2816_S512x256_0_1024)) (ix2 r j) = ((A.silu (512 * t + r) (1024 + j) : ℝ) : EReal) := by
  intro r j
  rw [← i3 g t r ⟨1024 + j, by omega⟩]
  pointwise
  blk_ext

theorem w_5 : ∀ (j : Fin 256) (k : Fin 1024), (View.ld (iblk m c 5 t) (Rect.unit ![1280, 0] ![256, 1024] inb_S2816x1024_S256x1024_1280_0)) (ix2 j k) = ((A.wd (1280 + j) k : ℝ) : EReal) := by
  intro j k
  rw [← i5 g t ⟨1280 + j, by omega⟩ k]
  pointwise
  blk_ext

theorem a_5 : ∀ (r : Fin 512) (j : Fin 256), (View.ld (iblk m c 4 t) (Rect.unit ![0, 1280] ![512, 256] inb_S512x2816_S512x256_0_1280)) (ix2 r j) = ((A.dact (512 * t + r) (1280 + j) : ℝ) : EReal) := by
  intro r j
  rw [← i4 g t r ⟨1280 + j, by omega⟩]
  pointwise
  blk_ext

theorem s_5 : ∀ (r : Fin 512) (j : Fin 256), (View.ld (iblk m c 3 t) (Rect.unit ![0, 1280] ![512, 256] inb_S512x2816_S512x256_0_1280)) (ix2 r j) = ((A.silu (512 * t + r) (1280 + j) : ℝ) : EReal) := by
  intro r j
  rw [← i3 g t r ⟨1280 + j, by omega⟩]
  pointwise
  blk_ext

theorem w_6 : ∀ (j : Fin 256) (k : Fin 1024), (View.ld (iblk m c 5 t) (Rect.unit ![1536, 0] ![256, 1024] inb_S2816x1024_S256x1024_1536_0)) (ix2 j k) = ((A.wd (1536 + j) k : ℝ) : EReal) := by
  intro j k
  rw [← i5 g t ⟨1536 + j, by omega⟩ k]
  pointwise
  blk_ext

theorem a_6 : ∀ (r : Fin 512) (j : Fin 256), (View.ld (iblk m c 4 t) (Rect.unit ![0, 1536] ![512, 256] inb_S512x2816_S512x256_0_1536)) (ix2 r j) = ((A.dact (512 * t + r) (1536 + j) : ℝ) : EReal) := by
  intro r j
  rw [← i4 g t r ⟨1536 + j, by omega⟩]
  pointwise
  blk_ext

theorem s_6 : ∀ (r : Fin 512) (j : Fin 256), (View.ld (iblk m c 3 t) (Rect.unit ![0, 1536] ![512, 256] inb_S512x2816_S512x256_0_1536)) (ix2 r j) = ((A.silu (512 * t + r) (1536 + j) : ℝ) : EReal) := by
  intro r j
  rw [← i3 g t r ⟨1536 + j, by omega⟩]
  pointwise
  blk_ext

theorem w_7 : ∀ (j : Fin 256) (k : Fin 1024), (View.ld (iblk m c 5 t) (Rect.unit ![1792, 0] ![256, 1024] inb_S2816x1024_S256x1024_1792_0)) (ix2 j k) = ((A.wd (1792 + j) k : ℝ) : EReal) := by
  intro j k
  rw [← i5 g t ⟨1792 + j, by omega⟩ k]
  pointwise
  blk_ext

theorem a_7 : ∀ (r : Fin 512) (j : Fin 256), (View.ld (iblk m c 4 t) (Rect.unit ![0, 1792] ![512, 256] inb_S512x2816_S512x256_0_1792)) (ix2 r j) = ((A.dact (512 * t + r) (1792 + j) : ℝ) : EReal) := by
  intro r j
  rw [← i4 g t r ⟨1792 + j, by omega⟩]
  pointwise
  blk_ext

theorem s_7 : ∀ (r : Fin 512) (j : Fin 256), (View.ld (iblk m c 3 t) (Rect.unit ![0, 1792] ![512, 256] inb_S512x2816_S512x256_0_1792)) (ix2 r j) = ((A.silu (512 * t + r) (1792 + j) : ℝ) : EReal) := by
  intro r j
  rw [← i3 g t r ⟨1792 + j, by omega⟩]
  pointwise
  blk_ext

theorem w_8 : ∀ (j : Fin 256) (k : Fin 1024), (View.ld (iblk m c 5 t) (Rect.unit ![2048, 0] ![256, 1024] inb_S2816x1024_S256x1024_2048_0)) (ix2 j k) = ((A.wd (2048 + j) k : ℝ) : EReal) := by
  intro j k
  rw [← i5 g t ⟨2048 + j, by omega⟩ k]
  pointwise
  blk_ext

theorem a_8 : ∀ (r : Fin 512) (j : Fin 256), (View.ld (iblk m c 4 t) (Rect.unit ![0, 2048] ![512, 256] inb_S512x2816_S512x256_0_2048)) (ix2 r j) = ((A.dact (512 * t + r) (2048 + j) : ℝ) : EReal) := by
  intro r j
  rw [← i4 g t r ⟨2048 + j, by omega⟩]
  pointwise
  blk_ext

theorem s_8 : ∀ (r : Fin 512) (j : Fin 256), (View.ld (iblk m c 3 t) (Rect.unit ![0, 2048] ![512, 256] inb_S512x2816_S512x256_0_2048)) (ix2 r j) = ((A.silu (512 * t + r) (2048 + j) : ℝ) : EReal) := by
  intro r j
  rw [← i3 g t r ⟨2048 + j, by omega⟩]
  pointwise
  blk_ext

theorem w_9 : ∀ (j : Fin 256) (k : Fin 1024), (View.ld (iblk m c 5 t) (Rect.unit ![2304, 0] ![256, 1024] inb_S2816x1024_S256x1024_2304_0)) (ix2 j k) = ((A.wd (2304 + j) k : ℝ) : EReal) := by
  intro j k
  rw [← i5 g t ⟨2304 + j, by omega⟩ k]
  pointwise
  blk_ext

theorem a_9 : ∀ (r : Fin 512) (j : Fin 256), (View.ld (iblk m c 4 t) (Rect.unit ![0, 2304] ![512, 256] inb_S512x2816_S512x256_0_2304)) (ix2 r j) = ((A.dact (512 * t + r) (2304 + j) : ℝ) : EReal) := by
  intro r j
  rw [← i4 g t r ⟨2304 + j, by omega⟩]
  pointwise
  blk_ext

theorem s_9 : ∀ (r : Fin 512) (j : Fin 256), (View.ld (iblk m c 3 t) (Rect.unit ![0, 2304] ![512, 256] inb_S512x2816_S512x256_0_2304)) (ix2 r j) = ((A.silu (512 * t + r) (2304 + j) : ℝ) : EReal) := by
  intro r j
  rw [← i3 g t r ⟨2304 + j, by omega⟩]
  pointwise
  blk_ext

theorem w_10 : ∀ (j : Fin 256) (k : Fin 1024), (View.ld (iblk m c 5 t) (Rect.unit ![2560, 0] ![256, 1024] inb_S2816x1024_S256x1024_2560_0)) (ix2 j k) = ((A.wd (2560 + j) k : ℝ) : EReal) := by
  intro j k
  rw [← i5 g t ⟨2560 + j, by omega⟩ k]
  pointwise
  blk_ext

theorem a_10 : ∀ (r : Fin 512) (j : Fin 256), (View.ld (iblk m c 4 t) (Rect.unit ![0, 2560] ![512, 256] inb_S512x2816_S512x256_0_2560)) (ix2 r j) = ((A.dact (512 * t + r) (2560 + j) : ℝ) : EReal) := by
  intro r j
  rw [← i4 g t r ⟨2560 + j, by omega⟩]
  pointwise
  blk_ext

theorem s_10 : ∀ (r : Fin 512) (j : Fin 256), (View.ld (iblk m c 3 t) (Rect.unit ![0, 2560] ![512, 256] inb_S512x2816_S512x256_0_2560)) (ix2 r j) = ((A.silu (512 * t + r) (2560 + j) : ℝ) : EReal) := by
  intro r j
  rw [← i3 g t r ⟨2560 + j, by omega⟩]
  pointwise
  blk_ext

theorem dgu_tile (y : S512x5632.Idx) : dguTile m c t y = ((A.dgu (512 * t + (y 0).val) (y 1).val : ℝ) : EReal) := by
  unfold dguTile pieces
  canon_tiles x h
  case piece0 => rw [h0, h1]; exact c_du t g 2560 5376 rfl _ _ (w_10 t g) (s_10 t g) x
  case piece1 => rw [h0, h1]; exact c_dg t g 2560 (by decide) _ _ (w_10 t g) (a_10 t g) x
  case piece2 => rw [h0, h1]; exact c_du t g 2304 5120 rfl _ _ (w_9 t g) (s_9 t g) x
  case piece3 => rw [h0, h1]; exact c_dg t g 2304 (by decide) _ _ (w_9 t g) (a_9 t g) x
  case piece4 => rw [h0, h1]; exact c_du t g 2048 4864 rfl _ _ (w_8 t g) (s_8 t g) x
  case piece5 => rw [h0, h1]; exact c_dg t g 2048 (by decide) _ _ (w_8 t g) (a_8 t g) x
  case piece6 => rw [h0, h1]; exact c_du t g 1792 4608 rfl _ _ (w_7 t g) (s_7 t g) x
  case piece7 => rw [h0, h1]; exact c_dg t g 1792 (by decide) _ _ (w_7 t g) (a_7 t g) x
  case piece8 => rw [h0, h1]; exact c_du t g 1536 4352 rfl _ _ (w_6 t g) (s_6 t g) x
  case piece9 => rw [h0, h1]; exact c_dg t g 1536 (by decide) _ _ (w_6 t g) (a_6 t g) x
  case piece10 => rw [h0, h1]; exact c_du t g 1280 4096 rfl _ _ (w_5 t g) (s_5 t g) x
  case piece11 => rw [h0, h1]; exact c_dg t g 1280 (by decide) _ _ (w_5 t g) (a_5 t g) x
  case piece12 => rw [h0, h1]; exact c_du t g 1024 3840 rfl _ _ (w_4 t g) (s_4 t g) x
  case piece13 => rw [h0, h1]; exact c_dg t g 1024 (by decide) _ _ (w_4 t g) (a_4 t g) x
  case piece14 => rw [h0, h1]; exact c_du t g 768 3584 rfl _ _ (w_3 t g) (s_3 t g) x
  case piece15 => rw [h0, h1]; exact c_dg t g 768 (by decide) _ _ (w_3 t g) (a_3 t g) x
  case piece16 => rw [h0, h1]; exact c_du t g 512 3328 rfl _ _ (w_2 t g) (s_2 t g) x
  case piece17 => rw [h0, h1]; exact c_dg t g 512 (by decide) _ _ (w_2 t g) (a_2 t g) x
  case piece18 => rw [h0, h1]; exact c_du t g 256 3072 rfl _ _ (w_1 t g) (s_1 t g) x
  case piece19 => rw [h0, h1]; exact c_dg t g 256 (by decide) _ _ (w_1 t g) (a_1 t g) x
  case piece20 => rw [h0, h1]; exact c_du t g 0 2816 rfl _ _ (w_0 t g) (s_0 t g) x
  case piece21 =>
    have e := c_dg t g 0 (by decide) _ _ (w_0 t g) (a_0 t g) x
    rw [Nat.zero_add] at e
    rw [h0, h1]; exact e

theorem dgu_tile2 : ∀ (r : Fin 512) (k : Fin 5632), dguTile m c t (ix2 r k) = ((A.dgu (512 * t + r) k : ℝ) : EReal) :=
  fun r k => dgu_tile t g (ix2 r k)

omit g in
theorem dgu_back {L : List (View.Piece (Elt Ideal) S512x5632 .bf16)} (h : L = pieces m c t) :
    (ms0_12 t).view.readCov L (Rect.unit ![0, 0] ![512, 5632] inb_S512x5632_S512x5632_0_0).toLoadRect = dguTile m c t := by
  subst h
  rw [View.readCov_eq_canon']
  funext j
  exact congrArg (dguTile m c t) (by funext a; apply Fin.ext; fin_cases a <;> simp [LoadRect.idx, Rect.toLoadRect])

end Cert.Ffn.Ker

end
-- ==== Proof.FfnTiles.lean ====
/- What each point leaves of each result, and the running sums over the points. -/
module

public import proofs.«01_k».proof.Proof.FfnOut

@[expose] public section

set_option maxRecDepth 16384

noncomputable section

namespace Cert.Ffn.Ker

open Idealize.ShloMosaic Idealize.ShloMosaic.TcCoe Idealize.SL.Sem
open Cert.FeedForwardIdeal Cert.FeedForwardIdeal.Gen
open Cert.Ffn Cert.Consts

variable (m : (ℓ : Loc nD τ sig) → Buf (Elt Ideal) ℓ) (c : Dev nD) (t : Fin cfg0.N)

/-- The tile of the gradient of the projection's input. -/
def dhTile : FVec Ideal S512x1024 .f32 := k0_pay44 (dguTile m c t) (iblk m c 6 t)

/-- Each point is of one of three cases. -/
theorem three_cases (P : Prop)
    (hA : ∀ (_ : t.val % 4 = 0) (_ : ¬¬(t.val % 4 = 0)) (_ : t.val % 16 = 0) (_ : ¬1 ≤ t.val), P)
    (hB : ∀ (_ : ¬t.val % 4 = 0) (_ : ¬(t.val % 4 = 0)) (_ : ¬t.val % 16 = 0) (_ : 1 ≤ t.val), P)
    (hC : ∀ (_ : t.val % 4 = 0) (_ : ¬¬(t.val % 4 = 0)) (_ : ¬t.val % 16 = 0) (_ : 1 ≤ t.val), P) : P := by
  have ht : t.val < 16 := lt_of_lt_of_eq t.isLt N_0
  by_cases h : t.val % 4 = 0
  · by_cases h' : t.val % 16 = 0
    · exact hA h (not_not.mpr h) h' (by omega)
    · exact hC h (not_not.mpr h) h' (by omega)
  · exact hB h h (by omega) (by omega)

theorem o10_A (h0 : t.val % 4 = 0) (h1 : ¬¬(t.val % 4 = 0)) (h2 : t.val % 16 = 0) (h3 : ¬1 ≤ t.val) :
    (outsAt0 m c t.val t.isLt).1 = k0_pay6 (iblk m c 0 t) (iblk m c 1 t) := by
  rw [outsAt0_A m c t h0 h1 h2 h3]
  funext y
  frame_out

theorem o10_B (h0 : ¬t.val % 4 = 0) (h1 : ¬(t.val % 4 = 0)) (h2 : ¬t.val % 16 = 0) (h3 : 1 ≤ t.val) :
    (outsAt0 m c t.val t.isLt).1 = k0_pay6 (iblk m c 0 t) (iblk m c 1 t) := by
  rw [outsAt0_B m c t h0 h1 h2 h3]
  funext y
  frame_out

theorem o10_C (h0 : t.val % 4 = 0) (h1 : ¬¬(t.val % 4 = 0)) (h2 : ¬t.val % 16 = 0) (h3 : 1 ≤ t.val) :
    (outsAt0 m c t.val t.isLt).1 = k0_pay6 (iblk m c 0 t) (iblk m c 1 t) := by
  rw [outsAt0_C m c t h0 h1 h2 h3]
  funext y
  frame_out

theorem o10 : (outsAt0 m c t.val t.isLt).1 = k0_pay6 (iblk m c 0 t) (iblk m c 1 t) :=
  three_cases t _ (o10_A m c t) (o10_B m c t) (o10_C m c t)

theorem o12_A (h0 : t.val % 4 = 0) (h1 : ¬¬(t.val % 4 = 0)) (h2 : t.val % 16 = 0) (h3 : ¬1 ≤ t.val) :
    (outsAt0 m c t.val t.isLt).2.2.1 = dguTile m c t := by
  rw [outsAt0_A m c t h0 h1 h2 h3]
  funext y
  frame_out
  rfl

theorem o12_B (h0 : ¬t.val % 4 = 0) (h1 : ¬(t.val % 4 = 0)) (h2 : ¬t.val % 16 = 0) (h3 : 1 ≤ t.val) :
    (outsAt0 m c t.val t.isLt).2.2.1 = dguTile m c t := by
  rw [outsAt0_B m c t h0 h1 h2 h3]
  funext y
  frame_out
  rfl

theorem o12_C (h0 : t.val % 4 = 0) (h1 : ¬¬(t.val % 4 = 0)) (h2 : ¬t.val % 16 = 0) (h3 : 1 ≤ t.val) :
    (outsAt0 m c t.val t.isLt).2.2.1 = dguTile m c t := by
  rw [outsAt0_C m c t h0 h1 h2 h3]
  funext y
  frame_out
  rfl

theorem o12 : (outsAt0 m c t.val t.isLt).2.2.1 = dguTile m c t :=
  three_cases t _ (o12_A m c t) (o12_B m c t) (o12_C m c t)

theorem o13_A (h0 : t.val % 4 = 0) (h1 : ¬¬(t.val % 4 = 0)) (h2 : t.val % 16 = 0) (h3 : ¬1 ≤ t.val) :
    (outsAt0 m c t.val t.isLt).2.2.2.1 = k0_pay54 (k0_pay5 (iblk m c 0 t)) (k0_pay44 (dguTile m c t) (iblk m c 6 t)) (k0_pay46 (iblk m c 7 t)) (k0_pay47 (iblk m c 7 t)) (k0_pay48 (iblk m c 8 t)) (iblk m c 9 t) := by
  rw [outsAt0_A m c t h0 h1 h2 h3]
  funext y
  frame_out
  rw [dgu_back (m := m) (c := c) t (by unfold pieces; rfl)]
  rfl

theorem o13_B (h0 : ¬t.val % 4 = 0) (h1 : ¬(t.val % 4 = 0)) (h2 : ¬t.val % 16 = 0) (h3 : 1 ≤ t.val) :
    (outsAt0 m c t.val t.isLt).2.2.2.1 = k0_pay54 (k0_pay5 (iblk m c 0 t)) (k0_pay44 (dguTile m c t) (iblk m c 6 t)) (k0_pay46 (iblk m c 7 t)) (k0_pay47 (iblk m c 7 t)) (k0_pay48 (iblk m c 8 t)) (iblk m c 9 t) := by
  rw [outsAt0_B m c t h0 h1 h2 h3]
  funext y
  frame_out
  rw [dgu_back (m := m) (c := c) t (by unfold pieces; rfl)]
  rfl

theorem o13_C (h0 : t.val % 4 = 0) (h1 : ¬¬(t.val % 4 = 0)) (h2 : ¬t.val % 16 = 0) (h3 : 1 ≤ t.val) :
    (outsAt0 m c t.val t.isLt).2.2.2.1 = k0_pay54 (k0_pay5 (iblk m c 0 t)) (k0_pay44 (dguTile m c t) (iblk m c 6 t)) (k0_pay46 (iblk m c 7 t)) (k0_pay47 (iblk m c 7 t)) (k0_pay48 (iblk m c 8 t)) (iblk m c 9 t) := by
  rw [outsAt0_C m c t h0 h1 h2 h3]
  funext y
  frame_out
  rw [dgu_back (m := m) (c := c) t (by unfold pieces; rfl)]
  rfl

theorem o13 : (outsAt0 m c t.val t.isLt).2.2.2.1 = k0_pay54 (k0_pay5 (iblk m c 0 t)) (k0_pay44 (dguTile m c t) (iblk m c 6 t)) (k0_pay46 (iblk m c 7 t)) (k0_pay47 (iblk m c 7 t)) (k0_pay48 (iblk m c 8 t)) (iblk m c 9 t) :=
  three_cases t _ (o13_A m c t) (o13_B m c t) (o13_C m c t)

theorem o11_A (h0 : t.val % 4 = 0) (h1 : ¬¬(t.val % 4 = 0)) (h2 : t.val % 16 = 0) (h3 : ¬1 ≤ t.val) :
    (outsAt0 m c t.val t.isLt).2.1 = k0_pay55 (k0_pay7 (iblk m c 0 t) (iblk m c 2 t)) := by
  rw [outsAt0_A m c t h0 h1 h2 h3]
  funext y
  frame_out

theorem o11_B (h0 : ¬t.val % 4 = 0) (h1 : ¬(t.val % 4 = 0)) (h2 : ¬t.val % 16 = 0) (h3 : 1 ≤ t.val) :
    (outsAt0 m c t.val t.isLt).2.1 = k0_pay1 (k0_pay7 (iblk m c 0 t) (iblk m c 2 t)) (outsAt0 m c (t.val - 1) (lt_of_le_of_lt (Nat.sub_le _ _) t.isLt)).2.1 := by
  rw [outsAt0_B m c t h0 h1 h2 h3]
  funext y
  frame_out

theorem o11_C (h0 : t.val % 4 = 0) (h1 : ¬¬(t.val % 4 = 0)) (h2 : ¬t.val % 16 = 0) (h3 : 1 ≤ t.val) :
    (outsAt0 m c t.val t.isLt).2.1 = k0_pay55 (k0_pay7 (iblk m c 0 t) (iblk m c 2 t)) := by
  rw [outsAt0_C m c t h0 h1 h2 h3]
  funext y
  frame_out

theorem o14_A (h0 : t.val % 4 = 0) (h1 : ¬¬(t.val % 4 = 0)) (h2 : t.val % 16 = 0) (h3 : ¬1 ≤ t.val) :
    (outsAt0 m c t.val t.isLt).2.2.2.2.1 = k0_pay56 (k0_pay49 (dguTile m c t) (iblk m c 6 t)) := by
  rw [outsAt0_A m c t h0 h1 h2 h3]
  funext y
  frame_out
  rw [dgu_back (m := m) (c := c) t (by unfold pieces; rfl)]
  rfl

theorem o14_B (h0 : ¬t.val % 4 = 0) (h1 : ¬(t.val % 4 = 0)) (h2 : ¬t.val % 16 = 0) (h3 : 1 ≤ t.val) :
    (outsAt0 m c t.val t.isLt).2.2.2.2.1 = k0_pay2 (k0_pay49 (dguTile m c t) (iblk m c 6 t)) (outsAt0 m c (t.val - 1) (lt_of_le_of_lt (Nat.sub_le _ _) t.isLt)).2.2.2.2.1 := by
  rw [outsAt0_B m c t h0 h1 h2 h3]
  funext y
  frame_out
  rw [dgu_back (m := m) (c := c) t (by unfold pieces; rfl)]
  rfl

theorem o14_C (h0 : t.val % 4 = 0) (h1 : ¬¬(t.val % 4 = 0)) (h2 : ¬t.val % 16 = 0) (h3 : 1 ≤ t.val) :
    (outsAt0 m c t.val t.isLt).2.2.2.2.1 = k0_pay56 (k0_pay49 (dguTile m c t) (iblk m c 6 t)) := by
  rw [outsAt0_C m c t h0 h1 h2 h3]
  funext y
  frame_out
  rw [dgu_back (m := m) (c := c) t (by unfold pieces; rfl)]
  rfl

theorem o15_A (h0 : t.val % 4 = 0) (h1 : ¬¬(t.val % 4 = 0)) (h2 : t.val % 16 = 0) (h3 : ¬1 ≤ t.val) :
    (outsAt0 m c t.val t.isLt).2.2.2.2.2.1 = k0_pay57 (k0_pay44 (dguTile m c t) (iblk m c 6 t)) (k0_pay50 (iblk m c 7 t) (iblk m c 8 t)) := by
  rw [outsAt0_A m c t h0 h1 h2 h3]
  funext y
  frame_out
  rw [dgu_back (m := m) (c := c) t (by unfold pieces; rfl)]
  rfl

theorem o15_B (h0 : ¬t.val % 4 = 0) (h1 : ¬(t.val % 4 = 0)) (h2 : ¬t.val % 16 = 0) (h3 : 1 ≤ t.val) :
    (outsAt0 m c t.val t.isLt).2.2.2.2.2.1 = k0_pay3 (k0_pay51 (k0_pay44 (dguTile m c t) (iblk m c 6 t)) (k0_pay50 (iblk m c 7 t) (iblk m c 8 t))) (outsAt0 m c (t.val - 1) (lt_of_le_of_lt (Nat.sub_le _ _) t.isLt)).2.2.2.2.2.1 := by
  rw [outsAt0_B m c t h0 h1 h2 h3]
  funext y
  frame_out
  rw [dgu_back (m := m) (c := c) t (by unfold pieces; rfl)]
  rfl

theorem o15_C (h0 : t.val % 4 = 0) (h1 : ¬¬(t.val % 4 = 0)) (h2 : ¬t.val % 16 = 0) (h3 : 1 ≤ t.val) :
    (outsAt0 m c t.val t.isLt).2.2.2.2.2.1 = k0_pay57 (k0_pay44 (dguTile m c t) (iblk m c 6 t)) (k0_pay50 (iblk m c 7 t) (iblk m c 8 t)) := by
  rw [outsAt0_C m c t h0 h1 h2 h3]
  funext y
  frame_out
  rw [dgu_back (m := m) (c := c) t (by unfold pieces; rfl)]
  rfl

theorem o16_A (h0 : t.val % 4 = 0) (h1 : ¬¬(t.val % 4 = 0)) (h2 : t.val % 16 = 0) (h3 : ¬1 ≤ t.val) :
    (outsAt0 m c t.val t.isLt).2.2.2.2.2.2 = k0_pay53 (k0_pay44 (dguTile m c t) (iblk m c 6 t)) (k0_pay47 (iblk m c 7 t)) (iblk m c 9 t) := by
  rw [outsAt0_A m c t h0 h1 h2 h3]
  funext y
  frame_out
  rw [dgu_back (m := m) (c := c) t (by unfold pieces; rfl)]
  rfl

theorem o16_B (h0 : ¬t.val % 4 = 0) (h1 : ¬(t.val % 4 = 0)) (h2 : ¬t.val % 16 = 0) (h3 : 1 ≤ t.val) :
    (outsAt0 m c t.val t.isLt).2.2.2.2.2.2 = k0_pay4 (k0_pay53 (k0_pay44 (dguTile m c t) (iblk m c 6 t)) (k0_pay47 (iblk m c 7 t)) (iblk m c 9 t)) (outsAt0 m c (t.val - 1) (lt_of_le_of_lt (Nat.sub_le _ _) t.isLt)).2.2.2.2.2.2 := by
  rw [outsAt0_B m c t h0 h1 h2 h3]
  funext y
  frame_out
  rw [dgu_back (m := m) (c := c) t (by unfold pieces; rfl)]
  rfl

theorem o16_C (h0 : t.val % 4 = 0) (h1 : ¬¬(t.val % 4 = 0)) (h2 : ¬t.val % 16 = 0) (h3 : 1 ≤ t.val) :
    (outsAt0 m c t.val t.isLt).2.2.2.2.2.2 = k0_pay4 (k0_pay53 (k0_pay44 (dguTile m c t) (iblk m c 6 t)) (k0_pay47 (iblk m c 7 t)) (iblk m c 9 t)) (outsAt0 m c (t.val - 1) (lt_of_le_of_lt (Nat.sub_le _ _) t.isLt)).2.2.2.2.2.2 := by
  rw [outsAt0_C m c t h0 h1 h2 h3]
  funext y
  frame_out
  rw [dgu_back (m := m) (c := c) t (by unfold pieces; rfl)]
  rfl

theorem step11 (p : FVec Ideal S1x1024 .f32) (v : FVec Ideal S1x1x1024 .f32) (e e1 : Fin 1) (k : Fin 1024) :
    k0_pay1 (F := Ideal) p v (ix3 e e1 k) = v (ix3 e e1 k) + p (ix2 e1 k) := by
  obtain rfl : e = 0 := Subsingleton.elim _ _
  obtain rfl : e1 = 0 := Subsingleton.elim _ _
  pointwise [k0_pay1]

theorem step14 (p : FVec Ideal S1x1024 .f32) (v : FVec Ideal S1x1x1024 .f32) (e e1 : Fin 1) (k : Fin 1024) :
    k0_pay2 (F := Ideal) p v (ix3 e e1 k) = v (ix3 e e1 k) + p (ix2 e1 k) := by
  obtain rfl : e = 0 := Subsingleton.elim _ _
  obtain rfl : e1 = 0 := Subsingleton.elim _ _
  pointwise [k0_pay2]

theorem step15 (p : FVec Ideal S1x1024 .f32) (v : FVec Ideal S1x1x1024 .f32) (e e1 : Fin 1) (k : Fin 1024) :
    k0_pay3 (F := Ideal) p v (ix3 e e1 k) = v (ix3 e e1 k) + p (ix2 e1 k) := by
  obtain rfl : e = 0 := Subsingleton.elim _ _
  obtain rfl : e1 = 0 := Subsingleton.elim _ _
  pointwise [k0_pay3]

theorem step16 (p v : FVec Ideal S1x1024 .f32) (e : Fin 1) (k : Fin 1024) :
    k0_pay4 (F := Ideal) p v (ix2 e k) = v (ix2 e k) + p (ix2 e k) := by
  pointwise [k0_pay4]

theorem first11 (p : FVec Ideal S1x1024 .f32) (e e1 : Fin 1) (k : Fin 1024) : k0_pay55 (F := Ideal) p (ix3 e e1 k) = p (ix2 e1 k) := by
  pointwise [k0_pay55]; blk_ext

theorem first14 (p : FVec Ideal S1x1024 .f32) (e e1 : Fin 1) (k : Fin 1024) : k0_pay56 (F := Ideal) p (ix3 e e1 k) = p (ix2 e1 k) := by
  pointwise [k0_pay56]; blk_ext

theorem first15 (a b : FVec Ideal S512x1024 .f32) (e e1 : Fin 1) (k : Fin 1024) :
    k0_pay57 (F := Ideal) a b (ix3 e e1 k) = k0_pay51 a b (ix2 e1 k) := by
  pointwise [k0_pay57]; blk_ext

variable {m c} {A : Args} (g : Ref.Given (kins m c) A)
include g

theorem dh_tile : ∀ (r : Fin 512) (k : Fin 1024), (k0_pay44 (F := Ideal) (dguTile m c t) (iblk m c 6 t)) (ix2 r k) = ((A.dh (512 * t + r) k : ℝ) : EReal) :=
  t_dh A t (dgu_tile2 t g) (i6 g t)

theorem r10 (r : Fin 512) (k : Fin 1024) : (outsAt0 m c t.val t.isLt).1 (ix2 r k) = ((A.df (512 * t + r) k : ℝ) : EReal) := by
  rw [o10]; exact df_tile t g r k

theorem r12 (r : Fin 512) (k : Fin 5632) : (outsAt0 m c t.val t.isLt).2.2.1 (ix2 r k) = ((A.dgu (512 * t + r) k : ℝ) : EReal) := by
  rw [o12]; exact dgu_tile2 t g r k

theorem dy_tile (r : Fin 512) (k : Fin 1024) : (k0_pay5 (F := Ideal) (iblk m c 0 t)) (ix2 r k) = ((A.ct (512 * t + r) k : ℝ) : EReal) := by
  rw [← i0 g t r k]; pointwise [k0_pay5]

theorem r13 (r : Fin 512) (k : Fin 1024) : (outsAt0 m c t.val t.isLt).2.2.2.1 (ix2 r k) = ((A.dx (512 * t + r) k : ℝ) : EReal) := by
  rw [o13]
  exact t_dx A t (dy_tile t g) (t_gn A (i8 g t)) (dh_tile t g) (t_xn A t (i7 g t)) (t_r A t (i7 g t)) (i9 g t) r k

theorem p11 (e : Fin 1) (k : Fin 1024) : (k0_pay7 (F := Ideal) (iblk m c 0 t) (iblk m c 2 t)) (ix2 e k) = ((A.pgate t k : ℝ) : EReal) :=
  t_pgate A t (i0 g t) (i2 g t) e k

theorem p14 (e : Fin 1) (k : Fin 1024) : (k0_pay49 (F := Ideal) (dguTile m c t) (iblk m c 6 t)) (ix2 e k) = ((A.psh t k : ℝ) : EReal) :=
  t_psh A t (dgu_tile2 t g) (i6 g t) e k

theorem p15 (e : Fin 1) (k : Fin 1024) : (k0_pay51 (F := Ideal) (k0_pay44 (dguTile m c t) (iblk m c 6 t)) (k0_pay50 (iblk m c 7 t) (iblk m c 8 t))) (ix2 e k)
    = ((A.psc t k : ℝ) : EReal) :=
  t_psc A t (dh_tile t g) (t_xg A t (i7 g t) (i8 g t)) e k

theorem p16 (e : Fin 1) (k : Fin 1024) : (k0_pay53 (F := Ideal) (k0_pay44 (dguTile m c t) (iblk m c 6 t)) (k0_pay47 (iblk m c 7 t)) (iblk m c 9 t)) (ix2 e k)
    = ((A.pgn t k : ℝ) : EReal) :=
  t_pgn A t (dh_tile t g) (t_xn A t (i7 g t)) (i9 g t) e k

/-- A running sum over a sequence's tiles. -/
def run4 (p : ℕ → ℕ → ℝ) (n k : ℕ) : ℝ := ∑ j ∈ Finset.range (n % 4 + 1), p (4 * (n / 4) + j) k

omit g in
theorem run4_first (p : ℕ → ℕ → ℝ) {n k : ℕ} (h : n % 4 = 0) : run4 p n k = p n k := by
  unfold run4
  rw [h, Finset.sum_range_one, show 4 * (n / 4) + 0 = n by omega]

omit g in
theorem run4_step (p : ℕ → ℕ → ℝ) {n k : ℕ} (h : ¬n % 4 = 0) : run4 p n k = run4 p (n - 1) k + p n k := by
  unfold run4
  rw [Finset.sum_range_succ, show (n - 1) % 4 + 1 = n % 4 by omega, show (n - 1) / 4 = n / 4 by omega,
    show 4 * (n / 4) + n % 4 = n by omega]

theorem r11 (n : ℕ) : ∀ (hn : n < cfg0.N) (e e1 : Fin 1) (k : Fin 1024), (outsAt0 m c n hn).2.1 (ix3 e e1 k) = ((run4 A.pgate n k : ℝ) : EReal) := by
  induction n using Nat.strong_induction_on with
  | _ n ih =>
    intro hn e e1 k
    refine three_cases (⟨n, hn⟩ : Fin cfg0.N) _ (fun h0 h1 h2 h3 => ?_) (fun h0 h1 h2 h3 => ?_) (fun h0 h1 h2 h3 => ?_)
    · have h := o11_A m c ⟨n, hn⟩ h0 h1 h2 h3
      dsimp only at h h0
      rw [h, first11, p11 _ g, run4_first _ h0]
    · have h := o11_B m c ⟨n, hn⟩ h0 h1 h2 h3
      dsimp only at h h0 h3
      rw [h, step11, p11 _ g, ih (n - 1) (by omega), run4_step _ h0, EReal.coe_add]
    · have h := o11_C m c ⟨n, hn⟩ h0 h1 h2 h3
      dsimp only at h h0
      rw [h, first11, p11 _ g, run4_first _ h0]

theorem r14 (n : ℕ) : ∀ (hn : n < cfg0.N) (e e1 : Fin 1) (k : Fin 1024), (outsAt0 m c n hn).2.2.2.2.1 (ix3 e e1 k) = ((run4 A.psh n k : ℝ) : EReal) := by
  induction n using Nat.strong_induction_on with
  | _ n ih =>
    intro hn e e1 k
    refine three_cases (⟨n, hn⟩ : Fin cfg0.N) _ (fun h0 h1 h2 h3 => ?_) (fun h0 h1 h2 h3 => ?_) (fun h0 h1 h2 h3 => ?_)
    · have h := o14_A m c ⟨n, hn⟩ h0 h1 h2 h3
      dsimp only at h h0
      rw [h, first14, p14 _ g, run4_first _ h0]
    · have h := o14_B m c ⟨n, hn⟩ h0 h1 h2 h3
      dsimp only at h h0 h3
      rw [h, step14, p14 _ g, ih (n - 1) (by omega), run4_step _ h0, EReal.coe_add]
    · have h := o14_C m c ⟨n, hn⟩ h0 h1 h2 h3
      dsimp only at h h0
      rw [h, first14, p14 _ g, run4_first _ h0]

theorem r15 (n : ℕ) : ∀ (hn : n < cfg0.N) (e e1 : Fin 1) (k : Fin 1024), (outsAt0 m c n hn).2.2.2.2.2.1 (ix3 e e1 k) = ((run4 A.psc n k : ℝ) : EReal) := by
  induction n using Nat.strong_induction_on with
  | _ n ih =>
    intro hn e e1 k
    refine three_cases (⟨n, hn⟩ : Fin cfg0.N) _ (fun h0 h1 h2 h3 => ?_) (fun h0 h1 h2 h3 => ?_) (fun h0 h1 h2 h3 => ?_)
    · have h := o15_A m c ⟨n, hn⟩ h0 h1 h2 h3
      dsimp only at h h0
      rw [h, first15, p15 _ g, run4_first _ h0]
    · have h := o15_B m c ⟨n, hn⟩ h0 h1 h2 h3
      dsimp only at h h0 h3
      rw [h, step15, p15 _ g, ih (n - 1) (by omega), run4_step _ h0, EReal.coe_add]
    · have h := o15_C m c ⟨n, hn⟩ h0 h1 h2 h3
      dsimp only at h h0
      rw [h, first15, p15 _ g, run4_first _ h0]

theorem r16 (n : ℕ) : ∀ (hn : n < cfg0.N) (e : Fin 1) (k : Fin 1024), (outsAt0 m c n hn).2.2.2.2.2.2 (ix2 e k)
    = ((∑ j ∈ Finset.range (n + 1), A.pgn j k : ℝ) : EReal) := by
  induction n using Nat.strong_induction_on with
  | _ n ih =>
    intro hn e k
    refine three_cases (⟨n, hn⟩ : Fin cfg0.N) _ (fun h0 h1 h2 h3 => ?_) (fun h0 h1 h2 h3 => ?_) (fun h0 h1 h2 h3 => ?_)
    · have h := o16_A m c ⟨n, hn⟩ h0 h1 h2 h3
      dsimp only at h h3
      obtain rfl : n = 0 := by omega
      rw [h, p16 _ g, Finset.sum_range_one]
    · have h := o16_B m c ⟨n, hn⟩ h0 h1 h2 h3
      dsimp only at h h3
      rw [h, step16, p16 _ g, ih (n - 1) (by omega), Nat.sub_add_cancel h3, Finset.sum_range_succ _ n, EReal.coe_add]
    · have h := o16_C m c ⟨n, hn⟩ h0 h1 h2 h3
      dsimp only at h h3
      rw [h, step16, p16 _ g, ih (n - 1) (by omega), Nat.sub_add_cancel h3, Finset.sum_range_succ _ n, EReal.coe_add]

end Cert.Ffn.Ker

end
-- ==== Proof.FfnFinal.lean ====
/- The kernel's seven result arrays are the reference's. -/
module

public import proofs.«01_k».proof.Proof.FfnTiles
public import proofs.«01_k».proof.Proof.Gen.FeedForwardIdeal.Value

@[expose] public section

set_option maxRecDepth 16384

noncomputable section

namespace Cert.Ffn.Ker

open Idealize.ShloMosaic Idealize.ShloMosaic.TcCoe Idealize.SL.Sem
open Cert.FeedForwardIdeal Cert.FeedForwardIdeal.Gen
open Cert.Ffn Cert.Consts

variable (m : (ℓ : Loc nD τ sig) → Buf (Elt Ideal) ℓ) (c : Dev nD)

theorem idxo : ∀ t : Fin cfg0.N, win0_10.index t = ![t.val, 0] ∧ win0_11.index t = ![t.val / 4, 0, 0] ∧ win0_12.index t = ![t.val, 0]
    ∧ win0_13.index t = ![t.val, 0] ∧ win0_14.index t = ![t.val / 4, 0, 0] ∧ win0_15.index t = ![t.val / 4, 0, 0] ∧ win0_16.index t = ![0, 0] :=
  (by decide +kernel : ∀ t : Fin grid0.N, _)

variable {m c} {A : Args} (g : Ref.Given (kins m c) A)
include g

theorem final10 : (dats m 0 c).arrAt 10 cfg0.N = Ref.cO0 (kins m c) := by
  refine (dats m 0 c).arrAt_eq_of_covers 10 _ (by decide +kernel) fun t hf y => ?_
  have ht : t.val < 16 := lt_of_lt_of_eq t.isLt N_0
  blk_simp
  rw [after0_10]
  have key : ∀ (r : Fin 512) (k : Fin 1024), (outsAt0 m c t.val t.isLt).1 (ix2 r k) = Ref.cO0 (kins m c) ((win0_10.blk t).view.emb (ix2 r k)) := by
    intro r k
    have he : (win0_10.blk t).view.emb (ix2 r k) = ix2 ⟨512 * t.val + r.val, by omega⟩ k := by
      blk_point [idxo t]
    rw [he, Ref.cO0_eq g]
    exact r10 t g r k
  have hy : y = ix2 (y 0) (y 1) := by funext a; fin_cases a <;> rfl
  rw [hy]
  exact key (y 0) (y 1)

theorem final12 : (dats m 0 c).arrAt 12 cfg0.N = Ref.cO2 (kins m c) := by
  refine (dats m 0 c).arrAt_eq_of_covers 12 _ (by decide +kernel) fun t hf y => ?_
  have ht : t.val < 16 := lt_of_lt_of_eq t.isLt N_0
  blk_simp
  rw [after0_12]
  have key : ∀ (r : Fin 512) (k : Fin 5632), (outsAt0 m c t.val t.isLt).2.2.1 (ix2 r k) = Ref.cO2 (kins m c) ((win0_12.blk t).view.emb (ix2 r k)) := by
    intro r k
    have he : (win0_12.blk t).view.emb (ix2 r k) = ix2 ⟨512 * t.val + r.val, by omega⟩ k := by
      blk_point [idxo t]
    rw [he, Ref.cO2_eq g]
    exact r12 t g r k
  have hy : y = ix2 (y 0) (y 1) := by funext a; fin_cases a <;> rfl
  rw [hy]
  exact key (y 0) (y 1)

theorem final13 : (dats m 0 c).arrAt 13 cfg0.N = Ref.cO3 (kins m c) := by
  refine (dats m 0 c).arrAt_eq_of_covers 13 _ (by decide +kernel) fun t hf y => ?_
  have ht : t.val < 16 := lt_of_lt_of_eq t.isLt N_0
  blk_simp
  rw [after0_13]
  have key : ∀ (r : Fin 512) (k : Fin 1024), (outsAt0 m c t.val t.isLt).2.2.2.1 (ix2 r k) = Ref.cO3 (kins m c) ((win0_13.blk t).view.emb (ix2 r k)) := by
    intro r k
    have he : (win0_13.blk t).view.emb (ix2 r k) = ix2 ⟨512 * t.val + r.val, by omega⟩ k := by
      blk_point [idxo t]
    rw [he, Ref.cO3_eq g]
    exact r13 t g r k
  have hy : y = ix2 (y 0) (y 1) := by funext a; fin_cases a <;> rfl
  rw [hy]
  exact key (y 0) (y 1)

theorem final11 : (dats m 0 c).arrAt 11 cfg0.N = Ref.cO1 (kins m c) := by
  refine (dats m 0 c).arrAt_eq_of_covers 11 _ (by decide +kernel) fun t hf y => ?_
  have ht : t.val < 16 := lt_of_lt_of_eq t.isLt N_0
  blk_simp
  rw [after0_11]
  have key : ∀ (e : Fin 1) (e1 : Fin 1) (k : Fin 1024), (outsAt0 m c t.val t.isLt).2.1 (ix3 e e1 k) = Ref.cO1 (kins m c) ((win0_11.blk t).view.emb (ix3 e e1 k)) := by
    intro e e1 k
    have he : (win0_11.blk t).view.emb (ix3 e e1 k) = ix3 ⟨t.val / 4, by omega⟩ 0 k := by
      blk_point [idxo t]
    rw [he, Ref.cO1_eq g]
    have h4 := (flush0_11 t).mp hf
    rw [r11 g t.val t.isLt e e1 k]
    refine congrArg (fun r : ℝ => (r : EReal)) ?_
    unfold run4
    rw [h4]
    exact A.dgate_tiles (t.val / 4) k
  have hy : y = ix3 (y 0) (y 1) (y 2) := by funext a; fin_cases a <;> rfl
  rw [hy]
  exact key (y 0) (y 1) (y 2)

theorem final14 : (dats m 0 c).arrAt 14 cfg0.N = Ref.cO4 (kins m c) := by
  refine (dats m 0 c).arrAt_eq_of_covers 14 _ (by decide +kernel) fun t hf y => ?_
  have ht : t.val < 16 := lt_of_lt_of_eq t.isLt N_0
  blk_simp
  rw [after0_14]
  have key : ∀ (e : Fin 1) (e1 : Fin 1) (k : Fin 1024), (outsAt0 m c t.val t.isLt).2.2.2.2.1 (ix3 e e1 k) = Ref.cO4 (kins m c) ((win0_14.blk t).view.emb (ix3 e e1 k)) := by
    intro e e1 k
    have he : (win0_14.blk t).view.emb (ix3 e e1 k) = ix3 ⟨t.val / 4, by omega⟩ 0 k := by
      blk_point [idxo t]
    rw [he, Ref.cO4_eq g]
    have h4 := (flush0_14 t).mp hf
    rw [r14 g t.val t.isLt e e1 k]
    refine congrArg (fun r : ℝ => (r : EReal)) ?_
    unfold run4
    rw [h4]
    exact A.dsh_tiles (t.val / 4) k
  have hy : y = ix3 (y 0) (y 1) (y 2) := by funext a; fin_cases a <;> rfl
  rw [hy]
  exact key (y 0) (y 1) (y 2)

theorem final15 : (dats m 0 c).arrAt 15 cfg0.N = Ref.cO5 (kins m c) := by
  refine (dats m 0 c).arrAt_eq_of_covers 15 _ (by decide +kernel) fun t hf y => ?_
  have ht : t.val < 16 := lt_of_lt_of_eq t.isLt N_0
  blk_simp
  rw [after0_15]
  have key : ∀ (e : Fin 1) (e1 : Fin 1) (k : Fin 1024), (outsAt0 m c t.val t.isLt).2.2.2.2.2.1 (ix3 e e1 k) = Ref.cO5 (kins m c) ((win0_15.blk t).view.emb (ix3 e e1 k)) := by
    intro e e1 k
    have he : (win0_15.blk t).view.emb (ix3 e e1 k) = ix3 ⟨t.val / 4, by omega⟩ 0 k := by
      blk_point [idxo t]
    rw [he, Ref.cO5_eq g]
    have h4 := (flush0_15 t).mp hf
    rw [r15 g t.val t.isLt e e1 k]
    refine congrArg (fun r : ℝ => (r : EReal)) ?_
    unfold run4
    rw [h4]
    exact A.dsc_tiles (t.val / 4) k
  have hy : y = ix3 (y 0) (y 1) (y 2) := by funext a; fin_cases a <;> rfl
  rw [hy]
  exact key (y 0) (y 1) (y 2)

theorem final16 : (dats m 0 c).arrAt 16 cfg0.N = Ref.cO6 (kins m c) := by
  refine (dats m 0 c).arrAt_eq_of_covers 16 _ (by decide +kernel) fun t hf y => ?_
  have ht : t.val < 16 := lt_of_lt_of_eq t.isLt N_0
  blk_simp
  rw [after0_16]
  have key : ∀ (e : Fin 1) (k : Fin 1024), (outsAt0 m c t.val t.isLt).2.2.2.2.2.2 (ix2 e k) = Ref.cO6 (kins m c) ((win0_16.blk t).view.emb (ix2 e k)) := by
    intro e k
    have he : (win0_16.blk t).view.emb (ix2 e k) = ix2 0 k := by
      blk_point [idxo t]
    rw [he, Ref.cO6_eq g]
    have h16 := (flush0_16 t).mp hf
    rw [r16 g t.val t.isLt e k, show t.val + 1 = 16 by omega]
    exact congrArg (fun r : ℝ => (r : EReal)) (A.dgn_tiles k)
  have hy : y = ix2 (y 0) (y 1) := by funext a; fin_cases a <;> rfl
  rw [hy]
  exact key (y 0) (y 1)

end Cert.Ffn.Ker

end
-- ==== Proof.FfnFinite.lean ====
/- The precondition's predicate says that each element of each argument is a real number; the real
   arguments are read off the vectors. -/
module

public import proofs.«01_k».proof.Proof.FfnRef
public import proofs.«01_k».proof.Proof.FfnHost
public import proofs.«01_k».proof.Defs

@[expose] public section

noncomputable section

namespace Cert.Ffn

open Idealize.ShloMosaic Idealize.ShloMosaic.TcCoe Idealize.SL.Sem
open Cert.Pre_finite_arguments

theorem pre_facts : Cert.Pre_finite_arguments.Facts where
  reducesTo_S4x2048x1024_S_d0_1_2 := by decide
  h_S_ := by decide
  reducesTo_S4x1024_S_d0_1 := by decide
  reducesTo_S1024_S_d0 := by decide
  reducesTo_S1024x5632_S_d0_1 := by decide
  reducesTo_S2816x1024_S_d0_1 := by decide

theorem real_of_abs_lt_top {a : EReal} (h : max a (-a) < ⊤) : ∃ r : ℝ, a = (r : EReal) := by
  induction a with
  | bot => simp at h
  | coe r => exact ⟨r, rfl⟩
  | top => simp at h

theorem real_of_max {s : Shape} {dims : List (Fin s.rank)} (x : FVec Ideal s .f32) (h : s.ReducesTo dims S_) (h0 : 0 < S_.numel)
    (j : S_.Idx) (hx : cmpf .olt (Host.reduce FloatOps.maximumf (Host.absf x) (constant S_ .f32 0xFF800000#32) h h0)
      (constant (F := Ideal) S_ .f32 0x7F800000#32) j = 1#1) (i : s.Idx) : ∃ r : ℝ, x i = (r : EReal) := by
  have e : cmpf .olt (Host.reduce FloatOps.maximumf (Host.absf x) (constant S_ .f32 0xFF800000#32) h h0)
      (constant (F := Ideal) S_ .f32 0x7F800000#32) j
      = Ideal.cmp .olt (Host.reduce (FloatOps.maximumf (F := Ideal) (φ := .f32)) (Host.absf x)
          (constant (F := Ideal) S_ .f32 0xFF800000#32) h h0 j)
        (Ideal.ofBits .f32 0x7F800000#32) := rfl
  rw [e, Consts.ofBits_top, Host.reduce_eq_fold] at hx
  have hlt : (Finset.univ.filter fun i => h.drop i = j).fold (FloatOps.maximumf (F := Ideal) (φ := .f32))
      (constant (F := Ideal) S_ .f32 0xFF800000#32 (Shape.Idx.first h0)) (Host.absf x) < (⊤ : EReal) := by
    by_contra hc
    simp [Ideal.cmp, hc] at hx
  have hm : ∀ (t : Finset s.Idx) (b : EReal), t.fold (FloatOps.maximumf (F := Ideal) (φ := .f32)) b (Host.absf x) < (⊤ : EReal) →
      ∀ i ∈ t, max (x i) (-(x i)) < (⊤ : EReal) := by
    intro t b
    induction t using Finset.induction_on with
    | empty => intro _ i hi; simp at hi
    | insert a t ha ih =>
      intro hf i hi
      rw [Finset.fold_insert ha] at hf
      have hf' := max_lt_iff.mp hf
      rcases Finset.mem_insert.mp hi with rfl | hi
      · exact hf'.1
      · exact ih hf'.2 i hi
  have hj : ∀ k : S_.Idx, k = j := fun k => funext fun d => d.elim0
  exact real_of_abs_lt_top (hm _ _ hlt i (by simp [hj]))

theorem and_one {s : Shape} {a b : IVec s 1} {j : s.Idx} (h : andi a b j = 1#1) : a j = 1#1 ∧ b j = 1#1 := by
  have h' : a j &&& b j = 1#1 := h
  revert h'
  generalize a j = p; generalize b j = q
  revert p q; decide

structure Finite (V : Ref.Ins) : Prop where
  x : ∀ i, ∃ r : ℝ, V.x i = (r : EReal)
  sh : ∀ i, ∃ r : ℝ, V.sh i = (r : EReal)
  sc : ∀ i, ∃ r : ℝ, V.sc i = (r : EReal)
  gate : ∀ i, ∃ r : ℝ, V.gate i = (r : EReal)
  gn : ∀ i, ∃ r : ℝ, V.gn i = (r : EReal)
  wgu : ∀ i, ∃ r : ℝ, V.wgu i = (r : EReal)
  wd : ∀ i, ∃ r : ℝ, V.wd i = (r : EReal)
  ct : ∀ i, ∃ r : ℝ, V.ct i = (r : EReal)

theorem finite_of_fn [Cert.Pre_finite_arguments.Facts] (V : Ref.Ins) (j : S_.Idx)
    (h : fn (F := Ideal) V.x V.sh V.sc V.gate V.gn V.wgu V.wd V.ct j = 1#1) : Finite V := by
  unfold fn fn_part1 at h
  dsimp only at h
  obtain ⟨h, h7⟩ := and_one h
  obtain ⟨h, h6⟩ := and_one h
  obtain ⟨h, h5⟩ := and_one h
  obtain ⟨h, h4⟩ := and_one h
  obtain ⟨h, h3⟩ := and_one h
  obtain ⟨h, h2⟩ := and_one h
  obtain ⟨h0, h1⟩ := and_one h
  clear h
  constructor
  · exact real_of_max V.x Facts.reducesTo_S4x2048x1024_S_d0_1_2 Facts.h_S_ j h0
  · exact real_of_max V.sh Facts.reducesTo_S4x1024_S_d0_1 Facts.h_S_ j h1
  · exact real_of_max V.sc Facts.reducesTo_S4x1024_S_d0_1 Facts.h_S_ j h2
  · exact real_of_max V.gate Facts.reducesTo_S4x1024_S_d0_1 Facts.h_S_ j h3
  · exact real_of_max V.gn Facts.reducesTo_S1024_S_d0 Facts.h_S_ j h4
  · exact real_of_max V.wgu Facts.reducesTo_S1024x5632_S_d0_1 Facts.h_S_ j h5
  · exact real_of_max V.wd Facts.reducesTo_S2816x1024_S_d0_1 Facts.h_S_ j h6
  · exact real_of_max V.ct Facts.reducesTo_S4x2048x1024_S_d0_1_2 Facts.h_S_ j h7

/-- A coordinate within `n`. -/
def at' (n : ℕ) (h : 0 < n) (a : ℕ) : Fin n := ⟨a % n, Nat.mod_lt _ h⟩

theorem at_val {n : ℕ} (h : 0 < n) (a : Fin n) : at' n h a.val = a := Fin.ext (Nat.mod_eq_of_lt a.isLt)

/-- The real arguments of the vectors. -/
def argsOf (V : Ref.Ins) : Args where
  x T k := (V.x (ix3 (at' 4 (by decide) (T / 2048)) (at' 2048 (by decide) T) (at' 1024 (by decide) k)) : EReal).toReal
  sh b k := (V.sh (ix2 (at' 4 (by decide) b) (at' 1024 (by decide) k)) : EReal).toReal
  sc b k := (V.sc (ix2 (at' 4 (by decide) b) (at' 1024 (by decide) k)) : EReal).toReal
  gate b k := (V.gate (ix2 (at' 4 (by decide) b) (at' 1024 (by decide) k)) : EReal).toReal
  gn k := (V.gn (ix1 (at' 1024 (by decide) k)) : EReal).toReal
  wgu j k := (V.wgu (ix2 (at' 1024 (by decide) j) (at' 5632 (by decide) k)) : EReal).toReal
  wd j k := (V.wd (ix2 (at' 2816 (by decide) j) (at' 1024 (by decide) k)) : EReal).toReal
  ct T k := (V.ct (ix3 (at' 4 (by decide) (T / 2048)) (at' 2048 (by decide) T) (at' 1024 (by decide) k)) : EReal).toReal

theorem at_div (b : Fin 4) (s : Fin 2048) : at' 4 (by decide) ((b.val * 2048 + s.val) / 2048) = b :=
  Fin.ext (by have := b.isLt; have := s.isLt; simp only [at']; omega)

theorem at_mod (b : Fin 4) (s : Fin 2048) : at' 2048 (by decide) (b.val * 2048 + s.val) = s :=
  Fin.ext (by have := b.isLt; have := s.isLt; simp only [at']; omega)

theorem coe_back {a : EReal} (h : ∃ r : ℝ, a = (r : EReal)) : a = ((a.toReal : ℝ) : EReal) := by
  obtain ⟨r, rfl⟩ := h; rfl

theorem given_argsOf {V : Ref.Ins} (h : Finite V) : Ref.Given V (argsOf V) where
  x b s k := by simp only [argsOf, at_div, at_mod, at_val]; exact coe_back (h.x _)
  sh b k := by simp only [argsOf, at_val]; exact coe_back (h.sh _)
  sc b k := by simp only [argsOf, at_val]; exact coe_back (h.sc _)
  gate b k := by simp only [argsOf, at_val]; exact coe_back (h.gate _)
  gn k := by simp only [argsOf, at_val]; exact coe_back (h.gn _)
  wgu j k := by simp only [argsOf, at_val]; exact coe_back (h.wgu _)
  wd j k := by simp only [argsOf, at_val]; exact coe_back (h.wd _)
  ct b s k := by simp only [argsOf, at_div, at_mod, at_val]; exact coe_back (h.ct _)

/-- Under the precondition the kernel's arguments are the real arguments. -/
theorem given_of_pre [Cert.Pre_finite_arguments.Facts]
    (m : (ℓ : Loc FeedForwardIdeal.nD FeedForwardIdeal.τ FeedForwardIdeal.sig) → Buf (Elt Ideal) ℓ)
    (h : Pre_FeedForwardIdeal_finite_arguments m) (c : Dev FeedForwardIdeal.nD) :
    Ref.Given (Ker.kins m c) (argsOf (Ker.kins m c)) :=
  given_argsOf (finite_of_fn _ (Shape.Idx.first (by decide)) (by have := h c; exact congrFun this _))

end Cert.Ffn

end
-- ==== Proof.FfnClaim.lean ====
module

public import proofs.«01_k».proof.Defs
public import proofs.«01_k».proof.Proof.Gen.FeedForward
public import proofs.«01_k».proof.Proof.Gen.FeedForward.Frame
public import proofs.«01_k».proof.Proof.Gen.FeedForwardIdeal
public import proofs.«01_k».proof.Proof.Gen.FeedForwardIdeal.Frame
public import proofs.«01_k».proof.Proof.Gen.FeedForwardReferenceIdeal
public import proofs.«01_k».proof.Proof.Gen.FeedForwardIdeal.Value
public import proofs.«01_k».proof.Proof.Gen.FeedForwardReferenceIdeal.Run
public import proofs.«01_k».proof.Proof.FfnFinal
public import proofs.«01_k».proof.Proof.FfnFinite
public import Idealize.ShloMosaic.Adequacy
public import Idealize.ShloMosaic.Init

@[expose] public section

noncomputable section

namespace Cert.Proof

open Idealize.ShloMosaic Idealize.SL.Sem

theorem same_ins (m : (ℓ : Loc Cert.FeedForwardIdeal.nD Cert.FeedForwardIdeal.τ Cert.FeedForwardIdeal.sig) → Buf (Elt Ideal) ℓ)
    (m' : (ℓ : Loc Cert.FeedForwardReferenceIdeal.nD Cert.FeedForwardReferenceIdeal.τ Cert.FeedForwardReferenceIdeal.sig) → Buf (Elt Ideal) ℓ)
    (c : Dev Cert.FeedForwardIdeal.nD)
    (h0 : m' ((c.tc : Thread _ _).loc Cert.FeedForwardReferenceIdeal.main_arg0) = m ((c.tc : Thread _ _).loc Cert.FeedForwardIdeal.main_arg0))
    (h1 : m' ((c.tc : Thread _ _).loc Cert.FeedForwardReferenceIdeal.main_arg1) = m ((c.tc : Thread _ _).loc Cert.FeedForwardIdeal.main_arg1))
    (h2 : m' ((c.tc : Thread _ _).loc Cert.FeedForwardReferenceIdeal.main_arg2) = m ((c.tc : Thread _ _).loc Cert.FeedForwardIdeal.main_arg2))
    (h3 : m' ((c.tc : Thread _ _).loc Cert.FeedForwardReferenceIdeal.main_arg3) = m ((c.tc : Thread _ _).loc Cert.FeedForwardIdeal.main_arg3))
    (h4 : m' ((c.tc : Thread _ _).loc Cert.FeedForwardReferenceIdeal.main_arg4) = m ((c.tc : Thread _ _).loc Cert.FeedForwardIdeal.main_arg4))
    (h5 : m' ((c.tc : Thread _ _).loc Cert.FeedForwardReferenceIdeal.main_arg5) = m ((c.tc : Thread _ _).loc Cert.FeedForwardIdeal.main_arg5))
    (h6 : m' ((c.tc : Thread _ _).loc Cert.FeedForwardReferenceIdeal.main_arg6) = m ((c.tc : Thread _ _).loc Cert.FeedForwardIdeal.main_arg6))
    (h7 : m' ((c.tc : Thread _ _).loc Cert.FeedForwardReferenceIdeal.main_arg7) = m ((c.tc : Thread _ _).loc Cert.FeedForwardIdeal.main_arg7)) :
    Cert.Ffn.Ref.ins m' c = Cert.Ffn.Ker.kins m c := by
  unfold Cert.Ffn.Ref.ins Cert.Ffn.Ker.kins
  rw [h0, h1, h2, h3, h4, h5, h6, h7]

theorem values : Cert.algebraic_FeedForwardIdeal_FeedForwardReferenceIdeal_pre_finite_arguments (hFeedForwardIdeal := Cert.FeedForwardIdeal.Gen.facts)
    (hFeedForwardReferenceIdeal := Cert.FeedForwardReferenceIdeal.Gen.facts) (hPre_finite_arguments := Cert.Ffn.pre_facts) := by
  intro m g m' g' hpre hargs
  haveI := Cert.Ffn.pre_facts
  have G := Cert.Ffn.given_of_pre m hpre
  have I : ∀ c, Cert.Ffn.Ref.ins m' c = Cert.Ffn.Ker.kins m c := fun c => by
    obtain ⟨h0, h1, h2, h3, h4, h5, h6, h7⟩ := hargs c
    exact same_ins m m' c h0 h1 h2 h3 h4 h5 h6 h7
  refine ⟨fun c => Cert.Ffn.Ref.cO0 (Cert.Ffn.Ker.kins m c), fun c => Cert.Ffn.Ref.cO1 (Cert.Ffn.Ker.kins m c),
    fun c => Cert.Ffn.Ref.cO2 (Cert.Ffn.Ker.kins m c), fun c => Cert.Ffn.Ref.cO3 (Cert.Ffn.Ker.kins m c),
    fun c => Cert.Ffn.Ref.cO4 (Cert.Ffn.Ker.kins m c), fun c => Cert.Ffn.Ref.cO5 (Cert.Ffn.Ker.kins m c),
    fun c => Cert.Ffn.Ref.cO6 (Cert.Ffn.Ker.kins m c), ?_, ?_⟩
  · refine (θ_run _ _ _).mono (fun r h c => ?_) (Cert.FeedForwardIdeal.Value.run_blocks m g)
    obtain ⟨r0, r1, r2, r3, r4, r5, r6, rest⟩ := h c
    exact ⟨r0.trans (Cert.Ffn.Ker.final10 (G c)), r1.trans (Cert.Ffn.Ker.final11 (G c)), r2.trans (Cert.Ffn.Ker.final12 (G c)),
      r3.trans (Cert.Ffn.Ker.final13 (G c)), r4.trans (Cert.Ffn.Ker.final14 (G c)), r5.trans (Cert.Ffn.Ker.final15 (G c)),
      r6.trans (Cert.Ffn.Ker.final16 (G c)), rest⟩
  · refine (θ_run _ _ _).mono (fun r h c => ?_) (Cert.FeedForwardReferenceIdeal.Value.run m' g')
    obtain ⟨r0, r1, r2, r3, r4, r5, r6, rest⟩ := h c
    have e0 : _ = Cert.Ffn.Ref.cO0 (Cert.Ffn.Ref.ins m' c) := r0
    rw [I c] at e0
    exact ⟨e0, r1.trans ((Cert.Ffn.Ref.res1 m' c).trans (congrArg _ (I c))), r2.trans ((Cert.Ffn.Ref.res2 m' c).trans (congrArg _ (I c))),
      r3.trans ((Cert.Ffn.Ref.res3 m' c).trans (congrArg _ (I c))), r4.trans ((Cert.Ffn.Ref.res4 m' c).trans (congrArg _ (I c))),
      r5.trans ((Cert.Ffn.Ref.res5 m' c).trans (congrArg _ (I c))), r6.trans ((Cert.Ffn.Ref.res6 m' c).trans (congrArg _ (I c))), rest⟩

theorem plain_frame : Cert.quiescent_FeedForwardReferenceIdeal (hFeedForwardReferenceIdeal := Cert.FeedForwardReferenceIdeal.Gen.facts) := by
  intro m g _
  refine (θ_run _ _ _).mono (fun r h => ⟨fun c => ?_, sem_eq_zero_of_no_sems (by decide) r.2⟩) (Cert.FeedForwardReferenceIdeal.Value.run m g)
  obtain ⟨_, _, _, _, _, _, _, rest⟩ := h c
  exact rest

end Cert.Proof

end
-- ==== Proof.DownValue.lean ====
/- The gradient of the down product's weights: each block of the kernel's result is the reference's. -/
module

public import proofs.«01_k».proof.Proof.Gen.DownWeightIdeal.Value
public import proofs.«01_k».proof.Proof.Gen.DownWeightReferenceIdeal.Run
public import Idealize.ShloMosaic.Lib.Pipeline.ValueKit
public import Idealize.ShloMosaic.Lib.Pointwise

@[expose] public section

set_option maxRecDepth 16384

noncomputable section

namespace Cert.Down

open Idealize.ShloMosaic Idealize.ShloMosaic.TcCoe Idealize.SL.Sem
open Cert.DownWeightIdeal Cert.DownWeightIdeal.Gen

/-- The gated activation of both halves of the up product. -/
def act (gu : FVec Ideal S4x2048x5632 .f32) : FVec Ideal S4x2048x2816 .f32 :=
  mulf (mulf (extractStridedSlice S4x2048x2816 ![0, 0, 0] gu slices_S4x2048x5632_S4x2048x2816_0_0_0)
    (Host.divf (broadcastInDim S4x2048x2816 ![] bcast_S_S4x2048x2816 (constant S_ .f32 0x3F800000#32))
      (addf (broadcastInDim S4x2048x2816 ![] bcast_S_S4x2048x2816 (constant S_ .f32 0x3F800000#32))
        (Host.exp (Host.negf (extractStridedSlice S4x2048x2816 ![0, 0, 0] gu slices_S4x2048x5632_S4x2048x2816_0_0_0))))))
    (extractStridedSlice S4x2048x2816 ![0, 0, 2816] gu slices_S4x2048x5632_S4x2048x2816_0_0_2816)

/-- What the gradient is at a row and a column: the sum over all tokens of activation times incoming gradient. -/
def entry (gu : FVec Ideal S4x2048x5632 .f32) (ct : FVec Ideal S4x2048x1024 .f32) (j : Fin 2816) (k : Fin 1024) : EReal :=
  ∑ b : Fin 4, ∑ s : Fin 2048, act gu (ix3 b s j) * ct (ix3 b s k)

variable (m : (ℓ : Loc nD τ sig) → Buf (Elt Ideal) ℓ) (c : Dev nD)

/-- The up product that the program is given. -/
def gu : FVec Ideal S4x2048x5632 .f32 := m ((c.tc : Thread nD τ).loc main_arg0)

/-- The incoming gradient that the program is given. -/
def ct : FVec Ideal S4x2048x1024 .f32 := m ((c.tc : Thread nD τ).loc main_arg2)

theorem V5 : V m c main_v5 = truncf .bf16 (shapeCast S8192x2816 (act (gu m c)) shapeCasts_S4x2048x2816_S8192x2816) bitsLt_bf16_f32 := by
  entry_read; rfl

theorem V7 : V m c main_v7 = truncf .bf16 (shapeCast S8192x1024 (ct m c) shapeCasts_S4x2048x1024_S8192x1024) bitsLt_bf16_f32 := by
  entry_read; rfl

theorem v5 (t : Fin 8192) (j : Fin 2816) : (V m c main_v5 : FVec Ideal S8192x2816 .bf16) (ix2 t j)
    = act (gu m c) (ix3 ⟨t / 2048, by omega⟩ ⟨t % 2048, by omega⟩ j) := by
  rw [V5]; pointwise

theorem v7 (t : Fin 8192) (k : Fin 1024) : (V m c main_v7 : FVec Ideal S8192x1024 .bf16) (ix2 t k)
    = ct m c (ix3 ⟨t / 2048, by omega⟩ ⟨t % 2048, by omega⟩ k) := by
  rw [V7]; pointwise

theorem idx : ∀ t : Fin cfg0.N, win0_0.index t = ![0, t.val] ∧ win0_1.index t = ![0, 0] ∧ win0_2.index t = ![t.val, 0] :=
  (by decide +kernel : ∀ t : Fin grid0.N, _)

variable (t : Fin cfg0.N)

theorem i0 (r : Fin 8192) (j : Fin 256) (h : 256 * t.val + j.val < 2816) : (iblk m c 0 t : FVec Ideal S8192x256 .bf16) (ix2 r j)
    = (V m c main_v5 : FVec Ideal S8192x2816 .bf16) (ix2 r ⟨256 * t + j, h⟩) := by
  have ht : t.val < 11 := lt_of_lt_of_eq t.isLt N_0
  blk_point [iblk, idx t]

theorem i1 (r : Fin 8192) (k : Fin 1024) : (iblk m c 1 t : FVec Ideal S8192x1024 .bf16) (ix2 r k)
    = (V m c main_v7 : FVec Ideal S8192x1024 .bf16) (ix2 r k) := by
  have ht : t.val < 11 := lt_of_lt_of_eq t.isLt N_0
  blk_point [iblk, idx t]

theorem pay (a : FVec Ideal S8192x256 .bf16) (b : FVec Ideal S8192x1024 .bf16) (j : Fin 256) (k : Fin 1024) :
    k0_pay1 (F := Ideal) a b (ix2 j k) = ∑ r : Fin 8192, a (ix2 r j) * b (ix2 r k) := by
  pointwise [k0_pay1]

/-- A sum over all tokens, counted through the batch, is the sum over sequences and positions. -/
theorem sum_tokens (f : Fin 4 → Fin 2048 → EReal) :
    ∑ r : Fin 8192, f ⟨r / 2048, by omega⟩ ⟨r % 2048, by omega⟩ = ∑ b : Fin 4, ∑ s : Fin 2048, f b s := by
  rw [← Fintype.sum_prod_type']
  exact Fintype.sum_equiv (finProdFinEquiv (m := 4) (n := 2048)).symm _ _ fun r => rfl

theorem entry_eq (gu : FVec Ideal S4x2048x5632 .f32) (ct : FVec Ideal S4x2048x1024 .f32) (j : Fin 2816) (k : Fin 1024) :
    entry gu ct j k = ∑ r : Fin 8192, act gu (ix3 ⟨r / 2048, by omega⟩ ⟨r % 2048, by omega⟩ j) * ct (ix3 ⟨r / 2048, by omega⟩ ⟨r % 2048, by omega⟩ k) :=
  (sum_tokens fun b s => act gu (ix3 b s j) * ct (ix3 b s k)).symm

/-- The whole gradient. -/
def grad (gu : FVec Ideal S4x2048x5632 .f32) (ct : FVec Ideal S4x2048x1024 .f32) : FVec Ideal S2816x1024 .bf16 :=
  fun i => entry gu ct (i 0) (i 1)

theorem grad_at (gu : FVec Ideal S4x2048x5632 .f32) (ct : FVec Ideal S4x2048x1024 .f32) (j : Fin 2816) (k : Fin 1024) :
    grad gu ct (ix2 j k) = entry gu ct j k := rfl

theorem tile (j : Fin 256) (k : Fin 1024) (h : 256 * t.val + j.val < 2816) :
    (out0_2 (iblk m c 0 t) (iblk m c 1 t) : FVec Ideal S256x1024 .bf16) (ix2 j k) = entry (gu m c) (ct m c) ⟨256 * t + j, h⟩ k := by
  frame_out [out0_2]
  rw [pay, entry_eq]
  refine Finset.sum_congr rfl fun r _ => ?_
  rw [i0 m c t r j h, i1 m c t r k, v5, v7]

theorem final : (dats m 0 c).arrAt 2 cfg0.N = grad (gu m c) (ct m c) := by
  refine (dats m 0 c).arrAt_eq_of_covers 2 _ (by decide +kernel) fun t hf y => ?_
  have ht : t.val < 11 := lt_of_lt_of_eq t.isLt N_0
  blk_simp
  rw [after0_2]
  have key : ∀ (j : Fin 256) (k : Fin 1024), (out0_2 (iblk m c 0 t) (iblk m c 1 t)) (ix2 j k) = grad (gu m c) (ct m c) ((win0_2.blk t).view.emb (ix2 j k)) := by
    intro j k
    have he : (win0_2.blk t).view.emb (ix2 j k) = ix2 ⟨256 * t.val + j.val, by omega⟩ k := by
      blk_point [idx t]
    rw [he, grad_at]
    exact tile m c t j k (by omega)
  have hy : y = ix2 (y 0) (y 1) := by funext a; fin_cases a <;> rfl
  rw [hy]
  exact key (y 0) (y 1)

theorem ref (gu : FVec Ideal S4x2048x5632 .f32) (ct : FVec Ideal S4x2048x1024 .f32) (j : Fin 2816) (k : Fin 1024) :
    truncf .bf16 (transpose S2816x1024 [1, 0] (Host.dotGeneral Cert.DownWeightReferenceIdeal.dot_S4x2048x1024_S4x2048x2816_S1024x2816_01_01_2_2_n_n none ct (act gu)) Cert.DownWeightReferenceIdeal.Gen.transposes_S1024x2816_S2816x1024_1_0) bitsLt_bf16_f32 (ix2 j k)
    = entry gu ct j k := by
  pointwise
  exact Finset.sum_congr rfl fun b _ => Finset.sum_congr rfl fun s _ => mul_comm _ _

theorem ref_grad (gu : FVec Ideal S4x2048x5632 .f32) (ct : FVec Ideal S4x2048x1024 .f32) :
    truncf .bf16 (transpose S2816x1024 [1, 0] (Host.dotGeneral Cert.DownWeightReferenceIdeal.dot_S4x2048x1024_S4x2048x2816_S1024x2816_01_01_2_2_n_n none ct (act gu)) Cert.DownWeightReferenceIdeal.Gen.transposes_S1024x2816_S2816x1024_1_0) bitsLt_bf16_f32
    = grad gu ct := by
  funext i
  have hi : i = ix2 (i 0) (i 1) := by funext a; fin_cases a <;> rfl
  rw [hi]
  exact ref gu ct (i 0) (i 1)

end Cert.Down

end
-- ==== Proof.UpValue.lean ====
/- The gradient of the up product's weights, transposed: each block of the kernel's result is the reference's. -/
module

public import proofs.«01_k».proof.Proof.Gen.UpWeightIdeal.Value
public import proofs.«01_k».proof.Proof.Gen.UpWeightReferenceIdeal.Run
public import proofs.«01_k».proof.Proof.DownValue
public import Idealize.ShloMosaic.Lib.Pipeline.ValueKit
public import Idealize.ShloMosaic.Lib.Pointwise

@[expose] public section

set_option maxRecDepth 16384

noncomputable section

namespace Cert.Up

open Idealize.ShloMosaic Idealize.ShloMosaic.TcCoe Idealize.SL.Sem
open Cert.UpWeightIdeal Cert.UpWeightIdeal.Gen

/-- The arguments that the program reads. -/
structure Ins where
  x : FVec Ideal S4x2048x1024 .f32
  sh : FVec Ideal S4x1024 .f32
  sc : FVec Ideal S4x1024 .f32
  gn : FVec Ideal S1024 .f32

/-- The modulated norm of the input. -/
def hid (I : Ins) : FVec Ideal S4x2048x1024 .f32 :=
  (addf (mulf (mulf (mulf I.x (broadcastInDim S4x2048x1024 ![0, 1, 2] bcast_S4x2048x1_S4x2048x1024_0_1_2 (Host.rsqrt (addf (Host.divf (broadcastInDim S4x2048x1 ![0, 1] bcast_S4x2048_S4x2048x1_0_1 (Host.reduceAdd (mulf I.x I.x) (constant S_ .f32 0x00000000#32) reducesTo_S4x2048x1024_S4x2048_d2 h_S_)) (broadcastInDim S4x2048x1 ![] bcast_S_S4x2048x1 (constant S_ .f32 0x44800000#32))) (broadcastInDim S4x2048x1 ![] bcast_S_S4x2048x1 (constant S_ .f32 0x358637BD#32)))))) (broadcastInDim S4x2048x1024 ![0, 1, 2] bcast_S1x1x1024_S4x2048x1024_0_1_2 (broadcastInDim S1x1x1024 ![2] bcast_S1024_S1x1x1024_2 I.gn))) (broadcastInDim S4x2048x1024 ![0, 1, 2] bcast_S4x1x1024_S4x2048x1024_0_1_2 (addf (broadcastInDim S4x1x1024 ![] bcast_S_S4x1x1024 (constant S_ .f32 0x3F800000#32)) (broadcastInDim S4x1x1024 ![0, 2] bcast_S4x1024_S4x1x1024_0_2 I.sc)))) (broadcastInDim S4x2048x1024 ![0, 1, 2] bcast_S4x1x1024_S4x2048x1024_0_1_2 (broadcastInDim S4x1x1024 ![0, 2] bcast_S4x1024_S4x1x1024_0_2 I.sh)))

/-- What the gradient is at a row and a column: the sum over all tokens of incoming gradient times modulated norm. -/
def entry (I : Ins) (ct : FVec Ideal S4x2048x5632 .f32) (j : Fin 5632) (k : Fin 1024) : EReal :=
  ∑ b : Fin 4, ∑ s : Fin 2048, ct (ix3 b s j) * hid I (ix3 b s k)

variable (m : (ℓ : Loc nD τ sig) → Buf (Elt Ideal) ℓ) (c : Dev nD)

/-- The arguments of the run. -/
def ins : Ins where
  x := m ((c.tc : Thread nD τ).loc main_arg0)
  sh := m ((c.tc : Thread nD τ).loc main_arg1)
  sc := m ((c.tc : Thread nD τ).loc main_arg2)
  gn := m ((c.tc : Thread nD τ).loc main_arg3)

/-- The incoming gradient that the program is given. -/
def ct : FVec Ideal S4x2048x5632 .f32 := m ((c.tc : Thread nD τ).loc main_arg5)

theorem V1 : V m c main_v1 = truncf .bf16 (shapeCast S8192x5632 (ct m c) shapeCasts_S4x2048x5632_S8192x5632) bitsLt_bf16_f32 := by
  entry_read; rfl

theorem V24 : V m c main_v24 = truncf .bf16 (shapeCast S8192x1024 (hid (ins m c)) shapeCasts_S4x2048x1024_S8192x1024) bitsLt_bf16_f32 := by
  entry_read; rfl

theorem v1 (t : Fin 8192) (j : Fin 5632) : (V m c main_v1 : FVec Ideal S8192x5632 .bf16) (ix2 t j)
    = ct m c (ix3 ⟨t / 2048, by omega⟩ ⟨t % 2048, by omega⟩ j) := by
  rw [V1]; pointwise

theorem v24 (t : Fin 8192) (k : Fin 1024) : (V m c main_v24 : FVec Ideal S8192x1024 .bf16) (ix2 t k)
    = hid (ins m c) (ix3 ⟨t / 2048, by omega⟩ ⟨t % 2048, by omega⟩ k) := by
  rw [V24]; pointwise

theorem idx : ∀ t : Fin cfg0.N, win0_0.index t = ![0, t.val] ∧ win0_1.index t = ![0, 0] ∧ win0_2.index t = ![t.val, 0] :=
  (by decide +kernel : ∀ t : Fin grid0.N, _)

variable (t : Fin cfg0.N)

theorem i0 (r : Fin 8192) (j : Fin 256) (h : 256 * t.val + j.val < 5632) : (iblk m c 0 t : FVec Ideal S8192x256 .bf16) (ix2 r j)
    = (V m c main_v1 : FVec Ideal S8192x5632 .bf16) (ix2 r ⟨256 * t + j, h⟩) := by
  have ht : t.val < 22 := lt_of_lt_of_eq t.isLt N_0
  blk_point [iblk, idx t]

theorem i1 (r : Fin 8192) (k : Fin 1024) : (iblk m c 1 t : FVec Ideal S8192x1024 .bf16) (ix2 r k)
    = (V m c main_v24 : FVec Ideal S8192x1024 .bf16) (ix2 r k) := by
  have ht : t.val < 22 := lt_of_lt_of_eq t.isLt N_0
  blk_point [iblk, idx t]

theorem pay (a : FVec Ideal S8192x256 .bf16) (b : FVec Ideal S8192x1024 .bf16) (j : Fin 256) (k : Fin 1024) :
    k0_pay1 (F := Ideal) a b (ix2 j k) = ∑ r : Fin 8192, a (ix2 r j) * b (ix2 r k) := by
  pointwise [k0_pay1]

theorem entry_eq (I : Ins) (ct : FVec Ideal S4x2048x5632 .f32) (j : Fin 5632) (k : Fin 1024) :
    entry I ct j k = ∑ r : Fin 8192, ct (ix3 ⟨r / 2048, by omega⟩ ⟨r % 2048, by omega⟩ j) * hid I (ix3 ⟨r / 2048, by omega⟩ ⟨r % 2048, by omega⟩ k) :=
  (Down.sum_tokens fun b s => ct (ix3 b s j) * hid I (ix3 b s k)).symm

/-- The whole gradient. -/
def grad (I : Ins) (ct : FVec Ideal S4x2048x5632 .f32) : FVec Ideal S5632x1024 .bf16 :=
  fun i => entry I ct (i 0) (i 1)

theorem grad_at (I : Ins) (ct : FVec Ideal S4x2048x5632 .f32) (j : Fin 5632) (k : Fin 1024) :
    grad I ct (ix2 j k) = entry I ct j k := rfl

theorem tile (j : Fin 256) (k : Fin 1024) (h : 256 * t.val + j.val < 5632) :
    (out0_2 (iblk m c 0 t) (iblk m c 1 t) : FVec Ideal S256x1024 .bf16) (ix2 j k) = entry (ins m c) (ct m c) ⟨256 * t + j, h⟩ k := by
  frame_out [out0_2]
  rw [pay, entry_eq]
  refine Finset.sum_congr rfl fun r _ => ?_
  rw [i0 m c t r j h, i1 m c t r k, v1, v24]

theorem final : (dats m 0 c).arrAt 2 cfg0.N = grad (ins m c) (ct m c) := by
  refine (dats m 0 c).arrAt_eq_of_covers 2 _ (by decide +kernel) fun t hf y => ?_
  have ht : t.val < 22 := lt_of_lt_of_eq t.isLt N_0
  blk_simp
  rw [after0_2]
  have key : ∀ (j : Fin 256) (k : Fin 1024), (out0_2 (iblk m c 0 t) (iblk m c 1 t)) (ix2 j k) = grad (ins m c) (ct m c) ((win0_2.blk t).view.emb (ix2 j k)) := by
    intro j k
    have he : (win0_2.blk t).view.emb (ix2 j k) = ix2 ⟨256 * t.val + j.val, by omega⟩ k := by
      blk_point [idx t]
    rw [he, grad_at]
    exact tile m c t j k (by omega)
  have hy : y = ix2 (y 0) (y 1) := by funext a; fin_cases a <;> rfl
  rw [hy]
  exact key (y 0) (y 1)

theorem ref (I : Ins) (ct : FVec Ideal S4x2048x5632 .f32) (j : Fin 5632) (k : Fin 1024) :
    truncf .bf16 (transpose S5632x1024 [1, 0] (transpose S1024x5632 [1, 0] (Host.dotGeneral Cert.UpWeightReferenceIdeal.dot_S4x2048x5632_S4x2048x1024_S5632x1024_01_01_2_2_n_n none ct (hid I)) Cert.UpWeightReferenceIdeal.Gen.transposes_S5632x1024_S1024x5632_1_0) Cert.UpWeightReferenceIdeal.Gen.transposes_S1024x5632_S5632x1024_1_0) bitsLt_bf16_f32 (ix2 j k)
    = entry I ct j k := by
  pointwise
  rfl

theorem ref_grad (I : Ins) (ct : FVec Ideal S4x2048x5632 .f32) :
    truncf .bf16 (transpose S5632x1024 [1, 0] (transpose S1024x5632 [1, 0] (Host.dotGeneral Cert.UpWeightReferenceIdeal.dot_S4x2048x5632_S4x2048x1024_S5632x1024_01_01_2_2_n_n none ct (hid I)) Cert.UpWeightReferenceIdeal.Gen.transposes_S5632x1024_S1024x5632_1_0) Cert.UpWeightReferenceIdeal.Gen.transposes_S1024x5632_S5632x1024_1_0) bitsLt_bf16_f32
    = grad I ct := by
  funext i
  have hi : i = ix2 (i 0) (i 1) := by funext a; fin_cases a <;> rfl
  rw [hi]
  exact ref I ct (i 0) (i 1)

end Cert.Up

end
-- ==== Proof.WeightClaims.lean ====
/- The claims about the two gradients of the feed-forward weights, and the frames of their references. -/
module

public import proofs.«01_k».proof.Defs
public import proofs.«01_k».proof.Proof.DownValue
public import proofs.«01_k».proof.Proof.UpValue
public import Idealize.ShloMosaic.Adequacy
public import Idealize.ShloMosaic.Init

@[expose] public section

noncomputable section

namespace Cert.Proof

open Idealize.ShloMosaic Idealize.SL.Sem

theorem down_plain_frame : Cert.quiescent_DownWeightReferenceIdeal (hDownWeightReferenceIdeal := Cert.DownWeightReferenceIdeal.Gen.facts) := by
  intro m g _
  exact (θ_run _ _ _).mono (fun r h => ⟨fun c => (h c).2, sem_eq_zero_of_no_sems (by decide) r.2⟩) (Cert.DownWeightReferenceIdeal.Value.run m g)

/-- The kernel's gradient is the reference's, on any arguments. -/
theorem down_values : Cert.algebraic_DownWeightIdeal_DownWeightReferenceIdeal (hDownWeightIdeal := Cert.DownWeightIdeal.Gen.facts)
    (hDownWeightReferenceIdeal := Cert.DownWeightReferenceIdeal.Gen.facts) := by
  intro m g m' g' hpre hargs
  refine ⟨fun c => Cert.Down.grad (Cert.Down.gu m c) (Cert.Down.ct m c), ?_, ?_⟩
  · refine (θ_run _ _ _).mono (fun r h c => ?_) (Cert.DownWeightIdeal.Value.run_blocks m g)
    exact ⟨(h c).1.trans (Cert.Down.final m c), (h c).2⟩
  · refine (θ_run _ _ _).mono (fun r h c => ?_) (Cert.DownWeightReferenceIdeal.Value.run m' g')
    obtain ⟨r0, rest⟩ := h c
    obtain ⟨h0, h1, h2⟩ := hargs c
    refine ⟨?_, rest⟩
    rw [h0, h2] at r0
    exact r0.trans (Cert.Down.ref_grad _ _)

theorem up_plain_frame : Cert.quiescent_UpWeightReferenceIdeal (hUpWeightReferenceIdeal := Cert.UpWeightReferenceIdeal.Gen.facts) := by
  intro m g _
  exact (θ_run _ _ _).mono (fun r h => ⟨fun c => (h c).2, sem_eq_zero_of_no_sems (by decide) r.2⟩) (Cert.UpWeightReferenceIdeal.Value.run m g)

/-- The kernel's gradient is the reference's, on any arguments. -/
theorem up_values : Cert.algebraic_UpWeightIdeal_UpWeightReferenceIdeal (hUpWeightIdeal := Cert.UpWeightIdeal.Gen.facts)
    (hUpWeightReferenceIdeal := Cert.UpWeightReferenceIdeal.Gen.facts) := by
  intro m g m' g' hpre hargs
  refine ⟨fun c => Cert.Up.grad (Cert.Up.ins m c) (Cert.Up.ct m c), ?_, ?_⟩
  · refine (θ_run _ _ _).mono (fun r h c => ?_) (Cert.UpWeightIdeal.Value.run_blocks m g)
    exact ⟨(h c).1.trans (Cert.Up.final m c), (h c).2⟩
  · refine (θ_run _ _ _).mono (fun r h c => ?_) (Cert.UpWeightReferenceIdeal.Value.run m' g')
    obtain ⟨r0, rest⟩ := h c
    obtain ⟨h0, h1, h2, h3, h4, h5⟩ := hargs c
    refine ⟨?_, rest⟩
    rw [h0, h1, h2, h3, h5] at r0
    have e := Cert.Up.ref_grad (Cert.Up.ins m c) (Cert.Up.ct m c)
    unfold Cert.Up.hid Cert.Up.ins Cert.Up.ct at e
    exact r0.trans e

end Cert.Proof

end
-- ==== Proof.FwdSpec.lean ====
/- The forward half step at a token and a column, over the extended reals, and the logistic function by the
   hyperbolic tangent. -/
module

public import proofs.«01_k».proof.Proof.Consts
public import proofs.«01_k».proof.Proof.Gen.ForwardPassIdeal.Skeleton
public import Idealize.ShloMosaic.Lib.Pointwise

@[expose] public section

noncomputable section

namespace Cert.Fwd

open Idealize.ShloMosaic
open Cert.ForwardPassIdeal
open Cert.Consts

/-- The seven arguments. -/
structure Ins where
  x : FVec Ideal S4x2048x1024 .f32
  sh : FVec Ideal S4x1024 .f32
  sc : FVec Ideal S4x1024 .f32
  gate : FVec Ideal S4x1024 .f32
  gn : FVec Ideal S1024 .f32
  wgu : FVec Ideal S1024x5632 .f32
  wd : FVec Ideal S2816x1024 .f32

/-- A token's sequence, and its place there. -/
def bOf (T : Fin 8192) : Fin 4 := ⟨T / 2048, by omega⟩

def sOf (T : Fin 8192) : Fin 2048 := ⟨T % 2048, by omega⟩

/-- A gate column, and the up column that goes with it, of the joint product. -/
def gCol (j : Fin 2816) : Fin 5632 := ⟨j, by omega⟩

def uCol (j : Fin 2816) : Fin 5632 := ⟨2816 + j, by omega⟩

variable (I : Ins)

/-- The reciprocal root of the mean square of a token's row. -/
def rr (T : Fin 8192) : EReal :=
  Ideal.rsqrt (Ideal.div (∑ k : Fin 1024, I.x (ix3 (bOf T) (sOf T) k) * I.x (ix3 (bOf T) (sOf T) k)) (Ideal.ofBits .f32 0x44800000#32)
    + Ideal.ofBits .f32 0x358637BD#32)

/-- One more than the scale. -/
def sc1 (b : Fin 4) (k : Fin 1024) : EReal := 1 + I.sc (ix2 b k)

/-- The modulated norm. -/
def hid (T : Fin 8192) (k : Fin 1024) : EReal :=
  I.x (ix3 (bOf T) (sOf T) k) * rr I T * I.gn (ix1 k) * sc1 I (bOf T) k + I.sh (ix2 (bOf T) k)

/-- The joint up product. -/
def up (T : Fin 8192) (j : Fin 5632) : EReal := ∑ k : Fin 1024, hid I T k * I.wgu (ix2 k j)

/-- The logistic function. -/
def sg (x : EReal) : EReal :=
  Ideal.div 1 (1 + Ideal.exp (-x))

def silu (T : Fin 8192) (j : Fin 2816) : EReal := up I T (gCol j) * sg (up I T (gCol j))

def act (T : Fin 8192) (j : Fin 2816) : EReal := silu I T j * up I T (uCol j)

/-- The derivative of `silu · u` in the gate. -/
def dact (T : Fin 8192) (j : Fin 2816) : EReal :=
  up I T (uCol j) * (sg (up I T (gCol j)) + silu I T j * (1 - sg (up I T (gCol j))))

def out (T : Fin 8192) (k : Fin 1024) : EReal := ∑ j : Fin 2816, act I T j * I.wd (ix2 j k)

def res (T : Fin 8192) (k : Fin 1024) : EReal :=
  I.x (ix3 (bOf T) (sOf T) k) + Ideal.ofBits .f32 0x3F000000#32 * I.gate (ix2 (bOf T) k) * out I T k

theorem half_tanh (r : ℝ) : 1 / 2 * Real.tanh (1 / 2 * r) + 1 / 2 = 1 / (1 + Real.exp (-r)) := by
  have h1 : Real.exp (-r) = Real.exp (-(1 / 2 * r)) * Real.exp (-(1 / 2 * r)) := by
    rw [← Real.exp_add]; congr 1; ring
  have h2 : Real.exp (1 / 2 * r) * Real.exp (-(1 / 2 * r)) = 1 := by
    rw [← Real.exp_add, add_neg_cancel, Real.exp_zero]
  have hp := Real.exp_pos (1 / 2 * r)
  have hq := Real.exp_pos (-(1 / 2 * r))
  rw [Real.tanh_eq_sinh_div_cosh, Real.sinh_eq, Real.cosh_eq, h1]
  generalize Real.exp (1 / 2 * r) = p at *
  generalize Real.exp (-(1 / 2 * r)) = q at *
  have hpq : p + q ≠ 0 := by positivity
  have hqq : 1 + q * q ≠ 0 := by positivity
  field_simp
  linear_combination (2 * q) * h2

/-- The logistic function is half the hyperbolic tangent of half the argument, plus a half, everywhere. -/
theorem sg_tanh (x : EReal) :
    Ideal.ofBits .f32 0x3F000000#32 * Ideal.tanh (Ideal.ofBits .f32 0x3F000000#32 * x) + Ideal.ofBits .f32 0x3F000000#32 = sg x := by
  unfold sg
  rw [ofBits_half, ← EReal.coe_one]
  induction x using EReal.rec with
  | bot =>
    rw [EReal.coe_mul_bot_of_pos (by norm_num), EReal.neg_bot]
    show ((1 / 2 : ℝ) : EReal) * (-1) + ((1 / 2 : ℝ) : EReal) = Ideal.div ((1 : ℝ) : EReal) (((1 : ℝ) : EReal) + ⊤)
    rw [EReal.coe_add_top, Ideal.div, if_neg EReal.top_ne_zero, EReal.inv_top, mul_zero,
      show (-1 : EReal) = ((-1 : ℝ) : EReal) from rfl, ← EReal.coe_mul, ← EReal.coe_add]
    norm_num
  | top =>
    rw [EReal.coe_mul_top_of_pos (by norm_num), EReal.neg_top]
    show ((1 / 2 : ℝ) : EReal) * 1 + ((1 / 2 : ℝ) : EReal) = Ideal.div ((1 : ℝ) : EReal) (((1 : ℝ) : EReal) + 0)
    rw [add_zero, div_real (by norm_num), mul_one, ← EReal.coe_add]
    norm_num
  | coe r =>
    rw [← EReal.coe_mul, ← EReal.coe_neg]
    show ((1 / 2 : ℝ) : EReal) * ((Real.tanh (1 / 2 * r) : ℝ) : EReal) + ((1 / 2 : ℝ) : EReal)
      = Ideal.div ((1 : ℝ) : EReal) (((1 : ℝ) : EReal) + ((Real.exp (-r) : ℝ) : EReal))
    rw [← EReal.coe_add, div_real (by positivity), ← EReal.coe_mul, ← EReal.coe_add, half_tanh]

/-- The reference's order of the derivative's products. -/
theorem dact_ref (u g s : EReal) : u * (1 * s + g * 1 * (s * (1 - s))) = u * (s + g * s * (1 - s)) := by
  rw [one_mul, mul_one, mul_assoc]

end Cert.Fwd

end
-- ==== Proof.FwdTile.lean ====
/- The tiles that a point leaves: the modulated norm, and the three gated products, each written in 11 pieces. -/
module

public import proofs.«01_k».proof.Proof.FwdSpec
public import proofs.«01_k».proof.Proof.Gen.ForwardPassIdeal.Frame
public import Idealize.ShloMosaic.Lib.Pipeline.ValueKit
public import Idealize.ShloMosaic.Lib.Pointwise

@[expose] public section

set_option maxRecDepth 16384

noncomputable section

namespace Cert.Fwd.Ker

open Idealize.ShloMosaic Idealize.ShloMosaic.TcCoe Idealize.SL.Sem
open Cert.ForwardPassIdeal Cert.ForwardPassIdeal.Gen
open Cert.Fwd Cert.Consts

variable (m : (ℓ : Loc nD τ sig) → Buf (Elt Ideal) ℓ) (c : Dev nD)

/-- The arguments a run is given. -/
def ins : Ins where
  x := m ((c.tc : Thread nD τ).loc main_arg0)
  sh := m ((c.tc : Thread nD τ).loc main_arg1)
  sc := m ((c.tc : Thread nD τ).loc main_arg2)
  gate := m ((c.tc : Thread nD τ).loc main_arg3)
  gn := m ((c.tc : Thread nD τ).loc main_arg4)
  wgu := m ((c.tc : Thread nD τ).loc main_arg5)
  wd := m ((c.tc : Thread nD τ).loc main_arg6)

theorem V0 : V m c main_v0 = shapeCast S8192x1024 (ins m c).x shapeCasts_S4x2048x1024_S8192x1024 := by
  entry_read; rfl

theorem V1 : V m c main_v1 = shapeCast S1x1024 (ins m c).gn shapeCasts_S1024_S1x1024 := by
  entry_read; rfl

theorem V4 : V m c main_v4 = shapeCast S4x1x1024 (addf (broadcastInDim S4x1024 ![] bcast_S_S4x1024 (constant S_ .f32 0x3F800000#32)) (ins m c).sc) shapeCasts_S4x1024_S4x1x1024 := by
  entry_read; rfl

theorem V5 : V m c main_v5 = shapeCast S4x1x1024 (ins m c).sh shapeCasts_S4x1024_S4x1x1024 := by
  entry_read; rfl

theorem V7 : V m c main_v7 = truncf .bf16 (transpose S5632x1024 [1, 0] (ins m c).wgu transposes_S1024x5632_S5632x1024_1_0) bitsLt_bf16_f32 := by
  entry_read; rfl

theorem V8 : V m c main_v8 = truncf .bf16 (ins m c).wd bitsLt_bf16_f32 := by
  entry_read; rfl

theorem V9 : V m c main_v9 = shapeCast S4x1x1024 (ins m c).gate shapeCasts_S4x1024_S4x1x1024 := by
  entry_read; rfl

theorem v0 (T : Fin 8192) (k : Fin 1024) : (V m c main_v0 : FVec Ideal S8192x1024 .f32) (ix2 T k) = (ins m c).x (ix3 (bOf T) (sOf T) k) := by
  rw [V0]; pointwise; rfl

theorem v1 (e : Fin 1) (k : Fin 1024) : (V m c main_v1 : FVec Ideal S1x1024 .f32) (ix2 e k) = (ins m c).gn (ix1 k) := by
  rw [V1]; pointwise

theorem v4 (b : Fin 4) (e : Fin 1) (k : Fin 1024) : (V m c main_v4 : FVec Ideal S4x1x1024 .f32) (ix3 b e k) = sc1 (ins m c) b k := by
  rw [V4]; pointwise; rfl

theorem v5 (b : Fin 4) (e : Fin 1) (k : Fin 1024) : (V m c main_v5 : FVec Ideal S4x1x1024 .f32) (ix3 b e k) = (ins m c).sh (ix2 b k) := by
  rw [V5]; pointwise

theorem v7 (j : Fin 5632) (k : Fin 1024) : (V m c main_v7 : FVec Ideal S5632x1024 .bf16) (ix2 j k) = (ins m c).wgu (ix2 k j) := by
  rw [V7]; pointwise

theorem v8 (j : Fin 2816) (k : Fin 1024) : (V m c main_v8 : FVec Ideal S2816x1024 .bf16) (ix2 j k) = (ins m c).wd (ix2 j k) := by
  rw [V8]; pointwise

theorem v9 (b : Fin 4) (e : Fin 1) (k : Fin 1024) : (V m c main_v9 : FVec Ideal S4x1x1024 .f32) (ix3 b e k) = (ins m c).gate (ix2 b k) := by
  rw [V9]; pointwise

theorem idx : ∀ t : Fin cfg0.N, win0_0.index t = ![t.val, 0] ∧ win0_1.index t = ![0, 0] ∧ win0_2.index t = ![t.val / 4, 0, 0]
    ∧ win0_3.index t = ![t.val / 4, 0, 0] ∧ win0_4.index t = ![0, 0] ∧ win0_5.index t = ![0, 0] ∧ win0_6.index t = ![t.val / 4, 0, 0]
    ∧ win0_7.index t = ![t.val, 0] ∧ win0_8.index t = ![t.val, 0] ∧ win0_9.index t = ![t.val, 0] ∧ win0_10.index t = ![t.val, 0]
    ∧ win0_11.index t = ![t.val, 0] ∧ win0_12.index t = ![t.val, 0] :=
  (by decide +kernel : ∀ t : Fin grid0.N, _)

variable (t : Fin cfg0.N)

/-- A tile's row among all tokens. -/
def tok (r : Fin 512) : Fin 8192 := ⟨512 * t.val + r.val, by
  have ht : t.val < 16 := lt_of_lt_of_eq t.isLt N_0
  omega⟩

theorem b_tok (r : Fin 512) (h : t.val / 4 < 4) : (⟨t.val / 4, h⟩ : Fin 4) = bOf (tok t r) :=
  Fin.ext (by simp only [bOf, tok]; omega)

theorem i0 (r : Fin 512) (k : Fin 1024) : (iblk m c 0 t : FVec Ideal S512x1024 .f32) (ix2 r k) = (ins m c).x (ix3 (bOf (tok t r)) (sOf (tok t r)) k) := by
  rw [← v0]
  unfold tok
  blk_point [iblk, idx t]

theorem i1 (e : Fin 1) (k : Fin 1024) : (iblk m c 1 t : FVec Ideal S1x1024 .f32) (ix2 e k) = (ins m c).gn (ix1 k) := by
  rw [← v1 m c e]
  blk_point [iblk, idx t]

theorem i2 (e e1 : Fin 1) (k : Fin 1024) (r : Fin 512) : (iblk m c 2 t : FVec Ideal S1x1x1024 .f32) (ix3 e e1 k) = sc1 (ins m c) (bOf (tok t r)) k := by
  have ht : t.val < 16 := lt_of_lt_of_eq t.isLt N_0
  rw [← b_tok t r (by omega), ← v4 m c _ e1]
  blk_point [iblk, idx t]

theorem i3 (e e1 : Fin 1) (k : Fin 1024) (r : Fin 512) : (iblk m c 3 t : FVec Ideal S1x1x1024 .f32) (ix3 e e1 k) = (ins m c).sh (ix2 (bOf (tok t r)) k) := by
  have ht : t.val < 16 := lt_of_lt_of_eq t.isLt N_0
  rw [← b_tok t r (by omega), ← v5 m c _ e1]
  blk_point [iblk, idx t]

theorem i4 (j : Fin 5632) (k : Fin 1024) : (iblk m c 4 t : FVec Ideal S5632x1024 .bf16) (ix2 j k) = (ins m c).wgu (ix2 k j) := by
  rw [← v7]
  blk_point [iblk, idx t]

theorem i5 (j : Fin 2816) (k : Fin 1024) : (iblk m c 5 t : FVec Ideal S2816x1024 .bf16) (ix2 j k) = (ins m c).wd (ix2 j k) := by
  rw [← v8]
  blk_point [iblk, idx t]

theorem i6 (e e1 : Fin 1) (k : Fin 1024) (r : Fin 512) : (iblk m c 6 t : FVec Ideal S1x1x1024 .f32) (ix3 e e1 k) = (ins m c).gate (ix2 (bOf (tok t r)) k) := by
  have ht : t.val < 16 := lt_of_lt_of_eq t.isLt N_0
  rw [← b_tok t r (by omega), ← v9 m c _ e1]
  blk_point [iblk, idx t]

/-- The tile of the modulated norm. -/
def hTile : FVec Ideal S512x1024 .bf16 := k0_pay3 (iblk m c 0 t) (iblk m c 1 t) (iblk m c 2 t) (iblk m c 3 t)

theorem p3 (x : FVec Ideal S512x1024 .f32) (gn : FVec Ideal S1x1024 .f32) (sc sh : FVec Ideal S1x1x1024 .f32) (r : Fin 512) (k : Fin 1024) :
    k0_pay3 (F := Ideal) x gn sc sh (ix2 r k)
      = x (ix2 r k) * Ideal.rsqrt (Ideal.div (∑ k : Fin 1024, x (ix2 r k) * x (ix2 r k)) (Ideal.ofBits .f32 0x44800000#32)
          + Ideal.ofBits .f32 0x358637BD#32) * gn (ix2 0 k) * sc (ix3 0 0 k) + sh (ix3 0 0 k) := by
  pointwise [k0_pay3, k0_pay2]

theorem h_tile (r : Fin 512) (k : Fin 1024) : hTile m c t (ix2 r k) = hid (ins m c) (tok t r) k := by
  unfold hTile
  rw [p3, i1, i2 m c t 0 0 k r, i3 m c t 0 0 k r]
  simp only [i0]
  rfl

/-- A slice of the up product's weights. -/
def wPart (off : ℕ) (w : FVec Ideal S256x1024 .bf16) : Prop :=
  ∀ (j : Fin 256) (k : Fin 1024) (J : Fin 5632), J.val = off + j.val → w (ix2 j k) = (ins m c).wgu (ix2 k J)

theorem gp (off : ℕ) (w : FVec Ideal S256x1024 .bf16) (hw : wPart m c off w) (r : Fin 512) (j : Fin 256) (J : Fin 5632) (hJ : J.val = off + j.val) :
    k0_pay4 (F := Ideal) (hTile m c t) w (ix2 r j) = up (ins m c) (tok t r) J := by
  have hh := h_tile m c t r
  generalize hTile m c t = h at hh
  pointwise [k0_pay4]
  simp only [hh, hw j _ J hJ]
  rfl

theorem up_same (h : FVec Ideal S512x1024 .bf16) (w : FVec Ideal S256x1024 .bf16) : k0_pay6 (F := Ideal) (k0_pay5 h) w = k0_pay4 h w := rfl

theorem p9 (g : FVec Ideal S512x256 .f32) (h : FVec Ideal S512x1024 .bf16) (w : FVec Ideal S256x1024 .bf16) (r : Fin 512) (j : Fin 256) :
    k0_pay9 (F := Ideal) g (k0_pay5 h) w (ix2 r j) = g (ix2 r j) * sg (g (ix2 r j)) * k0_pay4 (F := Ideal) h w (ix2 r j) := by
  rw [← up_same, ← sg_tanh]
  generalize hu : k0_pay6 (F := Ideal) (k0_pay5 h) w = u
  pointwise [k0_pay9, k0_pay8, k0_pay7, hu]

theorem p10 (g : FVec Ideal S512x256 .f32) (r : Fin 512) (j : Fin 256) :
    k0_pay10 (F := Ideal) g (ix2 r j) = g (ix2 r j) * sg (g (ix2 r j)) := by
  rw [← sg_tanh]
  pointwise [k0_pay10, k0_pay8, k0_pay7]

theorem p11 (g : FVec Ideal S512x256 .f32) (h : FVec Ideal S512x1024 .bf16) (w : FVec Ideal S256x1024 .bf16) (r : Fin 512) (j : Fin 256) :
    k0_pay11 (F := Ideal) g (k0_pay5 h) w (ix2 r j)
      = k0_pay4 (F := Ideal) h w (ix2 r j) * (sg (g (ix2 r j)) + g (ix2 r j) * sg (g (ix2 r j)) * (1 - sg (g (ix2 r j)))) := by
  rw [← up_same, ← sg_tanh]
  generalize hu : k0_pay6 (F := Ideal) (k0_pay5 h) w = u
  pointwise [k0_pay11, k0_pay8, k0_pay7, hu]

theorem c_act (off off' : ℕ) (ho : off' = 2816 + off) (w w' : FVec Ideal S256x1024 .bf16) (hw : wPart m c off w) (hw' : wPart m c off' w')
    (x : S512x256.Idx) (T : Fin 8192) (j : Fin 2816) (hT : T.val = 512 * t.val + (x 0).val) (hj : j.val = off + (x 1).val) :
    k0_pay9 (F := Ideal) (k0_pay4 (hTile m c t) w) (k0_pay5 (hTile m c t)) w' x = act (ins m c) T j := by
  obtain ⟨x0, x1, rfl⟩ : ∃ (x0 : Fin 512) (x1 : Fin 256), x = ix2 x0 x1 := ⟨x 0, x 1, by funext a; fin_cases a <;> rfl⟩
  have hT' : T.val = 512 * t.val + x0.val := hT
  have hj' : j.val = off + x1.val := hj
  obtain rfl : T = tok t x0 := Fin.ext hT'
  rw [p9, gp m c t off w hw x0 x1 (gCol j) hj', gp m c t off' w' hw' x0 x1 (uCol j) (by simp only [uCol]; omega)]
  rfl

theorem c_silu (off : ℕ) (w : FVec Ideal S256x1024 .bf16) (hw : wPart m c off w)
    (x : S512x256.Idx) (T : Fin 8192) (j : Fin 2816) (hT : T.val = 512 * t.val + (x 0).val) (hj : j.val = off + (x 1).val) :
    k0_pay10 (F := Ideal) (k0_pay4 (hTile m c t) w) x = silu (ins m c) T j := by
  obtain ⟨x0, x1, rfl⟩ : ∃ (x0 : Fin 512) (x1 : Fin 256), x = ix2 x0 x1 := ⟨x 0, x 1, by funext a; fin_cases a <;> rfl⟩
  have hT' : T.val = 512 * t.val + x0.val := hT
  have hj' : j.val = off + x1.val := hj
  obtain rfl : T = tok t x0 := Fin.ext hT'
  rw [p10, gp m c t off w hw x0 x1 (gCol j) hj']
  rfl

theorem c_dact (off off' : ℕ) (ho : off' = 2816 + off) (w w' : FVec Ideal S256x1024 .bf16) (hw : wPart m c off w) (hw' : wPart m c off' w')
    (x : S512x256.Idx) (T : Fin 8192) (j : Fin 2816) (hT : T.val = 512 * t.val + (x 0).val) (hj : j.val = off + (x 1).val) :
    k0_pay11 (F := Ideal) (k0_pay4 (hTile m c t) w) (k0_pay5 (hTile m c t)) w' x = dact (ins m c) T j := by
  obtain ⟨x0, x1, rfl⟩ : ∃ (x0 : Fin 512) (x1 : Fin 256), x = ix2 x0 x1 := ⟨x 0, x 1, by funext a; fin_cases a <;> rfl⟩
  have hT' : T.val = 512 * t.val + x0.val := hT
  have hj' : j.val = off + x1.val := hj
  obtain rfl : T = tok t x0 := Fin.ext hT'
  rw [p11, gp m c t off w hw x0 x1 (gCol j) hj', gp m c t off' w' hw' x0 x1 (uCol j) (by simp only [uCol]; omega)]
  rfl

theorem w_0 : wPart m c 0 (View.ld (iblk m c 4 t) (Rect.unit ![0, 0] ![256, 1024] inb_S5632x1024_S256x1024_0_0)) := by
  intro j k J hJ
  obtain ⟨J, hl⟩ := J
  obtain rfl : J = 0 + j.val := hJ
  rw [← i4 m c t _ k]
  pointwise
  blk_ext

theorem w_1 : wPart m c 256 (View.ld (iblk m c 4 t) (Rect.unit ![256, 0] ![256, 1024] inb_S5632x1024_S256x1024_256_0)) := by
  intro j k J hJ
  obtain ⟨J, hl⟩ := J
  obtain rfl : J = 256 + j.val := hJ
  rw [← i4 m c t _ k]
  pointwise
  blk_ext

theorem w_2 : wPart m c 512 (View.ld (iblk m c 4 t) (Rect.unit ![512, 0] ![256, 1024] inb_S5632x1024_S256x1024_512_0)) := by
  intro j k J hJ
  obtain ⟨J, hl⟩ := J
  obtain rfl : J = 512 + j.val := hJ
  rw [← i4 m c t _ k]
  pointwise
  blk_ext

theorem w_3 : wPart m c 768 (View.ld (iblk m c 4 t) (Rect.unit ![768, 0] ![256, 1024] inb_S5632x1024_S256x1024_768_0)) := by
  intro j k J hJ
  obtain ⟨J, hl⟩ := J
  obtain rfl : J = 768 + j.val := hJ
  rw [← i4 m c t _ k]
  pointwise
  blk_ext

theorem w_4 : wPart m c 1024 (View.ld (iblk m c 4 t) (Rect.unit ![1024, 0] ![256, 1024] inb_S5632x1024_S256x1024_1024_0)) := by
  intro j k J hJ
  obtain ⟨J, hl⟩ := J
  obtain rfl : J = 1024 + j.val := hJ
  rw [← i4 m c t _ k]
  pointwise
  blk_ext

theorem w_5 : wPart m c 1280 (View.ld (iblk m c 4 t) (Rect.unit ![1280, 0] ![256, 1024] inb_S5632x1024_S256x1024_1280_0)) := by
  intro j k J hJ
  obtain ⟨J, hl⟩ := J
  obtain rfl : J = 1280 + j.val := hJ
  rw [← i4 m c t _ k]
  pointwise
  blk_ext

theorem w_6 : wPart m c 1536 (View.ld (iblk m c 4 t) (Rect.unit ![1536, 0] ![256, 1024] inb_S5632x1024_S256x1024_1536_0)) := by
  intro j k J hJ
  obtain ⟨J, hl⟩ := J
  obtain rfl : J = 1536 + j.val := hJ
  rw [← i4 m c t _ k]
  pointwise
  blk_ext

theorem w_7 : wPart m c 1792 (View.ld (iblk m c 4 t) (Rect.unit ![1792, 0] ![256, 1024] inb_S5632x1024_S256x1024_1792_0)) := by
  intro j k J hJ
  obtain ⟨J, hl⟩ := J
  obtain rfl : J = 1792 + j.val := hJ
  rw [← i4 m c t _ k]
  pointwise
  blk_ext

theorem w_8 : wPart m c 2048 (View.ld (iblk m c 4 t) (Rect.unit ![2048, 0] ![256, 1024] inb_S5632x1024_S256x1024_2048_0)) := by
  intro j k J hJ
  obtain ⟨J, hl⟩ := J
  obtain rfl : J = 2048 + j.val := hJ
  rw [← i4 m c t _ k]
  pointwise
  blk_ext

theorem w_9 : wPart m c 2304 (View.ld (iblk m c 4 t) (Rect.unit ![2304, 0] ![256, 1024] inb_S5632x1024_S256x1024_2304_0)) := by
  intro j k J hJ
  obtain ⟨J, hl⟩ := J
  obtain rfl : J = 2304 + j.val := hJ
  rw [← i4 m c t _ k]
  pointwise
  blk_ext

theorem w_10 : wPart m c 2560 (View.ld (iblk m c 4 t) (Rect.unit ![2560, 0] ![256, 1024] inb_S5632x1024_S256x1024_2560_0)) := by
  intro j k J hJ
  obtain ⟨J, hl⟩ := J
  obtain rfl : J = 2560 + j.val := hJ
  rw [← i4 m c t _ k]
  pointwise
  blk_ext

theorem w_11 : wPart m c 2816 (View.ld (iblk m c 4 t) (Rect.unit ![2816, 0] ![256, 1024] inb_S5632x1024_S256x1024_2816_0)) := by
  intro j k J hJ
  obtain ⟨J, hl⟩ := J
  obtain rfl : J = 2816 + j.val := hJ
  rw [← i4 m c t _ k]
  pointwise
  blk_ext

theorem w_12 : wPart m c 3072 (View.ld (iblk m c 4 t) (Rect.unit ![3072, 0] ![256, 1024] inb_S5632x1024_S256x1024_3072_0)) := by
  intro j k J hJ
  obtain ⟨J, hl⟩ := J
  obtain rfl : J = 3072 + j.val := hJ
  rw [← i4 m c t _ k]
  pointwise
  blk_ext

theorem w_13 : wPart m c 3328 (View.ld (iblk m c 4 t) (Rect.unit ![3328, 0] ![256, 1024] inb_S5632x1024_S256x1024_3328_0)) := by
  intro j k J hJ
  obtain ⟨J, hl⟩ := J
  obtain rfl : J = 3328 + j.val := hJ
  rw [← i4 m c t _ k]
  pointwise
  blk_ext

theorem w_14 : wPart m c 3584 (View.ld (iblk m c 4 t) (Rect.unit ![3584, 0] ![256, 1024] inb_S5632x1024_S256x1024_3584_0)) := by
  intro j k J hJ
  obtain ⟨J, hl⟩ := J
  obtain rfl : J = 3584 + j.val := hJ
  rw [← i4 m c t _ k]
  pointwise
  blk_ext

theorem w_15 : wPart m c 3840 (View.ld (iblk m c 4 t) (Rect.unit ![3840, 0] ![256, 1024] inb_S5632x1024_S256x1024_3840_0)) := by
  intro j k J hJ
  obtain ⟨J, hl⟩ := J
  obtain rfl : J = 3840 + j.val := hJ
  rw [← i4 m c t _ k]
  pointwise
  blk_ext

theorem w_16 : wPart m c 4096 (View.ld (iblk m c 4 t) (Rect.unit ![4096, 0] ![256, 1024] inb_S5632x1024_S256x1024_4096_0)) := by
  intro j k J hJ
  obtain ⟨J, hl⟩ := J
  obtain rfl : J = 4096 + j.val := hJ
  rw [← i4 m c t _ k]
  pointwise
  blk_ext

theorem w_17 : wPart m c 4352 (View.ld (iblk m c 4 t) (Rect.unit ![4352, 0] ![256, 1024] inb_S5632x1024_S256x1024_4352_0)) := by
  intro j k J hJ
  obtain ⟨J, hl⟩ := J
  obtain rfl : J = 4352 + j.val := hJ
  rw [← i4 m c t _ k]
  pointwise
  blk_ext

theorem w_18 : wPart m c 4608 (View.ld (iblk m c 4 t) (Rect.unit ![4608, 0] ![256, 1024] inb_S5632x1024_S256x1024_4608_0)) := by
  intro j k J hJ
  obtain ⟨J, hl⟩ := J
  obtain rfl : J = 4608 + j.val := hJ
  rw [← i4 m c t _ k]
  pointwise
  blk_ext

theorem w_19 : wPart m c 4864 (View.ld (iblk m c 4 t) (Rect.unit ![4864, 0] ![256, 1024] inb_S5632x1024_S256x1024_4864_0)) := by
  intro j k J hJ
  obtain ⟨J, hl⟩ := J
  obtain rfl : J = 4864 + j.val := hJ
  rw [← i4 m c t _ k]
  pointwise
  blk_ext

theorem w_20 : wPart m c 5120 (View.ld (iblk m c 4 t) (Rect.unit ![5120, 0] ![256, 1024] inb_S5632x1024_S256x1024_5120_0)) := by
  intro j k J hJ
  obtain ⟨J, hl⟩ := J
  obtain rfl : J = 5120 + j.val := hJ
  rw [← i4 m c t _ k]
  pointwise
  blk_ext

theorem w_21 : wPart m c 5376 (View.ld (iblk m c 4 t) (Rect.unit ![5376, 0] ![256, 1024] inb_S5632x1024_S256x1024_5376_0)) := by
  intro j k J hJ
  obtain ⟨J, hl⟩ := J
  obtain rfl : J = 5376 + j.val := hJ
  rw [← i4 m c t _ k]
  pointwise
  blk_ext

/-- The pieces of the gated product, last written first. -/
def actPieces : List (View.Piece (Elt Ideal) S512x2816 .bf16) :=
  [⟨Rect.unit ![0, 2560] ![512, 256] inb_S512x2816_S512x256_0_2560, k0_pay83 (k0_pay78 (hTile m c t) (View.ld (iblk m c 4 t) (Rect.unit ![2560, 0] ![256, 1024] inb_S5632x1024_S256x1024_2560_0))) (k0_pay79 (hTile m c t) (View.ld (iblk m c 4 t) (Rect.unit ![5376, 0] ![256, 1024] inb_S5632x1024_S256x1024_5376_0))) (k0_pay80 (hTile m c t) (View.ld (iblk m c 4 t) (Rect.unit ![2560, 0] ![256, 1024] inb_S5632x1024_S256x1024_2560_0)))⟩,
    ⟨Rect.unit ![0, 2304] ![512, 256] inb_S512x2816_S512x256_0_2304, k0_pay75 (k0_pay71 (hTile m c t) (View.ld (iblk m c 4 t) (Rect.unit ![2304, 0] ![256, 1024] inb_S5632x1024_S256x1024_2304_0))) (k0_pay72 (hTile m c t) (View.ld (iblk m c 4 t) (Rect.unit ![5120, 0] ![256, 1024] inb_S5632x1024_S256x1024_5120_0)))⟩,
    ⟨Rect.unit ![0, 2048] ![512, 256] inb_S512x2816_S512x256_0_2048, k0_pay68 (k0_pay64 (hTile m c t) (View.ld (iblk m c 4 t) (Rect.unit ![2048, 0] ![256, 1024] inb_S5632x1024_S256x1024_2048_0))) (hTile m c t) (View.ld (iblk m c 4 t) (Rect.unit ![4864, 0] ![256, 1024] inb_S5632x1024_S256x1024_4864_0))⟩,
    ⟨Rect.unit ![0, 1792] ![512, 256] inb_S512x2816_S512x256_0_1792, k0_pay61 (k0_pay56 (hTile m c t)) (View.ld (iblk m c 4 t) (Rect.unit ![1792, 0] ![256, 1024] inb_S5632x1024_S256x1024_1792_0)) (hTile m c t) (View.ld (iblk m c 4 t) (Rect.unit ![4608, 0] ![256, 1024] inb_S5632x1024_S256x1024_4608_0))⟩,
    ⟨Rect.unit ![0, 1536] ![512, 256] inb_S512x2816_S512x256_0_1536, k0_pay53 (hTile m c t) (View.ld (iblk m c 4 t) (Rect.unit ![1536, 0] ![256, 1024] inb_S5632x1024_S256x1024_1536_0)) (hTile m c t) (View.ld (iblk m c 4 t) (Rect.unit ![4352, 0] ![256, 1024] inb_S5632x1024_S256x1024_4352_0))⟩,
    ⟨Rect.unit ![0, 1280] ![512, 256] inb_S512x2816_S512x256_0_1280, k0_pay46 (hTile m c t) (View.ld (iblk m c 4 t) (Rect.unit ![1280, 0] ![256, 1024] inb_S5632x1024_S256x1024_1280_0)) (hTile m c t) (View.ld (iblk m c 4 t) (Rect.unit ![4096, 0] ![256, 1024] inb_S5632x1024_S256x1024_4096_0))⟩,
    ⟨Rect.unit ![0, 1024] ![512, 256] inb_S512x2816_S512x256_0_1024, k0_pay38 (hTile m c t) (View.ld (iblk m c 4 t) (Rect.unit ![1024, 0] ![256, 1024] inb_S5632x1024_S256x1024_1024_0)) (hTile m c t) (View.ld (iblk m c 4 t) (Rect.unit ![3840, 0] ![256, 1024] inb_S5632x1024_S256x1024_3840_0))⟩,
    ⟨Rect.unit ![0, 768] ![512, 256] inb_S512x2816_S512x256_0_768, k0_pay31 (hTile m c t) (View.ld (iblk m c 4 t) (Rect.unit ![768, 0] ![256, 1024] inb_S5632x1024_S256x1024_768_0)) (hTile m c t) (View.ld (iblk m c 4 t) (Rect.unit ![3584, 0] ![256, 1024] inb_S5632x1024_S256x1024_3584_0))⟩,
    ⟨Rect.unit ![0, 512] ![512, 256] inb_S512x2816_S512x256_0_512, k0_pay24 (k0_pay21 (hTile m c t) (View.ld (iblk m c 4 t) (Rect.unit ![3328, 0] ![256, 1024] inb_S5632x1024_S256x1024_3328_0))) (k0_pay23 (hTile m c t) (View.ld (iblk m c 4 t) (Rect.unit ![512, 0] ![256, 1024] inb_S5632x1024_S256x1024_512_0)))⟩,
    ⟨Rect.unit ![0, 256] ![512, 256] inb_S512x2816_S512x256_0_256, k0_pay17 (k0_pay12 (hTile m c t) (View.ld (iblk m c 4 t) (Rect.unit ![256, 0] ![256, 1024] inb_S5632x1024_S256x1024_256_0))) (k0_pay13 (hTile m c t) (View.ld (iblk m c 4 t) (Rect.unit ![3072, 0] ![256, 1024] inb_S5632x1024_S256x1024_3072_0))) (k0_pay14 (hTile m c t) (View.ld (iblk m c 4 t) (Rect.unit ![256, 0] ![256, 1024] inb_S5632x1024_S256x1024_256_0)))⟩,
    ⟨Rect.unit ![0, 0] ![512, 256] inb_S512x2816_S512x256_0_0, k0_pay9 (k0_pay4 (hTile m c t) (View.ld (iblk m c 4 t) (Rect.unit ![0, 0] ![256, 1024] inb_S5632x1024_S256x1024_0_0))) (k0_pay5 (hTile m c t)) (View.ld (iblk m c 4 t) (Rect.unit ![2816, 0] ![256, 1024] inb_S5632x1024_S256x1024_2816_0))⟩]

def actTile : FVec Ideal S512x2816 .bf16 := View.canon (actPieces m c t)

theorem act_tile (y : S512x2816.Idx) (T : Fin 8192) (j : Fin 2816) (hT : T.val = 512 * t.val + (y 0).val) (hj : j.val = (y 1).val) :
    actTile m c t y = act (ins m c) T j := by
  unfold actTile actPieces
  canon_tiles x h
  case piece0 => exact c_act m c t 2560 5376 rfl _ _ (w_10 m c t) (w_21 m c t) x T j (by rw [hT, h0]) (by rw [hj, h1])
  case piece1 => exact c_act m c t 2304 5120 rfl _ _ (w_9 m c t) (w_20 m c t) x T j (by rw [hT, h0]) (by rw [hj, h1])
  case piece2 => exact c_act m c t 2048 4864 rfl _ _ (w_8 m c t) (w_19 m c t) x T j (by rw [hT, h0]) (by rw [hj, h1])
  case piece3 => exact c_act m c t 1792 4608 rfl _ _ (w_7 m c t) (w_18 m c t) x T j (by rw [hT, h0]) (by rw [hj, h1])
  case piece4 => exact c_act m c t 1536 4352 rfl _ _ (w_6 m c t) (w_17 m c t) x T j (by rw [hT, h0]) (by rw [hj, h1])
  case piece5 => exact c_act m c t 1280 4096 rfl _ _ (w_5 m c t) (w_16 m c t) x T j (by rw [hT, h0]) (by rw [hj, h1])
  case piece6 => exact c_act m c t 1024 3840 rfl _ _ (w_4 m c t) (w_15 m c t) x T j (by rw [hT, h0]) (by rw [hj, h1])
  case piece7 => exact c_act m c t 768 3584 rfl _ _ (w_3 m c t) (w_14 m c t) x T j (by rw [hT, h0]) (by rw [hj, h1])
  case piece8 => exact c_act m c t 512 3328 rfl _ _ (w_2 m c t) (w_13 m c t) x T j (by rw [hT, h0]) (by rw [hj, h1])
  case piece9 => exact c_act m c t 256 3072 rfl _ _ (w_1 m c t) (w_12 m c t) x T j (by rw [hT, h0]) (by rw [hj, h1])
  case piece10 => exact c_act m c t 0 2816 rfl _ _ (w_0 m c t) (w_11 m c t) x T j (by rw [hT, h0]) (by rw [hj, h1, Nat.zero_add])

theorem act_tile2 (r : Fin 512) (j : Fin 2816) : actTile m c t (ix2 r j) = act (ins m c) (tok t r) j :=
  act_tile m c t (ix2 r j) (tok t r) j rfl rfl

/-- The pieces of the activation, last written first. -/
def siluPieces : List (View.Piece (Elt Ideal) S512x2816 .bf16) :=
  [⟨Rect.unit ![0, 2560] ![512, 256] inb_S512x2816_S512x256_0_2560, k0_pay84 (k0_pay78 (hTile m c t) (View.ld (iblk m c 4 t) (Rect.unit ![2560, 0] ![256, 1024] inb_S5632x1024_S256x1024_2560_0))) (k0_pay80 (hTile m c t) (View.ld (iblk m c 4 t) (Rect.unit ![2560, 0] ![256, 1024] inb_S5632x1024_S256x1024_2560_0)))⟩,
    ⟨Rect.unit ![0, 2304] ![512, 256] inb_S512x2816_S512x256_0_2304, k0_pay76 (k0_pay71 (hTile m c t) (View.ld (iblk m c 4 t) (Rect.unit ![2304, 0] ![256, 1024] inb_S5632x1024_S256x1024_2304_0)))⟩,
    ⟨Rect.unit ![0, 2048] ![512, 256] inb_S512x2816_S512x256_0_2048, k0_pay69 (k0_pay64 (hTile m c t) (View.ld (iblk m c 4 t) (Rect.unit ![2048, 0] ![256, 1024] inb_S5632x1024_S256x1024_2048_0)))⟩,
    ⟨Rect.unit ![0, 1792] ![512, 256] inb_S512x2816_S512x256_0_1792, k0_pay62 (k0_pay56 (hTile m c t)) (View.ld (iblk m c 4 t) (Rect.unit ![1792, 0] ![256, 1024] inb_S5632x1024_S256x1024_1792_0))⟩,
    ⟨Rect.unit ![0, 1536] ![512, 256] inb_S512x2816_S512x256_0_1536, k0_pay54 (hTile m c t) (View.ld (iblk m c 4 t) (Rect.unit ![1536, 0] ![256, 1024] inb_S5632x1024_S256x1024_1536_0))⟩,
    ⟨Rect.unit ![0, 1280] ![512, 256] inb_S512x2816_S512x256_0_1280, k0_pay47 (hTile m c t) (View.ld (iblk m c 4 t) (Rect.unit ![1280, 0] ![256, 1024] inb_S5632x1024_S256x1024_1280_0))⟩,
    ⟨Rect.unit ![0, 1024] ![512, 256] inb_S512x2816_S512x256_0_1024, k0_pay39 (hTile m c t) (View.ld (iblk m c 4 t) (Rect.unit ![1024, 0] ![256, 1024] inb_S5632x1024_S256x1024_1024_0))⟩,
    ⟨Rect.unit ![0, 768] ![512, 256] inb_S512x2816_S512x256_0_768, k0_pay32 (hTile m c t) (View.ld (iblk m c 4 t) (Rect.unit ![768, 0] ![256, 1024] inb_S5632x1024_S256x1024_768_0))⟩,
    ⟨Rect.unit ![0, 512] ![512, 256] inb_S512x2816_S512x256_0_512, k0_pay25 (k0_pay23 (hTile m c t) (View.ld (iblk m c 4 t) (Rect.unit ![512, 0] ![256, 1024] inb_S5632x1024_S256x1024_512_0)))⟩,
    ⟨Rect.unit ![0, 256] ![512, 256] inb_S512x2816_S512x256_0_256, k0_pay18 (k0_pay12 (hTile m c t) (View.ld (iblk m c 4 t) (Rect.unit ![256, 0] ![256, 1024] inb_S5632x1024_S256x1024_256_0))) (k0_pay14 (hTile m c t) (View.ld (iblk m c 4 t) (Rect.unit ![256, 0] ![256, 1024] inb_S5632x1024_S256x1024_256_0)))⟩,
    ⟨Rect.unit ![0, 0] ![512, 256] inb_S512x2816_S512x256_0_0, k0_pay10 (k0_pay4 (hTile m c t) (View.ld (iblk m c 4 t) (Rect.unit ![0, 0] ![256, 1024] inb_S5632x1024_S256x1024_0_0)))⟩]

def siluTile : FVec Ideal S512x2816 .bf16 := View.canon (siluPieces m c t)

theorem silu_tile (y : S512x2816.Idx) (T : Fin 8192) (j : Fin 2816) (hT : T.val = 512 * t.val + (y 0).val) (hj : j.val = (y 1).val) :
    siluTile m c t y = silu (ins m c) T j := by
  unfold siluTile siluPieces
  canon_tiles x h
  case piece0 => exact c_silu m c t 2560 _ (w_10 m c t) x T j (by rw [hT, h0]) (by rw [hj, h1])
  case piece1 => exact c_silu m c t 2304 _ (w_9 m c t) x T j (by rw [hT, h0]) (by rw [hj, h1])
  case piece2 => exact c_silu m c t 2048 _ (w_8 m c t) x T j (by rw [hT, h0]) (by rw [hj, h1])
  case piece3 => exact c_silu m c t 1792 _ (w_7 m c t) x T j (by rw [hT, h0]) (by rw [hj, h1])
  case piece4 => exact c_silu m c t 1536 _ (w_6 m c t) x T j (by rw [hT, h0]) (by rw [hj, h1])
  case piece5 => exact c_silu m c t 1280 _ (w_5 m c t) x T j (by rw [hT, h0]) (by rw [hj, h1])
  case piece6 => exact c_silu m c t 1024 _ (w_4 m c t) x T j (by rw [hT, h0]) (by rw [hj, h1])
  case piece7 => exact c_silu m c t 768 _ (w_3 m c t) x T j (by rw [hT, h0]) (by rw [hj, h1])
  case piece8 => exact c_silu m c t 512 _ (w_2 m c t) x T j (by rw [hT, h0]) (by rw [hj, h1])
  case piece9 => exact c_silu m c t 256 _ (w_1 m c t) x T j (by rw [hT, h0]) (by rw [hj, h1])
  case piece10 => exact c_silu m c t 0 _ (w_0 m c t) x T j (by rw [hT, h0]) (by rw [hj, h1, Nat.zero_add])

theorem silu_tile2 (r : Fin 512) (j : Fin 2816) : siluTile m c t (ix2 r j) = silu (ins m c) (tok t r) j :=
  silu_tile m c t (ix2 r j) (tok t r) j rfl rfl

/-- The pieces of the derivative, last written first. -/
def dactPieces : List (View.Piece (Elt Ideal) S512x2816 .bf16) :=
  [⟨Rect.unit ![0, 2560] ![512, 256] inb_S512x2816_S512x256_0_2560, k0_pay85 (k0_pay78 (hTile m c t) (View.ld (iblk m c 4 t) (Rect.unit ![2560, 0] ![256, 1024] inb_S5632x1024_S256x1024_2560_0))) (k0_pay79 (hTile m c t) (View.ld (iblk m c 4 t) (Rect.unit ![5376, 0] ![256, 1024] inb_S5632x1024_S256x1024_5376_0))) (k0_pay80 (hTile m c t) (View.ld (iblk m c 4 t) (Rect.unit ![2560, 0] ![256, 1024] inb_S5632x1024_S256x1024_2560_0)))⟩,
    ⟨Rect.unit ![0, 2304] ![512, 256] inb_S512x2816_S512x256_0_2304, k0_pay77 (k0_pay71 (hTile m c t) (View.ld (iblk m c 4 t) (Rect.unit ![2304, 0] ![256, 1024] inb_S5632x1024_S256x1024_2304_0))) (k0_pay72 (hTile m c t) (View.ld (iblk m c 4 t) (Rect.unit ![5120, 0] ![256, 1024] inb_S5632x1024_S256x1024_5120_0)))⟩,
    ⟨Rect.unit ![0, 2048] ![512, 256] inb_S512x2816_S512x256_0_2048, k0_pay70 (k0_pay64 (hTile m c t) (View.ld (iblk m c 4 t) (Rect.unit ![2048, 0] ![256, 1024] inb_S5632x1024_S256x1024_2048_0))) (hTile m c t) (View.ld (iblk m c 4 t) (Rect.unit ![4864, 0] ![256, 1024] inb_S5632x1024_S256x1024_4864_0))⟩,
    ⟨Rect.unit ![0, 1792] ![512, 256] inb_S512x2816_S512x256_0_1792, k0_pay63 (k0_pay56 (hTile m c t)) (View.ld (iblk m c 4 t) (Rect.unit ![1792, 0] ![256, 1024] inb_S5632x1024_S256x1024_1792_0)) (hTile m c t) (View.ld (iblk m c 4 t) (Rect.unit ![4608, 0] ![256, 1024] inb_S5632x1024_S256x1024_4608_0))⟩,
    ⟨Rect.unit ![0, 1536] ![512, 256] inb_S512x2816_S512x256_0_1536, k0_pay55 (hTile m c t) (View.ld (iblk m c 4 t) (Rect.unit ![1536, 0] ![256, 1024] inb_S5632x1024_S256x1024_1536_0)) (hTile m c t) (View.ld (iblk m c 4 t) (Rect.unit ![4352, 0] ![256, 1024] inb_S5632x1024_S256x1024_4352_0))⟩,
    ⟨Rect.unit ![0, 1280] ![512, 256] inb_S512x2816_S512x256_0_1280, k0_pay48 (hTile m c t) (View.ld (iblk m c 4 t) (Rect.unit ![1280, 0] ![256, 1024] inb_S5632x1024_S256x1024_1280_0)) (hTile m c t) (View.ld (iblk m c 4 t) (Rect.unit ![4096, 0] ![256, 1024] inb_S5632x1024_S256x1024_4096_0))⟩,
    ⟨Rect.unit ![0, 1024] ![512, 256] inb_S512x2816_S512x256_0_1024, k0_pay41 (k0_pay35 (hTile m c t) (View.ld (iblk m c 4 t) (Rect.unit ![3840, 0] ![256, 1024] inb_S5632x1024_S256x1024_3840_0))) (k0_pay36 (hTile m c t) (View.ld (iblk m c 4 t) (Rect.unit ![1024, 0] ![256, 1024] inb_S5632x1024_S256x1024_1024_0))) (k0_pay37 (hTile m c t) (View.ld (iblk m c 4 t) (Rect.unit ![1024, 0] ![256, 1024] inb_S5632x1024_S256x1024_1024_0))) (k0_pay40 (hTile m c t) (View.ld (iblk m c 4 t) (Rect.unit ![1024, 0] ![256, 1024] inb_S5632x1024_S256x1024_1024_0)))⟩,
    ⟨Rect.unit ![0, 768] ![512, 256] inb_S512x2816_S512x256_0_768, k0_pay33 (k0_pay28 (hTile m c t) (View.ld (iblk m c 4 t) (Rect.unit ![3584, 0] ![256, 1024] inb_S5632x1024_S256x1024_3584_0))) (k0_pay29 (hTile m c t) (View.ld (iblk m c 4 t) (Rect.unit ![768, 0] ![256, 1024] inb_S5632x1024_S256x1024_768_0))) (k0_pay30 (hTile m c t) (View.ld (iblk m c 4 t) (Rect.unit ![768, 0] ![256, 1024] inb_S5632x1024_S256x1024_768_0)))⟩,
    ⟨Rect.unit ![0, 512] ![512, 256] inb_S512x2816_S512x256_0_512, k0_pay26 (k0_pay21 (hTile m c t) (View.ld (iblk m c 4 t) (Rect.unit ![3328, 0] ![256, 1024] inb_S5632x1024_S256x1024_3328_0))) (k0_pay22 (hTile m c t) (View.ld (iblk m c 4 t) (Rect.unit ![512, 0] ![256, 1024] inb_S5632x1024_S256x1024_512_0))) (k0_pay23 (hTile m c t) (View.ld (iblk m c 4 t) (Rect.unit ![512, 0] ![256, 1024] inb_S5632x1024_S256x1024_512_0)))⟩,
    ⟨Rect.unit ![0, 256] ![512, 256] inb_S512x2816_S512x256_0_256, k0_pay19 (k0_pay12 (hTile m c t) (View.ld (iblk m c 4 t) (Rect.unit ![256, 0] ![256, 1024] inb_S5632x1024_S256x1024_256_0))) (k0_pay13 (hTile m c t) (View.ld (iblk m c 4 t) (Rect.unit ![3072, 0] ![256, 1024] inb_S5632x1024_S256x1024_3072_0))) (k0_pay14 (hTile m c t) (View.ld (iblk m c 4 t) (Rect.unit ![256, 0] ![256, 1024] inb_S5632x1024_S256x1024_256_0)))⟩,
    ⟨Rect.unit ![0, 0] ![512, 256] inb_S512x2816_S512x256_0_0, k0_pay11 (k0_pay4 (hTile m c t) (View.ld (iblk m c 4 t) (Rect.unit ![0, 0] ![256, 1024] inb_S5632x1024_S256x1024_0_0))) (k0_pay5 (hTile m c t)) (View.ld (iblk m c 4 t) (Rect.unit ![2816, 0] ![256, 1024] inb_S5632x1024_S256x1024_2816_0))⟩]

def dactTile : FVec Ideal S512x2816 .bf16 := View.canon (dactPieces m c t)

theorem dact_tile (y : S512x2816.Idx) (T : Fin 8192) (j : Fin 2816) (hT : T.val = 512 * t.val + (y 0).val) (hj : j.val = (y 1).val) :
    dactTile m c t y = dact (ins m c) T j := by
  unfold dactTile dactPieces
  canon_tiles x h
  case piece0 => exact c_dact m c t 2560 5376 rfl _ _ (w_10 m c t) (w_21 m c t) x T j (by rw [hT, h0]) (by rw [hj, h1])
  case piece1 => exact c_dact m c t 2304 5120 rfl _ _ (w_9 m c t) (w_20 m c t) x T j (by rw [hT, h0]) (by rw [hj, h1])
  case piece2 => exact c_dact m c t 2048 4864 rfl _ _ (w_8 m c t) (w_19 m c t) x T j (by rw [hT, h0]) (by rw [hj, h1])
  case piece3 => exact c_dact m c t 1792 4608 rfl _ _ (w_7 m c t) (w_18 m c t) x T j (by rw [hT, h0]) (by rw [hj, h1])
  case piece4 => exact c_dact m c t 1536 4352 rfl _ _ (w_6 m c t) (w_17 m c t) x T j (by rw [hT, h0]) (by rw [hj, h1])
  case piece5 => exact c_dact m c t 1280 4096 rfl _ _ (w_5 m c t) (w_16 m c t) x T j (by rw [hT, h0]) (by rw [hj, h1])
  case piece6 => exact c_dact m c t 1024 3840 rfl _ _ (w_4 m c t) (w_15 m c t) x T j (by rw [hT, h0]) (by rw [hj, h1])
  case piece7 => exact c_dact m c t 768 3584 rfl _ _ (w_3 m c t) (w_14 m c t) x T j (by rw [hT, h0]) (by rw [hj, h1])
  case piece8 => exact c_dact m c t 512 3328 rfl _ _ (w_2 m c t) (w_13 m c t) x T j (by rw [hT, h0]) (by rw [hj, h1])
  case piece9 => exact c_dact m c t 256 3072 rfl _ _ (w_1 m c t) (w_12 m c t) x T j (by rw [hT, h0]) (by rw [hj, h1])
  case piece10 => exact c_dact m c t 0 2816 rfl _ _ (w_0 m c t) (w_11 m c t) x T j (by rw [hT, h0]) (by rw [hj, h1, Nat.zero_add])

theorem dact_tile2 (r : Fin 512) (j : Fin 2816) : dactTile m c t (ix2 r j) = dact (ins m c) (tok t r) j :=
  dact_tile m c t (ix2 r j) (tok t r) j rfl rfl

theorem act_back {L : List (View.Piece (Elt Ideal) S512x2816 .bf16)} (h : L = actPieces m c t) :
    (ms0_8 t).view.readCov L (Rect.unit ![0, 0] ![512, 2816] inb_S512x2816_S512x2816_0_0).toLoadRect = actTile m c t := by
  subst h
  rw [View.readCov_eq_canon']
  funext j
  exact congrArg (actTile m c t) (by funext a; apply Fin.ext; fin_cases a <;> simp [LoadRect.idx, Rect.toLoadRect])

theorem p86 (a : FVec Ideal S512x2816 .bf16) (w : FVec Ideal S2816x1024 .bf16) (r : Fin 512) (k : Fin 1024) :
    k0_pay86 (F := Ideal) a w (ix2 r k) = ∑ j : Fin 2816, a (ix2 r j) * w (ix2 j k) := by
  pointwise [k0_pay86]

theorem f_tile (r : Fin 512) (k : Fin 1024) : k0_pay86 (F := Ideal) (actTile m c t) (iblk m c 5 t) (ix2 r k) = out (ins m c) (tok t r) k := by
  rw [p86]
  unfold out
  refine Finset.sum_congr rfl fun j _ => ?_
  rw [act_tile2, i5]

theorem p87 (a : FVec Ideal S512x2816 .bf16) (w : FVec Ideal S2816x1024 .bf16) (i : S512x1024.Idx) :
    k0_pay87 (F := Ideal) a w i = k0_pay86 (F := Ideal) a w i := rfl

theorem p1 (x f : FVec Ideal S512x1024 .f32) (g : FVec Ideal S1x1x1024 .f32) (r : Fin 512) (k : Fin 1024) :
    k0_pay1 (F := Ideal) (k0_pay2 x) f (k0_pay88 g) (ix2 r k) = x (ix2 r k) + Ideal.ofBits .f32 0x3F000000#32 * g (ix3 0 0 k) * f (ix2 r k) := by
  pointwise [k0_pay1, k0_pay2, k0_pay88]

theorem x_tile (r : Fin 512) (k : Fin 1024) :
    k0_pay1 (F := Ideal) (k0_pay2 (iblk m c 0 t)) (k0_pay86 (actTile m c t) (iblk m c 5 t)) (k0_pay88 (iblk m c 6 t)) (ix2 r k) = res (ins m c) (tok t r) k := by
  rw [p1, f_tile, i0, i6 m c t 0 0 k r]
  rfl

end Cert.Fwd.Ker

end
-- ==== Proof.FwdFinal.lean ====
/- The six result arrays of the forward pass. -/
module

public import proofs.«01_k».proof.Proof.FwdTile
public import proofs.«01_k».proof.Proof.Gen.ForwardPassIdeal.Value

@[expose] public section

set_option maxRecDepth 16384

noncomputable section

namespace Cert.Fwd.Ker

open Idealize.ShloMosaic Idealize.ShloMosaic.TcCoe Idealize.SL.Sem
open Cert.ForwardPassIdeal Cert.ForwardPassIdeal.Gen
open Cert.Fwd Cert.Consts

variable (m : (ℓ : Loc nD τ sig) → Buf (Elt Ideal) ℓ) (c : Dev nD)

/-- An array of one row per token, by its entries. -/
def rows {n : ℕ} {f : FTy} (h : Fin 8192 → Fin n → EReal) : FVec Ideal ⟨2, ![8192, n]⟩ f :=
  fun i => h (i 0) (i 1)

theorem rows_at {n : ℕ} {f : FTy} (h : Fin 8192 → Fin n → EReal) (T : Fin 8192) (k : Fin n) : rows (f := f) h (ix2 T k) = h T k := rfl

theorem rows_of {n : ℕ} {f : FTy} (h : Fin 8192 → Fin n → EReal) (v : FVec Ideal ⟨2, ![8192, n]⟩ f) (hv : ∀ T k, v (ix2 T k) = h T k) : v = rows h := by
  funext i
  have hi : i = ix2 (i 0) (i 1) := by funext a; fin_cases a <;> rfl
  rw [hi]
  exact hv (i 0) (i 1)

theorem act_of (t : Fin cfg0.N) {L : List (View.Piece (Elt Ideal) S512x2816 .bf16)} (h : L = actPieces m c t) : View.canon L = actTile m c t := by
  subst h; rfl

theorem silu_of (t : Fin cfg0.N) {L : List (View.Piece (Elt Ideal) S512x2816 .bf16)} (h : L = siluPieces m c t) : View.canon L = siluTile m c t := by
  subst h; rfl

theorem dact_of (t : Fin cfg0.N) {L : List (View.Piece (Elt Ideal) S512x2816 .bf16)} (h : L = dactPieces m c t) : View.canon L = dactTile m c t := by
  subst h; rfl

theorem o7 (t : Fin cfg0.N) : (outsAt0 m c t).1 = hTile m c t := by
  unfold outsAt0
  funext y
  frame_out
  rfl

theorem final7 : (dats m 0 c).arrAt 7 cfg0.N = rows (n := 1024) (f := .bf16) (hid (ins m c)) := by
  refine (dats m 0 c).arrAt_eq_of_covers 7 _ (by decide +kernel) fun t hf y => ?_
  have ht : t.val < 16 := lt_of_lt_of_eq t.isLt N_0
  blk_simp
  rw [after0_7]
  have key : ∀ (r : Fin 512) (k : Fin 1024), (outsAt0 m c t).1 (ix2 r k) = rows (n := 1024) (f := .bf16) (hid (ins m c)) ((win0_7.blk t).view.emb (ix2 r k)) := by
    intro r k
    have he : (win0_7.blk t).view.emb (ix2 r k) = ix2 (tok t r) k := by
      unfold tok
      blk_point [idx t]
    rw [he, rows_at, o7]
    exact h_tile m c t r k
  have hy : y = ix2 (y 0) (y 1) := by funext a; fin_cases a <;> rfl
  rw [hy]
  exact key (y 0) (y 1)

theorem o8 (t : Fin cfg0.N) : (outsAt0 m c t).2.1 = actTile m c t := by
  unfold outsAt0
  funext y
  frame_out
  exact congrFun (act_of m c t (by unfold actPieces hTile; rfl)) y

theorem final8 : (dats m 0 c).arrAt 8 cfg0.N = rows (n := 2816) (f := .bf16) (act (ins m c)) := by
  refine (dats m 0 c).arrAt_eq_of_covers 8 _ (by decide +kernel) fun t hf y => ?_
  have ht : t.val < 16 := lt_of_lt_of_eq t.isLt N_0
  blk_simp
  rw [after0_8]
  have key : ∀ (r : Fin 512) (k : Fin 2816), (outsAt0 m c t).2.1 (ix2 r k) = rows (n := 2816) (f := .bf16) (act (ins m c)) ((win0_8.blk t).view.emb (ix2 r k)) := by
    intro r k
    have he : (win0_8.blk t).view.emb (ix2 r k) = ix2 (tok t r) k := by
      unfold tok
      blk_point [idx t]
    rw [he, rows_at, o8]
    exact act_tile2 m c t r k
  have hy : y = ix2 (y 0) (y 1) := by funext a; fin_cases a <;> rfl
  rw [hy]
  exact key (y 0) (y 1)

theorem o9 (t : Fin cfg0.N) : (outsAt0 m c t).2.2.1 = siluTile m c t := by
  unfold outsAt0
  funext y
  frame_out
  exact congrFun (silu_of m c t (by unfold siluPieces hTile; rfl)) y

theorem final9 : (dats m 0 c).arrAt 9 cfg0.N = rows (n := 2816) (f := .bf16) (silu (ins m c)) := by
  refine (dats m 0 c).arrAt_eq_of_covers 9 _ (by decide +kernel) fun t hf y => ?_
  have ht : t.val < 16 := lt_of_lt_of_eq t.isLt N_0
  blk_simp
  rw [after0_9]
  have key : ∀ (r : Fin 512) (k : Fin 2816), (outsAt0 m c t).2.2.1 (ix2 r k) = rows (n := 2816) (f := .bf16) (silu (ins m c)) ((win0_9.blk t).view.emb (ix2 r k)) := by
    intro r k
    have he : (win0_9.blk t).view.emb (ix2 r k) = ix2 (tok t r) k := by
      unfold tok
      blk_point [idx t]
    rw [he, rows_at, o9]
    exact silu_tile2 m c t r k
  have hy : y = ix2 (y 0) (y 1) := by funext a; fin_cases a <;> rfl
  rw [hy]
  exact key (y 0) (y 1)

theorem o10 (t : Fin cfg0.N) : (outsAt0 m c t).2.2.2.1 = dactTile m c t := by
  unfold outsAt0
  funext y
  frame_out
  exact congrFun (dact_of m c t (by unfold dactPieces hTile; rfl)) y

theorem final10 : (dats m 0 c).arrAt 10 cfg0.N = rows (n := 2816) (f := .bf16) (dact (ins m c)) := by
  refine (dats m 0 c).arrAt_eq_of_covers 10 _ (by decide +kernel) fun t hf y => ?_
  have ht : t.val < 16 := lt_of_lt_of_eq t.isLt N_0
  blk_simp
  rw [after0_10]
  have key : ∀ (r : Fin 512) (k : Fin 2816), (outsAt0 m c t).2.2.2.1 (ix2 r k) = rows (n := 2816) (f := .bf16) (dact (ins m c)) ((win0_10.blk t).view.emb (ix2 r k)) := by
    intro r k
    have he : (win0_10.blk t).view.emb (ix2 r k) = ix2 (tok t r) k := by
      unfold tok
      blk_point [idx t]
    rw [he, rows_at, o10]
    exact dact_tile2 m c t r k
  have hy : y = ix2 (y 0) (y 1) := by funext a; fin_cases a <;> rfl
  rw [hy]
  exact key (y 0) (y 1)

theorem o11 (t : Fin cfg0.N) : (outsAt0 m c t).2.2.2.2.1 = k0_pay1 (F := Ideal) (k0_pay2 (iblk m c 0 t)) (k0_pay86 (actTile m c t) (iblk m c 5 t)) (k0_pay88 (iblk m c 6 t)) := by
  unfold outsAt0
  funext y
  frame_out
  rw [act_back m c t (by unfold actPieces hTile; rfl)]
  try rfl

theorem final11 : (dats m 0 c).arrAt 11 cfg0.N = rows (n := 1024) (f := .f32) (res (ins m c)) := by
  refine (dats m 0 c).arrAt_eq_of_covers 11 _ (by decide +kernel) fun t hf y => ?_
  have ht : t.val < 16 := lt_of_lt_of_eq t.isLt N_0
  blk_simp
  rw [after0_11]
  have key : ∀ (r : Fin 512) (k : Fin 1024), (outsAt0 m c t).2.2.2.2.1 (ix2 r k) = rows (n := 1024) (f := .f32) (res (ins m c)) ((win0_11.blk t).view.emb (ix2 r k)) := by
    intro r k
    have he : (win0_11.blk t).view.emb (ix2 r k) = ix2 (tok t r) k := by
      unfold tok
      blk_point [idx t]
    rw [he, rows_at, o11]
    exact x_tile m c t r k
  have hy : y = ix2 (y 0) (y 1) := by funext a; fin_cases a <;> rfl
  rw [hy]
  exact key (y 0) (y 1)

theorem o12 (t : Fin cfg0.N) : (outsAt0 m c t).2.2.2.2.2 = k0_pay87 (F := Ideal) (actTile m c t) (iblk m c 5 t) := by
  unfold outsAt0
  funext y
  frame_out
  rw [act_back m c t (by unfold actPieces hTile; rfl)]
  try rfl

theorem final12 : (dats m 0 c).arrAt 12 cfg0.N = rows (n := 1024) (f := .bf16) (out (ins m c)) := by
  refine (dats m 0 c).arrAt_eq_of_covers 12 _ (by decide +kernel) fun t hf y => ?_
  have ht : t.val < 16 := lt_of_lt_of_eq t.isLt N_0
  blk_simp
  rw [after0_12]
  have key : ∀ (r : Fin 512) (k : Fin 1024), (outsAt0 m c t).2.2.2.2.2 (ix2 r k) = rows (n := 1024) (f := .bf16) (out (ins m c)) ((win0_12.blk t).view.emb (ix2 r k)) := by
    intro r k
    have he : (win0_12.blk t).view.emb (ix2 r k) = ix2 (tok t r) k := by
      unfold tok
      blk_point [idx t]
    rw [he, rows_at, o12]
    exact (p87 _ _ _).trans (f_tile m c t r k)
  have hy : y = ix2 (y 0) (y 1) := by funext a; fin_cases a <;> rfl
  rw [hy]
  exact key (y 0) (y 1)

end Cert.Fwd.Ker

end
-- ==== Proof.FwdRef.lean ====
/- The reference's results of the forward half step, at an index. -/
module

public import proofs.«01_k».proof.Proof.FwdSpec
public import proofs.«01_k».proof.Proof.Gen.ForwardPassReferenceIdeal.Run

@[expose] public section

set_option maxRecDepth 16384

noncomputable section

namespace Cert.Fwd.Ref

open Idealize.ShloMosaic Idealize.ShloMosaic.TcCoe Idealize.SL.Sem
open Cert.ForwardPassReferenceIdeal Cert.ForwardPassReferenceIdeal.Gen Cert.ForwardPassReferenceIdeal.Value
open Cert.Fwd Cert.Consts

variable (I : Ins)

def cH : FVec Ideal S4x2048x1024 .f32 :=
  addf (mulf (mulf (mulf I.x (broadcastInDim S4x2048x1024 ![0, 1, 2] bcast_S4x2048x1_S4x2048x1024_0_1_2 (Host.rsqrt (addf (Host.divf (broadcastInDim S4x2048x1 ![0, 1] bcast_S4x2048_S4x2048x1_0_1 (Host.reduceAdd (mulf I.x I.x) (constant S_ .f32 0x00000000#32) reducesTo_S4x2048x1024_S4x2048_d2 h_S_)) (broadcastInDim S4x2048x1 ![] bcast_S_S4x2048x1 (constant S_ .f32 0x44800000#32))) (broadcastInDim S4x2048x1 ![] bcast_S_S4x2048x1 (constant S_ .f32 0x358637BD#32)))))) (broadcastInDim S4x2048x1024 ![0, 1, 2] bcast_S1x1x1024_S4x2048x1024_0_1_2 (broadcastInDim S1x1x1024 ![2] bcast_S1024_S1x1x1024_2 I.gn))) (broadcastInDim S4x2048x1024 ![0, 1, 2] bcast_S4x1x1024_S4x2048x1024_0_1_2 (addf (broadcastInDim S4x1x1024 ![] bcast_S_S4x1x1024 (constant S_ .f32 0x3F800000#32)) (broadcastInDim S4x1x1024 ![0, 2] bcast_S4x1024_S4x1x1024_0_2 I.sc)))) (broadcastInDim S4x2048x1024 ![0, 1, 2] bcast_S4x1x1024_S4x2048x1024_0_1_2 (broadcastInDim S4x1x1024 ![0, 2] bcast_S4x1024_S4x1x1024_0_2 I.sh))

def sGu (h : FVec Ideal S4x2048x1024 .f32) (w : FVec Ideal S1024x5632 .f32) : FVec Ideal S4x2048x5632 .f32 :=
  Host.dotGeneral dot_S4x2048x1024_S1024x5632_S4x2048x5632_2_0_01_1_n_n none h w

def sG (gu : FVec Ideal S4x2048x5632 .f32) : FVec Ideal S4x2048x2816 .f32 :=
  extractStridedSlice S4x2048x2816 ![0, 0, 0] gu slices_S4x2048x5632_S4x2048x2816_0_0_0

def sU (gu : FVec Ideal S4x2048x5632 .f32) : FVec Ideal S4x2048x2816 .f32 :=
  extractStridedSlice S4x2048x2816 ![0, 0, 2816] gu slices_S4x2048x5632_S4x2048x2816_0_0_2816

def sSig (g : FVec Ideal S4x2048x2816 .f32) : FVec Ideal S4x2048x2816 .f32 :=
  Host.divf (broadcastInDim S4x2048x2816 ![] bcast_S_S4x2048x2816 (constant S_ .f32 0x3F800000#32)) (addf (broadcastInDim S4x2048x2816 ![] bcast_S_S4x2048x2816 (constant S_ .f32 0x3F800000#32)) (Host.exp (Host.negf g)))

def sF (g s u : FVec Ideal S4x2048x2816 .f32) (w : FVec Ideal S2816x1024 .f32) : FVec Ideal S4x2048x1024 .f32 :=
  Host.dotGeneral dot_S4x2048x2816_S2816x1024_S4x2048x1024_2_0_01_1_n_n none (mulf (mulf g s) u) w

def cGu : FVec Ideal S4x2048x5632 .f32 := sGu (cH I) I.wgu
def cG : FVec Ideal S4x2048x2816 .f32 := sG (cGu I)
def cU : FVec Ideal S4x2048x2816 .f32 := sU (cGu I)
def cSig : FVec Ideal S4x2048x2816 .f32 := sSig (cG I)
def cF : FVec Ideal S4x2048x1024 .f32 := sF (cG I) (cSig I) (cU I) I.wd

def oH (h : FVec Ideal S4x2048x1024 .f32) : FVec Ideal S8192x1024 .bf16 :=
  truncf .bf16 (shapeCast _ h shapeCasts_S4x2048x1024_S8192x1024) bitsLt_bf16_f32

def oAct (g s u : FVec Ideal S4x2048x2816 .f32) : FVec Ideal S8192x2816 .bf16 :=
  truncf .bf16 (shapeCast _ (mulf (mulf g s) u) shapeCasts_S4x2048x2816_S8192x2816) bitsLt_bf16_f32

def oSilu (g s : FVec Ideal S4x2048x2816 .f32) : FVec Ideal S8192x2816 .bf16 :=
  truncf .bf16 (shapeCast _ (mulf g s) shapeCasts_S4x2048x2816_S8192x2816) bitsLt_bf16_f32

def oDact (g s u : FVec Ideal S4x2048x2816 .f32) : FVec Ideal S8192x2816 .bf16 :=
  truncf .bf16 (shapeCast _ (mulf u (addf (mulf (broadcastInDim S4x2048x2816 ![] bcast_S_S4x2048x2816 (constant S_ .f32 0x3F800000#32)) s) (mulf (mulf g (broadcastInDim S4x2048x2816 ![] bcast_S_S4x2048x2816 (constant S_ .f32 0x3F800000#32))) (mulf s (subf (broadcastInDim S4x2048x2816 ![] bcast_S_S4x2048x2816 (constant S_ .f32 0x3F800000#32)) s))))) shapeCasts_S4x2048x2816_S8192x2816) bitsLt_bf16_f32

def oRes (x : FVec Ideal S4x2048x1024 .f32) (gate : FVec Ideal S4x1024 .f32) (f : FVec Ideal S4x2048x1024 .f32) : FVec Ideal S8192x1024 .f32 :=
  shapeCast _ (addf x (mulf (broadcastInDim S4x2048x1024 ![0, 1, 2] bcast_S4x1x1024_S4x2048x1024_0_1_2 (mulf (broadcastInDim S4x1x1024 ![] bcast_S_S4x1x1024 (constant S_ .f32 0x3F000000#32)) (broadcastInDim S4x1x1024 ![0, 2] bcast_S4x1024_S4x1x1024_0_2 gate))) f)) shapeCasts_S4x2048x1024_S8192x1024

def oF (f : FVec Ideal S4x2048x1024 .f32) : FVec Ideal S8192x1024 .bf16 :=
  truncf .bf16 (shapeCast _ f shapeCasts_S4x2048x1024_S8192x1024) bitsLt_bf16_f32

theorem tok (b : Fin 4) (s : Fin 2048) (T : Fin 8192) (h : T.val = b * 2048 + s) : bOf T = b ∧ sOf T = s :=
  ⟨Fin.ext (by simp only [bOf]; omega), Fin.ext (by simp only [sOf]; omega)⟩

theorem cH_eq (T : Fin 8192) (k : Fin 1024) : cH I (ix3 (bOf T) (sOf T) k) = hid I T k := by
  pointwise [cH]
  rfl

theorem cGu_eq (T : Fin 8192) (j : Fin 5632) : cGu I (ix3 (bOf T) (sOf T) j) = up I T j := by
  unfold cGu
  have h := cH_eq I T
  generalize cH I = hv at h
  pointwise [sGu]
  simp only [h]
  rfl

theorem cG_eq (T : Fin 8192) (j : Fin 2816) : cG I (ix3 (bOf T) (sOf T) j) = up I T (gCol j) := by
  rw [← cGu_eq]
  unfold cG
  generalize cGu I = hv
  pointwise [sG]
  rfl

theorem cU_eq (T : Fin 8192) (j : Fin 2816) : cU I (ix3 (bOf T) (sOf T) j) = up I T (uCol j) := by
  rw [← cGu_eq]
  unfold cU
  generalize cGu I = hv
  pointwise [sU]
  rfl

theorem cSig_eq (T : Fin 8192) (j : Fin 2816) : cSig I (ix3 (bOf T) (sOf T) j) = sg (up I T (gCol j)) := by
  rw [← cG_eq]
  unfold cSig
  generalize cG I = hv
  pointwise [sSig]
  rfl

theorem cF_eq (T : Fin 8192) (k : Fin 1024) : cF I (ix3 (bOf T) (sOf T) k) = out I T k := by
  unfold cF
  have hg := cG_eq I T
  have hs := cSig_eq I T
  have hu := cU_eq I T
  generalize cG I = g at *
  generalize cSig I = s at *
  generalize cU I = u at *
  pointwise [sF]
  simp only [hg, hs, hu]
  rfl

theorem oH_eq (T : Fin 8192) (k : Fin 1024) : oH (cH I) (ix2 T k) = hid I T k := by
  rw [← cH_eq]
  generalize cH I = hv
  pointwise [oH]
  rfl

theorem oSilu_eq (T : Fin 8192) (j : Fin 2816) : oSilu (cG I) (cSig I) (ix2 T j) = silu I T j := by
  unfold silu
  rw [← cSig_eq, ← cG_eq]
  generalize cG I = g
  generalize cSig I = s
  pointwise [oSilu]
  rfl

theorem oAct_eq (T : Fin 8192) (j : Fin 2816) : oAct (cG I) (cSig I) (cU I) (ix2 T j) = act I T j := by
  unfold act silu
  rw [← cSig_eq, ← cU_eq, ← cG_eq]
  generalize cG I = g
  generalize cSig I = s
  generalize cU I = u
  pointwise [oAct]
  rfl

theorem oDact_eq (T : Fin 8192) (j : Fin 2816) : oDact (cG I) (cSig I) (cU I) (ix2 T j) = dact I T j := by
  unfold dact silu
  rw [← cSig_eq, ← cU_eq, ← cG_eq]
  generalize cG I = g
  generalize cSig I = s
  generalize cU I = u
  rw [← dact_ref]
  pointwise [oDact]
  rfl

theorem oRes_eq (T : Fin 8192) (k : Fin 1024) : oRes I.x I.gate (cF I) (ix2 T k) = res I T k := by
  unfold res
  rw [← cF_eq]
  generalize cF I = f
  pointwise [oRes]
  rfl

theorem oF_eq (T : Fin 8192) (k : Fin 1024) : oF (cF I) (ix2 T k) = out I T k := by
  rw [← cF_eq]
  generalize cF I = f
  pointwise [oF]
  rfl

variable (m : (ℓ : Loc nD τ sig) → Buf (Elt Ideal) ℓ) (c : Dev nD)

/-- The arguments a run is given. -/
def ins : Ins where
  x := m ((c.tc : Thread nD τ).loc main_arg0)
  sh := m ((c.tc : Thread nD τ).loc main_arg1)
  sc := m ((c.tc : Thread nD τ).loc main_arg2)
  gate := m ((c.tc : Thread nD τ).loc main_arg3)
  gn := m ((c.tc : Thread nD τ).loc main_arg4)
  wgu := m ((c.tc : Thread nD τ).loc main_arg5)
  wd := m ((c.tc : Thread nD τ).loc main_arg6)

theorem res1 : res_main_v43 m c = oAct (cG (ins m c)) (cSig (ins m c)) (cU (ins m c)) := by unfold res_main_v43; rfl

theorem res3 : res_main_v47 m c = oDact (cG (ins m c)) (cSig (ins m c)) (cU (ins m c)) := by unfold res_main_v47; rfl

theorem res4 : res_main_v48 m c = oRes (ins m c).x (ins m c).gate (cF (ins m c)) := by unfold res_main_v48; rfl

theorem res5 : res_main_v50 m c = oF (cF (ins m c)) := by unfold res_main_v50; rfl

end Cert.Fwd.Ref

end
-- ==== Proof.FwdClaim.lean ====
/- The claim about the forward pass of the feed-forward block, and the frame of its reference. -/
module

public import proofs.«01_k».proof.Defs
public import proofs.«01_k».proof.Proof.FwdFinal
public import proofs.«01_k».proof.Proof.FwdRef
public import Idealize.ShloMosaic.Adequacy
public import Idealize.ShloMosaic.Init

@[expose] public section

noncomputable section

namespace Cert.Proof

open Idealize.ShloMosaic Idealize.SL.Sem Cert.Fwd

theorem forward_plain_frame : Cert.quiescent_ForwardPassReferenceIdeal (hForwardPassReferenceIdeal := Cert.ForwardPassReferenceIdeal.Gen.facts) := by
  intro m g _
  exact (θ_run _ _ _).mono (fun r h => ⟨fun c => (h c).2.2.2.2.2.2, sem_eq_zero_of_no_sems (by decide) r.2⟩) (Cert.ForwardPassReferenceIdeal.Value.run m g)

/-- The arguments of the two programs are the same arrays. -/
theorem forward_same_ins
    (m : (ℓ : Loc Cert.ForwardPassIdeal.nD Cert.ForwardPassIdeal.τ Cert.ForwardPassIdeal.sig) → Buf (Elt Ideal) ℓ)
    (m' : (ℓ : Loc Cert.ForwardPassReferenceIdeal.nD Cert.ForwardPassReferenceIdeal.τ Cert.ForwardPassReferenceIdeal.sig) → Buf (Elt Ideal) ℓ)
    (c : Dev Cert.ForwardPassIdeal.nD)
    (h0 : m' ((c.tc : Thread Cert.ForwardPassReferenceIdeal.nD Cert.ForwardPassReferenceIdeal.τ).loc Cert.ForwardPassReferenceIdeal.main_arg0) = m ((c.tc : Thread Cert.ForwardPassIdeal.nD Cert.ForwardPassIdeal.τ).loc Cert.ForwardPassIdeal.main_arg0))
    (h1 : m' ((c.tc : Thread Cert.ForwardPassReferenceIdeal.nD Cert.ForwardPassReferenceIdeal.τ).loc Cert.ForwardPassReferenceIdeal.main_arg1) = m ((c.tc : Thread Cert.ForwardPassIdeal.nD Cert.ForwardPassIdeal.τ).loc Cert.ForwardPassIdeal.main_arg1))
    (h2 : m' ((c.tc : Thread Cert.ForwardPassReferenceIdeal.nD Cert.ForwardPassReferenceIdeal.τ).loc Cert.ForwardPassReferenceIdeal.main_arg2) = m ((c.tc : Thread Cert.ForwardPassIdeal.nD Cert.ForwardPassIdeal.τ).loc Cert.ForwardPassIdeal.main_arg2))
    (h3 : m' ((c.tc : Thread Cert.ForwardPassReferenceIdeal.nD Cert.ForwardPassReferenceIdeal.τ).loc Cert.ForwardPassReferenceIdeal.main_arg3) = m ((c.tc : Thread Cert.ForwardPassIdeal.nD Cert.ForwardPassIdeal.τ).loc Cert.ForwardPassIdeal.main_arg3))
    (h4 : m' ((c.tc : Thread Cert.ForwardPassReferenceIdeal.nD Cert.ForwardPassReferenceIdeal.τ).loc Cert.ForwardPassReferenceIdeal.main_arg4) = m ((c.tc : Thread Cert.ForwardPassIdeal.nD Cert.ForwardPassIdeal.τ).loc Cert.ForwardPassIdeal.main_arg4))
    (h5 : m' ((c.tc : Thread Cert.ForwardPassReferenceIdeal.nD Cert.ForwardPassReferenceIdeal.τ).loc Cert.ForwardPassReferenceIdeal.main_arg5) = m ((c.tc : Thread Cert.ForwardPassIdeal.nD Cert.ForwardPassIdeal.τ).loc Cert.ForwardPassIdeal.main_arg5))
    (h6 : m' ((c.tc : Thread Cert.ForwardPassReferenceIdeal.nD Cert.ForwardPassReferenceIdeal.τ).loc Cert.ForwardPassReferenceIdeal.main_arg6) = m ((c.tc : Thread Cert.ForwardPassIdeal.nD Cert.ForwardPassIdeal.τ).loc Cert.ForwardPassIdeal.main_arg6)) :
    Ref.ins m' c = Ker.ins m c := by
  unfold Ref.ins Ker.ins
  rw [h0, h1, h2, h3, h4, h5, h6]

/-- The kernel's six results are the reference's, on any arguments. -/
theorem forward_values : Cert.algebraic_ForwardPassIdeal_ForwardPassReferenceIdeal (hForwardPassIdeal := Cert.ForwardPassIdeal.Gen.facts)
    (hForwardPassReferenceIdeal := Cert.ForwardPassReferenceIdeal.Gen.facts) := by
  intro m g m' g' hpre hargs
  refine ⟨fun c => Ker.rows (f := .bf16) (hid (Ker.ins m c)), fun c => Ker.rows (f := .bf16) (act (Ker.ins m c)), fun c => Ker.rows (f := .bf16) (silu (Ker.ins m c)),
    fun c => Ker.rows (f := .bf16) (dact (Ker.ins m c)), fun c => Ker.rows (f := .f32) (res (Ker.ins m c)), fun c => Ker.rows (f := .bf16) (out (Ker.ins m c)), ?_, ?_⟩
  · refine (θ_run _ _ _).mono (fun r h c => ?_) (Cert.ForwardPassIdeal.Value.run_blocks m g)
    obtain ⟨r0, r1, r2, r3, r4, r5, rest⟩ := h c
    exact ⟨r0.trans (Ker.final7 m c), r1.trans (Ker.final8 m c), r2.trans (Ker.final9 m c), r3.trans (Ker.final10 m c),
      r4.trans (Ker.final11 m c), r5.trans (Ker.final12 m c), rest⟩
  · refine (θ_run _ _ _).mono (fun r h c => ?_) (Cert.ForwardPassReferenceIdeal.Value.run m' g')
    obtain ⟨r0, r1, r2, r3, r4, r5, rest⟩ := h c
    obtain ⟨h0, h1, h2, h3, h4, h5, h6⟩ := hargs c
    have hI : Ref.ins m' c = Ker.ins m c := forward_same_ins m m' c h0 h1 h2 h3 h4 h5 h6
    have e0 := Ker.rows_of (f := .bf16) _ _ (Ref.oH_eq (Ref.ins m' c))
    have e1 := Ker.rows_of (f := .bf16) _ _ (Ref.oAct_eq (Ref.ins m' c))
    have e2 := Ker.rows_of (f := .bf16) _ _ (Ref.oSilu_eq (Ref.ins m' c))
    have e3 := Ker.rows_of (f := .bf16) _ _ (Ref.oDact_eq (Ref.ins m' c))
    have e4 := Ker.rows_of (f := .f32) _ _ (Ref.oRes_eq (Ref.ins m' c))
    have e5 := Ker.rows_of (f := .bf16) _ _ (Ref.oF_eq (Ref.ins m' c))
    refine ⟨?_, ?_, ?_, ?_, ?_, ?_, rest⟩
    · exact (Eq.trans r0 e0).trans (congrArg (fun I => Ker.rows (f := .bf16) (hid I)) hI)
    · exact (r1.trans ((Ref.res1 m' c).trans e1)).trans (congrArg (fun I => Ker.rows (f := .bf16) (act I)) hI)
    · exact (Eq.trans r2 e2).trans (congrArg (fun I => Ker.rows (f := .bf16) (silu I)) hI)
    · exact (r3.trans ((Ref.res3 m' c).trans e3)).trans (congrArg (fun I => Ker.rows (f := .bf16) (dact I)) hI)
    · exact (r4.trans ((Ref.res4 m' c).trans e4)).trans (congrArg (fun I => Ker.rows (f := .f32) (res I)) hI)
    · exact (r5.trans ((Ref.res5 m' c).trans e5)).trans (congrArg (fun I => Ker.rows (f := .bf16) (out I)) hI)

end Cert.Proof

end
-- ==== Proof.MixSpec.lean ====
/- The mixer's half step at a token and a column, over the extended reals. -/
module

public import proofs.«01_k».proof.Proof.Consts
public import proofs.«01_k».proof.Proof.Gen.MixerIdeal.Skeleton
public import Idealize.ShloMosaic.Lib.Pointwise

@[expose] public section

noncomputable section

namespace Cert.Mix

open Idealize.ShloMosaic
open Cert.MixerIdeal
open Cert.Consts

/-- The comparison of a row's and a column's number, below 128. -/
theorem sge_bit (t s : Fin 128) :
    IntOp.cmpi .sge (IntOp.addi (BitVec.ofNat 32 t.val) 0#32) (BitVec.ofNat 32 s.val) = if s ≤ t then 1#1 else 0#1 := by
  unfold IntOp.cmpi IntOp.addi
  rw [BitVec.add_zero]
  have e1 : (BitVec.ofNat 32 s.val).sle (BitVec.ofNat 32 t.val) = decide (s ≤ t) := by
    have hn : ∀ n : ℕ, n < 128 → (BitVec.ofNat 32 n).toInt = n := by
      intro n hn
      rw [BitVec.toInt_eq_toNat_of_lt, BitVec.toNat_ofNat, Nat.mod_eq_of_lt (by omega)]
      rw [BitVec.toNat_ofNat, Nat.mod_eq_of_lt (by omega)]
      omega
    rw [BitVec.sle_eq_decide, hn _ s.isLt, hn _ t.isLt]
    refine decide_eq_decide.mpr ?_
    rw [Fin.le_def]
    omega
  simp only [e1]
  by_cases h : s ≤ t <;> simp [h]

/-- The thirteen arguments. -/
structure Ins where
  x : FVec Ideal S4x2048x1024 .f32
  sh : FVec Ideal S4x1024 .f32
  sc : FVec Ideal S4x1024 .f32
  gate : FVec Ideal S4x1024 .f32
  gn : FVec Ideal S1024 .f32
  win : FVec Ideal S1024x2560 .f32
  lng : FVec Ideal S64 .f32
  lnb : FVec Ideal S64 .f32
  ws : FVec Ideal S8x128x128 .f32
  bs : FVec Ideal S8x128 .f32
  cw : FVec Ideal S3x512 .f32
  og : FVec Ideal S1024 .f32
  wo : FVec Ideal S1024x1024 .f32

/-- A token's sequence, and its place there. -/
def bOf (T : Fin 8192) : Fin 4 := ⟨T / 2048, by omega⟩

def sOf (T : Fin 8192) : Fin 2048 := ⟨T % 2048, by omega⟩

/-- The token at a place of a sequence. -/
def tk (b : Fin 4) (s : Fin 2048) : Fin 8192 := ⟨2048 * b + s, by omega⟩

theorem bOf_tk (b : Fin 4) (s : Fin 2048) : bOf (tk b s) = b := Fin.ext (by simp only [bOf, tk]; omega)

theorem sOf_tk (b : Fin 4) (s : Fin 2048) : sOf (tk b s) = s := Fin.ext (by simp only [sOf, tk]; omega)

theorem tk_of (T : Fin 8192) : tk (bOf T) (sOf T) = T := Fin.ext (by simp only [bOf, sOf, tk]; omega)

/-- The five parts of the projection's columns. -/
def cU (c : Fin 512) : Fin 2560 := ⟨c, by omega⟩
def cV (c : Fin 512) : Fin 2560 := ⟨512 + c, by omega⟩
def cG (c : Fin 512) : Fin 2560 := ⟨1024 + c, by omega⟩
def cC (c : Fin 512) : Fin 2560 := ⟨1536 + c, by omega⟩
def cX (c : Fin 512) : Fin 2560 := ⟨2048 + c, by omega⟩

/-- A column's head, its place there, and back. -/
def hd (c : Fin 512) : Fin 8 := ⟨c / 64, by omega⟩
def hp (c : Fin 512) : Fin 64 := ⟨c % 64, by omega⟩
def hc (h : Fin 8) (d : Fin 64) : Fin 512 := ⟨64 * h + d, by omega⟩

theorem hd_hc (h : Fin 8) (d : Fin 64) : hd (hc h d) = h := Fin.ext (by simp only [hd, hc]; omega)
theorem hp_hc (h : Fin 8) (d : Fin 64) : hp (hc h d) = d := Fin.ext (by simp only [hp, hc]; omega)
theorem hc_of (c : Fin 512) : hc (hd c) (hp c) = c := Fin.ext (by simp only [hd, hp, hc]; omega)

/-- A token's place in its chunk, and the chunk's other tokens. -/
def ct (T : Fin 8192) : Fin 128 := ⟨T % 128, by omega⟩
def ck (T : Fin 8192) (s : Fin 128) : Fin 8192 := ⟨T / 128 * 128 + s, by omega⟩

/-- The exact gaussian error unit. -/
def gel (x : EReal) : EReal :=
  Ideal.ofBits .f32 0x3F000000#32 * x * (1 + Ideal.erf (x * Ideal.ofBits .f32 0x3F3504F3#32))

theorem gel_erfc (x : EReal) :
    Ideal.ofBits .f32 0x3F000000#32 * x * Ideal.erfc (-x * Ideal.ofBits .f32 0x3F3504F3#32) = gel x := by
  unfold gel
  rw [EReal.neg_mul, Ideal.erfc_neg]

/-- The reciprocal root of a row's mean square. -/
def rms (f : Fin 512 → EReal) : EReal :=
  Ideal.rsqrt (Ideal.div (∑ k : Fin 512, f k * f k) (Ideal.ofBits .f32 0x44000000#32) + Ideal.ofBits .f32 0x358637BD#32)

variable (I : Ins)

def rr (T : Fin 8192) : EReal :=
  Ideal.rsqrt (Ideal.div (∑ k : Fin 1024, I.x (ix3 (bOf T) (sOf T) k) * I.x (ix3 (bOf T) (sOf T) k)) (Ideal.ofBits .f32 0x44800000#32)
    + Ideal.ofBits .f32 0x358637BD#32)

/-- One more than the scale. -/
def sc1 (b : Fin 4) (k : Fin 1024) : EReal := 1 + I.sc (ix2 b k)

/-- The modulated norm. -/
def hid (T : Fin 8192) (k : Fin 1024) : EReal :=
  I.x (ix3 (bOf T) (sOf T) k) * rr I T * I.gn (ix1 k) * sc1 I (bOf T) k + I.sh (ix2 (bOf T) k)

/-- The projection. -/
def pj (T : Fin 8192) (e : Fin 2560) : EReal := ∑ k : Fin 1024, hid I T k * I.win (ix2 k e)

def u (T : Fin 8192) (c : Fin 512) : EReal := gel (pj I T (cU c))

def v (T : Fin 8192) (c : Fin 512) : EReal := gel (pj I T (cV c))

/-- The layer norm over a head's columns. -/
def mu (T : Fin 8192) (h : Fin 8) : EReal :=
  Ideal.div (∑ d : Fin 64, v I T (hc h d)) (Ideal.ofBits .f32 0x42800000#32)

def vc (T : Fin 8192) (c : Fin 512) : EReal := v I T c - mu I T (hd c)

def var (T : Fin 8192) (h : Fin 8) : EReal :=
  Ideal.div (∑ d : Fin 64, vc I T (hc h d) * vc I T (hc h d)) (Ideal.ofBits .f32 0x42800000#32)

def vln (T : Fin 8192) (c : Fin 512) : EReal :=
  vc I T c * Ideal.rsqrt (var I T (hd c) + Ideal.ofBits .f32 0x358637BD#32) * I.lng (ix1 (hp c)) + I.lnb (ix1 (hp c))

/-- The spatial weights up to the diagonal. -/
def wm (h : Fin 8) (t s : Fin 128) : EReal := if s ≤ t then I.ws (ix3 h t s) else 0

def mixed (T : Fin 8192) (c : Fin 512) : EReal :=
  ∑ s : Fin 128, wm I (hd c) (ct T) s * vln I (ck T s) c + I.bs (ix2 (hd c) (ct T))

def ya (T : Fin 8192) (c : Fin 512) : EReal := u I T c * mixed I T c

def z (T : Fin 8192) (c : Fin 512) : EReal := pj I T (cC c) * pj I T (cX c)

/-- The gated value some tokens back, zero before the sequence's start. -/
def zb (j : ℕ) (T : Fin 8192) (c : Fin 512) : EReal :=
  if T.val % 2048 < j then 0 else z I ⟨T.val - j, by omega⟩ c

def conv (T : Fin 8192) (c : Fin 512) : EReal :=
  I.cw (ix2 0 c) * zb I 2 T c + I.cw (ix2 1 c) * zb I 1 T c + I.cw (ix2 2 c) * z I T c

def yb (T : Fin 8192) (c : Fin 512) : EReal := pj I T (cG c) * conv I T c

/-- The two branches' columns of the joint row. -/
def eA (c : Fin 512) : Fin 1024 := ⟨c, by omega⟩
def eB (c : Fin 512) : Fin 1024 := ⟨512 + c, by omega⟩

def na (T : Fin 8192) (c : Fin 512) : EReal := ya I T c * rms (ya I T) * I.og (ix1 (eA c))

def nb (T : Fin 8192) (c : Fin 512) : EReal := yb I T c * rms (yb I T) * I.og (ix1 (eB c))

def ym (T : Fin 8192) (e : Fin 1024) : EReal :=
  if h : e.val < 512 then na I T ⟨e, h⟩ else nb I T ⟨e - 512, by omega⟩

def out (T : Fin 8192) (k : Fin 1024) : EReal := ∑ e : Fin 1024, ym I T e * I.wo (ix2 e k)

def res (T : Fin 8192) (k : Fin 1024) : EReal :=
  I.x (ix3 (bOf T) (sOf T) k) + I.gate (ix2 (bOf T) k) * out I T k

end Cert.Mix

end
-- ==== Proof.MixTile.lean ====
/- The arrays the mixer's kernel is given, and the tiles of the modulated norm and of its projection. -/
module

public import proofs.«01_k».proof.Proof.MixSpec
public import proofs.«01_k».proof.Proof.Gen.MixerIdeal.Frame
public import Idealize.ShloMosaic.Lib.Pipeline.ValueKit
public import Idealize.ShloMosaic.Lib.Pointwise

@[expose] public section

set_option maxRecDepth 16384

noncomputable section

namespace Cert.Mix.Ker

open Idealize.ShloMosaic Idealize.ShloMosaic.TcCoe Idealize.SL.Sem
open Cert.MixerIdeal Cert.MixerIdeal.Gen
open Cert.Mix Cert.Consts

variable (m : (ℓ : Loc nD τ sig) → Buf (Elt Ideal) ℓ) (c : Dev nD)

/-- The arguments a run is given. -/
def ins : Ins where
  x := m ((c.tc : Thread nD τ).loc main_arg0)
  sh := m ((c.tc : Thread nD τ).loc main_arg1)
  sc := m ((c.tc : Thread nD τ).loc main_arg2)
  gate := m ((c.tc : Thread nD τ).loc main_arg3)
  gn := m ((c.tc : Thread nD τ).loc main_arg4)
  win := m ((c.tc : Thread nD τ).loc main_arg5)
  lng := m ((c.tc : Thread nD τ).loc main_arg6)
  lnb := m ((c.tc : Thread nD τ).loc main_arg7)
  ws := m ((c.tc : Thread nD τ).loc main_arg8)
  bs := m ((c.tc : Thread nD τ).loc main_arg9)
  cw := m ((c.tc : Thread nD τ).loc main_arg10)
  og := m ((c.tc : Thread nD τ).loc main_arg11)
  wo := m ((c.tc : Thread nD τ).loc main_arg12)

theorem V31 : V m c main_v31 = shapeCast S8192x1024 (ins m c).x shapeCasts_S4x2048x1024_S8192x1024 := by
  entry_read; rfl

theorem V32 : V m c main_v32 = shapeCast S1x1024 (ins m c).gn shapeCasts_S1024_S1x1024 := by
  entry_read; rfl

theorem V35 : V m c main_v35 = shapeCast S4x1x1024 (addf (broadcastInDim S4x1024 ![] bcast_S_S4x1024 (constant S_ .f32 0x3F800000#32)) (ins m c).sc) shapeCasts_S4x1024_S4x1x1024 := by
  entry_read; rfl

theorem V36 : V m c main_v36 = shapeCast S4x1x1024 (ins m c).sh shapeCasts_S4x1024_S4x1x1024 := by
  entry_read; rfl

theorem V38 : V m c main_v38 = truncf .bf16 (transpose S2560x1024 [1, 0] (ins m c).win transposes_S1024x2560_S2560x1024_1_0) bitsLt_bf16_f32 := by
  entry_read; rfl

theorem V39 : V m c main_v39 = shapeCast S4x1x1024 (ins m c).gate shapeCasts_S4x1024_S4x1x1024 := by
  entry_read; rfl

theorem V40 : V m c main_v40 = truncf .bf16 (ins m c).wo bitsLt_bf16_f32 := by
  entry_read; rfl

/-- The spatial weights up to the diagonal, as the host writes them. -/
def hWm (ws : FVec Ideal S8x128x128 .f32) : FVec Ideal S8x128x128 .bf16 :=
  truncf .bf16 (mulf ws (broadcastInDim S8x128x128 ![0, 1, 2] bcast_S1x128x128_S8x128x128_0_1_2 (broadcastInDim S1x128x128 ![1, 2] bcast_S128x128_S1x128x128_1_2 (select (cmpi .sge (addi (iotaInDim S128x128 32 0) (broadcastInDim S128x128 ![] bcast_S_S128x128 (constantI S_ 32 0#32))) (iotaInDim S128x128 32 1)) (broadcastInDim S128x128 ![] bcast_S_S128x128 (constant S_ .f32 0x3F800000#32)) (broadcastInDim S128x128 ![] bcast_S_S128x128 (constant S_ .f32 0x00000000#32)))))) bitsLt_bf16_f32

/-- Two heads' weights side by side. -/
def hCat {F : FTy → Type} [FloatOps F] : (⟨S4x128x128, .bf16⟩ : BufTy).Contents (Elt F) → (⟨S4x128x128, .bf16⟩ : BufTy).Contents (Elt F) → (⟨S4x128x256, .bf16⟩ : BufTy).Contents (Elt F) :=
  fun a b => concatenate S4x128x256 2 [⟨S4x128x128, a⟩, ⟨S4x128x128, b⟩] concatenates_S4x128x128_S4x128x128_S4x128x256_d2

/-- The host's operations around them, with theirs by name. -/
abbrev hOps {F : FTy → Type} [FloatOps F] : List (HloOp τ sig (Elt F)) :=
  [ StableHlo.unary main_v9 main_v10 ((truncf .bf16 · bitsLt_bf16_f32) : (⟨S256x256, .f32⟩ : BufTy).Contents (Elt F) → (⟨S256x256, .bf16⟩ : BufTy).Contents (Elt F)),
    StableHlo.unary main_v1 main_v11 (broadcastInDim S1x128x128 ![1, 2] bcast_S128x128_S1x128x128_1_2 : (⟨S128x128, .f32⟩ : BufTy).Contents (Elt F) → (⟨S1x128x128, .f32⟩ : BufTy).Contents (Elt F)),
    StableHlo.unary main_v11 main_v12 (broadcastInDim S8x128x128 ![0, 1, 2] bcast_S1x128x128_S8x128x128_0_1_2 : (⟨S1x128x128, .f32⟩ : BufTy).Contents (Elt F) → (⟨S8x128x128, .f32⟩ : BufTy).Contents (Elt F)),
    StableHlo.binary main_arg8 main_v12 main_v13 (mulf : (⟨S8x128x128, .f32⟩ : BufTy).Contents (Elt F) → (⟨S8x128x128, .f32⟩ : BufTy).Contents (Elt F) → (⟨S8x128x128, .f32⟩ : BufTy).Contents (Elt F)),
    StableHlo.unary main_v13 main_v14 ((truncf .bf16 · bitsLt_bf16_f32) : (⟨S8x128x128, .f32⟩ : BufTy).Contents (Elt F) → (⟨S8x128x128, .bf16⟩ : BufTy).Contents (Elt F)),
    StableHlo.unary main_v14 main_v15 ((Host.slice S4x128x128 ![0, 0, 0] ![2, 1, 1] · slicesBy_S8x128x128_S4x128x128_0s2_0s1_0s1) : (⟨S8x128x128, .bf16⟩ : BufTy).Contents (Elt F) → (⟨S4x128x128, .bf16⟩ : BufTy).Contents (Elt F)),
    StableHlo.unary main_v14 main_v16 ((Host.slice S4x128x128 ![1, 0, 0] ![2, 1, 1] · slicesBy_S8x128x128_S4x128x128_1s2_0s1_0s1) : (⟨S8x128x128, .bf16⟩ : BufTy).Contents (Elt F) → (⟨S4x128x128, .bf16⟩ : BufTy).Contents (Elt F)),
    StableHlo.binary main_v15 main_v16 main_v17 hCat,
    StableHlo.unary main_arg9 main_v18 ((transpose S128x8 [1, 0] · transposes_S8x128_S128x8_1_0) : (⟨S8x128, .f32⟩ : BufTy).Contents (Elt F) → (⟨S128x8, .f32⟩ : BufTy).Contents (Elt F)),
    StableHlo.unary main_v18 main_v19 (broadcastInDim S128x8x64 ![0, 1] bcast_S128x8_S128x8x64_0_1 : (⟨S128x8, .f32⟩ : BufTy).Contents (Elt F) → (⟨S128x8x64, .f32⟩ : BufTy).Contents (Elt F)),
    StableHlo.reshape main_v19 main_v20 (rfl : (.f32 : EltTy) = .f32) shapeCasts_S128x8x64_S128x512,
    StableHlo.reshape main_arg6 main_v21 (rfl : (.f32 : EltTy) = .f32) shapeCasts_S64_S1x64,
    StableHlo.unary main_v21 main_v22 (broadcastInDim S8x64 ![0, 1] bcast_S1x64_S8x64_0_1 : (⟨S1x64, .f32⟩ : BufTy).Contents (Elt F) → (⟨S8x64, .f32⟩ : BufTy).Contents (Elt F)),
    StableHlo.reshape main_v22 main_v23 (rfl : (.f32 : EltTy) = .f32) shapeCasts_S8x64_S512,
    StableHlo.reshape main_v23 main_v24 (rfl : (.f32 : EltTy) = .f32) shapeCasts_S512_S1x512,
    StableHlo.reshape main_arg7 main_v25 (rfl : (.f32 : EltTy) = .f32) shapeCasts_S64_S1x64,
    StableHlo.unary main_v25 main_v26 (broadcastInDim S8x64 ![0, 1] bcast_S1x64_S8x64_0_1 : (⟨S1x64, .f32⟩ : BufTy).Contents (Elt F) → (⟨S8x64, .f32⟩ : BufTy).Contents (Elt F)),
    StableHlo.reshape main_v26 main_v27 (rfl : (.f32 : EltTy) = .f32) shapeCasts_S8x64_S512,
    StableHlo.reshape main_v27 main_v28 (rfl : (.f32 : EltTy) = .f32) shapeCasts_S512_S1x512,
    StableHlo.nullary main_c_1 (constantI S_ 32 0#32) ]

theorem V17 : V m c main_v17 = concatenate S4x128x256 2 [⟨S4x128x128, Host.slice S4x128x128 ![0, 0, 0] ![2, 1, 1] (hWm (ins m c).ws) slicesBy_S8x128x128_S4x128x128_0s2_0s1_0s1⟩, ⟨S4x128x128, Host.slice S4x128x128 ![1, 0, 0] ![2, 1, 1] (hWm (ins m c).ws) slicesBy_S8x128x128_S4x128x128_1s2_0s1_0s1⟩] concatenates_S4x128x128_S4x128x128_S4x128x256_d2 := by
  change StableHlo.after (List.flatten [hostOps0, hostOps0_1, hostOps0_2, hostOps0_3, hOps, hostOps0_5, hostOps0_6]) (fun b => m (c, b)) main_v17
    = hCat (Host.slice S4x128x128 ![0, 0, 0] ![2, 1, 1] (hWm (ins m c).ws) slicesBy_S8x128x128_S4x128x128_0s2_0s1_0s1)
      (Host.slice S4x128x128 ![1, 0, 0] ![2, 1, 1] (hWm (ins m c).ws) slicesBy_S8x128x128_S4x128x128_1s2_0s1_0s1)
  simp only [hostOps0, hostOps0_1, hostOps0_2, hostOps0_3, hOps, hostOps0_5, hostOps0_6, List.flatten_cons, List.flatten_nil, List.append_nil, List.nil_append, List.cons_append]
  simp only [StableHlo.after_cons, StableHlo.after_nil]
  after_results_simp
  exact congrArg₂ hCat rfl rfl

theorem V20 : V m c main_v20 = shapeCast S128x512 (broadcastInDim S128x8x64 ![0, 1] bcast_S128x8_S128x8x64_0_1 (transpose S128x8 [1, 0] (ins m c).bs transposes_S8x128_S128x8_1_0)) shapeCasts_S128x8x64_S128x512 := by
  entry_read; rfl

theorem V24 : V m c main_v24 = shapeCast S1x512 (shapeCast S512 (broadcastInDim S8x64 ![0, 1] bcast_S1x64_S8x64_0_1 (shapeCast S1x64 (ins m c).lng shapeCasts_S64_S1x64)) shapeCasts_S8x64_S512) shapeCasts_S512_S1x512 := by
  entry_read; rfl

theorem V28 : V m c main_v28 = shapeCast S1x512 (shapeCast S512 (broadcastInDim S8x64 ![0, 1] bcast_S1x64_S8x64_0_1 (shapeCast S1x64 (ins m c).lnb shapeCasts_S64_S1x64)) shapeCasts_S8x64_S512) shapeCasts_S512_S1x512 := by
  entry_read; rfl

theorem V29 : V m c main_v29 = pad S8x512 ![0, 0] ![5, 0] ![0, 0] (ins m c).cw (sitofp .f32 (constantI S_ 32 0#32)) pads_S3x512_S8x512_050_000 h_S_ := by
  entry_read; rfl

theorem V30 : V m c main_v30 = shapeCast S1x1024 (ins m c).og shapeCasts_S1024_S1x1024 := by
  entry_read; rfl

/-- The block diagonal of means over 64 columns, as the host writes it. -/
def hBd : FVec Ideal S256x256 .bf16 :=
  truncf .bf16 (shapeCast S256x256 (mulf (broadcastInDim S4x64x4x64 ![0, 1, 2, 3] bcast_S4x1x4x1_S4x64x4x64_0_1_2_3 (broadcastInDim S4x1x4x1 ![0, 2] bcast_S4x4_S4x1x4x1_0_2 (uitofp .f32 (cmpi .eq (addi (iotaInDim S4x4 32 0) (broadcastInDim S4x4 ![] bcast_S_S4x4 (constantI S_ 32 0#32))) (iotaInDim S4x4 32 1))))) (broadcastInDim S4x64x4x64 ![0, 1, 2, 3] bcast_S1x64x1x64_S4x64x4x64_0_1_2_3 (broadcastInDim S1x64x1x64 ![1, 3] bcast_S64x64_S1x64x1x64_1_3 (broadcastInDim S64x64 ![] bcast_S_S64x64 (constant S_ .f32 0x3C800000#32))))) shapeCasts_S4x64x4x64_S256x256) bitsLt_bf16_f32

theorem V10 : V m c main_v10 = hBd := by
  entry_read; rfl

theorem v31 (T : Fin 8192) (k : Fin 1024) : (V m c main_v31 : FVec Ideal S8192x1024 .f32) (ix2 T k) = (ins m c).x (ix3 (bOf T) (sOf T) k) := by
  rw [V31]; pointwise; rfl

theorem v32 (e : Fin 1) (k : Fin 1024) : (V m c main_v32 : FVec Ideal S1x1024 .f32) (ix2 e k) = (ins m c).gn (ix1 k) := by
  rw [V32]; pointwise

theorem v35 (b : Fin 4) (e : Fin 1) (k : Fin 1024) : (V m c main_v35 : FVec Ideal S4x1x1024 .f32) (ix3 b e k) = sc1 (ins m c) b k := by
  rw [V35]; pointwise; rfl

theorem v36 (b : Fin 4) (e : Fin 1) (k : Fin 1024) : (V m c main_v36 : FVec Ideal S4x1x1024 .f32) (ix3 b e k) = (ins m c).sh (ix2 b k) := by
  rw [V36]; pointwise

theorem v38 (j : Fin 2560) (k : Fin 1024) : (V m c main_v38 : FVec Ideal S2560x1024 .bf16) (ix2 j k) = (ins m c).win (ix2 k j) := by
  rw [V38]; pointwise

theorem v39 (b : Fin 4) (e : Fin 1) (k : Fin 1024) : (V m c main_v39 : FVec Ideal S4x1x1024 .f32) (ix3 b e k) = (ins m c).gate (ix2 b k) := by
  rw [V39]; pointwise

theorem v40 (j k : Fin 1024) : (V m c main_v40 : FVec Ideal S1024x1024 .bf16) (ix2 j k) = (ins m c).wo (ix2 j k) := by
  rw [V40]; pointwise

theorem v30 (e : Fin 1) (k : Fin 1024) : (V m c main_v30 : FVec Ideal S1x1024 .f32) (ix2 e k) = (ins m c).og (ix1 k) := by
  rw [V30]; pointwise

theorem v20 (r : Fin 128) (e : Fin 512) : (V m c main_v20 : FVec Ideal S128x512 .f32) (ix2 r e) = (ins m c).bs (ix2 (hd e) r) := by
  rw [V20]; pointwise; rfl

theorem v24 (e : Fin 1) (k : Fin 512) : (V m c main_v24 : FVec Ideal S1x512 .f32) (ix2 e k) = (ins m c).lng (ix1 (hp k)) := by
  rw [V24]; pointwise; rfl

theorem v28 (e : Fin 1) (k : Fin 512) : (V m c main_v28 : FVec Ideal S1x512 .f32) (ix2 e k) = (ins m c).lnb (ix1 (hp k)) := by
  rw [V28]; pointwise; rfl

theorem v29 (j : Fin 8) (i : Fin 3) (h : j.val = i.val) (k : Fin 512) : (V m c main_v29 : FVec Ideal S8x512 .f32) (ix2 j k) = (ins m c).cw (ix2 i k) := by
  have hi := i.isLt
  rw [V29]; pointwise
  rw [dif_pos (by omega)]
  exact congrArg (fun e => (ins m c).cw (ix2 e k)) (Fin.ext h)

theorem hWm_at (ws : FVec Ideal S8x128x128 .f32) (h : Fin 8) (t s : Fin 128) : hWm ws (ix3 h t s) = if s ≤ t then ws (ix3 h t s) else 0 := by
  pointwise [hWm]
  rw [sge_bit]
  by_cases hh : s ≤ t <;> simp [hh, Scalar.select]

theorem v17 (g : Fin 4) (t : Fin 128) (s : Fin 256) (h : Fin 8) (s' : Fin 128) (hh : h.val = 2 * g.val + s.val / 128) (hs : s'.val = s.val % 128) :
    (V m c main_v17 : FVec Ideal S4x128x256 .bf16) (ix3 g t s) = wm (ins m c) h t s' := by
  unfold wm
  rw [← hWm_at, V17]
  generalize hWm (ins m c).ws = w
  pointwise
  have hsl := s.isLt
  by_cases hc : s.val < 128
  · rw [dif_pos hc]
    refine congrArg₂ (fun a b => w (ix3 a t b)) (Fin.ext ?_) (Fin.ext ?_) <;> simp only [] <;> omega
  · rw [dif_neg hc]
    refine congrArg₂ (fun a b => w (ix3 a t b)) (Fin.ext ?_) (Fin.ext ?_) <;> simp only [] <;> omega

theorem bd_at (i j : Fin 256) : hBd (ix2 i j) = if i.val / 64 = j.val / 64 then Ideal.ofBits .f32 0x3C800000#32 else 0 := by
  pointwise [hBd]
  have e : ∀ a b : Fin 4, IntOp.cmpi .eq (IntOp.addi (BitVec.ofNat 32 a.val) 0#32) (BitVec.ofNat 32 b.val) = if a.val = b.val then 1#1 else 0#1 := by decide
  have hi := i.isLt
  have hj := j.isLt
  rw [e ⟨i.val / 64, by omega⟩ ⟨j.val / 64, by omega⟩]
  by_cases h : i.val / 64 = j.val / 64
  · rw [if_pos h, if_pos h]
    have e1 : (FloatOps.uitofp .f32 (1#1) : Ideal .f32) = (1 : EReal) := by
      show (((1#1 : BitVec 1).toNat : ℝ) : EReal) = 1
      simp
    rw [e1]
    exact one_mul _
  · rw [if_neg h, if_neg h]
    have e1 : (FloatOps.uitofp .f32 (0#1) : Ideal .f32) = (0 : EReal) := by
      show (((0#1 : BitVec 1).toNat : ℝ) : EReal) = 0
      simp
    rw [e1]
    exact zero_mul _

theorem idx : ∀ t : Fin cfg0.N, win0_0.index t = ![t.val, 0] ∧ win0_1.index t = ![32 * t.val - 1, 0] ∧ win0_2.index t = ![0, 0]
    ∧ win0_3.index t = ![t.val / 4, 0, 0] ∧ win0_4.index t = ![t.val / 4, 0, 0] ∧ win0_5.index t = ![0, 0] ∧ win0_6.index t = ![t.val / 4, 0, 0]
    ∧ win0_7.index t = ![0, 0] ∧ win0_8.index t = ![0, 0, 0] ∧ win0_9.index t = ![0, 0] ∧ win0_10.index t = ![0, 0] ∧ win0_11.index t = ![0, 0]
    ∧ win0_12.index t = ![0, 0] ∧ win0_13.index t = ![0, 0] ∧ win0_14.index t = ![0, 0]
    ∧ win0_15.index t = ![t.val, 0] ∧ win0_16.index t = ![t.val, 0] ∧ win0_17.index t = ![t.val, 0] ∧ win0_18.index t = ![t.val, 0]
    ∧ win0_19.index t = ![t.val, 0] :=
  (by decide +kernel : ∀ t : Fin grid0.N, _)

variable (t : Fin cfg0.N)

/-- A tile's row among all tokens. -/
def tok (r : Fin 512) : Fin 8192 := ⟨512 * t.val + r.val, by
  have ht : t.val < 16 := lt_of_lt_of_eq t.isLt N_0
  omega⟩

theorem b_tok (r : Fin 512) (h : t.val / 4 < 4) : (⟨t.val / 4, h⟩ : Fin 4) = bOf (tok t r) :=
  Fin.ext (by simp only [bOf, tok]; omega)

theorem i0 (r : Fin 512) (k : Fin 1024) : (iblk m c 0 t : FVec Ideal S512x1024 .f32) (ix2 r k) = (ins m c).x (ix3 (bOf (tok t r)) (sOf (tok t r)) k) := by
  rw [← v31]
  unfold tok
  blk_point [iblk, idx t]

/-- The rows before the tile. -/
theorem i1 (r : Fin 16) (k : Fin 1024) (T : Fin 8192) (hT : T.val + 16 = 512 * t.val + r.val) :
    (iblk m c 1 t : FVec Ideal S16x1024 .f32) (ix2 r k) = (ins m c).x (ix3 (bOf T) (sOf T) k) := by
  have ht : t.val < 16 := lt_of_lt_of_eq t.isLt N_0
  obtain ⟨T, hl⟩ := T
  have hT' : T = 16 * (32 * t.val - 1) + r.val := by simp only at hT; omega
  subst hT'
  rw [← v31]
  blk_point [iblk, idx t]

theorem i2 (e : Fin 1) (k : Fin 1024) : (iblk m c 2 t : FVec Ideal S1x1024 .f32) (ix2 e k) = (ins m c).gn (ix1 k) := by
  rw [← v32 m c e]
  blk_point [iblk, idx t]

theorem i3 (e e1 : Fin 1) (k : Fin 1024) (r : Fin 512) : (iblk m c 3 t : FVec Ideal S1x1x1024 .f32) (ix3 e e1 k) = sc1 (ins m c) (bOf (tok t r)) k := by
  have ht : t.val < 16 := lt_of_lt_of_eq t.isLt N_0
  rw [← b_tok t r (by omega), ← v35 m c _ e1]
  blk_point [iblk, idx t]

theorem i4 (e e1 : Fin 1) (k : Fin 1024) (r : Fin 512) : (iblk m c 4 t : FVec Ideal S1x1x1024 .f32) (ix3 e e1 k) = (ins m c).sh (ix2 (bOf (tok t r)) k) := by
  have ht : t.val < 16 := lt_of_lt_of_eq t.isLt N_0
  rw [← b_tok t r (by omega), ← v36 m c _ e1]
  blk_point [iblk, idx t]

theorem i5 (j : Fin 2560) (k : Fin 1024) : (iblk m c 5 t : FVec Ideal S2560x1024 .bf16) (ix2 j k) = (ins m c).win (ix2 k j) := by
  rw [← v38]
  blk_point [iblk, idx t]

theorem i6 (e e1 : Fin 1) (k : Fin 1024) (r : Fin 512) : (iblk m c 6 t : FVec Ideal S1x1x1024 .f32) (ix3 e e1 k) = (ins m c).gate (ix2 (bOf (tok t r)) k) := by
  have ht : t.val < 16 := lt_of_lt_of_eq t.isLt N_0
  rw [← b_tok t r (by omega), ← v39 m c _ e1]
  blk_point [iblk, idx t]

theorem i7 (j k : Fin 1024) : (iblk m c 7 t : FVec Ideal S1024x1024 .bf16) (ix2 j k) = (ins m c).wo (ix2 j k) := by
  rw [← v40]
  blk_point [iblk, idx t]

theorem i8 (g : Fin 4) (a : Fin 128) (s : Fin 256) : (iblk m c 8 t : FVec Ideal S4x128x256 .bf16) (ix3 g a s) = (V m c main_v17 : FVec Ideal S4x128x256 .bf16) (ix3 g a s) := by
  blk_point [iblk, idx t]

theorem i9 (r : Fin 128) (e : Fin 512) : (iblk m c 9 t : FVec Ideal S128x512 .f32) (ix2 r e) = (ins m c).bs (ix2 (hd e) r) := by
  rw [← v20]
  blk_point [iblk, idx t]

theorem i10 (e : Fin 1) (k : Fin 512) : (iblk m c 10 t : FVec Ideal S1x512 .f32) (ix2 e k) = (ins m c).lng (ix1 (hp k)) := by
  rw [← v24 m c e]
  blk_point [iblk, idx t]

theorem i11 (e : Fin 1) (k : Fin 512) : (iblk m c 11 t : FVec Ideal S1x512 .f32) (ix2 e k) = (ins m c).lnb (ix1 (hp k)) := by
  rw [← v28 m c e]
  blk_point [iblk, idx t]

theorem i12 (j : Fin 8) (i : Fin 3) (h : j.val = i.val) (k : Fin 512) : (iblk m c 12 t : FVec Ideal S8x512 .f32) (ix2 j k) = (ins m c).cw (ix2 i k) := by
  rw [← v29 m c j i h]
  blk_point [iblk, idx t]

theorem i13 (e : Fin 1) (k : Fin 1024) : (iblk m c 13 t : FVec Ideal S1x1024 .f32) (ix2 e k) = (ins m c).og (ix1 k) := by
  rw [← v30 m c e]
  blk_point [iblk, idx t]

theorem i14 (i j : Fin 256) : (iblk m c 14 t : FVec Ideal S256x256 .bf16) (ix2 i j) = hBd (ix2 i j) := by
  rw [← V10 m c]
  blk_point [iblk, idx t]

/-- The tile of the modulated norm. -/
def hTile : FVec Ideal S512x1024 .bf16 := k0_pay3 (iblk m c 0 t) (iblk m c 2 t) (iblk m c 3 t) (iblk m c 4 t)

theorem p3 (x : FVec Ideal S512x1024 .f32) (gn : FVec Ideal S1x1024 .f32) (sc sh : FVec Ideal S1x1x1024 .f32) (r : Fin 512) (k : Fin 1024) :
    k0_pay3 (F := Ideal) x gn sc sh (ix2 r k)
      = x (ix2 r k) * Ideal.rsqrt (Ideal.div (∑ k : Fin 1024, x (ix2 r k) * x (ix2 r k)) (Ideal.ofBits .f32 0x44800000#32)
          + Ideal.ofBits .f32 0x358637BD#32) * gn (ix2 0 k) * sc (ix3 0 0 k) + sh (ix3 0 0 k) := by
  pointwise [k0_pay3, k0_pay2]

theorem h_tile (r : Fin 512) (k : Fin 1024) : hTile m c t (ix2 r k) = hid (ins m c) (tok t r) k := by
  unfold hTile
  rw [p3, i2, i3 m c t 0 0 k r, i4 m c t 0 0 k r]
  simp only [i0]
  rfl

/-- A slice of the projection's weights. -/
def wPart (off : ℕ) (w : FVec Ideal S256x1024 .bf16) : Prop :=
  ∀ (j : Fin 256) (k : Fin 1024) (J : Fin 2560), J.val = off + j.val → w (ix2 j k) = (ins m c).win (ix2 k J)

theorem c_pm (off : ℕ) (w : FVec Ideal S256x1024 .bf16) (hw : wPart m c off w)
    (x : S512x256.Idx) (T : Fin 8192) (J : Fin 2560) (hT : T.val = 512 * t.val + (x 0).val) (hJ : J.val = off + (x 1).val) :
    k0_pay4 (F := Ideal) (hTile m c t) w x = pj (ins m c) T J := by
  obtain ⟨x0, x1, rfl⟩ : ∃ (x0 : Fin 512) (x1 : Fin 256), x = ix2 x0 x1 := ⟨x 0, x 1, by funext a; fin_cases a <;> rfl⟩
  have hT' : T.val = 512 * t.val + x0.val := hT
  have hJ' : J.val = off + x1.val := hJ
  obtain rfl : T = tok t x0 := Fin.ext hT'
  have hh := h_tile m c t x0
  generalize hTile m c t = h at hh
  pointwise [k0_pay4]
  simp only [hh, hw x1 _ J hJ']
  rfl

theorem w_0 : wPart m c 0 (View.ld (iblk m c 5 t) (Rect.unit ![0, 0] ![256, 1024] inb_S2560x1024_S256x1024_0_0)) := by
  intro j k J hJ
  obtain ⟨J, hl⟩ := J
  obtain rfl : J = 0 + j.val := hJ
  rw [← i5 m c t _ k]
  pointwise
  blk_ext

theorem w_1 : wPart m c 256 (View.ld (iblk m c 5 t) (Rect.unit ![256, 0] ![256, 1024] inb_S2560x1024_S256x1024_256_0)) := by
  intro j k J hJ
  obtain ⟨J, hl⟩ := J
  obtain rfl : J = 256 + j.val := hJ
  rw [← i5 m c t _ k]
  pointwise
  blk_ext

theorem w_2 : wPart m c 512 (View.ld (iblk m c 5 t) (Rect.unit ![512, 0] ![256, 1024] inb_S2560x1024_S256x1024_512_0)) := by
  intro j k J hJ
  obtain ⟨J, hl⟩ := J
  obtain rfl : J = 512 + j.val := hJ
  rw [← i5 m c t _ k]
  pointwise
  blk_ext

theorem w_3 : wPart m c 768 (View.ld (iblk m c 5 t) (Rect.unit ![768, 0] ![256, 1024] inb_S2560x1024_S256x1024_768_0)) := by
  intro j k J hJ
  obtain ⟨J, hl⟩ := J
  obtain rfl : J = 768 + j.val := hJ
  rw [← i5 m c t _ k]
  pointwise
  blk_ext

theorem w_4 : wPart m c 1024 (View.ld (iblk m c 5 t) (Rect.unit ![1024, 0] ![256, 1024] inb_S2560x1024_S256x1024_1024_0)) := by
  intro j k J hJ
  obtain ⟨J, hl⟩ := J
  obtain rfl : J = 1024 + j.val := hJ
  rw [← i5 m c t _ k]
  pointwise
  blk_ext

theorem w_5 : wPart m c 1280 (View.ld (iblk m c 5 t) (Rect.unit ![1280, 0] ![256, 1024] inb_S2560x1024_S256x1024_1280_0)) := by
  intro j k J hJ
  obtain ⟨J, hl⟩ := J
  obtain rfl : J = 1280 + j.val := hJ
  rw [← i5 m c t _ k]
  pointwise
  blk_ext

theorem w_6 : wPart m c 1536 (View.ld (iblk m c 5 t) (Rect.unit ![1536, 0] ![256, 1024] inb_S2560x1024_S256x1024_1536_0)) := by
  intro j k J hJ
  obtain ⟨J, hl⟩ := J
  obtain rfl : J = 1536 + j.val := hJ
  rw [← i5 m c t _ k]
  pointwise
  blk_ext

theorem w_7 : wPart m c 1792 (View.ld (iblk m c 5 t) (Rect.unit ![1792, 0] ![256, 1024] inb_S2560x1024_S256x1024_1792_0)) := by
  intro j k J hJ
  obtain ⟨J, hl⟩ := J
  obtain rfl : J = 1792 + j.val := hJ
  rw [← i5 m c t _ k]
  pointwise
  blk_ext

theorem w_8 : wPart m c 2048 (View.ld (iblk m c 5 t) (Rect.unit ![2048, 0] ![256, 1024] inb_S2560x1024_S256x1024_2048_0)) := by
  intro j k J hJ
  obtain ⟨J, hl⟩ := J
  obtain rfl : J = 2048 + j.val := hJ
  rw [← i5 m c t _ k]
  pointwise
  blk_ext

theorem w_9 : wPart m c 2304 (View.ld (iblk m c 5 t) (Rect.unit ![2304, 0] ![256, 1024] inb_S2560x1024_S256x1024_2304_0)) := by
  intro j k J hJ
  obtain ⟨J, hl⟩ := J
  obtain rfl : J = 2304 + j.val := hJ
  rw [← i5 m c t _ k]
  pointwise
  blk_ext

/-- The pieces of the projection, last written first. -/
def pmPieces : List (View.Piece (Elt Ideal) S512x2560 .bf16) :=
  [⟨Rect.unit ![0, 2304] ![512, 256] inb_S512x2560_S512x256_0_2304, k0_pay13 (hTile m c t) (View.ld (iblk m c 5 t) (Rect.unit ![2304, 0] ![256, 1024] inb_S2560x1024_S256x1024_2304_0))⟩,
    ⟨Rect.unit ![0, 2048] ![512, 256] inb_S512x2560_S512x256_0_2048, k0_pay12 (hTile m c t) (View.ld (iblk m c 5 t) (Rect.unit ![2048, 0] ![256, 1024] inb_S2560x1024_S256x1024_2048_0))⟩,
    ⟨Rect.unit ![0, 1792] ![512, 256] inb_S512x2560_S512x256_0_1792, k0_pay11 (hTile m c t) (View.ld (iblk m c 5 t) (Rect.unit ![1792, 0] ![256, 1024] inb_S2560x1024_S256x1024_1792_0))⟩,
    ⟨Rect.unit ![0, 1536] ![512, 256] inb_S512x2560_S512x256_0_1536, k0_pay10 (hTile m c t) (View.ld (iblk m c 5 t) (Rect.unit ![1536, 0] ![256, 1024] inb_S2560x1024_S256x1024_1536_0))⟩,
    ⟨Rect.unit ![0, 1280] ![512, 256] inb_S512x2560_S512x256_0_1280, k0_pay9 (hTile m c t) (View.ld (iblk m c 5 t) (Rect.unit ![1280, 0] ![256, 1024] inb_S2560x1024_S256x1024_1280_0))⟩,
    ⟨Rect.unit ![0, 1024] ![512, 256] inb_S512x2560_S512x256_0_1024, k0_pay8 (hTile m c t) (View.ld (iblk m c 5 t) (Rect.unit ![1024, 0] ![256, 1024] inb_S2560x1024_S256x1024_1024_0))⟩,
    ⟨Rect.unit ![0, 768] ![512, 256] inb_S512x2560_S512x256_0_768, k0_pay7 (hTile m c t) (View.ld (iblk m c 5 t) (Rect.unit ![768, 0] ![256, 1024] inb_S2560x1024_S256x1024_768_0))⟩,
    ⟨Rect.unit ![0, 512] ![512, 256] inb_S512x2560_S512x256_0_512, k0_pay6 (hTile m c t) (View.ld (iblk m c 5 t) (Rect.unit ![512, 0] ![256, 1024] inb_S2560x1024_S256x1024_512_0))⟩,
    ⟨Rect.unit ![0, 256] ![512, 256] inb_S512x2560_S512x256_0_256, k0_pay5 (hTile m c t) (View.ld (iblk m c 5 t) (Rect.unit ![256, 0] ![256, 1024] inb_S2560x1024_S256x1024_256_0))⟩,
    ⟨Rect.unit ![0, 0] ![512, 256] inb_S512x2560_S512x256_0_0, k0_pay4 (hTile m c t) (View.ld (iblk m c 5 t) (Rect.unit ![0, 0] ![256, 1024] inb_S2560x1024_S256x1024_0_0))⟩]

def pmTile : FVec Ideal S512x2560 .bf16 := View.canon (pmPieces m c t)

theorem pm_tile (y : S512x2560.Idx) (T : Fin 8192) (j : Fin 2560) (hT : T.val = 512 * t.val + (y 0).val) (hj : j.val = (y 1).val) :
    pmTile m c t y = pj (ins m c) T j := by
  unfold pmTile pmPieces
  canon_tiles x h
  case piece0 => exact c_pm m c t 2304 _ (w_9 m c t) x T j (by rw [hT, h0]) (by rw [hj, h1])
  case piece1 => exact c_pm m c t 2048 _ (w_8 m c t) x T j (by rw [hT, h0]) (by rw [hj, h1])
  case piece2 => exact c_pm m c t 1792 _ (w_7 m c t) x T j (by rw [hT, h0]) (by rw [hj, h1])
  case piece3 => exact c_pm m c t 1536 _ (w_6 m c t) x T j (by rw [hT, h0]) (by rw [hj, h1])
  case piece4 => exact c_pm m c t 1280 _ (w_5 m c t) x T j (by rw [hT, h0]) (by rw [hj, h1])
  case piece5 => exact c_pm m c t 1024 _ (w_4 m c t) x T j (by rw [hT, h0]) (by rw [hj, h1])
  case piece6 => exact c_pm m c t 768 _ (w_3 m c t) x T j (by rw [hT, h0]) (by rw [hj, h1])
  case piece7 => exact c_pm m c t 512 _ (w_2 m c t) x T j (by rw [hT, h0]) (by rw [hj, h1])
  case piece8 => exact c_pm m c t 256 _ (w_1 m c t) x T j (by rw [hT, h0]) (by rw [hj, h1])
  case piece9 => exact c_pm m c t 0 _ (w_0 m c t) x T j (by rw [hT, h0]) (by rw [hj, h1, Nat.zero_add])

theorem pm_tile2 (r : Fin 512) (j : Fin 2560) : pmTile m c t (ix2 r j) = pj (ins m c) (tok t r) j :=
  pm_tile m c t (ix2 r j) (tok t r) j rfl rfl

theorem pm_of {L : List (View.Piece (Elt Ideal) S512x2560 .bf16)} (h : L = pmPieces m c t) : View.canon L = pmTile m c t := by
  subst h; rfl

/-- A part of the projection, of 512 columns. -/
def pmPart (col : Fin 512 → Fin 2560) : FVec Ideal S512x512 .bf16 := fun j => pmTile m c t (ix2 (j 0) (col (j 1)))

theorem pm_part (col : Fin 512 → Fin 2560) (r : Fin 512) (k : Fin 512) : pmPart m c t col (ix2 r k) = pj (ins m c) (tok t r) (col k) :=
  pm_tile2 m c t r (col k)

theorem rdU {L : List (View.Piece (Elt Ideal) S512x2560 .bf16)} (h : L = pmPieces m c t) :
    (ms0_16 t).view.readCov L (Rect.unit ![0, 0] ![512, 512] inb_S512x2560_S512x512_0_0).toLoadRect = pmPart m c t cU := by
  subst h
  rw [View.readCov_eq_canon']
  funext j
  exact congrArg (pmTile m c t) (by funext a; apply Fin.ext; fin_cases a <;> simp [LoadRect.idx, Rect.toLoadRect, cU])

theorem rdV {L : List (View.Piece (Elt Ideal) S512x2560 .bf16)} (h : L = pmPieces m c t) :
    (ms0_16 t).view.readCov L (Rect.unit ![0, 512] ![512, 512] inb_S512x2560_S512x512_0_512).toLoadRect = pmPart m c t cV := by
  subst h
  rw [View.readCov_eq_canon']
  funext j
  exact congrArg (pmTile m c t) (by funext a; apply Fin.ext; fin_cases a <;> simp [LoadRect.idx, Rect.toLoadRect, cV])

theorem rdG {L : List (View.Piece (Elt Ideal) S512x2560 .bf16)} (h : L = pmPieces m c t) :
    (ms0_16 t).view.readCov L (Rect.unit ![0, 1024] ![512, 512] inb_S512x2560_S512x512_0_1024).toLoadRect = pmPart m c t cG := by
  subst h
  rw [View.readCov_eq_canon']
  funext j
  exact congrArg (pmTile m c t) (by funext a; apply Fin.ext; fin_cases a <;> simp [LoadRect.idx, Rect.toLoadRect, cG])

theorem rdC {L : List (View.Piece (Elt Ideal) S512x2560 .bf16)} (h : L = pmPieces m c t) :
    (ms0_16 t).view.readCov L (Rect.unit ![0, 1536] ![512, 512] inb_S512x2560_S512x512_0_1536).toLoadRect = pmPart m c t cC := by
  subst h
  rw [View.readCov_eq_canon']
  funext j
  exact congrArg (pmTile m c t) (by funext a; apply Fin.ext; fin_cases a <;> simp [LoadRect.idx, Rect.toLoadRect, cC])

theorem rdX {L : List (View.Piece (Elt Ideal) S512x2560 .bf16)} (h : L = pmPieces m c t) :
    (ms0_16 t).view.readCov L (Rect.unit ![0, 2048] ![512, 512] inb_S512x2560_S512x512_0_2048).toLoadRect = pmPart m c t cX := by
  subst h
  rw [View.readCov_eq_canon']
  funext j
  exact congrArg (pmTile m c t) (by funext a; apply Fin.ext; fin_cases a <;> simp [LoadRect.idx, Rect.toLoadRect, cX])

end Cert.Mix.Ker

end
-- ==== Proof.MixFinite.lean ====
/- The precondition says that each element of the five arrays the projection is made from is a real
   number; the projection and the layer norm's centred columns are then real. -/
module

public import proofs.«01_k».proof.Proof.MixSpec
public import proofs.«01_k».proof.Proof.FfnFinite
public import proofs.«01_k».proof.Defs

@[expose] public section

noncomputable section

namespace Cert.Mix

open Idealize.ShloMosaic Idealize.ShloMosaic.TcCoe Idealize.SL.Sem
open Cert.Pre_finite_projection
open Cert.Consts

theorem pre_facts : Cert.Pre_finite_projection.Facts where
  h_S_ := by decide
  reducesTo_S4x1024_S_d0_1 := by decide
  reducesTo_S1024_S_d0 := by decide
  reducesTo_S1024x2560_S_d0_1 := by decide

/-- A value that is a real number. -/
def Re (a : EReal) : Prop := ∃ r : ℝ, a = (r : EReal)

theorem Re.add {a b : EReal} (h : Re a) (k : Re b) : Re (a + b) := by
  obtain ⟨r, rfl⟩ := h; obtain ⟨s, rfl⟩ := k; exact ⟨r + s, (EReal.coe_add r s).symm⟩

theorem Re.mul {a b : EReal} (h : Re a) (k : Re b) : Re (a * b) := by
  obtain ⟨r, rfl⟩ := h; obtain ⟨s, rfl⟩ := k; exact ⟨r * s, (EReal.coe_mul r s).symm⟩

theorem Re.sub {a b : EReal} (h : Re a) (k : Re b) : Re (a - b) := by
  obtain ⟨r, rfl⟩ := h; obtain ⟨s, rfl⟩ := k; exact ⟨r - s, (EReal.coe_sub r s).symm⟩

theorem Re.one : Re 1 := ⟨1, rfl⟩

theorem Re.sub_self {a : EReal} (h : Re a) : a - a = 0 := by
  obtain ⟨r, rfl⟩ := h; rw [← EReal.coe_sub, _root_.sub_self]; rfl

theorem Re.sum {ι : Type*} (s : Finset ι) (f : ι → EReal) (h : ∀ k, Re (f k)) : Re (∑ k ∈ s, f k) := by
  choose g hg using h
  exact ⟨∑ k ∈ s, g k, by rw [← coe_sum]; exact Finset.sum_congr rfl fun k _ => hg k⟩

theorem Re.div {a : EReal} (h : Re a) {r : ℝ} (hr : r ≠ 0) : Re (Ideal.div a (r : EReal)) := by
  obtain ⟨s, rfl⟩ := h; exact ⟨s / r, div_real hr s⟩

/-- The reciprocal root of a mean of squares and the constant is real. -/
theorem Re.rsqrt_mean {ι : Type*} (s : Finset ι) (f : ι → EReal) (h : ∀ k, Re (f k)) {n : ℝ} (hn : 0 < n) :
    Re (Ideal.rsqrt (Ideal.div (∑ k ∈ s, f k * f k) (n : EReal) + Ideal.ofBits .f32 0x358637BD#32)) := by
  choose g hg using h
  have e : (∑ k ∈ s, f k * f k) = ((∑ k ∈ s, g k * g k : ℝ) : EReal) := by
    rw [← coe_sum]; exact Finset.sum_congr rfl fun k _ => by rw [hg k, EReal.coe_mul]
  rw [e, div_real hn.ne', ofBits_eps, ← EReal.coe_add]
  refine ⟨_, rsqrt_pos ?_⟩
  have := eps_pos
  have h0 : 0 ≤ ∑ k ∈ s, g k * g k := Finset.sum_nonneg fun k _ => mul_self_nonneg _
  positivity

theorem mul_self_nonneg' (a : EReal) : 0 ≤ a * a := by
  induction a with
  | bot => simp
  | top => simp
  | coe r => rw [← EReal.coe_mul]; exact_mod_cast mul_self_nonneg r

/-- An entry times the reciprocal root of the mean of squares and the constant is real, whatever the entries:
    an infinite one makes the root's reciprocal zero. -/
theorem Re.normed {ι : Type*} (s : Finset ι) (f : ι → EReal) (hs : ∀ k, k ∈ s) {n : ℝ} (hn : 0 < n) (k : ι) :
    Re (f k * Ideal.rsqrt (Ideal.div (∑ k ∈ s, f k * f k) (n : EReal) + Ideal.ofBits .f32 0x358637BD#32)) := by
  by_cases h : ∀ k, Re (f k)
  · exact (h k).mul (Re.rsqrt_mean s f h hn)
  · obtain ⟨j, hj⟩ := not_forall.mp h
    have ht : f j * f j = ⊤ := by
      rcases hf : f j with _ | _ | r
      · rfl
      · rfl
      · exact absurd ⟨r, hf⟩ hj
    have hsum : (∑ k ∈ s, f k * f k) = ⊤ :=
      top_le_iff.mp (ht ▸ Finset.single_le_sum (f := fun k => f k * f k) (fun k _ => mul_self_nonneg' (f k)) (hs j))
    rw [hsum, Ideal.div_coe hn.ne', EReal.top_mul_coe_of_pos (by positivity), ofBits_eps, EReal.top_add_coe]
    exact ⟨0, by rw [Ideal.rsqrt_top, mul_zero]; rfl⟩

theorem Re.gel {a : EReal} (h : Re a) : Re (gel a) := by
  have hc : Re (Ideal.ofBits .f32 0x3F3504F3#32) := ⟨11863283 / 2 ^ 24, by simp [Ideal.ofBits, Ideal.ieee, -EReal.coe_mul]; norm_num⟩
  have hh : Re (Ideal.ofBits .f32 0x3F000000#32) := ⟨_, ofBits_half⟩
  obtain ⟨r, hr⟩ := h.mul hc
  unfold Cert.Mix.gel
  rw [hr, erf_real]
  exact (hh.mul h).mul (Re.one.add ⟨_, rfl⟩)

structure Finite (I : Ins) : Prop where
  sh : ∀ i, Re (I.sh i)
  sc : ∀ i, Re (I.sc i)
  gn : ∀ i, Re (I.gn i)
  win : ∀ i, Re (I.win i)

variable {I : Ins} (h : Finite I)
include h

theorem re_hid (T : Fin 8192) (k : Fin 1024) : Re (hid I T k) := by
  have hr : Re (I.x (ix3 (bOf T) (sOf T) k) * rr I T) := by
    unfold rr; rw [ofBits_1024]
    exact Re.normed Finset.univ (fun k => I.x (ix3 (bOf T) (sOf T) k)) Finset.mem_univ (by norm_num) k
  exact ((hr.mul (h.gn _)).mul (Re.one.add (h.sc _))).add (h.sh _)

theorem re_pj (T : Fin 8192) (e : Fin 2560) : Re (pj I T e) := Re.sum _ _ fun k => (re_hid h T k).mul (h.win _)

theorem re_v (T : Fin 8192) (c : Fin 512) : Re (v I T c) := (re_pj h T _).gel

theorem re_vc (T : Fin 8192) (c : Fin 512) : Re (vc I T c) := by
  refine (re_v h T c).sub ?_
  unfold mu; rw [ofBits_64]
  exact (Re.sum _ _ fun d => re_v h T _).div (by norm_num)

omit h in
/-- A sum over four groups of 64, of which one counts. -/
theorem sum_group (f : Fin 256 → EReal) (j : Fin 256) :
    (∑ k : Fin 256, if k.val / 64 = j.val / 64 then f k else 0) = ∑ d : Fin 64, f ⟨64 * (j.val / 64) + d.val, by omega⟩ := by
  rw [← Finset.sum_filter]
  refine Finset.sum_bij' (fun k _ => (⟨k.val % 64, by omega⟩ : Fin 64)) (fun d _ => (⟨64 * (j.val / 64) + d.val, by omega⟩ : Fin 256))
    (fun _ _ => Finset.mem_univ _) ?_ ?_ ?_ ?_
  · intro d _
    simp only [Finset.mem_filter, Finset.mem_univ, true_and]
    omega
  · intro k hk
    simp only [Finset.mem_filter, Finset.mem_univ, true_and] at hk
    exact Fin.ext (by simp only []; omega)
  · intro d _
    exact Fin.ext (by simp only []; omega)
  · intro k hk
    simp only [Finset.mem_filter, Finset.mem_univ, true_and] at hk
    exact congrArg f (Fin.ext (by simp only []; omega))

omit h in
/-- The product with the block diagonal is the mean over a group's 64 columns. -/
theorem mean_group (f : Fin 256 → EReal) (hf : ∀ k, Re (f k)) (j : Fin 256) :
    (∑ k : Fin 256, f k * (if k.val / 64 = j.val / 64 then Ideal.ofBits .f32 0x3C800000#32 else 0))
      = Ideal.div (∑ d : Fin 64, f ⟨64 * (j.val / 64) + d.val, by omega⟩) (Ideal.ofBits .f32 0x42800000#32) := by
  have e : ∀ k : Fin 256, f k * (if k.val / 64 = j.val / 64 then Ideal.ofBits .f32 0x3C800000#32 else 0)
      = if k.val / 64 = j.val / 64 then f k * Ideal.ofBits .f32 0x3C800000#32 else 0 := by
    intro k; split
    · rfl
    · exact mul_zero _
  rw [Finset.sum_congr rfl fun k _ => e k, sum_group (fun k => f k * Ideal.ofBits .f32 0x3C800000#32) j]
  choose g hg using hf
  rw [ofBits_64th, ofBits_64]
  simp only [hg, ← EReal.coe_mul]
  rw [coe_sum, coe_sum, div_real (by norm_num), ← Finset.sum_mul, mul_one_div]

omit h in
theorem finite_of_fn [Cert.Pre_finite_projection.Facts] (V : Ins) (j : S_.Idx)
    (h : fn (F := Ideal) V.x V.sh V.sc V.gate V.gn V.win V.lng V.lnb V.ws V.bs V.cw V.og V.wo j = 1#1) : Finite V := by
  unfold fn at h
  dsimp only at h
  obtain ⟨h, h3⟩ := Cert.Ffn.and_one h
  obtain ⟨h, h2⟩ := Cert.Ffn.and_one h
  obtain ⟨h0, h1⟩ := Cert.Ffn.and_one h
  clear h
  constructor
  · exact Cert.Ffn.real_of_max V.sh Facts.reducesTo_S4x1024_S_d0_1 Facts.h_S_ j h0
  · exact Cert.Ffn.real_of_max V.sc Facts.reducesTo_S4x1024_S_d0_1 Facts.h_S_ j h1
  · exact Cert.Ffn.real_of_max V.gn Facts.reducesTo_S1024_S_d0 Facts.h_S_ j h2
  · exact Cert.Ffn.real_of_max V.win Facts.reducesTo_S1024x2560_S_d0_1 Facts.h_S_ j h3

end Cert.Mix

end
-- ==== Proof.MixBlock.lean ====
/- The layer norm over each head's columns, and the spatial product of a tile: sixteen blocks of 128
   rows and 128 columns, each of two heads. -/
module

public import proofs.«01_k».proof.Proof.MixTile
public import proofs.«01_k».proof.Proof.MixFinite

@[expose] public section

set_option maxRecDepth 16384

noncomputable section

namespace Cert.Mix.Ker

open Idealize.ShloMosaic Idealize.ShloMosaic.TcCoe Idealize.SL.Sem
open Cert.MixerIdeal Cert.MixerIdeal.Gen
open Cert.Mix Cert.Consts

/-- The product of a part of an array, and of what is left of it after rounding, with the block diagonal. -/
def gPart (x : FVec Ideal S512x512 .f32) (b : FVec Ideal S256x256 .bf16) : FVec Ideal S512x512 .f32 :=
  concatenate S512x512 1
    [⟨S512x256, addf (matmul dot_S512x256_S256x256_S512x256_1_0_0_1_n_n none (extractStridedSlice S512x256 ![0, 0] (truncf .bf16 x bitsLt_bf16_f32) slices_S512x512_o0_0_S512x256) b (constant S512x256 .f32 0x00000000#32))
        (matmul dot_S512x256_S256x256_S512x256_1_0_0_1_n_n none (extractStridedSlice S512x256 ![0, 0] (truncf .bf16 (subf x (extf .f32 (truncf .bf16 x bitsLt_bf16_f32) bitsLt_bf16_f32)) bitsLt_bf16_f32) slices_S512x512_o0_0_S512x256) b (constant S512x256 .f32 0x00000000#32))⟩,
      ⟨S512x256, addf (matmul dot_S512x256_S256x256_S512x256_1_0_0_1_n_n none (extractStridedSlice S512x256 ![0, 256] (truncf .bf16 x bitsLt_bf16_f32) slices_S512x512_o0_256_S512x256) b (constant S512x256 .f32 0x00000000#32))
        (matmul dot_S512x256_S256x256_S512x256_1_0_0_1_n_n none (extractStridedSlice S512x256 ![0, 256] (truncf .bf16 (subf x (extf .f32 (truncf .bf16 x bitsLt_bf16_f32) bitsLt_bf16_f32)) bitsLt_bf16_f32) slices_S512x512_o0_256_S512x256) b (constant S512x256 .f32 0x00000000#32))⟩]
    concatenates_S512x256_S512x256_S512x512_d1

theorem gPart_at (x : FVec Ideal S512x512 .f32) (b : FVec Ideal S256x256 .bf16) (r c : Fin 512) (hx : ∀ c, Re (x (ix2 r c)))
    (hb : ∀ i j, b (ix2 i j) = hBd (ix2 i j)) :
    gPart x b (ix2 r c) = Ideal.div (∑ d : Fin 64, x (ix2 r (hc (hd c) d))) (Ideal.ofBits .f32 0x42800000#32) := by
  pointwise [gPart]
  simp only [hb, bd_at, (hx _).sub_self, zero_mul, Finset.sum_const_zero, add_zero]
  have hcl := c.isLt
  by_cases h : c.val < 256
  · rw [dif_pos h]
    refine (mean_group (fun k => x (ix2 r ⟨k.val, by omega⟩)) (fun k => hx _) ⟨c.val, h⟩).trans ?_
    rfl
  · rw [dif_neg h]
    refine (mean_group (fun k => x (ix2 r ⟨256 + k.val, by omega⟩)) (fun k => hx _) ⟨c.val - 256, by omega⟩).trans ?_
    refine congrArg (fun s => Ideal.div s _) (Finset.sum_congr rfl fun d _ => congrArg (fun k => x (ix2 r k)) (Fin.ext ?_))
    simp only [hc, hd]
    omega

/-- The layer norm from the centred columns and their means of squares. -/
def lnOut (vc s : FVec Ideal S512x512 .f32) (g b : FVec Ideal S1x512 .f32) : FVec Ideal S512x512 .f32 :=
  addf (mulf (mulf vc (rsqrt (addf s (broadcast S512x512 (Scalar.ofBits .f32 0x358637BD#32 : Ideal .f32)))))
      (broadcastTo S512x512 (shapeCast S1x512 g shapeCasts_S1x512_S1x512) broadcasts_S1x512_S512x512))
    (broadcastTo S512x512 (shapeCast S1x512 b shapeCasts_S1x512_S1x512) broadcasts_S1x512_S512x512)

theorem lnOut_at (vc s : FVec Ideal S512x512 .f32) (g b : FVec Ideal S1x512 .f32) (r c : Fin 512) :
    lnOut vc s g b (ix2 r c) = vc (ix2 r c) * Ideal.rsqrt (s (ix2 r c) + Ideal.ofBits .f32 0x358637BD#32) * g (ix2 0 c) + b (ix2 0 c) := by
  pointwise [lnOut]

theorem pay23_eq (p : FVec Ideal S512x512 .bf16) (b : FVec Ideal S256x256 .bf16) (lg lb : FVec Ideal S1x512 .f32) :
    k0_pay23 (F := Ideal) (k0_pay18 p) (k0_pay19 b) (k0_pay20 p) (k0_pay21 p) (k0_pay22 p b) lg lb
      = lnOut (subf (k0_pay18 p) (gPart (k0_pay18 p) (k0_pay19 b)))
          (gPart (mulf (subf (k0_pay18 p) (gPart (k0_pay18 p) (k0_pay19 b))) (subf (k0_pay18 p) (gPart (k0_pay18 p) (k0_pay19 b)))) (k0_pay19 b)) lg lb := rfl

theorem pay18_at (p : FVec Ideal S512x512 .bf16) (r c : Fin 512) : k0_pay18 (F := Ideal) p (ix2 r c) = gel (p (ix2 r c)) := by
  pointwise [k0_pay18]; rfl

theorem pay17_at (p : FVec Ideal S512x512 .bf16) (r c : Fin 512) : k0_pay17 (F := Ideal) p (ix2 r c) = gel (p (ix2 r c)) := by
  pointwise [k0_pay17]; rfl

variable (m : (ℓ : Loc nD τ sig) → Buf (Elt Ideal) ℓ) (c : Dev nD) (t : Fin cfg0.N)

/-- The layer norm's tile. -/
def nTile : FVec Ideal S512x512 .f32 :=
  k0_pay23 (k0_pay18 (pmPart m c t cV)) (k0_pay19 (iblk m c 14 t)) (k0_pay20 (pmPart m c t cV)) (k0_pay21 (pmPart m c t cV))
    (k0_pay22 (pmPart m c t cV) (iblk m c 14 t)) (iblk m c 10 t) (iblk m c 11 t)

variable (hfin : Finite (ins m c))
include hfin

theorem n_tile (r k : Fin 512) : nTile m c t (ix2 r k) = vln (ins m c) (tok t r) k := by
  have hv : ∀ k, k0_pay18 (F := Ideal) (pmPart m c t cV) (ix2 r k) = v (ins m c) (tok t r) k := fun k => by
    rw [pay18_at, pm_part]; rfl
  have hb : ∀ i j, k0_pay19 (F := Ideal) (iblk m c 14 t) (ix2 i j) = hBd (ix2 i j) := fun i j => by
    pointwise [k0_pay19]; exact i14 m c t i j
  unfold nTile
  rw [pay23_eq, lnOut_at, i10, i11]
  generalize k0_pay18 (F := Ideal) (pmPart m c t cV) = x at hv ⊢
  generalize k0_pay19 (F := Ideal) (iblk m c 14 t) = b at hb ⊢
  have hm : ∀ k, gPart x b (ix2 r k) = mu (ins m c) (tok t r) (hd k) := fun k => by
    rw [gPart_at x b r k (fun k => by rw [hv]; exact re_v hfin _ _) hb]
    simp only [hv]; rfl
  have hvc : ∀ k, subf x (gPart x b) (ix2 r k) = vc (ins m c) (tok t r) k := fun k => by
    rw [subf_apply, hv, hm]; rfl
  generalize subf x (gPart x b) = y at hvc ⊢
  have hyy : ∀ k, mulf y y (ix2 r k) = vc (ins m c) (tok t r) k * vc (ins m c) (tok t r) k := fun k => by
    rw [mulf_apply, hvc]; rfl
  rw [gPart_at (mulf y y) b r k (fun k => by rw [hyy]; exact (re_vc hfin _ _).mul (re_vc hfin _ _)) hb]
  simp only [hyy, hvc]
  rfl

omit hfin

/-- The spatial product of a block: the first head's columns over the second's, times both heads' weights. -/
def mixBlk (v : FVec Ideal S128x128 .f32) (w : FVec Ideal S1x128x256 .bf16) (b : FVec Ideal S128x128 .f32) : FVec Ideal S128x128 .f32 :=
  k0_pay28 (F := Ideal) k0_pay24 v (select k0_pay24 v (broadcast S128x128 (Scalar.ofBits .f32 0x00000000#32 : Ideal .f32)))
    (broadcast S128x128 (Scalar.ofBits .f32 0x00000000#32 : Ideal .f32)) w b

theorem mask_at (a j : Fin 128) : k0_pay24 (ix2 a j) = if j.val < 64 then 1#1 else 0#1 := by
  have e : ∀ j : Fin 128, IntOp.cmpi .slt (BitVec.ofNat 32 j.val) 64#32 = if j.val < 64 then 1#1 else 0#1 := by decide +kernel
  rw [← e j]
  pointwise [k0_pay24]

theorem mixBlk_at (v : FVec Ideal S128x128 .f32) (w : FVec Ideal S1x128x256 .bf16) (b : FVec Ideal S128x128 .f32) (a j : Fin 128) :
    mixBlk v w b (ix2 a j) = (∑ k : Fin 128, w (ix3 0 a ⟨128 * (j.val / 64) + k.val, by omega⟩) * v (ix2 k j)) + b (ix2 a j) := by
  have hm : ∀ a, k0_pay24 (ix2 a j) = if j.val < 64 then 1#1 else 0#1 := fun a => mask_at a j
  unfold mixBlk
  generalize k0_pay24 = K at hm ⊢
  pointwise [k0_pay28]
  simp only [hm]
  have hj := j.isLt
  by_cases h : j.val < 64
  · simp only [if_pos h, Scalar.select]
    simp
    refine congrArg (· + b (ix2 a j)) (Finset.sum_congr rfl fun k _ => congrArg (fun e => w (ix3 0 a e) * v (ix2 k j)) (Fin.ext ?_))
    simp only []
    omega
  · simp only [if_neg h, Scalar.select]
    simp
    refine congrArg (· + b (ix2 a j)) (Finset.sum_congr rfl fun k _ => congrArg (fun e => w (ix3 0 a e) * v (ix2 k j)) (Fin.ext ?_))
    simp only []
    omega

/-- A block of the layer norm's tile, at its first row and column. -/
def nPart (R C : ℕ) (v : FVec Ideal S128x128 .f32) : Prop :=
  ∀ (k j : Fin 128) (r e : Fin 512), r.val = R + k.val → e.val = C + j.val → v (ix2 k j) = vln (ins m c) (tok t r) e

/-- Two heads' weights. -/
def wTwo (g : Fin 4) (w : FVec Ideal S1x128x256 .bf16) : Prop :=
  ∀ (a : Fin 128) (k : Fin 256), w (ix3 0 a k) = (V m c main_v17 : FVec Ideal S4x128x256 .bf16) (ix3 g a k)

/-- Two heads' biases. -/
def bTwo (C : ℕ) (b : FVec Ideal S128x128 .f32) : Prop :=
  ∀ (a j : Fin 128) (e : Fin 512), e.val = C + j.val → b (ix2 a j) = (ins m c).bs (ix2 (hd e) a)

theorem c_mix (R C : ℕ) (g : Fin 4) (hC : C = 128 * g.val) (hR : R % 128 = 0) (hR' : R < 512) (v : FVec Ideal S128x128 .f32) (hv : nPart m c t R C v)
    (w : FVec Ideal S1x128x256 .bf16) (hw : wTwo m c g w) (b : FVec Ideal S128x128 .f32) (hb : bTwo m c C b)
    (x : S128x128.Idx) (T : Fin 8192) (e : Fin 512) (hT : T.val = 512 * t.val + (R + (x 0).val)) (he : e.val = C + (x 1).val) :
    mixBlk v w b x = mixed (ins m c) T e := by
  obtain ⟨a, j, rfl⟩ : ∃ (a j : Fin 128), x = ix2 a j := ⟨x 0, x 1, by funext a; fin_cases a <;> rfl⟩
  have hT' : T.val = 512 * t.val + (R + a.val) := hT
  have he' : e.val = C + j.val := he
  have ha := a.isLt
  have hj := j.isLt
  have hct : ct T = a := Fin.ext (by simp only [ct]; omega)
  rw [mixBlk_at, hb a j e he']
  unfold mixed
  rw [hct]
  refine congrArg (· + _) (Finset.sum_congr rfl fun k _ => ?_)
  have hk := k.isLt
  rw [hw, v17 m c g a _ (hd e) k (by simp only [hd]; omega) (by simp only []; omega),
    hv k j ⟨R + k.val, by omega⟩ e rfl he']
  refine congrArg (fun s => _ * vln (ins m c) s e) (Fin.ext ?_)
  simp only [tok, ck]
  omega

theorem wt_0 : wTwo m c 0 (View.ld (iblk m c 8 t) (Rect.unit ![0, 0, 0] ![1, 128, 256] inb_S4x128x256_S1x128x256_0_0_0)) := by
  intro a k
  rw [← i8 m c t 0 a k]
  pointwise
  blk_ext

theorem bt_0 : bTwo m c 0 (View.ld (iblk m c 9 t) (Rect.unit ![0, 0] ![128, 128] inb_S128x512_S128x128_0_0)) := by
  intro a j e he
  obtain ⟨e, hl⟩ := e
  obtain rfl : e = 0 + j.val := he
  rw [← i9 m c t a ⟨0 + j.val, hl⟩]
  pointwise
  blk_ext

theorem wt_1 : wTwo m c 1 (View.ld (iblk m c 8 t) (Rect.unit ![1, 0, 0] ![1, 128, 256] inb_S4x128x256_S1x128x256_1_0_0)) := by
  intro a k
  rw [← i8 m c t 1 a k]
  pointwise
  blk_ext

theorem bt_1 : bTwo m c 128 (View.ld (iblk m c 9 t) (Rect.unit ![0, 128] ![128, 128] inb_S128x512_S128x128_0_128)) := by
  intro a j e he
  obtain ⟨e, hl⟩ := e
  obtain rfl : e = 128 + j.val := he
  rw [← i9 m c t a ⟨128 + j.val, hl⟩]
  pointwise
  blk_ext

theorem wt_2 : wTwo m c 2 (View.ld (iblk m c 8 t) (Rect.unit ![2, 0, 0] ![1, 128, 256] inb_S4x128x256_S1x128x256_2_0_0)) := by
  intro a k
  rw [← i8 m c t 2 a k]
  pointwise
  blk_ext

theorem bt_2 : bTwo m c 256 (View.ld (iblk m c 9 t) (Rect.unit ![0, 256] ![128, 128] inb_S128x512_S128x128_0_256)) := by
  intro a j e he
  obtain ⟨e, hl⟩ := e
  obtain rfl : e = 256 + j.val := he
  rw [← i9 m c t a ⟨256 + j.val, hl⟩]
  pointwise
  blk_ext

theorem wt_3 : wTwo m c 3 (View.ld (iblk m c 8 t) (Rect.unit ![3, 0, 0] ![1, 128, 256] inb_S4x128x256_S1x128x256_3_0_0)) := by
  intro a k
  rw [← i8 m c t 3 a k]
  pointwise
  blk_ext

theorem bt_3 : bTwo m c 384 (View.ld (iblk m c 9 t) (Rect.unit ![0, 384] ![128, 128] inb_S128x512_S128x128_0_384)) := by
  intro a j e he
  obtain ⟨e, hl⟩ := e
  obtain rfl : e = 384 + j.val := he
  rw [← i9 m c t a ⟨384 + j.val, hl⟩]
  pointwise
  blk_ext

variable (hfin : Finite (ins m c))
include hfin

theorem np_00 : nPart m c t 0 0 (extractStridedSlice S128x128 ![0, 0] (nTile m c t) slices_S512x512_o0_0_S128x128) := by
  intro k j r e hr he
  rw [← n_tile m c t hfin r e]
  generalize nTile m c t = N
  pointwise
  exact congrArg₂ (fun a b => N (ix2 a b)) (Fin.ext (by (simp only [hr]) <;> omega)) (Fin.ext (by (simp only [he]) <;> omega))

theorem np_01 : nPart m c t 0 128 (extractStridedSlice S128x128 ![0, 128] (nTile m c t) slices_S512x512_o0_128_S128x128) := by
  intro k j r e hr he
  rw [← n_tile m c t hfin r e]
  generalize nTile m c t = N
  pointwise
  exact congrArg₂ (fun a b => N (ix2 a b)) (Fin.ext (by (simp only [hr]) <;> omega)) (Fin.ext (by (simp only [he]) <;> omega))

theorem np_02 : nPart m c t 0 256 (extractStridedSlice S128x128 ![0, 256] (nTile m c t) slices_S512x512_o0_256_S128x128) := by
  intro k j r e hr he
  rw [← n_tile m c t hfin r e]
  generalize nTile m c t = N
  pointwise
  exact congrArg₂ (fun a b => N (ix2 a b)) (Fin.ext (by (simp only [hr]) <;> omega)) (Fin.ext (by (simp only [he]) <;> omega))

theorem np_03 : nPart m c t 0 384 (extractStridedSlice S128x128 ![0, 384] (nTile m c t) slices_S512x512_o0_384_S128x128) := by
  intro k j r e hr he
  rw [← n_tile m c t hfin r e]
  generalize nTile m c t = N
  pointwise
  exact congrArg₂ (fun a b => N (ix2 a b)) (Fin.ext (by (simp only [hr]) <;> omega)) (Fin.ext (by (simp only [he]) <;> omega))

theorem np_10 : nPart m c t 128 0 (extractStridedSlice S128x128 ![128, 0] (nTile m c t) slices_S512x512_o128_0_S128x128) := by
  intro k j r e hr he
  rw [← n_tile m c t hfin r e]
  generalize nTile m c t = N
  pointwise
  exact congrArg₂ (fun a b => N (ix2 a b)) (Fin.ext (by (simp only [hr]) <;> omega)) (Fin.ext (by (simp only [he]) <;> omega))

theorem np_11 : nPart m c t 128 128 (extractStridedSlice S128x128 ![128, 128] (nTile m c t) slices_S512x512_o128_128_S128x128) := by
  intro k j r e hr he
  rw [← n_tile m c t hfin r e]
  generalize nTile m c t = N
  pointwise
  exact congrArg₂ (fun a b => N (ix2 a b)) (Fin.ext (by (simp only [hr]) <;> omega)) (Fin.ext (by (simp only [he]) <;> omega))

theorem np_12 : nPart m c t 128 256 (extractStridedSlice S128x128 ![128, 256] (nTile m c t) slices_S512x512_o128_256_S128x128) := by
  intro k j r e hr he
  rw [← n_tile m c t hfin r e]
  generalize nTile m c t = N
  pointwise
  exact congrArg₂ (fun a b => N (ix2 a b)) (Fin.ext (by (simp only [hr]) <;> omega)) (Fin.ext (by (simp only [he]) <;> omega))

theorem np_13 : nPart m c t 128 384 (extractStridedSlice S128x128 ![128, 384] (nTile m c t) slices_S512x512_o128_384_S128x128) := by
  intro k j r e hr he
  rw [← n_tile m c t hfin r e]
  generalize nTile m c t = N
  pointwise
  exact congrArg₂ (fun a b => N (ix2 a b)) (Fin.ext (by (simp only [hr]) <;> omega)) (Fin.ext (by (simp only [he]) <;> omega))

theorem np_20 : nPart m c t 256 0 (extractStridedSlice S128x128 ![256, 0] (nTile m c t) slices_S512x512_o256_0_S128x128) := by
  intro k j r e hr he
  rw [← n_tile m c t hfin r e]
  generalize nTile m c t = N
  pointwise
  exact congrArg₂ (fun a b => N (ix2 a b)) (Fin.ext (by (simp only [hr]) <;> omega)) (Fin.ext (by (simp only [he]) <;> omega))

theorem np_21 : nPart m c t 256 128 (extractStridedSlice S128x128 ![256, 128] (nTile m c t) slices_S512x512_o256_128_S128x128) := by
  intro k j r e hr he
  rw [← n_tile m c t hfin r e]
  generalize nTile m c t = N
  pointwise
  exact congrArg₂ (fun a b => N (ix2 a b)) (Fin.ext (by (simp only [hr]) <;> omega)) (Fin.ext (by (simp only [he]) <;> omega))

theorem np_22 : nPart m c t 256 256 (extractStridedSlice S128x128 ![256, 256] (nTile m c t) slices_S512x512_o256_256_S128x128) := by
  intro k j r e hr he
  rw [← n_tile m c t hfin r e]
  generalize nTile m c t = N
  pointwise
  exact congrArg₂ (fun a b => N (ix2 a b)) (Fin.ext (by (simp only [hr]) <;> omega)) (Fin.ext (by (simp only [he]) <;> omega))

theorem np_23 : nPart m c t 256 384 (extractStridedSlice S128x128 ![256, 384] (nTile m c t) slices_S512x512_o256_384_S128x128) := by
  intro k j r e hr he
  rw [← n_tile m c t hfin r e]
  generalize nTile m c t = N
  pointwise
  exact congrArg₂ (fun a b => N (ix2 a b)) (Fin.ext (by (simp only [hr]) <;> omega)) (Fin.ext (by (simp only [he]) <;> omega))

theorem np_30 : nPart m c t 384 0 (extractStridedSlice S128x128 ![384, 0] (nTile m c t) slices_S512x512_o384_0_S128x128) := by
  intro k j r e hr he
  rw [← n_tile m c t hfin r e]
  generalize nTile m c t = N
  pointwise
  exact congrArg₂ (fun a b => N (ix2 a b)) (Fin.ext (by (simp only [hr]) <;> omega)) (Fin.ext (by (simp only [he]) <;> omega))

theorem np_31 : nPart m c t 384 128 (extractStridedSlice S128x128 ![384, 128] (nTile m c t) slices_S512x512_o384_128_S128x128) := by
  intro k j r e hr he
  rw [← n_tile m c t hfin r e]
  generalize nTile m c t = N
  pointwise
  exact congrArg₂ (fun a b => N (ix2 a b)) (Fin.ext (by (simp only [hr]) <;> omega)) (Fin.ext (by (simp only [he]) <;> omega))

theorem np_32 : nPart m c t 384 256 (extractStridedSlice S128x128 ![384, 256] (nTile m c t) slices_S512x512_o384_256_S128x128) := by
  intro k j r e hr he
  rw [← n_tile m c t hfin r e]
  generalize nTile m c t = N
  pointwise
  exact congrArg₂ (fun a b => N (ix2 a b)) (Fin.ext (by (simp only [hr]) <;> omega)) (Fin.ext (by (simp only [he]) <;> omega))

theorem np_33 : nPart m c t 384 384 (extractStridedSlice S128x128 ![384, 384] (nTile m c t) slices_S512x512_o384_384_S128x128) := by
  intro k j r e hr he
  rw [← n_tile m c t hfin r e]
  generalize nTile m c t = N
  pointwise
  exact congrArg₂ (fun a b => N (ix2 a b)) (Fin.ext (by (simp only [hr]) <;> omega)) (Fin.ext (by (simp only [he]) <;> omega))

omit hfin

/-- The blocks of the spatial product, last written first. -/
def mixPieces : List (View.Piece (Elt Ideal) S512x512 .f32) :=
  [⟨Rect.unit ![384, 384] ![128, 128] inb_S512x512_S128x128_384_384, mixBlk (extractStridedSlice S128x128 ![384, 384] (nTile m c t) slices_S512x512_o384_384_S128x128)
      (View.ld (iblk m c 8 t) (Rect.unit ![3, 0, 0] ![1, 128, 256] inb_S4x128x256_S1x128x256_3_0_0)) (View.ld (iblk m c 9 t) (Rect.unit ![0, 384] ![128, 128] inb_S128x512_S128x128_0_384))⟩,
    ⟨Rect.unit ![384, 256] ![128, 128] inb_S512x512_S128x128_384_256, mixBlk (extractStridedSlice S128x128 ![384, 256] (nTile m c t) slices_S512x512_o384_256_S128x128)
      (View.ld (iblk m c 8 t) (Rect.unit ![2, 0, 0] ![1, 128, 256] inb_S4x128x256_S1x128x256_2_0_0)) (View.ld (iblk m c 9 t) (Rect.unit ![0, 256] ![128, 128] inb_S128x512_S128x128_0_256))⟩,
    ⟨Rect.unit ![384, 128] ![128, 128] inb_S512x512_S128x128_384_128, mixBlk (extractStridedSlice S128x128 ![384, 128] (nTile m c t) slices_S512x512_o384_128_S128x128)
      (View.ld (iblk m c 8 t) (Rect.unit ![1, 0, 0] ![1, 128, 256] inb_S4x128x256_S1x128x256_1_0_0)) (View.ld (iblk m c 9 t) (Rect.unit ![0, 128] ![128, 128] inb_S128x512_S128x128_0_128))⟩,
    ⟨Rect.unit ![384, 0] ![128, 128] inb_S512x512_S128x128_384_0, mixBlk (extractStridedSlice S128x128 ![384, 0] (nTile m c t) slices_S512x512_o384_0_S128x128)
      (View.ld (iblk m c 8 t) (Rect.unit ![0, 0, 0] ![1, 128, 256] inb_S4x128x256_S1x128x256_0_0_0)) (View.ld (iblk m c 9 t) (Rect.unit ![0, 0] ![128, 128] inb_S128x512_S128x128_0_0))⟩,
    ⟨Rect.unit ![256, 384] ![128, 128] inb_S512x512_S128x128_256_384, mixBlk (extractStridedSlice S128x128 ![256, 384] (nTile m c t) slices_S512x512_o256_384_S128x128)
      (View.ld (iblk m c 8 t) (Rect.unit ![3, 0, 0] ![1, 128, 256] inb_S4x128x256_S1x128x256_3_0_0)) (View.ld (iblk m c 9 t) (Rect.unit ![0, 384] ![128, 128] inb_S128x512_S128x128_0_384))⟩,
    ⟨Rect.unit ![256, 256] ![128, 128] inb_S512x512_S128x128_256_256, mixBlk (extractStridedSlice S128x128 ![256, 256] (nTile m c t) slices_S512x512_o256_256_S128x128)
      (View.ld (iblk m c 8 t) (Rect.unit ![2, 0, 0] ![1, 128, 256] inb_S4x128x256_S1x128x256_2_0_0)) (View.ld (iblk m c 9 t) (Rect.unit ![0, 256] ![128, 128] inb_S128x512_S128x128_0_256))⟩,
    ⟨Rect.unit ![256, 128] ![128, 128] inb_S512x512_S128x128_256_128, mixBlk (extractStridedSlice S128x128 ![256, 128] (nTile m c t) slices_S512x512_o256_128_S128x128)
      (View.ld (iblk m c 8 t) (Rect.unit ![1, 0, 0] ![1, 128, 256] inb_S4x128x256_S1x128x256_1_0_0)) (View.ld (iblk m c 9 t) (Rect.unit ![0, 128] ![128, 128] inb_S128x512_S128x128_0_128))⟩,
    ⟨Rect.unit ![256, 0] ![128, 128] inb_S512x512_S128x128_256_0, mixBlk (extractStridedSlice S128x128 ![256, 0] (nTile m c t) slices_S512x512_o256_0_S128x128)
      (View.ld (iblk m c 8 t) (Rect.unit ![0, 0, 0] ![1, 128, 256] inb_S4x128x256_S1x128x256_0_0_0)) (View.ld (iblk m c 9 t) (Rect.unit ![0, 0] ![128, 128] inb_S128x512_S128x128_0_0))⟩,
    ⟨Rect.unit ![128, 384] ![128, 128] inb_S512x512_S128x128_128_384, mixBlk (extractStridedSlice S128x128 ![128, 384] (nTile m c t) slices_S512x512_o128_384_S128x128)
      (View.ld (iblk m c 8 t) (Rect.unit ![3, 0, 0] ![1, 128, 256] inb_S4x128x256_S1x128x256_3_0_0)) (View.ld (iblk m c 9 t) (Rect.unit ![0, 384] ![128, 128] inb_S128x512_S128x128_0_384))⟩,
    ⟨Rect.unit ![128, 256] ![128, 128] inb_S512x512_S128x128_128_256, mixBlk (extractStridedSlice S128x128 ![128, 256] (nTile m c t) slices_S512x512_o128_256_S128x128)
      (View.ld (iblk m c 8 t) (Rect.unit ![2, 0, 0] ![1, 128, 256] inb_S4x128x256_S1x128x256_2_0_0)) (View.ld (iblk m c 9 t) (Rect.unit ![0, 256] ![128, 128] inb_S128x512_S128x128_0_256))⟩,
    ⟨Rect.unit ![128, 128] ![128, 128] inb_S512x512_S128x128_128_128, mixBlk (extractStridedSlice S128x128 ![128, 128] (nTile m c t) slices_S512x512_o128_128_S128x128)
      (View.ld (iblk m c 8 t) (Rect.unit ![1, 0, 0] ![1, 128, 256] inb_S4x128x256_S1x128x256_1_0_0)) (View.ld (iblk m c 9 t) (Rect.unit ![0, 128] ![128, 128] inb_S128x512_S128x128_0_128))⟩,
    ⟨Rect.unit ![128, 0] ![128, 128] inb_S512x512_S128x128_128_0, mixBlk (extractStridedSlice S128x128 ![128, 0] (nTile m c t) slices_S512x512_o128_0_S128x128)
      (View.ld (iblk m c 8 t) (Rect.unit ![0, 0, 0] ![1, 128, 256] inb_S4x128x256_S1x128x256_0_0_0)) (View.ld (iblk m c 9 t) (Rect.unit ![0, 0] ![128, 128] inb_S128x512_S128x128_0_0))⟩,
    ⟨Rect.unit ![0, 384] ![128, 128] inb_S512x512_S128x128_0_384, mixBlk (extractStridedSlice S128x128 ![0, 384] (nTile m c t) slices_S512x512_o0_384_S128x128)
      (View.ld (iblk m c 8 t) (Rect.unit ![3, 0, 0] ![1, 128, 256] inb_S4x128x256_S1x128x256_3_0_0)) (View.ld (iblk m c 9 t) (Rect.unit ![0, 384] ![128, 128] inb_S128x512_S128x128_0_384))⟩,
    ⟨Rect.unit ![0, 256] ![128, 128] inb_S512x512_S128x128_0_256, mixBlk (extractStridedSlice S128x128 ![0, 256] (nTile m c t) slices_S512x512_o0_256_S128x128)
      (View.ld (iblk m c 8 t) (Rect.unit ![2, 0, 0] ![1, 128, 256] inb_S4x128x256_S1x128x256_2_0_0)) (View.ld (iblk m c 9 t) (Rect.unit ![0, 256] ![128, 128] inb_S128x512_S128x128_0_256))⟩,
    ⟨Rect.unit ![0, 128] ![128, 128] inb_S512x512_S128x128_0_128, mixBlk (extractStridedSlice S128x128 ![0, 128] (nTile m c t) slices_S512x512_o0_128_S128x128)
      (View.ld (iblk m c 8 t) (Rect.unit ![1, 0, 0] ![1, 128, 256] inb_S4x128x256_S1x128x256_1_0_0)) (View.ld (iblk m c 9 t) (Rect.unit ![0, 128] ![128, 128] inb_S128x512_S128x128_0_128))⟩,
    ⟨Rect.unit ![0, 0] ![128, 128] inb_S512x512_S128x128_0_0, mixBlk (extractStridedSlice S128x128 ![0, 0] (nTile m c t) slices_S512x512_o0_0_S128x128)
      (View.ld (iblk m c 8 t) (Rect.unit ![0, 0, 0] ![1, 128, 256] inb_S4x128x256_S1x128x256_0_0_0)) (View.ld (iblk m c 9 t) (Rect.unit ![0, 0] ![128, 128] inb_S128x512_S128x128_0_0))⟩]

def mixTile : FVec Ideal S512x512 .f32 := View.canon (mixPieces m c t)

include hfin in
theorem mix_tile (y : S512x512.Idx) (T : Fin 8192) (e : Fin 512) (hT : T.val = 512 * t.val + (y 0).val) (he : e.val = (y 1).val) :
    mixTile m c t y = mixed (ins m c) T e := by
  unfold mixTile mixPieces
  canon_tiles x h
  case piece0 => exact c_mix m c t 384 384 3 rfl (by decide) (by decide) _ (np_33 m c t hfin) _ (wt_3 m c t) _ (bt_3 m c t) x T e (by rw [hT, h0]) (by rw [he, h1])
  case piece1 => exact c_mix m c t 384 256 2 rfl (by decide) (by decide) _ (np_32 m c t hfin) _ (wt_2 m c t) _ (bt_2 m c t) x T e (by rw [hT, h0]) (by rw [he, h1])
  case piece2 => exact c_mix m c t 384 128 1 rfl (by decide) (by decide) _ (np_31 m c t hfin) _ (wt_1 m c t) _ (bt_1 m c t) x T e (by rw [hT, h0]) (by rw [he, h1])
  case piece3 => exact c_mix m c t 384 0 0 rfl (by decide) (by decide) _ (np_30 m c t hfin) _ (wt_0 m c t) _ (bt_0 m c t) x T e (by rw [hT, h0]) (by rw [he, h1, Nat.zero_add])
  case piece4 => exact c_mix m c t 256 384 3 rfl (by decide) (by decide) _ (np_23 m c t hfin) _ (wt_3 m c t) _ (bt_3 m c t) x T e (by rw [hT, h0]) (by rw [he, h1])
  case piece5 => exact c_mix m c t 256 256 2 rfl (by decide) (by decide) _ (np_22 m c t hfin) _ (wt_2 m c t) _ (bt_2 m c t) x T e (by rw [hT, h0]) (by rw [he, h1])
  case piece6 => exact c_mix m c t 256 128 1 rfl (by decide) (by decide) _ (np_21 m c t hfin) _ (wt_1 m c t) _ (bt_1 m c t) x T e (by rw [hT, h0]) (by rw [he, h1])
  case piece7 => exact c_mix m c t 256 0 0 rfl (by decide) (by decide) _ (np_20 m c t hfin) _ (wt_0 m c t) _ (bt_0 m c t) x T e (by rw [hT, h0]) (by rw [he, h1, Nat.zero_add])
  case piece8 => exact c_mix m c t 128 384 3 rfl (by decide) (by decide) _ (np_13 m c t hfin) _ (wt_3 m c t) _ (bt_3 m c t) x T e (by rw [hT, h0]) (by rw [he, h1])
  case piece9 => exact c_mix m c t 128 256 2 rfl (by decide) (by decide) _ (np_12 m c t hfin) _ (wt_2 m c t) _ (bt_2 m c t) x T e (by rw [hT, h0]) (by rw [he, h1])
  case piece10 => exact c_mix m c t 128 128 1 rfl (by decide) (by decide) _ (np_11 m c t hfin) _ (wt_1 m c t) _ (bt_1 m c t) x T e (by rw [hT, h0]) (by rw [he, h1])
  case piece11 => exact c_mix m c t 128 0 0 rfl (by decide) (by decide) _ (np_10 m c t hfin) _ (wt_0 m c t) _ (bt_0 m c t) x T e (by rw [hT, h0]) (by rw [he, h1, Nat.zero_add])
  case piece12 => exact c_mix m c t 0 384 3 rfl (by decide) (by decide) _ (np_03 m c t hfin) _ (wt_3 m c t) _ (bt_3 m c t) x T e (by rw [hT, h0, Nat.zero_add]) (by rw [he, h1])
  case piece13 => exact c_mix m c t 0 256 2 rfl (by decide) (by decide) _ (np_02 m c t hfin) _ (wt_2 m c t) _ (bt_2 m c t) x T e (by rw [hT, h0, Nat.zero_add]) (by rw [he, h1])
  case piece14 => exact c_mix m c t 0 128 1 rfl (by decide) (by decide) _ (np_01 m c t hfin) _ (wt_1 m c t) _ (bt_1 m c t) x T e (by rw [hT, h0, Nat.zero_add]) (by rw [he, h1])
  case piece15 => exact c_mix m c t 0 0 0 rfl (by decide) (by decide) _ (np_00 m c t hfin) _ (wt_0 m c t) _ (bt_0 m c t) x T e (by rw [hT, h0, Nat.zero_add]) (by rw [he, h1, Nat.zero_add])

theorem rdM {L : List (View.Piece (Elt Ideal) S512x512 .f32)} (h : L = mixPieces m c t) :
    (View.whole cc0_scratch0).readCov L (Rect.unit ![0, 0] ![512, 512] inb_S512x512_S512x512_0_0).toLoadRect = mixTile m c t := by
  subst h
  rw [View.readCov_eq_canon']
  funext j
  exact congrArg (mixTile m c t) (by funext a; apply Fin.ext; fin_cases a <;> simp [LoadRect.idx, Rect.toLoadRect])

end Cert.Mix.Ker

end
-- ==== Proof.MixGate.lean ====
/- The gated convolution of a tile: the rows before it, the gated values with them in front, the three
   taps, and the normalized branch. -/
module

public import proofs.«01_k».proof.Proof.MixTile

@[expose] public section

set_option maxRecDepth 16384

noncomputable section

namespace Cert.Mix.Ker

open Idealize.ShloMosaic Idealize.ShloMosaic.TcCoe Idealize.SL.Sem
open Cert.MixerIdeal Cert.MixerIdeal.Gen
open Cert.Mix Cert.Consts

theorem p14 (x : FVec Ideal S16x1024 .f32) (gn : FVec Ideal S1x1024 .f32) (r : Fin 16) (k : Fin 1024) :
    k0_pay14 (F := Ideal) x gn (ix2 r k)
      = x (ix2 r k) * Ideal.rsqrt (Ideal.div (∑ k : Fin 1024, x (ix2 r k) * x (ix2 r k)) (Ideal.ofBits .f32 0x44800000#32)
          + Ideal.ofBits .f32 0x358637BD#32) * gn (ix2 0 k) := by
  pointwise [k0_pay14]

theorem p15 (s : FVec Ideal S1x1x1024 .f32) (r : Fin 16) (k : Fin 1024) : k0_pay15 (F := Ideal) s (ix2 r k) = s (ix3 0 0 k) := by
  pointwise [k0_pay15]

theorem p16 (a b : FVec Ideal S16x1024 .f32) (s : FVec Ideal S1x1x1024 .f32) (w : FVec Ideal S1024x1024 .bf16) (r : Fin 16) (e : Fin 1024) :
    k0_pay16 (F := Ideal) a b s w (ix2 r e) = ∑ k : Fin 1024, (a (ix2 r k) * b (ix2 r k) + s (ix3 0 0 k)) * w (ix2 e k) := by
  pointwise [k0_pay16]

theorem p55 (a b : FVec Ideal S512x512 .bf16) (r k : Fin 512) : k0_pay55 (F := Ideal) a b (ix2 r k) = a (ix2 r k) * b (ix2 r k) := by
  pointwise [k0_pay55]

theorem p54 (a : FVec Ideal S512x512 .bf16) (r k : Fin 512) : k0_pay54 (F := Ideal) a (ix2 r k) = a (ix2 r k) := by
  pointwise [k0_pay54]

theorem p56 (f : BitVec 1) (p : FVec Ideal S16x1024 .f32) (a b : FVec Ideal S512x512 .bf16) (r : Fin 528) (k : Fin 512) :
    k0_pay56 (F := Ideal) f p a b (ix2 r k)
      = if h : r.val < 16 then (if f = 1#1 then 0 else p (ix2 ⟨r.val, h⟩ ⟨k.val, by omega⟩) * p (ix2 ⟨r.val, h⟩ ⟨512 + k.val, by omega⟩))
        else a (ix2 ⟨r.val - 16, by omega⟩ k) * b (ix2 ⟨r.val - 16, by omega⟩ k) := by
  have hp := p55 a b
  unfold k0_pay56
  generalize k0_pay55 (F := Ideal) a b = z at hp ⊢
  pointwise
  by_cases h : r.val < 16
  · rw [dif_pos h, dif_pos h]
    rfl
  · rw [dif_neg h, dif_neg h, hp]

theorem p57 (f : BitVec 1) (p : FVec Ideal S16x1024 .f32) (a b : FVec Ideal S512x512 .bf16) (r k : Fin 512) :
    k0_pay57 (F := Ideal) f p a b (ix2 r k) = k0_pay56 (F := Ideal) f p a b (ix2 ⟨15 + r.val, by omega⟩ k) := by
  unfold k0_pay57
  generalize k0_pay56 (F := Ideal) f p a b = z
  pointwise
  refine congrArg (fun i => z (ix2 i k)) (Fin.ext ?_)
  have hr := r.isLt
  simp only []
  omega

theorem p58 (g z s : FVec Ideal S512x512 .f32) (x : FVec Ideal S528x512 .f32) (c0 c1 c2 og : FVec Ideal S1x512 .f32) (r k : Fin 512) (y : Fin 512 → EReal)
    (hy : ∀ k, y k = g (ix2 r k) * (c0 (ix2 0 k) * x (ix2 ⟨14 + r.val, by omega⟩ k) + c1 (ix2 0 k) * s (ix2 r k) + c2 (ix2 0 k) * z (ix2 r k))) :
    k0_pay58 (F := Ideal) g z x s c0 c1 c2 og (ix2 r k) = y k * rms y * og (ix2 0 k) := by
  have e : ∀ (h : (16 + r.val + 528 - 2) % 528 < 528), (⟨_, h⟩ : Fin 528) = ⟨14 + r.val, by omega⟩ := fun h => Fin.ext (by have hr := r.isLt; simp only []; omega)
  unfold rms
  simp only [hy]
  pointwise [k0_pay58]
  simp only [e]

variable (m : (ℓ : Loc nD τ sig) → Buf (Elt Ideal) ℓ) (c : Dev nD) (t : Fin cfg0.N)

theorem wb : ∀ (j k : Fin 1024), View.ld (iblk m c 5 t) (Rect.unit ![1536, 0] ![1024, 1024] inb_S2560x1024_S1024x1024_1536_0) (ix2 j k)
    = (ins m c).win (ix2 k ⟨1536 + j.val, by omega⟩) := by
  intro j k
  rw [← i5 m c t _ k]
  pointwise
  blk_ext

/-- The projection of the rows before the tile. -/
def bTile : FVec Ideal S16x1024 .f32 :=
  k0_pay16 (k0_pay14 (iblk m c 1 t) (iblk m c 2 t)) (k0_pay15 (iblk m c 3 t)) (iblk m c 4 t)
    (View.ld (iblk m c 5 t) (Rect.unit ![1536, 0] ![1024, 1024] inb_S2560x1024_S1024x1024_1536_0))

theorem b_tile (r : Fin 16) (e : Fin 1024) (T : Fin 8192) (hT : T.val + 16 = 512 * t.val + r.val) (ht : t.val % 4 ≠ 0) :
    bTile m c t (ix2 r e) = pj (ins m c) T ⟨1536 + e.val, by omega⟩ := by
  have hb : bOf (tok t 0) = bOf T := Fin.ext (by simp only [bOf, tok, Fin.val_zero]; omega)
  unfold bTile
  rw [p16]
  unfold pj
  refine Finset.sum_congr rfl fun k _ => ?_
  rw [p14, p15, wb, i2, i3 m c t 0 0 k 0, i4 m c t 0 0 k 0, hb]
  simp only [i1 m c t r _ T hT]
  rfl

/-- The gated values, the rows before the tile in front. -/
def zTile (f : BitVec 1) : FVec Ideal S528x512 .f32 := k0_pay56 f (bTile m c t) (pmPart m c t cC) (pmPart m c t cX)

theorem z_tile (f : BitVec 1) (hf : f = if t.val % 4 = 0 then 1#1 else 0#1) (j : ℕ) (hj : j ≤ 2) (i : Fin 528) (r k : Fin 512) (hi : i.val + j = 16 + r.val) :
    zTile m c t f (ix2 i k) = zb (ins m c) j (tok t r) k := by
  have htl : t.val < 16 := lt_of_lt_of_eq t.isLt N_0
  have hr := r.isLt
  have hT : (tok t r).val = 512 * t.val + r.val := rfl
  unfold zTile
  rw [p56]
  by_cases h : i.val < 16
  · rw [dif_pos h]
    by_cases h4 : t.val % 4 = 0
    · rw [hf, if_pos h4, if_pos rfl]
      unfold zb
      rw [if_pos (by omega)]
    · rw [hf, if_neg h4, if_neg (by decide)]
      unfold zb z
      rw [if_neg (by omega), b_tile m c t _ _ ⟨(tok t r).val - j, by omega⟩ (by simp only []; omega) h4,
        b_tile m c t _ _ ⟨(tok t r).val - j, by omega⟩ (by simp only []; omega) h4]
      refine congrArg₂ (fun a b => pj (ins m c) _ a * pj (ins m c) _ b) (Fin.ext ?_) (Fin.ext ?_) <;> simp only [cC, cX] <;> omega
  · rw [dif_neg h, pm_part, pm_part]
    unfold zb z
    rw [if_neg (by omega)]
    have e : tok t ⟨i.val - 16, by omega⟩ = ⟨(tok t r).val - j, by omega⟩ := Fin.ext (by simp only [tok]; omega)
    rw [e]

theorem cw_0 (k : Fin 512) : View.ld (iblk m c 12 t) (Rect.unit ![0, 0] ![1, 512] inb_S8x512_S1x512_0_0) (ix2 0 k) = (ins m c).cw (ix2 0 k) := by
  rw [← i12 m c t 0 0 rfl k]
  pointwise
  blk_ext

theorem cw_1 (k : Fin 512) : View.ld (iblk m c 12 t) (Rect.unit ![1, 0] ![1, 512] inb_S8x512_S1x512_1_0) (ix2 0 k) = (ins m c).cw (ix2 1 k) := by
  rw [← i12 m c t 1 1 rfl k]
  pointwise
  blk_ext

theorem cw_2 (k : Fin 512) : View.ld (iblk m c 12 t) (Rect.unit ![2, 0] ![1, 512] inb_S8x512_S1x512_2_0) (ix2 0 k) = (ins m c).cw (ix2 2 k) := by
  rw [← i12 m c t 2 2 rfl k]
  pointwise
  blk_ext

theorem og_0 (k : Fin 512) : View.ld (iblk m c 13 t) (Rect.unit ![0, 0] ![1, 512] inb_S1x1024_S1x512_0_0) (ix2 0 k) = (ins m c).og (ix1 (eA k)) := by
  rw [← i13 m c t 0 (eA k)]
  unfold eA
  pointwise
  blk_ext

theorem og_1 (k : Fin 512) : View.ld (iblk m c 13 t) (Rect.unit ![0, 512] ![1, 512] inb_S1x1024_S1x512_0_512) (ix2 0 k) = (ins m c).og (ix1 (eB k)) := by
  rw [← i13 m c t 0 (eB k)]
  unfold eB
  pointwise
  blk_ext

/-- The second branch's tile. -/
def nbTile (f : BitVec 1) : FVec Ideal S512x512 .bf16 :=
  k0_pay58 (k0_pay54 (pmPart m c t cG)) (k0_pay55 (pmPart m c t cC) (pmPart m c t cX)) (k0_pay56 f (bTile m c t) (pmPart m c t cC) (pmPart m c t cX))
    (k0_pay57 f (bTile m c t) (pmPart m c t cC) (pmPart m c t cX))
    (View.ld (iblk m c 12 t) (Rect.unit ![0, 0] ![1, 512] inb_S8x512_S1x512_0_0)) (View.ld (iblk m c 12 t) (Rect.unit ![1, 0] ![1, 512] inb_S8x512_S1x512_1_0))
    (View.ld (iblk m c 12 t) (Rect.unit ![2, 0] ![1, 512] inb_S8x512_S1x512_2_0)) (View.ld (iblk m c 13 t) (Rect.unit ![0, 512] ![1, 512] inb_S1x1024_S1x512_0_512))

theorem nb_tile (f : BitVec 1) (hf : f = if t.val % 4 = 0 then 1#1 else 0#1) (r k : Fin 512) : nbTile m c t f (ix2 r k) = nb (ins m c) (tok t r) k := by
  unfold nbTile
  rw [p58 _ _ _ _ _ _ _ _ r k (yb (ins m c) (tok t r)) ?_, og_1]
  · rfl
  · intro k
    rw [p57, p54, p55, cw_0, cw_1, cw_2, pm_part, pm_part, pm_part]
    unfold yb conv
    rw [← z_tile m c t f hf 2 (by omega) ⟨14 + r.val, by omega⟩ r k (by simp only []; omega),
      ← z_tile m c t f hf 1 (by omega) ⟨15 + r.val, by omega⟩ r k (by simp only []; omega)]
    rfl

end Cert.Mix.Ker

end
-- ==== Proof.MixOut.lean ====
/- The tiles of the two branches together, of the product with the second weight, and of the residual. -/
module

public import proofs.«01_k».proof.Proof.MixBlock
public import proofs.«01_k».proof.Proof.MixGate

@[expose] public section

set_option maxRecDepth 16384

noncomputable section

namespace Cert.Mix.Ker

open Idealize.ShloMosaic Idealize.ShloMosaic.TcCoe Idealize.SL.Sem
open Cert.MixerIdeal Cert.MixerIdeal.Gen
open Cert.Mix Cert.Consts

theorem p53 (u v : FVec Ideal S512x512 .f32) (og : FVec Ideal S1x512 .f32) (r k : Fin 512) (y : Fin 512 → EReal)
    (hy : ∀ k, y k = u (ix2 r k) * v (ix2 r k)) : k0_pay53 (F := Ideal) u v og (ix2 r k) = y k * rms y * og (ix2 0 k) := by
  unfold rms
  simp only [hy]
  pointwise [k0_pay53]

theorem p59 (y : FVec Ideal S512x1024 .bf16) (w : FVec Ideal S1024x1024 .bf16) (r : Fin 512) (k : Fin 1024) :
    k0_pay59 (F := Ideal) y w (ix2 r k) = ∑ e : Fin 1024, y (ix2 r e) * w (ix2 e k) := by
  pointwise [k0_pay59]

theorem p60 (y : FVec Ideal S512x1024 .bf16) (w : FVec Ideal S1024x1024 .bf16) (j : S512x1024.Idx) :
    k0_pay60 (F := Ideal) y w j = k0_pay59 (F := Ideal) y w j := rfl

theorem p1 (x o : FVec Ideal S512x1024 .f32) (g : FVec Ideal S1x1x1024 .f32) (r : Fin 512) (k : Fin 1024) :
    k0_pay1 (F := Ideal) (k0_pay2 (F := Ideal) x) o g (ix2 r k) = x (ix2 r k) + g (ix3 0 0 k) * o (ix2 r k) := by
  pointwise [k0_pay1, k0_pay2]

variable (m : (ℓ : Loc nD τ sig) → Buf (Elt Ideal) ℓ) (c : Dev nD) (t : Fin cfg0.N)

/-- The first branch's tile. -/
def naTile : FVec Ideal S512x512 .bf16 :=
  k0_pay53 (k0_pay17 (pmPart m c t cU)) (mixTile m c t) (View.ld (iblk m c 13 t) (Rect.unit ![0, 0] ![1, 512] inb_S1x1024_S1x512_0_0))

theorem na_tile (hfin : Finite (ins m c)) (r k : Fin 512) : naTile m c t (ix2 r k) = na (ins m c) (tok t r) k := by
  unfold naTile
  rw [p53 _ _ _ r k (ya (ins m c) (tok t r)) ?_, og_0]
  · rfl
  · intro k
    rw [pay17_at, pm_part, mix_tile m c t hfin (ix2 r k) (tok t r) k rfl rfl]
    rfl

/-- The two branches, with the bit telling the first tile of a sequence. -/
def yPieces (f : BitVec 1) : List (View.Piece (Elt Ideal) S512x1024 .bf16) :=
  [⟨Rect.unit ![0, 512] ![512, 512] inb_S512x1024_S512x512_0_512, nbTile m c t f⟩,
    ⟨Rect.unit ![0, 0] ![512, 512] inb_S512x1024_S512x512_0_0, naTile m c t⟩]

def yTile : FVec Ideal S512x1024 .bf16 := View.canon (yPieces m c t (if t.val % 4 = 0 then 1#1 else 0#1))

theorem y_of {f : BitVec 1} {L : List (View.Piece (Elt Ideal) S512x1024 .bf16)} (h : L = yPieces m c t f) (hf : f = if t.val % 4 = 0 then 1#1 else 0#1) :
    View.canon L = yTile m c t := by
  subst h; subst hf; rfl

theorem c_na (hfin : Finite (ins m c)) (x : S512x512.Idx) (T : Fin 8192) (e : Fin 1024) (hT : T.val = 512 * t.val + (x 0).val) (he : e.val = (x 1).val) :
    naTile m c t x = ym (ins m c) T e := by
  obtain ⟨r, k, rfl⟩ : ∃ r k : Fin 512, x = ix2 r k := ⟨x 0, x 1, by funext a; fin_cases a <;> rfl⟩
  have hk : e.val = k.val := he
  rw [na_tile m c t hfin]
  unfold ym
  rw [dif_pos (by omega)]
  exact congrArg₂ (na (ins m c)) (Fin.ext hT.symm) (Fin.ext he.symm)

theorem c_nb (x : S512x512.Idx) (T : Fin 8192) (e : Fin 1024) (hT : T.val = 512 * t.val + (x 0).val) (he : e.val = 512 + (x 1).val) :
    nbTile m c t (if t.val % 4 = 0 then 1#1 else 0#1) x = ym (ins m c) T e := by
  obtain ⟨r, k, rfl⟩ : ∃ r k : Fin 512, x = ix2 r k := ⟨x 0, x 1, by funext a; fin_cases a <;> rfl⟩
  have hk : e.val = 512 + k.val := he
  rw [nb_tile m c t _ rfl]
  unfold ym
  rw [dif_neg (by omega)]
  exact congrArg₂ (nb (ins m c)) (Fin.ext hT.symm) (Fin.ext (by simp only []; omega))

theorem y_tile (hfin : Finite (ins m c)) (y : S512x1024.Idx) (T : Fin 8192) (e : Fin 1024) (hT : T.val = 512 * t.val + (y 0).val) (he : e.val = (y 1).val) :
    yTile m c t y = ym (ins m c) T e := by
  unfold yTile yPieces
  canon_tiles x h
  case piece0 => exact c_nb m c t x T e (by rw [hT, h0]) (by rw [he, h1])
  case piece1 => exact c_na m c t hfin x T e (by rw [hT, h0]) (by rw [he, h1])

theorem rdY {f : BitVec 1} {L : List (View.Piece (Elt Ideal) S512x1024 .bf16)} (h : L = yPieces m c t f) (hf : f = if t.val % 4 = 0 then 1#1 else 0#1) :
    (ms0_17 t).view.readCov L (Rect.unit ![0, 0] ![512, 1024] inb_S512x1024_S512x1024_0_0).toLoadRect = yTile m c t := by
  subst h; subst hf
  rw [View.readCov_eq_canon']
  funext j
  exact congrArg (yTile m c t) (by funext a; apply Fin.ext; fin_cases a <;> simp [LoadRect.idx, Rect.toLoadRect])

theorem o_tile (hfin : Finite (ins m c)) (r : Fin 512) (k : Fin 1024) : k0_pay59 (F := Ideal) (yTile m c t) (iblk m c 7 t) (ix2 r k) = out (ins m c) (tok t r) k := by
  rw [p59]
  unfold out
  refine Finset.sum_congr rfl fun e _ => ?_
  rw [y_tile m c t hfin (ix2 r e) (tok t r) e rfl rfl, i7]

theorem x_tile (hfin : Finite (ins m c)) (r : Fin 512) (k : Fin 1024) :
    k0_pay1 (F := Ideal) (k0_pay2 (iblk m c 0 t)) (k0_pay59 (yTile m c t) (iblk m c 7 t)) (iblk m c 6 t) (ix2 r k) = res (ins m c) (tok t r) k := by
  rw [p1, o_tile m c t hfin, i0, i6 m c t 0 0 k r]
  rfl

end Cert.Mix.Ker

end
-- ==== Proof.MixFinal.lean ====
/- The five result arrays of the mixer's half step. -/
module

public import proofs.«01_k».proof.Proof.MixOut
public import proofs.«01_k».proof.Proof.FwdFinal
public import proofs.«01_k».proof.Proof.Gen.MixerIdeal.Value

@[expose] public section

set_option maxRecDepth 16384

noncomputable section

namespace Cert.Mix.Ker

open Idealize.ShloMosaic Idealize.ShloMosaic.TcCoe Idealize.SL.Sem
open Cert.MixerIdeal Cert.MixerIdeal.Gen
open Cert.Mix Cert.Consts
open Cert.Fwd.Ker (rows rows_at rows_of)

variable (m : (ℓ : Loc nD τ sig) → Buf (Elt Ideal) ℓ) (c : Dev nD)

theorem o15 (t : Fin cfg0.N) : (outsAt0 m c t).1 = hTile m c t := by
  unfold outsAt0
  funext y
  frame_out
  rfl

theorem o16 (t : Fin cfg0.N) : (outsAt0 m c t).2.1 = pmTile m c t := by
  unfold outsAt0
  funext y
  frame_out
  exact congrFun (pm_of m c t (by unfold pmPieces hTile; rfl)) y

theorem o17 (t : Fin cfg0.N) : (outsAt0 m c t).2.2.1 = yTile m c t := by
  unfold outsAt0
  funext y
  frame_out
  rw [rdU m c t ?h1, rdV m c t ?h2, rdG m c t ?h3, rdC m c t ?h4, rdX m c t ?h5]
  case h1 => unfold pmPieces hTile; rfl
  case h2 => unfold pmPieces hTile; rfl
  case h3 => unfold pmPieces hTile; rfl
  case h4 => unfold pmPieces hTile; rfl
  case h5 => unfold pmPieces hTile; rfl
  rw [rdM m c t ?h6]
  case h6 => unfold mixPieces mixBlk nTile; rfl
  refine' congrFun (y_of m c t _ _) y
  rotate_left
  · unfold yPieces nbTile naTile bTile
    rfl
  · revert t
    decide +kernel

theorem o18 (t : Fin cfg0.N) : (outsAt0 m c t).2.2.2.1 = k0_pay1 (F := Ideal) (k0_pay2 (iblk m c 0 t)) (k0_pay59 (yTile m c t) (iblk m c 7 t)) (iblk m c 6 t) := by
  unfold outsAt0
  funext y
  frame_out
  rw [rdU m c t ?h1, rdV m c t ?h2, rdG m c t ?h3, rdC m c t ?h4, rdX m c t ?h5]
  case h1 => unfold pmPieces hTile; rfl
  case h2 => unfold pmPieces hTile; rfl
  case h3 => unfold pmPieces hTile; rfl
  case h4 => unfold pmPieces hTile; rfl
  case h5 => unfold pmPieces hTile; rfl
  rw [rdM m c t ?h6]
  case h6 => unfold mixPieces mixBlk nTile; rfl
  rw [rdY m c t ?h7 ?h8]
  case h7 =>
    unfold yPieces nbTile naTile bTile
    rfl
  case h8 =>
    revert t
    decide +kernel
  rfl

theorem o19 (t : Fin cfg0.N) : (outsAt0 m c t).2.2.2.2 = k0_pay60 (F := Ideal) (yTile m c t) (iblk m c 7 t) := by
  unfold outsAt0
  funext y
  frame_out
  rw [rdU m c t ?h1, rdV m c t ?h2, rdG m c t ?h3, rdC m c t ?h4, rdX m c t ?h5]
  case h1 => unfold pmPieces hTile; rfl
  case h2 => unfold pmPieces hTile; rfl
  case h3 => unfold pmPieces hTile; rfl
  case h4 => unfold pmPieces hTile; rfl
  case h5 => unfold pmPieces hTile; rfl
  rw [rdM m c t ?h6]
  case h6 => unfold mixPieces mixBlk nTile; rfl
  rw [rdY m c t ?h7 ?h8]
  case h7 =>
    unfold yPieces nbTile naTile bTile
    rfl
  case h8 =>
    revert t
    decide +kernel
  rfl

theorem final15 : (dats m 0 c).arrAt 15 cfg0.N = rows (n := 1024) (f := .bf16) (hid (ins m c)) := by
  refine (dats m 0 c).arrAt_eq_of_covers 15 _ (by decide +kernel) fun t hf y => ?_
  have ht : t.val < 16 := lt_of_lt_of_eq t.isLt N_0
  blk_simp
  rw [after0_15]
  have key : ∀ (r : Fin 512) (k : Fin 1024), (outsAt0 m c t).1 (ix2 r k) = rows (n := 1024) (f := .bf16) (hid (ins m c)) ((win0_15.blk t).view.emb (ix2 r k)) := by
    intro r k
    have he : (win0_15.blk t).view.emb (ix2 r k) = ix2 (tok t r) k := by
      unfold tok
      blk_point [idx t]
    rw [he, rows_at, o15]
    exact h_tile m c t r k
  have hy : y = ix2 (y 0) (y 1) := by funext a; fin_cases a <;> rfl
  rw [hy]
  exact key (y 0) (y 1)

theorem final16 : (dats m 0 c).arrAt 16 cfg0.N = rows (n := 2560) (f := .bf16) (pj (ins m c)) := by
  refine (dats m 0 c).arrAt_eq_of_covers 16 _ (by decide +kernel) fun t hf y => ?_
  have ht : t.val < 16 := lt_of_lt_of_eq t.isLt N_0
  blk_simp
  rw [after0_16]
  have key : ∀ (r : Fin 512) (k : Fin 2560), (outsAt0 m c t).2.1 (ix2 r k) = rows (n := 2560) (f := .bf16) (pj (ins m c)) ((win0_16.blk t).view.emb (ix2 r k)) := by
    intro r k
    have he : (win0_16.blk t).view.emb (ix2 r k) = ix2 (tok t r) k := by
      unfold tok
      blk_point [idx t]
    rw [he, rows_at, o16]
    exact pm_tile2 m c t r k
  have hy : y = ix2 (y 0) (y 1) := by funext a; fin_cases a <;> rfl
  rw [hy]
  exact key (y 0) (y 1)

theorem final17 (hfin : Finite (ins m c)) : (dats m 0 c).arrAt 17 cfg0.N = rows (n := 1024) (f := .bf16) (ym (ins m c)) := by
  refine (dats m 0 c).arrAt_eq_of_covers 17 _ (by decide +kernel) fun t hf y => ?_
  have ht : t.val < 16 := lt_of_lt_of_eq t.isLt N_0
  blk_simp
  rw [after0_17]
  have key : ∀ (r : Fin 512) (k : Fin 1024), (outsAt0 m c t).2.2.1 (ix2 r k) = rows (n := 1024) (f := .bf16) (ym (ins m c)) ((win0_17.blk t).view.emb (ix2 r k)) := by
    intro r k
    have he : (win0_17.blk t).view.emb (ix2 r k) = ix2 (tok t r) k := by
      unfold tok
      blk_point [idx t]
    rw [he, rows_at, o17]
    exact y_tile m c t hfin (ix2 r k) (tok t r) k rfl rfl
  have hy : y = ix2 (y 0) (y 1) := by funext a; fin_cases a <;> rfl
  rw [hy]
  exact key (y 0) (y 1)

theorem final18 (hfin : Finite (ins m c)) : (dats m 0 c).arrAt 18 cfg0.N = rows (n := 1024) (f := .f32) (res (ins m c)) := by
  refine (dats m 0 c).arrAt_eq_of_covers 18 _ (by decide +kernel) fun t hf y => ?_
  have ht : t.val < 16 := lt_of_lt_of_eq t.isLt N_0
  blk_simp
  rw [after0_18]
  have key : ∀ (r : Fin 512) (k : Fin 1024), (outsAt0 m c t).2.2.2.1 (ix2 r k) = rows (n := 1024) (f := .f32) (res (ins m c)) ((win0_18.blk t).view.emb (ix2 r k)) := by
    intro r k
    have he : (win0_18.blk t).view.emb (ix2 r k) = ix2 (tok t r) k := by
      unfold tok
      blk_point [idx t]
    rw [he, rows_at, o18]
    exact x_tile m c t hfin r k
  have hy : y = ix2 (y 0) (y 1) := by funext a; fin_cases a <;> rfl
  rw [hy]
  exact key (y 0) (y 1)

theorem final19 (hfin : Finite (ins m c)) : (dats m 0 c).arrAt 19 cfg0.N = rows (n := 1024) (f := .bf16) (out (ins m c)) := by
  refine (dats m 0 c).arrAt_eq_of_covers 19 _ (by decide +kernel) fun t hf y => ?_
  have ht : t.val < 16 := lt_of_lt_of_eq t.isLt N_0
  blk_simp
  rw [after0_19]
  have key : ∀ (r : Fin 512) (k : Fin 1024), (outsAt0 m c t).2.2.2.2 (ix2 r k) = rows (n := 1024) (f := .bf16) (out (ins m c)) ((win0_19.blk t).view.emb (ix2 r k)) := by
    intro r k
    have he : (win0_19.blk t).view.emb (ix2 r k) = ix2 (tok t r) k := by
      unfold tok
      blk_point [idx t]
    rw [he, rows_at, o19]
    exact (p60 _ _ _).trans (o_tile m c t hfin r k)
  have hy : y = ix2 (y 0) (y 1) := by funext a; fin_cases a <;> rfl
  rw [hy]
  exact key (y 0) (y 1)

end Cert.Mix.Ker

end
-- ==== Proof.MixRef.lean ====
/- The reference's results of the mixer's half step, at an index. -/
module

public import proofs.«01_k».proof.Proof.MixSpec
public import proofs.«01_k».proof.Proof.Gen.MixerReferenceIdeal.Run

@[expose] public section

set_option maxRecDepth 16384

noncomputable section

namespace Cert.Mix.Ref

open Idealize.ShloMosaic Idealize.ShloMosaic.TcCoe Idealize.SL.Sem
open Cert.MixerReferenceIdeal Cert.MixerReferenceIdeal.Gen Cert.MixerReferenceIdeal.Value
open Cert.Mix Cert.Consts

variable (V0 : Valuation τ sig (Elt Ideal))

/-- The arguments a run is given. -/
def ins : Ins where
  x := V0 (Proc.devRef .tc main_arg0)
  sh := V0 (Proc.devRef .tc main_arg1)
  sc := V0 (Proc.devRef .tc main_arg2)
  gate := V0 (Proc.devRef .tc main_arg3)
  gn := V0 (Proc.devRef .tc main_arg4)
  win := V0 (Proc.devRef .tc main_arg5)
  lng := V0 (Proc.devRef .tc main_arg6)
  lnb := V0 (Proc.devRef .tc main_arg7)
  ws := V0 (Proc.devRef .tc main_arg8)
  bs := V0 (Proc.devRef .tc main_arg9)
  cw := V0 (Proc.devRef .tc main_arg10)
  og := V0 (Proc.devRef .tc main_arg11)
  wo := V0 (Proc.devRef .tc main_arg12)

variable (I : Ins)

def sH : FVec Ideal S4x2048x1024 .f32 :=
  addf (mulf (mulf (mulf I.x (broadcastInDim S4x2048x1024 ![0, 1, 2] bcast_S4x2048x1_S4x2048x1024_0_1_2 (Host.rsqrt (addf (Host.divf (broadcastInDim S4x2048x1 ![0, 1] bcast_S4x2048_S4x2048x1_0_1 (Host.reduceAdd (mulf I.x I.x) (constant S_ .f32 0x00000000#32) reducesTo_S4x2048x1024_S4x2048_d2 h_S_)) (broadcastInDim S4x2048x1 ![] bcast_S_S4x2048x1 (constant S_ .f32 0x44800000#32))) (broadcastInDim S4x2048x1 ![] bcast_S_S4x2048x1 (constant S_ .f32 0x358637BD#32)))))) (broadcastInDim S4x2048x1024 ![0, 1, 2] bcast_S1x1x1024_S4x2048x1024_0_1_2 (broadcastInDim S1x1x1024 ![2] bcast_S1024_S1x1x1024_2 I.gn))) (broadcastInDim S4x2048x1024 ![0, 1, 2] bcast_S4x1x1024_S4x2048x1024_0_1_2 (addf (broadcastInDim S4x1x1024 ![] bcast_S_S4x1x1024 (constant S_ .f32 0x3F800000#32)) (broadcastInDim S4x1x1024 ![0, 2] bcast_S4x1024_S4x1x1024_0_2 I.sc)))) (broadcastInDim S4x2048x1024 ![0, 1, 2] bcast_S4x1x1024_S4x2048x1024_0_1_2 (broadcastInDim S4x1x1024 ![0, 2] bcast_S4x1024_S4x1x1024_0_2 I.sh))

def sPj (h : FVec Ideal S4x2048x1024 .f32) (w : FVec Ideal S1024x2560 .f32) : FVec Ideal S4x2048x2560 .f32 :=
  Host.dotGeneral dot_S4x2048x1024_S1024x2560_S4x2048x2560_2_0_01_1_n_n none h w

def sGel (p : FVec Ideal S4x2048x512 .f32) : FVec Ideal S4x2048x512 .f32 :=
  mulf (mulf (broadcastInDim S4x2048x512 ![] bcast_S_S4x2048x512 (constant S_ .f32 0x3F000000#32)) p) (Host.erfc (mulf (Host.negf p) (broadcastInDim S4x2048x512 ![] bcast_S_S4x2048x512 (constant S_ .f32 0x3F3504F3#32))))

def sU (p : FVec Ideal S4x2048x2560 .f32) : FVec Ideal S4x2048x512 .f32 :=
  sGel (extractStridedSlice S4x2048x512 ![0, 0, 0] p slices_S4x2048x2560_S4x2048x512_0_0_0)

def sV (p : FVec Ideal S4x2048x2560 .f32) : FVec Ideal S4x2048x8x64 .f32 :=
  shapeCast _ (sGel (extractStridedSlice S4x2048x512 ![0, 0, 512] p slices_S4x2048x2560_S4x2048x512_0_0_512)) shapeCasts_S4x2048x512_S4x2048x8x64

/-- The mean over a head's columns. -/
def sMean (w : FVec Ideal S4x2048x8x64 .f32) : FVec Ideal S4x2048x8x1 .f32 :=
  Host.divf (broadcastInDim S4x2048x8x1 ![0, 1, 2] bcast_S4x2048x8_S4x2048x8x1_0_1_2 (Host.reduceAdd w (constant S_ .f32 0x00000000#32) reducesTo_S4x2048x8x64_S4x2048x8_d3 h_S_)) (broadcastInDim S4x2048x8x1 ![] bcast_S_S4x2048x8x1 (constant S_ .f32 0x42800000#32))

def sVc (w : FVec Ideal S4x2048x8x64 .f32) (g : FVec Ideal S4x2048x8x1 .f32) : FVec Ideal S4x2048x8x64 .f32 :=
  subf w (broadcastInDim S4x2048x8x64 ![0, 1, 2, 3] bcast_S4x2048x8x1_S4x2048x8x64_0_1_2_3 g)

def sLn (a : FVec Ideal S4x2048x8x64 .f32) (g : FVec Ideal S4x2048x8x1 .f32) (lng lnb : FVec Ideal S64 .f32) : FVec Ideal S4x2048x8x64 .f32 :=
  addf (mulf (mulf a (broadcastInDim S4x2048x8x64 ![0, 1, 2, 3] bcast_S4x2048x8x1_S4x2048x8x64_0_1_2_3 (Host.rsqrt (addf g (broadcastInDim S4x2048x8x1 ![] bcast_S_S4x2048x8x1 (constant S_ .f32 0x358637BD#32)))))) (broadcastInDim S4x2048x8x64 ![0, 1, 2, 3] bcast_S1x1x1x64_S4x2048x8x64_0_1_2_3 (broadcastInDim S1x1x1x64 ![3] bcast_S64_S1x1x1x64_3 lng))) (broadcastInDim S4x2048x8x64 ![0, 1, 2, 3] bcast_S1x1x1x64_S4x2048x8x64_0_1_2_3 (broadcastInDim S1x1x1x64 ![3] bcast_S64_S1x1x1x64_3 lnb))

def sWm (ws : FVec Ideal S8x128x128 .f32) : FVec Ideal S8x128x128 .f32 :=
  select (broadcastInDim S8x128x128 ![0, 1, 2] bcast_S1x128x128_S8x128x128_0_1_2 (broadcastInDim S1x128x128 ![1, 2] bcast_S128x128_S1x128x128_1_2 (select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1))))) ws (broadcastInDim S8x128x128 ![] bcast_S_S8x128x128 (constant S_ .f32 0x00000000#32))

def sMix (n : FVec Ideal S4x2048x8x64 .f32) (w : FVec Ideal S8x128x128 .f32) (bs : FVec Ideal S8x128 .f32) : FVec Ideal S4x2048x512 .f32 :=
  shapeCast _ (addf (transpose S4x16x128x8x64 [1, 2, 4, 0, 3] (Host.dotGeneral dot_S4x16x128x8x64_S8x128x128_S8x4x16x64x128_2_2_014_1_3_0 none (shapeCast _ n shapeCasts_S4x2048x8x64_S4x16x128x8x64) w) transposes_S8x4x16x64x128_S4x16x128x8x64_1_2_4_0_3) (broadcastInDim S4x16x128x8x64 ![0, 1, 2, 3, 4] bcast_S1x1x128x8x1_S4x16x128x8x64_0_1_2_3_4 (broadcastInDim S1x1x128x8x1 ![2, 3] bcast_S128x8_S1x1x128x8x1_2_3 (transpose S128x8 [1, 0] bs transposes_S8x128_S128x8_1_0)))) shapeCasts_S4x16x128x8x64_S4x2048x512

def sZ (p : FVec Ideal S4x2048x2560 .f32) : FVec Ideal S4x2050x512 .f32 :=
  pad S4x2050x512 ![0, 2, 0] ![0, 0, 0] ![0, 0, 0] (mulf (extractStridedSlice S4x2048x512 ![0, 0, 1536] p slices_S4x2048x2560_S4x2048x512_0_0_1536) (extractStridedSlice S4x2048x512 ![0, 0, 2048] p slices_S4x2048x2560_S4x2048x512_0_0_2048)) (sitofp .f32 (constantI S_ 32 0#32)) pads_S4x2048x512_S4x2050x512_000_200_000 h_S_

def sYb (p : FVec Ideal S4x2048x2560 .f32) (q : FVec Ideal S4x2050x512 .f32) (cw : FVec Ideal S3x512 .f32) : FVec Ideal S4x2048x512 .f32 :=
  mulf (extractStridedSlice S4x2048x512 ![0, 0, 1024] p slices_S4x2048x2560_S4x2048x512_0_0_1024) (addf (addf (mulf (extractStridedSlice S4x2048x512 ![0, 0, 0] q slices_S4x2050x512_S4x2048x512_0_0_0) (broadcastInDim S4x2048x512 ![0, 1, 2] bcast_S1x1x512_S4x2048x512_0_1_2 (broadcastInDim S1x1x512 ![2] bcast_S512_S1x1x512_2 (shapeCast _ (extractStridedSlice S1x512 ![0, 0] cw slices_S3x512_S1x512_0_0) shapeCasts_S1x512_S512)))) (mulf (extractStridedSlice S4x2048x512 ![0, 1, 0] q slices_S4x2050x512_S4x2048x512_0_1_0) (broadcastInDim S4x2048x512 ![0, 1, 2] bcast_S1x1x512_S4x2048x512_0_1_2 (broadcastInDim S1x1x512 ![2] bcast_S512_S1x1x512_2 (shapeCast _ (extractStridedSlice S1x512 ![1, 0] cw slices_S3x512_S1x512_1_0) shapeCasts_S1x512_S512))))) (mulf (extractStridedSlice S4x2048x512 ![0, 2, 0] q slices_S4x2050x512_S4x2048x512_0_2_0) (broadcastInDim S4x2048x512 ![0, 1, 2] bcast_S1x1x512_S4x2048x512_0_1_2 (broadcastInDim S1x1x512 ![2] bcast_S512_S1x1x512_2 (shapeCast _ (extractStridedSlice S1x512 ![2, 0] cw slices_S3x512_S1x512_2_0) shapeCasts_S1x512_S512)))))

def sRms (y : FVec Ideal S4x2048x512 .f32) (g : FVec Ideal S512 .f32) : FVec Ideal S4x2048x512 .f32 :=
  mulf (mulf y (broadcastInDim S4x2048x512 ![0, 1, 2] bcast_S4x2048x1_S4x2048x512_0_1_2 (Host.rsqrt (addf (Host.divf (broadcastInDim S4x2048x1 ![0, 1] bcast_S4x2048_S4x2048x1_0_1 (Host.reduceAdd (mulf y y) (constant S_ .f32 0x00000000#32) reducesTo_S4x2048x512_S4x2048_d2 h_S_)) (broadcastInDim S4x2048x1 ![] bcast_S_S4x2048x1 (constant S_ .f32 0x44000000#32))) (broadcastInDim S4x2048x1 ![] bcast_S_S4x2048x1 (constant S_ .f32 0x358637BD#32)))))) (broadcastInDim S4x2048x512 ![0, 1, 2] bcast_S1x1x512_S4x2048x512_0_1_2 (broadcastInDim S1x1x512 ![2] bcast_S512_S1x1x512_2 g))

def sA (y : FVec Ideal S4x2048x512 .f32) (og : FVec Ideal S1024 .f32) : FVec Ideal S4x2048x512 .f32 :=
  sRms y (extractStridedSlice S512 ![0] og slices_S1024_S512_0)

def sB (y : FVec Ideal S4x2048x512 .f32) (og : FVec Ideal S1024 .f32) : FVec Ideal S4x2048x512 .f32 :=
  sRms y (extractStridedSlice S512 ![512] og slices_S1024_S512_512)

def sYm (a b : FVec Ideal S4x2048x512 .f32) : FVec Ideal S4x2048x1024 .f32 :=
  concatenate S4x2048x1024 2 [⟨S4x2048x512, a⟩, ⟨S4x2048x512, b⟩] concatenates_S4x2048x512_S4x2048x512_S4x2048x1024_d2

def sO (y : FVec Ideal S4x2048x1024 .f32) (w : FVec Ideal S1024x1024 .f32) : FVec Ideal S4x2048x1024 .f32 :=
  Host.dotGeneral dot_S4x2048x1024_S1024x1024_S4x2048x1024_2_0_01_1_n_n none y w

def tPj : FVec Ideal S4x2048x2560 .f32 := sPj (sH I) I.win
def tU : FVec Ideal S4x2048x512 .f32 := sU (tPj I)
def tV : FVec Ideal S4x2048x8x64 .f32 := sV (tPj I)
def tMu : FVec Ideal S4x2048x8x1 .f32 := sMean (tV I)
def tVc : FVec Ideal S4x2048x8x64 .f32 := sVc (tV I) (tMu I)
def tVar : FVec Ideal S4x2048x8x1 .f32 := sMean (mulf (tVc I) (tVc I))
def tLn : FVec Ideal S4x2048x8x64 .f32 := sLn (tVc I) (tVar I) I.lng I.lnb
def tMix : FVec Ideal S4x2048x512 .f32 := sMix (tLn I) (sWm I.ws) I.bs
def tYa : FVec Ideal S4x2048x512 .f32 := mulf (tU I) (tMix I)
def tZ : FVec Ideal S4x2050x512 .f32 := sZ (tPj I)
def tYb : FVec Ideal S4x2048x512 .f32 := sYb (tPj I) (tZ I) I.cw
def tYm : FVec Ideal S4x2048x1024 .f32 := sYm (sA (tYa I) I.og) (sB (tYb I) I.og)
def tO : FVec Ideal S4x2048x1024 .f32 := sO (tYm I) I.wo

theorem res20 : res_main_v20 V0 = sH (ins V0) := rfl
theorem res21 : res_main_v21 V0 = tPj (ins V0) := by unfold res_main_v21 tPj; rw [res20]; rfl
theorem res41 : res_main_v41 V0 = tV (ins V0) := by unfold res_main_v41 res_main_v23 tV; rw [res21]; rfl
theorem res45 : res_main_v45 V0 = tMu (ins V0) := by unfold res_main_v45 tMu; rw [res41]; rfl
theorem res47 : res_main_v47 V0 = tVc (ins V0) := by unfold res_main_v47 tVc; rw [res41, res45]; rfl
theorem res79 : res_main_v79 V0 = tYa (ins V0) := by
  unfold res_main_v79 res_main_v22 tYa tU tMix tLn tVar
  rw [res21, res47, res45, res41]
  rfl
theorem res81 : res_main_v81 V0 = tZ (ins V0) := by unfold res_main_v81 tZ; rw [res21]; rfl
theorem res102 : res_main_v102 V0 = tYb (ins V0) := by unfold res_main_v102 tYb; rw [res21, res81]; rfl
theorem res131 : res_main_v131 V0 = tYm (ins V0) := by unfold res_main_v131 tYm; rw [res79, res102]; rfl
theorem res132 : res_main_v132 V0 = tO (ins V0) := by unfold res_main_v132 tO; rw [res131]; rfl

theorem h_eq (T : Fin 8192) (k : Fin 1024) : sH I (ix3 (bOf T) (sOf T) k) = hid I T k := by
  pointwise [sH]
  rfl

theorem pj_eq (T : Fin 8192) (e : Fin 2560) : tPj I (ix3 (bOf T) (sOf T) e) = pj I T e := by
  unfold tPj
  have h := h_eq I T
  generalize sH I = hv at h
  pointwise [sPj]
  simp only [h]
  rfl

theorem gel_at (p : FVec Ideal S4x2048x512 .f32) (b : Fin 4) (s : Fin 2048) (c : Fin 512) : sGel p (ix3 b s c) = gel (p (ix3 b s c)) := by
  rw [← gel_erfc]
  pointwise [sGel]

theorem u_eq (T : Fin 8192) (c : Fin 512) : tU I (ix3 (bOf T) (sOf T) c) = u I T c := by
  unfold u
  rw [← pj_eq]
  unfold tU
  generalize tPj I = p
  unfold sU
  rw [gel_at]
  pointwise
  rfl

theorem v_eq (T : Fin 8192) (h : Fin 8) (d : Fin 64) : tV I (ix4 (bOf T) (sOf T) h d) = v I T (hc h d) := by
  unfold v
  rw [← pj_eq]
  unfold tV
  generalize tPj I = p
  have e : sV p (ix4 (bOf T) (sOf T) h d) = sGel (extractStridedSlice S4x2048x512 ![0, 0, 512] p slices_S4x2048x2560_S4x2048x512_0_0_512) (ix3 (bOf T) (sOf T) (hc h d)) := by
    generalize hg : sGel (extractStridedSlice S4x2048x512 ![0, 0, 512] p slices_S4x2048x2560_S4x2048x512_0_0_512) = g
    unfold sV
    rw [hg]
    pointwise
    exact congrArg (fun c => g (ix3 (bOf T) (sOf T) c)) (Fin.ext (by simp only [hc]; omega))
  rw [e, gel_at]
  pointwise
  rfl

theorem mean_at (w : FVec Ideal S4x2048x8x64 .f32) (b : Fin 4) (s : Fin 2048) (h : Fin 8) (e : Fin 1) :
    sMean w (ix4 b s h e) = Ideal.div (∑ d : Fin 64, w (ix4 b s h d)) (Ideal.ofBits .f32 0x42800000#32) := by
  pointwise [sMean]

theorem mu_eq (T : Fin 8192) (h : Fin 8) (e : Fin 1) : tMu I (ix4 (bOf T) (sOf T) h e) = mu I T h := by
  unfold tMu mu
  rw [mean_at]
  simp only [v_eq]

theorem vc_eq (T : Fin 8192) (h : Fin 8) (d : Fin 64) : tVc I (ix4 (bOf T) (sOf T) h d) = vc I T (hc h d) := by
  unfold vc
  rw [hd_hc, ← mu_eq I T h 0, ← v_eq]
  unfold tVc
  generalize tV I = a
  generalize tMu I = b
  pointwise [sVc]

theorem var_eq (T : Fin 8192) (h : Fin 8) (e : Fin 1) : tVar I (ix4 (bOf T) (sOf T) h e) = var I T h := by
  unfold tVar var
  rw [mean_at]
  have hv := vc_eq I T h
  generalize tVc I = a at hv
  pointwise
  simp only [hv]

theorem ln_eq (T : Fin 8192) (h : Fin 8) (d : Fin 64) : tLn I (ix4 (bOf T) (sOf T) h d) = vln I T (hc h d) := by
  unfold vln
  rw [hd_hc, hp_hc, ← var_eq I T h 0, ← vc_eq]
  unfold tLn
  generalize tVc I = a
  generalize tVar I = b
  pointwise [sLn]

theorem wm_eq (h : Fin 8) (t s : Fin 128) : sWm I.ws (ix3 h t s) = wm I h t s := by
  pointwise [sWm]
  rw [sge_bit]
  unfold wm
  by_cases h : s ≤ t <;> simp [h, Scalar.select]

theorem mix_at (n : FVec Ideal S4x2048x8x64 .f32) (w : FVec Ideal S8x128x128 .f32) (bs : FVec Ideal S8x128 .f32) (T : Fin 8192) (c : Fin 512) :
    sMix n w bs (ix3 (bOf T) (sOf T) c)
      = ∑ s : Fin 128, w (ix3 (hd c) (ct T) s) * n (ix4 (bOf (ck T s)) (sOf (ck T s)) (hd c) (hp c)) + bs (ix2 (hd c) (ct T)) := by
  pointwise [sMix]
  have hb : ∀ s : Fin 128, bOf (ck T s) = bOf T := fun s => Fin.ext (by simp only [bOf, ck]; omega)
  have hs : ∀ (s : Fin 128) (h : T.val % 2048 / 128 * 128 + s.val < 2048), (⟨T.val % 2048 / 128 * 128 + s.val, h⟩ : Fin 2048) = sOf (ck T s) :=
    fun s h => Fin.ext (by simp only [sOf, ck]; omega)
  have ht : ∀ h : T.val % 2048 % 128 < 128, (⟨T.val % 2048 % 128, h⟩ : Fin 128) = ct T := fun h => Fin.ext (by simp only [ct]; omega)
  refine congrArg₂ _ (Finset.sum_congr rfl fun s _ => ?_) (congrArg (fun e => bs (ix2 (hd c) e)) (ht _))
  rw [mul_comm, hb, ← hs s (by omega), ← ht (by omega)]
  rfl

theorem mixed_eq (T : Fin 8192) (c : Fin 512) : tMix I (ix3 (bOf T) (sOf T) c) = mixed I T c := by
  unfold tMix mixed
  rw [mix_at]
  simp only [wm_eq, ln_eq, hc_of]

theorem ya_eq (T : Fin 8192) (c : Fin 512) : tYa I (ix3 (bOf T) (sOf T) c) = ya I T c := by
  unfold ya
  rw [← u_eq, ← mixed_eq]
  rfl

theorem sitofp_zero : (FloatOps.sitofp .f32 (0#32) : Ideal .f32) = (0 : EReal) := by
  show (((0#32 : BitVec 32).toInt : ℝ) : EReal) = 0
  simp

theorem z_at (p : FVec Ideal S4x2048x2560 .f32) (b : Fin 4) (r : Fin 2050) (c : Fin 512) :
    sZ p (ix3 b r c) = if h : r.val < 2 then 0 else p (ix3 b ⟨r - 2, by omega⟩ (cC c)) * p (ix3 b ⟨r - 2, by omega⟩ (cX c)) := by
  pointwise [sZ]
  have hr := r.isLt
  by_cases h : r.val < 2
  · rw [dif_pos h, dif_neg (by omega)]
    exact sitofp_zero
  · rw [dif_neg h, dif_pos ⟨by omega, by omega⟩]
    rfl

theorem yb_at (p : FVec Ideal S4x2048x2560 .f32) (q : FVec Ideal S4x2050x512 .f32) (cw : FVec Ideal S3x512 .f32) (b : Fin 4) (s : Fin 2048) (c : Fin 512) :
    sYb p q cw (ix3 b s c) = p (ix3 b s (cG c)) * (cw (ix2 0 c) * q (ix3 b ⟨s, by omega⟩ c) + cw (ix2 1 c) * q (ix3 b ⟨s + 1, by omega⟩ c) + cw (ix2 2 c) * q (ix3 b ⟨s + 2, by omega⟩ c)) := by
  pointwise [sYb]
  have h1 : ∀ h : 1 + s.val < 2050, (⟨1 + s.val, h⟩ : Fin 2050) = ⟨s.val + 1, by omega⟩ := fun h => Fin.ext (Nat.add_comm _ _)
  have h2 : ∀ h : 2 + s.val < 2050, (⟨2 + s.val, h⟩ : Fin 2050) = ⟨s.val + 2, by omega⟩ := fun h => Fin.ext (Nat.add_comm _ _)
  rw [h1, h2, mul_comm (cw (ix2 0 c)), mul_comm (cw (ix2 1 c)), mul_comm (cw (ix2 2 c))]
  rfl

theorem zz (T : Fin 8192) (c : Fin 512) : tPj I (ix3 (bOf T) (sOf T) (cC c)) * tPj I (ix3 (bOf T) (sOf T) (cX c)) = z I T c := by
  rw [pj_eq, pj_eq]
  rfl

theorem z2_eq (T : Fin 8192) (c : Fin 512) (h : (sOf T).val < 2050) : tZ I (ix3 (bOf T) ⟨(sOf T).val, h⟩ c) = zb I 2 T c := by
  unfold tZ zb
  rw [z_at]
  by_cases hh : T.val % 2048 < 2
  · rw [if_pos hh, dif_pos (by simp only [sOf]; omega)]
  · rw [if_neg hh, dif_neg (by simp only [sOf]; omega), ← zz]
    have e : (sOf ⟨T.val - 2, by omega⟩ : Fin 2048) = ⟨(sOf T).val - 2, by omega⟩ := Fin.ext (by simp only [sOf] at *; omega)
    have e' : bOf ⟨T.val - 2, by omega⟩ = bOf T := Fin.ext (by simp only [bOf] at *; omega)
    rw [e, e']

theorem z1_eq (T : Fin 8192) (c : Fin 512) (h : (sOf T).val + 1 < 2050) : tZ I (ix3 (bOf T) ⟨(sOf T).val + 1, h⟩ c) = zb I 1 T c := by
  unfold tZ zb
  rw [z_at]
  by_cases hh : T.val % 2048 < 1
  · rw [if_pos hh, dif_pos (by simp only [sOf]; omega)]
  · rw [if_neg hh, dif_neg (by simp only [sOf]; omega), ← zz]
    have e : (sOf ⟨T.val - 1, by omega⟩ : Fin 2048) = ⟨(sOf T).val + 1 - 2, by simp only [sOf] at *; omega⟩ := Fin.ext (by simp only [sOf] at *; omega)
    have e' : bOf ⟨T.val - 1, by omega⟩ = bOf T := Fin.ext (by simp only [bOf] at *; omega)
    rw [e, e']

theorem z0_eq (T : Fin 8192) (c : Fin 512) (h : (sOf T).val + 2 < 2050) : tZ I (ix3 (bOf T) ⟨(sOf T).val + 2, h⟩ c) = z I T c := by
  unfold tZ
  rw [z_at, dif_neg (by simp only []; omega), ← zz]
  rfl

theorem yb_eq (T : Fin 8192) (c : Fin 512) : tYb I (ix3 (bOf T) (sOf T) c) = yb I T c := by
  unfold tYb yb conv
  rw [yb_at, z2_eq, z1_eq, z0_eq, pj_eq]

theorem rms_at (y : FVec Ideal S4x2048x512 .f32) (g : FVec Ideal S512 .f32) (b : Fin 4) (s : Fin 2048) (c : Fin 512) :
    sRms y g (ix3 b s c) = y (ix3 b s c) * rms (fun k => y (ix3 b s k)) * g (ix1 c) := by
  pointwise [sRms]
  rfl

theorem na_eq (T : Fin 8192) (c : Fin 512) : sA (tYa I) I.og (ix3 (bOf T) (sOf T) c) = na I T c := by
  unfold sA na
  rw [rms_at]
  simp only [ya_eq]
  pointwise
  rfl

theorem nb_eq (T : Fin 8192) (c : Fin 512) : sB (tYb I) I.og (ix3 (bOf T) (sOf T) c) = nb I T c := by
  unfold sB nb
  rw [rms_at]
  simp only [yb_eq]
  pointwise
  rfl

theorem ym_eq (T : Fin 8192) (e : Fin 1024) : tYm I (ix3 (bOf T) (sOf T) e) = ym I T e := by
  unfold tYm ym
  have ha := na_eq I T
  have hb := nb_eq I T
  generalize sA (tYa I) I.og = a at ha
  generalize sB (tYb I) I.og = b at hb
  pointwise [sYm]
  by_cases h : e.val < 512
  · rw [dif_pos h, dif_pos h, ha]
  · rw [dif_neg h, dif_neg h, hb]

theorem out_eq (T : Fin 8192) (k : Fin 1024) : tO I (ix3 (bOf T) (sOf T) k) = out I T k := by
  unfold tO
  have h := ym_eq I T
  generalize tYm I = hv at h
  pointwise [sO]
  simp only [h]
  rfl

/-- One row per token of an array per sequence and place. -/
theorem to_rows (w : FVec Ideal S4x2048x1024 .f32) (T : Fin 8192) (k : Fin 1024) :
    (shapeCast S8192x1024 w shapeCasts_S4x2048x1024_S8192x1024) (ix2 T k) = w (ix3 (bOf T) (sOf T) k) := by
  pointwise
  rfl

theorem to_rows_pj (w : FVec Ideal S4x2048x2560 .f32) (T : Fin 8192) (k : Fin 2560) :
    (shapeCast S8192x2560 w shapeCasts_S4x2048x2560_S8192x2560) (ix2 T k) = w (ix3 (bOf T) (sOf T) k) := by
  pointwise
  rfl

/-- The five results. -/
theorem r0 (T : Fin 8192) (k : Fin 1024) :
    (truncf .bf16 (shapeCast S8192x1024 (res_main_v20 V0) shapeCasts_S4x2048x1024_S8192x1024) bitsLt_bf16_f32) (ix2 T k) = hid (ins V0) T k :=
  (to_rows (res_main_v20 V0) T k).trans (by rw [res20, h_eq])

theorem r1 (T : Fin 8192) (e : Fin 2560) :
    (truncf .bf16 (shapeCast S8192x2560 (res_main_v21 V0) shapeCasts_S4x2048x2560_S8192x2560) bitsLt_bf16_f32) (ix2 T e) = pj (ins V0) T e :=
  (to_rows_pj (res_main_v21 V0) T e).trans (by rw [res21, pj_eq])

theorem r2 (T : Fin 8192) (e : Fin 1024) :
    (truncf .bf16 (shapeCast S8192x1024 (res_main_v131 V0) shapeCasts_S4x2048x1024_S8192x1024) bitsLt_bf16_f32) (ix2 T e) = ym (ins V0) T e :=
  (to_rows (res_main_v131 V0) T e).trans (by rw [res131, ym_eq])

theorem r4 (T : Fin 8192) (k : Fin 1024) :
    (truncf .bf16 (shapeCast S8192x1024 (res_main_v132 V0) shapeCasts_S4x2048x1024_S8192x1024) bitsLt_bf16_f32) (ix2 T k) = out (ins V0) T k :=
  (to_rows (res_main_v132 V0) T k).trans (by rw [res132, out_eq])

def sX (x : FVec Ideal S4x2048x1024 .f32) (g : FVec Ideal S4x1024 .f32) (f : FVec Ideal S4x2048x1024 .f32) : FVec Ideal S4x2048x1024 .f32 :=
  addf x (mulf (broadcastInDim S4x2048x1024 ![0, 1, 2] bcast_S4x1x1024_S4x2048x1024_0_1_2 (broadcastInDim S4x1x1024 ![0, 2] bcast_S4x1024_S4x1x1024_0_2 g)) f)

theorem x_at (x : FVec Ideal S4x2048x1024 .f32) (g : FVec Ideal S4x1024 .f32) (f : FVec Ideal S4x2048x1024 .f32) (b : Fin 4) (s : Fin 2048) (k : Fin 1024) :
    sX x g f (ix3 b s k) = x (ix3 b s k) + g (ix2 b k) * f (ix3 b s k) := by
  pointwise [sX]

theorem r3 (T : Fin 8192) (k : Fin 1024) :
    (shapeCast S8192x1024 (addf (V0 (Proc.devRef .tc main_arg0)) (mulf (broadcastInDim S4x2048x1024 ![0, 1, 2] bcast_S4x1x1024_S4x2048x1024_0_1_2 (broadcastInDim S4x1x1024 ![0, 2] bcast_S4x1024_S4x1x1024_0_2 (V0 (Proc.devRef .tc main_arg3)))) (res_main_v132 V0))) shapeCasts_S4x2048x1024_S8192x1024 : FVec Ideal S8192x1024 .f32) (ix2 T k)
      = res (ins V0) T k :=
  (to_rows _ T k).trans ((x_at (ins V0).x (ins V0).gate (res_main_v132 V0) (bOf T) (sOf T) k).trans (by rw [res132, out_eq]; rfl))

end Cert.Mix.Ref

end
-- ==== Proof.MixClaim.lean ====
/- The claim about the mixer's half step, and the frame of its reference. -/
module

public import proofs.«01_k».proof.Defs
public import proofs.«01_k».proof.Proof.MixFinal
public import proofs.«01_k».proof.Proof.MixRef
public import Idealize.ShloMosaic.Adequacy
public import Idealize.ShloMosaic.Init

@[expose] public section

noncomputable section

namespace Cert.Proof

open Idealize.ShloMosaic Idealize.SL.Sem Cert.Mix
open Cert.Fwd.Ker (rows rows_of)

theorem mixer_plain_frame : Cert.quiescent_MixerReferenceIdeal (hMixerReferenceIdeal := Cert.MixerReferenceIdeal.Gen.facts) := by
  intro m g _
  exact (θ_run _ _ _).mono (fun r h => ⟨fun c => (h c).2.2.2.2.2, sem_eq_zero_of_no_sems (by decide) r.2⟩) (Cert.MixerReferenceIdeal.Value.run m g)

/-- The arguments of the two programs are the same arrays. -/
theorem mixer_same_ins
    (m : (ℓ : Loc Cert.MixerIdeal.nD Cert.MixerIdeal.τ Cert.MixerIdeal.sig) → Buf (Elt Ideal) ℓ)
    (m' : (ℓ : Loc Cert.MixerReferenceIdeal.nD Cert.MixerReferenceIdeal.τ Cert.MixerReferenceIdeal.sig) → Buf (Elt Ideal) ℓ)
    (c : Dev Cert.MixerIdeal.nD)
    (h0 : m' ((c.tc : Thread Cert.MixerReferenceIdeal.nD Cert.MixerReferenceIdeal.τ).loc Cert.MixerReferenceIdeal.main_arg0) = m ((c.tc : Thread Cert.MixerIdeal.nD Cert.MixerIdeal.τ).loc Cert.MixerIdeal.main_arg0))
    (h1 : m' ((c.tc : Thread Cert.MixerReferenceIdeal.nD Cert.MixerReferenceIdeal.τ).loc Cert.MixerReferenceIdeal.main_arg1) = m ((c.tc : Thread Cert.MixerIdeal.nD Cert.MixerIdeal.τ).loc Cert.MixerIdeal.main_arg1))
    (h2 : m' ((c.tc : Thread Cert.MixerReferenceIdeal.nD Cert.MixerReferenceIdeal.τ).loc Cert.MixerReferenceIdeal.main_arg2) = m ((c.tc : Thread Cert.MixerIdeal.nD Cert.MixerIdeal.τ).loc Cert.MixerIdeal.main_arg2))
    (h3 : m' ((c.tc : Thread Cert.MixerReferenceIdeal.nD Cert.MixerReferenceIdeal.τ).loc Cert.MixerReferenceIdeal.main_arg3) = m ((c.tc : Thread Cert.MixerIdeal.nD Cert.MixerIdeal.τ).loc Cert.MixerIdeal.main_arg3))
    (h4 : m' ((c.tc : Thread Cert.MixerReferenceIdeal.nD Cert.MixerReferenceIdeal.τ).loc Cert.MixerReferenceIdeal.main_arg4) = m ((c.tc : Thread Cert.MixerIdeal.nD Cert.MixerIdeal.τ).loc Cert.MixerIdeal.main_arg4))
    (h5 : m' ((c.tc : Thread Cert.MixerReferenceIdeal.nD Cert.MixerReferenceIdeal.τ).loc Cert.MixerReferenceIdeal.main_arg5) = m ((c.tc : Thread Cert.MixerIdeal.nD Cert.MixerIdeal.τ).loc Cert.MixerIdeal.main_arg5))
    (h6 : m' ((c.tc : Thread Cert.MixerReferenceIdeal.nD Cert.MixerReferenceIdeal.τ).loc Cert.MixerReferenceIdeal.main_arg6) = m ((c.tc : Thread Cert.MixerIdeal.nD Cert.MixerIdeal.τ).loc Cert.MixerIdeal.main_arg6))
    (h7 : m' ((c.tc : Thread Cert.MixerReferenceIdeal.nD Cert.MixerReferenceIdeal.τ).loc Cert.MixerReferenceIdeal.main_arg7) = m ((c.tc : Thread Cert.MixerIdeal.nD Cert.MixerIdeal.τ).loc Cert.MixerIdeal.main_arg7))
    (h8 : m' ((c.tc : Thread Cert.MixerReferenceIdeal.nD Cert.MixerReferenceIdeal.τ).loc Cert.MixerReferenceIdeal.main_arg8) = m ((c.tc : Thread Cert.MixerIdeal.nD Cert.MixerIdeal.τ).loc Cert.MixerIdeal.main_arg8))
    (h9 : m' ((c.tc : Thread Cert.MixerReferenceIdeal.nD Cert.MixerReferenceIdeal.τ).loc Cert.MixerReferenceIdeal.main_arg9) = m ((c.tc : Thread Cert.MixerIdeal.nD Cert.MixerIdeal.τ).loc Cert.MixerIdeal.main_arg9))
    (h10 : m' ((c.tc : Thread Cert.MixerReferenceIdeal.nD Cert.MixerReferenceIdeal.τ).loc Cert.MixerReferenceIdeal.main_arg10) = m ((c.tc : Thread Cert.MixerIdeal.nD Cert.MixerIdeal.τ).loc Cert.MixerIdeal.main_arg10))
    (h11 : m' ((c.tc : Thread Cert.MixerReferenceIdeal.nD Cert.MixerReferenceIdeal.τ).loc Cert.MixerReferenceIdeal.main_arg11) = m ((c.tc : Thread Cert.MixerIdeal.nD Cert.MixerIdeal.τ).loc Cert.MixerIdeal.main_arg11))
    (h12 : m' ((c.tc : Thread Cert.MixerReferenceIdeal.nD Cert.MixerReferenceIdeal.τ).loc Cert.MixerReferenceIdeal.main_arg12) = m ((c.tc : Thread Cert.MixerIdeal.nD Cert.MixerIdeal.τ).loc Cert.MixerIdeal.main_arg12)) :
    Ref.ins (StableHlo.launchContents m' c) = Ker.ins m c := by
  unfold Ker.ins
  rw [← h0, ← h1, ← h2, ← h3, ← h4, ← h5, ← h6, ← h7, ← h8, ← h9, ← h10, ← h11, ← h12]
  rfl

/-- Under the precondition the arguments it names are finite. -/
theorem mixer_finite [Cert.Pre_finite_projection.Facts]
    (m : (ℓ : Loc Cert.MixerIdeal.nD Cert.MixerIdeal.τ Cert.MixerIdeal.sig) → Buf (Elt Ideal) ℓ)
    (h : Cert.Pre_MixerIdeal_finite_projection m) (c : Dev Cert.MixerIdeal.nD) : Finite (Ker.ins m c) :=
  finite_of_fn _ (Shape.Idx.first (by decide)) (by have := h c; exact congrFun this _)

/-- The kernel's five results are the reference's, on arguments whose projected part is finite. -/
theorem mixer_values : Cert.algebraic_MixerIdeal_MixerReferenceIdeal_pre_finite_projection (hMixerIdeal := Cert.MixerIdeal.Gen.facts)
    (hMixerReferenceIdeal := Cert.MixerReferenceIdeal.Gen.facts) (hPre_finite_projection := Cert.Mix.pre_facts) := by
  intro m g m' g' hpre hargs
  haveI := Cert.Mix.pre_facts
  have G := mixer_finite m hpre
  refine ⟨fun c => rows (f := .bf16) (hid (Ker.ins m c)), fun c => rows (f := .bf16) (pj (Ker.ins m c)), fun c => rows (f := .bf16) (ym (Ker.ins m c)), fun c => rows (f := .f32) (res (Ker.ins m c)), fun c => rows (f := .bf16) (out (Ker.ins m c)), ?_, ?_⟩
  · refine (θ_run _ _ _).mono (fun r h c => ?_) (Cert.MixerIdeal.Value.run_blocks m g)
    obtain ⟨r0, r1, r2, r3, r4, rest⟩ := h c
    exact ⟨r0.trans (Ker.final15 m c), r1.trans (Ker.final16 m c), r2.trans (Ker.final17 m c (G c)), r3.trans (Ker.final18 m c (G c)),
      r4.trans (Ker.final19 m c (G c)), rest⟩
  · refine (θ_run _ _ _).mono (fun r h c => ?_) (Cert.MixerReferenceIdeal.Value.run m' g')
    obtain ⟨r0, r1, r2, r3, r4, rest⟩ := h c
    obtain ⟨h0, h1, h2, h3, h4, h5, h6, h7, h8, h9, h10, h11, h12⟩ := hargs c
    have hI : Ref.ins (StableHlo.launchContents m' c) = Ker.ins m c := mixer_same_ins m m' c h0 h1 h2 h3 h4 h5 h6 h7 h8 h9 h10 h11 h12
    have e0 := rows_of (f := .bf16) _ _ (Ref.r0 (StableHlo.launchContents m' c))
    have e1 := rows_of (f := .bf16) _ _ (Ref.r1 (StableHlo.launchContents m' c))
    have e2 := rows_of (f := .bf16) _ _ (Ref.r2 (StableHlo.launchContents m' c))
    have e3 := rows_of (f := .f32) _ _ (Ref.r3 (StableHlo.launchContents m' c))
    have e4 := rows_of (f := .bf16) _ _ (Ref.r4 (StableHlo.launchContents m' c))
    refine ⟨?_, ?_, ?_, ?_, ?_, rest⟩
    · exact (Eq.trans r0 e0).trans (congrArg (fun I => rows (f := .bf16) (hid I)) hI)
    · exact (Eq.trans r1 e1).trans (congrArg (fun I => rows (f := .bf16) (pj I)) hI)
    · exact (Eq.trans r2 e2).trans (congrArg (fun I => rows (f := .bf16) (ym I)) hI)
    · exact (Eq.trans r3 e3).trans (congrArg (fun I => rows (f := .f32) (res I)) hI)
    · exact (Eq.trans r4 e4).trans (congrArg (fun I => rows (f := .bf16) (out I)) hI)

end Cert.Proof

end
-- ==== Proof.InValue.lean ====
/- The gradient of the mixer's input projection, transposed: each block of the kernel's result is the reference's. -/
module

public import proofs.«01_k».proof.Proof.Gen.InWeightIdeal.Value
public import proofs.«01_k».proof.Proof.Gen.InWeightReferenceIdeal.Run
public import proofs.«01_k».proof.Proof.DownValue
public import Idealize.ShloMosaic.Lib.Pipeline.ValueKit
public import Idealize.ShloMosaic.Lib.Pointwise

@[expose] public section

set_option maxRecDepth 16384

noncomputable section

namespace Cert.WIn

open Idealize.ShloMosaic Idealize.ShloMosaic.TcCoe Idealize.SL.Sem
open Cert.InWeightIdeal Cert.InWeightIdeal.Gen

/-- The arguments that the program reads. -/
structure Ins where
  x : FVec Ideal S4x2048x1024 .f32
  sh : FVec Ideal S4x1024 .f32
  sc : FVec Ideal S4x1024 .f32
  gn : FVec Ideal S1024 .f32

/-- The modulated norm of the input. -/
def hid (I : Ins) : FVec Ideal S4x2048x1024 .f32 :=
  (addf (mulf (mulf (mulf I.x (broadcastInDim S4x2048x1024 ![0, 1, 2] bcast_S4x2048x1_S4x2048x1024_0_1_2 (Host.rsqrt (addf (Host.divf (broadcastInDim S4x2048x1 ![0, 1] bcast_S4x2048_S4x2048x1_0_1 (Host.reduceAdd (mulf I.x I.x) (constant S_ .f32 0x00000000#32) reducesTo_S4x2048x1024_S4x2048_d2 h_S_)) (broadcastInDim S4x2048x1 ![] bcast_S_S4x2048x1 (constant S_ .f32 0x44800000#32))) (broadcastInDim S4x2048x1 ![] bcast_S_S4x2048x1 (constant S_ .f32 0x358637BD#32)))))) (broadcastInDim S4x2048x1024 ![0, 1, 2] bcast_S1x1x1024_S4x2048x1024_0_1_2 (broadcastInDim S1x1x1024 ![2] bcast_S1024_S1x1x1024_2 I.gn))) (broadcastInDim S4x2048x1024 ![0, 1, 2] bcast_S4x1x1024_S4x2048x1024_0_1_2 (addf (broadcastInDim S4x1x1024 ![] bcast_S_S4x1x1024 (constant S_ .f32 0x3F800000#32)) (broadcastInDim S4x1x1024 ![0, 2] bcast_S4x1024_S4x1x1024_0_2 I.sc)))) (broadcastInDim S4x2048x1024 ![0, 1, 2] bcast_S4x1x1024_S4x2048x1024_0_1_2 (broadcastInDim S4x1x1024 ![0, 2] bcast_S4x1024_S4x1x1024_0_2 I.sh)))

/-- What the gradient is at a row and a column: the sum over all tokens of incoming gradient times modulated norm. -/
def entry (I : Ins) (ct : FVec Ideal S4x2048x2560 .f32) (j : Fin 2560) (k : Fin 1024) : EReal :=
  ∑ b : Fin 4, ∑ s : Fin 2048, ct (ix3 b s j) * hid I (ix3 b s k)

variable (m : (ℓ : Loc nD τ sig) → Buf (Elt Ideal) ℓ) (c : Dev nD)

/-- The arguments of the run. -/
def ins : Ins where
  x := m ((c.tc : Thread nD τ).loc main_arg0)
  sh := m ((c.tc : Thread nD τ).loc main_arg1)
  sc := m ((c.tc : Thread nD τ).loc main_arg2)
  gn := m ((c.tc : Thread nD τ).loc main_arg3)

/-- The incoming gradient that the program is given. -/
def ct : FVec Ideal S4x2048x2560 .f32 := m ((c.tc : Thread nD τ).loc main_arg5)

theorem V1 : V m c main_v1 = truncf .bf16 (shapeCast S8192x2560 (ct m c) shapeCasts_S4x2048x2560_S8192x2560) bitsLt_bf16_f32 := by
  entry_read; rfl

theorem V24 : V m c main_v24 = truncf .bf16 (shapeCast S8192x1024 (hid (ins m c)) shapeCasts_S4x2048x1024_S8192x1024) bitsLt_bf16_f32 := by
  entry_read; rfl

theorem v1 (t : Fin 8192) (j : Fin 2560) : (V m c main_v1 : FVec Ideal S8192x2560 .bf16) (ix2 t j)
    = ct m c (ix3 ⟨t / 2048, by omega⟩ ⟨t % 2048, by omega⟩ j) := by
  rw [V1]; pointwise

theorem v24 (t : Fin 8192) (k : Fin 1024) : (V m c main_v24 : FVec Ideal S8192x1024 .bf16) (ix2 t k)
    = hid (ins m c) (ix3 ⟨t / 2048, by omega⟩ ⟨t % 2048, by omega⟩ k) := by
  rw [V24]; pointwise

theorem idx : ∀ t : Fin cfg0.N, win0_0.index t = ![0, t.val] ∧ win0_1.index t = ![0, 0] ∧ win0_2.index t = ![t.val, 0] :=
  (by decide +kernel : ∀ t : Fin grid0.N, _)

variable (t : Fin cfg0.N)

theorem i0 (r : Fin 8192) (j : Fin 256) (h : 256 * t.val + j.val < 2560) : (iblk m c 0 t : FVec Ideal S8192x256 .bf16) (ix2 r j)
    = (V m c main_v1 : FVec Ideal S8192x2560 .bf16) (ix2 r ⟨256 * t + j, h⟩) := by
  have ht : t.val < 10 := lt_of_lt_of_eq t.isLt N_0
  blk_point [iblk, idx t]

theorem i1 (r : Fin 8192) (k : Fin 1024) : (iblk m c 1 t : FVec Ideal S8192x1024 .bf16) (ix2 r k)
    = (V m c main_v24 : FVec Ideal S8192x1024 .bf16) (ix2 r k) := by
  have ht : t.val < 10 := lt_of_lt_of_eq t.isLt N_0
  blk_point [iblk, idx t]

theorem pay (a : FVec Ideal S8192x256 .bf16) (b : FVec Ideal S8192x1024 .bf16) (j : Fin 256) (k : Fin 1024) :
    k0_pay1 (F := Ideal) a b (ix2 j k) = ∑ r : Fin 8192, a (ix2 r j) * b (ix2 r k) := by
  pointwise [k0_pay1]

theorem entry_eq (I : Ins) (ct : FVec Ideal S4x2048x2560 .f32) (j : Fin 2560) (k : Fin 1024) :
    entry I ct j k = ∑ r : Fin 8192, ct (ix3 ⟨r / 2048, by omega⟩ ⟨r % 2048, by omega⟩ j) * hid I (ix3 ⟨r / 2048, by omega⟩ ⟨r % 2048, by omega⟩ k) :=
  (Cert.Down.sum_tokens fun b s => ct (ix3 b s j) * hid I (ix3 b s k)).symm

/-- The whole gradient. -/
def grad (I : Ins) (ct : FVec Ideal S4x2048x2560 .f32) : FVec Ideal S2560x1024 .bf16 :=
  fun i => entry I ct (i 0) (i 1)

theorem grad_at (I : Ins) (ct : FVec Ideal S4x2048x2560 .f32) (j : Fin 2560) (k : Fin 1024) :
    grad I ct (ix2 j k) = entry I ct j k := rfl

theorem tile (j : Fin 256) (k : Fin 1024) (h : 256 * t.val + j.val < 2560) :
    (out0_2 (iblk m c 0 t) (iblk m c 1 t) : FVec Ideal S256x1024 .bf16) (ix2 j k) = entry (ins m c) (ct m c) ⟨256 * t + j, h⟩ k := by
  frame_out [out0_2]
  rw [pay, entry_eq]
  refine Finset.sum_congr rfl fun r _ => ?_
  rw [i0 m c t r j h, i1 m c t r k, v1, v24]

theorem final : (dats m 0 c).arrAt 2 cfg0.N = grad (ins m c) (ct m c) := by
  refine (dats m 0 c).arrAt_eq_of_covers 2 _ (by decide +kernel) fun t hf y => ?_
  have ht : t.val < 10 := lt_of_lt_of_eq t.isLt N_0
  blk_simp
  rw [after0_2]
  have key : ∀ (j : Fin 256) (k : Fin 1024), (out0_2 (iblk m c 0 t) (iblk m c 1 t)) (ix2 j k) = grad (ins m c) (ct m c) ((win0_2.blk t).view.emb (ix2 j k)) := by
    intro j k
    have he : (win0_2.blk t).view.emb (ix2 j k) = ix2 ⟨256 * t.val + j.val, by omega⟩ k := by
      blk_point [idx t]
    rw [he, grad_at]
    exact tile m c t j k (by omega)
  have hy : y = ix2 (y 0) (y 1) := by funext a; fin_cases a <;> rfl
  rw [hy]
  exact key (y 0) (y 1)

theorem ref (I : Ins) (ct : FVec Ideal S4x2048x2560 .f32) (j : Fin 2560) (k : Fin 1024) :
    truncf .bf16 (transpose S2560x1024 [1, 0] (transpose S1024x2560 [1, 0] (Host.dotGeneral Cert.InWeightReferenceIdeal.dot_S4x2048x2560_S4x2048x1024_S2560x1024_01_01_2_2_n_n none ct (hid I)) Cert.InWeightReferenceIdeal.Gen.transposes_S2560x1024_S1024x2560_1_0) Cert.InWeightReferenceIdeal.Gen.transposes_S1024x2560_S2560x1024_1_0) bitsLt_bf16_f32 (ix2 j k)
    = entry I ct j k := by
  pointwise
  rfl

theorem ref_grad (I : Ins) (ct : FVec Ideal S4x2048x2560 .f32) :
    truncf .bf16 (transpose S2560x1024 [1, 0] (transpose S1024x2560 [1, 0] (Host.dotGeneral Cert.InWeightReferenceIdeal.dot_S4x2048x2560_S4x2048x1024_S2560x1024_01_01_2_2_n_n none ct (hid I)) Cert.InWeightReferenceIdeal.Gen.transposes_S2560x1024_S1024x2560_1_0) Cert.InWeightReferenceIdeal.Gen.transposes_S1024x2560_S2560x1024_1_0) bitsLt_bf16_f32
    = grad I ct := by
  funext i
  have hi : i = ix2 (i 0) (i 1) := by funext a; fin_cases a <;> rfl
  rw [hi]
  exact ref I ct (i 0) (i 1)

end Cert.WIn

end
-- ==== Proof.OutValue.lean ====
/- The gradient of the mixer's output projection: each block of the kernel's result is the reference's. -/
module

public import proofs.«01_k».proof.Proof.Gen.OutWeightIdeal.Value
public import proofs.«01_k».proof.Proof.Gen.OutWeightReferenceIdeal.Run
public import proofs.«01_k».proof.Proof.DownValue
public import Idealize.ShloMosaic.Lib.Pipeline.ValueKit
public import Idealize.ShloMosaic.Lib.Pointwise

@[expose] public section

set_option maxRecDepth 16384

noncomputable section

namespace Cert.WOut

open Idealize.ShloMosaic Idealize.ShloMosaic.TcCoe Idealize.SL.Sem
open Cert.OutWeightIdeal Cert.OutWeightIdeal.Gen

/-- The two branches side by side. -/
def sideBySide {F : FTy → Type} [FloatOps F] : (⟨S4x2048x512, .f32⟩ : BufTy).Contents (Elt F) → (⟨S4x2048x512, .f32⟩ : BufTy).Contents (Elt F) → (⟨S4x2048x1024, .f32⟩ : BufTy).Contents (Elt F) :=
  fun a b => concatenate S4x2048x1024 2 [⟨S4x2048x512, a⟩, ⟨S4x2048x512, b⟩] concatenates_S4x2048x512_S4x2048x512_S4x2048x1024_d2

/-- A branch, normalized and multiplied by its gain. -/
def branch (y : FVec Ideal S4x2048x512 .f32) (g : FVec Ideal S512 .f32) : FVec Ideal S4x2048x512 .f32 :=
  mulf (mulf y (broadcastInDim S4x2048x512 ![0, 1, 2] bcast_S4x2048x1_S4x2048x512_0_1_2 (Host.rsqrt (addf
      (Host.divf (broadcastInDim S4x2048x1 ![0, 1] bcast_S4x2048_S4x2048x1_0_1 (Host.reduceAdd (mulf y y) (constant S_ .f32 0x00000000#32) reducesTo_S4x2048x512_S4x2048_d2 h_S_))
        (broadcastInDim S4x2048x1 ![] bcast_S_S4x2048x1 (constant S_ .f32 0x44000000#32)))
      (broadcastInDim S4x2048x1 ![] bcast_S_S4x2048x1 (constant S_ .f32 0x358637BD#32))))))
    (broadcastInDim S4x2048x512 ![0, 1, 2] bcast_S1x1x512_S4x2048x512_0_1_2 (broadcastInDim S1x1x512 ![2] bcast_S512_S1x1x512_2 g))

/-- The arguments that the program reads. -/
structure Ins where
  ya : FVec Ideal S4x2048x512 .f32
  yb : FVec Ideal S4x2048x512 .f32
  og : FVec Ideal S1024 .f32

/-- What the output projection is applied to. -/
def act (I : Ins) : FVec Ideal S4x2048x1024 .f32 :=
  sideBySide (F := Ideal) (branch I.ya (extractStridedSlice S512 ![0] I.og slices_S1024_S512_0)) (branch I.yb (extractStridedSlice S512 ![512] I.og slices_S1024_S512_512))

/-- What the gradient is at a row and a column: the sum over all tokens of the branches times incoming gradient. -/
def entry (I : Ins) (ct : FVec Ideal S4x2048x1024 .f32) (j : Fin 1024) (k : Fin 1024) : EReal :=
  ∑ b : Fin 4, ∑ s : Fin 2048, act I (ix3 b s j) * ct (ix3 b s k)

variable (m : (ℓ : Loc nD τ sig) → Buf (Elt Ideal) ℓ) (c : Dev nD)

/-- The arguments of the run. -/
def ins : Ins where
  ya := m ((c.tc : Thread nD τ).loc main_arg0)
  yb := m ((c.tc : Thread nD τ).loc main_arg1)
  og := m ((c.tc : Thread nD τ).loc main_arg2)

/-- The incoming gradient that the program is given. -/
def ct : FVec Ideal S4x2048x1024 .f32 := m ((c.tc : Thread nD τ).loc main_arg4)

/-- The host's operations, with the joining of the branches by name. -/
abbrev hOps {F : FTy → Type} [FloatOps F] : List (HloOp τ sig (Elt F)) :=
  [ StableHlo.unary main_arg2 main_v0 ((extractStridedSlice S512 ![0] · slices_S1024_S512_0) : (⟨S1024, .f32⟩ : BufTy).Contents (Elt F) → (⟨S512, .f32⟩ : BufTy).Contents (Elt F)),
    StableHlo.binary main_arg0 main_arg0 main_v1 (mulf : (⟨S4x2048x512, .f32⟩ : BufTy).Contents (Elt F) → (⟨S4x2048x512, .f32⟩ : BufTy).Contents (Elt F) → (⟨S4x2048x512, .f32⟩ : BufTy).Contents (Elt F)),
    StableHlo.nullary main_cst (constant S_ .f32 0x00000000#32),
    StableHlo.binary main_v1 main_cst main_v2 ((fun x v => Host.reduceAdd x v reducesTo_S4x2048x512_S4x2048_d2 h_S_) : (⟨S4x2048x512, .f32⟩ : BufTy).Contents (Elt F) → (⟨S_, .f32⟩ : BufTy).Contents (Elt F) → (⟨S4x2048, .f32⟩ : BufTy).Contents (Elt F)),
    StableHlo.unary main_v2 main_v3 (broadcastInDim S4x2048x1 ![0, 1] bcast_S4x2048_S4x2048x1_0_1 : (⟨S4x2048, .f32⟩ : BufTy).Contents (Elt F) → (⟨S4x2048x1, .f32⟩ : BufTy).Contents (Elt F)),
    StableHlo.nullary main_cst_0 (constant S_ .f32 0x44000000#32),
    StableHlo.unary main_cst_0 main_v4 (broadcastInDim S4x2048x1 ![] bcast_S_S4x2048x1 : (⟨S_, .f32⟩ : BufTy).Contents (Elt F) → (⟨S4x2048x1, .f32⟩ : BufTy).Contents (Elt F)),
    StableHlo.binary main_v3 main_v4 main_v5 (Host.divf : (⟨S4x2048x1, .f32⟩ : BufTy).Contents (Elt F) → (⟨S4x2048x1, .f32⟩ : BufTy).Contents (Elt F) → (⟨S4x2048x1, .f32⟩ : BufTy).Contents (Elt F)),
    StableHlo.nullary main_cst_1 (constant S_ .f32 0x358637BD#32),
    StableHlo.unary main_cst_1 main_v6 (broadcastInDim S4x2048x1 ![] bcast_S_S4x2048x1 : (⟨S_, .f32⟩ : BufTy).Contents (Elt F) → (⟨S4x2048x1, .f32⟩ : BufTy).Contents (Elt F)),
    StableHlo.binary main_v5 main_v6 main_v7 (addf : (⟨S4x2048x1, .f32⟩ : BufTy).Contents (Elt F) → (⟨S4x2048x1, .f32⟩ : BufTy).Contents (Elt F) → (⟨S4x2048x1, .f32⟩ : BufTy).Contents (Elt F)),
    StableHlo.unary main_v7 main_v8 (Host.rsqrt : (⟨S4x2048x1, .f32⟩ : BufTy).Contents (Elt F) → (⟨S4x2048x1, .f32⟩ : BufTy).Contents (Elt F)),
    StableHlo.unary main_v8 main_v9 (broadcastInDim S4x2048x512 ![0, 1, 2] bcast_S4x2048x1_S4x2048x512_0_1_2 : (⟨S4x2048x1, .f32⟩ : BufTy).Contents (Elt F) → (⟨S4x2048x512, .f32⟩ : BufTy).Contents (Elt F)),
    StableHlo.binary main_arg0 main_v9 main_v10 (mulf : (⟨S4x2048x512, .f32⟩ : BufTy).Contents (Elt F) → (⟨S4x2048x512, .f32⟩ : BufTy).Contents (Elt F) → (⟨S4x2048x512, .f32⟩ : BufTy).Contents (Elt F)),
    StableHlo.unary main_v0 main_v11 (broadcastInDim S1x1x512 ![2] bcast_S512_S1x1x512_2 : (⟨S512, .f32⟩ : BufTy).Contents (Elt F) → (⟨S1x1x512, .f32⟩ : BufTy).Contents (Elt F)),
    StableHlo.unary main_v11 main_v12 (broadcastInDim S4x2048x512 ![0, 1, 2] bcast_S1x1x512_S4x2048x512_0_1_2 : (⟨S1x1x512, .f32⟩ : BufTy).Contents (Elt F) → (⟨S4x2048x512, .f32⟩ : BufTy).Contents (Elt F)),
    StableHlo.binary main_v10 main_v12 main_v13 (mulf : (⟨S4x2048x512, .f32⟩ : BufTy).Contents (Elt F) → (⟨S4x2048x512, .f32⟩ : BufTy).Contents (Elt F) → (⟨S4x2048x512, .f32⟩ : BufTy).Contents (Elt F)),
    StableHlo.unary main_arg2 main_v14 ((extractStridedSlice S512 ![512] · slices_S1024_S512_512) : (⟨S1024, .f32⟩ : BufTy).Contents (Elt F) → (⟨S512, .f32⟩ : BufTy).Contents (Elt F)),
    StableHlo.binary main_arg1 main_arg1 main_v15 (mulf : (⟨S4x2048x512, .f32⟩ : BufTy).Contents (Elt F) → (⟨S4x2048x512, .f32⟩ : BufTy).Contents (Elt F) → (⟨S4x2048x512, .f32⟩ : BufTy).Contents (Elt F)),
    StableHlo.nullary main_cst_2 (constant S_ .f32 0x00000000#32),
    StableHlo.binary main_v15 main_cst_2 main_v16 ((fun x v => Host.reduceAdd x v reducesTo_S4x2048x512_S4x2048_d2 h_S_) : (⟨S4x2048x512, .f32⟩ : BufTy).Contents (Elt F) → (⟨S_, .f32⟩ : BufTy).Contents (Elt F) → (⟨S4x2048, .f32⟩ : BufTy).Contents (Elt F)),
    StableHlo.unary main_v16 main_v17 (broadcastInDim S4x2048x1 ![0, 1] bcast_S4x2048_S4x2048x1_0_1 : (⟨S4x2048, .f32⟩ : BufTy).Contents (Elt F) → (⟨S4x2048x1, .f32⟩ : BufTy).Contents (Elt F)),
    StableHlo.nullary main_cst_3 (constant S_ .f32 0x44000000#32),
    StableHlo.unary main_cst_3 main_v18 (broadcastInDim S4x2048x1 ![] bcast_S_S4x2048x1 : (⟨S_, .f32⟩ : BufTy).Contents (Elt F) → (⟨S4x2048x1, .f32⟩ : BufTy).Contents (Elt F)),
    StableHlo.binary main_v17 main_v18 main_v19 (Host.divf : (⟨S4x2048x1, .f32⟩ : BufTy).Contents (Elt F) → (⟨S4x2048x1, .f32⟩ : BufTy).Contents (Elt F) → (⟨S4x2048x1, .f32⟩ : BufTy).Contents (Elt F)),
    StableHlo.nullary main_cst_4 (constant S_ .f32 0x358637BD#32),
    StableHlo.unary main_cst_4 main_v20 (broadcastInDim S4x2048x1 ![] bcast_S_S4x2048x1 : (⟨S_, .f32⟩ : BufTy).Contents (Elt F) → (⟨S4x2048x1, .f32⟩ : BufTy).Contents (Elt F)),
    StableHlo.binary main_v19 main_v20 main_v21 (addf : (⟨S4x2048x1, .f32⟩ : BufTy).Contents (Elt F) → (⟨S4x2048x1, .f32⟩ : BufTy).Contents (Elt F) → (⟨S4x2048x1, .f32⟩ : BufTy).Contents (Elt F)),
    StableHlo.unary main_v21 main_v22 (Host.rsqrt : (⟨S4x2048x1, .f32⟩ : BufTy).Contents (Elt F) → (⟨S4x2048x1, .f32⟩ : BufTy).Contents (Elt F)),
    StableHlo.unary main_v22 main_v23 (broadcastInDim S4x2048x512 ![0, 1, 2] bcast_S4x2048x1_S4x2048x512_0_1_2 : (⟨S4x2048x1, .f32⟩ : BufTy).Contents (Elt F) → (⟨S4x2048x512, .f32⟩ : BufTy).Contents (Elt F)),
    StableHlo.binary main_arg1 main_v23 main_v24 (mulf : (⟨S4x2048x512, .f32⟩ : BufTy).Contents (Elt F) → (⟨S4x2048x512, .f32⟩ : BufTy).Contents (Elt F) → (⟨S4x2048x512, .f32⟩ : BufTy).Contents (Elt F)),
    StableHlo.unary main_v14 main_v25 (broadcastInDim S1x1x512 ![2] bcast_S512_S1x1x512_2 : (⟨S512, .f32⟩ : BufTy).Contents (Elt F) → (⟨S1x1x512, .f32⟩ : BufTy).Contents (Elt F)),
    StableHlo.unary main_v25 main_v26 (broadcastInDim S4x2048x512 ![0, 1, 2] bcast_S1x1x512_S4x2048x512_0_1_2 : (⟨S1x1x512, .f32⟩ : BufTy).Contents (Elt F) → (⟨S4x2048x512, .f32⟩ : BufTy).Contents (Elt F)),
    StableHlo.binary main_v24 main_v26 main_v27 (mulf : (⟨S4x2048x512, .f32⟩ : BufTy).Contents (Elt F) → (⟨S4x2048x512, .f32⟩ : BufTy).Contents (Elt F) → (⟨S4x2048x512, .f32⟩ : BufTy).Contents (Elt F)),
    StableHlo.binary main_v13 main_v27 main_v28 sideBySide,
    StableHlo.reshape main_v28 main_v29 (rfl : (.f32 : EltTy) = .f32) shapeCasts_S4x2048x1024_S8192x1024,
    StableHlo.unary main_v29 main_v30 ((truncf .bf16 · bitsLt_bf16_f32) : (⟨S8192x1024, .f32⟩ : BufTy).Contents (Elt F) → (⟨S8192x1024, .bf16⟩ : BufTy).Contents (Elt F)),
    StableHlo.reshape main_arg4 main_v31 (rfl : (.f32 : EltTy) = .f32) shapeCasts_S4x2048x1024_S8192x1024,
    StableHlo.unary main_v31 main_v32 ((truncf .bf16 · bitsLt_bf16_f32) : (⟨S8192x1024, .f32⟩ : BufTy).Contents (Elt F) → (⟨S8192x1024, .bf16⟩ : BufTy).Contents (Elt F)) ]

/-- The rows of all tokens, rounded. -/
def flat (y : FVec Ideal S4x2048x1024 .f32) : FVec Ideal S8192x1024 .bf16 :=
  truncf .bf16 (shapeCast S8192x1024 y shapeCasts_S4x2048x1024_S8192x1024) bitsLt_bf16_f32

theorem V30 : V m c main_v30 = flat (act (ins m c)) := by
  change StableHlo.after hOps (fun b => m (c, b)) main_v30
    = flat (sideBySide (F := Ideal) (branch (ins m c).ya (extractStridedSlice S512 ![0] (ins m c).og slices_S1024_S512_0))
      (branch (ins m c).yb (extractStridedSlice S512 ![512] (ins m c).og slices_S1024_S512_512)))
  simp only [hOps, StableHlo.after_cons, StableHlo.after_nil]
  after_results_simp
  exact congrArg flat (congrArg₂ (sideBySide (F := Ideal)) rfl rfl)

theorem V32 : V m c main_v32 = truncf .bf16 (shapeCast S8192x1024 (ct m c) shapeCasts_S4x2048x1024_S8192x1024) bitsLt_bf16_f32 := by
  entry_read; rfl

theorem v30 (t : Fin 8192) (j : Fin 1024) : (V m c main_v30 : FVec Ideal S8192x1024 .bf16) (ix2 t j)
    = act (ins m c) (ix3 ⟨t / 2048, by omega⟩ ⟨t % 2048, by omega⟩ j) := by
  rw [V30]; pointwise [flat]

theorem v32 (t : Fin 8192) (k : Fin 1024) : (V m c main_v32 : FVec Ideal S8192x1024 .bf16) (ix2 t k)
    = ct m c (ix3 ⟨t / 2048, by omega⟩ ⟨t % 2048, by omega⟩ k) := by
  rw [V32]; pointwise

theorem idx : ∀ t : Fin cfg0.N, win0_0.index t = ![0, t.val] ∧ win0_1.index t = ![0, 0] ∧ win0_2.index t = ![t.val, 0] :=
  (by decide +kernel : ∀ t : Fin grid0.N, _)

variable (t : Fin cfg0.N)

theorem i0 (r : Fin 8192) (j : Fin 256) (h : 256 * t.val + j.val < 1024) : (iblk m c 0 t : FVec Ideal S8192x256 .bf16) (ix2 r j)
    = (V m c main_v30 : FVec Ideal S8192x1024 .bf16) (ix2 r ⟨256 * t + j, h⟩) := by
  have ht : t.val < 4 := lt_of_lt_of_eq t.isLt N_0
  blk_point [iblk, idx t]

theorem i1 (r : Fin 8192) (k : Fin 1024) : (iblk m c 1 t : FVec Ideal S8192x1024 .bf16) (ix2 r k)
    = (V m c main_v32 : FVec Ideal S8192x1024 .bf16) (ix2 r k) := by
  have ht : t.val < 4 := lt_of_lt_of_eq t.isLt N_0
  blk_point [iblk, idx t]

theorem pay (a : FVec Ideal S8192x256 .bf16) (b : FVec Ideal S8192x1024 .bf16) (j : Fin 256) (k : Fin 1024) :
    k0_pay1 (F := Ideal) a b (ix2 j k) = ∑ r : Fin 8192, a (ix2 r j) * b (ix2 r k) := by
  pointwise [k0_pay1]

theorem entry_eq (I : Ins) (ct : FVec Ideal S4x2048x1024 .f32) (j : Fin 1024) (k : Fin 1024) :
    entry I ct j k = ∑ r : Fin 8192, act I (ix3 ⟨r / 2048, by omega⟩ ⟨r % 2048, by omega⟩ j) * ct (ix3 ⟨r / 2048, by omega⟩ ⟨r % 2048, by omega⟩ k) :=
  (Cert.Down.sum_tokens fun b s => act I (ix3 b s j) * ct (ix3 b s k)).symm

/-- The whole gradient. -/
def grad (I : Ins) (ct : FVec Ideal S4x2048x1024 .f32) : FVec Ideal S1024x1024 .bf16 :=
  fun i => entry I ct (i 0) (i 1)

theorem grad_at (I : Ins) (ct : FVec Ideal S4x2048x1024 .f32) (j : Fin 1024) (k : Fin 1024) :
    grad I ct (ix2 j k) = entry I ct j k := rfl

theorem tile (j : Fin 256) (k : Fin 1024) (h : 256 * t.val + j.val < 1024) :
    (out0_2 (iblk m c 0 t) (iblk m c 1 t) : FVec Ideal S256x1024 .bf16) (ix2 j k) = entry (ins m c) (ct m c) ⟨256 * t + j, h⟩ k := by
  frame_out [out0_2]
  rw [pay, entry_eq]
  refine Finset.sum_congr rfl fun r _ => ?_
  rw [i0 m c t r j h, i1 m c t r k, v30, v32]

theorem final : (dats m 0 c).arrAt 2 cfg0.N = grad (ins m c) (ct m c) := by
  refine (dats m 0 c).arrAt_eq_of_covers 2 _ (by decide +kernel) fun t hf y => ?_
  have ht : t.val < 4 := lt_of_lt_of_eq t.isLt N_0
  blk_simp
  rw [after0_2]
  have key : ∀ (j : Fin 256) (k : Fin 1024), (out0_2 (iblk m c 0 t) (iblk m c 1 t)) (ix2 j k) = grad (ins m c) (ct m c) ((win0_2.blk t).view.emb (ix2 j k)) := by
    intro j k
    have he : (win0_2.blk t).view.emb (ix2 j k) = ix2 ⟨256 * t.val + j.val, by omega⟩ k := by
      blk_point [idx t]
    rw [he, grad_at]
    exact tile m c t j k (by omega)
  have hy : y = ix2 (y 0) (y 1) := by funext a; fin_cases a <;> rfl
  rw [hy]
  exact key (y 0) (y 1)

theorem ref (I : Ins) (ct : FVec Ideal S4x2048x1024 .f32) (j : Fin 1024) (k : Fin 1024) :
    truncf .bf16 (transpose S1024x1024 [1, 0] (Host.dotGeneral Cert.OutWeightReferenceIdeal.dot_S4x2048x1024_S4x2048x1024_S1024x1024_01_01_2_2_n_n none ct (act I)) Cert.OutWeightReferenceIdeal.Gen.transposes_S1024x1024_S1024x1024_1_0) bitsLt_bf16_f32 (ix2 j k)
    = entry I ct j k := by
  pointwise
  exact Finset.sum_congr rfl fun b _ => Finset.sum_congr rfl fun s _ => mul_comm _ _

theorem ref_grad (I : Ins) (ct : FVec Ideal S4x2048x1024 .f32) :
    truncf .bf16 (transpose S1024x1024 [1, 0] (Host.dotGeneral Cert.OutWeightReferenceIdeal.dot_S4x2048x1024_S4x2048x1024_S1024x1024_01_01_2_2_n_n none ct (act I)) Cert.OutWeightReferenceIdeal.Gen.transposes_S1024x1024_S1024x1024_1_0) bitsLt_bf16_f32
    = grad I ct := by
  funext i
  have hi : i = ix2 (i 0) (i 1) := by funext a; fin_cases a <;> rfl
  rw [hi]
  exact ref I ct (i 0) (i 1)

end Cert.WOut

end
-- ==== Proof.MixWeightClaims.lean ====
/- The claims about the gradients of the mixer's two projections, and the frames of their references. -/
module

public import proofs.«01_k».proof.Defs
public import proofs.«01_k».proof.Proof.InValue
public import proofs.«01_k».proof.Proof.OutValue
public import Idealize.ShloMosaic.Adequacy
public import Idealize.ShloMosaic.Init

@[expose] public section

noncomputable section

namespace Cert.Proof

open Idealize.ShloMosaic Idealize.SL.Sem

theorem in_plain_frame : Cert.quiescent_InWeightReferenceIdeal (hInWeightReferenceIdeal := Cert.InWeightReferenceIdeal.Gen.facts) := by
  intro m g _
  exact (θ_run _ _ _).mono (fun r h => ⟨fun c => (h c).2, sem_eq_zero_of_no_sems (by decide) r.2⟩) (Cert.InWeightReferenceIdeal.Value.run m g)

/-- The kernel's gradient of the input projection is the reference's, on any arguments. -/
theorem in_values : Cert.algebraic_InWeightIdeal_InWeightReferenceIdeal (hInWeightIdeal := Cert.InWeightIdeal.Gen.facts)
    (hInWeightReferenceIdeal := Cert.InWeightReferenceIdeal.Gen.facts) := by
  intro m g m' g' hpre hargs
  refine ⟨fun c => Cert.WIn.grad (Cert.WIn.ins m c) (Cert.WIn.ct m c), ?_, ?_⟩
  · refine (θ_run _ _ _).mono (fun r h c => ?_) (Cert.InWeightIdeal.Value.run_blocks m g)
    exact ⟨(h c).1.trans (Cert.WIn.final m c), (h c).2⟩
  · refine (θ_run _ _ _).mono (fun r h c => ?_) (Cert.InWeightReferenceIdeal.Value.run m' g')
    obtain ⟨r0, rest⟩ := h c
    obtain ⟨h0, h1, h2, h3, h4, h5⟩ := hargs c
    refine ⟨?_, rest⟩
    rw [h0, h1, h2, h3, h5] at r0
    have e := Cert.WIn.ref_grad (Cert.WIn.ins m c) (Cert.WIn.ct m c)
    unfold Cert.WIn.hid Cert.WIn.ins Cert.WIn.ct at e
    exact r0.trans e

theorem out_plain_frame : Cert.quiescent_OutWeightReferenceIdeal (hOutWeightReferenceIdeal := Cert.OutWeightReferenceIdeal.Gen.facts) := by
  intro m g _
  exact (θ_run _ _ _).mono (fun r h => ⟨fun c => (h c).2, sem_eq_zero_of_no_sems (by decide) r.2⟩) (Cert.OutWeightReferenceIdeal.Value.run m g)

/-- The reference's arguments. -/
def outRefIns (m' : (ℓ : Loc Cert.OutWeightReferenceIdeal.nD Cert.OutWeightReferenceIdeal.τ Cert.OutWeightReferenceIdeal.sig) → Buf (Elt Ideal) ℓ) (c : Dev Cert.OutWeightReferenceIdeal.nD) : Cert.WOut.Ins where
  ya := m' ((c.tc : Thread Cert.OutWeightReferenceIdeal.nD Cert.OutWeightReferenceIdeal.τ).loc Cert.OutWeightReferenceIdeal.main_arg0)
  yb := m' ((c.tc : Thread Cert.OutWeightReferenceIdeal.nD Cert.OutWeightReferenceIdeal.τ).loc Cert.OutWeightReferenceIdeal.main_arg1)
  og := m' ((c.tc : Thread Cert.OutWeightReferenceIdeal.nD Cert.OutWeightReferenceIdeal.τ).loc Cert.OutWeightReferenceIdeal.main_arg2)

/-- The arguments of the two programs are the same arrays. -/
theorem out_same_ins
    (m : (ℓ : Loc Cert.OutWeightIdeal.nD Cert.OutWeightIdeal.τ Cert.OutWeightIdeal.sig) → Buf (Elt Ideal) ℓ)
    (m' : (ℓ : Loc Cert.OutWeightReferenceIdeal.nD Cert.OutWeightReferenceIdeal.τ Cert.OutWeightReferenceIdeal.sig) → Buf (Elt Ideal) ℓ)
    (c : Dev Cert.OutWeightIdeal.nD)
    (h0 : m' ((c.tc : Thread Cert.OutWeightReferenceIdeal.nD Cert.OutWeightReferenceIdeal.τ).loc Cert.OutWeightReferenceIdeal.main_arg0) = m ((c.tc : Thread Cert.OutWeightIdeal.nD Cert.OutWeightIdeal.τ).loc Cert.OutWeightIdeal.main_arg0))
    (h1 : m' ((c.tc : Thread Cert.OutWeightReferenceIdeal.nD Cert.OutWeightReferenceIdeal.τ).loc Cert.OutWeightReferenceIdeal.main_arg1) = m ((c.tc : Thread Cert.OutWeightIdeal.nD Cert.OutWeightIdeal.τ).loc Cert.OutWeightIdeal.main_arg1))
    (h2 : m' ((c.tc : Thread Cert.OutWeightReferenceIdeal.nD Cert.OutWeightReferenceIdeal.τ).loc Cert.OutWeightReferenceIdeal.main_arg2) = m ((c.tc : Thread Cert.OutWeightIdeal.nD Cert.OutWeightIdeal.τ).loc Cert.OutWeightIdeal.main_arg2)) :
    outRefIns m' c = Cert.WOut.ins m c := by
  unfold outRefIns Cert.WOut.ins
  rw [h0, h1, h2]

/-- The kernel's gradient of the output projection is the reference's, on any arguments. -/
theorem out_values : Cert.algebraic_OutWeightIdeal_OutWeightReferenceIdeal (hOutWeightIdeal := Cert.OutWeightIdeal.Gen.facts)
    (hOutWeightReferenceIdeal := Cert.OutWeightReferenceIdeal.Gen.facts) := by
  intro m g m' g' hpre hargs
  refine ⟨fun c => Cert.WOut.grad (Cert.WOut.ins m c) (Cert.WOut.ct m c), ?_, ?_⟩
  · refine (θ_run _ _ _).mono (fun r h c => ?_) (Cert.OutWeightIdeal.Value.run_blocks m g)
    exact ⟨(h c).1.trans (Cert.WOut.final m c), (h c).2⟩
  · refine (θ_run _ _ _).mono (fun r h c => ?_) (Cert.OutWeightReferenceIdeal.Value.run m' g')
    obtain ⟨r0, rest⟩ := h c
    obtain ⟨h0, h1, h2, h3, h4⟩ := hargs c
    refine ⟨?_, rest⟩
    have e := Cert.WOut.ref_grad (outRefIns m' c) (m' ((c.tc : Thread Cert.OutWeightReferenceIdeal.nD Cert.OutWeightReferenceIdeal.τ).loc Cert.OutWeightReferenceIdeal.main_arg4))
    exact (Eq.trans r0 e).trans (congrArg₂ Cert.WOut.grad (out_same_ins m m' c h0 h1 h2) h4)

end Cert.Proof

end
-- ==== Proof.lean ====
module

public import proofs.«01_k».proof.Defs
public import proofs.«01_k».proof.Proof.Gen.FeedForward
public import proofs.«01_k».proof.Proof.Gen.FeedForward.Frame
public import proofs.«01_k».proof.Proof.Gen.FeedForwardIdeal
public import proofs.«01_k».proof.Proof.Gen.FeedForwardIdeal.Frame
public import proofs.«01_k».proof.Proof.Gen.FeedForwardReferenceIdeal
public import proofs.«01_k».proof.Proof.Gen.FeedForwardIdeal.Value
public import proofs.«01_k».proof.Proof.Gen.FeedForwardReferenceIdeal.Run
public import proofs.«01_k».proof.Proof.FfnFinal
public import proofs.«01_k».proof.Proof.FfnFinite
public import proofs.«01_k».proof.Proof.FfnClaim
public import proofs.«01_k».proof.Proof.WeightClaims
public import proofs.«01_k».proof.Proof.FwdClaim
public import proofs.«01_k».proof.Proof.MixClaim
public import proofs.«01_k».proof.Proof.MixWeightClaims
public import proofs.«01_k».proof.Proof.Gen.DownWeight
public import proofs.«01_k».proof.Proof.Gen.DownWeight.Frame
public import proofs.«01_k».proof.Proof.Gen.DownWeightIdeal
public import proofs.«01_k».proof.Proof.Gen.DownWeightIdeal.Frame
public import proofs.«01_k».proof.Proof.Gen.DownWeightIdeal.Value
public import proofs.«01_k».proof.Proof.Gen.DownWeightReferenceIdeal
public import proofs.«01_k».proof.Proof.Gen.DownWeightReferenceIdeal.Run
public import proofs.«01_k».proof.Proof.Gen.UpWeight
public import proofs.«01_k».proof.Proof.Gen.UpWeight.Frame
public import proofs.«01_k».proof.Proof.Gen.UpWeightIdeal
public import proofs.«01_k».proof.Proof.Gen.UpWeightIdeal.Frame
public import proofs.«01_k».proof.Proof.Gen.UpWeightIdeal.Value
public import proofs.«01_k».proof.Proof.Gen.UpWeightReferenceIdeal
public import proofs.«01_k».proof.Proof.Gen.UpWeightReferenceIdeal.Run
public import proofs.«01_k».proof.Proof.Gen.ForwardPass
public import proofs.«01_k».proof.Proof.Gen.ForwardPass.Frame
public import proofs.«01_k».proof.Proof.Gen.ForwardPassIdeal
public import proofs.«01_k».proof.Proof.Gen.ForwardPassIdeal.Frame
public import proofs.«01_k».proof.Proof.Gen.ForwardPassIdeal.Value
public import proofs.«01_k».proof.Proof.Gen.ForwardPassReferenceIdeal
public import proofs.«01_k».proof.Proof.Gen.ForwardPassReferenceIdeal.Run
public import proofs.«01_k».proof.Proof.Gen.Mixer
public import proofs.«01_k».proof.Proof.Gen.Mixer.Frame
public import proofs.«01_k».proof.Proof.Gen.MixerIdeal
public import proofs.«01_k».proof.Proof.Gen.MixerIdeal.Frame
public import proofs.«01_k».proof.Proof.Gen.MixerIdeal.Value
public import proofs.«01_k».proof.Proof.Gen.MixerReferenceIdeal
public import proofs.«01_k».proof.Proof.Gen.MixerReferenceIdeal.Run
public import proofs.«01_k».proof.Proof.Gen.InWeight
public import proofs.«01_k».proof.Proof.Gen.InWeight.Frame
public import proofs.«01_k».proof.Proof.Gen.InWeightIdeal
public import proofs.«01_k».proof.Proof.Gen.InWeightIdeal.Frame
public import proofs.«01_k».proof.Proof.Gen.InWeightIdeal.Value
public import proofs.«01_k».proof.Proof.Gen.InWeightReferenceIdeal
public import proofs.«01_k».proof.Proof.Gen.InWeightReferenceIdeal.Run
public import proofs.«01_k».proof.Proof.Gen.OutWeight
public import proofs.«01_k».proof.Proof.Gen.OutWeight.Frame
public import proofs.«01_k».proof.Proof.Gen.OutWeightIdeal
public import proofs.«01_k».proof.Proof.Gen.OutWeightIdeal.Frame
public import proofs.«01_k».proof.Proof.Gen.OutWeightIdeal.Value
public import proofs.«01_k».proof.Proof.Gen.OutWeightReferenceIdeal
public import proofs.«01_k».proof.Proof.Gen.OutWeightReferenceIdeal.Run
public import Idealize.ShloMosaic.Adequacy
public import Idealize.ShloMosaic.Init

@[expose] public section

noncomputable section

namespace Cert.Proof

open Idealize.ShloMosaic Idealize.SL.Sem

theorem claim : Cert.Claim := ⟨Cert.FeedForward.Gen.facts,
  Cert.FeedForwardIdeal.Gen.facts,
  Cert.FeedForwardReferenceIdeal.Gen.facts,
  Cert.DownWeight.Gen.facts,
  Cert.DownWeightIdeal.Gen.facts,
  Cert.DownWeightReferenceIdeal.Gen.facts,
  Cert.UpWeight.Gen.facts,
  Cert.UpWeightIdeal.Gen.facts,
  Cert.UpWeightReferenceIdeal.Gen.facts,
  Cert.ForwardPass.Gen.facts,
  Cert.ForwardPassIdeal.Gen.facts,
  Cert.ForwardPassReferenceIdeal.Gen.facts,
  Cert.Mixer.Gen.facts,
  Cert.MixerIdeal.Gen.facts,
  Cert.MixerReferenceIdeal.Gen.facts,
  Cert.InWeight.Gen.facts,
  Cert.InWeightIdeal.Gen.facts,
  Cert.InWeightReferenceIdeal.Gen.facts,
  Cert.OutWeight.Gen.facts,
  Cert.OutWeightIdeal.Gen.facts,
  Cert.OutWeightReferenceIdeal.Gen.facts,
  Cert.Ffn.pre_facts, Cert.Mix.pre_facts,
  fun m ρ _ => Cert.FeedForward.Gen.frame m ρ, fun m ρ _ => Cert.FeedForwardIdeal.Gen.frame m ρ,
  fun m ρ _ => Cert.FeedForwardIdeal.Gen.frame m ρ, plain_frame, fun m ρ _ => plain_frame m ρ trivial,
  fun m ρ _ => Cert.DownWeight.Gen.frame m ρ, fun m ρ _ => Cert.DownWeightIdeal.Gen.frame m ρ, down_plain_frame,
  fun m ρ _ => Cert.UpWeight.Gen.frame m ρ, fun m ρ _ => Cert.UpWeightIdeal.Gen.frame m ρ, up_plain_frame,
  fun m ρ _ => Cert.ForwardPass.Gen.frame m ρ, fun m ρ _ => Cert.ForwardPassIdeal.Gen.frame m ρ, forward_plain_frame,
  fun m ρ _ => Cert.Mixer.Gen.frame m ρ, fun m ρ _ => Cert.MixerIdeal.Gen.frame m ρ,
  fun m ρ _ => Cert.MixerIdeal.Gen.frame m ρ, mixer_plain_frame, fun m ρ _ => mixer_plain_frame m ρ trivial,
  fun m ρ _ => Cert.InWeight.Gen.frame m ρ, fun m ρ _ => Cert.InWeightIdeal.Gen.frame m ρ, in_plain_frame,
  fun m ρ _ => Cert.OutWeight.Gen.frame m ρ, fun m ρ _ => Cert.OutWeightIdeal.Gen.frame m ρ, out_plain_frame,
  trivial, values, trivial, down_values, trivial, up_values, trivial, forward_values, trivial, mixer_values, trivial, in_values, trivial, out_values⟩

end Cert.Proof

end
